-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_QkvPrompt (m : (ℓ : Loc Cert.QkvPrompt.nD Cert.QkvPrompt.τ Cert.QkvPrompt.sig) → Buf (Elt Bits) ℓ) : Prop :=
  True

def Pre_QkvPromptIdeal (m : (ℓ : Loc Cert.QkvPromptIdeal.nD Cert.QkvPromptIdeal.τ Cert.QkvPromptIdeal.sig) → Buf (Elt Ideal) ℓ) : Prop :=
  True

def Pre_QkvPromptRefIdeal (m : (ℓ : Loc Cert.QkvPromptRefIdeal.nD Cert.QkvPromptRefIdeal.τ Cert.QkvPromptRefIdeal.sig) → Buf (Elt Ideal) ℓ) : Prop :=
  True

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleRefIdeal (m : (ℓ : Loc Cert.QkvSampleRefIdeal.nD Cert.QkvSampleRefIdeal.τ Cert.QkvSampleRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_RkvR (m : (ℓ : Loc Cert.RkvR.nD Cert.RkvR.τ Cert.RkvR.sig) → Buf (Elt Bits) ℓ) : Prop :=
  True

def Pre_RkvRIdeal (m : (ℓ : Loc Cert.RkvRIdeal.nD Cert.RkvRIdeal.τ Cert.RkvRIdeal.sig) → Buf (Elt Ideal) ℓ) : Prop :=
  True

def Pre_RkvRRefIdeal (m : (ℓ : Loc Cert.RkvRRefIdeal.nD Cert.RkvRRefIdeal.τ Cert.RkvRRefIdeal.sig) → Buf (Elt Ideal) ℓ) : Prop :=
  True

def Pre_RkvK (m : (ℓ : Loc Cert.RkvK.nD Cert.RkvK.τ Cert.RkvK.sig) → Buf (Elt Bits) ℓ) : Prop :=
  True

def Pre_RkvKIdeal (m : (ℓ : Loc Cert.RkvKIdeal.nD Cert.RkvKIdeal.τ Cert.RkvKIdeal.sig) → Buf (Elt Ideal) ℓ) : Prop :=
  True

def Pre_RkvKRefIdeal (m : (ℓ : Loc Cert.RkvKRefIdeal.nD Cert.RkvKRefIdeal.τ Cert.RkvKRefIdeal.sig) → Buf (Elt Ideal) ℓ) : Prop :=
  True

def Pre_RkvV (m : (ℓ : Loc Cert.RkvV.nD Cert.RkvV.τ Cert.RkvV.sig) → Buf (Elt Bits) ℓ) : Prop :=
  True

def Pre_RkvVIdeal (m : (ℓ : Loc Cert.RkvVIdeal.nD Cert.RkvVIdeal.τ Cert.RkvVIdeal.sig) → Buf (Elt Ideal) ℓ) : Prop :=
  True

def Pre_RkvVRefIdeal (m : (ℓ : Loc Cert.RkvVRefIdeal.nD Cert.RkvVRefIdeal.τ Cert.RkvVRefIdeal.sig) → Buf (Elt Ideal) ℓ) : Prop :=
  True

def Pre_TimeOut (m : (ℓ : Loc Cert.TimeOut.nD Cert.TimeOut.τ Cert.TimeOut.sig) → Buf (Elt Bits) ℓ) : Prop :=
  True

def Pre_TimeOutIdeal (m : (ℓ : Loc Cert.TimeOutIdeal.nD Cert.TimeOutIdeal.τ Cert.TimeOutIdeal.sig) → Buf (Elt Ideal) ℓ) : Prop :=
  True

def Pre_TimeOutRefIdeal (m : (ℓ : Loc Cert.TimeOutRefIdeal.nD Cert.TimeOutRefIdeal.τ Cert.TimeOutRefIdeal.sig) → Buf (Elt Ideal) ℓ) : Prop :=
  True

def Pre_PeerQ0 (m : (ℓ : Loc Cert.PeerQ0.nD Cert.PeerQ0.τ Cert.PeerQ0.sig) → Buf (Elt Bits) ℓ) : Prop :=
  True

def Pre_PeerQ0Ideal (m : (ℓ : Loc Cert.PeerQ0Ideal.nD Cert.PeerQ0Ideal.τ Cert.PeerQ0Ideal.sig) → Buf (Elt Ideal) ℓ) : Prop :=
  True

def Pre_PeerQ0RefIdeal (m : (ℓ : Loc Cert.PeerQ0RefIdeal.nD Cert.PeerQ0RefIdeal.τ Cert.PeerQ0RefIdeal.sig) → Buf (Elt Ideal) ℓ) : Prop :=
  True

def Pre_PeerQ1 (m : (ℓ : Loc Cert.PeerQ1.nD Cert.PeerQ1.τ Cert.PeerQ1.sig) → Buf (Elt Bits) ℓ) : Prop :=
  True

def Pre_PeerQ1Ideal (m : (ℓ : Loc Cert.PeerQ1Ideal.nD Cert.PeerQ1Ideal.τ Cert.PeerQ1Ideal.sig) → Buf (Elt Ideal) ℓ) : Prop :=
  True

def Pre_PeerQ1RefIdeal (m : (ℓ : Loc Cert.PeerQ1RefIdeal.nD Cert.PeerQ1RefIdeal.τ Cert.PeerQ1RefIdeal.sig) → Buf (Elt Ideal) ℓ) : Prop :=
  True

def Pre_LnPrompt (m : (ℓ : Loc Cert.LnPrompt.nD Cert.LnPrompt.τ Cert.LnPrompt.sig) → Buf (Elt Bits) ℓ) : Prop :=
  True

def Pre_LnPromptIdeal (m : (ℓ : Loc Cert.LnPromptIdeal.nD Cert.LnPromptIdeal.τ Cert.LnPromptIdeal.sig) → Buf (Elt Ideal) ℓ) : Prop :=
  True

def Pre_LnPromptRefIdeal (m : (ℓ : Loc Cert.LnPromptRefIdeal.nD Cert.LnPromptRefIdeal.τ Cert.LnPromptRefIdeal.sig) → Buf (Elt Ideal) ℓ) : Prop :=
  True

def Pre_LnSample (m : (ℓ : Loc Cert.LnSample.nD Cert.LnSample.τ Cert.LnSample.sig) → Buf (Elt Bits) ℓ) : Prop :=
  True

def Pre_LnSampleIdeal (m : (ℓ : Loc Cert.LnSampleIdeal.nD Cert.LnSampleIdeal.τ Cert.LnSampleIdeal.sig) → Buf (Elt Ideal) ℓ) : Prop :=
  True

def Pre_LnSampleRefIdeal (m : (ℓ : Loc Cert.LnSampleRefIdeal.nD Cert.LnSampleRefIdeal.τ Cert.LnSampleRefIdeal.sig) → Buf (Elt Ideal) ℓ) : Prop :=
  True

def Pre_WkvSample (m : (ℓ : Loc Cert.WkvSample.nD Cert.WkvSample.τ Cert.WkvSample.sig) → Buf (Elt Bits) ℓ) : Prop :=
  True

def Pre_WkvSampleIdeal (m : (ℓ : Loc Cert.WkvSampleIdeal.nD Cert.WkvSampleIdeal.τ Cert.WkvSampleIdeal.sig) → Buf (Elt Ideal) ℓ) : Prop :=
  True

def Pre_WkvSampleRefIdeal (m : (ℓ : Loc Cert.WkvSampleRefIdeal.nD Cert.WkvSampleRefIdeal.τ Cert.WkvSampleRefIdeal.sig) → Buf (Elt Ideal) ℓ) : Prop :=
  True

def Pre_DecayIn (m : (ℓ : Loc Cert.DecayIn.nD Cert.DecayIn.τ Cert.DecayIn.sig) → Buf (Elt Bits) ℓ) : Prop :=
  True

def Pre_DecayInIdeal (m : (ℓ : Loc Cert.DecayInIdeal.nD Cert.DecayInIdeal.τ Cert.DecayInIdeal.sig) → Buf (Elt Ideal) ℓ) : Prop :=
  True

def Pre_DecayInRefIdeal (m : (ℓ : Loc Cert.DecayInRefIdeal.nD Cert.DecayInRefIdeal.τ Cert.DecayInRefIdeal.sig) → Buf (Elt Ideal) ℓ) : Prop :=
  True

def Pre_CorrIn (m : (ℓ : Loc Cert.CorrIn.nD Cert.CorrIn.τ Cert.CorrIn.sig) → Buf (Elt Bits) ℓ) : Prop :=
  True

def Pre_CorrInIdeal (m : (ℓ : Loc Cert.CorrInIdeal.nD Cert.CorrInIdeal.τ Cert.CorrInIdeal.sig) → Buf (Elt Ideal) ℓ) : Prop :=
  True

def Pre_CorrInRefIdeal (m : (ℓ : Loc Cert.CorrInRefIdeal.nD Cert.CorrInRefIdeal.τ Cert.CorrInRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_LowOut (m : (ℓ : Loc Cert.LowOut.nD Cert.LowOut.τ Cert.LowOut.sig) → Buf (Elt Bits) ℓ) : Prop :=
  True

def Pre_LowOutIdeal (m : (ℓ : Loc Cert.LowOutIdeal.nD Cert.LowOutIdeal.τ Cert.LowOutIdeal.sig) → Buf (Elt Ideal) ℓ) : Prop :=
  True

def Pre_LowOutRefIdeal (m : (ℓ : Loc Cert.LowOutRefIdeal.nD Cert.LowOutRefIdeal.τ Cert.LowOutRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_MixPrompt (m : (ℓ : Loc Cert.MixPrompt.nD Cert.MixPrompt.τ Cert.MixPrompt.sig) → Buf (Elt Bits) ℓ) : Prop :=
  True

def Pre_MixPromptIdeal (m : (ℓ : Loc Cert.MixPromptIdeal.nD Cert.MixPromptIdeal.τ Cert.MixPromptIdeal.sig) → Buf (Elt Ideal) ℓ) : Prop :=
  True

def Pre_MixPromptRefIdeal (m : (ℓ : Loc Cert.MixPromptRefIdeal.nD Cert.MixPromptRefIdeal.τ Cert.MixPromptRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_SharedSample (m : (ℓ : Loc Cert.SharedSample.nD Cert.SharedSample.τ Cert.SharedSample.sig) → Buf (Elt Bits) ℓ) : Prop :=
  True

def Pre_SharedSampleIdeal (m : (ℓ : Loc Cert.SharedSampleIdeal.nD Cert.SharedSampleIdeal.τ Cert.SharedSampleIdeal.sig) → Buf (Elt Ideal) ℓ) : Prop :=
  True

def Pre_SharedSampleIdeal_finite_shared [hPre_finite_shared : Cert.Pre_finite_shared.Facts] (m : (ℓ : Loc Cert.SharedSampleIdeal.nD Cert.SharedSampleIdeal.τ Cert.SharedSampleIdeal.sig) → Buf (Elt Ideal) ℓ) : Prop :=
  ∀ c : Dev Cert.SharedSampleIdeal.nD,
    (Cert.Pre_finite_shared.fn (F := Ideal) (m ((c.tc : Thread Cert.SharedSampleIdeal.nD Cert.SharedSampleIdeal.τ).loc Cert.SharedSampleIdeal.main_arg0)) (m ((c.tc : Thread Cert.SharedSampleIdeal.nD Cert.SharedSampleIdeal.τ).loc Cert.SharedSampleIdeal.main_arg1)) (m ((c.tc : Thread Cert.SharedSampleIdeal.nD Cert.SharedSampleIdeal.τ).loc Cert.SharedSampleIdeal.main_arg2)) (m ((c.tc : Thread Cert.SharedSampleIdeal.nD Cert.SharedSampleIdeal.τ).loc Cert.SharedSampleIdeal.main_arg3)) (m ((c.tc : Thread Cert.SharedSampleIdeal.nD Cert.SharedSampleIdeal.τ).loc Cert.SharedSampleIdeal.main_arg4))) = (fun _ => 1#1)

def Pre_SharedSampleRefIdeal (m : (ℓ : Loc Cert.SharedSampleRefIdeal.nD Cert.SharedSampleRefIdeal.τ Cert.SharedSampleRefIdeal.sig) → Buf (Elt Ideal) ℓ) : Prop :=
  True

def Pre_SharedSampleRefIdeal_finite_shared [hPre_finite_shared : Cert.Pre_finite_shared.Facts] (m : (ℓ : Loc Cert.SharedSampleRefIdeal.nD Cert.SharedSampleRefIdeal.τ Cert.SharedSampleRefIdeal.sig) → Buf (Elt Ideal) ℓ) : Prop :=
  ∀ c : Dev Cert.SharedSampleRefIdeal.nD,
    (Cert.Pre_finite_shared.fn (F := Ideal) (m ((c.tc : Thread Cert.SharedSampleRefIdeal.nD Cert.SharedSampleRefIdeal.τ).loc Cert.SharedSampleRefIdeal.main_arg0)) (m ((c.tc : Thread Cert.SharedSampleRefIdeal.nD Cert.SharedSampleRefIdeal.τ).loc Cert.SharedSampleRefIdeal.main_arg1)) (m ((c.tc : Thread Cert.SharedSampleRefIdeal.nD Cert.SharedSampleRefIdeal.τ).loc Cert.SharedSampleRefIdeal.main_arg2)) (m ((c.tc : Thread Cert.SharedSampleRefIdeal.nD Cert.SharedSampleRefIdeal.τ).loc Cert.SharedSampleRefIdeal.main_arg3)) (m ((c.tc : Thread Cert.SharedSampleRefIdeal.nD Cert.SharedSampleRefIdeal.τ).loc Cert.SharedSampleRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_QkvPrompt [hQkvPrompt : Cert.QkvPrompt.Facts] : Prop :=
  ∀ (m : (ℓ : Loc Cert.QkvPrompt.nD Cert.QkvPrompt.τ Cert.QkvPrompt.sig) → Buf (Elt Bits) ℓ) (g : Dev Cert.QkvPrompt.nD → PrngReg), Pre_QkvPrompt m →
    θ_run (Cert.QkvPrompt.defs (F := Bits)) (onTc (τ := Cert.QkvPrompt.τ) (Cert.QkvPrompt.main (F := Bits))) ⟨m, fun _ => 0, g⟩ (fun r => (∀ c : Dev Cert.QkvPrompt.nD,
      r.2.mem ((c.tc : Thread Cert.QkvPrompt.nD Cert.QkvPrompt.τ).loc Cert.QkvPrompt.main_arg0) = m ((c.tc : Thread Cert.QkvPrompt.nD Cert.QkvPrompt.τ).loc Cert.QkvPrompt.main_arg0)
      ∧ r.2.mem ((c.tc : Thread Cert.QkvPrompt.nD Cert.QkvPrompt.τ).loc Cert.QkvPrompt.main_arg1) = m ((c.tc : Thread Cert.QkvPrompt.nD Cert.QkvPrompt.τ).loc Cert.QkvPrompt.main_arg1))
      ∧ r.2.sem = fun _ => 0)

def quiescent_QkvPromptIdeal [hQkvPromptIdeal : Cert.QkvPromptIdeal.Facts] : Prop :=
  ∀ (m : (ℓ : Loc Cert.QkvPromptIdeal.nD Cert.QkvPromptIdeal.τ Cert.QkvPromptIdeal.sig) → Buf (Elt Ideal) ℓ) (g : Dev Cert.QkvPromptIdeal.nD → PrngReg), Pre_QkvPromptIdeal m →
    θ_run (Cert.QkvPromptIdeal.defs (F := Ideal)) (onTc (τ := Cert.QkvPromptIdeal.τ) (Cert.QkvPromptIdeal.main (F := Ideal))) ⟨m, fun _ => 0, g⟩ (fun r => (∀ c : Dev Cert.QkvPromptIdeal.nD,
      r.2.mem ((c.tc : Thread Cert.QkvPromptIdeal.nD Cert.QkvPromptIdeal.τ).loc Cert.QkvPromptIdeal.main_arg0) = m ((c.tc : Thread Cert.QkvPromptIdeal.nD Cert.QkvPromptIdeal.τ).loc Cert.QkvPromptIdeal.main_arg0)
      ∧ r.2.mem ((c.tc : Thread Cert.QkvPromptIdeal.nD Cert.QkvPromptIdeal.τ).loc Cert.QkvPromptIdeal.main_arg1) = m ((c.tc : Thread Cert.QkvPromptIdeal.nD Cert.QkvPromptIdeal.τ).loc Cert.QkvPromptIdeal.main_arg1))
      ∧ r.2.sem = fun _ => 0)

def quiescent_QkvPromptRefIdeal [hQkvPromptRefIdeal : Cert.QkvPromptRefIdeal.Facts] : Prop :=
  ∀ (m : (ℓ : Loc Cert.QkvPromptRefIdeal.nD Cert.QkvPromptRefIdeal.τ Cert.QkvPromptRefIdeal.sig) → Buf (Elt Ideal) ℓ) (g : Dev Cert.QkvPromptRefIdeal.nD → PrngReg), Pre_QkvPromptRefIdeal m →
    θ_run (Cert.QkvPromptRefIdeal.defs (F := Ideal)) (onTc (τ := Cert.QkvPromptRefIdeal.τ) (Cert.QkvPromptRefIdeal.main (F := Ideal))) ⟨m, fun _ => 0, g⟩ (fun r => (∀ c : Dev Cert.QkvPromptRefIdeal.nD,
      r.2.mem ((c.tc : Thread Cert.QkvPromptRefIdeal.nD Cert.QkvPromptRefIdeal.τ).loc Cert.QkvPromptRefIdeal.main_arg0) = m ((c.tc : Thread Cert.QkvPromptRefIdeal.nD Cert.QkvPromptRefIdeal.τ).loc Cert.QkvPromptRefIdeal.main_arg0)
      ∧ r.2.mem ((c.tc : Thread Cert.QkvPromptRefIdeal.nD Cert.QkvPromptRefIdeal.τ).loc Cert.QkvPromptRefIdeal.main_arg1) = m ((c.tc : Thread Cert.QkvPromptRefIdeal.nD Cert.QkvPromptRefIdeal.τ).loc Cert.QkvPromptRefIdeal.main_arg1))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2)
      ∧ r.2.mem ((c.tc : Thread Cert.QkvSample.nD Cert.QkvSample.τ).loc Cert.QkvSample.main_arg3) = m ((c.tc : Thread Cert.QkvSample.nD Cert.QkvSample.τ).loc Cert.QkvSample.main_arg3))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
      ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3))
      ∧ r.2.sem = fun _ => 0)

def quiescent_QkvSampleRefIdeal [hQkvSampleRefIdeal : Cert.QkvSampleRefIdeal.Facts] : Prop :=
  ∀ (m : (ℓ : Loc Cert.QkvSampleRefIdeal.nD Cert.QkvSampleRefIdeal.τ Cert.QkvSampleRefIdeal.sig) → Buf (Elt Ideal) ℓ) (g : Dev Cert.QkvSampleRefIdeal.nD → PrngReg), Pre_QkvSampleRefIdeal m →
    θ_run (Cert.QkvSampleRefIdeal.defs (F := Ideal)) (onTc (τ := Cert.QkvSampleRefIdeal.τ) (Cert.QkvSampleRefIdeal.main (F := Ideal))) ⟨m, fun _ => 0, g⟩ (fun r => (∀ c : Dev Cert.QkvSampleRefIdeal.nD,
      r.2.mem ((c.tc : Thread Cert.QkvSampleRefIdeal.nD Cert.QkvSampleRefIdeal.τ).loc Cert.QkvSampleRefIdeal.main_arg0) = m ((c.tc : Thread Cert.QkvSampleRefIdeal.nD Cert.QkvSampleRefIdeal.τ).loc Cert.QkvSampleRefIdeal.main_arg0)
      ∧ r.2.mem ((c.tc : Thread Cert.QkvSampleRefIdeal.nD Cert.QkvSampleRefIdeal.τ).loc Cert.QkvSampleRefIdeal.main_arg1) = m ((c.tc : Thread Cert.QkvSampleRefIdeal.nD Cert.QkvSampleRefIdeal.τ).loc Cert.QkvSampleRefIdeal.main_arg1)
      ∧ r.2.mem ((c.tc : Thread Cert.QkvSampleRefIdeal.nD Cert.QkvSampleRefIdeal.τ).loc Cert.QkvSampleRefIdeal.main_arg2) = m ((c.tc : Thread Cert.QkvSampleRefIdeal.nD Cert.QkvSampleRefIdeal.τ).loc Cert.QkvSampleRefIdeal.main_arg2)
      ∧ r.2.mem ((c.tc : Thread Cert.QkvSampleRefIdeal.nD Cert.QkvSampleRefIdeal.τ).loc Cert.QkvSampleRefIdeal.main_arg3) = m ((c.tc : Thread Cert.QkvSampleRefIdeal.nD Cert.QkvSampleRefIdeal.τ).loc Cert.QkvSampleRefIdeal.main_arg3))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1))
      ∧ r.2.sem = fun _ => 0)

def quiescent_RkvR [hRkvR : Cert.RkvR.Facts] : Prop :=
  ∀ (m : (ℓ : Loc Cert.RkvR.nD Cert.RkvR.τ Cert.RkvR.sig) → Buf (Elt Bits) ℓ) (g : Dev Cert.RkvR.nD → PrngReg), Pre_RkvR m →
    θ_run (Cert.RkvR.defs (F := Bits)) (onTc (τ := Cert.RkvR.τ) (Cert.RkvR.main (F := Bits))) ⟨m, fun _ => 0, g⟩ (fun r => (∀ c : Dev Cert.RkvR.nD,
      r.2.mem ((c.tc : Thread Cert.RkvR.nD Cert.RkvR.τ).loc Cert.RkvR.main_arg0) = m ((c.tc : Thread Cert.RkvR.nD Cert.RkvR.τ).loc Cert.RkvR.main_arg0)
      ∧ r.2.mem ((c.tc : Thread Cert.RkvR.nD Cert.RkvR.τ).loc Cert.RkvR.main_arg1) = m ((c.tc : Thread Cert.RkvR.nD Cert.RkvR.τ).loc Cert.RkvR.main_arg1))
      ∧ r.2.sem = fun _ => 0)

def quiescent_RkvRIdeal [hRkvRIdeal : Cert.RkvRIdeal.Facts] : Prop :=
  ∀ (m : (ℓ : Loc Cert.RkvRIdeal.nD Cert.RkvRIdeal.τ Cert.RkvRIdeal.sig) → Buf (Elt Ideal) ℓ) (g : Dev Cert.RkvRIdeal.nD → PrngReg), Pre_RkvRIdeal m →
    θ_run (Cert.RkvRIdeal.defs (F := Ideal)) (onTc (τ := Cert.RkvRIdeal.τ) (Cert.RkvRIdeal.main (F := Ideal))) ⟨m, fun _ => 0, g⟩ (fun r => (∀ c : Dev Cert.RkvRIdeal.nD,
      r.2.mem ((c.tc : Thread Cert.RkvRIdeal.nD Cert.RkvRIdeal.τ).loc Cert.RkvRIdeal.main_arg0) = m ((c.tc : Thread Cert.RkvRIdeal.nD Cert.RkvRIdeal.τ).loc Cert.RkvRIdeal.main_arg0)
      ∧ r.2.mem ((c.tc : Thread Cert.RkvRIdeal.nD Cert.RkvRIdeal.τ).loc Cert.RkvRIdeal.main_arg1) = m ((c.tc : Thread Cert.RkvRIdeal.nD Cert.RkvRIdeal.τ).loc Cert.RkvRIdeal.main_arg1))
      ∧ r.2.sem = fun _ => 0)

def quiescent_RkvRRefIdeal [hRkvRRefIdeal : Cert.RkvRRefIdeal.Facts] : Prop :=
  ∀ (m : (ℓ : Loc Cert.RkvRRefIdeal.nD Cert.RkvRRefIdeal.τ Cert.RkvRRefIdeal.sig) → Buf (Elt Ideal) ℓ) (g : Dev Cert.RkvRRefIdeal.nD → PrngReg), Pre_RkvRRefIdeal m →
    θ_run (Cert.RkvRRefIdeal.defs (F := Ideal)) (onTc (τ := Cert.RkvRRefIdeal.τ) (Cert.RkvRRefIdeal.main (F := Ideal))) ⟨m, fun _ => 0, g⟩ (fun r => (∀ c : Dev Cert.RkvRRefIdeal.nD,
      r.2.mem ((c.tc : Thread Cert.RkvRRefIdeal.nD Cert.RkvRRefIdeal.τ).loc Cert.RkvRRefIdeal.main_arg0) = m ((c.tc : Thread Cert.RkvRRefIdeal.nD Cert.RkvRRefIdeal.τ).loc Cert.RkvRRefIdeal.main_arg0)
      ∧ r.2.mem ((c.tc : Thread Cert.RkvRRefIdeal.nD Cert.RkvRRefIdeal.τ).loc Cert.RkvRRefIdeal.main_arg1) = m ((c.tc : Thread Cert.RkvRRefIdeal.nD Cert.RkvRRefIdeal.τ).loc Cert.RkvRRefIdeal.main_arg1))
      ∧ r.2.sem = fun _ => 0)

def quiescent_RkvK [hRkvK : Cert.RkvK.Facts] : Prop :=
  ∀ (m : (ℓ : Loc Cert.RkvK.nD Cert.RkvK.τ Cert.RkvK.sig) → Buf (Elt Bits) ℓ) (g : Dev Cert.RkvK.nD → PrngReg), Pre_RkvK m →
    θ_run (Cert.RkvK.defs (F := Bits)) (onTc (τ := Cert.RkvK.τ) (Cert.RkvK.main (F := Bits))) ⟨m, fun _ => 0, g⟩ (fun r => (∀ c : Dev Cert.RkvK.nD,
      r.2.mem ((c.tc : Thread Cert.RkvK.nD Cert.RkvK.τ).loc Cert.RkvK.main_arg0) = m ((c.tc : Thread Cert.RkvK.nD Cert.RkvK.τ).loc Cert.RkvK.main_arg0)
      ∧ r.2.mem ((c.tc : Thread Cert.RkvK.nD Cert.RkvK.τ).loc Cert.RkvK.main_arg1) = m ((c.tc : Thread Cert.RkvK.nD Cert.RkvK.τ).loc Cert.RkvK.main_arg1))
      ∧ r.2.sem = fun _ => 0)

def quiescent_RkvKIdeal [hRkvKIdeal : Cert.RkvKIdeal.Facts] : Prop :=
  ∀ (m : (ℓ : Loc Cert.RkvKIdeal.nD Cert.RkvKIdeal.τ Cert.RkvKIdeal.sig) → Buf (Elt Ideal) ℓ) (g : Dev Cert.RkvKIdeal.nD → PrngReg), Pre_RkvKIdeal m →
    θ_run (Cert.RkvKIdeal.defs (F := Ideal)) (onTc (τ := Cert.RkvKIdeal.τ) (Cert.RkvKIdeal.main (F := Ideal))) ⟨m, fun _ => 0, g⟩ (fun r => (∀ c : Dev Cert.RkvKIdeal.nD,
      r.2.mem ((c.tc : Thread Cert.RkvKIdeal.nD Cert.RkvKIdeal.τ).loc Cert.RkvKIdeal.main_arg0) = m ((c.tc : Thread Cert.RkvKIdeal.nD Cert.RkvKIdeal.τ).loc Cert.RkvKIdeal.main_arg0)
      ∧ r.2.mem ((c.tc : Thread Cert.RkvKIdeal.nD Cert.RkvKIdeal.τ).loc Cert.RkvKIdeal.main_arg1) = m ((c.tc : Thread Cert.RkvKIdeal.nD Cert.RkvKIdeal.τ).loc Cert.RkvKIdeal.main_arg1))
      ∧ r.2.sem = fun _ => 0)

def quiescent_RkvKRefIdeal [hRkvKRefIdeal : Cert.RkvKRefIdeal.Facts] : Prop :=
  ∀ (m : (ℓ : Loc Cert.RkvKRefIdeal.nD Cert.RkvKRefIdeal.τ Cert.RkvKRefIdeal.sig) → Buf (Elt Ideal) ℓ) (g : Dev Cert.RkvKRefIdeal.nD → PrngReg), Pre_RkvKRefIdeal m →
    θ_run (Cert.RkvKRefIdeal.defs (F := Ideal)) (onTc (τ := Cert.RkvKRefIdeal.τ) (Cert.RkvKRefIdeal.main (F := Ideal))) ⟨m, fun _ => 0, g⟩ (fun r => (∀ c : Dev Cert.RkvKRefIdeal.nD,
      r.2.mem ((c.tc : Thread Cert.RkvKRefIdeal.nD Cert.RkvKRefIdeal.τ).loc Cert.RkvKRefIdeal.main_arg0) = m ((c.tc : Thread Cert.RkvKRefIdeal.nD Cert.RkvKRefIdeal.τ).loc Cert.RkvKRefIdeal.main_arg0)
      ∧ r.2.mem ((c.tc : Thread Cert.RkvKRefIdeal.nD Cert.RkvKRefIdeal.τ).loc Cert.RkvKRefIdeal.main_arg1) = m ((c.tc : Thread Cert.RkvKRefIdeal.nD Cert.RkvKRefIdeal.τ).loc Cert.RkvKRefIdeal.main_arg1))
      ∧ r.2.sem = fun _ => 0)

def quiescent_RkvV [hRkvV : Cert.RkvV.Facts] : Prop :=
  ∀ (m : (ℓ : Loc Cert.RkvV.nD Cert.RkvV.τ Cert.RkvV.sig) → Buf (Elt Bits) ℓ) (g : Dev Cert.RkvV.nD → PrngReg), Pre_RkvV m →
    θ_run (Cert.RkvV.defs (F := Bits)) (onTc (τ := Cert.RkvV.τ) (Cert.RkvV.main (F := Bits))) ⟨m, fun _ => 0, g⟩ (fun r => (∀ c : Dev Cert.RkvV.nD,
      r.2.mem ((c.tc : Thread Cert.RkvV.nD Cert.RkvV.τ).loc Cert.RkvV.main_arg0) = m ((c.tc : Thread Cert.RkvV.nD Cert.RkvV.τ).loc Cert.RkvV.main_arg0)
      ∧ r.2.mem ((c.tc : Thread Cert.RkvV.nD Cert.RkvV.τ).loc Cert.RkvV.main_arg1) = m ((c.tc : Thread Cert.RkvV.nD Cert.RkvV.τ).loc Cert.RkvV.main_arg1))
      ∧ r.2.sem = fun _ => 0)

def quiescent_RkvVIdeal [hRkvVIdeal : Cert.RkvVIdeal.Facts] : Prop :=
  ∀ (m : (ℓ : Loc Cert.RkvVIdeal.nD Cert.RkvVIdeal.τ Cert.RkvVIdeal.sig) → Buf (Elt Ideal) ℓ) (g : Dev Cert.RkvVIdeal.nD → PrngReg), Pre_RkvVIdeal m →
    θ_run (Cert.RkvVIdeal.defs (F := Ideal)) (onTc (τ := Cert.RkvVIdeal.τ) (Cert.RkvVIdeal.main (F := Ideal))) ⟨m, fun _ => 0, g⟩ (fun r => (∀ c : Dev Cert.RkvVIdeal.nD,
      r.2.mem ((c.tc : Thread Cert.RkvVIdeal.nD Cert.RkvVIdeal.τ).loc Cert.RkvVIdeal.main_arg0) = m ((c.tc : Thread Cert.RkvVIdeal.nD Cert.RkvVIdeal.τ).loc Cert.RkvVIdeal.main_arg0)
      ∧ r.2.mem ((c.tc : Thread Cert.RkvVIdeal.nD Cert.RkvVIdeal.τ).loc Cert.RkvVIdeal.main_arg1) = m ((c.tc : Thread Cert.RkvVIdeal.nD Cert.RkvVIdeal.τ).loc Cert.RkvVIdeal.main_arg1))
      ∧ r.2.sem = fun _ => 0)

def quiescent_RkvVRefIdeal [hRkvVRefIdeal : Cert.RkvVRefIdeal.Facts] : Prop :=
  ∀ (m : (ℓ : Loc Cert.RkvVRefIdeal.nD Cert.RkvVRefIdeal.τ Cert.RkvVRefIdeal.sig) → Buf (Elt Ideal) ℓ) (g : Dev Cert.RkvVRefIdeal.nD → PrngReg), Pre_RkvVRefIdeal m →
    θ_run (Cert.RkvVRefIdeal.defs (F := Ideal)) (onTc (τ := Cert.RkvVRefIdeal.τ) (Cert.RkvVRefIdeal.main (F := Ideal))) ⟨m, fun _ => 0, g⟩ (fun r => (∀ c : Dev Cert.RkvVRefIdeal.nD,
      r.2.mem ((c.tc : Thread Cert.RkvVRefIdeal.nD Cert.RkvVRefIdeal.τ).loc Cert.RkvVRefIdeal.main_arg0) = m ((c.tc : Thread Cert.RkvVRefIdeal.nD Cert.RkvVRefIdeal.τ).loc Cert.RkvVRefIdeal.main_arg0)
      ∧ r.2.mem ((c.tc : Thread Cert.RkvVRefIdeal.nD Cert.RkvVRefIdeal.τ).loc Cert.RkvVRefIdeal.main_arg1) = m ((c.tc : Thread Cert.RkvVRefIdeal.nD Cert.RkvVRefIdeal.τ).loc Cert.RkvVRefIdeal.main_arg1))
      ∧ r.2.sem = fun _ => 0)

def quiescent_TimeOut [hTimeOut : Cert.TimeOut.Facts] : Prop :=
  ∀ (m : (ℓ : Loc Cert.TimeOut.nD Cert.TimeOut.τ Cert.TimeOut.sig) → Buf (Elt Bits) ℓ) (g : Dev Cert.TimeOut.nD → PrngReg), Pre_TimeOut m →
    θ_run (Cert.TimeOut.defs (F := Bits)) (onTc (τ := Cert.TimeOut.τ) (Cert.TimeOut.main (F := Bits))) ⟨m, fun _ => 0, g⟩ (fun r => (∀ c : Dev Cert.TimeOut.nD,
      r.2.mem ((c.tc : Thread Cert.TimeOut.nD Cert.TimeOut.τ).loc Cert.TimeOut.main_arg0) = m ((c.tc : Thread Cert.TimeOut.nD Cert.TimeOut.τ).loc Cert.TimeOut.main_arg0)
      ∧ r.2.mem ((c.tc : Thread Cert.TimeOut.nD Cert.TimeOut.τ).loc Cert.TimeOut.main_arg1) = m ((c.tc : Thread Cert.TimeOut.nD Cert.TimeOut.τ).loc Cert.TimeOut.main_arg1))
      ∧ r.2.sem = fun _ => 0)

def quiescent_TimeOutIdeal [hTimeOutIdeal : Cert.TimeOutIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg), Pre_TimeOutIdeal m →
    θ_run (Cert.TimeOutIdeal.defs (F := Ideal)) (onTc (τ := Cert.TimeOutIdeal.τ) (Cert.TimeOutIdeal.main (F := Ideal))) ⟨m, fun _ => 0, g⟩ (fun r => (∀ c : Dev Cert.TimeOutIdeal.nD,
      r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
      ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1))
      ∧ r.2.sem = fun _ => 0)

def quiescent_TimeOutRefIdeal [hTimeOutRefIdeal : Cert.TimeOutRefIdeal.Facts] : Prop :=
  ∀ (m : (ℓ : Loc Cert.TimeOutRefIdeal.nD Cert.TimeOutRefIdeal.τ Cert.TimeOutRefIdeal.sig) → Buf (Elt Ideal) ℓ) (g : Dev Cert.TimeOutRefIdeal.nD → PrngReg), Pre_TimeOutRefIdeal m →
    θ_run (Cert.TimeOutRefIdeal.defs (F := Ideal)) (onTc (τ := Cert.TimeOutRefIdeal.τ) (Cert.TimeOutRefIdeal.main (F := Ideal))) ⟨m, fun _ => 0, g⟩ (fun r => (∀ c : Dev Cert.TimeOutRefIdeal.nD,
      r.2.mem ((c.tc : Thread Cert.TimeOutRefIdeal.nD Cert.TimeOutRefIdeal.τ).loc Cert.TimeOutRefIdeal.main_arg0) = m ((c.tc : Thread Cert.TimeOutRefIdeal.nD Cert.TimeOutRefIdeal.τ).loc Cert.TimeOutRefIdeal.main_arg0)
      ∧ r.2.mem ((c.tc : Thread Cert.TimeOutRefIdeal.nD Cert.TimeOutRefIdeal.τ).loc Cert.TimeOutRefIdeal.main_arg1) = m ((c.tc : Thread Cert.TimeOutRefIdeal.nD Cert.TimeOutRefIdeal.τ).loc Cert.TimeOutRefIdeal.main_arg1))
      ∧ r.2.sem = fun _ => 0)

def quiescent_PeerQ0 [hPeerQ0 : Cert.PeerQ0.Facts] : Prop :=
  ∀ (m : (ℓ : Loc Cert.PeerQ0.nD Cert.PeerQ0.τ Cert.PeerQ0.sig) → Buf (Elt Bits) ℓ) (g : Dev Cert.PeerQ0.nD → PrngReg), Pre_PeerQ0 m →
    θ_run (Cert.PeerQ0.defs (F := Bits)) (onTc (τ := Cert.PeerQ0.τ) (Cert.PeerQ0.main (F := Bits))) ⟨m, fun _ => 0, g⟩ (fun r => (∀ c : Dev Cert.PeerQ0.nD,
      r.2.mem ((c.tc : Thread Cert.PeerQ0.nD Cert.PeerQ0.τ).loc Cert.PeerQ0.main_arg0) = m ((c.tc : Thread Cert.PeerQ0.nD Cert.PeerQ0.τ).loc Cert.PeerQ0.main_arg0)
      ∧ r.2.mem ((c.tc : Thread Cert.PeerQ0.nD Cert.PeerQ0.τ).loc Cert.PeerQ0.main_arg1) = m ((c.tc : Thread Cert.PeerQ0.nD Cert.PeerQ0.τ).loc Cert.PeerQ0.main_arg1))
      ∧ r.2.sem = fun _ => 0)

def quiescent_PeerQ0Ideal [hPeerQ0Ideal : Cert.PeerQ0Ideal.Facts] : Prop :=
  ∀ (m : (ℓ : Loc Cert.PeerQ0Ideal.nD Cert.PeerQ0Ideal.τ Cert.PeerQ0Ideal.sig) → Buf (Elt Ideal) ℓ) (g : Dev Cert.PeerQ0Ideal.nD → PrngReg), Pre_PeerQ0Ideal m →
    θ_run (Cert.PeerQ0Ideal.defs (F := Ideal)) (onTc (τ := Cert.PeerQ0Ideal.τ) (Cert.PeerQ0Ideal.main (F := Ideal))) ⟨m, fun _ => 0, g⟩ (fun r => (∀ c : Dev Cert.PeerQ0Ideal.nD,
      r.2.mem ((c.tc : Thread Cert.PeerQ0Ideal.nD Cert.PeerQ0Ideal.τ).loc Cert.PeerQ0Ideal.main_arg0) = m ((c.tc : Thread Cert.PeerQ0Ideal.nD Cert.PeerQ0Ideal.τ).loc Cert.PeerQ0Ideal.main_arg0)
      ∧ r.2.mem ((c.tc : Thread Cert.PeerQ0Ideal.nD Cert.PeerQ0Ideal.τ).loc Cert.PeerQ0Ideal.main_arg1) = m ((c.tc : Thread Cert.PeerQ0Ideal.nD Cert.PeerQ0Ideal.τ).loc Cert.PeerQ0Ideal.main_arg1))
      ∧ r.2.sem = fun _ => 0)

def quiescent_PeerQ0RefIdeal [hPeerQ0RefIdeal : Cert.PeerQ0RefIdeal.Facts] : Prop :=
  ∀ (m : (ℓ : Loc Cert.PeerQ0RefIdeal.nD Cert.PeerQ0RefIdeal.τ Cert.PeerQ0RefIdeal.sig) → Buf (Elt Ideal) ℓ) (g : Dev Cert.PeerQ0RefIdeal.nD → PrngReg), Pre_PeerQ0RefIdeal m →
    θ_run (Cert.PeerQ0RefIdeal.defs (F := Ideal)) (onTc (τ := Cert.PeerQ0RefIdeal.τ) (Cert.PeerQ0RefIdeal.main (F := Ideal))) ⟨m, fun _ => 0, g⟩ (fun r => (∀ c : Dev Cert.PeerQ0RefIdeal.nD,
      r.2.mem ((c.tc : Thread Cert.PeerQ0RefIdeal.nD Cert.PeerQ0RefIdeal.τ).loc Cert.PeerQ0RefIdeal.main_arg0) = m ((c.tc : Thread Cert.PeerQ0RefIdeal.nD Cert.PeerQ0RefIdeal.τ).loc Cert.PeerQ0RefIdeal.main_arg0)
      ∧ r.2.mem ((c.tc : Thread Cert.PeerQ0RefIdeal.nD Cert.PeerQ0RefIdeal.τ).loc Cert.PeerQ0RefIdeal.main_arg1) = m ((c.tc : Thread Cert.PeerQ0RefIdeal.nD Cert.PeerQ0RefIdeal.τ).loc Cert.PeerQ0RefIdeal.main_arg1))
      ∧ r.2.sem = fun _ => 0)

def quiescent_PeerQ1 [hPeerQ1 : Cert.PeerQ1.Facts] : Prop :=
  ∀ (m : (ℓ : Loc Cert.PeerQ1.nD Cert.PeerQ1.τ Cert.PeerQ1.sig) → Buf (Elt Bits) ℓ) (g : Dev Cert.PeerQ1.nD → PrngReg), Pre_PeerQ1 m →
    θ_run (Cert.PeerQ1.defs (F := Bits)) (onTc (τ := Cert.PeerQ1.τ) (Cert.PeerQ1.main (F := Bits))) ⟨m, fun _ => 0, g⟩ (fun r => (∀ c : Dev Cert.PeerQ1.nD,
      r.2.mem ((c.tc : Thread Cert.PeerQ1.nD Cert.PeerQ1.τ).loc Cert.PeerQ1.main_arg0) = m ((c.tc : Thread Cert.PeerQ1.nD Cert.PeerQ1.τ).loc Cert.PeerQ1.main_arg0)
      ∧ r.2.mem ((c.tc : Thread Cert.PeerQ1.nD Cert.PeerQ1.τ).loc Cert.PeerQ1.main_arg1) = m ((c.tc : Thread Cert.PeerQ1.nD Cert.PeerQ1.τ).loc Cert.PeerQ1.main_arg1))
      ∧ r.2.sem = fun _ => 0)

def quiescent_PeerQ1Ideal [hPeerQ1Ideal : Cert.PeerQ1Ideal.Facts] : Prop :=
  ∀ (m : (ℓ : Loc Cert.PeerQ1Ideal.nD Cert.PeerQ1Ideal.τ Cert.PeerQ1Ideal.sig) → Buf (Elt Ideal) ℓ) (g : Dev Cert.PeerQ1Ideal.nD → PrngReg), Pre_PeerQ1Ideal m →
    θ_run (Cert.PeerQ1Ideal.defs (F := Ideal)) (onTc (τ := Cert.PeerQ1Ideal.τ) (Cert.PeerQ1Ideal.main (F := Ideal))) ⟨m, fun _ => 0, g⟩ (fun r => (∀ c : Dev Cert.PeerQ1Ideal.nD,
      r.2.mem ((c.tc : Thread Cert.PeerQ1Ideal.nD Cert.PeerQ1Ideal.τ).loc Cert.PeerQ1Ideal.main_arg0) = m ((c.tc : Thread Cert.PeerQ1Ideal.nD Cert.PeerQ1Ideal.τ).loc Cert.PeerQ1Ideal.main_arg0)
      ∧ r.2.mem ((c.tc : Thread Cert.PeerQ1Ideal.nD Cert.PeerQ1Ideal.τ).loc Cert.PeerQ1Ideal.main_arg1) = m ((c.tc : Thread Cert.PeerQ1Ideal.nD Cert.PeerQ1Ideal.τ).loc Cert.PeerQ1Ideal.main_arg1))
      ∧ r.2.sem = fun _ => 0)

def quiescent_PeerQ1RefIdeal [hPeerQ1RefIdeal : Cert.PeerQ1RefIdeal.Facts] : Prop :=
  ∀ (m : (ℓ : Loc Cert.PeerQ1RefIdeal.nD Cert.PeerQ1RefIdeal.τ Cert.PeerQ1RefIdeal.sig) → Buf (Elt Ideal) ℓ) (g : Dev Cert.PeerQ1RefIdeal.nD → PrngReg), Pre_PeerQ1RefIdeal m →
    θ_run (Cert.PeerQ1RefIdeal.defs (F := Ideal)) (onTc (τ := Cert.PeerQ1RefIdeal.τ) (Cert.PeerQ1RefIdeal.main (F := Ideal))) ⟨m, fun _ => 0, g⟩ (fun r => (∀ c : Dev Cert.PeerQ1RefIdeal.nD,
      r.2.mem ((c.tc : Thread Cert.PeerQ1RefIdeal.nD Cert.PeerQ1RefIdeal.τ).loc Cert.PeerQ1RefIdeal.main_arg0) = m ((c.tc : Thread Cert.PeerQ1RefIdeal.nD Cert.PeerQ1RefIdeal.τ).loc Cert.PeerQ1RefIdeal.main_arg0)
      ∧ r.2.mem ((c.tc : Thread Cert.PeerQ1RefIdeal.nD Cert.PeerQ1RefIdeal.τ).loc Cert.PeerQ1RefIdeal.main_arg1) = m ((c.tc : Thread Cert.PeerQ1RefIdeal.nD Cert.PeerQ1RefIdeal.τ).loc Cert.PeerQ1RefIdeal.main_arg1))
      ∧ r.2.sem = fun _ => 0)

def quiescent_LnPrompt [hLnPrompt : Cert.LnPrompt.Facts] : Prop :=
  ∀ (m : (ℓ : Loc Cert.LnPrompt.nD Cert.LnPrompt.τ Cert.LnPrompt.sig) → Buf (Elt Bits) ℓ) (g : Dev Cert.LnPrompt.nD → PrngReg), Pre_LnPrompt m →
    θ_run (Cert.LnPrompt.defs (F := Bits)) (onTc (τ := Cert.LnPrompt.τ) (Cert.LnPrompt.main (F := Bits))) ⟨m, fun _ => 0, g⟩ (fun r => (∀ c : Dev Cert.LnPrompt.nD,
      r.2.mem ((c.tc : Thread Cert.LnPrompt.nD Cert.LnPrompt.τ).loc Cert.LnPrompt.main_arg0) = m ((c.tc : Thread Cert.LnPrompt.nD Cert.LnPrompt.τ).loc Cert.LnPrompt.main_arg0)
      ∧ r.2.mem ((c.tc : Thread Cert.LnPrompt.nD Cert.LnPrompt.τ).loc Cert.LnPrompt.main_arg1) = m ((c.tc : Thread Cert.LnPrompt.nD Cert.LnPrompt.τ).loc Cert.LnPrompt.main_arg1)
      ∧ r.2.mem ((c.tc : Thread Cert.LnPrompt.nD Cert.LnPrompt.τ).loc Cert.LnPrompt.main_arg2) = m ((c.tc : Thread Cert.LnPrompt.nD Cert.LnPrompt.τ).loc Cert.LnPrompt.main_arg2)
      ∧ r.2.mem ((c.tc : Thread Cert.LnPrompt.nD Cert.LnPrompt.τ).loc Cert.LnPrompt.main_arg3) = m ((c.tc : Thread Cert.LnPrompt.nD Cert.LnPrompt.τ).loc Cert.LnPrompt.main_arg3))
      ∧ r.2.sem = fun _ => 0)

def quiescent_LnPromptIdeal [hLnPromptIdeal : Cert.LnPromptIdeal.Facts] : Prop :=
  ∀ (m : (ℓ : Loc Cert.LnPromptIdeal.nD Cert.LnPromptIdeal.τ Cert.LnPromptIdeal.sig) → Buf (Elt Ideal) ℓ) (g : Dev Cert.LnPromptIdeal.nD → PrngReg), Pre_LnPromptIdeal m →
    θ_run (Cert.LnPromptIdeal.defs (F := Ideal)) (onTc (τ := Cert.LnPromptIdeal.τ) (Cert.LnPromptIdeal.main (F := Ideal))) ⟨m, fun _ => 0, g⟩ (fun r => (∀ c : Dev Cert.LnPromptIdeal.nD,
      r.2.mem ((c.tc : Thread Cert.LnPromptIdeal.nD Cert.LnPromptIdeal.τ).loc Cert.LnPromptIdeal.main_arg0) = m ((c.tc : Thread Cert.LnPromptIdeal.nD Cert.LnPromptIdeal.τ).loc Cert.LnPromptIdeal.main_arg0)
      ∧ r.2.mem ((c.tc : Thread Cert.LnPromptIdeal.nD Cert.LnPromptIdeal.τ).loc Cert.LnPromptIdeal.main_arg1) = m ((c.tc : Thread Cert.LnPromptIdeal.nD Cert.LnPromptIdeal.τ).loc Cert.LnPromptIdeal.main_arg1)
      ∧ r.2.mem ((c.tc : Thread Cert.LnPromptIdeal.nD Cert.LnPromptIdeal.τ).loc Cert.LnPromptIdeal.main_arg2) = m ((c.tc : Thread Cert.LnPromptIdeal.nD Cert.LnPromptIdeal.τ).loc Cert.LnPromptIdeal.main_arg2)
      ∧ r.2.mem ((c.tc : Thread Cert.LnPromptIdeal.nD Cert.LnPromptIdeal.τ).loc Cert.LnPromptIdeal.main_arg3) = m ((c.tc : Thread Cert.LnPromptIdeal.nD Cert.LnPromptIdeal.τ).loc Cert.LnPromptIdeal.main_arg3))
      ∧ r.2.sem = fun _ => 0)

def quiescent_LnPromptRefIdeal [hLnPromptRefIdeal : Cert.LnPromptRefIdeal.Facts] : Prop :=
  ∀ (m : (ℓ : Loc Cert.LnPromptRefIdeal.nD Cert.LnPromptRefIdeal.τ Cert.LnPromptRefIdeal.sig) → Buf (Elt Ideal) ℓ) (g : Dev Cert.LnPromptRefIdeal.nD → PrngReg), Pre_LnPromptRefIdeal m →
    θ_run (Cert.LnPromptRefIdeal.defs (F := Ideal)) (onTc (τ := Cert.LnPromptRefIdeal.τ) (Cert.LnPromptRefIdeal.main (F := Ideal))) ⟨m, fun _ => 0, g⟩ (fun r => (∀ c : Dev Cert.LnPromptRefIdeal.nD,
      r.2.mem ((c.tc : Thread Cert.LnPromptRefIdeal.nD Cert.LnPromptRefIdeal.τ).loc Cert.LnPromptRefIdeal.main_arg0) = m ((c.tc : Thread Cert.LnPromptRefIdeal.nD Cert.LnPromptRefIdeal.τ).loc Cert.LnPromptRefIdeal.main_arg0)
      ∧ r.2.mem ((c.tc : Thread Cert.LnPromptRefIdeal.nD Cert.LnPromptRefIdeal.τ).loc Cert.LnPromptRefIdeal.main_arg1) = m ((c.tc : Thread Cert.LnPromptRefIdeal.nD Cert.LnPromptRefIdeal.τ).loc Cert.LnPromptRefIdeal.main_arg1)
      ∧ r.2.mem ((c.tc : Thread Cert.LnPromptRefIdeal.nD Cert.LnPromptRefIdeal.τ).loc Cert.LnPromptRefIdeal.main_arg2) = m ((c.tc : Thread Cert.LnPromptRefIdeal.nD Cert.LnPromptRefIdeal.τ).loc Cert.LnPromptRefIdeal.main_arg2)
      ∧ r.2.mem ((c.tc : Thread Cert.LnPromptRefIdeal.nD Cert.LnPromptRefIdeal.τ).loc Cert.LnPromptRefIdeal.main_arg3) = m ((c.tc : Thread Cert.LnPromptRefIdeal.nD Cert.LnPromptRefIdeal.τ).loc Cert.LnPromptRefIdeal.main_arg3))
      ∧ r.2.sem = fun _ => 0)

def quiescent_LnSample [hLnSample : Cert.LnSample.Facts] : Prop :=
  ∀ (m : (ℓ : Loc Cert.LnSample.nD Cert.LnSample.τ Cert.LnSample.sig) → Buf (Elt Bits) ℓ) (g : Dev Cert.LnSample.nD → PrngReg), Pre_LnSample m →
    θ_run (Cert.LnSample.defs (F := Bits)) (onTc (τ := Cert.LnSample.τ) (Cert.LnSample.main (F := Bits))) ⟨m, fun _ => 0, g⟩ (fun r => (∀ c : Dev Cert.LnSample.nD,
      r.2.mem ((c.tc : Thread Cert.LnSample.nD Cert.LnSample.τ).loc Cert.LnSample.main_arg0) = m ((c.tc : Thread Cert.LnSample.nD Cert.LnSample.τ).loc Cert.LnSample.main_arg0)
      ∧ r.2.mem ((c.tc : Thread Cert.LnSample.nD Cert.LnSample.τ).loc Cert.LnSample.main_arg1) = m ((c.tc : Thread Cert.LnSample.nD Cert.LnSample.τ).loc Cert.LnSample.main_arg1)
      ∧ r.2.mem ((c.tc : Thread Cert.LnSample.nD Cert.LnSample.τ).loc Cert.LnSample.main_arg2) = m ((c.tc : Thread Cert.LnSample.nD Cert.LnSample.τ).loc Cert.LnSample.main_arg2)
      ∧ r.2.mem ((c.tc : Thread Cert.LnSample.nD Cert.LnSample.τ).loc Cert.LnSample.main_arg3) = m ((c.tc : Thread Cert.LnSample.nD Cert.LnSample.τ).loc Cert.LnSample.main_arg3))
      ∧ r.2.sem = fun _ => 0)

def quiescent_LnSampleIdeal [hLnSampleIdeal : Cert.LnSampleIdeal.Facts] : Prop :=
  ∀ (m : (ℓ : Loc Cert.LnSampleIdeal.nD Cert.LnSampleIdeal.τ Cert.LnSampleIdeal.sig) → Buf (Elt Ideal) ℓ) (g : Dev Cert.LnSampleIdeal.nD → PrngReg), Pre_LnSampleIdeal m →
    θ_run (Cert.LnSampleIdeal.defs (F := Ideal)) (onTc (τ := Cert.LnSampleIdeal.τ) (Cert.LnSampleIdeal.main (F := Ideal))) ⟨m, fun _ => 0, g⟩ (fun r => (∀ c : Dev Cert.LnSampleIdeal.nD,
      r.2.mem ((c.tc : Thread Cert.LnSampleIdeal.nD Cert.LnSampleIdeal.τ).loc Cert.LnSampleIdeal.main_arg0) = m ((c.tc : Thread Cert.LnSampleIdeal.nD Cert.LnSampleIdeal.τ).loc Cert.LnSampleIdeal.main_arg0)
      ∧ r.2.mem ((c.tc : Thread Cert.LnSampleIdeal.nD Cert.LnSampleIdeal.τ).loc Cert.LnSampleIdeal.main_arg1) = m ((c.tc : Thread Cert.LnSampleIdeal.nD Cert.LnSampleIdeal.τ).loc Cert.LnSampleIdeal.main_arg1)
      ∧ r.2.mem ((c.tc : Thread Cert.LnSampleIdeal.nD Cert.LnSampleIdeal.τ).loc Cert.LnSampleIdeal.main_arg2) = m ((c.tc : Thread Cert.LnSampleIdeal.nD Cert.LnSampleIdeal.τ).loc Cert.LnSampleIdeal.main_arg2)
      ∧ r.2.mem ((c.tc : Thread Cert.LnSampleIdeal.nD Cert.LnSampleIdeal.τ).loc Cert.LnSampleIdeal.main_arg3) = m ((c.tc : Thread Cert.LnSampleIdeal.nD Cert.LnSampleIdeal.τ).loc Cert.LnSampleIdeal.main_arg3))
      ∧ r.2.sem = fun _ => 0)

def quiescent_LnSampleRefIdeal [hLnSampleRefIdeal : Cert.LnSampleRefIdeal.Facts] : Prop :=
  ∀ (m : (ℓ : Loc Cert.LnSampleRefIdeal.nD Cert.LnSampleRefIdeal.τ Cert.LnSampleRefIdeal.sig) → Buf (Elt Ideal) ℓ) (g : Dev Cert.LnSampleRefIdeal.nD → PrngReg), Pre_LnSampleRefIdeal m →
    θ_run (Cert.LnSampleRefIdeal.defs (F := Ideal)) (onTc (τ := Cert.LnSampleRefIdeal.τ) (Cert.LnSampleRefIdeal.main (F := Ideal))) ⟨m, fun _ => 0, g⟩ (fun r => (∀ c : Dev Cert.LnSampleRefIdeal.nD,
      r.2.mem ((c.tc : Thread Cert.LnSampleRefIdeal.nD Cert.LnSampleRefIdeal.τ).loc Cert.LnSampleRefIdeal.main_arg0) = m ((c.tc : Thread Cert.LnSampleRefIdeal.nD Cert.LnSampleRefIdeal.τ).loc Cert.LnSampleRefIdeal.main_arg0)
      ∧ r.2.mem ((c.tc : Thread Cert.LnSampleRefIdeal.nD Cert.LnSampleRefIdeal.τ).loc Cert.LnSampleRefIdeal.main_arg1) = m ((c.tc : Thread Cert.LnSampleRefIdeal.nD Cert.LnSampleRefIdeal.τ).loc Cert.LnSampleRefIdeal.main_arg1)
      ∧ r.2.mem ((c.tc : Thread Cert.LnSampleRefIdeal.nD Cert.LnSampleRefIdeal.τ).loc Cert.LnSampleRefIdeal.main_arg2) = m ((c.tc : Thread Cert.LnSampleRefIdeal.nD Cert.LnSampleRefIdeal.τ).loc Cert.LnSampleRefIdeal.main_arg2)
      ∧ r.2.mem ((c.tc : Thread Cert.LnSampleRefIdeal.nD Cert.LnSampleRefIdeal.τ).loc Cert.LnSampleRefIdeal.main_arg3) = m ((c.tc : Thread Cert.LnSampleRefIdeal.nD Cert.LnSampleRefIdeal.τ).loc Cert.LnSampleRefIdeal.main_arg3))
      ∧ r.2.sem = fun _ => 0)

def quiescent_WkvSample [hWkvSample : Cert.WkvSample.Facts] : Prop :=
  ∀ (m : (ℓ : Loc Cert.WkvSample.nD Cert.WkvSample.τ Cert.WkvSample.sig) → Buf (Elt Bits) ℓ) (g : Dev Cert.WkvSample.nD → PrngReg), Pre_WkvSample m →
    θ_run (Cert.WkvSample.defs (F := Bits)) (onTc (τ := Cert.WkvSample.τ) (Cert.WkvSample.main (F := Bits))) ⟨m, fun _ => 0, g⟩ (fun r => (∀ c : Dev Cert.WkvSample.nD,
      r.2.mem ((c.tc : Thread Cert.WkvSample.nD Cert.WkvSample.τ).loc Cert.WkvSample.main_arg0) = m ((c.tc : Thread Cert.WkvSample.nD Cert.WkvSample.τ).loc Cert.WkvSample.main_arg0)
      ∧ r.2.mem ((c.tc : Thread Cert.WkvSample.nD Cert.WkvSample.τ).loc Cert.WkvSample.main_arg1) = m ((c.tc : Thread Cert.WkvSample.nD Cert.WkvSample.τ).loc Cert.WkvSample.main_arg1)
      ∧ r.2.mem ((c.tc : Thread Cert.WkvSample.nD Cert.WkvSample.τ).loc Cert.WkvSample.main_arg2) = m ((c.tc : Thread Cert.WkvSample.nD Cert.WkvSample.τ).loc Cert.WkvSample.main_arg2)
      ∧ r.2.mem ((c.tc : Thread Cert.WkvSample.nD Cert.WkvSample.τ).loc Cert.WkvSample.main_arg3) = m ((c.tc : Thread Cert.WkvSample.nD Cert.WkvSample.τ).loc Cert.WkvSample.main_arg3)
      ∧ r.2.mem ((c.tc : Thread Cert.WkvSample.nD Cert.WkvSample.τ).loc Cert.WkvSample.main_arg4) = m ((c.tc : Thread Cert.WkvSample.nD Cert.WkvSample.τ).loc Cert.WkvSample.main_arg4)
      ∧ r.2.mem ((c.tc : Thread Cert.WkvSample.nD Cert.WkvSample.τ).loc Cert.WkvSample.main_arg5) = m ((c.tc : Thread Cert.WkvSample.nD Cert.WkvSample.τ).loc Cert.WkvSample.main_arg5)
      ∧ r.2.mem ((c.tc : Thread Cert.WkvSample.nD Cert.WkvSample.τ).loc Cert.WkvSample.main_arg6) = m ((c.tc : Thread Cert.WkvSample.nD Cert.WkvSample.τ).loc Cert.WkvSample.main_arg6)
      ∧ r.2.mem ((c.tc : Thread Cert.WkvSample.nD Cert.WkvSample.τ).loc Cert.WkvSample.main_arg7) = m ((c.tc : Thread Cert.WkvSample.nD Cert.WkvSample.τ).loc Cert.WkvSample.main_arg7)
      ∧ r.2.mem ((c.tc : Thread Cert.WkvSample.nD Cert.WkvSample.τ).loc Cert.WkvSample.main_arg8) = m ((c.tc : Thread Cert.WkvSample.nD Cert.WkvSample.τ).loc Cert.WkvSample.main_arg8)
      ∧ r.2.mem ((c.tc : Thread Cert.WkvSample.nD Cert.WkvSample.τ).loc Cert.WkvSample.main_arg9) = m ((c.tc : Thread Cert.WkvSample.nD Cert.WkvSample.τ).loc Cert.WkvSample.main_arg9)
      ∧ r.2.mem ((c.tc : Thread Cert.WkvSample.nD Cert.WkvSample.τ).loc Cert.WkvSample.main_arg10) = m ((c.tc : Thread Cert.WkvSample.nD Cert.WkvSample.τ).loc Cert.WkvSample.main_arg10)
      ∧ r.2.mem ((c.tc : Thread Cert.WkvSample.nD Cert.WkvSample.τ).loc Cert.WkvSample.main_arg11) = m ((c.tc : Thread Cert.WkvSample.nD Cert.WkvSample.τ).loc Cert.WkvSample.main_arg11)
      ∧ r.2.mem ((c.tc : Thread Cert.WkvSample.nD Cert.WkvSample.τ).loc Cert.WkvSample.main_arg12) = m ((c.tc : Thread Cert.WkvSample.nD Cert.WkvSample.τ).loc Cert.WkvSample.main_arg12)
      ∧ r.2.mem ((c.tc : Thread Cert.WkvSample.nD Cert.WkvSample.τ).loc Cert.WkvSample.main_arg13) = m ((c.tc : Thread Cert.WkvSample.nD Cert.WkvSample.τ).loc Cert.WkvSample.main_arg13))
      ∧ r.2.sem = fun _ => 0)

def quiescent_WkvSampleIdeal [hWkvSampleIdeal : Cert.WkvSampleIdeal.Facts] : Prop :=
  ∀ (m : (ℓ : Loc Cert.WkvSampleIdeal.nD Cert.WkvSampleIdeal.τ Cert.WkvSampleIdeal.sig) → Buf (Elt Ideal) ℓ) (g : Dev Cert.WkvSampleIdeal.nD → PrngReg), Pre_WkvSampleIdeal m →
    θ_run (Cert.WkvSampleIdeal.defs (F := Ideal)) (onTc (τ := Cert.WkvSampleIdeal.τ) (Cert.WkvSampleIdeal.main (F := Ideal))) ⟨m, fun _ => 0, g⟩ (fun r => (∀ c : Dev Cert.WkvSampleIdeal.nD,
      r.2.mem ((c.tc : Thread Cert.WkvSampleIdeal.nD Cert.WkvSampleIdeal.τ).loc Cert.WkvSampleIdeal.main_arg0) = m ((c.tc : Thread Cert.WkvSampleIdeal.nD Cert.WkvSampleIdeal.τ).loc Cert.WkvSampleIdeal.main_arg0)
      ∧ r.2.mem ((c.tc : Thread Cert.WkvSampleIdeal.nD Cert.WkvSampleIdeal.τ).loc Cert.WkvSampleIdeal.main_arg1) = m ((c.tc : Thread Cert.WkvSampleIdeal.nD Cert.WkvSampleIdeal.τ).loc Cert.WkvSampleIdeal.main_arg1)
      ∧ r.2.mem ((c.tc : Thread Cert.WkvSampleIdeal.nD Cert.WkvSampleIdeal.τ).loc Cert.WkvSampleIdeal.main_arg2) = m ((c.tc : Thread Cert.WkvSampleIdeal.nD Cert.WkvSampleIdeal.τ).loc Cert.WkvSampleIdeal.main_arg2)
      ∧ r.2.mem ((c.tc : Thread Cert.WkvSampleIdeal.nD Cert.WkvSampleIdeal.τ).loc Cert.WkvSampleIdeal.main_arg3) = m ((c.tc : Thread Cert.WkvSampleIdeal.nD Cert.WkvSampleIdeal.τ).loc Cert.WkvSampleIdeal.main_arg3)
      ∧ r.2.mem ((c.tc : Thread Cert.WkvSampleIdeal.nD Cert.WkvSampleIdeal.τ).loc Cert.WkvSampleIdeal.main_arg4) = m ((c.tc : Thread Cert.WkvSampleIdeal.nD Cert.WkvSampleIdeal.τ).loc Cert.WkvSampleIdeal.main_arg4)
      ∧ r.2.mem ((c.tc : Thread Cert.WkvSampleIdeal.nD Cert.WkvSampleIdeal.τ).loc Cert.WkvSampleIdeal.main_arg5) = m ((c.tc : Thread Cert.WkvSampleIdeal.nD Cert.WkvSampleIdeal.τ).loc Cert.WkvSampleIdeal.main_arg5)
      ∧ r.2.mem ((c.tc : Thread Cert.WkvSampleIdeal.nD Cert.WkvSampleIdeal.τ).loc Cert.WkvSampleIdeal.main_arg6) = m ((c.tc : Thread Cert.WkvSampleIdeal.nD Cert.WkvSampleIdeal.τ).loc Cert.WkvSampleIdeal.main_arg6)
      ∧ r.2.mem ((c.tc : Thread Cert.WkvSampleIdeal.nD Cert.WkvSampleIdeal.τ).loc Cert.WkvSampleIdeal.main_arg7) = m ((c.tc : Thread Cert.WkvSampleIdeal.nD Cert.WkvSampleIdeal.τ).loc Cert.WkvSampleIdeal.main_arg7)
      ∧ r.2.mem ((c.tc : Thread Cert.WkvSampleIdeal.nD Cert.WkvSampleIdeal.τ).loc Cert.WkvSampleIdeal.main_arg8) = m ((c.tc : Thread Cert.WkvSampleIdeal.nD Cert.WkvSampleIdeal.τ).loc Cert.WkvSampleIdeal.main_arg8)
      ∧ r.2.mem ((c.tc : Thread Cert.WkvSampleIdeal.nD Cert.WkvSampleIdeal.τ).loc Cert.WkvSampleIdeal.main_arg9) = m ((c.tc : Thread Cert.WkvSampleIdeal.nD Cert.WkvSampleIdeal.τ).loc Cert.WkvSampleIdeal.main_arg9)
      ∧ r.2.mem ((c.tc : Thread Cert.WkvSampleIdeal.nD Cert.WkvSampleIdeal.τ).loc Cert.WkvSampleIdeal.main_arg10) = m ((c.tc : Thread Cert.WkvSampleIdeal.nD Cert.WkvSampleIdeal.τ).loc Cert.WkvSampleIdeal.main_arg10)
      ∧ r.2.mem ((c.tc : Thread Cert.WkvSampleIdeal.nD Cert.WkvSampleIdeal.τ).loc Cert.WkvSampleIdeal.main_arg11) = m ((c.tc : Thread Cert.WkvSampleIdeal.nD Cert.WkvSampleIdeal.τ).loc Cert.WkvSampleIdeal.main_arg11)
      ∧ r.2.mem ((c.tc : Thread Cert.WkvSampleIdeal.nD Cert.WkvSampleIdeal.τ).loc Cert.WkvSampleIdeal.main_arg12) = m ((c.tc : Thread Cert.WkvSampleIdeal.nD Cert.WkvSampleIdeal.τ).loc Cert.WkvSampleIdeal.main_arg12)
      ∧ r.2.mem ((c.tc : Thread Cert.WkvSampleIdeal.nD Cert.WkvSampleIdeal.τ).loc Cert.WkvSampleIdeal.main_arg13) = m ((c.tc : Thread Cert.WkvSampleIdeal.nD Cert.WkvSampleIdeal.τ).loc Cert.WkvSampleIdeal.main_arg13))
      ∧ r.2.sem = fun _ => 0)

def quiescent_WkvSampleRefIdeal [hWkvSampleRefIdeal : Cert.WkvSampleRefIdeal.Facts] : Prop :=
  ∀ (m : (ℓ : Loc Cert.WkvSampleRefIdeal.nD Cert.WkvSampleRefIdeal.τ Cert.WkvSampleRefIdeal.sig) → Buf (Elt Ideal) ℓ) (g : Dev Cert.WkvSampleRefIdeal.nD → PrngReg), Pre_WkvSampleRefIdeal m →
    θ_run (Cert.WkvSampleRefIdeal.defs (F := Ideal)) (onTc (τ := Cert.WkvSampleRefIdeal.τ) (Cert.WkvSampleRefIdeal.main (F := Ideal))) ⟨m, fun _ => 0, g⟩ (fun r => (∀ c : Dev Cert.WkvSampleRefIdeal.nD,
      r.2.mem ((c.tc : Thread Cert.WkvSampleRefIdeal.nD Cert.WkvSampleRefIdeal.τ).loc Cert.WkvSampleRefIdeal.main_arg0) = m ((c.tc : Thread Cert.WkvSampleRefIdeal.nD Cert.WkvSampleRefIdeal.τ).loc Cert.WkvSampleRefIdeal.main_arg0)
      ∧ r.2.mem ((c.tc : Thread Cert.WkvSampleRefIdeal.nD Cert.WkvSampleRefIdeal.τ).loc Cert.WkvSampleRefIdeal.main_arg1) = m ((c.tc : Thread Cert.WkvSampleRefIdeal.nD Cert.WkvSampleRefIdeal.τ).loc Cert.WkvSampleRefIdeal.main_arg1)
      ∧ r.2.mem ((c.tc : Thread Cert.WkvSampleRefIdeal.nD Cert.WkvSampleRefIdeal.τ).loc Cert.WkvSampleRefIdeal.main_arg2) = m ((c.tc : Thread Cert.WkvSampleRefIdeal.nD Cert.WkvSampleRefIdeal.τ).loc Cert.WkvSampleRefIdeal.main_arg2)
      ∧ r.2.mem ((c.tc : Thread Cert.WkvSampleRefIdeal.nD Cert.WkvSampleRefIdeal.τ).loc Cert.WkvSampleRefIdeal.main_arg3) = m ((c.tc : Thread Cert.WkvSampleRefIdeal.nD Cert.WkvSampleRefIdeal.τ).loc Cert.WkvSampleRefIdeal.main_arg3)
      ∧ r.2.mem ((c.tc : Thread Cert.WkvSampleRefIdeal.nD Cert.WkvSampleRefIdeal.τ).loc Cert.WkvSampleRefIdeal.main_arg4) = m ((c.tc : Thread Cert.WkvSampleRefIdeal.nD Cert.WkvSampleRefIdeal.τ).loc Cert.WkvSampleRefIdeal.main_arg4)
      ∧ r.2.mem ((c.tc : Thread Cert.WkvSampleRefIdeal.nD Cert.WkvSampleRefIdeal.τ).loc Cert.WkvSampleRefIdeal.main_arg5) = m ((c.tc : Thread Cert.WkvSampleRefIdeal.nD Cert.WkvSampleRefIdeal.τ).loc Cert.WkvSampleRefIdeal.main_arg5)
      ∧ r.2.mem ((c.tc : Thread Cert.WkvSampleRefIdeal.nD Cert.WkvSampleRefIdeal.τ).loc Cert.WkvSampleRefIdeal.main_arg6) = m ((c.tc : Thread Cert.WkvSampleRefIdeal.nD Cert.WkvSampleRefIdeal.τ).loc Cert.WkvSampleRefIdeal.main_arg6)
      ∧ r.2.mem ((c.tc : Thread Cert.WkvSampleRefIdeal.nD Cert.WkvSampleRefIdeal.τ).loc Cert.WkvSampleRefIdeal.main_arg7) = m ((c.tc : Thread Cert.WkvSampleRefIdeal.nD Cert.WkvSampleRefIdeal.τ).loc Cert.WkvSampleRefIdeal.main_arg7)
      ∧ r.2.mem ((c.tc : Thread Cert.WkvSampleRefIdeal.nD Cert.WkvSampleRefIdeal.τ).loc Cert.WkvSampleRefIdeal.main_arg8) = m ((c.tc : Thread Cert.WkvSampleRefIdeal.nD Cert.WkvSampleRefIdeal.τ).loc Cert.WkvSampleRefIdeal.main_arg8)
      ∧ r.2.mem ((c.tc : Thread Cert.WkvSampleRefIdeal.nD Cert.WkvSampleRefIdeal.τ).loc Cert.WkvSampleRefIdeal.main_arg9) = m ((c.tc : Thread Cert.WkvSampleRefIdeal.nD Cert.WkvSampleRefIdeal.τ).loc Cert.WkvSampleRefIdeal.main_arg9)
      ∧ r.2.mem ((c.tc : Thread Cert.WkvSampleRefIdeal.nD Cert.WkvSampleRefIdeal.τ).loc Cert.WkvSampleRefIdeal.main_arg10) = m ((c.tc : Thread Cert.WkvSampleRefIdeal.nD Cert.WkvSampleRefIdeal.τ).loc Cert.WkvSampleRefIdeal.main_arg10)
      ∧ r.2.mem ((c.tc : Thread Cert.WkvSampleRefIdeal.nD Cert.WkvSampleRefIdeal.τ).loc Cert.WkvSampleRefIdeal.main_arg11) = m ((c.tc : Thread Cert.WkvSampleRefIdeal.nD Cert.WkvSampleRefIdeal.τ).loc Cert.WkvSampleRefIdeal.main_arg11)
      ∧ r.2.mem ((c.tc : Thread Cert.WkvSampleRefIdeal.nD Cert.WkvSampleRefIdeal.τ).loc Cert.WkvSampleRefIdeal.main_arg12) = m ((c.tc : Thread Cert.WkvSampleRefIdeal.nD Cert.WkvSampleRefIdeal.τ).loc Cert.WkvSampleRefIdeal.main_arg12)
      ∧ r.2.mem ((c.tc : Thread Cert.WkvSampleRefIdeal.nD Cert.WkvSampleRefIdeal.τ).loc Cert.WkvSampleRefIdeal.main_arg13) = m ((c.tc : Thread Cert.WkvSampleRefIdeal.nD Cert.WkvSampleRefIdeal.τ).loc Cert.WkvSampleRefIdeal.main_arg13))
      ∧ r.2.sem = fun _ => 0)

def quiescent_DecayIn [hDecayIn : Cert.DecayIn.Facts] : Prop :=
  ∀ (m : (ℓ : Loc Cert.DecayIn.nD Cert.DecayIn.τ Cert.DecayIn.sig) → Buf (Elt Bits) ℓ) (g : Dev Cert.DecayIn.nD → PrngReg), Pre_DecayIn m →
    θ_run (Cert.DecayIn.defs (F := Bits)) (onTc (τ := Cert.DecayIn.τ) (Cert.DecayIn.main (F := Bits))) ⟨m, fun _ => 0, g⟩ (fun r => (∀ c : Dev Cert.DecayIn.nD,
      r.2.mem ((c.tc : Thread Cert.DecayIn.nD Cert.DecayIn.τ).loc Cert.DecayIn.main_arg0) = m ((c.tc : Thread Cert.DecayIn.nD Cert.DecayIn.τ).loc Cert.DecayIn.main_arg0)
      ∧ r.2.mem ((c.tc : Thread Cert.DecayIn.nD Cert.DecayIn.τ).loc Cert.DecayIn.main_arg1) = m ((c.tc : Thread Cert.DecayIn.nD Cert.DecayIn.τ).loc Cert.DecayIn.main_arg1))
      ∧ r.2.sem = fun _ => 0)

def quiescent_DecayInIdeal [hDecayInIdeal : Cert.DecayInIdeal.Facts] : Prop :=
  ∀ (m : (ℓ : Loc Cert.DecayInIdeal.nD Cert.DecayInIdeal.τ Cert.DecayInIdeal.sig) → Buf (Elt Ideal) ℓ) (g : Dev Cert.DecayInIdeal.nD → PrngReg), Pre_DecayInIdeal m →
    θ_run (Cert.DecayInIdeal.defs (F := Ideal)) (onTc (τ := Cert.DecayInIdeal.τ) (Cert.DecayInIdeal.main (F := Ideal))) ⟨m, fun _ => 0, g⟩ (fun r => (∀ c : Dev Cert.DecayInIdeal.nD,
      r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
      ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ r.2.sem = fun _ => 0)

def quiescent_DecayInRefIdeal [hDecayInRefIdeal : Cert.DecayInRefIdeal.Facts] : Prop :=
  ∀ (m : (ℓ : Loc Cert.DecayInRefIdeal.nD Cert.DecayInRefIdeal.τ Cert.DecayInRefIdeal.sig) → Buf (Elt Ideal) ℓ) (g : Dev Cert.DecayInRefIdeal.nD → PrngReg), Pre_DecayInRefIdeal m →
    θ_run (Cert.DecayInRefIdeal.defs (F := Ideal)) (onTc (τ := Cert.DecayInRefIdeal.τ) (Cert.DecayInRefIdeal.main (F := Ideal))) ⟨m, fun _ => 0, g⟩ (fun r => (∀ c : Dev Cert.DecayInRefIdeal.nD,
      r.2.mem ((c.tc : Thread Cert.DecayInRefIdeal.nD Cert.DecayInRefIdeal.τ).loc Cert.DecayInRefIdeal.main_arg0) = m ((c.tc : Thread Cert.DecayInRefIdeal.nD Cert.DecayInRefIdeal.τ).loc Cert.DecayInRefIdeal.main_arg0)
      ∧ r.2.mem ((c.tc : Thread Cert.DecayInRefIdeal.nD Cert.DecayInRefIdeal.τ).loc Cert.DecayInRefIdeal.main_arg1) = m ((c.tc : Thread Cert.DecayInRefIdeal.nD Cert.DecayInRefIdeal.τ).loc Cert.DecayInRefIdeal.main_arg1))
      ∧ r.2.sem = fun _ => 0)

def quiescent_CorrIn [hCorrIn : Cert.CorrIn.Facts] : Prop :=
  ∀ (m : (ℓ : Loc Cert.CorrIn.nD Cert.CorrIn.τ Cert.CorrIn.sig) → Buf (Elt Bits) ℓ) (g : Dev Cert.CorrIn.nD → PrngReg), Pre_CorrIn m →
    θ_run (Cert.CorrIn.defs (F := Bits)) (onTc (τ := Cert.CorrIn.τ) (Cert.CorrIn.main (F := Bits))) ⟨m, fun _ => 0, g⟩ (fun r => (∀ c : Dev Cert.CorrIn.nD,
      r.2.mem ((c.tc : Thread Cert.CorrIn.nD Cert.CorrIn.τ).loc Cert.CorrIn.main_arg0) = m ((c.tc : Thread Cert.CorrIn.nD Cert.CorrIn.τ).loc Cert.CorrIn.main_arg0)
      ∧ r.2.mem ((c.tc : Thread Cert.CorrIn.nD Cert.CorrIn.τ).loc Cert.CorrIn.main_arg1) = m ((c.tc : Thread Cert.CorrIn.nD Cert.CorrIn.τ).loc Cert.CorrIn.main_arg1))
      ∧ r.2.sem = fun _ => 0)

def quiescent_CorrInIdeal [hCorrInIdeal : Cert.CorrInIdeal.Facts] : Prop :=
  ∀ (m : (ℓ : Loc Cert.CorrInIdeal.nD Cert.CorrInIdeal.τ Cert.CorrInIdeal.sig) → Buf (Elt Ideal) ℓ) (g : Dev Cert.CorrInIdeal.nD → PrngReg), Pre_CorrInIdeal m →
    θ_run (Cert.CorrInIdeal.defs (F := Ideal)) (onTc (τ := Cert.CorrInIdeal.τ) (Cert.CorrInIdeal.main (F := Ideal))) ⟨m, fun _ => 0, g⟩ (fun r => (∀ c : Dev Cert.CorrInIdeal.nD,
      r.2.mem ((c.tc : Thread Cert.CorrInIdeal.nD Cert.CorrInIdeal.τ).loc Cert.CorrInIdeal.main_arg0) = m ((c.tc : Thread Cert.CorrInIdeal.nD Cert.CorrInIdeal.τ).loc Cert.CorrInIdeal.main_arg0)
      ∧ r.2.mem ((c.tc : Thread Cert.CorrInIdeal.nD Cert.CorrInIdeal.τ).loc Cert.CorrInIdeal.main_arg1) = m ((c.tc : Thread Cert.CorrInIdeal.nD Cert.CorrInIdeal.τ).loc Cert.CorrInIdeal.main_arg1))
      ∧ r.2.sem = fun _ => 0)

def quiescent_CorrInRefIdeal [hCorrInRefIdeal : Cert.CorrInRefIdeal.Facts] : Prop :=
  ∀ (m : (ℓ : Loc Cert.CorrInRefIdeal.nD Cert.CorrInRefIdeal.τ Cert.CorrInRefIdeal.sig) → Buf (Elt Ideal) ℓ) (g : Dev Cert.CorrInRefIdeal.nD → PrngReg), Pre_CorrInRefIdeal m →
    θ_run (Cert.CorrInRefIdeal.defs (F := Ideal)) (onTc (τ := Cert.CorrInRefIdeal.τ) (Cert.CorrInRefIdeal.main (F := Ideal))) ⟨m, fun _ => 0, g⟩ (fun r => (∀ c : Dev Cert.CorrInRefIdeal.nD,
      r.2.mem ((c.tc : Thread Cert.CorrInRefIdeal.nD Cert.CorrInRefIdeal.τ).loc Cert.CorrInRefIdeal.main_arg0) = m ((c.tc : Thread Cert.CorrInRefIdeal.nD Cert.CorrInRefIdeal.τ).loc Cert.CorrInRefIdeal.main_arg0)
      ∧ r.2.mem ((c.tc : Thread Cert.CorrInRefIdeal.nD Cert.CorrInRefIdeal.τ).loc Cert.CorrInRefIdeal.main_arg1) = m ((c.tc : Thread Cert.CorrInRefIdeal.nD Cert.CorrInRefIdeal.τ).loc Cert.CorrInRefIdeal.main_arg1))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1))
      ∧ r.2.sem = fun _ => 0)

def quiescent_LowOut [hLowOut : Cert.LowOut.Facts] : Prop :=
  ∀ (m : (ℓ : Loc Cert.LowOut.nD Cert.LowOut.τ Cert.LowOut.sig) → Buf (Elt Bits) ℓ) (g : Dev Cert.LowOut.nD → PrngReg), Pre_LowOut m →
    θ_run (Cert.LowOut.defs (F := Bits)) (onTc (τ := Cert.LowOut.τ) (Cert.LowOut.main (F := Bits))) ⟨m, fun _ => 0, g⟩ (fun r => (∀ c : Dev Cert.LowOut.nD,
      r.2.mem ((c.tc : Thread Cert.LowOut.nD Cert.LowOut.τ).loc Cert.LowOut.main_arg0) = m ((c.tc : Thread Cert.LowOut.nD Cert.LowOut.τ).loc Cert.LowOut.main_arg0)
      ∧ r.2.mem ((c.tc : Thread Cert.LowOut.nD Cert.LowOut.τ).loc Cert.LowOut.main_arg1) = m ((c.tc : Thread Cert.LowOut.nD Cert.LowOut.τ).loc Cert.LowOut.main_arg1))
      ∧ r.2.sem = fun _ => 0)

def quiescent_LowOutIdeal [hLowOutIdeal : Cert.LowOutIdeal.Facts] : Prop :=
  ∀ (m : (ℓ : Loc Cert.LowOutIdeal.nD Cert.LowOutIdeal.τ Cert.LowOutIdeal.sig) → Buf (Elt Ideal) ℓ) (g : Dev Cert.LowOutIdeal.nD → PrngReg), Pre_LowOutIdeal m →
    θ_run (Cert.LowOutIdeal.defs (F := Ideal)) (onTc (τ := Cert.LowOutIdeal.τ) (Cert.LowOutIdeal.main (F := Ideal))) ⟨m, fun _ => 0, g⟩ (fun r => (∀ c : Dev Cert.LowOutIdeal.nD,
      r.2.mem ((c.tc : Thread Cert.LowOutIdeal.nD Cert.LowOutIdeal.τ).loc Cert.LowOutIdeal.main_arg0) = m ((c.tc : Thread Cert.LowOutIdeal.nD Cert.LowOutIdeal.τ).loc Cert.LowOutIdeal.main_arg0)
      ∧ r.2.mem ((c.tc : Thread Cert.LowOutIdeal.nD Cert.LowOutIdeal.τ).loc Cert.LowOutIdeal.main_arg1) = m ((c.tc : Thread Cert.LowOutIdeal.nD Cert.LowOutIdeal.τ).loc Cert.LowOutIdeal.main_arg1))
      ∧ r.2.sem = fun _ => 0)

def quiescent_LowOutRefIdeal [hLowOutRefIdeal : Cert.LowOutRefIdeal.Facts] : Prop :=
  ∀ (m : (ℓ : Loc Cert.LowOutRefIdeal.nD Cert.LowOutRefIdeal.τ Cert.LowOutRefIdeal.sig) → Buf (Elt Ideal) ℓ) (g : Dev Cert.LowOutRefIdeal.nD → PrngReg), Pre_LowOutRefIdeal m →
    θ_run (Cert.LowOutRefIdeal.defs (F := Ideal)) (onTc (τ := Cert.LowOutRefIdeal.τ) (Cert.LowOutRefIdeal.main (F := Ideal))) ⟨m, fun _ => 0, g⟩ (fun r => (∀ c : Dev Cert.LowOutRefIdeal.nD,
      r.2.mem ((c.tc : Thread Cert.LowOutRefIdeal.nD Cert.LowOutRefIdeal.τ).loc Cert.LowOutRefIdeal.main_arg0) = m ((c.tc : Thread Cert.LowOutRefIdeal.nD Cert.LowOutRefIdeal.τ).loc Cert.LowOutRefIdeal.main_arg0)
      ∧ r.2.mem ((c.tc : Thread Cert.LowOutRefIdeal.nD Cert.LowOutRefIdeal.τ).loc Cert.LowOutRefIdeal.main_arg1) = m ((c.tc : Thread Cert.LowOutRefIdeal.nD Cert.LowOutRefIdeal.τ).loc Cert.LowOutRefIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1))
      ∧ r.2.sem = fun _ => 0)

def quiescent_MixPrompt [hMixPrompt : Cert.MixPrompt.Facts] : Prop :=
  ∀ (m : (ℓ : Loc Cert.MixPrompt.nD Cert.MixPrompt.τ Cert.MixPrompt.sig) → Buf (Elt Bits) ℓ) (g : Dev Cert.MixPrompt.nD → PrngReg), Pre_MixPrompt m →
    θ_run (Cert.MixPrompt.defs (F := Bits)) (onTc (τ := Cert.MixPrompt.τ) (Cert.MixPrompt.main (F := Bits))) ⟨m, fun _ => 0, g⟩ (fun r => (∀ c : Dev Cert.MixPrompt.nD,
      r.2.mem ((c.tc : Thread Cert.MixPrompt.nD Cert.MixPrompt.τ).loc Cert.MixPrompt.main_arg0) = m ((c.tc : Thread Cert.MixPrompt.nD Cert.MixPrompt.τ).loc Cert.MixPrompt.main_arg0)
      ∧ r.2.mem ((c.tc : Thread Cert.MixPrompt.nD Cert.MixPrompt.τ).loc Cert.MixPrompt.main_arg1) = m ((c.tc : Thread Cert.MixPrompt.nD Cert.MixPrompt.τ).loc Cert.MixPrompt.main_arg1))
      ∧ r.2.sem = fun _ => 0)

def quiescent_MixPromptIdeal [hMixPromptIdeal : Cert.MixPromptIdeal.Facts] : Prop :=
  ∀ (m : (ℓ : Loc Cert.MixPromptIdeal.nD Cert.MixPromptIdeal.τ Cert.MixPromptIdeal.sig) → Buf (Elt Ideal) ℓ) (g : Dev Cert.MixPromptIdeal.nD → PrngReg), Pre_MixPromptIdeal m →
    θ_run (Cert.MixPromptIdeal.defs (F := Ideal)) (onTc (τ := Cert.MixPromptIdeal.τ) (Cert.MixPromptIdeal.main (F := Ideal))) ⟨m, fun _ => 0, g⟩ (fun r => (∀ c : Dev Cert.MixPromptIdeal.nD,
      r.2.mem ((c.tc : Thread Cert.MixPromptIdeal.nD Cert.MixPromptIdeal.τ).loc Cert.MixPromptIdeal.main_arg0) = m ((c.tc : Thread Cert.MixPromptIdeal.nD Cert.MixPromptIdeal.τ).loc Cert.MixPromptIdeal.main_arg0)
      ∧ r.2.mem ((c.tc : Thread Cert.MixPromptIdeal.nD Cert.MixPromptIdeal.τ).loc Cert.MixPromptIdeal.main_arg1) = m ((c.tc : Thread Cert.MixPromptIdeal.nD Cert.MixPromptIdeal.τ).loc Cert.MixPromptIdeal.main_arg1))
      ∧ r.2.sem = fun _ => 0)

def quiescent_MixPromptRefIdeal [hMixPromptRefIdeal : Cert.MixPromptRefIdeal.Facts] : Prop :=
  ∀ (m : (ℓ : Loc Cert.MixPromptRefIdeal.nD Cert.MixPromptRefIdeal.τ Cert.MixPromptRefIdeal.sig) → Buf (Elt Ideal) ℓ) (g : Dev Cert.MixPromptRefIdeal.nD → PrngReg), Pre_MixPromptRefIdeal m →
    θ_run (Cert.MixPromptRefIdeal.defs (F := Ideal)) (onTc (τ := Cert.MixPromptRefIdeal.τ) (Cert.MixPromptRefIdeal.main (F := Ideal))) ⟨m, fun _ => 0, g⟩ (fun r => (∀ c : Dev Cert.MixPromptRefIdeal.nD,
      r.2.mem ((c.tc : Thread Cert.MixPromptRefIdeal.nD Cert.MixPromptRefIdeal.τ).loc Cert.MixPromptRefIdeal.main_arg0) = m ((c.tc : Thread Cert.MixPromptRefIdeal.nD Cert.MixPromptRefIdeal.τ).loc Cert.MixPromptRefIdeal.main_arg0)
      ∧ r.2.mem ((c.tc : Thread Cert.MixPromptRefIdeal.nD Cert.MixPromptRefIdeal.τ).loc Cert.MixPromptRefIdeal.main_arg1) = m ((c.tc : Thread Cert.MixPromptRefIdeal.nD Cert.MixPromptRefIdeal.τ).loc Cert.MixPromptRefIdeal.main_arg1))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2))
      ∧ r.2.sem = fun _ => 0)

def quiescent_SharedSample [hSharedSample : Cert.SharedSample.Facts] : Prop :=
  ∀ (m : (ℓ : Loc Cert.SharedSample.nD Cert.SharedSample.τ Cert.SharedSample.sig) → Buf (Elt Bits) ℓ) (g : Dev Cert.SharedSample.nD → PrngReg), Pre_SharedSample m →
    θ_run (Cert.SharedSample.defs (F := Bits)) (onTc (τ := Cert.SharedSample.τ) (Cert.SharedSample.main (F := Bits))) ⟨m, fun _ => 0, g⟩ (fun r => (∀ c : Dev Cert.SharedSample.nD,
      r.2.mem ((c.tc : Thread Cert.SharedSample.nD Cert.SharedSample.τ).loc Cert.SharedSample.main_arg0) = m ((c.tc : Thread Cert.SharedSample.nD Cert.SharedSample.τ).loc Cert.SharedSample.main_arg0)
      ∧ r.2.mem ((c.tc : Thread Cert.SharedSample.nD Cert.SharedSample.τ).loc Cert.SharedSample.main_arg1) = m ((c.tc : Thread Cert.SharedSample.nD Cert.SharedSample.τ).loc Cert.SharedSample.main_arg1)
      ∧ r.2.mem ((c.tc : Thread Cert.SharedSample.nD Cert.SharedSample.τ).loc Cert.SharedSample.main_arg2) = m ((c.tc : Thread Cert.SharedSample.nD Cert.SharedSample.τ).loc Cert.SharedSample.main_arg2)
      ∧ r.2.mem ((c.tc : Thread Cert.SharedSample.nD Cert.SharedSample.τ).loc Cert.SharedSample.main_arg3) = m ((c.tc : Thread Cert.SharedSample.nD Cert.SharedSample.τ).loc Cert.SharedSample.main_arg3)
      ∧ r.2.mem ((c.tc : Thread Cert.SharedSample.nD Cert.SharedSample.τ).loc Cert.SharedSample.main_arg4) = m ((c.tc : Thread Cert.SharedSample.nD Cert.SharedSample.τ).loc Cert.SharedSample.main_arg4))
      ∧ r.2.sem = fun _ => 0)

def quiescent_SharedSampleIdeal [hSharedSampleIdeal : Cert.SharedSampleIdeal.Facts] : Prop :=
  ∀ (m : (ℓ : Loc Cert.SharedSampleIdeal.nD Cert.SharedSampleIdeal.τ Cert.SharedSampleIdeal.sig) → Buf (Elt Ideal) ℓ) (g : Dev Cert.SharedSampleIdeal.nD → PrngReg), Pre_SharedSampleIdeal m →
    θ_run (Cert.SharedSampleIdeal.defs (F := Ideal)) (onTc (τ := Cert.SharedSampleIdeal.τ) (Cert.SharedSampleIdeal.main (F := Ideal))) ⟨m, fun _ => 0, g⟩ (fun r => (∀ c : Dev Cert.SharedSampleIdeal.nD,
      r.2.mem ((c.tc : Thread Cert.SharedSampleIdeal.nD Cert.SharedSampleIdeal.τ).loc Cert.SharedSampleIdeal.main_arg0) = m ((c.tc : Thread Cert.SharedSampleIdeal.nD Cert.SharedSampleIdeal.τ).loc Cert.SharedSampleIdeal.main_arg0)
      ∧ r.2.mem ((c.tc : Thread Cert.SharedSampleIdeal.nD Cert.SharedSampleIdeal.τ).loc Cert.SharedSampleIdeal.main_arg1) = m ((c.tc : Thread Cert.SharedSampleIdeal.nD Cert.SharedSampleIdeal.τ).loc Cert.SharedSampleIdeal.main_arg1)
      ∧ r.2.mem ((c.tc : Thread Cert.SharedSampleIdeal.nD Cert.SharedSampleIdeal.τ).loc Cert.SharedSampleIdeal.main_arg2) = m ((c.tc : Thread Cert.SharedSampleIdeal.nD Cert.SharedSampleIdeal.τ).loc Cert.SharedSampleIdeal.main_arg2)
      ∧ r.2.mem ((c.tc : Thread Cert.SharedSampleIdeal.nD Cert.SharedSampleIdeal.τ).loc Cert.SharedSampleIdeal.main_arg3) = m ((c.tc : Thread Cert.SharedSampleIdeal.nD Cert.SharedSampleIdeal.τ).loc Cert.SharedSampleIdeal.main_arg3)
      ∧ r.2.mem ((c.tc : Thread Cert.SharedSampleIdeal.nD Cert.SharedSampleIdeal.τ).loc Cert.SharedSampleIdeal.main_arg4) = m ((c.tc : Thread Cert.SharedSampleIdeal.nD Cert.SharedSampleIdeal.τ).loc Cert.SharedSampleIdeal.main_arg4))
      ∧ r.2.sem = fun _ => 0)

def quiescent_SharedSampleIdeal_pre_finite_shared [hSharedSampleIdeal : Cert.SharedSampleIdeal.Facts] [hPre_finite_shared : Cert.Pre_finite_shared.Facts] : Prop :=
  ∀ (m : (ℓ : Loc Cert.SharedSampleIdeal.nD Cert.SharedSampleIdeal.τ Cert.SharedSampleIdeal.sig) → Buf (Elt Ideal) ℓ) (g : Dev Cert.SharedSampleIdeal.nD → PrngReg), Pre_SharedSampleIdeal_finite_shared m →
    θ_run (Cert.SharedSampleIdeal.defs (F := Ideal)) (onTc (τ := Cert.SharedSampleIdeal.τ) (Cert.SharedSampleIdeal.main (F := Ideal))) ⟨m, fun _ => 0, g⟩ (fun r => (∀ c : Dev Cert.SharedSampleIdeal.nD,
      r.2.mem ((c.tc : Thread Cert.SharedSampleIdeal.nD Cert.SharedSampleIdeal.τ).loc Cert.SharedSampleIdeal.main_arg0) = m ((c.tc : Thread Cert.SharedSampleIdeal.nD Cert.SharedSampleIdeal.τ).loc Cert.SharedSampleIdeal.main_arg0)
      ∧ r.2.mem ((c.tc : Thread Cert.SharedSampleIdeal.nD Cert.SharedSampleIdeal.τ).loc Cert.SharedSampleIdeal.main_arg1) = m ((c.tc : Thread Cert.SharedSampleIdeal.nD Cert.SharedSampleIdeal.τ).loc Cert.SharedSampleIdeal.main_arg1)
      ∧ r.2.mem ((c.tc : Thread Cert.SharedSampleIdeal.nD Cert.SharedSampleIdeal.τ).loc Cert.SharedSampleIdeal.main_arg2) = m ((c.tc : Thread Cert.SharedSampleIdeal.nD Cert.SharedSampleIdeal.τ).loc Cert.SharedSampleIdeal.main_arg2)
      ∧ r.2.mem ((c.tc : Thread Cert.SharedSampleIdeal.nD Cert.SharedSampleIdeal.τ).loc Cert.SharedSampleIdeal.main_arg3) = m ((c.tc : Thread Cert.SharedSampleIdeal.nD Cert.SharedSampleIdeal.τ).loc Cert.SharedSampleIdeal.main_arg3)
      ∧ r.2.mem ((c.tc : Thread Cert.SharedSampleIdeal.nD Cert.SharedSampleIdeal.τ).loc Cert.SharedSampleIdeal.main_arg4) = m ((c.tc : Thread Cert.SharedSampleIdeal.nD Cert.SharedSampleIdeal.τ).loc Cert.SharedSampleIdeal.main_arg4))
      ∧ r.2.sem = fun _ => 0)

def quiescent_SharedSampleRefIdeal [hSharedSampleRefIdeal : Cert.SharedSampleRefIdeal.Facts] : Prop :=
  ∀ (m : (ℓ : Loc Cert.SharedSampleRefIdeal.nD Cert.SharedSampleRefIdeal.τ Cert.SharedSampleRefIdeal.sig) → Buf (Elt Ideal) ℓ) (g : Dev Cert.SharedSampleRefIdeal.nD → PrngReg), Pre_SharedSampleRefIdeal m →
    θ_run (Cert.SharedSampleRefIdeal.defs (F := Ideal)) (onTc (τ := Cert.SharedSampleRefIdeal.τ) (Cert.SharedSampleRefIdeal.main (F := Ideal))) ⟨m, fun _ => 0, g⟩ (fun r => (∀ c : Dev Cert.SharedSampleRefIdeal.nD,
      r.2.mem ((c.tc : Thread Cert.SharedSampleRefIdeal.nD Cert.SharedSampleRefIdeal.τ).loc Cert.SharedSampleRefIdeal.main_arg0) = m ((c.tc : Thread Cert.SharedSampleRefIdeal.nD Cert.SharedSampleRefIdeal.τ).loc Cert.SharedSampleRefIdeal.main_arg0)
      ∧ r.2.mem ((c.tc : Thread Cert.SharedSampleRefIdeal.nD Cert.SharedSampleRefIdeal.τ).loc Cert.SharedSampleRefIdeal.main_arg1) = m ((c.tc : Thread Cert.SharedSampleRefIdeal.nD Cert.SharedSampleRefIdeal.τ).loc Cert.SharedSampleRefIdeal.main_arg1)
      ∧ r.2.mem ((c.tc : Thread Cert.SharedSampleRefIdeal.nD Cert.SharedSampleRefIdeal.τ).loc Cert.SharedSampleRefIdeal.main_arg2) = m ((c.tc : Thread Cert.SharedSampleRefIdeal.nD Cert.SharedSampleRefIdeal.τ).loc Cert.SharedSampleRefIdeal.main_arg2)
      ∧ r.2.mem ((c.tc : Thread Cert.SharedSampleRefIdeal.nD Cert.SharedSampleRefIdeal.τ).loc Cert.SharedSampleRefIdeal.main_arg3) = m ((c.tc : Thread Cert.SharedSampleRefIdeal.nD Cert.SharedSampleRefIdeal.τ).loc Cert.SharedSampleRefIdeal.main_arg3)
      ∧ r.2.mem ((c.tc : Thread Cert.SharedSampleRefIdeal.nD Cert.SharedSampleRefIdeal.τ).loc Cert.SharedSampleRefIdeal.main_arg4) = m ((c.tc : Thread Cert.SharedSampleRefIdeal.nD Cert.SharedSampleRefIdeal.τ).loc Cert.SharedSampleRefIdeal.main_arg4))
      ∧ r.2.sem = fun _ => 0)

def quiescent_SharedSampleRefIdeal_pre_finite_shared [hSharedSampleRefIdeal : Cert.SharedSampleRefIdeal.Facts] [hPre_finite_shared : Cert.Pre_finite_shared.Facts] : Prop :=
  ∀ (m : (ℓ : Loc Cert.SharedSampleRefIdeal.nD Cert.SharedSampleRefIdeal.τ Cert.SharedSampleRefIdeal.sig) → Buf (Elt Ideal) ℓ) (g : Dev Cert.SharedSampleRefIdeal.nD → PrngReg), Pre_SharedSampleRefIdeal_finite_shared m →
    θ_run (Cert.SharedSampleRefIdeal.defs (F := Ideal)) (onTc (τ := Cert.SharedSampleRefIdeal.τ) (Cert.SharedSampleRefIdeal.main (F := Ideal))) ⟨m, fun _ => 0, g⟩ (fun r => (∀ c : Dev Cert.SharedSampleRefIdeal.nD,
      r.2.mem ((c.tc : Thread Cert.SharedSampleRefIdeal.nD Cert.SharedSampleRefIdeal.τ).loc Cert.SharedSampleRefIdeal.main_arg0) = m ((c.tc : Thread Cert.SharedSampleRefIdeal.nD Cert.SharedSampleRefIdeal.τ).loc Cert.SharedSampleRefIdeal.main_arg0)
      ∧ r.2.mem ((c.tc : Thread Cert.SharedSampleRefIdeal.nD Cert.SharedSampleRefIdeal.τ).loc Cert.SharedSampleRefIdeal.main_arg1) = m ((c.tc : Thread Cert.SharedSampleRefIdeal.nD Cert.SharedSampleRefIdeal.τ).loc Cert.SharedSampleRefIdeal.main_arg1)
      ∧ r.2.mem ((c.tc : Thread Cert.SharedSampleRefIdeal.nD Cert.SharedSampleRefIdeal.τ).loc Cert.SharedSampleRefIdeal.main_arg2) = m ((c.tc : Thread Cert.SharedSampleRefIdeal.nD Cert.SharedSampleRefIdeal.τ).loc Cert.SharedSampleRefIdeal.main_arg2)
      ∧ r.2.mem ((c.tc : Thread Cert.SharedSampleRefIdeal.nD Cert.SharedSampleRefIdeal.τ).loc Cert.SharedSampleRefIdeal.main_arg3) = m ((c.tc : Thread Cert.SharedSampleRefIdeal.nD Cert.SharedSampleRefIdeal.τ).loc Cert.SharedSampleRefIdeal.main_arg3)
      ∧ r.2.mem ((c.tc : Thread Cert.SharedSampleRefIdeal.nD Cert.SharedSampleRefIdeal.τ).loc Cert.SharedSampleRefIdeal.main_arg4) = m ((c.tc : Thread Cert.SharedSampleRefIdeal.nD Cert.SharedSampleRefIdeal.τ).loc Cert.SharedSampleRefIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_v220) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_QkvPrompt_QkvPromptIdeal : Prop :=
  True

def algebraic_QkvPromptIdeal_QkvPromptRefIdeal [hQkvPromptIdeal : Cert.QkvPromptIdeal.Facts] [hQkvPromptRefIdeal : Cert.QkvPromptRefIdeal.Facts] : Prop :=
  ∀ (m : (ℓ : Loc Cert.QkvPromptIdeal.nD Cert.QkvPromptIdeal.τ Cert.QkvPromptIdeal.sig) → Buf (Elt Ideal) ℓ) (g : Dev Cert.QkvPromptIdeal.nD → PrngReg)
    (m' : (ℓ : Loc Cert.QkvPromptRefIdeal.nD Cert.QkvPromptRefIdeal.τ Cert.QkvPromptRefIdeal.sig) → Buf (Elt Ideal) ℓ) (g' : Dev Cert.QkvPromptRefIdeal.nD → PrngReg), Pre_QkvPromptIdeal m →
    (∀ c : Dev Cert.QkvPromptIdeal.nD,
      m' ((c.tc : Thread Cert.QkvPromptRefIdeal.nD Cert.QkvPromptRefIdeal.τ).loc Cert.QkvPromptRefIdeal.main_arg0) = m ((c.tc : Thread Cert.QkvPromptIdeal.nD Cert.QkvPromptIdeal.τ).loc Cert.QkvPromptIdeal.main_arg0)
      ∧ m' ((c.tc : Thread Cert.QkvPromptRefIdeal.nD Cert.QkvPromptRefIdeal.τ).loc Cert.QkvPromptRefIdeal.main_arg1) = m ((c.tc : Thread Cert.QkvPromptIdeal.nD Cert.QkvPromptIdeal.τ).loc Cert.QkvPromptIdeal.main_arg1)) →
    ∃ (v0 : (c : Dev Cert.QkvPromptIdeal.nD) → Buf (Elt Ideal) ((c.tc : Thread Cert.QkvPromptIdeal.nD Cert.QkvPromptIdeal.τ).loc Cert.QkvPromptIdeal.main_v3)) (v1 : (c : Dev Cert.QkvPromptIdeal.nD) → Buf (Elt Ideal) ((c.tc : Thread Cert.QkvPromptIdeal.nD Cert.QkvPromptIdeal.τ).loc Cert.QkvPromptIdeal.main_v6)) (v2 : (c : Dev Cert.QkvPromptIdeal.nD) → Buf (Elt Ideal) ((c.tc : Thread Cert.QkvPromptIdeal.nD Cert.QkvPromptIdeal.τ).loc Cert.QkvPromptIdeal.main_v9)),
      θ_run (Cert.QkvPromptIdeal.defs (F := Ideal)) (onTc (τ := Cert.QkvPromptIdeal.τ) (Cert.QkvPromptIdeal.main (F := Ideal))) ⟨m, fun _ => 0, g⟩ (fun r => ∀ c : Dev Cert.QkvPromptIdeal.nD,
          r.2.mem ((c.tc : Thread Cert.QkvPromptIdeal.nD Cert.QkvPromptIdeal.τ).loc Cert.QkvPromptIdeal.main_v3) = v0 c
          ∧ r.2.mem ((c.tc : Thread Cert.QkvPromptIdeal.nD Cert.QkvPromptIdeal.τ).loc Cert.QkvPromptIdeal.main_v6) = v1 c
          ∧ r.2.mem ((c.tc : Thread Cert.QkvPromptIdeal.nD Cert.QkvPromptIdeal.τ).loc Cert.QkvPromptIdeal.main_v9) = v2 c
          ∧ r.2.mem ((c.tc : Thread Cert.QkvPromptIdeal.nD Cert.QkvPromptIdeal.τ).loc Cert.QkvPromptIdeal.main_arg0) = m ((c.tc : Thread Cert.QkvPromptIdeal.nD Cert.QkvPromptIdeal.τ).loc Cert.QkvPromptIdeal.main_arg0)
          ∧ r.2.mem ((c.tc : Thread Cert.QkvPromptIdeal.nD Cert.QkvPromptIdeal.τ).loc Cert.QkvPromptIdeal.main_arg1) = m ((c.tc : Thread Cert.QkvPromptIdeal.nD Cert.QkvPromptIdeal.τ).loc Cert.QkvPromptIdeal.main_arg1))
      ∧ θ_run (Cert.QkvPromptRefIdeal.defs (F := Ideal)) (onTc (τ := Cert.QkvPromptRefIdeal.τ) (Cert.QkvPromptRefIdeal.main (F := Ideal))) ⟨m', fun _ => 0, g'⟩ (fun r => ∀ c : Dev Cert.QkvPromptRefIdeal.nD,
          r.2.mem ((c.tc : Thread Cert.QkvPromptRefIdeal.nD Cert.QkvPromptRefIdeal.τ).loc Cert.QkvPromptRefIdeal.main_v0) = v0 c
          ∧ r.2.mem ((c.tc : Thread Cert.QkvPromptRefIdeal.nD Cert.QkvPromptRefIdeal.τ).loc Cert.QkvPromptRefIdeal.main_v5) = v1 c
          ∧ r.2.mem ((c.tc : Thread Cert.QkvPromptRefIdeal.nD Cert.QkvPromptRefIdeal.τ).loc Cert.QkvPromptRefIdeal.main_v6) = v2 c
          ∧ r.2.mem ((c.tc : Thread Cert.QkvPromptRefIdeal.nD Cert.QkvPromptRefIdeal.τ).loc Cert.QkvPromptRefIdeal.main_arg0) = m' ((c.tc : Thread Cert.QkvPromptRefIdeal.nD Cert.QkvPromptRefIdeal.τ).loc Cert.QkvPromptRefIdeal.main_arg0)
          ∧ r.2.mem ((c.tc : Thread Cert.QkvPromptRefIdeal.nD Cert.QkvPromptRefIdeal.τ).loc Cert.QkvPromptRefIdeal.main_arg1) = m' ((c.tc : Thread Cert.QkvPromptRefIdeal.nD Cert.QkvPromptRefIdeal.τ).loc Cert.QkvPromptRefIdeal.main_arg1))

def preserves_QkvSample_QkvSampleIdeal : Prop :=
  True

def algebraic_QkvSampleIdeal_QkvSampleRefIdeal [hQkvSampleIdeal : Cert.QkvSampleIdeal.Facts] [hQkvSampleRefIdeal : Cert.QkvSampleRefIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleRefIdeal.nD Cert.QkvSampleRefIdeal.τ Cert.QkvSampleRefIdeal.sig) → Buf (Elt Ideal) ℓ) (g' : Dev Cert.QkvSampleRefIdeal.nD → PrngReg), Pre_QkvSampleIdeal m →
    (∀ c : Dev Cert.QkvSampleIdeal.nD,
      m' ((c.tc : Thread Cert.QkvSampleRefIdeal.nD Cert.QkvSampleRefIdeal.τ).loc Cert.QkvSampleRefIdeal.main_arg0) = m ((c.tc : Thread Cert.QkvSampleIdeal.nD Cert.QkvSampleIdeal.τ).loc Cert.QkvSampleIdeal.main_arg0)
      ∧ m' ((c.tc : Thread Cert.QkvSampleRefIdeal.nD Cert.QkvSampleRefIdeal.τ).loc Cert.QkvSampleRefIdeal.main_arg1) = m ((c.tc : Thread Cert.QkvSampleIdeal.nD Cert.QkvSampleIdeal.τ).loc Cert.QkvSampleIdeal.main_arg1)
      ∧ m' ((c.tc : Thread Cert.QkvSampleRefIdeal.nD Cert.QkvSampleRefIdeal.τ).loc Cert.QkvSampleRefIdeal.main_arg2) = m ((c.tc : Thread Cert.QkvSampleIdeal.nD Cert.QkvSampleIdeal.τ).loc Cert.QkvSampleIdeal.main_arg2)
      ∧ m' ((c.tc : Thread Cert.QkvSampleRefIdeal.nD Cert.QkvSampleRefIdeal.τ).loc Cert.QkvSampleRefIdeal.main_arg3) = m ((c.tc : Thread Cert.QkvSampleIdeal.nD Cert.QkvSampleIdeal.τ).loc Cert.QkvSampleIdeal.main_arg3)) →
    ∃ (v0 : (c : Dev Cert.QkvSampleIdeal.nD) → Buf (Elt Ideal) ((c.tc : Thread Cert.QkvSampleIdeal.nD Cert.QkvSampleIdeal.τ).loc Cert.QkvSampleIdeal.main_v3)) (v1 : (c : Dev Cert.QkvSampleIdeal.nD) → Buf (Elt Ideal) ((c.tc : Thread Cert.QkvSampleIdeal.nD Cert.QkvSampleIdeal.τ).loc Cert.QkvSampleIdeal.main_v7)) (v2 : (c : Dev Cert.QkvSampleIdeal.nD) → Buf (Elt Ideal) ((c.tc : Thread Cert.QkvSampleIdeal.nD Cert.QkvSampleIdeal.τ).loc Cert.QkvSampleIdeal.main_v11)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v3) = v0 c
          ∧ r.2.mem ((c.tc : Thread Cert.QkvSampleIdeal.nD Cert.QkvSampleIdeal.τ).loc Cert.QkvSampleIdeal.main_v7) = v1 c
          ∧ r.2.mem ((c.tc : Thread Cert.QkvSampleIdeal.nD Cert.QkvSampleIdeal.τ).loc Cert.QkvSampleIdeal.main_v11) = v2 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
          ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3))
      ∧ θ_run (Cert.QkvSampleRefIdeal.defs (F := Ideal)) (onTc (τ := Cert.QkvSampleRefIdeal.τ) (Cert.QkvSampleRefIdeal.main (F := Ideal))) ⟨m', fun _ => 0, g'⟩ (fun r => ∀ c : Dev Cert.QkvSampleRefIdeal.nD,
          r.2.mem ((c.tc : Thread Cert.QkvSampleRefIdeal.nD Cert.QkvSampleRefIdeal.τ).loc Cert.QkvSampleRefIdeal.main_v0) = v0 c
          ∧ r.2.mem ((c.tc : Thread Cert.QkvSampleRefIdeal.nD Cert.QkvSampleRefIdeal.τ).loc Cert.QkvSampleRefIdeal.main_v7) = v1 c
          ∧ r.2.mem ((c.tc : Thread Cert.QkvSampleRefIdeal.nD Cert.QkvSampleRefIdeal.τ).loc Cert.QkvSampleRefIdeal.main_v8) = v2 c
          ∧ r.2.mem ((c.tc : Thread Cert.QkvSampleRefIdeal.nD Cert.QkvSampleRefIdeal.τ).loc Cert.QkvSampleRefIdeal.main_arg0) = m' ((c.tc : Thread Cert.QkvSampleRefIdeal.nD Cert.QkvSampleRefIdeal.τ).loc Cert.QkvSampleRefIdeal.main_arg0)
          ∧ r.2.mem ((c.tc : Thread Cert.QkvSampleRefIdeal.nD Cert.QkvSampleRefIdeal.τ).loc Cert.QkvSampleRefIdeal.main_arg1) = m' ((c.tc : Thread Cert.QkvSampleRefIdeal.nD Cert.QkvSampleRefIdeal.τ).loc Cert.QkvSampleRefIdeal.main_arg1)
          ∧ r.2.mem ((c.tc : Thread Cert.QkvSampleRefIdeal.nD Cert.QkvSampleRefIdeal.τ).loc Cert.QkvSampleRefIdeal.main_arg2) = m' ((c.tc : Thread Cert.QkvSampleRefIdeal.nD Cert.QkvSampleRefIdeal.τ).loc Cert.QkvSampleRefIdeal.main_arg2)
          ∧ r.2.mem ((c.tc : Thread Cert.QkvSampleRefIdeal.nD Cert.QkvSampleRefIdeal.τ).loc Cert.QkvSampleRefIdeal.main_arg3) = m' ((c.tc : Thread Cert.QkvSampleRefIdeal.nD Cert.QkvSampleRefIdeal.τ).loc Cert.QkvSampleRefIdeal.main_arg3))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v1) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1))

def preserves_RkvR_RkvRIdeal : Prop :=
  True

def algebraic_RkvRIdeal_RkvRRefIdeal [hRkvRIdeal : Cert.RkvRIdeal.Facts] [hRkvRRefIdeal : Cert.RkvRRefIdeal.Facts] : Prop :=
  ∀ (m : (ℓ : Loc Cert.RkvRIdeal.nD Cert.RkvRIdeal.τ Cert.RkvRIdeal.sig) → Buf (Elt Ideal) ℓ) (g : Dev Cert.RkvRIdeal.nD → PrngReg)
    (m' : (ℓ : Loc Cert.RkvRRefIdeal.nD Cert.RkvRRefIdeal.τ Cert.RkvRRefIdeal.sig) → Buf (Elt Ideal) ℓ) (g' : Dev Cert.RkvRRefIdeal.nD → PrngReg), Pre_RkvRIdeal m →
    (∀ c : Dev Cert.RkvRIdeal.nD,
      m' ((c.tc : Thread Cert.RkvRRefIdeal.nD Cert.RkvRRefIdeal.τ).loc Cert.RkvRRefIdeal.main_arg0) = m ((c.tc : Thread Cert.RkvRIdeal.nD Cert.RkvRIdeal.τ).loc Cert.RkvRIdeal.main_arg0)
      ∧ m' ((c.tc : Thread Cert.RkvRRefIdeal.nD Cert.RkvRRefIdeal.τ).loc Cert.RkvRRefIdeal.main_arg1) = m ((c.tc : Thread Cert.RkvRIdeal.nD Cert.RkvRIdeal.τ).loc Cert.RkvRIdeal.main_arg1)) →
    ∃ (v0 : (c : Dev Cert.RkvRIdeal.nD) → Buf (Elt Ideal) ((c.tc : Thread Cert.RkvRIdeal.nD Cert.RkvRIdeal.τ).loc Cert.RkvRIdeal.main_v0)),
      θ_run (Cert.RkvRIdeal.defs (F := Ideal)) (onTc (τ := Cert.RkvRIdeal.τ) (Cert.RkvRIdeal.main (F := Ideal))) ⟨m, fun _ => 0, g⟩ (fun r => ∀ c : Dev Cert.RkvRIdeal.nD,
          r.2.mem ((c.tc : Thread Cert.RkvRIdeal.nD Cert.RkvRIdeal.τ).loc Cert.RkvRIdeal.main_v0) = v0 c
          ∧ r.2.mem ((c.tc : Thread Cert.RkvRIdeal.nD Cert.RkvRIdeal.τ).loc Cert.RkvRIdeal.main_arg0) = m ((c.tc : Thread Cert.RkvRIdeal.nD Cert.RkvRIdeal.τ).loc Cert.RkvRIdeal.main_arg0)
          ∧ r.2.mem ((c.tc : Thread Cert.RkvRIdeal.nD Cert.RkvRIdeal.τ).loc Cert.RkvRIdeal.main_arg1) = m ((c.tc : Thread Cert.RkvRIdeal.nD Cert.RkvRIdeal.τ).loc Cert.RkvRIdeal.main_arg1))
      ∧ θ_run (Cert.RkvRRefIdeal.defs (F := Ideal)) (onTc (τ := Cert.RkvRRefIdeal.τ) (Cert.RkvRRefIdeal.main (F := Ideal))) ⟨m', fun _ => 0, g'⟩ (fun r => ∀ c : Dev Cert.RkvRRefIdeal.nD,
          r.2.mem ((c.tc : Thread Cert.RkvRRefIdeal.nD Cert.RkvRRefIdeal.τ).loc Cert.RkvRRefIdeal.main_v3) = v0 c
          ∧ r.2.mem ((c.tc : Thread Cert.RkvRRefIdeal.nD Cert.RkvRRefIdeal.τ).loc Cert.RkvRRefIdeal.main_arg0) = m' ((c.tc : Thread Cert.RkvRRefIdeal.nD Cert.RkvRRefIdeal.τ).loc Cert.RkvRRefIdeal.main_arg0)
          ∧ r.2.mem ((c.tc : Thread Cert.RkvRRefIdeal.nD Cert.RkvRRefIdeal.τ).loc Cert.RkvRRefIdeal.main_arg1) = m' ((c.tc : Thread Cert.RkvRRefIdeal.nD Cert.RkvRRefIdeal.τ).loc Cert.RkvRRefIdeal.main_arg1))

def preserves_RkvK_RkvKIdeal : Prop :=
  True

def algebraic_RkvKIdeal_RkvKRefIdeal [hRkvKIdeal : Cert.RkvKIdeal.Facts] [hRkvKRefIdeal : Cert.RkvKRefIdeal.Facts] : Prop :=
  ∀ (m : (ℓ : Loc Cert.RkvKIdeal.nD Cert.RkvKIdeal.τ Cert.RkvKIdeal.sig) → Buf (Elt Ideal) ℓ) (g : Dev Cert.RkvKIdeal.nD → PrngReg)
    (m' : (ℓ : Loc Cert.RkvKRefIdeal.nD Cert.RkvKRefIdeal.τ Cert.RkvKRefIdeal.sig) → Buf (Elt Ideal) ℓ) (g' : Dev Cert.RkvKRefIdeal.nD → PrngReg), Pre_RkvKIdeal m →
    (∀ c : Dev Cert.RkvKIdeal.nD,
      m' ((c.tc : Thread Cert.RkvKRefIdeal.nD Cert.RkvKRefIdeal.τ).loc Cert.RkvKRefIdeal.main_arg0) = m ((c.tc : Thread Cert.RkvKIdeal.nD Cert.RkvKIdeal.τ).loc Cert.RkvKIdeal.main_arg0)
      ∧ m' ((c.tc : Thread Cert.RkvKRefIdeal.nD Cert.RkvKRefIdeal.τ).loc Cert.RkvKRefIdeal.main_arg1) = m ((c.tc : Thread Cert.RkvKIdeal.nD Cert.RkvKIdeal.τ).loc Cert.RkvKIdeal.main_arg1)) →
    ∃ (v0 : (c : Dev Cert.RkvKIdeal.nD) → Buf (Elt Ideal) ((c.tc : Thread Cert.RkvKIdeal.nD Cert.RkvKIdeal.τ).loc Cert.RkvKIdeal.main_v0)),
      θ_run (Cert.RkvKIdeal.defs (F := Ideal)) (onTc (τ := Cert.RkvKIdeal.τ) (Cert.RkvKIdeal.main (F := Ideal))) ⟨m, fun _ => 0, g⟩ (fun r => ∀ c : Dev Cert.RkvKIdeal.nD,
          r.2.mem ((c.tc : Thread Cert.RkvKIdeal.nD Cert.RkvKIdeal.τ).loc Cert.RkvKIdeal.main_v0) = v0 c
          ∧ r.2.mem ((c.tc : Thread Cert.RkvKIdeal.nD Cert.RkvKIdeal.τ).loc Cert.RkvKIdeal.main_arg0) = m ((c.tc : Thread Cert.RkvKIdeal.nD Cert.RkvKIdeal.τ).loc Cert.RkvKIdeal.main_arg0)
          ∧ r.2.mem ((c.tc : Thread Cert.RkvKIdeal.nD Cert.RkvKIdeal.τ).loc Cert.RkvKIdeal.main_arg1) = m ((c.tc : Thread Cert.RkvKIdeal.nD Cert.RkvKIdeal.τ).loc Cert.RkvKIdeal.main_arg1))
      ∧ θ_run (Cert.RkvKRefIdeal.defs (F := Ideal)) (onTc (τ := Cert.RkvKRefIdeal.τ) (Cert.RkvKRefIdeal.main (F := Ideal))) ⟨m', fun _ => 0, g'⟩ (fun r => ∀ c : Dev Cert.RkvKRefIdeal.nD,
          r.2.mem ((c.tc : Thread Cert.RkvKRefIdeal.nD Cert.RkvKRefIdeal.τ).loc Cert.RkvKRefIdeal.main_v3) = v0 c
          ∧ r.2.mem ((c.tc : Thread Cert.RkvKRefIdeal.nD Cert.RkvKRefIdeal.τ).loc Cert.RkvKRefIdeal.main_arg0) = m' ((c.tc : Thread Cert.RkvKRefIdeal.nD Cert.RkvKRefIdeal.τ).loc Cert.RkvKRefIdeal.main_arg0)
          ∧ r.2.mem ((c.tc : Thread Cert.RkvKRefIdeal.nD Cert.RkvKRefIdeal.τ).loc Cert.RkvKRefIdeal.main_arg1) = m' ((c.tc : Thread Cert.RkvKRefIdeal.nD Cert.RkvKRefIdeal.τ).loc Cert.RkvKRefIdeal.main_arg1))

def preserves_RkvV_RkvVIdeal : Prop :=
  True

def algebraic_RkvVIdeal_RkvVRefIdeal [hRkvVIdeal : Cert.RkvVIdeal.Facts] [hRkvVRefIdeal : Cert.RkvVRefIdeal.Facts] : Prop :=
  ∀ (m : (ℓ : Loc Cert.RkvVIdeal.nD Cert.RkvVIdeal.τ Cert.RkvVIdeal.sig) → Buf (Elt Ideal) ℓ) (g : Dev Cert.RkvVIdeal.nD → PrngReg)
    (m' : (ℓ : Loc Cert.RkvVRefIdeal.nD Cert.RkvVRefIdeal.τ Cert.RkvVRefIdeal.sig) → Buf (Elt Ideal) ℓ) (g' : Dev Cert.RkvVRefIdeal.nD → PrngReg), Pre_RkvVIdeal m →
    (∀ c : Dev Cert.RkvVIdeal.nD,
      m' ((c.tc : Thread Cert.RkvVRefIdeal.nD Cert.RkvVRefIdeal.τ).loc Cert.RkvVRefIdeal.main_arg0) = m ((c.tc : Thread Cert.RkvVIdeal.nD Cert.RkvVIdeal.τ).loc Cert.RkvVIdeal.main_arg0)
      ∧ m' ((c.tc : Thread Cert.RkvVRefIdeal.nD Cert.RkvVRefIdeal.τ).loc Cert.RkvVRefIdeal.main_arg1) = m ((c.tc : Thread Cert.RkvVIdeal.nD Cert.RkvVIdeal.τ).loc Cert.RkvVIdeal.main_arg1)) →
    ∃ (v0 : (c : Dev Cert.RkvVIdeal.nD) → Buf (Elt Ideal) ((c.tc : Thread Cert.RkvVIdeal.nD Cert.RkvVIdeal.τ).loc Cert.RkvVIdeal.main_v0)),
      θ_run (Cert.RkvVIdeal.defs (F := Ideal)) (onTc (τ := Cert.RkvVIdeal.τ) (Cert.RkvVIdeal.main (F := Ideal))) ⟨m, fun _ => 0, g⟩ (fun r => ∀ c : Dev Cert.RkvVIdeal.nD,
          r.2.mem ((c.tc : Thread Cert.RkvVIdeal.nD Cert.RkvVIdeal.τ).loc Cert.RkvVIdeal.main_v0) = v0 c
          ∧ r.2.mem ((c.tc : Thread Cert.RkvVIdeal.nD Cert.RkvVIdeal.τ).loc Cert.RkvVIdeal.main_arg0) = m ((c.tc : Thread Cert.RkvVIdeal.nD Cert.RkvVIdeal.τ).loc Cert.RkvVIdeal.main_arg0)
          ∧ r.2.mem ((c.tc : Thread Cert.RkvVIdeal.nD Cert.RkvVIdeal.τ).loc Cert.RkvVIdeal.main_arg1) = m ((c.tc : Thread Cert.RkvVIdeal.nD Cert.RkvVIdeal.τ).loc Cert.RkvVIdeal.main_arg1))
      ∧ θ_run (Cert.RkvVRefIdeal.defs (F := Ideal)) (onTc (τ := Cert.RkvVRefIdeal.τ) (Cert.RkvVRefIdeal.main (F := Ideal))) ⟨m', fun _ => 0, g'⟩ (fun r => ∀ c : Dev Cert.RkvVRefIdeal.nD,
          r.2.mem ((c.tc : Thread Cert.RkvVRefIdeal.nD Cert.RkvVRefIdeal.τ).loc Cert.RkvVRefIdeal.main_v3) = v0 c
          ∧ r.2.mem ((c.tc : Thread Cert.RkvVRefIdeal.nD Cert.RkvVRefIdeal.τ).loc Cert.RkvVRefIdeal.main_arg0) = m' ((c.tc : Thread Cert.RkvVRefIdeal.nD Cert.RkvVRefIdeal.τ).loc Cert.RkvVRefIdeal.main_arg0)
          ∧ r.2.mem ((c.tc : Thread Cert.RkvVRefIdeal.nD Cert.RkvVRefIdeal.τ).loc Cert.RkvVRefIdeal.main_arg1) = m' ((c.tc : Thread Cert.RkvVRefIdeal.nD Cert.RkvVRefIdeal.τ).loc Cert.RkvVRefIdeal.main_arg1))

def preserves_TimeOut_TimeOutIdeal : Prop :=
  True

def algebraic_TimeOutIdeal_TimeOutRefIdeal [hTimeOutIdeal : Cert.TimeOutIdeal.Facts] [hTimeOutRefIdeal : Cert.TimeOutRefIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg)
    (m' : (ℓ : Loc Cert.TimeOutRefIdeal.nD Cert.TimeOutRefIdeal.τ Cert.TimeOutRefIdeal.sig) → Buf (Elt Ideal) ℓ) (g' : Dev Cert.TimeOutRefIdeal.nD → PrngReg), Pre_TimeOutIdeal m →
    (∀ c : Dev Cert.TimeOutIdeal.nD,
      m' ((c.tc : Thread Cert.TimeOutRefIdeal.nD Cert.TimeOutRefIdeal.τ).loc Cert.TimeOutRefIdeal.main_arg0) = m ((c.tc : Thread Cert.TimeOutIdeal.nD Cert.TimeOutIdeal.τ).loc Cert.TimeOutIdeal.main_arg0)
      ∧ m' ((c.tc : Thread Cert.TimeOutRefIdeal.nD Cert.TimeOutRefIdeal.τ).loc Cert.TimeOutRefIdeal.main_arg1) = m ((c.tc : Thread Cert.TimeOutIdeal.nD Cert.TimeOutIdeal.τ).loc Cert.TimeOutIdeal.main_arg1)) →
    ∃ (v0 : (c : Dev Cert.TimeOutIdeal.nD) → Buf (Elt Ideal) ((c.tc : Thread Cert.TimeOutIdeal.nD Cert.TimeOutIdeal.τ).loc Cert.TimeOutIdeal.main_v0)),
      θ_run (Cert.TimeOutIdeal.defs (F := Ideal)) (onTc (τ := Cert.TimeOutIdeal.τ) (Cert.TimeOutIdeal.main (F := Ideal))) ⟨m, fun _ => 0, g⟩ (fun r => ∀ c : Dev Cert.TimeOutIdeal.nD,
          r.2.mem ((c.tc : Thread Cert.TimeOutIdeal.nD Cert.TimeOutIdeal.τ).loc Cert.TimeOutIdeal.main_v0) = v0 c
          ∧ r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
          ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1))
      ∧ θ_run (Cert.TimeOutRefIdeal.defs (F := Ideal)) (onTc (τ := Cert.TimeOutRefIdeal.τ) (Cert.TimeOutRefIdeal.main (F := Ideal))) ⟨m', fun _ => 0, g'⟩ (fun r => ∀ c : Dev Cert.TimeOutRefIdeal.nD,
          r.2.mem ((c.tc : Thread Cert.TimeOutRefIdeal.nD Cert.TimeOutRefIdeal.τ).loc Cert.TimeOutRefIdeal.main_v0) = v0 c
          ∧ r.2.mem ((c.tc : Thread Cert.TimeOutRefIdeal.nD Cert.TimeOutRefIdeal.τ).loc Cert.TimeOutRefIdeal.main_arg0) = m' ((c.tc : Thread Cert.TimeOutRefIdeal.nD Cert.TimeOutRefIdeal.τ).loc Cert.TimeOutRefIdeal.main_arg0)
          ∧ r.2.mem ((c.tc : Thread Cert.TimeOutRefIdeal.nD Cert.TimeOutRefIdeal.τ).loc Cert.TimeOutRefIdeal.main_arg1) = m' ((c.tc : Thread Cert.TimeOutRefIdeal.nD Cert.TimeOutRefIdeal.τ).loc Cert.TimeOutRefIdeal.main_arg1))

def preserves_PeerQ0_PeerQ0Ideal : Prop :=
  True

def algebraic_PeerQ0Ideal_PeerQ0RefIdeal [hPeerQ0Ideal : Cert.PeerQ0Ideal.Facts] [hPeerQ0RefIdeal : Cert.PeerQ0RefIdeal.Facts] : Prop :=
  ∀ (m : (ℓ : Loc Cert.PeerQ0Ideal.nD Cert.PeerQ0Ideal.τ Cert.PeerQ0Ideal.sig) → Buf (Elt Ideal) ℓ) (g : Dev Cert.PeerQ0Ideal.nD → PrngReg)
    (m' : (ℓ : Loc Cert.PeerQ0RefIdeal.nD Cert.PeerQ0RefIdeal.τ Cert.PeerQ0RefIdeal.sig) → Buf (Elt Ideal) ℓ) (g' : Dev Cert.PeerQ0RefIdeal.nD → PrngReg), Pre_PeerQ0Ideal m →
    (∀ c : Dev Cert.PeerQ0Ideal.nD,
      m' ((c.tc : Thread Cert.PeerQ0RefIdeal.nD Cert.PeerQ0RefIdeal.τ).loc Cert.PeerQ0RefIdeal.main_arg0) = m ((c.tc : Thread Cert.PeerQ0Ideal.nD Cert.PeerQ0Ideal.τ).loc Cert.PeerQ0Ideal.main_arg0)
      ∧ m' ((c.tc : Thread Cert.PeerQ0RefIdeal.nD Cert.PeerQ0RefIdeal.τ).loc Cert.PeerQ0RefIdeal.main_arg1) = m ((c.tc : Thread Cert.PeerQ0Ideal.nD Cert.PeerQ0Ideal.τ).loc Cert.PeerQ0Ideal.main_arg1)) →
    ∃ (v0 : (c : Dev Cert.PeerQ0Ideal.nD) → Buf (Elt Ideal) ((c.tc : Thread Cert.PeerQ0Ideal.nD Cert.PeerQ0Ideal.τ).loc Cert.PeerQ0Ideal.main_v0)),
      θ_run (Cert.PeerQ0Ideal.defs (F := Ideal)) (onTc (τ := Cert.PeerQ0Ideal.τ) (Cert.PeerQ0Ideal.main (F := Ideal))) ⟨m, fun _ => 0, g⟩ (fun r => ∀ c : Dev Cert.PeerQ0Ideal.nD,
          r.2.mem ((c.tc : Thread Cert.PeerQ0Ideal.nD Cert.PeerQ0Ideal.τ).loc Cert.PeerQ0Ideal.main_v0) = v0 c
          ∧ r.2.mem ((c.tc : Thread Cert.PeerQ0Ideal.nD Cert.PeerQ0Ideal.τ).loc Cert.PeerQ0Ideal.main_arg0) = m ((c.tc : Thread Cert.PeerQ0Ideal.nD Cert.PeerQ0Ideal.τ).loc Cert.PeerQ0Ideal.main_arg0)
          ∧ r.2.mem ((c.tc : Thread Cert.PeerQ0Ideal.nD Cert.PeerQ0Ideal.τ).loc Cert.PeerQ0Ideal.main_arg1) = m ((c.tc : Thread Cert.PeerQ0Ideal.nD Cert.PeerQ0Ideal.τ).loc Cert.PeerQ0Ideal.main_arg1))
      ∧ θ_run (Cert.PeerQ0RefIdeal.defs (F := Ideal)) (onTc (τ := Cert.PeerQ0RefIdeal.τ) (Cert.PeerQ0RefIdeal.main (F := Ideal))) ⟨m', fun _ => 0, g'⟩ (fun r => ∀ c : Dev Cert.PeerQ0RefIdeal.nD,
          r.2.mem ((c.tc : Thread Cert.PeerQ0RefIdeal.nD Cert.PeerQ0RefIdeal.τ).loc Cert.PeerQ0RefIdeal.main_v3) = v0 c
          ∧ r.2.mem ((c.tc : Thread Cert.PeerQ0RefIdeal.nD Cert.PeerQ0RefIdeal.τ).loc Cert.PeerQ0RefIdeal.main_arg0) = m' ((c.tc : Thread Cert.PeerQ0RefIdeal.nD Cert.PeerQ0RefIdeal.τ).loc Cert.PeerQ0RefIdeal.main_arg0)
          ∧ r.2.mem ((c.tc : Thread Cert.PeerQ0RefIdeal.nD Cert.PeerQ0RefIdeal.τ).loc Cert.PeerQ0RefIdeal.main_arg1) = m' ((c.tc : Thread Cert.PeerQ0RefIdeal.nD Cert.PeerQ0RefIdeal.τ).loc Cert.PeerQ0RefIdeal.main_arg1))

def preserves_PeerQ1_PeerQ1Ideal : Prop :=
  True

def algebraic_PeerQ1Ideal_PeerQ1RefIdeal [hPeerQ1Ideal : Cert.PeerQ1Ideal.Facts] [hPeerQ1RefIdeal : Cert.PeerQ1RefIdeal.Facts] : Prop :=
  ∀ (m : (ℓ : Loc Cert.PeerQ1Ideal.nD Cert.PeerQ1Ideal.τ Cert.PeerQ1Ideal.sig) → Buf (Elt Ideal) ℓ) (g : Dev Cert.PeerQ1Ideal.nD → PrngReg)
    (m' : (ℓ : Loc Cert.PeerQ1RefIdeal.nD Cert.PeerQ1RefIdeal.τ Cert.PeerQ1RefIdeal.sig) → Buf (Elt Ideal) ℓ) (g' : Dev Cert.PeerQ1RefIdeal.nD → PrngReg), Pre_PeerQ1Ideal m →
    (∀ c : Dev Cert.PeerQ1Ideal.nD,
      m' ((c.tc : Thread Cert.PeerQ1RefIdeal.nD Cert.PeerQ1RefIdeal.τ).loc Cert.PeerQ1RefIdeal.main_arg0) = m ((c.tc : Thread Cert.PeerQ1Ideal.nD Cert.PeerQ1Ideal.τ).loc Cert.PeerQ1Ideal.main_arg0)
      ∧ m' ((c.tc : Thread Cert.PeerQ1RefIdeal.nD Cert.PeerQ1RefIdeal.τ).loc Cert.PeerQ1RefIdeal.main_arg1) = m ((c.tc : Thread Cert.PeerQ1Ideal.nD Cert.PeerQ1Ideal.τ).loc Cert.PeerQ1Ideal.main_arg1)) →
    ∃ (v0 : (c : Dev Cert.PeerQ1Ideal.nD) → Buf (Elt Ideal) ((c.tc : Thread Cert.PeerQ1Ideal.nD Cert.PeerQ1Ideal.τ).loc Cert.PeerQ1Ideal.main_v0)),
      θ_run (Cert.PeerQ1Ideal.defs (F := Ideal)) (onTc (τ := Cert.PeerQ1Ideal.τ) (Cert.PeerQ1Ideal.main (F := Ideal))) ⟨m, fun _ => 0, g⟩ (fun r => ∀ c : Dev Cert.PeerQ1Ideal.nD,
          r.2.mem ((c.tc : Thread Cert.PeerQ1Ideal.nD Cert.PeerQ1Ideal.τ).loc Cert.PeerQ1Ideal.main_v0) = v0 c
          ∧ r.2.mem ((c.tc : Thread Cert.PeerQ1Ideal.nD Cert.PeerQ1Ideal.τ).loc Cert.PeerQ1Ideal.main_arg0) = m ((c.tc : Thread Cert.PeerQ1Ideal.nD Cert.PeerQ1Ideal.τ).loc Cert.PeerQ1Ideal.main_arg0)
          ∧ r.2.mem ((c.tc : Thread Cert.PeerQ1Ideal.nD Cert.PeerQ1Ideal.τ).loc Cert.PeerQ1Ideal.main_arg1) = m ((c.tc : Thread Cert.PeerQ1Ideal.nD Cert.PeerQ1Ideal.τ).loc Cert.PeerQ1Ideal.main_arg1))
      ∧ θ_run (Cert.PeerQ1RefIdeal.defs (F := Ideal)) (onTc (τ := Cert.PeerQ1RefIdeal.τ) (Cert.PeerQ1RefIdeal.main (F := Ideal))) ⟨m', fun _ => 0, g'⟩ (fun r => ∀ c : Dev Cert.PeerQ1RefIdeal.nD,
          r.2.mem ((c.tc : Thread Cert.PeerQ1RefIdeal.nD Cert.PeerQ1RefIdeal.τ).loc Cert.PeerQ1RefIdeal.main_v3) = v0 c
          ∧ r.2.mem ((c.tc : Thread Cert.PeerQ1RefIdeal.nD Cert.PeerQ1RefIdeal.τ).loc Cert.PeerQ1RefIdeal.main_arg0) = m' ((c.tc : Thread Cert.PeerQ1RefIdeal.nD Cert.PeerQ1RefIdeal.τ).loc Cert.PeerQ1RefIdeal.main_arg0)
          ∧ r.2.mem ((c.tc : Thread Cert.PeerQ1RefIdeal.nD Cert.PeerQ1RefIdeal.τ).loc Cert.PeerQ1RefIdeal.main_arg1) = m' ((c.tc : Thread Cert.PeerQ1RefIdeal.nD Cert.PeerQ1RefIdeal.τ).loc Cert.PeerQ1RefIdeal.main_arg1))

def preserves_LnPrompt_LnPromptIdeal : Prop :=
  True

def algebraic_LnPromptIdeal_LnPromptRefIdeal [hLnPromptIdeal : Cert.LnPromptIdeal.Facts] [hLnPromptRefIdeal : Cert.LnPromptRefIdeal.Facts] : Prop :=
  ∀ (m : (ℓ : Loc Cert.LnPromptIdeal.nD Cert.LnPromptIdeal.τ Cert.LnPromptIdeal.sig) → Buf (Elt Ideal) ℓ) (g : Dev Cert.LnPromptIdeal.nD → PrngReg)
    (m' : (ℓ : Loc Cert.LnPromptRefIdeal.nD Cert.LnPromptRefIdeal.τ Cert.LnPromptRefIdeal.sig) → Buf (Elt Ideal) ℓ) (g' : Dev Cert.LnPromptRefIdeal.nD → PrngReg), Pre_LnPromptIdeal m →
    (∀ c : Dev Cert.LnPromptIdeal.nD,
      m' ((c.tc : Thread Cert.LnPromptRefIdeal.nD Cert.LnPromptRefIdeal.τ).loc Cert.LnPromptRefIdeal.main_arg0) = m ((c.tc : Thread Cert.LnPromptIdeal.nD Cert.LnPromptIdeal.τ).loc Cert.LnPromptIdeal.main_arg0)
      ∧ m' ((c.tc : Thread Cert.LnPromptRefIdeal.nD Cert.LnPromptRefIdeal.τ).loc Cert.LnPromptRefIdeal.main_arg1) = m ((c.tc : Thread Cert.LnPromptIdeal.nD Cert.LnPromptIdeal.τ).loc Cert.LnPromptIdeal.main_arg1)
      ∧ m' ((c.tc : Thread Cert.LnPromptRefIdeal.nD Cert.LnPromptRefIdeal.τ).loc Cert.LnPromptRefIdeal.main_arg2) = m ((c.tc : Thread Cert.LnPromptIdeal.nD Cert.LnPromptIdeal.τ).loc Cert.LnPromptIdeal.main_arg2)
      ∧ m' ((c.tc : Thread Cert.LnPromptRefIdeal.nD Cert.LnPromptRefIdeal.τ).loc Cert.LnPromptRefIdeal.main_arg3) = m ((c.tc : Thread Cert.LnPromptIdeal.nD Cert.LnPromptIdeal.τ).loc Cert.LnPromptIdeal.main_arg3)) →
    ∃ (v0 : (c : Dev Cert.LnPromptIdeal.nD) → Buf (Elt Ideal) ((c.tc : Thread Cert.LnPromptIdeal.nD Cert.LnPromptIdeal.τ).loc Cert.LnPromptIdeal.main_v2_0)),
      θ_run (Cert.LnPromptIdeal.defs (F := Ideal)) (onTc (τ := Cert.LnPromptIdeal.τ) (Cert.LnPromptIdeal.main (F := Ideal))) ⟨m, fun _ => 0, g⟩ (fun r => ∀ c : Dev Cert.LnPromptIdeal.nD,
          r.2.mem ((c.tc : Thread Cert.LnPromptIdeal.nD Cert.LnPromptIdeal.τ).loc Cert.LnPromptIdeal.main_v2_0) = v0 c
          ∧ r.2.mem ((c.tc : Thread Cert.LnPromptIdeal.nD Cert.LnPromptIdeal.τ).loc Cert.LnPromptIdeal.main_arg0) = m ((c.tc : Thread Cert.LnPromptIdeal.nD Cert.LnPromptIdeal.τ).loc Cert.LnPromptIdeal.main_arg0)
          ∧ r.2.mem ((c.tc : Thread Cert.LnPromptIdeal.nD Cert.LnPromptIdeal.τ).loc Cert.LnPromptIdeal.main_arg1) = m ((c.tc : Thread Cert.LnPromptIdeal.nD Cert.LnPromptIdeal.τ).loc Cert.LnPromptIdeal.main_arg1)
          ∧ r.2.mem ((c.tc : Thread Cert.LnPromptIdeal.nD Cert.LnPromptIdeal.τ).loc Cert.LnPromptIdeal.main_arg2) = m ((c.tc : Thread Cert.LnPromptIdeal.nD Cert.LnPromptIdeal.τ).loc Cert.LnPromptIdeal.main_arg2)
          ∧ r.2.mem ((c.tc : Thread Cert.LnPromptIdeal.nD Cert.LnPromptIdeal.τ).loc Cert.LnPromptIdeal.main_arg3) = m ((c.tc : Thread Cert.LnPromptIdeal.nD Cert.LnPromptIdeal.τ).loc Cert.LnPromptIdeal.main_arg3))
      ∧ θ_run (Cert.LnPromptRefIdeal.defs (F := Ideal)) (onTc (τ := Cert.LnPromptRefIdeal.τ) (Cert.LnPromptRefIdeal.main (F := Ideal))) ⟨m', fun _ => 0, g'⟩ (fun r => ∀ c : Dev Cert.LnPromptRefIdeal.nD,
          r.2.mem ((c.tc : Thread Cert.LnPromptRefIdeal.nD Cert.LnPromptRefIdeal.τ).loc Cert.LnPromptRefIdeal.main_v26) = v0 c
          ∧ r.2.mem ((c.tc : Thread Cert.LnPromptRefIdeal.nD Cert.LnPromptRefIdeal.τ).loc Cert.LnPromptRefIdeal.main_arg0) = m' ((c.tc : Thread Cert.LnPromptRefIdeal.nD Cert.LnPromptRefIdeal.τ).loc Cert.LnPromptRefIdeal.main_arg0)
          ∧ r.2.mem ((c.tc : Thread Cert.LnPromptRefIdeal.nD Cert.LnPromptRefIdeal.τ).loc Cert.LnPromptRefIdeal.main_arg1) = m' ((c.tc : Thread Cert.LnPromptRefIdeal.nD Cert.LnPromptRefIdeal.τ).loc Cert.LnPromptRefIdeal.main_arg1)
          ∧ r.2.mem ((c.tc : Thread Cert.LnPromptRefIdeal.nD Cert.LnPromptRefIdeal.τ).loc Cert.LnPromptRefIdeal.main_arg2) = m' ((c.tc : Thread Cert.LnPromptRefIdeal.nD Cert.LnPromptRefIdeal.τ).loc Cert.LnPromptRefIdeal.main_arg2)
          ∧ r.2.mem ((c.tc : Thread Cert.LnPromptRefIdeal.nD Cert.LnPromptRefIdeal.τ).loc Cert.LnPromptRefIdeal.main_arg3) = m' ((c.tc : Thread Cert.LnPromptRefIdeal.nD Cert.LnPromptRefIdeal.τ).loc Cert.LnPromptRefIdeal.main_arg3))

def preserves_LnSample_LnSampleIdeal : Prop :=
  True

def algebraic_LnSampleIdeal_LnSampleRefIdeal [hLnSampleIdeal : Cert.LnSampleIdeal.Facts] [hLnSampleRefIdeal : Cert.LnSampleRefIdeal.Facts] : Prop :=
  ∀ (m : (ℓ : Loc Cert.LnSampleIdeal.nD Cert.LnSampleIdeal.τ Cert.LnSampleIdeal.sig) → Buf (Elt Ideal) ℓ) (g : Dev Cert.LnSampleIdeal.nD → PrngReg)
    (m' : (ℓ : Loc Cert.LnSampleRefIdeal.nD Cert.LnSampleRefIdeal.τ Cert.LnSampleRefIdeal.sig) → Buf (Elt Ideal) ℓ) (g' : Dev Cert.LnSampleRefIdeal.nD → PrngReg), Pre_LnSampleIdeal m →
    (∀ c : Dev Cert.LnSampleIdeal.nD,
      m' ((c.tc : Thread Cert.LnSampleRefIdeal.nD Cert.LnSampleRefIdeal.τ).loc Cert.LnSampleRefIdeal.main_arg0) = m ((c.tc : Thread Cert.LnSampleIdeal.nD Cert.LnSampleIdeal.τ).loc Cert.LnSampleIdeal.main_arg0)
      ∧ m' ((c.tc : Thread Cert.LnSampleRefIdeal.nD Cert.LnSampleRefIdeal.τ).loc Cert.LnSampleRefIdeal.main_arg1) = m ((c.tc : Thread Cert.LnSampleIdeal.nD Cert.LnSampleIdeal.τ).loc Cert.LnSampleIdeal.main_arg1)
      ∧ m' ((c.tc : Thread Cert.LnSampleRefIdeal.nD Cert.LnSampleRefIdeal.τ).loc Cert.LnSampleRefIdeal.main_arg2) = m ((c.tc : Thread Cert.LnSampleIdeal.nD Cert.LnSampleIdeal.τ).loc Cert.LnSampleIdeal.main_arg2)
      ∧ m' ((c.tc : Thread Cert.LnSampleRefIdeal.nD Cert.LnSampleRefIdeal.τ).loc Cert.LnSampleRefIdeal.main_arg3) = m ((c.tc : Thread Cert.LnSampleIdeal.nD Cert.LnSampleIdeal.τ).loc Cert.LnSampleIdeal.main_arg3)) →
    ∃ (v0 : (c : Dev Cert.LnSampleIdeal.nD) → Buf (Elt Ideal) ((c.tc : Thread Cert.LnSampleIdeal.nD Cert.LnSampleIdeal.τ).loc Cert.LnSampleIdeal.main_v2_0)),
      θ_run (Cert.LnSampleIdeal.defs (F := Ideal)) (onTc (τ := Cert.LnSampleIdeal.τ) (Cert.LnSampleIdeal.main (F := Ideal))) ⟨m, fun _ => 0, g⟩ (fun r => ∀ c : Dev Cert.LnSampleIdeal.nD,
          r.2.mem ((c.tc : Thread Cert.LnSampleIdeal.nD Cert.LnSampleIdeal.τ).loc Cert.LnSampleIdeal.main_v2_0) = v0 c
          ∧ r.2.mem ((c.tc : Thread Cert.LnSampleIdeal.nD Cert.LnSampleIdeal.τ).loc Cert.LnSampleIdeal.main_arg0) = m ((c.tc : Thread Cert.LnSampleIdeal.nD Cert.LnSampleIdeal.τ).loc Cert.LnSampleIdeal.main_arg0)
          ∧ r.2.mem ((c.tc : Thread Cert.LnSampleIdeal.nD Cert.LnSampleIdeal.τ).loc Cert.LnSampleIdeal.main_arg1) = m ((c.tc : Thread Cert.LnSampleIdeal.nD Cert.LnSampleIdeal.τ).loc Cert.LnSampleIdeal.main_arg1)
          ∧ r.2.mem ((c.tc : Thread Cert.LnSampleIdeal.nD Cert.LnSampleIdeal.τ).loc Cert.LnSampleIdeal.main_arg2) = m ((c.tc : Thread Cert.LnSampleIdeal.nD Cert.LnSampleIdeal.τ).loc Cert.LnSampleIdeal.main_arg2)
          ∧ r.2.mem ((c.tc : Thread Cert.LnSampleIdeal.nD Cert.LnSampleIdeal.τ).loc Cert.LnSampleIdeal.main_arg3) = m ((c.tc : Thread Cert.LnSampleIdeal.nD Cert.LnSampleIdeal.τ).loc Cert.LnSampleIdeal.main_arg3))
      ∧ θ_run (Cert.LnSampleRefIdeal.defs (F := Ideal)) (onTc (τ := Cert.LnSampleRefIdeal.τ) (Cert.LnSampleRefIdeal.main (F := Ideal))) ⟨m', fun _ => 0, g'⟩ (fun r => ∀ c : Dev Cert.LnSampleRefIdeal.nD,
          r.2.mem ((c.tc : Thread Cert.LnSampleRefIdeal.nD Cert.LnSampleRefIdeal.τ).loc Cert.LnSampleRefIdeal.main_v26) = v0 c
          ∧ r.2.mem ((c.tc : Thread Cert.LnSampleRefIdeal.nD Cert.LnSampleRefIdeal.τ).loc Cert.LnSampleRefIdeal.main_arg0) = m' ((c.tc : Thread Cert.LnSampleRefIdeal.nD Cert.LnSampleRefIdeal.τ).loc Cert.LnSampleRefIdeal.main_arg0)
          ∧ r.2.mem ((c.tc : Thread Cert.LnSampleRefIdeal.nD Cert.LnSampleRefIdeal.τ).loc Cert.LnSampleRefIdeal.main_arg1) = m' ((c.tc : Thread Cert.LnSampleRefIdeal.nD Cert.LnSampleRefIdeal.τ).loc Cert.LnSampleRefIdeal.main_arg1)
          ∧ r.2.mem ((c.tc : Thread Cert.LnSampleRefIdeal.nD Cert.LnSampleRefIdeal.τ).loc Cert.LnSampleRefIdeal.main_arg2) = m' ((c.tc : Thread Cert.LnSampleRefIdeal.nD Cert.LnSampleRefIdeal.τ).loc Cert.LnSampleRefIdeal.main_arg2)
          ∧ r.2.mem ((c.tc : Thread Cert.LnSampleRefIdeal.nD Cert.LnSampleRefIdeal.τ).loc Cert.LnSampleRefIdeal.main_arg3) = m' ((c.tc : Thread Cert.LnSampleRefIdeal.nD Cert.LnSampleRefIdeal.τ).loc Cert.LnSampleRefIdeal.main_arg3))

def preserves_WkvSample_WkvSampleIdeal : Prop :=
  True

def algebraic_WkvSampleIdeal_WkvSampleRefIdeal [hWkvSampleIdeal : Cert.WkvSampleIdeal.Facts] [hWkvSampleRefIdeal : Cert.WkvSampleRefIdeal.Facts] : Prop :=
  ∀ (m : (ℓ : Loc Cert.WkvSampleIdeal.nD Cert.WkvSampleIdeal.τ Cert.WkvSampleIdeal.sig) → Buf (Elt Ideal) ℓ) (g : Dev Cert.WkvSampleIdeal.nD → PrngReg)
    (m' : (ℓ : Loc Cert.WkvSampleRefIdeal.nD Cert.WkvSampleRefIdeal.τ Cert.WkvSampleRefIdeal.sig) → Buf (Elt Ideal) ℓ) (g' : Dev Cert.WkvSampleRefIdeal.nD → PrngReg), Pre_WkvSampleIdeal m →
    (∀ c : Dev Cert.WkvSampleIdeal.nD,
      m' ((c.tc : Thread Cert.WkvSampleRefIdeal.nD Cert.WkvSampleRefIdeal.τ).loc Cert.WkvSampleRefIdeal.main_arg0) = m ((c.tc : Thread Cert.WkvSampleIdeal.nD Cert.WkvSampleIdeal.τ).loc Cert.WkvSampleIdeal.main_arg0)
      ∧ m' ((c.tc : Thread Cert.WkvSampleRefIdeal.nD Cert.WkvSampleRefIdeal.τ).loc Cert.WkvSampleRefIdeal.main_arg1) = m ((c.tc : Thread Cert.WkvSampleIdeal.nD Cert.WkvSampleIdeal.τ).loc Cert.WkvSampleIdeal.main_arg1)
      ∧ m' ((c.tc : Thread Cert.WkvSampleRefIdeal.nD Cert.WkvSampleRefIdeal.τ).loc Cert.WkvSampleRefIdeal.main_arg2) = m ((c.tc : Thread Cert.WkvSampleIdeal.nD Cert.WkvSampleIdeal.τ).loc Cert.WkvSampleIdeal.main_arg2)
      ∧ m' ((c.tc : Thread Cert.WkvSampleRefIdeal.nD Cert.WkvSampleRefIdeal.τ).loc Cert.WkvSampleRefIdeal.main_arg3) = m ((c.tc : Thread Cert.WkvSampleIdeal.nD Cert.WkvSampleIdeal.τ).loc Cert.WkvSampleIdeal.main_arg3)
      ∧ m' ((c.tc : Thread Cert.WkvSampleRefIdeal.nD Cert.WkvSampleRefIdeal.τ).loc Cert.WkvSampleRefIdeal.main_arg4) = m ((c.tc : Thread Cert.WkvSampleIdeal.nD Cert.WkvSampleIdeal.τ).loc Cert.WkvSampleIdeal.main_arg4)
      ∧ m' ((c.tc : Thread Cert.WkvSampleRefIdeal.nD Cert.WkvSampleRefIdeal.τ).loc Cert.WkvSampleRefIdeal.main_arg5) = m ((c.tc : Thread Cert.WkvSampleIdeal.nD Cert.WkvSampleIdeal.τ).loc Cert.WkvSampleIdeal.main_arg5)
      ∧ m' ((c.tc : Thread Cert.WkvSampleRefIdeal.nD Cert.WkvSampleRefIdeal.τ).loc Cert.WkvSampleRefIdeal.main_arg6) = m ((c.tc : Thread Cert.WkvSampleIdeal.nD Cert.WkvSampleIdeal.τ).loc Cert.WkvSampleIdeal.main_arg6)
      ∧ m' ((c.tc : Thread Cert.WkvSampleRefIdeal.nD Cert.WkvSampleRefIdeal.τ).loc Cert.WkvSampleRefIdeal.main_arg7) = m ((c.tc : Thread Cert.WkvSampleIdeal.nD Cert.WkvSampleIdeal.τ).loc Cert.WkvSampleIdeal.main_arg7)
      ∧ m' ((c.tc : Thread Cert.WkvSampleRefIdeal.nD Cert.WkvSampleRefIdeal.τ).loc Cert.WkvSampleRefIdeal.main_arg8) = m ((c.tc : Thread Cert.WkvSampleIdeal.nD Cert.WkvSampleIdeal.τ).loc Cert.WkvSampleIdeal.main_arg8)
      ∧ m' ((c.tc : Thread Cert.WkvSampleRefIdeal.nD Cert.WkvSampleRefIdeal.τ).loc Cert.WkvSampleRefIdeal.main_arg9) = m ((c.tc : Thread Cert.WkvSampleIdeal.nD Cert.WkvSampleIdeal.τ).loc Cert.WkvSampleIdeal.main_arg9)
      ∧ m' ((c.tc : Thread Cert.WkvSampleRefIdeal.nD Cert.WkvSampleRefIdeal.τ).loc Cert.WkvSampleRefIdeal.main_arg10) = m ((c.tc : Thread Cert.WkvSampleIdeal.nD Cert.WkvSampleIdeal.τ).loc Cert.WkvSampleIdeal.main_arg10)
      ∧ m' ((c.tc : Thread Cert.WkvSampleRefIdeal.nD Cert.WkvSampleRefIdeal.τ).loc Cert.WkvSampleRefIdeal.main_arg11) = m ((c.tc : Thread Cert.WkvSampleIdeal.nD Cert.WkvSampleIdeal.τ).loc Cert.WkvSampleIdeal.main_arg11)
      ∧ m' ((c.tc : Thread Cert.WkvSampleRefIdeal.nD Cert.WkvSampleRefIdeal.τ).loc Cert.WkvSampleRefIdeal.main_arg12) = m ((c.tc : Thread Cert.WkvSampleIdeal.nD Cert.WkvSampleIdeal.τ).loc Cert.WkvSampleIdeal.main_arg12)
      ∧ m' ((c.tc : Thread Cert.WkvSampleRefIdeal.nD Cert.WkvSampleRefIdeal.τ).loc Cert.WkvSampleRefIdeal.main_arg13) = m ((c.tc : Thread Cert.WkvSampleIdeal.nD Cert.WkvSampleIdeal.τ).loc Cert.WkvSampleIdeal.main_arg13)) →
    ∃ (v0 : (c : Dev Cert.WkvSampleIdeal.nD) → Buf (Elt Ideal) ((c.tc : Thread Cert.WkvSampleIdeal.nD Cert.WkvSampleIdeal.τ).loc Cert.WkvSampleIdeal.main_v17_0)) (v1 : (c : Dev Cert.WkvSampleIdeal.nD) → Buf (Elt Ideal) ((c.tc : Thread Cert.WkvSampleIdeal.nD Cert.WkvSampleIdeal.τ).loc Cert.WkvSampleIdeal.main_v17_1)),
      θ_run (Cert.WkvSampleIdeal.defs (F := Ideal)) (onTc (τ := Cert.WkvSampleIdeal.τ) (Cert.WkvSampleIdeal.main (F := Ideal))) ⟨m, fun _ => 0, g⟩ (fun r => ∀ c : Dev Cert.WkvSampleIdeal.nD,
          r.2.mem ((c.tc : Thread Cert.WkvSampleIdeal.nD Cert.WkvSampleIdeal.τ).loc Cert.WkvSampleIdeal.main_v17_0) = v0 c
          ∧ r.2.mem ((c.tc : Thread Cert.WkvSampleIdeal.nD Cert.WkvSampleIdeal.τ).loc Cert.WkvSampleIdeal.main_v17_1) = v1 c
          ∧ r.2.mem ((c.tc : Thread Cert.WkvSampleIdeal.nD Cert.WkvSampleIdeal.τ).loc Cert.WkvSampleIdeal.main_arg0) = m ((c.tc : Thread Cert.WkvSampleIdeal.nD Cert.WkvSampleIdeal.τ).loc Cert.WkvSampleIdeal.main_arg0)
          ∧ r.2.mem ((c.tc : Thread Cert.WkvSampleIdeal.nD Cert.WkvSampleIdeal.τ).loc Cert.WkvSampleIdeal.main_arg1) = m ((c.tc : Thread Cert.WkvSampleIdeal.nD Cert.WkvSampleIdeal.τ).loc Cert.WkvSampleIdeal.main_arg1)
          ∧ r.2.mem ((c.tc : Thread Cert.WkvSampleIdeal.nD Cert.WkvSampleIdeal.τ).loc Cert.WkvSampleIdeal.main_arg2) = m ((c.tc : Thread Cert.WkvSampleIdeal.nD Cert.WkvSampleIdeal.τ).loc Cert.WkvSampleIdeal.main_arg2)
          ∧ r.2.mem ((c.tc : Thread Cert.WkvSampleIdeal.nD Cert.WkvSampleIdeal.τ).loc Cert.WkvSampleIdeal.main_arg3) = m ((c.tc : Thread Cert.WkvSampleIdeal.nD Cert.WkvSampleIdeal.τ).loc Cert.WkvSampleIdeal.main_arg3)
          ∧ r.2.mem ((c.tc : Thread Cert.WkvSampleIdeal.nD Cert.WkvSampleIdeal.τ).loc Cert.WkvSampleIdeal.main_arg4) = m ((c.tc : Thread Cert.WkvSampleIdeal.nD Cert.WkvSampleIdeal.τ).loc Cert.WkvSampleIdeal.main_arg4)
          ∧ r.2.mem ((c.tc : Thread Cert.WkvSampleIdeal.nD Cert.WkvSampleIdeal.τ).loc Cert.WkvSampleIdeal.main_arg5) = m ((c.tc : Thread Cert.WkvSampleIdeal.nD Cert.WkvSampleIdeal.τ).loc Cert.WkvSampleIdeal.main_arg5)
          ∧ r.2.mem ((c.tc : Thread Cert.WkvSampleIdeal.nD Cert.WkvSampleIdeal.τ).loc Cert.WkvSampleIdeal.main_arg6) = m ((c.tc : Thread Cert.WkvSampleIdeal.nD Cert.WkvSampleIdeal.τ).loc Cert.WkvSampleIdeal.main_arg6)
          ∧ r.2.mem ((c.tc : Thread Cert.WkvSampleIdeal.nD Cert.WkvSampleIdeal.τ).loc Cert.WkvSampleIdeal.main_arg7) = m ((c.tc : Thread Cert.WkvSampleIdeal.nD Cert.WkvSampleIdeal.τ).loc Cert.WkvSampleIdeal.main_arg7)
          ∧ r.2.mem ((c.tc : Thread Cert.WkvSampleIdeal.nD Cert.WkvSampleIdeal.τ).loc Cert.WkvSampleIdeal.main_arg8) = m ((c.tc : Thread Cert.WkvSampleIdeal.nD Cert.WkvSampleIdeal.τ).loc Cert.WkvSampleIdeal.main_arg8)
          ∧ r.2.mem ((c.tc : Thread Cert.WkvSampleIdeal.nD Cert.WkvSampleIdeal.τ).loc Cert.WkvSampleIdeal.main_arg9) = m ((c.tc : Thread Cert.WkvSampleIdeal.nD Cert.WkvSampleIdeal.τ).loc Cert.WkvSampleIdeal.main_arg9)
          ∧ r.2.mem ((c.tc : Thread Cert.WkvSampleIdeal.nD Cert.WkvSampleIdeal.τ).loc Cert.WkvSampleIdeal.main_arg10) = m ((c.tc : Thread Cert.WkvSampleIdeal.nD Cert.WkvSampleIdeal.τ).loc Cert.WkvSampleIdeal.main_arg10)
          ∧ r.2.mem ((c.tc : Thread Cert.WkvSampleIdeal.nD Cert.WkvSampleIdeal.τ).loc Cert.WkvSampleIdeal.main_arg11) = m ((c.tc : Thread Cert.WkvSampleIdeal.nD Cert.WkvSampleIdeal.τ).loc Cert.WkvSampleIdeal.main_arg11)
          ∧ r.2.mem ((c.tc : Thread Cert.WkvSampleIdeal.nD Cert.WkvSampleIdeal.τ).loc Cert.WkvSampleIdeal.main_arg12) = m ((c.tc : Thread Cert.WkvSampleIdeal.nD Cert.WkvSampleIdeal.τ).loc Cert.WkvSampleIdeal.main_arg12)
          ∧ r.2.mem ((c.tc : Thread Cert.WkvSampleIdeal.nD Cert.WkvSampleIdeal.τ).loc Cert.WkvSampleIdeal.main_arg13) = m ((c.tc : Thread Cert.WkvSampleIdeal.nD Cert.WkvSampleIdeal.τ).loc Cert.WkvSampleIdeal.main_arg13))
      ∧ θ_run (Cert.WkvSampleRefIdeal.defs (F := Ideal)) (onTc (τ := Cert.WkvSampleRefIdeal.τ) (Cert.WkvSampleRefIdeal.main (F := Ideal))) ⟨m', fun _ => 0, g'⟩ (fun r => ∀ c : Dev Cert.WkvSampleRefIdeal.nD,
          r.2.mem ((c.tc : Thread Cert.WkvSampleRefIdeal.nD Cert.WkvSampleRefIdeal.τ).loc Cert.WkvSampleRefIdeal.main_v205) = v0 c
          ∧ r.2.mem ((c.tc : Thread Cert.WkvSampleRefIdeal.nD Cert.WkvSampleRefIdeal.τ).loc Cert.WkvSampleRefIdeal.main_v159) = v1 c
          ∧ r.2.mem ((c.tc : Thread Cert.WkvSampleRefIdeal.nD Cert.WkvSampleRefIdeal.τ).loc Cert.WkvSampleRefIdeal.main_arg0) = m' ((c.tc : Thread Cert.WkvSampleRefIdeal.nD Cert.WkvSampleRefIdeal.τ).loc Cert.WkvSampleRefIdeal.main_arg0)
          ∧ r.2.mem ((c.tc : Thread Cert.WkvSampleRefIdeal.nD Cert.WkvSampleRefIdeal.τ).loc Cert.WkvSampleRefIdeal.main_arg1) = m' ((c.tc : Thread Cert.WkvSampleRefIdeal.nD Cert.WkvSampleRefIdeal.τ).loc Cert.WkvSampleRefIdeal.main_arg1)
          ∧ r.2.mem ((c.tc : Thread Cert.WkvSampleRefIdeal.nD Cert.WkvSampleRefIdeal.τ).loc Cert.WkvSampleRefIdeal.main_arg2) = m' ((c.tc : Thread Cert.WkvSampleRefIdeal.nD Cert.WkvSampleRefIdeal.τ).loc Cert.WkvSampleRefIdeal.main_arg2)
          ∧ r.2.mem ((c.tc : Thread Cert.WkvSampleRefIdeal.nD Cert.WkvSampleRefIdeal.τ).loc Cert.WkvSampleRefIdeal.main_arg3) = m' ((c.tc : Thread Cert.WkvSampleRefIdeal.nD Cert.WkvSampleRefIdeal.τ).loc Cert.WkvSampleRefIdeal.main_arg3)
          ∧ r.2.mem ((c.tc : Thread Cert.WkvSampleRefIdeal.nD Cert.WkvSampleRefIdeal.τ).loc Cert.WkvSampleRefIdeal.main_arg4) = m' ((c.tc : Thread Cert.WkvSampleRefIdeal.nD Cert.WkvSampleRefIdeal.τ).loc Cert.WkvSampleRefIdeal.main_arg4)
          ∧ r.2.mem ((c.tc : Thread Cert.WkvSampleRefIdeal.nD Cert.WkvSampleRefIdeal.τ).loc Cert.WkvSampleRefIdeal.main_arg5) = m' ((c.tc : Thread Cert.WkvSampleRefIdeal.nD Cert.WkvSampleRefIdeal.τ).loc Cert.WkvSampleRefIdeal.main_arg5)
          ∧ r.2.mem ((c.tc : Thread Cert.WkvSampleRefIdeal.nD Cert.WkvSampleRefIdeal.τ).loc Cert.WkvSampleRefIdeal.main_arg6) = m' ((c.tc : Thread Cert.WkvSampleRefIdeal.nD Cert.WkvSampleRefIdeal.τ).loc Cert.WkvSampleRefIdeal.main_arg6)
          ∧ r.2.mem ((c.tc : Thread Cert.WkvSampleRefIdeal.nD Cert.WkvSampleRefIdeal.τ).loc Cert.WkvSampleRefIdeal.main_arg7) = m' ((c.tc : Thread Cert.WkvSampleRefIdeal.nD Cert.WkvSampleRefIdeal.τ).loc Cert.WkvSampleRefIdeal.main_arg7)
          ∧ r.2.mem ((c.tc : Thread Cert.WkvSampleRefIdeal.nD Cert.WkvSampleRefIdeal.τ).loc Cert.WkvSampleRefIdeal.main_arg8) = m' ((c.tc : Thread Cert.WkvSampleRefIdeal.nD Cert.WkvSampleRefIdeal.τ).loc Cert.WkvSampleRefIdeal.main_arg8)
          ∧ r.2.mem ((c.tc : Thread Cert.WkvSampleRefIdeal.nD Cert.WkvSampleRefIdeal.τ).loc Cert.WkvSampleRefIdeal.main_arg9) = m' ((c.tc : Thread Cert.WkvSampleRefIdeal.nD Cert.WkvSampleRefIdeal.τ).loc Cert.WkvSampleRefIdeal.main_arg9)
          ∧ r.2.mem ((c.tc : Thread Cert.WkvSampleRefIdeal.nD Cert.WkvSampleRefIdeal.τ).loc Cert.WkvSampleRefIdeal.main_arg10) = m' ((c.tc : Thread Cert.WkvSampleRefIdeal.nD Cert.WkvSampleRefIdeal.τ).loc Cert.WkvSampleRefIdeal.main_arg10)
          ∧ r.2.mem ((c.tc : Thread Cert.WkvSampleRefIdeal.nD Cert.WkvSampleRefIdeal.τ).loc Cert.WkvSampleRefIdeal.main_arg11) = m' ((c.tc : Thread Cert.WkvSampleRefIdeal.nD Cert.WkvSampleRefIdeal.τ).loc Cert.WkvSampleRefIdeal.main_arg11)
          ∧ r.2.mem ((c.tc : Thread Cert.WkvSampleRefIdeal.nD Cert.WkvSampleRefIdeal.τ).loc Cert.WkvSampleRefIdeal.main_arg12) = m' ((c.tc : Thread Cert.WkvSampleRefIdeal.nD Cert.WkvSampleRefIdeal.τ).loc Cert.WkvSampleRefIdeal.main_arg12)
          ∧ r.2.mem ((c.tc : Thread Cert.WkvSampleRefIdeal.nD Cert.WkvSampleRefIdeal.τ).loc Cert.WkvSampleRefIdeal.main_arg13) = m' ((c.tc : Thread Cert.WkvSampleRefIdeal.nD Cert.WkvSampleRefIdeal.τ).loc Cert.WkvSampleRefIdeal.main_arg13))

def preserves_DecayIn_DecayInIdeal : Prop :=
  True

def algebraic_DecayInIdeal_DecayInRefIdeal [hDecayInIdeal : Cert.DecayInIdeal.Facts] [hDecayInRefIdeal : Cert.DecayInRefIdeal.Facts] : Prop :=
  ∀ (m : (ℓ : Loc Cert.DecayInIdeal.nD Cert.DecayInIdeal.τ Cert.DecayInIdeal.sig) → Buf (Elt Ideal) ℓ) (g : Dev Cert.DecayInIdeal.nD → PrngReg)
    (m' : (ℓ : Loc Cert.DecayInRefIdeal.nD Cert.DecayInRefIdeal.τ Cert.DecayInRefIdeal.sig) → Buf (Elt Ideal) ℓ) (g' : Dev Cert.DecayInRefIdeal.nD → PrngReg), Pre_DecayInIdeal m →
    (∀ c : Dev Cert.DecayInIdeal.nD,
      m' ((c.tc : Thread Cert.DecayInRefIdeal.nD Cert.DecayInRefIdeal.τ).loc Cert.DecayInRefIdeal.main_arg0) = m ((c.tc : Thread Cert.DecayInIdeal.nD Cert.DecayInIdeal.τ).loc Cert.DecayInIdeal.main_arg0)
      ∧ m' ((c.tc : Thread Cert.DecayInRefIdeal.nD Cert.DecayInRefIdeal.τ).loc Cert.DecayInRefIdeal.main_arg1) = m ((c.tc : Thread Cert.DecayInIdeal.nD Cert.DecayInIdeal.τ).loc Cert.DecayInIdeal.main_arg1)) →
    ∃ (v0 : (c : Dev Cert.DecayInIdeal.nD) → Buf (Elt Ideal) ((c.tc : Thread Cert.DecayInIdeal.nD Cert.DecayInIdeal.τ).loc Cert.DecayInIdeal.main_v0)),
      θ_run (Cert.DecayInIdeal.defs (F := Ideal)) (onTc (τ := Cert.DecayInIdeal.τ) (Cert.DecayInIdeal.main (F := Ideal))) ⟨m, fun _ => 0, g⟩ (fun r => ∀ c : Dev Cert.DecayInIdeal.nD,
          r.2.mem ((c.tc : Thread Cert.DecayInIdeal.nD Cert.DecayInIdeal.τ).loc Cert.DecayInIdeal.main_v0) = v0 c
          ∧ r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
          ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ θ_run (Cert.DecayInRefIdeal.defs (F := Ideal)) (onTc (τ := Cert.DecayInRefIdeal.τ) (Cert.DecayInRefIdeal.main (F := Ideal))) ⟨m', fun _ => 0, g'⟩ (fun r => ∀ c : Dev Cert.DecayInRefIdeal.nD,
          r.2.mem ((c.tc : Thread Cert.DecayInRefIdeal.nD Cert.DecayInRefIdeal.τ).loc Cert.DecayInRefIdeal.main_v2) = v0 c
          ∧ r.2.mem ((c.tc : Thread Cert.DecayInRefIdeal.nD Cert.DecayInRefIdeal.τ).loc Cert.DecayInRefIdeal.main_arg0) = m' ((c.tc : Thread Cert.DecayInRefIdeal.nD Cert.DecayInRefIdeal.τ).loc Cert.DecayInRefIdeal.main_arg0)
          ∧ r.2.mem ((c.tc : Thread Cert.DecayInRefIdeal.nD Cert.DecayInRefIdeal.τ).loc Cert.DecayInRefIdeal.main_arg1) = m' ((c.tc : Thread Cert.DecayInRefIdeal.nD Cert.DecayInRefIdeal.τ).loc Cert.DecayInRefIdeal.main_arg1))

def preserves_CorrIn_CorrInIdeal : Prop :=
  True

def algebraic_CorrInIdeal_CorrInRefIdeal [hCorrInIdeal : Cert.CorrInIdeal.Facts] [hCorrInRefIdeal : Cert.CorrInRefIdeal.Facts] : Prop :=
  ∀ (m : (ℓ : Loc Cert.CorrInIdeal.nD Cert.CorrInIdeal.τ Cert.CorrInIdeal.sig) → Buf (Elt Ideal) ℓ) (g : Dev Cert.CorrInIdeal.nD → PrngReg)
    (m' : (ℓ : Loc Cert.CorrInRefIdeal.nD Cert.CorrInRefIdeal.τ Cert.CorrInRefIdeal.sig) → Buf (Elt Ideal) ℓ) (g' : Dev Cert.CorrInRefIdeal.nD → PrngReg), Pre_CorrInIdeal m →
    (∀ c : Dev Cert.CorrInIdeal.nD,
      m' ((c.tc : Thread Cert.CorrInRefIdeal.nD Cert.CorrInRefIdeal.τ).loc Cert.CorrInRefIdeal.main_arg0) = m ((c.tc : Thread Cert.CorrInIdeal.nD Cert.CorrInIdeal.τ).loc Cert.CorrInIdeal.main_arg0)
      ∧ m' ((c.tc : Thread Cert.CorrInRefIdeal.nD Cert.CorrInRefIdeal.τ).loc Cert.CorrInRefIdeal.main_arg1) = m ((c.tc : Thread Cert.CorrInIdeal.nD Cert.CorrInIdeal.τ).loc Cert.CorrInIdeal.main_arg1)) →
    ∃ (v0 : (c : Dev Cert.CorrInIdeal.nD) → Buf (Elt Ideal) ((c.tc : Thread Cert.CorrInIdeal.nD Cert.CorrInIdeal.τ).loc Cert.CorrInIdeal.main_v0)),
      θ_run (Cert.CorrInIdeal.defs (F := Ideal)) (onTc (τ := Cert.CorrInIdeal.τ) (Cert.CorrInIdeal.main (F := Ideal))) ⟨m, fun _ => 0, g⟩ (fun r => ∀ c : Dev Cert.CorrInIdeal.nD,
          r.2.mem ((c.tc : Thread Cert.CorrInIdeal.nD Cert.CorrInIdeal.τ).loc Cert.CorrInIdeal.main_v0) = v0 c
          ∧ r.2.mem ((c.tc : Thread Cert.CorrInIdeal.nD Cert.CorrInIdeal.τ).loc Cert.CorrInIdeal.main_arg0) = m ((c.tc : Thread Cert.CorrInIdeal.nD Cert.CorrInIdeal.τ).loc Cert.CorrInIdeal.main_arg0)
          ∧ r.2.mem ((c.tc : Thread Cert.CorrInIdeal.nD Cert.CorrInIdeal.τ).loc Cert.CorrInIdeal.main_arg1) = m ((c.tc : Thread Cert.CorrInIdeal.nD Cert.CorrInIdeal.τ).loc Cert.CorrInIdeal.main_arg1))
      ∧ θ_run (Cert.CorrInRefIdeal.defs (F := Ideal)) (onTc (τ := Cert.CorrInRefIdeal.τ) (Cert.CorrInRefIdeal.main (F := Ideal))) ⟨m', fun _ => 0, g'⟩ (fun r => ∀ c : Dev Cert.CorrInRefIdeal.nD,
          r.2.mem ((c.tc : Thread Cert.CorrInRefIdeal.nD Cert.CorrInRefIdeal.τ).loc Cert.CorrInRefIdeal.main_v1) = v0 c
          ∧ r.2.mem ((c.tc : Thread Cert.CorrInRefIdeal.nD Cert.CorrInRefIdeal.τ).loc Cert.CorrInRefIdeal.main_arg0) = m' ((c.tc : Thread Cert.CorrInRefIdeal.nD Cert.CorrInRefIdeal.τ).loc Cert.CorrInRefIdeal.main_arg0)
          ∧ r.2.mem ((c.tc : Thread Cert.CorrInRefIdeal.nD Cert.CorrInRefIdeal.τ).loc Cert.CorrInRefIdeal.main_arg1) = m' ((c.tc : Thread Cert.CorrInRefIdeal.nD Cert.CorrInRefIdeal.τ).loc Cert.CorrInRefIdeal.main_arg1))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v0)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v0) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v7) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1))

def preserves_LowOut_LowOutIdeal : Prop :=
  True

def algebraic_LowOutIdeal_LowOutRefIdeal [hLowOutIdeal : Cert.LowOutIdeal.Facts] [hLowOutRefIdeal : Cert.LowOutRefIdeal.Facts] : Prop :=
  ∀ (m : (ℓ : Loc Cert.LowOutIdeal.nD Cert.LowOutIdeal.τ Cert.LowOutIdeal.sig) → Buf (Elt Ideal) ℓ) (g : Dev Cert.LowOutIdeal.nD → PrngReg)
    (m' : (ℓ : Loc Cert.LowOutRefIdeal.nD Cert.LowOutRefIdeal.τ Cert.LowOutRefIdeal.sig) → Buf (Elt Ideal) ℓ) (g' : Dev Cert.LowOutRefIdeal.nD → PrngReg), Pre_LowOutIdeal m →
    (∀ c : Dev Cert.LowOutIdeal.nD,
      m' ((c.tc : Thread Cert.LowOutRefIdeal.nD Cert.LowOutRefIdeal.τ).loc Cert.LowOutRefIdeal.main_arg0) = m ((c.tc : Thread Cert.LowOutIdeal.nD Cert.LowOutIdeal.τ).loc Cert.LowOutIdeal.main_arg0)
      ∧ m' ((c.tc : Thread Cert.LowOutRefIdeal.nD Cert.LowOutRefIdeal.τ).loc Cert.LowOutRefIdeal.main_arg1) = m ((c.tc : Thread Cert.LowOutIdeal.nD Cert.LowOutIdeal.τ).loc Cert.LowOutIdeal.main_arg1)) →
    ∃ (v0 : (c : Dev Cert.LowOutIdeal.nD) → Buf (Elt Ideal) ((c.tc : Thread Cert.LowOutIdeal.nD Cert.LowOutIdeal.τ).loc Cert.LowOutIdeal.main_v0)),
      θ_run (Cert.LowOutIdeal.defs (F := Ideal)) (onTc (τ := Cert.LowOutIdeal.τ) (Cert.LowOutIdeal.main (F := Ideal))) ⟨m, fun _ => 0, g⟩ (fun r => ∀ c : Dev Cert.LowOutIdeal.nD,
          r.2.mem ((c.tc : Thread Cert.LowOutIdeal.nD Cert.LowOutIdeal.τ).loc Cert.LowOutIdeal.main_v0) = v0 c
          ∧ r.2.mem ((c.tc : Thread Cert.LowOutIdeal.nD Cert.LowOutIdeal.τ).loc Cert.LowOutIdeal.main_arg0) = m ((c.tc : Thread Cert.LowOutIdeal.nD Cert.LowOutIdeal.τ).loc Cert.LowOutIdeal.main_arg0)
          ∧ r.2.mem ((c.tc : Thread Cert.LowOutIdeal.nD Cert.LowOutIdeal.τ).loc Cert.LowOutIdeal.main_arg1) = m ((c.tc : Thread Cert.LowOutIdeal.nD Cert.LowOutIdeal.τ).loc Cert.LowOutIdeal.main_arg1))
      ∧ θ_run (Cert.LowOutRefIdeal.defs (F := Ideal)) (onTc (τ := Cert.LowOutRefIdeal.τ) (Cert.LowOutRefIdeal.main (F := Ideal))) ⟨m', fun _ => 0, g'⟩ (fun r => ∀ c : Dev Cert.LowOutRefIdeal.nD,
          r.2.mem ((c.tc : Thread Cert.LowOutRefIdeal.nD Cert.LowOutRefIdeal.τ).loc Cert.LowOutRefIdeal.main_v0) = v0 c
          ∧ r.2.mem ((c.tc : Thread Cert.LowOutRefIdeal.nD Cert.LowOutRefIdeal.τ).loc Cert.LowOutRefIdeal.main_arg0) = m' ((c.tc : Thread Cert.LowOutRefIdeal.nD Cert.LowOutRefIdeal.τ).loc Cert.LowOutRefIdeal.main_arg0)
          ∧ r.2.mem ((c.tc : Thread Cert.LowOutRefIdeal.nD Cert.LowOutRefIdeal.τ).loc Cert.LowOutRefIdeal.main_arg1) = m' ((c.tc : Thread Cert.LowOutRefIdeal.nD Cert.LowOutRefIdeal.τ).loc Cert.LowOutRefIdeal.main_arg1))

def preserves_GateOut_GateOutIdeal : Prop :=
  True

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)) →
    ∃ (v0 : (c : Dev Cert.GateOutIdeal.nD) → Buf (Elt Ideal) ((c.tc : Thread Cert.GateOutIdeal.nD Cert.GateOutIdeal.τ).loc Cert.GateOutIdeal.main_v0)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v0) = v0 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v0) = v0 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1))

def preserves_MixPrompt_MixPromptIdeal : Prop :=
  True

def algebraic_MixPromptIdeal_MixPromptRefIdeal [hMixPromptIdeal : Cert.MixPromptIdeal.Facts] [hMixPromptRefIdeal : Cert.MixPromptRefIdeal.Facts] : Prop :=
  ∀ (m : (ℓ : Loc Cert.MixPromptIdeal.nD Cert.MixPromptIdeal.τ Cert.MixPromptIdeal.sig) → Buf (Elt Ideal) ℓ) (g : Dev Cert.MixPromptIdeal.nD → PrngReg)
    (m' : (ℓ : Loc Cert.MixPromptRefIdeal.nD Cert.MixPromptRefIdeal.τ Cert.MixPromptRefIdeal.sig) → Buf (Elt Ideal) ℓ) (g' : Dev Cert.MixPromptRefIdeal.nD → PrngReg), Pre_MixPromptIdeal m →
    (∀ c : Dev Cert.MixPromptIdeal.nD,
      m' ((c.tc : Thread Cert.MixPromptRefIdeal.nD Cert.MixPromptRefIdeal.τ).loc Cert.MixPromptRefIdeal.main_arg0) = m ((c.tc : Thread Cert.MixPromptIdeal.nD Cert.MixPromptIdeal.τ).loc Cert.MixPromptIdeal.main_arg0)
      ∧ m' ((c.tc : Thread Cert.MixPromptRefIdeal.nD Cert.MixPromptRefIdeal.τ).loc Cert.MixPromptRefIdeal.main_arg1) = m ((c.tc : Thread Cert.MixPromptIdeal.nD Cert.MixPromptIdeal.τ).loc Cert.MixPromptIdeal.main_arg1)) →
    ∃ (v0 : (c : Dev Cert.MixPromptIdeal.nD) → Buf (Elt Ideal) ((c.tc : Thread Cert.MixPromptIdeal.nD Cert.MixPromptIdeal.τ).loc Cert.MixPromptIdeal.main_v5_0)) (v1 : (c : Dev Cert.MixPromptIdeal.nD) → Buf (Elt Ideal) ((c.tc : Thread Cert.MixPromptIdeal.nD Cert.MixPromptIdeal.τ).loc Cert.MixPromptIdeal.main_v5_1)) (v2 : (c : Dev Cert.MixPromptIdeal.nD) → Buf (Elt Ideal) ((c.tc : Thread Cert.MixPromptIdeal.nD Cert.MixPromptIdeal.τ).loc Cert.MixPromptIdeal.main_v5_2)) (v3 : (c : Dev Cert.MixPromptIdeal.nD) → Buf (Elt Ideal) ((c.tc : Thread Cert.MixPromptIdeal.nD Cert.MixPromptIdeal.τ).loc Cert.MixPromptIdeal.main_v5_3)) (v4 : (c : Dev Cert.MixPromptIdeal.nD) → Buf (Elt Ideal) ((c.tc : Thread Cert.MixPromptIdeal.nD Cert.MixPromptIdeal.τ).loc Cert.MixPromptIdeal.main_v5_4)) (v5 : (c : Dev Cert.MixPromptIdeal.nD) → Buf (Elt Ideal) ((c.tc : Thread Cert.MixPromptIdeal.nD Cert.MixPromptIdeal.τ).loc Cert.MixPromptIdeal.main_v5_5)),
      θ_run (Cert.MixPromptIdeal.defs (F := Ideal)) (onTc (τ := Cert.MixPromptIdeal.τ) (Cert.MixPromptIdeal.main (F := Ideal))) ⟨m, fun _ => 0, g⟩ (fun r => ∀ c : Dev Cert.MixPromptIdeal.nD,
          r.2.mem ((c.tc : Thread Cert.MixPromptIdeal.nD Cert.MixPromptIdeal.τ).loc Cert.MixPromptIdeal.main_v5_0) = v0 c
          ∧ r.2.mem ((c.tc : Thread Cert.MixPromptIdeal.nD Cert.MixPromptIdeal.τ).loc Cert.MixPromptIdeal.main_v5_1) = v1 c
          ∧ r.2.mem ((c.tc : Thread Cert.MixPromptIdeal.nD Cert.MixPromptIdeal.τ).loc Cert.MixPromptIdeal.main_v5_2) = v2 c
          ∧ r.2.mem ((c.tc : Thread Cert.MixPromptIdeal.nD Cert.MixPromptIdeal.τ).loc Cert.MixPromptIdeal.main_v5_3) = v3 c
          ∧ r.2.mem ((c.tc : Thread Cert.MixPromptIdeal.nD Cert.MixPromptIdeal.τ).loc Cert.MixPromptIdeal.main_v5_4) = v4 c
          ∧ r.2.mem ((c.tc : Thread Cert.MixPromptIdeal.nD Cert.MixPromptIdeal.τ).loc Cert.MixPromptIdeal.main_v5_5) = v5 c
          ∧ r.2.mem ((c.tc : Thread Cert.MixPromptIdeal.nD Cert.MixPromptIdeal.τ).loc Cert.MixPromptIdeal.main_arg0) = m ((c.tc : Thread Cert.MixPromptIdeal.nD Cert.MixPromptIdeal.τ).loc Cert.MixPromptIdeal.main_arg0)
          ∧ r.2.mem ((c.tc : Thread Cert.MixPromptIdeal.nD Cert.MixPromptIdeal.τ).loc Cert.MixPromptIdeal.main_arg1) = m ((c.tc : Thread Cert.MixPromptIdeal.nD Cert.MixPromptIdeal.τ).loc Cert.MixPromptIdeal.main_arg1))
      ∧ θ_run (Cert.MixPromptRefIdeal.defs (F := Ideal)) (onTc (τ := Cert.MixPromptRefIdeal.τ) (Cert.MixPromptRefIdeal.main (F := Ideal))) ⟨m', fun _ => 0, g'⟩ (fun r => ∀ c : Dev Cert.MixPromptRefIdeal.nD,
          r.2.mem ((c.tc : Thread Cert.MixPromptRefIdeal.nD Cert.MixPromptRefIdeal.τ).loc Cert.MixPromptRefIdeal.main_v15) = v0 c
          ∧ r.2.mem ((c.tc : Thread Cert.MixPromptRefIdeal.nD Cert.MixPromptRefIdeal.τ).loc Cert.MixPromptRefIdeal.main_v23) = v1 c
          ∧ r.2.mem ((c.tc : Thread Cert.MixPromptRefIdeal.nD Cert.MixPromptRefIdeal.τ).loc Cert.MixPromptRefIdeal.main_v31) = v2 c
          ∧ r.2.mem ((c.tc : Thread Cert.MixPromptRefIdeal.nD Cert.MixPromptRefIdeal.τ).loc Cert.MixPromptRefIdeal.main_v39) = v3 c
          ∧ r.2.mem ((c.tc : Thread Cert.MixPromptRefIdeal.nD Cert.MixPromptRefIdeal.τ).loc Cert.MixPromptRefIdeal.main_v47) = v4 c
          ∧ r.2.mem ((c.tc : Thread Cert.MixPromptRefIdeal.nD Cert.MixPromptRefIdeal.τ).loc Cert.MixPromptRefIdeal.main_v55) = v5 c
          ∧ r.2.mem ((c.tc : Thread Cert.MixPromptRefIdeal.nD Cert.MixPromptRefIdeal.τ).loc Cert.MixPromptRefIdeal.main_arg0) = m' ((c.tc : Thread Cert.MixPromptRefIdeal.nD Cert.MixPromptRefIdeal.τ).loc Cert.MixPromptRefIdeal.main_arg0)
          ∧ r.2.mem ((c.tc : Thread Cert.MixPromptRefIdeal.nD Cert.MixPromptRefIdeal.τ).loc Cert.MixPromptRefIdeal.main_arg1) = m' ((c.tc : Thread Cert.MixPromptRefIdeal.nD Cert.MixPromptRefIdeal.τ).loc Cert.MixPromptRefIdeal.main_arg1))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)) →
    ∃ (v0 : (c : Dev Cert.MixSampleIdeal.nD) → Buf (Elt Ideal) ((c.tc : Thread Cert.MixSampleIdeal.nD Cert.MixSampleIdeal.τ).loc Cert.MixSampleIdeal.main_v5_0)) (v1 : (c : Dev Cert.MixSampleIdeal.nD) → Buf (Elt Ideal) ((c.tc : Thread Cert.MixSampleIdeal.nD Cert.MixSampleIdeal.τ).loc Cert.MixSampleIdeal.main_v5_1)) (v2 : (c : Dev Cert.MixSampleIdeal.nD) → Buf (Elt Ideal) ((c.tc : Thread Cert.MixSampleIdeal.nD Cert.MixSampleIdeal.τ).loc Cert.MixSampleIdeal.main_v5_2)) (v3 : (c : Dev Cert.MixSampleIdeal.nD) → Buf (Elt Ideal) ((c.tc : Thread Cert.MixSampleIdeal.nD Cert.MixSampleIdeal.τ).loc Cert.MixSampleIdeal.main_v5_3)) (v4 : (c : Dev Cert.MixSampleIdeal.nD) → Buf (Elt Ideal) ((c.tc : Thread Cert.MixSampleIdeal.nD Cert.MixSampleIdeal.τ).loc Cert.MixSampleIdeal.main_v5_4)) (v5 : (c : Dev Cert.MixSampleIdeal.nD) → Buf (Elt Ideal) ((c.tc : Thread Cert.MixSampleIdeal.nD Cert.MixSampleIdeal.τ).loc Cert.MixSampleIdeal.main_v5_5)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v5_0) = v0 c
          ∧ r.2.mem ((c.tc : Thread Cert.MixSampleIdeal.nD Cert.MixSampleIdeal.τ).loc Cert.MixSampleIdeal.main_v5_1) = v1 c
          ∧ r.2.mem ((c.tc : Thread Cert.MixSampleIdeal.nD Cert.MixSampleIdeal.τ).loc Cert.MixSampleIdeal.main_v5_2) = v2 c
          ∧ r.2.mem ((c.tc : Thread Cert.MixSampleIdeal.nD Cert.MixSampleIdeal.τ).loc Cert.MixSampleIdeal.main_v5_3) = v3 c
          ∧ r.2.mem ((c.tc : Thread Cert.MixSampleIdeal.nD Cert.MixSampleIdeal.τ).loc Cert.MixSampleIdeal.main_v5_4) = v4 c
          ∧ r.2.mem ((c.tc : Thread Cert.MixSampleIdeal.nD Cert.MixSampleIdeal.τ).loc Cert.MixSampleIdeal.main_v5_5) = v5 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v12) = v0 c
          ∧ r.2.mem ((c.tc : Thread Cert.MixSampleRefIdeal.nD Cert.MixSampleRefIdeal.τ).loc Cert.MixSampleRefIdeal.main_v20) = v1 c
          ∧ r.2.mem ((c.tc : Thread Cert.MixSampleRefIdeal.nD Cert.MixSampleRefIdeal.τ).loc Cert.MixSampleRefIdeal.main_v28) = v2 c
          ∧ r.2.mem ((c.tc : Thread Cert.MixSampleRefIdeal.nD Cert.MixSampleRefIdeal.τ).loc Cert.MixSampleRefIdeal.main_v36) = v3 c
          ∧ r.2.mem ((c.tc : Thread Cert.MixSampleRefIdeal.nD Cert.MixSampleRefIdeal.τ).loc Cert.MixSampleRefIdeal.main_v44) = v4 c
          ∧ r.2.mem ((c.tc : Thread Cert.MixSampleRefIdeal.nD Cert.MixSampleRefIdeal.τ).loc Cert.MixSampleRefIdeal.main_v52) = v5 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2))

def preserves_SharedSample_SharedSampleIdeal : Prop :=
  True

def algebraic_SharedSampleIdeal_SharedSampleRefIdeal_pre_finite_shared [hSharedSampleIdeal : Cert.SharedSampleIdeal.Facts] [hSharedSampleRefIdeal : Cert.SharedSampleRefIdeal.Facts] [hPre_finite_shared : Cert.Pre_finite_shared.Facts] : Prop :=
  ∀ (m : (ℓ : Loc Cert.SharedSampleIdeal.nD Cert.SharedSampleIdeal.τ Cert.SharedSampleIdeal.sig) → Buf (Elt Ideal) ℓ) (g : Dev Cert.SharedSampleIdeal.nD → PrngReg)
    (m' : (ℓ : Loc Cert.SharedSampleRefIdeal.nD Cert.SharedSampleRefIdeal.τ Cert.SharedSampleRefIdeal.sig) → Buf (Elt Ideal) ℓ) (g' : Dev Cert.SharedSampleRefIdeal.nD → PrngReg), Pre_SharedSampleIdeal_finite_shared m →
    (∀ c : Dev Cert.SharedSampleIdeal.nD,
      m' ((c.tc : Thread Cert.SharedSampleRefIdeal.nD Cert.SharedSampleRefIdeal.τ).loc Cert.SharedSampleRefIdeal.main_arg0) = m ((c.tc : Thread Cert.SharedSampleIdeal.nD Cert.SharedSampleIdeal.τ).loc Cert.SharedSampleIdeal.main_arg0)
      ∧ m' ((c.tc : Thread Cert.SharedSampleRefIdeal.nD Cert.SharedSampleRefIdeal.τ).loc Cert.SharedSampleRefIdeal.main_arg1) = m ((c.tc : Thread Cert.SharedSampleIdeal.nD Cert.SharedSampleIdeal.τ).loc Cert.SharedSampleIdeal.main_arg1)
      ∧ m' ((c.tc : Thread Cert.SharedSampleRefIdeal.nD Cert.SharedSampleRefIdeal.τ).loc Cert.SharedSampleRefIdeal.main_arg2) = m ((c.tc : Thread Cert.SharedSampleIdeal.nD Cert.SharedSampleIdeal.τ).loc Cert.SharedSampleIdeal.main_arg2)
      ∧ m' ((c.tc : Thread Cert.SharedSampleRefIdeal.nD Cert.SharedSampleRefIdeal.τ).loc Cert.SharedSampleRefIdeal.main_arg3) = m ((c.tc : Thread Cert.SharedSampleIdeal.nD Cert.SharedSampleIdeal.τ).loc Cert.SharedSampleIdeal.main_arg3)
      ∧ m' ((c.tc : Thread Cert.SharedSampleRefIdeal.nD Cert.SharedSampleRefIdeal.τ).loc Cert.SharedSampleRefIdeal.main_arg4) = m ((c.tc : Thread Cert.SharedSampleIdeal.nD Cert.SharedSampleIdeal.τ).loc Cert.SharedSampleIdeal.main_arg4)) →
    ∃ (v0 : (c : Dev Cert.SharedSampleIdeal.nD) → Buf (Elt Ideal) ((c.tc : Thread Cert.SharedSampleIdeal.nD Cert.SharedSampleIdeal.τ).loc Cert.SharedSampleIdeal.main_v43)),
      θ_run (Cert.SharedSampleIdeal.defs (F := Ideal)) (onTc (τ := Cert.SharedSampleIdeal.τ) (Cert.SharedSampleIdeal.main (F := Ideal))) ⟨m, fun _ => 0, g⟩ (fun r => ∀ c : Dev Cert.SharedSampleIdeal.nD,
          r.2.mem ((c.tc : Thread Cert.SharedSampleIdeal.nD Cert.SharedSampleIdeal.τ).loc Cert.SharedSampleIdeal.main_v43) = v0 c
          ∧ r.2.mem ((c.tc : Thread Cert.SharedSampleIdeal.nD Cert.SharedSampleIdeal.τ).loc Cert.SharedSampleIdeal.main_arg0) = m ((c.tc : Thread Cert.SharedSampleIdeal.nD Cert.SharedSampleIdeal.τ).loc Cert.SharedSampleIdeal.main_arg0)
          ∧ r.2.mem ((c.tc : Thread Cert.SharedSampleIdeal.nD Cert.SharedSampleIdeal.τ).loc Cert.SharedSampleIdeal.main_arg1) = m ((c.tc : Thread Cert.SharedSampleIdeal.nD Cert.SharedSampleIdeal.τ).loc Cert.SharedSampleIdeal.main_arg1)
          ∧ r.2.mem ((c.tc : Thread Cert.SharedSampleIdeal.nD Cert.SharedSampleIdeal.τ).loc Cert.SharedSampleIdeal.main_arg2) = m ((c.tc : Thread Cert.SharedSampleIdeal.nD Cert.SharedSampleIdeal.τ).loc Cert.SharedSampleIdeal.main_arg2)
          ∧ r.2.mem ((c.tc : Thread Cert.SharedSampleIdeal.nD Cert.SharedSampleIdeal.τ).loc Cert.SharedSampleIdeal.main_arg3) = m ((c.tc : Thread Cert.SharedSampleIdeal.nD Cert.SharedSampleIdeal.τ).loc Cert.SharedSampleIdeal.main_arg3)
          ∧ r.2.mem ((c.tc : Thread Cert.SharedSampleIdeal.nD Cert.SharedSampleIdeal.τ).loc Cert.SharedSampleIdeal.main_arg4) = m ((c.tc : Thread Cert.SharedSampleIdeal.nD Cert.SharedSampleIdeal.τ).loc Cert.SharedSampleIdeal.main_arg4))
      ∧ θ_run (Cert.SharedSampleRefIdeal.defs (F := Ideal)) (onTc (τ := Cert.SharedSampleRefIdeal.τ) (Cert.SharedSampleRefIdeal.main (F := Ideal))) ⟨m', fun _ => 0, g'⟩ (fun r => ∀ c : Dev Cert.SharedSampleRefIdeal.nD,
          r.2.mem ((c.tc : Thread Cert.SharedSampleRefIdeal.nD Cert.SharedSampleRefIdeal.τ).loc Cert.SharedSampleRefIdeal.main_v67) = v0 c
          ∧ r.2.mem ((c.tc : Thread Cert.SharedSampleRefIdeal.nD Cert.SharedSampleRefIdeal.τ).loc Cert.SharedSampleRefIdeal.main_arg0) = m' ((c.tc : Thread Cert.SharedSampleRefIdeal.nD Cert.SharedSampleRefIdeal.τ).loc Cert.SharedSampleRefIdeal.main_arg0)
          ∧ r.2.mem ((c.tc : Thread Cert.SharedSampleRefIdeal.nD Cert.SharedSampleRefIdeal.τ).loc Cert.SharedSampleRefIdeal.main_arg1) = m' ((c.tc : Thread Cert.SharedSampleRefIdeal.nD Cert.SharedSampleRefIdeal.τ).loc Cert.SharedSampleRefIdeal.main_arg1)
          ∧ r.2.mem ((c.tc : Thread Cert.SharedSampleRefIdeal.nD Cert.SharedSampleRefIdeal.τ).loc Cert.SharedSampleRefIdeal.main_arg2) = m' ((c.tc : Thread Cert.SharedSampleRefIdeal.nD Cert.SharedSampleRefIdeal.τ).loc Cert.SharedSampleRefIdeal.main_arg2)
          ∧ r.2.mem ((c.tc : Thread Cert.SharedSampleRefIdeal.nD Cert.SharedSampleRefIdeal.τ).loc Cert.SharedSampleRefIdeal.main_arg3) = m' ((c.tc : Thread Cert.SharedSampleRefIdeal.nD Cert.SharedSampleRefIdeal.τ).loc Cert.SharedSampleRefIdeal.main_arg3)
          ∧ r.2.mem ((c.tc : Thread Cert.SharedSampleRefIdeal.nD Cert.SharedSampleRefIdeal.τ).loc Cert.SharedSampleRefIdeal.main_arg4) = m' ((c.tc : Thread Cert.SharedSampleRefIdeal.nD Cert.SharedSampleRefIdeal.τ).loc Cert.SharedSampleRefIdeal.main_arg4))

def Claim : Prop :=
  ∃ (hKernel : Cert.Kernel.Facts) (hKernelIdeal : Cert.KernelIdeal.Facts) (hReferenceIdeal : Cert.ReferenceIdeal.Facts) (hQkvPrompt : Cert.QkvPrompt.Facts) (hQkvPromptIdeal : Cert.QkvPromptIdeal.Facts) (hQkvPromptRefIdeal : Cert.QkvPromptRefIdeal.Facts) (hQkvSample : Cert.QkvSample.Facts) (hQkvSampleIdeal : Cert.QkvSampleIdeal.Facts) (hQkvSampleRefIdeal : Cert.QkvSampleRefIdeal.Facts) (hAttOut : Cert.AttOut.Facts) (hAttOutIdeal : Cert.AttOutIdeal.Facts) (hAttOutRefIdeal : Cert.AttOutRefIdeal.Facts) (hRkvR : Cert.RkvR.Facts) (hRkvRIdeal : Cert.RkvRIdeal.Facts) (hRkvRRefIdeal : Cert.RkvRRefIdeal.Facts) (hRkvK : Cert.RkvK.Facts) (hRkvKIdeal : Cert.RkvKIdeal.Facts) (hRkvKRefIdeal : Cert.RkvKRefIdeal.Facts) (hRkvV : Cert.RkvV.Facts) (hRkvVIdeal : Cert.RkvVIdeal.Facts) (hRkvVRefIdeal : Cert.RkvVRefIdeal.Facts) (hTimeOut : Cert.TimeOut.Facts) (hTimeOutIdeal : Cert.TimeOutIdeal.Facts) (hTimeOutRefIdeal : Cert.TimeOutRefIdeal.Facts) (hPeerQ0 : Cert.PeerQ0.Facts) (hPeerQ0Ideal : Cert.PeerQ0Ideal.Facts) (hPeerQ0RefIdeal : Cert.PeerQ0RefIdeal.Facts) (hPeerQ1 : Cert.PeerQ1.Facts) (hPeerQ1Ideal : Cert.PeerQ1Ideal.Facts) (hPeerQ1RefIdeal : Cert.PeerQ1RefIdeal.Facts) (hLnPrompt : Cert.LnPrompt.Facts) (hLnPromptIdeal : Cert.LnPromptIdeal.Facts) (hLnPromptRefIdeal : Cert.LnPromptRefIdeal.Facts) (hLnSample : Cert.LnSample.Facts) (hLnSampleIdeal : Cert.LnSampleIdeal.Facts) (hLnSampleRefIdeal : Cert.LnSampleRefIdeal.Facts) (hWkvSample : Cert.WkvSample.Facts) (hWkvSampleIdeal : Cert.WkvSampleIdeal.Facts) (hWkvSampleRefIdeal : Cert.WkvSampleRefIdeal.Facts) (hDecayIn : Cert.DecayIn.Facts) (hDecayInIdeal : Cert.DecayInIdeal.Facts) (hDecayInRefIdeal : Cert.DecayInRefIdeal.Facts) (hCorrIn : Cert.CorrIn.Facts) (hCorrInIdeal : Cert.CorrInIdeal.Facts) (hCorrInRefIdeal : Cert.CorrInRefIdeal.Facts) (hGateIn : Cert.GateIn.Facts) (hGateInIdeal : Cert.GateInIdeal.Facts) (hGateInRefIdeal : Cert.GateInRefIdeal.Facts) (hLowOut : Cert.LowOut.Facts) (hLowOutIdeal : Cert.LowOutIdeal.Facts) (hLowOutRefIdeal : Cert.LowOutRefIdeal.Facts) (hGateOut : Cert.GateOut.Facts) (hGateOutIdeal : Cert.GateOutIdeal.Facts) (hGateOutRefIdeal : Cert.GateOutRefIdeal.Facts) (hMixPrompt : Cert.MixPrompt.Facts) (hMixPromptIdeal : Cert.MixPromptIdeal.Facts) (hMixPromptRefIdeal : Cert.MixPromptRefIdeal.Facts) (hMixSample : Cert.MixSample.Facts) (hMixSampleIdeal : Cert.MixSampleIdeal.Facts) (hMixSampleRefIdeal : Cert.MixSampleRefIdeal.Facts) (hSharedSample : Cert.SharedSample.Facts) (hSharedSampleIdeal : Cert.SharedSampleIdeal.Facts) (hSharedSampleRefIdeal : Cert.SharedSampleRefIdeal.Facts) (hPre_finite_scores : Cert.Pre_finite_scores.Facts) (hPre_finite_shared : Cert.Pre_finite_shared.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_QkvPrompt (hQkvPrompt := hQkvPrompt)
    ∧ quiescent_QkvPromptIdeal (hQkvPromptIdeal := hQkvPromptIdeal)
    ∧ quiescent_QkvPromptRefIdeal (hQkvPromptRefIdeal := hQkvPromptRefIdeal)
    ∧ quiescent_QkvSample (hQkvSample := hQkvSample)
    ∧ quiescent_QkvSampleIdeal (hQkvSampleIdeal := hQkvSampleIdeal)
    ∧ quiescent_QkvSampleRefIdeal (hQkvSampleRefIdeal := hQkvSampleRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_RkvR (hRkvR := hRkvR)
    ∧ quiescent_RkvRIdeal (hRkvRIdeal := hRkvRIdeal)
    ∧ quiescent_RkvRRefIdeal (hRkvRRefIdeal := hRkvRRefIdeal)
    ∧ quiescent_RkvK (hRkvK := hRkvK)
    ∧ quiescent_RkvKIdeal (hRkvKIdeal := hRkvKIdeal)
    ∧ quiescent_RkvKRefIdeal (hRkvKRefIdeal := hRkvKRefIdeal)
    ∧ quiescent_RkvV (hRkvV := hRkvV)
    ∧ quiescent_RkvVIdeal (hRkvVIdeal := hRkvVIdeal)
    ∧ quiescent_RkvVRefIdeal (hRkvVRefIdeal := hRkvVRefIdeal)
    ∧ quiescent_TimeOut (hTimeOut := hTimeOut)
    ∧ quiescent_TimeOutIdeal (hTimeOutIdeal := hTimeOutIdeal)
    ∧ quiescent_TimeOutRefIdeal (hTimeOutRefIdeal := hTimeOutRefIdeal)
    ∧ quiescent_PeerQ0 (hPeerQ0 := hPeerQ0)
    ∧ quiescent_PeerQ0Ideal (hPeerQ0Ideal := hPeerQ0Ideal)
    ∧ quiescent_PeerQ0RefIdeal (hPeerQ0RefIdeal := hPeerQ0RefIdeal)
    ∧ quiescent_PeerQ1 (hPeerQ1 := hPeerQ1)
    ∧ quiescent_PeerQ1Ideal (hPeerQ1Ideal := hPeerQ1Ideal)
    ∧ quiescent_PeerQ1RefIdeal (hPeerQ1RefIdeal := hPeerQ1RefIdeal)
    ∧ quiescent_LnPrompt (hLnPrompt := hLnPrompt)
    ∧ quiescent_LnPromptIdeal (hLnPromptIdeal := hLnPromptIdeal)
    ∧ quiescent_LnPromptRefIdeal (hLnPromptRefIdeal := hLnPromptRefIdeal)
    ∧ quiescent_LnSample (hLnSample := hLnSample)
    ∧ quiescent_LnSampleIdeal (hLnSampleIdeal := hLnSampleIdeal)
    ∧ quiescent_LnSampleRefIdeal (hLnSampleRefIdeal := hLnSampleRefIdeal)
    ∧ quiescent_WkvSample (hWkvSample := hWkvSample)
    ∧ quiescent_WkvSampleIdeal (hWkvSampleIdeal := hWkvSampleIdeal)
    ∧ quiescent_WkvSampleRefIdeal (hWkvSampleRefIdeal := hWkvSampleRefIdeal)
    ∧ quiescent_DecayIn (hDecayIn := hDecayIn)
    ∧ quiescent_DecayInIdeal (hDecayInIdeal := hDecayInIdeal)
    ∧ quiescent_DecayInRefIdeal (hDecayInRefIdeal := hDecayInRefIdeal)
    ∧ quiescent_CorrIn (hCorrIn := hCorrIn)
    ∧ quiescent_CorrInIdeal (hCorrInIdeal := hCorrInIdeal)
    ∧ quiescent_CorrInRefIdeal (hCorrInRefIdeal := hCorrInRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_LowOut (hLowOut := hLowOut)
    ∧ quiescent_LowOutIdeal (hLowOutIdeal := hLowOutIdeal)
    ∧ quiescent_LowOutRefIdeal (hLowOutRefIdeal := hLowOutRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_MixPrompt (hMixPrompt := hMixPrompt)
    ∧ quiescent_MixPromptIdeal (hMixPromptIdeal := hMixPromptIdeal)
    ∧ quiescent_MixPromptRefIdeal (hMixPromptRefIdeal := hMixPromptRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_SharedSample (hSharedSample := hSharedSample)
    ∧ quiescent_SharedSampleIdeal (hSharedSampleIdeal := hSharedSampleIdeal)
    ∧ quiescent_SharedSampleIdeal_pre_finite_shared (hSharedSampleIdeal := hSharedSampleIdeal) (hPre_finite_shared := hPre_finite_shared)
    ∧ quiescent_SharedSampleRefIdeal (hSharedSampleRefIdeal := hSharedSampleRefIdeal)
    ∧ quiescent_SharedSampleRefIdeal_pre_finite_shared (hSharedSampleRefIdeal := hSharedSampleRefIdeal) (hPre_finite_shared := hPre_finite_shared)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_QkvPrompt_QkvPromptIdeal
    ∧ algebraic_QkvPromptIdeal_QkvPromptRefIdeal (hQkvPromptIdeal := hQkvPromptIdeal) (hQkvPromptRefIdeal := hQkvPromptRefIdeal)
    ∧ preserves_QkvSample_QkvSampleIdeal
    ∧ algebraic_QkvSampleIdeal_QkvSampleRefIdeal (hQkvSampleIdeal := hQkvSampleIdeal) (hQkvSampleRefIdeal := hQkvSampleRefIdeal)
    ∧ preserves_AttOut_AttOutIdeal
    ∧ algebraic_AttOutIdeal_AttOutRefIdeal (hAttOutIdeal := hAttOutIdeal) (hAttOutRefIdeal := hAttOutRefIdeal)
    ∧ preserves_RkvR_RkvRIdeal
    ∧ algebraic_RkvRIdeal_RkvRRefIdeal (hRkvRIdeal := hRkvRIdeal) (hRkvRRefIdeal := hRkvRRefIdeal)
    ∧ preserves_RkvK_RkvKIdeal
    ∧ algebraic_RkvKIdeal_RkvKRefIdeal (hRkvKIdeal := hRkvKIdeal) (hRkvKRefIdeal := hRkvKRefIdeal)
    ∧ preserves_RkvV_RkvVIdeal
    ∧ algebraic_RkvVIdeal_RkvVRefIdeal (hRkvVIdeal := hRkvVIdeal) (hRkvVRefIdeal := hRkvVRefIdeal)
    ∧ preserves_TimeOut_TimeOutIdeal
    ∧ algebraic_TimeOutIdeal_TimeOutRefIdeal (hTimeOutIdeal := hTimeOutIdeal) (hTimeOutRefIdeal := hTimeOutRefIdeal)
    ∧ preserves_PeerQ0_PeerQ0Ideal
    ∧ algebraic_PeerQ0Ideal_PeerQ0RefIdeal (hPeerQ0Ideal := hPeerQ0Ideal) (hPeerQ0RefIdeal := hPeerQ0RefIdeal)
    ∧ preserves_PeerQ1_PeerQ1Ideal
    ∧ algebraic_PeerQ1Ideal_PeerQ1RefIdeal (hPeerQ1Ideal := hPeerQ1Ideal) (hPeerQ1RefIdeal := hPeerQ1RefIdeal)
    ∧ preserves_LnPrompt_LnPromptIdeal
    ∧ algebraic_LnPromptIdeal_LnPromptRefIdeal (hLnPromptIdeal := hLnPromptIdeal) (hLnPromptRefIdeal := hLnPromptRefIdeal)
    ∧ preserves_LnSample_LnSampleIdeal
    ∧ algebraic_LnSampleIdeal_LnSampleRefIdeal (hLnSampleIdeal := hLnSampleIdeal) (hLnSampleRefIdeal := hLnSampleRefIdeal)
    ∧ preserves_WkvSample_WkvSampleIdeal
    ∧ algebraic_WkvSampleIdeal_WkvSampleRefIdeal (hWkvSampleIdeal := hWkvSampleIdeal) (hWkvSampleRefIdeal := hWkvSampleRefIdeal)
    ∧ preserves_DecayIn_DecayInIdeal
    ∧ algebraic_DecayInIdeal_DecayInRefIdeal (hDecayInIdeal := hDecayInIdeal) (hDecayInRefIdeal := hDecayInRefIdeal)
    ∧ preserves_CorrIn_CorrInIdeal
    ∧ algebraic_CorrInIdeal_CorrInRefIdeal (hCorrInIdeal := hCorrInIdeal) (hCorrInRefIdeal := hCorrInRefIdeal)
    ∧ preserves_GateIn_GateInIdeal
    ∧ algebraic_GateInIdeal_GateInRefIdeal (hGateInIdeal := hGateInIdeal) (hGateInRefIdeal := hGateInRefIdeal)
    ∧ preserves_LowOut_LowOutIdeal
    ∧ algebraic_LowOutIdeal_LowOutRefIdeal (hLowOutIdeal := hLowOutIdeal) (hLowOutRefIdeal := hLowOutRefIdeal)
    ∧ preserves_GateOut_GateOutIdeal
    ∧ algebraic_GateOutIdeal_GateOutRefIdeal (hGateOutIdeal := hGateOutIdeal) (hGateOutRefIdeal := hGateOutRefIdeal)
    ∧ preserves_MixPrompt_MixPromptIdeal
    ∧ algebraic_MixPromptIdeal_MixPromptRefIdeal (hMixPromptIdeal := hMixPromptIdeal) (hMixPromptRefIdeal := hMixPromptRefIdeal)
    ∧ preserves_MixSample_MixSampleIdeal
    ∧ algebraic_MixSampleIdeal_MixSampleRefIdeal (hMixSampleIdeal := hMixSampleIdeal) (hMixSampleRefIdeal := hMixSampleRefIdeal)
    ∧ preserves_SharedSample_SharedSampleIdeal
    ∧ algebraic_SharedSampleIdeal_SharedSampleRefIdeal_pre_finite_shared (hSharedSampleIdeal := hSharedSampleIdeal) (hSharedSampleRefIdeal := hSharedSampleRefIdeal) (hPre_finite_shared := hPre_finite_shared)
-- ==== Pre_finite_scores.lean ====
abbrev S128x8192 : Shape := ⟨2, ![128, 8192]⟩
abbrev S32x2048x12x128 : Shape := ⟨4, ![32, 2048, 12, 128]⟩
abbrev S32x32 : Shape := ⟨2, ![32, 32]⟩
abbrev S128x3072 : Shape := ⟨2, ![128, 3072]⟩
abbrev S_ : Shape := ⟨0, ![]⟩
abbrev S32x12 : Shape := ⟨2, ![32, 12]⟩

class Facts : Prop where
  slices_S128x8192_S128x3072_0_3584 : S128x8192.Slices ![0, 3584] S128x3072
  bcast_S_S128x3072 : S_.BroadcastsInDim S128x3072 (![] : Fin 0 → Fin S128x3072.rank)
  reducesTo_S128x3072_S_d0_1 : S128x3072.ReducesTo [0, 1] S_
  h_S_ : 0 < S_.numel
  bcast_S_S32x2048x12x128 : S_.BroadcastsInDim S32x2048x12x128 (![] : Fin 0 → Fin S32x2048x12x128.rank)
  reducesTo_S32x2048x12x128_S_d0_1_2_3 : S32x2048x12x128.ReducesTo [0, 1, 2, 3] S_
  slices_S32x32_S32x12_0_20 : S32x32.Slices ![0, 20] S32x12
  bcast_S_S32x12 : S_.BroadcastsInDim S32x12 (![] : Fin 0 → Fin S32x12.rank)
  reducesTo_S32x12_S_d0_1 : S32x12.ReducesTo [0, 1] S_

variable [Facts]

def fn {F : FTy → Type} [FloatOps F] (main_arg0 : FVec F S128x8192 .f32) (main_arg1 : FVec F S32x2048x12x128 .f32) (main_arg2 : FVec F S32x2048x12x128 .f32) (main_arg3 : FVec F S32x32 .f32) : IVec S_ 1 :=
  let main_v0 : FVec F S128x3072 .f32 := (extractStridedSlice S128x3072 ![0, 3584] · slices_S128x8192_S128x3072_0_3584) main_arg0
  let main_v1 : FVec F S128x3072 .f32 := Host.absf main_v0
  let main_cst : FVec F S_ .f32 := constant S_ .f32 0x7F800000#32
  let main_v2 : FVec F S128x3072 .f32 := broadcastInDim S128x3072 ![] bcast_S_S128x3072 main_cst
  let main_v3 : IVec S128x3072 1 := cmpf .olt main_v1 main_v2
  let main_c : IVec S_ 1 := constantI S_ 1 1#1
  let main_v4 : IVec S_ 1 := (fun x v => Host.reduce IntOp.andi x v reducesTo_S128x3072_S_d0_1 h_S_) main_v3 main_c
  let main_v5 : FVec F S32x2048x12x128 .f32 := Host.absf main_arg1
  let main_cst_0 : FVec F S_ .f32 := constant S_ .f32 0x7F800000#32
  let main_v6 : FVec F S32x2048x12x128 .f32 := broadcastInDim S32x2048x12x128 ![] bcast_S_S32x2048x12x128 main_cst_0
  let main_v7 : IVec S32x2048x12x128 1 := cmpf .olt main_v5 main_v6
  let main_c_1 : IVec S_ 1 := constantI S_ 1 1#1
  let main_v8 : IVec S_ 1 := (fun x v => Host.reduce IntOp.andi x v reducesTo_S32x2048x12x128_S_d0_1_2_3 h_S_) main_v7 main_c_1
  let main_v9 : IVec S_ 1 := andi main_v4 main_v8
  let main_v10 : FVec F S32x12 .f32 := (extractStridedSlice S32x12 ![0, 20] · slices_S32x32_S32x12_0_20) main_arg3
  let main_v11 : FVec F S32x12 .f32 := Host.absf main_v10
  let main_cst_2 : FVec F S_ .f32 := constant S_ .f32 0x7F800000#32
  let main_v12 : FVec F S32x12 .f32 := broadcastInDim S32x12 ![] bcast_S_S32x12 main_cst_2
  let main_v13 : IVec S32x12 1 := cmpf .olt main_v11 main_v12
  let main_c_3 : IVec S_ 1 := constantI S_ 1 1#1
  let main_v14 : IVec S_ 1 := (fun x v => Host.reduce IntOp.andi x v reducesTo_S32x12_S_d0_1 h_S_) main_v13 main_c_3
  let main_v15 : IVec S_ 1 := andi main_v9 main_v14
  main_v15
-- ==== Pre_finite_shared.lean ====
abbrev S128x8192 : Shape := ⟨2, ![128, 8192]⟩
abbrev S32x128x4x128 : Shape := ⟨4, ![32, 128, 4, 128]⟩
abbrev S32x32 : Shape := ⟨2, ![32, 32]⟩
abbrev S20 : Shape := ⟨1, ![20]⟩
abbrev S128x3072 : Shape := ⟨2, ![128, 3072]⟩
abbrev S_ : Shape := ⟨0, ![]⟩
abbrev S32x20 : Shape := ⟨2, ![32, 20]⟩

class Facts : Prop where
  slices_S128x8192_S128x3072_0_0 : S128x8192.Slices ![0, 0] S128x3072
  bcast_S_S128x3072 : S_.BroadcastsInDim S128x3072 (![] : Fin 0 → Fin S128x3072.rank)
  reducesTo_S128x3072_S_d0_1 : S128x3072.ReducesTo [0, 1] S_
  h_S_ : 0 < S_.numel
  bcast_S_S32x128x4x128 : S_.BroadcastsInDim S32x128x4x128 (![] : Fin 0 → Fin S32x128x4x128.rank)
  reducesTo_S32x128x4x128_S_d0_1_2_3 : S32x128x4x128.ReducesTo [0, 1, 2, 3] S_
  slices_S32x32_S32x20_0_0 : S32x32.Slices ![0, 0] S32x20
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_v15 : IVec S_ 1) (main_v16 : FVec F S20 .f32) (main_cst_4 : FVec F S_ .f32) : IVec S_ 1 :=
  let main_v17 : FVec F S20 .f32 := broadcastInDim S20 ![] bcast_S_S20 main_cst_4
  let main_v18 : IVec S20 1 := cmpf .olt main_v16 main_v17
  let main_c_5 : IVec S_ 1 := constantI S_ 1 1#1
  let main_v19 : IVec S_ 1 := (fun x v => Host.reduce IntOp.andi x v reducesTo_S20_S_d0 h_S_) main_v18 main_c_5
  let main_v20 : IVec S_ 1 := andi main_v15 main_v19
  main_v20

def fn {F : FTy → Type} [FloatOps F] (main_arg0 : FVec F S128x8192 .f32) (main_arg1 : FVec F S32x128x4x128 .f32) (main_arg2 : FVec F S32x128x4x128 .f32) (main_arg3 : FVec F S32x32 .f32) (main_arg4 : FVec F S20 .f32) : IVec S_ 1 :=
  let main_v0 : FVec F S128x3072 .f32 := (extractStridedSlice S128x3072 ![0, 0] · slices_S128x8192_S128x3072_0_0) main_arg0
  let main_v1 : FVec F S128x3072 .f32 := Host.absf main_v0
  let main_cst : FVec F S_ .f32 := constant S_ .f32 0x7F800000#32
  let main_v2 : FVec F S128x3072 .f32 := broadcastInDim S128x3072 ![] bcast_S_S128x3072 main_cst
  let main_v3 : IVec S128x3072 1 := cmpf .olt main_v1 main_v2
  let main_c : IVec S_ 1 := constantI S_ 1 1#1
  let main_v4 : IVec S_ 1 := (fun x v => Host.reduce IntOp.andi x v reducesTo_S128x3072_S_d0_1 h_S_) main_v3 main_c
  let main_v5 : FVec F S32x128x4x128 .f32 := Host.absf main_arg1
  let main_cst_0 : FVec F S_ .f32 := constant S_ .f32 0x7F800000#32
  let main_v6 : FVec F S32x128x4x128 .f32 := broadcastInDim S32x128x4x128 ![] bcast_S_S32x128x4x128 main_cst_0
  let main_v7 : IVec S32x128x4x128 1 := cmpf .olt main_v5 main_v6
  let main_c_1 : IVec S_ 1 := constantI S_ 1 1#1
  let main_v8 : IVec S_ 1 := (fun x v => Host.reduce IntOp.andi x v reducesTo_S32x128x4x128_S_d0_1_2_3 h_S_) main_v7 main_c_1
  let main_v9 : IVec S_ 1 := andi main_v4 main_v8
  let main_v10 : FVec F S32x20 .f32 := (extractStridedSlice S32x20 ![0, 0] · slices_S32x32_S32x20_0_0) main_arg3
  let main_v11 : FVec F S32x20 .f32 := Host.absf main_v10
  let main_cst_2 : FVec F S_ .f32 := constant S_ .f32 0x7F800000#32
  let main_v12 : FVec F S32x20 .f32 := broadcastInDim S32x20 ![] bcast_S_S32x20 main_cst_2
  let main_v13 : IVec S32x20 1 := cmpf .olt main_v11 main_v12
  let main_c_3 : IVec S_ 1 := constantI S_ 1 1#1
  let main_v14 : IVec S_ 1 := (fun x v => Host.reduce IntOp.andi x v reducesTo_S32x20_S_d0_1 h_S_) main_v13 main_c_3
  let main_v15 : IVec S_ 1 := andi main_v9 main_v14
  let main_v16 : FVec F S20 .f32 := Host.absf main_arg4
  let main_cst_4 : FVec F S_ .f32 := constant S_ .f32 0x7F800000#32
  fn_part1 (F := F) main_v15 main_v16 main_cst_4
-- ==== Kernel.lean ====
abbrev S128x8192 : Shape := ⟨2, ![128, 8192]⟩
abbrev S32x2048x12x128 : Shape := ⟨4, ![32, 2048, 12, 128]⟩
abbrev S32x32 : Shape := ⟨2, ![32, 32]⟩
abbrev S8x256 : Shape := ⟨2, ![8, 256]⟩
abbrev S8x640 : Shape := ⟨2, ![8, 640]⟩
abbrev S32x12x2048x128 : Shape := ⟨4, ![32, 12, 2048, 128]⟩
abbrev S32x20 : Shape := ⟨2, ![32, 20]⟩
abbrev S32x12 : Shape := ⟨2, ![32, 12]⟩
abbrev S8x256x1 : Shape := ⟨3, ![8, 256, 1]⟩
abbrev S32 : Shape := ⟨1, ![32]⟩
abbrev S1x1x32 : Shape := ⟨3, ![1, 1, 32]⟩
abbrev S8x256x32 : Shape := ⟨3, ![8, 256, 32]⟩
abbrev S20x8x256 : Shape := ⟨3, ![20, 8, 256]⟩
abbrev S_ : Shape := ⟨0, ![]⟩
abbrev S12x8x256 : Shape := ⟨3, ![12, 8, 256]⟩
abbrev S8x640x1 : Shape := ⟨3, ![8, 640, 1]⟩
abbrev S8x640x32 : Shape := ⟨3, ![8, 640, 32]⟩
abbrev S12x8x640 : Shape := ⟨3, ![12, 8, 640]⟩
abbrev S32x4x8192 : Shape := ⟨3, ![32, 4, 8192]⟩
abbrev S32x4x1536 : Shape := ⟨3, ![32, 4, 1536]⟩
abbrev S1x4x128 : Shape := ⟨3, ![1, 4, 128]⟩
abbrev S1x1x2048x128 : Shape := ⟨4, ![1, 1, 2048, 128]⟩
abbrev S1x8x256 : Shape := ⟨3, ![1, 8, 256]⟩
abbrev S1x8x640 : Shape := ⟨3, ![1, 8, 640]⟩
abbrev S8x128 : Shape := ⟨2, ![8, 128]⟩
abbrev S640x128 : Shape := ⟨2, ![640, 128]⟩
abbrev S1x1x2044x128 : Shape := ⟨4, ![1, 1, 2044, 128]⟩
abbrev S2044x128 : Shape := ⟨2, ![2044, 128]⟩
abbrev S4x128 : Shape := ⟨2, ![4, 128]⟩
abbrev S1x1x4x128 : Shape := ⟨4, ![1, 1, 4, 128]⟩
abbrev S1x1x128x128 : Shape := ⟨4, ![1, 1, 128, 128]⟩
abbrev S128x128 : Shape := ⟨2, ![128, 128]⟩
abbrev S256x128 : Shape := ⟨2, ![256, 128]⟩
abbrev S8 : Shape := ⟨1, ![8]⟩
abbrev S8x1 : Shape := ⟨2, ![8, 1]⟩
abbrev S1x1x512x128 : Shape := ⟨4, ![1, 1, 512, 128]⟩
abbrev S512x128 : Shape := ⟨2, ![512, 128]⟩

abbrev nBuf : Space → Nat
  | .hbm => 71
  | .vmem => 25
  | .smem => 0
  | _ => 0

abbrev bufTy : (tb : Table) → Fin (tcTables nBuf tb) → BufTy
  | .hbm, ⟨0, _⟩ => ⟨S128x8192, .f32⟩
  | .hbm, ⟨1, _⟩ => ⟨S32x2048x12x128, .f32⟩
  | .hbm, ⟨2, _⟩ => ⟨S32x2048x12x128, .f32⟩
  | .hbm, ⟨3, _⟩ => ⟨S32x32, .f32⟩
  | .hbm, ⟨4, _⟩ => ⟨S8x256, .i32⟩
  | .hbm, ⟨5, _⟩ => ⟨S8x256, .i1⟩
  | .hbm, ⟨6, _⟩ => ⟨S8x256, .i32⟩
  | .hbm, ⟨7, _⟩ => ⟨S8x640, .i32⟩
  | .hbm, ⟨8, _⟩ => ⟨S8x640, .i1⟩
  | .hbm, ⟨9, _⟩ => ⟨S8x640, .i32⟩
  | .hbm, ⟨10, _⟩ => ⟨S8x640, .i1⟩
  | .hbm, ⟨11, _⟩ => ⟨S32x12x2048x128, .f32⟩
  | .hbm, ⟨12, _⟩ => ⟨S32x12x2048x128, .f32⟩
  | .hbm, ⟨13, _⟩ => ⟨S32x20, .f32⟩
  | .hbm, ⟨14, _⟩ => ⟨S32x12, .f32⟩
  | .hbm, ⟨15, _⟩ => ⟨S8x256x1, .i32⟩
  | .hbm, ⟨16, _⟩ => ⟨S32, .i32⟩
  | .hbm, ⟨17, _⟩ => ⟨S1x1x32, .i32⟩
  | .hbm, ⟨18, _⟩ => ⟨S8x256x32, .i32⟩
  | .hbm, ⟨19, _⟩ => ⟨S8x256x32, .i32⟩
  | .hbm, ⟨20, _⟩ => ⟨S8x256x32, .i1⟩
  | .hbm, ⟨21, _⟩ => ⟨S8x256x32, .f32⟩
  | .hbm, ⟨22, _⟩ => ⟨S20x8x256, .f32⟩
  | .hbm, ⟨23, _⟩ => ⟨S_, .f32⟩
  | .hbm, ⟨24, _⟩ => ⟨S_, .f32⟩
  | .hbm, ⟨25, _⟩ => ⟨S20x8x256, .i1⟩
  | .hbm, ⟨26, _⟩ => ⟨S20x8x256, .f32⟩
  | .hbm, ⟨27, _⟩ => ⟨S20x8x256, .f32⟩
  | .hbm, ⟨28, _⟩ => ⟨S8x256x1, .i32⟩
  | .hbm, ⟨29, _⟩ => ⟨S32, .i32⟩
  | .hbm, ⟨30, _⟩ => ⟨S1x1x32, .i32⟩
  | .hbm, ⟨31, _⟩ => ⟨S8x256x32, .i32⟩
  | .hbm, ⟨32, _⟩ => ⟨S8x256x32, .i32⟩
  | .hbm, ⟨33, _⟩ => ⟨S8x256x32, .i1⟩
  | .hbm, ⟨34, _⟩ => ⟨S8x256x32, .f32⟩
  | .hbm, ⟨35, _⟩ => ⟨S12x8x256, .f32⟩
  | .hbm, ⟨36, _⟩ => ⟨S_, .f32⟩
  | .hbm, ⟨37, _⟩ => ⟨S_, .f32⟩
  | .hbm, ⟨38, _⟩ => ⟨S12x8x256, .i1⟩
  | .hbm, ⟨39, _⟩ => ⟨S12x8x256, .f32⟩
  | .hbm, ⟨40, _⟩ => ⟨S12x8x256, .f32⟩
  | .hbm, ⟨41, _⟩ => ⟨S8x640x1, .i32⟩
  | .hbm, ⟨42, _⟩ => ⟨S32, .i32⟩
  | .hbm, ⟨43, _⟩ => ⟨S1x1x32, .i32⟩
  | .hbm, ⟨44, _⟩ => ⟨S8x640x32, .i32⟩
  | .hbm, ⟨45, _⟩ => ⟨S8x640x32, .i32⟩
  | .hbm, ⟨46, _⟩ => ⟨S8x640x32, .i1⟩
  | .hbm, ⟨47, _⟩ => ⟨S8x640x32, .f32⟩
  | .hbm, ⟨48, _⟩ => ⟨S12x8x640, .f32⟩
  | .hbm, ⟨49, _⟩ => ⟨S_, .f32⟩
  | .hbm, ⟨50, _⟩ => ⟨S_, .f32⟩
  | .hbm, ⟨51, _⟩ => ⟨S12x8x640, .i1⟩
  | .hbm, ⟨52, _⟩ => ⟨S12x8x640, .f32⟩
  | .hbm, ⟨53, _⟩ => ⟨S12x8x640, .f32⟩
  | .hbm, ⟨54, _⟩ => ⟨S8x640x1, .i32⟩
  | .hbm, ⟨55, _⟩ => ⟨S32, .i32⟩
  | .hbm, ⟨56, _⟩ => ⟨S1x1x32, .i32⟩
  | .hbm, ⟨57, _⟩ => ⟨S8x640x32, .i32⟩
  | .hbm, ⟨58, _⟩ => ⟨S8x640x32, .i32⟩
  | .hbm, ⟨59, _⟩ => ⟨S8x640x32, .i1⟩
  | .hbm, ⟨60, _⟩ => ⟨S8x640x32, .f32⟩
  | .hbm, ⟨61, _⟩ => ⟨S12x8x640, .f32⟩
  | .hbm, ⟨62, _⟩ => ⟨S_, .f32⟩
  | .hbm, ⟨63, _⟩ => ⟨S_, .f32⟩
  | .hbm, ⟨64, _⟩ => ⟨S12x8x640, .i1⟩
  | .hbm, ⟨65, _⟩ => ⟨S12x8x640, .f32⟩
  | .hbm, ⟨66, _⟩ => ⟨S12x8x640, .f32⟩
  | .hbm, ⟨67, _⟩ => ⟨S32x4x8192, .f32⟩
  | .hbm, ⟨68, _⟩ => ⟨S32x4x1536, .f32⟩
  | .hbm, ⟨69, _⟩ => ⟨S32x12x2048x128, .f32⟩
  | .hbm, ⟨70, _⟩ => ⟨S32x12x2048x128, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x8x256, .f32⟩
  | .local _ .vmem, ⟨11, _⟩ => ⟨S1x8x256, .f32⟩
  | .local _ .vmem, ⟨12, _⟩ => ⟨S1x8x640, .f32⟩
  | .local _ .vmem, ⟨13, _⟩ => ⟨S1x8x640, .f32⟩
  | .local _ .vmem, ⟨14, _⟩ => ⟨S1x8x640, .f32⟩
  | .local _ .vmem, ⟨15, _⟩ => ⟨S1x8x640, .f32⟩
  | .local _ .vmem, ⟨16, _⟩ => ⟨S1x4x128, .f32⟩
  | .local _ .vmem, ⟨17, _⟩ => ⟨S1x4x128, .f32⟩
  | .local _ .vmem, ⟨18, _⟩ => ⟨S1x1x2048x128, .f32⟩
  | .local _ .vmem, ⟨19, _⟩ => ⟨S1x1x2048x128, .f32⟩
  | .local _ .vmem, ⟨20, _⟩ => ⟨S1x1x2048x128, .f32⟩
  | .local _ .vmem, ⟨21, _⟩ => ⟨S1x1x2048x128, .f32⟩
  | .local _ .vmem, ⟨22, _⟩ => ⟨S8x128, .f32⟩
  | .local _ .vmem, ⟨23, _⟩ => ⟨S640x128, .f32⟩
  | .local _ .vmem, ⟨24, _⟩ => ⟨S640x128, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v39 : Ref sig .tc := ⟨.hbm, 66, rfl⟩
abbrev main_v40 : Ref sig .tc := ⟨.hbm, 67, rfl⟩
abbrev main_v41_0 : Ref sig .tc := ⟨.hbm, 68, rfl⟩
abbrev main_v41_1 : Ref sig .tc := ⟨.hbm, 69, rfl⟩
abbrev main_v41_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 12], ![false, false]⟩

def cc0_transform_0 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S128x8192 : Shape := ⟨2, ![128, 8192]⟩
abbrev S32x2048x12x128 : Shape := ⟨4, ![32, 2048, 12, 128]⟩
abbrev S32x32 : Shape := ⟨2, ![32, 32]⟩
abbrev S4x129 : Shape := ⟨2, ![4, 129]⟩
abbrev S129 : Shape := ⟨1, ![129]⟩
abbrev S32x4x8192 : Shape := ⟨3, ![32, 4, 8192]⟩
abbrev S32x4x1536 : Shape := ⟨3, ![32, 4, 1536]⟩
abbrev S32x4x12x128 : Shape := ⟨4, ![32, 4, 12, 128]⟩
abbrev S32x12 : Shape := ⟨2, ![32, 12]⟩
abbrev S32x2052x12x128 : Shape := ⟨4, ![32, 2052, 12, 128]⟩
abbrev S_ : Shape := ⟨0, ![]⟩
abbrev S4x129x1 : Shape := ⟨3, ![4, 129, 1]⟩
abbrev S32x4x129x12x128 : Shape := ⟨5, ![32, 4, 129, 12, 128]⟩
abbrev S32x12x4x129 : Shape := ⟨4, ![32, 12, 4, 129]⟩
abbrev S129x1 : Shape := ⟨2, ![129, 1]⟩
abbrev S129x12 : Shape := ⟨2, ![129, 12]⟩
abbrev S12x129 : Shape := ⟨2, ![12, 129]⟩
abbrev S12x1x129 : Shape := ⟨3, ![12, 1, 129]⟩
abbrev S1x12x1x129 : Shape := ⟨4, ![1, 12, 1, 129]⟩
abbrev S32x12x4 : Shape := ⟨3, ![32, 12, 4]⟩
abbrev S32x12x4x1 : Shape := ⟨4, ![32, 12, 4, 1]⟩
abbrev S32x4x12 : Shape := ⟨3, ![32, 4, 12]⟩
abbrev S1x32x4x12 : Shape := ⟨4, ![1, 32, 4, 12]⟩
abbrev S3x32x4x12 : Shape := ⟨4, ![3, 32, 4, 12]⟩
abbrev S3x32x4x12x1 : Shape := ⟨5, ![3, 32, 4, 12, 1]⟩
abbrev S1x32x4x12x128 : Shape := ⟨5, ![1, 32, 4, 12, 128]⟩
abbrev S3x32x4x12x128 : Shape := ⟨5, ![3, 32, 4, 12, 128]⟩
abbrev S32x12x2048x128 : Shape := ⟨4, ![32, 12, 2048, 128]⟩

abbrev nBuf : Space → Nat
  | .hbm => 286
  | .vmem => 0
  | .smem => 0
  | _ => 0

abbrev hbmTy0_0 (i : Nat) : BufTy := match i % 128 with
  | 0 => ⟨S128x8192, .f32⟩
  | 1 => ⟨S32x2048x12x128, .f32⟩
  | 2 => ⟨S32x2048x12x128, .f32⟩
  | 3 => ⟨S32x32, .f32⟩
  | 4 => ⟨S4x129, .i32⟩
  | 5 => ⟨S4x129, .i1⟩
  | 6 => ⟨S4x129, .i1⟩
  | 7 => ⟨S129, .i32⟩
  | 8 => ⟨S4x129, .i32⟩
  | 9 => ⟨S4x129, .i1⟩
  | 10 => ⟨S4x129, .i1⟩
  | 11 => ⟨S129, .i32⟩
  | 12 => ⟨S4x129, .i32⟩
  | 13 => ⟨S4x129, .i1⟩
  | 14 => ⟨S4x129, .i1⟩
  | 15 => ⟨S129, .i32⟩
  | 16 => ⟨S32x4x8192, .f32⟩
  | 17 => ⟨S32x4x1536, .f32⟩
  | 18 => ⟨S32x4x12x128, .f32⟩
  | 19 => ⟨S32x4x1536, .f32⟩
  | 20 => ⟨S32x4x12x128, .f32⟩
  | 21 => ⟨S32x4x1536, .f32⟩
  | 22 => ⟨S32x4x12x128, .f32⟩
  | 23 => ⟨S32x12, .f32⟩
  | 24 => ⟨S32x2052x12x128, .f32⟩
  | 25 => ⟨S32x2052x12x128, .f32⟩
  | 26 => ⟨S_, .i32⟩
  | 27 => ⟨S4x129, .i32⟩
  | 28 => ⟨S4x129, .i32⟩
  | 29 => ⟨S4x129, .i32⟩
  | 30 => ⟨S4x129x1, .i32⟩
  | 31 => ⟨S32x4x129x12x128, .f32⟩
  | 32 => ⟨S_, .i32⟩
  | 33 => ⟨S4x129, .i32⟩
  | 34 => ⟨S4x129, .i32⟩
  | 35 => ⟨S4x129, .i32⟩
  | 36 => ⟨S4x129x1, .i32⟩
  | 37 => ⟨S32x4x129x12x128, .f32⟩
  | 38 => ⟨S32x12x4x129, .f32⟩
  | 39 => ⟨S_, .f32⟩
  | 40 => ⟨S32x12x4x129, .f32⟩
  | 41 => ⟨S32x12x4x129, .f32⟩
  | 42 => ⟨S_, .i32⟩
  | 43 => ⟨S129, .i32⟩
  | 44 => ⟨S129, .i32⟩
  | 45 => ⟨S_, .i32⟩
  | 46 => ⟨S129, .i32⟩
  | 47 => ⟨S129, .i32⟩
  | 48 => ⟨S129, .f32⟩
  | 49 => ⟨S_, .f32⟩
  | 50 => ⟨S129, .f32⟩
  | 51 => ⟨S129, .f32⟩
  | 52 => ⟨S129, .f32⟩
  | 53 => ⟨S_, .f32⟩
  | 54 => ⟨S129, .f32⟩
  | 55 => ⟨S129, .f32⟩
  | 56 => ⟨S_, .f32⟩
  | 57 => ⟨S129, .f32⟩
  | 58 => ⟨S129, .f32⟩
  | 59 => ⟨S129, .i32⟩
  | 60 => ⟨S_, .i32⟩
  | 61 => ⟨S129, .i32⟩
  | 62 => ⟨S129, .i32⟩
  | 63 => ⟨S_, .i32⟩
  | 64 => ⟨S129, .i32⟩
  | 65 => ⟨S129, .i1⟩
  | 66 => ⟨S_, .i32⟩
  | 67 => ⟨S129, .i32⟩
  | 68 => ⟨S129, .i32⟩
  | 69 => ⟨S129, .i32⟩
  | 70 => ⟨S_, .i32⟩
  | 71 => ⟨S129, .i32⟩
  | 72 => ⟨S129, .i1⟩
  | 73 => ⟨S_, .i32⟩
  | 74 => ⟨S129, .i32⟩
  | 75 => ⟨S129, .i32⟩
  | 76 => ⟨S129, .i32⟩
  | 77 => ⟨S129x1, .i32⟩
  | 78 => ⟨S129x12, .f32⟩
  | 79 => ⟨S12x129, .f32⟩
  | 80 => ⟨S12x1x129, .f32⟩
  | 81 => ⟨S1x12x1x129, .f32⟩
  | 82 => ⟨S32x12x4x129, .f32⟩
  | 83 => ⟨S32x12x4x129, .f32⟩
  | 84 => ⟨S_, .f32⟩
  | 85 => ⟨S32x12x4, .f32⟩
  | 86 => ⟨S32x12x4x1, .f32⟩
  | 87 => ⟨S32x12x4x129, .f32⟩
  | 88 => ⟨S32x12x4x129, .f32⟩
  | 89 => ⟨S32x12x4x129, .f32⟩
  | 90 => ⟨S_, .f32⟩
  | 91 => ⟨S32x12x4, .f32⟩
  | 92 => ⟨S32x12x4x1, .f32⟩
  | 93 => ⟨S32x12x4x1, .f32⟩
  | 94 => ⟨S32x12x4x1, .f32⟩
  | 95 => ⟨S32x12x4, .f32⟩
  | 96 => ⟨S32x12x4x1, .f32⟩
  | 97 => ⟨S32x12x4x129, .f32⟩
  | 98 => ⟨S32x12x4x129, .f32⟩
  | 99 => ⟨S32x12x4x129, .f32⟩
  | 100 => ⟨S32x4x12x128, .f32⟩
  | 101 => ⟨S32x4x12, .f32⟩
  | 102 => ⟨S_, .i32⟩
  | 103 => ⟨S4x129, .i32⟩
  | 104 => ⟨S4x129, .i32⟩
  | 105 => ⟨S4x129, .i32⟩
  | 106 => ⟨S4x129x1, .i32⟩
  | 107 => ⟨S32x4x129x12x128, .f32⟩
  | 108 => ⟨S_, .i32⟩
  | 109 => ⟨S4x129, .i32⟩
  | 110 => ⟨S4x129, .i32⟩
  | 111 => ⟨S4x129, .i32⟩
  | 112 => ⟨S4x129x1, .i32⟩
  | 113 => ⟨S32x4x129x12x128, .f32⟩
  | 114 => ⟨S32x12x4x129, .f32⟩
  | 115 => ⟨S_, .f32⟩
  | 116 => ⟨S32x12x4x129, .f32⟩
  | 117 => ⟨S32x12x4x129, .f32⟩
  | 118 => ⟨S_, .i32⟩
  | 119 => ⟨S129, .i32⟩
  | 120 => ⟨S129, .i32⟩
  | 121 => ⟨S_, .i32⟩
  | 122 => ⟨S129, .i32⟩
  | 123 => ⟨S129, .i32⟩
  | 124 => ⟨S129, .f32⟩
  | 125 => ⟨S_, .f32⟩
  | 126 => ⟨S129, .f32⟩
  | 127 => ⟨S129, .f32⟩
  | _ => ⟨S128x8192, .f32⟩

abbrev hbmTy0_1 (i : Nat) : BufTy := match i % 128 with
  | 0 => ⟨S129, .f32⟩
  | 1 => ⟨S_, .f32⟩
  | 2 => ⟨S129, .f32⟩
  | 3 => ⟨S129, .f32⟩
  | 4 => ⟨S_, .f32⟩
  | 5 => ⟨S129, .f32⟩
  | 6 => ⟨S129, .f32⟩
  | 7 => ⟨S129, .i32⟩
  | 8 => ⟨S_, .i32⟩
  | 9 => ⟨S129, .i32⟩
  | 10 => ⟨S129, .i32⟩
  | 11 => ⟨S_, .i32⟩
  | 12 => ⟨S129, .i32⟩
  | 13 => ⟨S129, .i1⟩
  | 14 => ⟨S_, .i32⟩
  | 15 => ⟨S129, .i32⟩
  | 16 => ⟨S129, .i32⟩
  | 17 => ⟨S129, .i32⟩
  | 18 => ⟨S_, .i32⟩
  | 19 => ⟨S129, .i32⟩
  | 20 => ⟨S129, .i1⟩
  | 21 => ⟨S_, .i32⟩
  | 22 => ⟨S129, .i32⟩
  | 23 => ⟨S129, .i32⟩
  | 24 => ⟨S129, .i32⟩
  | 25 => ⟨S129x1, .i32⟩
  | 26 => ⟨S129x12, .f32⟩
  | 27 => ⟨S12x129, .f32⟩
  | 28 => ⟨S12x1x129, .f32⟩
  | 29 => ⟨S1x12x1x129, .f32⟩
  | 30 => ⟨S32x12x4x129, .f32⟩
  | 31 => ⟨S32x12x4x129, .f32⟩
  | 32 => ⟨S_, .f32⟩
  | 33 => ⟨S32x12x4, .f32⟩
  | 34 => ⟨S32x12x4x1, .f32⟩
  | 35 => ⟨S32x12x4x129, .f32⟩
  | 36 => ⟨S32x12x4x129, .f32⟩
  | 37 => ⟨S32x12x4x129, .f32⟩
  | 38 => ⟨S_, .f32⟩
  | 39 => ⟨S32x12x4, .f32⟩
  | 40 => ⟨S32x12x4x1, .f32⟩
  | 41 => ⟨S32x12x4x1, .f32⟩
  | 42 => ⟨S32x12x4x1, .f32⟩
  | 43 => ⟨S32x12x4, .f32⟩
  | 44 => ⟨S32x12x4x1, .f32⟩
  | 45 => ⟨S32x12x4x129, .f32⟩
  | 46 => ⟨S32x12x4x129, .f32⟩
  | 47 => ⟨S32x12x4x129, .f32⟩
  | 48 => ⟨S32x4x12x128, .f32⟩
  | 49 => ⟨S32x4x12, .f32⟩
  | 50 => ⟨S_, .i32⟩
  | 51 => ⟨S4x129, .i32⟩
  | 52 => ⟨S4x129, .i32⟩
  | 53 => ⟨S4x129, .i32⟩
  | 54 => ⟨S4x129x1, .i32⟩
  | 55 => ⟨S32x4x129x12x128, .f32⟩
  | 56 => ⟨S_, .i32⟩
  | 57 => ⟨S4x129, .i32⟩
  | 58 => ⟨S4x129, .i32⟩
  | 59 => ⟨S4x129, .i32⟩
  | 60 => ⟨S4x129x1, .i32⟩
  | 61 => ⟨S32x4x129x12x128, .f32⟩
  | 62 => ⟨S32x12x4x129, .f32⟩
  | 63 => ⟨S_, .f32⟩
  | 64 => ⟨S32x12x4x129, .f32⟩
  | 65 => ⟨S32x12x4x129, .f32⟩
  | 66 => ⟨S_, .i32⟩
  | 67 => ⟨S129, .i32⟩
  | 68 => ⟨S129, .i32⟩
  | 69 => ⟨S_, .i32⟩
  | 70 => ⟨S129, .i32⟩
  | 71 => ⟨S129, .i32⟩
  | 72 => ⟨S129, .f32⟩
  | 73 => ⟨S_, .f32⟩
  | 74 => ⟨S129, .f32⟩
  | 75 => ⟨S129, .f32⟩
  | 76 => ⟨S129, .f32⟩
  | 77 => ⟨S_, .f32⟩
  | 78 => ⟨S129, .f32⟩
  | 79 => ⟨S129, .f32⟩
  | 80 => ⟨S_, .f32⟩
  | 81 => ⟨S129, .f32⟩
  | 82 => ⟨S129, .f32⟩
  | 83 => ⟨S129, .i32⟩
  | 84 => ⟨S_, .i32⟩
  | 85 => ⟨S129, .i32⟩
  | 86 => ⟨S129, .i32⟩
  | 87 => ⟨S_, .i32⟩
  | 88 => ⟨S129, .i32⟩
  | 89 => ⟨S129, .i1⟩
  | 90 => ⟨S_, .i32⟩
  | 91 => ⟨S129, .i32⟩
  | 92 => ⟨S129, .i32⟩
  | 93 => ⟨S129, .i32⟩
  | 94 => ⟨S_, .i32⟩
  | 95 => ⟨S129, .i32⟩
  | 96 => ⟨S129, .i1⟩
  | 97 => ⟨S_, .i32⟩
  | 98 => ⟨S129, .i32⟩
  | 99 => ⟨S129, .i32⟩
  | 100 => ⟨S129, .i32⟩
  | 101 => ⟨S129x1, .i32⟩
  | 102 => ⟨S129x12, .f32⟩
  | 103 => ⟨S12x129, .f32⟩
  | 104 => ⟨S12x1x129, .f32⟩
  | 105 => ⟨S1x12x1x129, .f32⟩
  | 106 => ⟨S32x12x4x129, .f32⟩
  | 107 => ⟨S32x12x4x129, .f32⟩
  | 108 => ⟨S_, .f32⟩
  | 109 => ⟨S32x12x4, .f32⟩
  | 110 => ⟨S32x12x4x1, .f32⟩
  | 111 => ⟨S32x12x4x129, .f32⟩
  | 112 => ⟨S32x12x4x129, .f32⟩
  | 113 => ⟨S32x12x4x129, .f32⟩
  | 114 => ⟨S_, .f32⟩
  | 115 => ⟨S32x12x4, .f32⟩
  | 116 => ⟨S32x12x4x1, .f32⟩
  | 117 => ⟨S32x12x4x1, .f32⟩
  | 118 => ⟨S32x12x4x1, .f32⟩
  | 119 => ⟨S32x12x4, .f32⟩
  | 120 => ⟨S32x12x4x1, .f32⟩
  | 121 => ⟨S32x12x4x129, .f32⟩
  | 122 => ⟨S32x12x4x129, .f32⟩
  | 123 => ⟨S32x12x4x129, .f32⟩
  | 124 => ⟨S32x4x12x128, .f32⟩
  | 125 => ⟨S32x4x12, .f32⟩
  | 126 => ⟨S1x32x4x12, .f32⟩
  | 127 => ⟨S1x32x4x12, .f32⟩
  | _ => ⟨S128x8192, .f32⟩

abbrev hbmTy0_2 (i : Nat) : BufTy := match i % 128 with
  | 0 => ⟨S1x32x4x12, .f32⟩
  | 1 => ⟨S3x32x4x12, .f32⟩
  | 2 => ⟨S_, .f32⟩
  | 3 => ⟨S32x4x12, .f32⟩
  | 4 => ⟨S_, .f32⟩
  | 5 => ⟨S32x4x12, .f32⟩
  | 6 => ⟨S32x4x12, .f32⟩
  | 7 => ⟨S1x32x4x12, .f32⟩
  | 8 => ⟨S3x32x4x12, .f32⟩
  | 9 => ⟨S3x32x4x12, .f32⟩
  | 10 => ⟨S3x32x4x12, .f32⟩
  | 11 => ⟨S_, .f32⟩
  | 12 => ⟨S32x4x12, .f32⟩
  | 13 => ⟨S1x32x4x12, .f32⟩
  | 14 => ⟨S3x32x4x12, .f32⟩
  | 15 => ⟨S3x32x4x12, .f32⟩
  | 16 => ⟨S3x32x4x12x1, .f32⟩
  | 17 => ⟨S1x32x4x12x128, .f32⟩
  | 18 => ⟨S1x32x4x12x128, .f32⟩
  | 19 => ⟨S1x32x4x12x128, .f32⟩
  | 20 => ⟨S3x32x4x12x128, .f32⟩
  | 21 => ⟨S3x32x4x12x128, .f32⟩
  | 22 => ⟨S3x32x4x12x128, .f32⟩
  | 23 => ⟨S_, .f32⟩
  | 24 => ⟨S32x4x12x128, .f32⟩
  | 25 => ⟨S32x4x1536, .f32⟩
  | 26 => ⟨S32x2048x12x128, .f32⟩
  | 27 => ⟨S32x12x2048x128, .f32⟩
  | 28 => ⟨S32x2048x12x128, .f32⟩
  | 29 => ⟨S32x12x2048x128, .f32⟩
  | _ => ⟨S128x8192, .f32⟩

abbrev hbmTy (i : Nat) : BufTy := match i / 128 with
  | 0 => hbmTy0_0 i
  | 1 => hbmTy0_1 i
  | 2 => hbmTy0_2 i
  | _ => ⟨S128x8192, .f32⟩

abbrev bufTy : (tb : Table) → Fin (tcTables nBuf tb) → BufTy
  | .hbm, ⟨i, _⟩ => hbmTy i
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_c_10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_11 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_c_13 : Ref sig .tc := ⟨.hbm, 42, rfl⟩
abbrev main_v23 : Ref sig .tc := ⟨.hbm, 43, rfl⟩
abbrev main_v24 : Ref sig .tc := ⟨.hbm, 44, rfl⟩
abbrev main_c_14 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_15 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_16 : Ref sig .tc := ⟨.hbm, 53, rfl⟩
abbrev main_v31 : Ref sig .tc := ⟨.hbm, 54, rfl⟩
abbrev main_v32 : Ref sig .tc := ⟨.hbm, 55, rfl⟩
abbrev main_cst_17 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_18 : Ref sig .tc := ⟨.hbm, 60, rfl⟩
abbrev main_v36 : Ref sig .tc := ⟨.hbm, 61, rfl⟩
abbrev main_v37 : Ref sig .tc := ⟨.hbm, 62, rfl⟩
abbrev main_c_19 : Ref sig .tc := ⟨.hbm, 63, rfl⟩
abbrev main_v38 : Ref sig .tc := ⟨.hbm, 64, rfl⟩
abbrev main_v39 : Ref sig .tc := ⟨.hbm, 65, rfl⟩
abbrev main_c_20 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_21 : Ref sig .tc := ⟨.hbm, 70, rfl⟩
abbrev main_v43 : Ref sig .tc := ⟨.hbm, 71, rfl⟩
abbrev main_v44 : Ref sig .tc := ⟨.hbm, 72, rfl⟩
abbrev main_c_22 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_23 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_24 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_25 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_26 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_27 : Ref sig .tc := ⟨.hbm, 115, rfl⟩
abbrev main_v82 : Ref sig .tc := ⟨.hbm, 116, rfl⟩
abbrev main_v83 : Ref sig .tc := ⟨.hbm, 117, rfl⟩
abbrev main_c_28 : Ref sig .tc := ⟨.hbm, 118, rfl⟩
abbrev main_v84 : Ref sig .tc := ⟨.hbm, 119, rfl⟩
abbrev main_v85 : Ref sig .tc := ⟨.hbm, 120, rfl⟩
abbrev main_c_29 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_30 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_31 : Ref sig .tc := ⟨.hbm, 129, rfl⟩
abbrev main_v92 : Ref sig .tc := ⟨.hbm, 130, rfl⟩
abbrev main_v93 : Ref sig .tc := ⟨.hbm, 131, rfl⟩
abbrev main_cst_32 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_33 : Ref sig .tc := ⟨.hbm, 136, rfl⟩
abbrev main_v97 : Ref sig .tc := ⟨.hbm, 137, rfl⟩
abbrev main_v98 : Ref sig .tc := ⟨.hbm, 138, rfl⟩
abbrev main_c_34 : Ref sig .tc := ⟨.hbm, 139, rfl⟩
abbrev main_v99 : Ref sig .tc := ⟨.hbm, 140, rfl⟩
abbrev main_v100 : Ref sig .tc := ⟨.hbm, 141, rfl⟩
abbrev main_c_35 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_36 : Ref sig .tc := ⟨.hbm, 146, rfl⟩
abbrev main_v104 : Ref sig .tc := ⟨.hbm, 147, rfl⟩
abbrev main_v105 : Ref sig .tc := ⟨.hbm, 148, rfl⟩
abbrev main_c_37 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_38 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_39 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_40 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_41 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_42 : Ref sig .tc := ⟨.hbm, 191, rfl⟩
abbrev main_v143 : Ref sig .tc := ⟨.hbm, 192, rfl⟩
abbrev main_v144 : Ref sig .tc := ⟨.hbm, 193, rfl⟩
abbrev main_c_43 : Ref sig .tc := ⟨.hbm, 194, rfl⟩
abbrev main_v145 : Ref sig .tc := ⟨.hbm, 195, rfl⟩
abbrev main_v146 : Ref sig .tc := ⟨.hbm, 196, rfl⟩
abbrev main_c_44 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_45 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_46 : Ref sig .tc := ⟨.hbm, 205, rfl⟩
abbrev main_v153 : Ref sig .tc := ⟨.hbm, 206, rfl⟩
abbrev main_v154 : Ref sig .tc := ⟨.hbm, 207, rfl⟩
abbrev main_cst_47 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_c_48 : Ref sig .tc := ⟨.hbm, 212, rfl⟩
abbrev main_v158 : Ref sig .tc := ⟨.hbm, 213, rfl⟩
abbrev main_v159 : Ref sig .tc := ⟨.hbm, 214, rfl⟩
abbrev main_c_49 : Ref sig .tc := ⟨.hbm, 215, rfl⟩
abbrev main_v160 : Ref sig .tc := ⟨.hbm, 216, rfl⟩
abbrev main_v161 : Ref sig .tc := ⟨.hbm, 217, rfl⟩
abbrev main_c_50 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_51 : Ref sig .tc := ⟨.hbm, 222, rfl⟩
abbrev main_v165 : Ref sig .tc := ⟨.hbm, 223, rfl⟩
abbrev main_v166 : Ref sig .tc := ⟨.hbm, 224, rfl⟩
abbrev main_c_52 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_53 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_cst_54 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_55 : Ref sig .tc := ⟨.hbm, 258, rfl⟩
abbrev main_v197 : Ref sig .tc := ⟨.hbm, 259, rfl⟩
abbrev main_cst_56 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_57 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_58 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩

abbrev nD : Nat := 1
abbrev τ : Topo := Topo.v7x

variable {F : FTy → Type} [FloatOps F]
-- ==== QkvPrompt.lean ====
abbrev S4x2048x4096 : Shape := ⟨3, ![4, 2048, 4096]⟩
abbrev S4096x8192 : Shape := ⟨2, ![4096, 8192]⟩
abbrev S8192x4096 : Shape := ⟨2, ![8192, 4096]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩
abbrev S4x2048x8192 : Shape := ⟨3, ![4, 2048, 8192]⟩
abbrev S4x128x8192 : Shape := ⟨3, ![4, 128, 8192]⟩
abbrev S4x128x512 : Shape := ⟨3, ![4, 128, 512]⟩
abbrev S4x128x4x128 : Shape := ⟨4, ![4, 128, 4, 128]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192x4096, .f32⟩
  | .hbm, ⟨3, _⟩ => ⟨S8192x4096, .bf16⟩
  | .hbm, ⟨4, _⟩ => ⟨S8192x8192, .f32⟩
  | .hbm, ⟨5, _⟩ => ⟨S4x2048x8192, .f32⟩
  | .hbm, ⟨6, _⟩ => ⟨S4x128x8192, .f32⟩
  | .hbm, ⟨7, _⟩ => ⟨S4x128x512, .f32⟩
  | .hbm, ⟨8, _⟩ => ⟨S4x128x4x128, .f32⟩
  | .hbm, ⟨9, _⟩ => ⟨S4x128x8192, .f32⟩
  | .hbm, ⟨10, _⟩ => ⟨S4x128x512, .f32⟩
  | .hbm, ⟨11, _⟩ => ⟨S4x128x4x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvPromptRefIdeal.lean ====
abbrev S4x2048x4096 : Shape := ⟨3, ![4, 2048, 4096]⟩
abbrev S4096x8192 : Shape := ⟨2, ![4096, 8192]⟩
abbrev S4x2048x8192 : Shape := ⟨3, ![4, 2048, 8192]⟩
abbrev S4x2048x512 : Shape := ⟨3, ![4, 2048, 512]⟩
abbrev S4x2048x4x128 : Shape := ⟨4, ![4, 2048, 4, 128]⟩
abbrev S4x128x4x128 : Shape := ⟨4, ![4, 128, 4, 128]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S4x2048x8192, .f32⟩
  | .hbm, ⟨3, _⟩ => ⟨S4x2048x512, .f32⟩
  | .hbm, ⟨4, _⟩ => ⟨S4x2048x4x128, .f32⟩
  | .hbm, ⟨5, _⟩ => ⟨S4x2048x512, .f32⟩
  | .hbm, ⟨6, _⟩ => ⟨S4x2048x4x128, .f32⟩
  | .hbm, ⟨7, _⟩ => ⟨S4x128x4x128, .f32⟩
  | .hbm, ⟨8, _⟩ => ⟨S4x128x4x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== QkvSample.lean ====
abbrev S32x4x4096 : Shape := ⟨3, ![32, 4, 4096]⟩
abbrev S4096x8192 : Shape := ⟨2, ![4096, 8192]⟩
abbrev S32x128x4x128 : Shape := ⟨4, ![32, 128, 4, 128]⟩
abbrev S128x4096 : Shape := ⟨2, ![128, 4096]⟩
abbrev S128x8192 : Shape := ⟨2, ![128, 8192]⟩
abbrev S4096x512 : Shape := ⟨2, ![4096, 512]⟩
abbrev S128x512 : Shape := ⟨2, ![128, 512]⟩
abbrev S32x4x8192 : Shape := ⟨3, ![32, 4, 8192]⟩
abbrev S32x124x4x128 : Shape := ⟨4, ![32, 124, 4, 128]⟩
abbrev S32x4x512 : Shape := ⟨3, ![32, 4, 512]⟩
abbrev S32x4x4x128 : Shape := ⟨4, ![32, 4, 4, 128]⟩

abbrev nBuf : Space → Nat
  | .hbm => 16
  | .vmem => 5
  | .smem => 0
  | _ => 0

abbrev bufTy : (tb : Table) → Fin (tcTables nBuf tb) → BufTy
  | .hbm, ⟨0, _⟩ => ⟨S32x4x4096, .f32⟩
  | .hbm, ⟨1, _⟩ => ⟨S4096x8192, .f32⟩
  | .hbm, ⟨2, _⟩ => ⟨S32x128x4x128, .f32⟩
  | .hbm, ⟨3, _⟩ => ⟨S32x128x4x128, .f32⟩
  | .hbm, ⟨4, _⟩ => ⟨S128x4096, .f32⟩
  | .hbm, ⟨5, _⟩ => ⟨S128x4096, .bf16⟩
  | .hbm, ⟨6, _⟩ => ⟨S128x8192, .f32⟩
  | .hbm, ⟨7, _⟩ => ⟨S32x4x8192, .f32⟩
  | .hbm, ⟨8, _⟩ => ⟨S32x124x4x128, .f32⟩
  | .hbm, ⟨9, _⟩ => ⟨S32x4x512, .f32⟩
  | .hbm, ⟨10, _⟩ => ⟨S32x4x4x128, .f32⟩
  | .hbm, ⟨11, _⟩ => ⟨S32x128x4x128, .f32⟩
  | .hbm, ⟨12, _⟩ => ⟨S32x124x4x128, .f32⟩
  | .hbm, ⟨13, _⟩ => ⟨S32x4x512, .f32⟩
  | .hbm, ⟨14, _⟩ => ⟨S32x4x4x128, .f32⟩
  | .hbm, ⟨15, _⟩ => ⟨S32x128x4x128, .f32⟩
  | .local _ .vmem, ⟨0, _⟩ => ⟨S128x4096, .bf16⟩
  | .local _ .vmem, ⟨1, _⟩ => ⟨S4096x512, .f32⟩
  | .local _ .vmem, ⟨2, _⟩ => ⟨S4096x512, .f32⟩
  | .local _ .vmem, ⟨3, _⟩ => ⟨S128x512, .f32⟩
  | .local _ .vmem, ⟨4, _⟩ => ⟨S128x512, .f32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvSampleRefIdeal.lean ====
abbrev S32x4x4096 : Shape := ⟨3, ![32, 4, 4096]⟩
abbrev S4096x8192 : Shape := ⟨2, ![4096, 8192]⟩
abbrev S32x128x4x128 : Shape := ⟨4, ![32, 128, 4, 128]⟩
abbrev S32x4x8192 : Shape := ⟨3, ![32, 4, 8192]⟩
abbrev S32x4x512 : Shape := ⟨3, ![32, 4, 512]⟩
abbrev S32x4x4x128 : Shape := ⟨4, ![32, 4, 4, 128]⟩
abbrev S32x132x4x128 : Shape := ⟨4, ![32, 132, 4, 128]⟩

abbrev nBuf : Space → Nat
  | .hbm => 13
  | .vmem => 0
  | .smem => 0
  | _ => 0

abbrev bufTy : (tb : Table) → Fin (tcTables nBuf tb) → BufTy
  | .hbm, ⟨0, _⟩ => ⟨S32x4x4096, .f32⟩
  | .hbm, ⟨1, _⟩ => ⟨S4096x8192, .f32⟩
  | .hbm, ⟨2, _⟩ => ⟨S32x128x4x128, .f32⟩
  | .hbm, ⟨3, _⟩ => ⟨S32x128x4x128, .f32⟩
  | .hbm, ⟨4, _⟩ => ⟨S32x4x8192, .f32⟩
  | .hbm, ⟨5, _⟩ => ⟨S32x4x512, .f32⟩
  | .hbm, ⟨6, _⟩ => ⟨S32x4x4x128, .f32⟩
  | .hbm, ⟨7, _⟩ => ⟨S32x4x512, .f32⟩
  | .hbm, ⟨8, _⟩ => ⟨S32x4x4x128, .f32⟩
  | .hbm, ⟨9, _⟩ => ⟨S32x132x4x128, .f32⟩
  | .hbm, ⟨10, _⟩ => ⟨S32x132x4x128, .f32⟩
  | .hbm, ⟨11, _⟩ => ⟨S32x128x4x128, .f32⟩
  | .hbm, ⟨12, _⟩ => ⟨S32x128x4x128, .f32⟩
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttOut.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttOutRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RkvR.lean ====
abbrev S8192x4096 : Shape := ⟨2, ![8192, 4096]⟩
abbrev S3x4096x4096 : Shape := ⟨3, ![3, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRRefIdeal.lean ====
abbrev S8192x4096 : Shape := ⟨2, ![8192, 4096]⟩
abbrev S3x4096x4096 : Shape := ⟨3, ![3, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RkvK.lean ====
abbrev S8192x4096 : Shape := ⟨2, ![8192, 4096]⟩
abbrev S3x4096x4096 : Shape := ⟨3, ![3, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvKRefIdeal.lean ====
abbrev S8192x4096 : Shape := ⟨2, ![8192, 4096]⟩
abbrev S3x4096x4096 : Shape := ⟨3, ![3, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RkvV.lean ====
abbrev S8192x4096 : Shape := ⟨2, ![8192, 4096]⟩
abbrev S3x4096x4096 : Shape := ⟨3, ![3, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvVRefIdeal.lean ====
abbrev S8192x4096 : Shape := ⟨2, ![8192, 4096]⟩
abbrev S3x4096x4096 : Shape := ⟨3, ![3, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S3x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== TimeOut.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TimeOutRefIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PeerQ0.lean ====
abbrev S8192x4096 : Shape := ⟨2, ![8192, 4096]⟩
abbrev S2x4096x2048 : Shape := ⟨3, ![2, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQ0RefIdeal.lean ====
abbrev S8192x4096 : Shape := ⟨2, ![8192, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x4096, .f32⟩
  | .hbm, ⟨3, _⟩ => ⟨S1x4096x2048, .f32⟩
  | .hbm, ⟨4, _⟩ => ⟨S4096x2048, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PeerQ1.lean ====
abbrev S8192x4096 : Shape := ⟨2, ![8192, 4096]⟩
abbrev S2x4096x2048 : Shape := ⟨3, ![2, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQ1RefIdeal.lean ====
abbrev S8192x4096 : Shape := ⟨2, ![8192, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x4096, .f32⟩
  | .hbm, ⟨3, _⟩ => ⟨S1x4096x2048, .f32⟩
  | .hbm, ⟨4, _⟩ => ⟨S4096x2048, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LnPrompt.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnPromptIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnPromptRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== LnSample.lean ====
abbrev S128x4096 : Shape := ⟨2, ![128, 4096]⟩
abbrev S4096 : Shape := ⟨1, ![4096]⟩
abbrev S1x4096 : Shape := ⟨2, ![1, 4096]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S128x4096, .f32⟩
  | .hbm, ⟨7, _⟩ => ⟨S128x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== LnSampleRefIdeal.lean ====
abbrev S128x4096 : Shape := ⟨2, ![128, 4096]⟩
abbrev S4096 : Shape := ⟨1, ![4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S128x4096, .f32⟩
  | .hbm, ⟨6, _⟩ => ⟨S128x4096, .f32⟩
  | .hbm, ⟨7, _⟩ => ⟨S128x4096, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x4096, .f32⟩
  | .hbm, ⟨15, _⟩ => ⟨S128x4096, .f32⟩
  | .hbm, ⟨16, _⟩ => ⟨S128x4096, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x4096, .f32⟩
  | .hbm, ⟨24, _⟩ => ⟨S128x4096, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x4096, .f32⟩
  | .hbm, ⟨30, _⟩ => ⟨S128x4096, .f32⟩
  | .hbm, ⟨31, _⟩ => ⟨S1x4096, .f32⟩
  | .hbm, ⟨32, _⟩ => ⟨S128x4096, .f32⟩
  | .hbm, ⟨33, _⟩ => ⟨S128x4096, .f32⟩
  | .hbm, ⟨34, _⟩ => ⟨S1x4096, .f32⟩
  | .hbm, ⟨35, _⟩ => ⟨S128x4096, .f32⟩
  | .hbm, ⟨36, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== WkvSample.lean ====
abbrev S128x4096 : Shape := ⟨2, ![128, 4096]⟩
abbrev S4096 : Shape := ⟨1, ![4096]⟩
abbrev S64x64 : Shape := ⟨2, ![64, 64]⟩
abbrev S32x64x64x64 : Shape := ⟨4, ![32, 64, 64, 64]⟩
abbrev S_ : Shape := ⟨0, ![]⟩
abbrev S1x4096 : Shape := ⟨2, ![1, 4096]⟩
abbrev S8x4096 : Shape := ⟨2, ![8, 4096]⟩
abbrev S32x4x4096 : Shape := ⟨3, ![32, 4, 4096]⟩
abbrev S1x4x512 : Shape := ⟨3, ![1, 4, 512]⟩
abbrev S8x512 : Shape := ⟨2, ![8, 512]⟩
abbrev S1x8x64x64 : Shape := ⟨4, ![1, 8, 64, 64]⟩
abbrev S128x128 : Shape := ⟨2, ![128, 128]⟩
abbrev S1x128 : Shape := ⟨2, ![1, 128]⟩
abbrev S1x4x128 : Shape := ⟨3, ![1, 4, 128]⟩
abbrev S4x128 : Shape := ⟨2, ![4, 128]⟩
abbrev S4 : Shape := ⟨1, ![4]⟩
abbrev S4x1 : Shape := ⟨2, ![4, 1]⟩
abbrev S1x1x64x64 : Shape := ⟨4, ![1, 1, 64, 64]⟩
abbrev S64x128 : Shape := ⟨2, ![64, 128]⟩
abbrev S128 : Shape := ⟨1, ![128]⟩
abbrev S128x1 : Shape := ⟨2, ![128, 1]⟩

abbrev nBuf : Space → Nat
  | .hbm => 34
  | .vmem => 20
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S128x4096, .f32⟩
  | .hbm, ⟨3, _⟩ => ⟨S128x4096, .f32⟩
  | .hbm, ⟨4, _⟩ => ⟨S128x4096, .f32⟩
  | .hbm, ⟨5, _⟩ => ⟨S128x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S64x64, .f32⟩
  | .hbm, ⟨11, _⟩ => ⟨S4096, .f32⟩
  | .hbm, ⟨12, _⟩ => ⟨S4096, .f32⟩
  | .hbm, ⟨13, _⟩ => ⟨S32x64x64x64, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S8x4096, .f32⟩
  | .hbm, ⟨26, _⟩ => ⟨S32x4x4096, .f32⟩
  | .hbm, ⟨27, _⟩ => ⟨S32x4x4096, .f32⟩
  | .hbm, ⟨28, _⟩ => ⟨S32x4x4096, .f32⟩
  | .hbm, ⟨29, _⟩ => ⟨S32x4x4096, .f32⟩
  | .hbm, ⟨30, _⟩ => ⟨S32x4x4096, .f32⟩
  | .hbm, ⟨31, _⟩ => ⟨S32x4x4096, .f32⟩
  | .hbm, ⟨32, _⟩ => ⟨S32x4x4096, .f32⟩
  | .hbm, ⟨33, _⟩ => ⟨S32x64x64x64, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S8x512, .f32⟩
  | .local _ .vmem, ⟨13, _⟩ => ⟨S8x512, .f32⟩
  | .local _ .vmem, ⟨14, _⟩ => ⟨S1x8x64x64, .f32⟩
  | .local _ .vmem, ⟨15, _⟩ => ⟨S1x8x64x64, .f32⟩
  | .local _ .vmem, ⟨16, _⟩ => ⟨S1x4x512, .f32⟩
  | .local _ .vmem, ⟨17, _⟩ => ⟨S1x4x512, .f32⟩
  | .local _ .vmem, ⟨18, _⟩ => ⟨S1x8x64x64, .f32⟩
  | .local _ .vmem, ⟨19, _⟩ => ⟨S1x8x64x64, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== WkvSampleRefIdeal.lean ====
abbrev S128x4096 : Shape := ⟨2, ![128, 4096]⟩
abbrev S4096 : Shape := ⟨1, ![4096]⟩
abbrev S64x64 : Shape := ⟨2, ![64, 64]⟩
abbrev S32x64x64x64 : Shape := ⟨4, ![32, 64, 64, 64]⟩
abbrev S1x4096 : Shape := ⟨2, ![1, 4096]⟩
abbrev S_ : Shape := ⟨0, ![]⟩
abbrev S32x4x64x64 : Shape := ⟨4, ![32, 4, 64, 64]⟩
abbrev S32x4x64 : Shape := ⟨3, ![32, 4, 64]⟩
abbrev S32x4x64x1 : Shape := ⟨4, ![32, 4, 64, 1]⟩
abbrev S32x1x64x64 : Shape := ⟨4, ![32, 1, 64, 64]⟩
abbrev S32x64x64 : Shape := ⟨3, ![32, 64, 64]⟩
abbrev S32x64x1x64 : Shape := ⟨4, ![32, 64, 1, 64]⟩
abbrev S32x64x64x1 : Shape := ⟨4, ![32, 64, 64, 1]⟩
abbrev S1x1x64x64 : Shape := ⟨4, ![1, 1, 64, 64]⟩
abbrev S32x4x4096 : Shape := ⟨3, ![32, 4, 4096]⟩

abbrev nBuf : Space → Nat
  | .hbm => 246
  | .vmem => 0
  | .smem => 0
  | _ => 0

abbrev hbmTy0_0 (i : Nat) : BufTy := match i % 128 with
  | 0 => ⟨S128x4096, .f32⟩
  | 1 => ⟨S128x4096, .f32⟩
  | 2 => ⟨S128x4096, .f32⟩
  | 3 => ⟨S128x4096, .f32⟩
  | 4 => ⟨S128x4096, .f32⟩
  | 5 => ⟨S128x4096, .f32⟩
  | 6 => ⟨S4096, .f32⟩
  | 7 => ⟨S4096, .f32⟩
  | 8 => ⟨S4096, .f32⟩
  | 9 => ⟨S4096, .f32⟩
  | 10 => ⟨S64x64, .f32⟩
  | 11 => ⟨S4096, .f32⟩
  | 12 => ⟨S4096, .f32⟩
  | 13 => ⟨S32x64x64x64, .f32⟩
  | 14 => ⟨S1x4096, .f32⟩
  | 15 => ⟨S128x4096, .f32⟩
  | 16 => ⟨S128x4096, .f32⟩
  | 17 => ⟨S128x4096, .f32⟩
  | 18 => ⟨S_, .f32⟩
  | 19 => ⟨S128x4096, .f32⟩
  | 20 => ⟨S128x4096, .f32⟩
  | 21 => ⟨S128x4096, .f32⟩
  | 22 => ⟨S128x4096, .f32⟩
  | 23 => ⟨S128x4096, .i1⟩
  | 24 => ⟨S128x4096, .f32⟩
  | 25 => ⟨S128x4096, .f32⟩
  | 26 => ⟨S128x4096, .f32⟩
  | 27 => ⟨S128x4096, .f32⟩
  | 28 => ⟨S128x4096, .f32⟩
  | 29 => ⟨S128x4096, .f32⟩
  | 30 => ⟨S128x4096, .f32⟩
  | 31 => ⟨S128x4096, .f32⟩
  | 32 => ⟨S128x4096, .f32⟩
  | 33 => ⟨S_, .f32⟩
  | 34 => ⟨S128x4096, .f32⟩
  | 35 => ⟨S128x4096, .f32⟩
  | 36 => ⟨S128x4096, .f32⟩
  | 37 => ⟨S128x4096, .f32⟩
  | 38 => ⟨S128x4096, .f32⟩
  | 39 => ⟨S32x4x64x64, .f32⟩
  | 40 => ⟨S1x4096, .f32⟩
  | 41 => ⟨S128x4096, .f32⟩
  | 42 => ⟨S128x4096, .f32⟩
  | 43 => ⟨S128x4096, .f32⟩
  | 44 => ⟨S128x4096, .f32⟩
  | 45 => ⟨S_, .f32⟩
  | 46 => ⟨S128x4096, .f32⟩
  | 47 => ⟨S128x4096, .f32⟩
  | 48 => ⟨S_, .f32⟩
  | 49 => ⟨S128x4096, .f32⟩
  | 50 => ⟨S128x4096, .f32⟩
  | 51 => ⟨S1x4096, .f32⟩
  | 52 => ⟨S128x4096, .f32⟩
  | 53 => ⟨S128x4096, .f32⟩
  | 54 => ⟨S32x4x64x64, .f32⟩
  | 55 => ⟨S32x4x64x64, .f32⟩
  | 56 => ⟨S_, .f32⟩
  | 57 => ⟨S32x4x64, .f32⟩
  | 58 => ⟨S32x4x64x1, .f32⟩
  | 59 => ⟨S32x4x64x1, .f32⟩
  | 60 => ⟨S_, .f32⟩
  | 61 => ⟨S32x4x64x1, .f32⟩
  | 62 => ⟨S32x4x64x1, .f32⟩
  | 63 => ⟨S32x4x64x64, .f32⟩
  | 64 => ⟨S32x4x64x64, .f32⟩
  | 65 => ⟨S_, .f32⟩
  | 66 => ⟨S128x4096, .f32⟩
  | 67 => ⟨S128x4096, .f32⟩
  | 68 => ⟨S1x4096, .f32⟩
  | 69 => ⟨S128x4096, .f32⟩
  | 70 => ⟨S128x4096, .f32⟩
  | 71 => ⟨S_, .f32⟩
  | 72 => ⟨S128x4096, .f32⟩
  | 73 => ⟨S128x4096, .f32⟩
  | 74 => ⟨S128x4096, .f32⟩
  | 75 => ⟨S32x4x64x64, .f32⟩
  | 76 => ⟨S32x4x64x64, .f32⟩
  | 77 => ⟨S32x4x64x64, .f32⟩
  | 78 => ⟨S32x4x64x64, .f32⟩
  | 79 => ⟨S32x4x64x64, .f32⟩
  | 80 => ⟨S32x4x64x64, .f32⟩
  | 81 => ⟨S32x1x64x64, .f32⟩
  | 82 => ⟨S32x64x64, .f32⟩
  | 83 => ⟨S32x64x64, .f32⟩
  | 84 => ⟨S32x1x64x64, .f32⟩
  | 85 => ⟨S32x64x64, .f32⟩
  | 86 => ⟨S32x64x1x64, .f32⟩
  | 87 => ⟨S32x64x64x64, .f32⟩
  | 88 => ⟨S32x64x64x64, .f32⟩
  | 89 => ⟨S32x64x64x1, .f32⟩
  | 90 => ⟨S32x1x64x64, .f32⟩
  | 91 => ⟨S32x64x64, .f32⟩
  | 92 => ⟨S32x64x1x64, .f32⟩
  | 93 => ⟨S32x64x64x64, .f32⟩
  | 94 => ⟨S32x64x64x64, .f32⟩
  | 95 => ⟨S32x64x64x64, .f32⟩
  | 96 => ⟨S32x64x64x64, .f32⟩
  | 97 => ⟨S32x1x64x64, .f32⟩
  | 98 => ⟨S32x64x64, .f32⟩
  | 99 => ⟨S32x64x64x1, .f32⟩
  | 100 => ⟨S32x1x64x64, .f32⟩
  | 101 => ⟨S32x64x64, .f32⟩
  | 102 => ⟨S32x64x1x64, .f32⟩
  | 103 => ⟨S32x64x64x64, .f32⟩
  | 104 => ⟨S32x64x64x64, .f32⟩
  | 105 => ⟨S32x64x64x64, .f32⟩
  | 106 => ⟨S32x64x64x64, .f32⟩
  | 107 => ⟨S32x1x64x64, .f32⟩
  | 108 => ⟨S32x64x64, .f32⟩
  | 109 => ⟨S32x64x64, .f32⟩
  | 110 => ⟨S32x1x64x64, .f32⟩
  | 111 => ⟨S32x64x64, .f32⟩
  | 112 => ⟨S32x64x64, .f32⟩
  | 113 => ⟨S32x1x64x64, .f32⟩
  | 114 => ⟨S32x64x64, .f32⟩
  | 115 => ⟨S32x64x1x64, .f32⟩
  | 116 => ⟨S32x64x64x64, .f32⟩
  | 117 => ⟨S32x64x64x64, .f32⟩
  | 118 => ⟨S32x64x64x1, .f32⟩
  | 119 => ⟨S32x1x64x64, .f32⟩
  | 120 => ⟨S32x64x64, .f32⟩
  | 121 => ⟨S32x64x1x64, .f32⟩
  | 122 => ⟨S32x64x64x64, .f32⟩
  | 123 => ⟨S32x64x64x64, .f32⟩
  | 124 => ⟨S32x64x64x64, .f32⟩
  | 125 => ⟨S32x64x64x64, .f32⟩
  | 126 => ⟨S32x1x64x64, .f32⟩
  | 127 => ⟨S32x64x64, .f32⟩
  | _ => ⟨S128x4096, .f32⟩

abbrev hbmTy0_1 (i : Nat) : BufTy := match i % 128 with
  | 0 => ⟨S32x64x64x1, .f32⟩
  | 1 => ⟨S32x1x64x64, .f32⟩
  | 2 => ⟨S32x64x64, .f32⟩
  | 3 => ⟨S32x64x1x64, .f32⟩
  | 4 => ⟨S32x64x64x64, .f32⟩
  | 5 => ⟨S32x64x64x64, .f32⟩
  | 6 => ⟨S32x64x64x64, .f32⟩
  | 7 => ⟨S32x64x64x64, .f32⟩
  | 8 => ⟨S32x1x64x64, .f32⟩
  | 9 => ⟨S32x64x64, .f32⟩
  | 10 => ⟨S32x64x64, .f32⟩
  | 11 => ⟨S32x1x64x64, .f32⟩
  | 12 => ⟨S32x64x64, .f32⟩
  | 13 => ⟨S32x64x64, .f32⟩
  | 14 => ⟨S32x1x64x64, .f32⟩
  | 15 => ⟨S32x64x64, .f32⟩
  | 16 => ⟨S32x64x1x64, .f32⟩
  | 17 => ⟨S32x64x64x64, .f32⟩
  | 18 => ⟨S32x64x64x64, .f32⟩
  | 19 => ⟨S32x64x64x1, .f32⟩
  | 20 => ⟨S32x1x64x64, .f32⟩
  | 21 => ⟨S32x64x64, .f32⟩
  | 22 => ⟨S32x64x1x64, .f32⟩
  | 23 => ⟨S32x64x64x64, .f32⟩
  | 24 => ⟨S32x64x64x64, .f32⟩
  | 25 => ⟨S32x64x64x64, .f32⟩
  | 26 => ⟨S32x64x64x64, .f32⟩
  | 27 => ⟨S32x1x64x64, .f32⟩
  | 28 => ⟨S32x64x64, .f32⟩
  | 29 => ⟨S32x64x64x1, .f32⟩
  | 30 => ⟨S32x1x64x64, .f32⟩
  | 31 => ⟨S32x64x64, .f32⟩
  | 32 => ⟨S32x64x1x64, .f32⟩
  | 33 => ⟨S32x64x64x64, .f32⟩
  | 34 => ⟨S32x64x64x64, .f32⟩
  | 35 => ⟨S32x64x64x64, .f32⟩
  | 36 => ⟨S32x64x64x64, .f32⟩
  | 37 => ⟨S32x1x64x64, .f32⟩
  | 38 => ⟨S32x64x64, .f32⟩
  | 39 => ⟨S32x64x64, .f32⟩
  | 40 => ⟨S32x1x64x64, .f32⟩
  | 41 => ⟨S32x64x64, .f32⟩
  | 42 => ⟨S32x64x64, .f32⟩
  | 43 => ⟨S32x1x64x64, .f32⟩
  | 44 => ⟨S32x64x64, .f32⟩
  | 45 => ⟨S32x64x1x64, .f32⟩
  | 46 => ⟨S32x64x64x64, .f32⟩
  | 47 => ⟨S32x64x64x64, .f32⟩
  | 48 => ⟨S32x64x64x1, .f32⟩
  | 49 => ⟨S32x1x64x64, .f32⟩
  | 50 => ⟨S32x64x64, .f32⟩
  | 51 => ⟨S32x64x1x64, .f32⟩
  | 52 => ⟨S32x64x64x64, .f32⟩
  | 53 => ⟨S32x64x64x64, .f32⟩
  | 54 => ⟨S32x64x64x64, .f32⟩
  | 55 => ⟨S32x64x64x64, .f32⟩
  | 56 => ⟨S32x1x64x64, .f32⟩
  | 57 => ⟨S32x64x64, .f32⟩
  | 58 => ⟨S32x64x64x1, .f32⟩
  | 59 => ⟨S32x1x64x64, .f32⟩
  | 60 => ⟨S32x64x64, .f32⟩
  | 61 => ⟨S32x64x1x64, .f32⟩
  | 62 => ⟨S32x64x64x64, .f32⟩
  | 63 => ⟨S32x64x64x64, .f32⟩
  | 64 => ⟨S32x64x64x64, .f32⟩
  | 65 => ⟨S32x64x64x64, .f32⟩
  | 66 => ⟨S32x1x64x64, .f32⟩
  | 67 => ⟨S32x64x64, .f32⟩
  | 68 => ⟨S32x64x64, .f32⟩
  | 69 => ⟨S32x1x64x64, .f32⟩
  | 70 => ⟨S32x1x64x64, .f32⟩
  | 71 => ⟨S32x1x64x64, .f32⟩
  | 72 => ⟨S32x1x64x64, .f32⟩
  | 73 => ⟨S32x4x64x64, .f32⟩
  | 74 => ⟨S_, .f32⟩
  | 75 => ⟨S32x4x64, .f32⟩
  | 76 => ⟨S32x4x64x1, .f32⟩
  | 77 => ⟨S_, .f32⟩
  | 78 => ⟨S32x4x64x1, .f32⟩
  | 79 => ⟨S32x4x64x1, .f32⟩
  | 80 => ⟨S32x4x64x64, .f32⟩
  | 81 => ⟨S32x4x64x64, .f32⟩
  | 82 => ⟨S32x4x64x64, .f32⟩
  | 83 => ⟨S_, .f32⟩
  | 84 => ⟨S32x4x64, .f32⟩
  | 85 => ⟨S32x4x64x1, .f32⟩
  | 86 => ⟨S_, .f32⟩
  | 87 => ⟨S32x4x64x1, .f32⟩
  | 88 => ⟨S32x4x64x1, .f32⟩
  | 89 => ⟨S32x4x64x64, .f32⟩
  | 90 => ⟨S32x4x64x64, .f32⟩
  | 91 => ⟨S_, .f32⟩
  | 92 => ⟨S32x4x64x1, .f32⟩
  | 93 => ⟨S32x4x64x1, .f32⟩
  | 94 => ⟨S32x4x64x1, .f32⟩
  | 95 => ⟨S32x4x64x64, .f32⟩
  | 96 => ⟨S32x4x64x64, .f32⟩
  | 97 => ⟨S64x64, .f32⟩
  | 98 => ⟨S1x1x64x64, .f32⟩
  | 99 => ⟨S32x4x64x64, .f32⟩
  | 100 => ⟨S32x4x64x64, .f32⟩
  | 101 => ⟨S64x64, .f32⟩
  | 102 => ⟨S1x1x64x64, .f32⟩
  | 103 => ⟨S32x4x64x64, .f32⟩
  | 104 => ⟨S32x4x64x64, .f32⟩
  | 105 => ⟨S32x4x64x64, .f32⟩
  | 106 => ⟨S1x1x64x64, .f32⟩
  | 107 => ⟨S32x4x64x64, .f32⟩
  | 108 => ⟨S32x4x64x64, .f32⟩
  | 109 => ⟨S_, .f32⟩
  | 110 => ⟨S32x4x64, .f32⟩
  | 111 => ⟨S32x4x64x1, .f32⟩
  | 112 => ⟨S32x4x64x64, .f32⟩
  | 113 => ⟨S32x4x64x64, .f32⟩
  | 114 => ⟨S32x4x64x64, .f32⟩
  | 115 => ⟨S32x4x4096, .f32⟩
  | 116 => ⟨S32x4x4096, .f32⟩
  | 117 => ⟨S32x4x4096, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_6 : Ref sig .tc := ⟨.hbm, 202, rfl⟩
abbrev main_v168 : Ref sig .tc := ⟨.hbm, 203, rfl⟩
abbrev main_v169 : Ref sig .tc := ⟨.hbm, 204, rfl⟩
abbrev main_cst_7 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_8 : Ref sig .tc := ⟨.hbm, 211, rfl⟩
abbrev main_v175 : Ref sig .tc := ⟨.hbm, 212, rfl⟩
abbrev main_v176 : Ref sig .tc := ⟨.hbm, 213, rfl⟩
abbrev main_cst_9 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_10 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_cst_11 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩

abbrev nD : Nat := 1
abbrev τ : Topo := Topo.v7x

variable {F : FTy → Type} [FloatOps F]
-- ==== DecayIn.lean ====
abbrev S8192x4096 : Shape := ⟨2, ![8192, 4096]⟩
abbrev S4096x128 : Shape := ⟨2, ![4096, 128]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DecayInRefIdeal.lean ====
abbrev S8192x4096 : Shape := ⟨2, ![8192, 4096]⟩
abbrev S4096x128 : Shape := ⟨2, ![4096, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x4096, .f32⟩
  | .hbm, ⟨3, _⟩ => ⟨S8192x128, .f32⟩
  | .hbm, ⟨4, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CorrIn.lean ====
abbrev S8192x4096 : Shape := ⟨2, ![8192, 4096]⟩
abbrev S4096x128 : Shape := ⟨2, ![4096, 128]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CorrInRefIdeal.lean ====
abbrev S8192x4096 : Shape := ⟨2, ![8192, 4096]⟩
abbrev S4096x128 : Shape := ⟨2, ![4096, 128]⟩
abbrev S8192x128 : Shape := ⟨2, ![8192, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S8192x4096, .f32⟩
  | .hbm, ⟨3, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateIn.lean ====
abbrev S8192x4096 : Shape := ⟨2, ![8192, 4096]⟩
abbrev S4096x480 : Shape := ⟨2, ![4096, 480]⟩
abbrev S8192x480 : Shape := ⟨2, ![8192, 480]⟩
abbrev S1024x4096 : Shape := ⟨2, ![1024, 4096]⟩
abbrev S1024x480 : Shape := ⟨2, ![1024, 480]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x480, .f32⟩
  | .hbm, ⟨2, _⟩ => ⟨S8192x480, .f32⟩
  | .local _ .vmem, ⟨0, _⟩ => ⟨S1024x4096, .bf16⟩
  | .local _ .vmem, ⟨1, _⟩ => ⟨S1024x4096, .bf16⟩
  | .local _ .vmem, ⟨2, _⟩ => ⟨S4096x480, .f32⟩
  | .local _ .vmem, ⟨3, _⟩ => ⟨S1024x480, .f32⟩
  | .local _ .vmem, ⟨4, _⟩ => ⟨S1024x480, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateInRefIdeal.lean ====
abbrev S8192x4096 : Shape := ⟨2, ![8192, 4096]⟩
abbrev S4096x480 : Shape := ⟨2, ![4096, 480]⟩
abbrev S8192x480 : Shape := ⟨2, ![8192, 480]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x480, .f32⟩
  | .hbm, ⟨2, _⟩ => ⟨S8192x4096, .f32⟩
  | .hbm, ⟨3, _⟩ => ⟨S8192x480, .f32⟩
  | .hbm, ⟨4, _⟩ => ⟨S8192x480, .f32⟩
  | .hbm, ⟨5, _⟩ => ⟨S8192x480, .f32⟩
  | .hbm, ⟨6, _⟩ => ⟨S_, .f32⟩
  | .hbm, ⟨7, _⟩ => ⟨S8192x480, .f32⟩
  | .hbm, ⟨8, _⟩ => ⟨S8192x480, .f32⟩
  | .hbm, ⟨9, _⟩ => ⟨S_, .f32⟩
  | .hbm, ⟨10, _⟩ => ⟨S8192x480, .f32⟩
  | .hbm, ⟨11, _⟩ => ⟨S8192x480, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== LowOut.lean ====
abbrev S8192x128 : Shape := ⟨2, ![8192, 128]⟩
abbrev S128x4096 : Shape := ⟨2, ![128, 4096]⟩
abbrev S8192x4096 : Shape := ⟨2, ![8192, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x4096, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S1024x512, .f32⟩
  | .local _ .vmem, ⟨5, _⟩ => ⟨S1024x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LowOutIdeal.lean ====
abbrev S8192x128 : Shape := ⟨2, ![8192, 128]⟩
abbrev S128x4096 : Shape := ⟨2, ![128, 4096]⟩
abbrev S8192x4096 : Shape := ⟨2, ![8192, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x4096, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S1024x512, .f32⟩
  | .local _ .vmem, ⟨5, _⟩ => ⟨S1024x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LowOutRefIdeal.lean ====
abbrev S8192x128 : Shape := ⟨2, ![8192, 128]⟩
abbrev S128x4096 : Shape := ⟨2, ![128, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x4096, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateOut.lean ====
abbrev S8192x480 : Shape := ⟨2, ![8192, 480]⟩
abbrev S480x4096 : Shape := ⟨2, ![480, 4096]⟩
abbrev S8192x4096 : Shape := ⟨2, ![8192, 4096]⟩
abbrev S1024x480 : Shape := ⟨2, ![1024, 480]⟩
abbrev S480x512 : Shape := ⟨2, ![480, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x480, .f32⟩
  | .hbm, ⟨1, _⟩ => ⟨S480x4096, .f32⟩
  | .hbm, ⟨2, _⟩ => ⟨S8192x4096, .f32⟩
  | .local _ .vmem, ⟨0, _⟩ => ⟨S1024x480, .f32⟩
  | .local _ .vmem, ⟨1, _⟩ => ⟨S1024x480, .f32⟩
  | .local _ .vmem, ⟨2, _⟩ => ⟨S480x512, .f32⟩
  | .local _ .vmem, ⟨3, _⟩ => ⟨S480x512, .f32⟩
  | .local _ .vmem, ⟨4, _⟩ => ⟨S1024x512, .f32⟩
  | .local _ .vmem, ⟨5, _⟩ => ⟨S1024x512, .f32⟩
  | _, _ => ⟨S8192x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S480x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateOutRefIdeal.lean ====
abbrev S8192x480 : Shape := ⟨2, ![8192, 480]⟩
abbrev S480x4096 : Shape := ⟨2, ![480, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x480, .f32⟩
  | .hbm, ⟨1, _⟩ => ⟨S480x4096, .f32⟩
  | .hbm, ⟨2, _⟩ => ⟨S8192x4096, .f32⟩
  | _, _ => ⟨S8192x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixPrompt.lean ====
abbrev S8192x4096 : Shape := ⟨2, ![8192, 4096]⟩
abbrev S6x4096 : Shape := ⟨2, ![6, 4096]⟩
abbrev S4x2048x4096 : Shape := ⟨3, ![4, 2048, 4096]⟩
abbrev S_ : Shape := ⟨0, ![]⟩
abbrev S4x1x4096 : Shape := ⟨3, ![4, 1, 4096]⟩
abbrev S4x2047x4096 : Shape := ⟨3, ![4, 2047, 4096]⟩
abbrev S256x4096 : Shape := ⟨2, ![256, 4096]⟩
abbrev S1x4096 : Shape := ⟨2, ![1, 4096]⟩

abbrev nBuf : Space → Nat
  | .hbm => 14
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S6x4096, .f32⟩
  | .hbm, ⟨2, _⟩ => ⟨S4x2048x4096, .f32⟩
  | .hbm, ⟨3, _⟩ => ⟨S_, .f32⟩
  | .hbm, ⟨4, _⟩ => ⟨S4x1x4096, .f32⟩
  | .hbm, ⟨5, _⟩ => ⟨S4x2047x4096, .f32⟩
  | .hbm, ⟨6, _⟩ => ⟨S4x2048x4096, .f32⟩
  | .hbm, ⟨7, _⟩ => ⟨S8192x4096, .f32⟩
  | .hbm, ⟨8, _⟩ => ⟨S8192x4096, .bf16⟩
  | .hbm, ⟨9, _⟩ => ⟨S8192x4096, .bf16⟩
  | .hbm, ⟨10, _⟩ => ⟨S8192x4096, .bf16⟩
  | .hbm, ⟨11, _⟩ => ⟨S8192x4096, .bf16⟩
  | .hbm, ⟨12, _⟩ => ⟨S8192x4096, .bf16⟩
  | .hbm, ⟨13, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S6x4096, .f32⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixPromptRefIdeal.lean ====
abbrev S8192x4096 : Shape := ⟨2, ![8192, 4096]⟩
abbrev S6x4096 : Shape := ⟨2, ![6, 4096]⟩
abbrev S4x2048x4096 : Shape := ⟨3, ![4, 2048, 4096]⟩
abbrev S4x1x4096 : Shape := ⟨3, ![4, 1, 4096]⟩
abbrev S4x4096 : Shape := ⟨2, ![4, 4096]⟩
abbrev S_ : Shape := ⟨0, ![]⟩
abbrev S4x2047x4096 : Shape := ⟨3, ![4, 2047, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S6x4096, .f32⟩
  | .hbm, ⟨2, _⟩ => ⟨S4x2048x4096, .f32⟩
  | .hbm, ⟨3, _⟩ => ⟨S4x1x4096, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x2047x4096, .f32⟩
  | .hbm, ⟨9, _⟩ => ⟨S4x2048x4096, .f32⟩
  | .hbm, ⟨10, _⟩ => ⟨S4x2048x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S8192x4096, .f32⟩
  | .hbm, ⟨18, _⟩ => ⟨S8192x4096, .bf16⟩
  | .hbm, ⟨19, _⟩ => ⟨S1x4096, .f32⟩
  | .hbm, ⟨20, _⟩ => ⟨S4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S8192x4096, .f32⟩
  | .hbm, ⟨26, _⟩ => ⟨S8192x4096, .bf16⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S8192x4096, .f32⟩
  | .hbm, ⟨34, _⟩ => ⟨S8192x4096, .bf16⟩
  | .hbm, ⟨35, _⟩ => ⟨S1x4096, .f32⟩
  | .hbm, ⟨36, _⟩ => ⟨S4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S8192x4096, .f32⟩
  | .hbm, ⟨42, _⟩ => ⟨S8192x4096, .bf16⟩
  | .hbm, ⟨43, _⟩ => ⟨S1x4096, .f32⟩
  | .hbm, ⟨44, _⟩ => ⟨S4096, .f32⟩
  | .hbm, ⟨45, _⟩ => ⟨S1x1x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S8192x4096, .f32⟩
  | .hbm, ⟨50, _⟩ => ⟨S8192x4096, .bf16⟩
  | .hbm, ⟨51, _⟩ => ⟨S1x4096, .f32⟩
  | .hbm, ⟨52, _⟩ => ⟨S4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S8192x4096, .f32⟩
  | .hbm, ⟨58, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩

abbrev nD : Nat := 1
abbrev τ : Topo := Topo.v7x

variable {F : FTy → Type} [FloatOps F]
-- ==== MixSample.lean ====
abbrev S128x4096 : Shape := ⟨2, ![128, 4096]⟩
abbrev S32x4096 : Shape := ⟨2, ![32, 4096]⟩
abbrev S6x4096 : Shape := ⟨2, ![6, 4096]⟩
abbrev S32x4x4096 : Shape := ⟨3, ![32, 4, 4096]⟩
abbrev S32x1x4096 : Shape := ⟨3, ![32, 1, 4096]⟩
abbrev S32x3x4096 : Shape := ⟨3, ![32, 3, 4096]⟩
abbrev S1x4096 : Shape := ⟨2, ![1, 4096]⟩

abbrev nBuf : Space → Nat
  | .hbm => 14
  | .vmem => 9
  | .smem => 0
  | _ => 0

abbrev bufTy : (tb : Table) → Fin (tcTables nBuf tb) → BufTy
  | .hbm, ⟨0, _⟩ => ⟨S128x4096, .f32⟩
  | .hbm, ⟨1, _⟩ => ⟨S32x4096, .f32⟩
  | .hbm, ⟨2, _⟩ => ⟨S6x4096, .f32⟩
  | .hbm, ⟨3, _⟩ => ⟨S32x4x4096, .f32⟩
  | .hbm, ⟨4, _⟩ => ⟨S32x1x4096, .f32⟩
  | .hbm, ⟨5, _⟩ => ⟨S32x3x4096, .f32⟩
  | .hbm, ⟨6, _⟩ => ⟨S32x4x4096, .f32⟩
  | .hbm, ⟨7, _⟩ => ⟨S128x4096, .f32⟩
  | .hbm, ⟨8, _⟩ => ⟨S128x4096, .bf16⟩
  | .hbm, ⟨9, _⟩ => ⟨S128x4096, .bf16⟩
  | .hbm, ⟨10, _⟩ => ⟨S128x4096, .bf16⟩
  | .hbm, ⟨11, _⟩ => ⟨S128x4096, .bf16⟩
  | .hbm, ⟨12, _⟩ => ⟨S128x4096, .bf16⟩
  | .hbm, ⟨13, _⟩ => ⟨S128x4096, .bf16⟩
  | .local _ .vmem, ⟨0, _⟩ => ⟨S128x4096, .f32⟩
  | .local _ .vmem, ⟨1, _⟩ => ⟨S128x4096, .f32⟩
  | .local _ .vmem, ⟨2, _⟩ => ⟨S6x4096, .f32⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MixSampleRefIdeal.lean ====
abbrev S128x4096 : Shape := ⟨2, ![128, 4096]⟩
abbrev S32x4096 : Shape := ⟨2, ![32, 4096]⟩
abbrev S6x4096 : Shape := ⟨2, ![6, 4096]⟩
abbrev S32x4x4096 : Shape := ⟨3, ![32, 4, 4096]⟩
abbrev S32x1x4096 : Shape := ⟨3, ![32, 1, 4096]⟩
abbrev S32x3x4096 : Shape := ⟨3, ![32, 3, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S32x4096, .f32⟩
  | .hbm, ⟨2, _⟩ => ⟨S6x4096, .f32⟩
  | .hbm, ⟨3, _⟩ => ⟨S32x4x4096, .f32⟩
  | .hbm, ⟨4, _⟩ => ⟨S32x1x4096, .f32⟩
  | .hbm, ⟨5, _⟩ => ⟨S32x3x4096, .f32⟩
  | .hbm, ⟨6, _⟩ => ⟨S32x4x4096, .f32⟩
  | .hbm, ⟨7, _⟩ => ⟨S32x4x4096, .f32⟩
  | .hbm, ⟨8, _⟩ => ⟨S1x4096, .f32⟩
  | .hbm, ⟨9, _⟩ => ⟨S4096, .f32⟩
  | .hbm, ⟨10, _⟩ => ⟨S1x1x4096, .f32⟩
  | .hbm, ⟨11, _⟩ => ⟨S32x4x4096, .f32⟩
  | .hbm, ⟨12, _⟩ => ⟨S32x4x4096, .f32⟩
  | .hbm, ⟨13, _⟩ => ⟨S32x4x4096, .f32⟩
  | .hbm, ⟨14, _⟩ => ⟨S128x4096, .f32⟩
  | .hbm, ⟨15, _⟩ => ⟨S128x4096, .bf16⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S32x4x4096, .f32⟩
  | .hbm, ⟨20, _⟩ => ⟨S32x4x4096, .f32⟩
  | .hbm, ⟨21, _⟩ => ⟨S32x4x4096, .f32⟩
  | .hbm, ⟨22, _⟩ => ⟨S128x4096, .f32⟩
  | .hbm, ⟨23, _⟩ => ⟨S128x4096, .bf16⟩
  | .hbm, ⟨24, _⟩ => ⟨S1x4096, .f32⟩
  | .hbm, ⟨25, _⟩ => ⟨S4096, .f32⟩
  | .hbm, ⟨26, _⟩ => ⟨S1x1x4096, .f32⟩
  | .hbm, ⟨27, _⟩ => ⟨S32x4x4096, .f32⟩
  | .hbm, ⟨28, _⟩ => ⟨S32x4x4096, .f32⟩
  | .hbm, ⟨29, _⟩ => ⟨S32x4x4096, .f32⟩
  | .hbm, ⟨30, _⟩ => ⟨S128x4096, .f32⟩
  | .hbm, ⟨31, _⟩ => ⟨S128x4096, .bf16⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S32x4x4096, .f32⟩
  | .hbm, ⟨36, _⟩ => ⟨S32x4x4096, .f32⟩
  | .hbm, ⟨37, _⟩ => ⟨S32x4x4096, .f32⟩
  | .hbm, ⟨38, _⟩ => ⟨S128x4096, .f32⟩
  | .hbm, ⟨39, _⟩ => ⟨S128x4096, .bf16⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S32x4x4096, .f32⟩
  | .hbm, ⟨44, _⟩ => ⟨S32x4x4096, .f32⟩
  | .hbm, ⟨45, _⟩ => ⟨S32x4x4096, .f32⟩
  | .hbm, ⟨46, _⟩ => ⟨S128x4096, .f32⟩
  | .hbm, ⟨47, _⟩ => ⟨S128x4096, .bf16⟩
  | .hbm, ⟨48, _⟩ => ⟨S1x4096, .f32⟩
  | .hbm, ⟨49, _⟩ => ⟨S4096, .f32⟩
  | .hbm, ⟨50, _⟩ => ⟨S1x1x4096, .f32⟩
  | .hbm, ⟨51, _⟩ => ⟨S32x4x4096, .f32⟩
  | .hbm, ⟨52, _⟩ => ⟨S32x4x4096, .f32⟩
  | .hbm, ⟨53, _⟩ => ⟨S32x4x4096, .f32⟩
  | .hbm, ⟨54, _⟩ => ⟨S128x4096, .f32⟩
  | .hbm, ⟨55, _⟩ => ⟨S128x4096, .bf16⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩

abbrev nD : Nat := 1
abbrev τ : Topo := Topo.v7x

variable {F : FTy → Type} [FloatOps F]
-- ==== SharedSample.lean ====
abbrev S128x8192 : Shape := ⟨2, ![128, 8192]⟩
abbrev S32x128x4x128 : Shape := ⟨4, ![32, 128, 4, 128]⟩
abbrev S32x32 : Shape := ⟨2, ![32, 32]⟩
abbrev S20 : Shape := ⟨1, ![20]⟩
abbrev S8x256 : Shape := ⟨2, ![8, 256]⟩
abbrev S8x640 : Shape := ⟨2, ![8, 640]⟩
abbrev S_ : Shape := ⟨0, ![]⟩
abbrev S12 : Shape := ⟨1, ![12]⟩
abbrev S32 : Shape := ⟨1, ![32]⟩
abbrev S32x20 : Shape := ⟨2, ![32, 20]⟩
abbrev S32x12 : Shape := ⟨2, ![32, 12]⟩
abbrev S8x256x1 : Shape := ⟨3, ![8, 256, 1]⟩
abbrev S1x1x32 : Shape := ⟨3, ![1, 1, 32]⟩
abbrev S8x256x32 : Shape := ⟨3, ![8, 256, 32]⟩
abbrev S20x8x256 : Shape := ⟨3, ![20, 8, 256]⟩
abbrev S12x8x256 : Shape := ⟨3, ![12, 8, 256]⟩
abbrev S8x640x1 : Shape := ⟨3, ![8, 640, 1]⟩
abbrev S8x640x32 : Shape := ⟨3, ![8, 640, 32]⟩
abbrev S12x8x640 : Shape := ⟨3, ![12, 8, 640]⟩
abbrev S32x4x8192 : Shape := ⟨3, ![32, 4, 8192]⟩
abbrev S32x128x512 : Shape := ⟨3, ![32, 128, 512]⟩
abbrev S32x4x2560 : Shape := ⟨3, ![32, 4, 2560]⟩
abbrev S1x4x8192 : Shape := ⟨3, ![1, 4, 8192]⟩
abbrev S1x128x512 : Shape := ⟨3, ![1, 128, 512]⟩
abbrev S1x4x2560 : Shape := ⟨3, ![1, 4, 2560]⟩
abbrev S8x128 : Shape := ⟨2, ![8, 128]⟩
abbrev S640x128 : Shape := ⟨2, ![640, 128]⟩
abbrev S1x128x128 : Shape := ⟨3, ![1, 128, 128]⟩
abbrev S128x128 : Shape := ⟨2, ![128, 128]⟩
abbrev S1x4x128 : Shape := ⟨3, ![1, 4, 128]⟩
abbrev S4x128 : Shape := ⟨2, ![4, 128]⟩
abbrev S1x8x256 : Shape := ⟨3, ![1, 8, 256]⟩
abbrev S1 : Shape := ⟨1, ![1]⟩
abbrev S256x128 : Shape := ⟨2, ![256, 128]⟩
abbrev S8 : Shape := ⟨1, ![8]⟩
abbrev S8x1 : Shape := ⟨2, ![8, 1]⟩

abbrev nBuf : Space → Nat
  | .hbm => 73
  | .vmem => 12
  | .smem => 1
  | _ => 0

abbrev bufTy : (tb : Table) → Fin (tcTables nBuf tb) → BufTy
  | .hbm, ⟨0, _⟩ => ⟨S128x8192, .f32⟩
  | .hbm, ⟨1, _⟩ => ⟨S32x128x4x128, .f32⟩
  | .hbm, ⟨2, _⟩ => ⟨S32x128x4x128, .f32⟩
  | .hbm, ⟨3, _⟩ => ⟨S32x32, .f32⟩
  | .hbm, ⟨4, _⟩ => ⟨S20, .f32⟩
  | .hbm, ⟨5, _⟩ => ⟨S8x256, .i32⟩
  | .hbm, ⟨6, _⟩ => ⟨S8x256, .i1⟩
  | .hbm, ⟨7, _⟩ => ⟨S8x256, .i32⟩
  | .hbm, ⟨8, _⟩ => ⟨S8x640, .i32⟩
  | .hbm, ⟨9, _⟩ => ⟨S8x640, .i1⟩
  | .hbm, ⟨10, _⟩ => ⟨S8x640, .i32⟩
  | .hbm, ⟨11, _⟩ => ⟨S8x640, .i1⟩
  | .hbm, ⟨12, _⟩ => ⟨S_, .f32⟩
  | .hbm, ⟨13, _⟩ => ⟨S12, .f32⟩
  | .hbm, ⟨14, _⟩ => ⟨S32, .f32⟩
  | .hbm, ⟨15, _⟩ => ⟨S32x20, .f32⟩
  | .hbm, ⟨16, _⟩ => ⟨S32x12, .f32⟩
  | .hbm, ⟨17, _⟩ => ⟨S8x256x1, .i32⟩
  | .hbm, ⟨18, _⟩ => ⟨S32, .i32⟩
  | .hbm, ⟨19, _⟩ => ⟨S1x1x32, .i32⟩
  | .hbm, ⟨20, _⟩ => ⟨S8x256x32, .i32⟩
  | .hbm, ⟨21, _⟩ => ⟨S8x256x32, .i32⟩
  | .hbm, ⟨22, _⟩ => ⟨S8x256x32, .i1⟩
  | .hbm, ⟨23, _⟩ => ⟨S8x256x32, .f32⟩
  | .hbm, ⟨24, _⟩ => ⟨S20x8x256, .f32⟩
  | .hbm, ⟨25, _⟩ => ⟨S_, .f32⟩
  | .hbm, ⟨26, _⟩ => ⟨S_, .f32⟩
  | .hbm, ⟨27, _⟩ => ⟨S20x8x256, .i1⟩
  | .hbm, ⟨28, _⟩ => ⟨S20x8x256, .f32⟩
  | .hbm, ⟨29, _⟩ => ⟨S20x8x256, .f32⟩
  | .hbm, ⟨30, _⟩ => ⟨S8x256x1, .i32⟩
  | .hbm, ⟨31, _⟩ => ⟨S32, .i32⟩
  | .hbm, ⟨32, _⟩ => ⟨S1x1x32, .i32⟩
  | .hbm, ⟨33, _⟩ => ⟨S8x256x32, .i32⟩
  | .hbm, ⟨34, _⟩ => ⟨S8x256x32, .i32⟩
  | .hbm, ⟨35, _⟩ => ⟨S8x256x32, .i1⟩
  | .hbm, ⟨36, _⟩ => ⟨S8x256x32, .f32⟩
  | .hbm, ⟨37, _⟩ => ⟨S12x8x256, .f32⟩
  | .hbm, ⟨38, _⟩ => ⟨S_, .f32⟩
  | .hbm, ⟨39, _⟩ => ⟨S_, .f32⟩
  | .hbm, ⟨40, _⟩ => ⟨S12x8x256, .i1⟩
  | .hbm, ⟨41, _⟩ => ⟨S12x8x256, .f32⟩
  | .hbm, ⟨42, _⟩ => ⟨S12x8x256, .f32⟩
  | .hbm, ⟨43, _⟩ => ⟨S8x640x1, .i32⟩
  | .hbm, ⟨44, _⟩ => ⟨S32, .i32⟩
  | .hbm, ⟨45, _⟩ => ⟨S1x1x32, .i32⟩
  | .hbm, ⟨46, _⟩ => ⟨S8x640x32, .i32⟩
  | .hbm, ⟨47, _⟩ => ⟨S8x640x32, .i32⟩
  | .hbm, ⟨48, _⟩ => ⟨S8x640x32, .i1⟩
  | .hbm, ⟨49, _⟩ => ⟨S8x640x32, .f32⟩
  | .hbm, ⟨50, _⟩ => ⟨S12x8x640, .f32⟩
  | .hbm, ⟨51, _⟩ => ⟨S_, .f32⟩
  | .hbm, ⟨52, _⟩ => ⟨S_, .f32⟩
  | .hbm, ⟨53, _⟩ => ⟨S12x8x640, .i1⟩
  | .hbm, ⟨54, _⟩ => ⟨S12x8x640, .f32⟩
  | .hbm, ⟨55, _⟩ => ⟨S12x8x640, .f32⟩
  | .hbm, ⟨56, _⟩ => ⟨S8x640x1, .i32⟩
  | .hbm, ⟨57, _⟩ => ⟨S32, .i32⟩
  | .hbm, ⟨58, _⟩ => ⟨S1x1x32, .i32⟩
  | .hbm, ⟨59, _⟩ => ⟨S8x640x32, .i32⟩
  | .hbm, ⟨60, _⟩ => ⟨S8x640x32, .i32⟩
  | .hbm, ⟨61, _⟩ => ⟨S8x640x32, .i1⟩
  | .hbm, ⟨62, _⟩ => ⟨S8x640x32, .f32⟩
  | .hbm, ⟨63, _⟩ => ⟨S12x8x640, .f32⟩
  | .hbm, ⟨64, _⟩ => ⟨S_, .f32⟩
  | .hbm, ⟨65, _⟩ => ⟨S_, .f32⟩
  | .hbm, ⟨66, _⟩ => ⟨S12x8x640, .i1⟩
  | .hbm, ⟨67, _⟩ => ⟨S12x8x640, .f32⟩
  | .hbm, ⟨68, _⟩ => ⟨S12x8x640, .f32⟩
  | .hbm, ⟨69, _⟩ => ⟨S32x4x8192, .f32⟩
  | .hbm, ⟨70, _⟩ => ⟨S32x128x512, .f32⟩
  | .hbm, ⟨71, _⟩ => ⟨S32x128x512, .f32⟩
  | .hbm, ⟨72, _⟩ => ⟨S32x4x2560, .f32⟩
  | .local _ .vmem, ⟨0, _⟩ => ⟨S1x4x8192, .f32⟩
  | .local _ .vmem, ⟨1, _⟩ => ⟨S1x4x8192, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S20x8x256, .f32⟩
  | .local _ .vmem, ⟨7, _⟩ => ⟨S1x4x2560, .f32⟩
  | .local _ .vmem, ⟨8, _⟩ => ⟨S1x4x2560, .f32⟩
  | .local _ .vmem, ⟨9, _⟩ => ⟨S8x128, .f32⟩
  | .local _ .vmem, ⟨10, _⟩ => ⟨S640x128, .f32⟩
  | .local _ .vmem, ⟨11, _⟩ => ⟨S640x128, .f32⟩
  | .local _ .smem, ⟨0, _⟩ => ⟨S32, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_6 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SharedSampleRefIdeal.lean ====
abbrev S128x8192 : Shape := ⟨2, ![128, 8192]⟩
abbrev S32x128x4x128 : Shape := ⟨4, ![32, 128, 4, 128]⟩
abbrev S32x32 : Shape := ⟨2, ![32, 32]⟩
abbrev S20 : Shape := ⟨1, ![20]⟩
abbrev S4x132 : Shape := ⟨2, ![4, 132]⟩
abbrev S32x4x8192 : Shape := ⟨3, ![32, 4, 8192]⟩
abbrev S32x4x2560 : Shape := ⟨3, ![32, 4, 2560]⟩
abbrev S32x4x4x5x128 : Shape := ⟨5, ![32, 4, 4, 5, 128]⟩
abbrev S32x4x512 : Shape := ⟨3, ![32, 4, 512]⟩
abbrev S32x4x4x128 : Shape := ⟨4, ![32, 4, 4, 128]⟩
abbrev S32x132x4x128 : Shape := ⟨4, ![32, 132, 4, 128]⟩
abbrev S32x4x132x4x5 : Shape := ⟨5, ![32, 4, 132, 4, 5]⟩
abbrev S32x4x5x4x132 : Shape := ⟨5, ![32, 4, 5, 4, 132]⟩
abbrev S_ : Shape := ⟨0, ![]⟩
abbrev S32x20 : Shape := ⟨2, ![32, 20]⟩
abbrev S4x132x1 : Shape := ⟨3, ![4, 132, 1]⟩
abbrev S4x132x20 : Shape := ⟨3, ![4, 132, 20]⟩
abbrev S20x4x132 : Shape := ⟨3, ![20, 4, 132]⟩
abbrev S4x5x4x132 : Shape := ⟨4, ![4, 5, 4, 132]⟩
abbrev S1x4x5x4x132 : Shape := ⟨5, ![1, 4, 5, 4, 132]⟩
abbrev S4x5x1x1 : Shape := ⟨4, ![4, 5, 1, 1]⟩
abbrev S32x4x5x4x1 : Shape := ⟨5, ![32, 4, 5, 4, 1]⟩
abbrev S32x4x5x4x133 : Shape := ⟨5, ![32, 4, 5, 4, 133]⟩
abbrev S32x4x5x4 : Shape := ⟨4, ![32, 4, 5, 4]⟩
abbrev S32x4x128x5x4 : Shape := ⟨5, ![32, 4, 128, 5, 4]⟩

abbrev nBuf : Space → Nat
  | .hbm => 92
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S32x128x4x128, .f32⟩
  | .hbm, ⟨2, _⟩ => ⟨S32x128x4x128, .f32⟩
  | .hbm, ⟨3, _⟩ => ⟨S32x32, .f32⟩
  | .hbm, ⟨4, _⟩ => ⟨S20, .f32⟩
  | .hbm, ⟨5, _⟩ => ⟨S4x132, .i32⟩
  | .hbm, ⟨6, _⟩ => ⟨S4x132, .i1⟩
  | .hbm, ⟨7, _⟩ => ⟨S32x4x8192, .f32⟩
  | .hbm, ⟨8, _⟩ => ⟨S32x4x2560, .f32⟩
  | .hbm, ⟨9, _⟩ => ⟨S32x4x4x5x128, .f32⟩
  | .hbm, ⟨10, _⟩ => ⟨S32x4x512, .f32⟩
  | .hbm, ⟨11, _⟩ => ⟨S32x4x4x128, .f32⟩
  | .hbm, ⟨12, _⟩ => ⟨S32x4x512, .f32⟩
  | .hbm, ⟨13, _⟩ => ⟨S32x4x4x128, .f32⟩
  | .hbm, ⟨14, _⟩ => ⟨S32x132x4x128, .f32⟩
  | .hbm, ⟨15, _⟩ => ⟨S32x132x4x128, .f32⟩
  | .hbm, ⟨16, _⟩ => ⟨S32x4x132x4x5, .f32⟩
  | .hbm, ⟨17, _⟩ => ⟨S32x4x5x4x132, .f32⟩
  | .hbm, ⟨18, _⟩ => ⟨S_, .f32⟩
  | .hbm, ⟨19, _⟩ => ⟨S32x4x5x4x132, .f32⟩
  | .hbm, ⟨20, _⟩ => ⟨S32x4x5x4x132, .f32⟩
  | .hbm, ⟨21, _⟩ => ⟨S32x20, .f32⟩
  | .hbm, ⟨22, _⟩ => ⟨S_, .i32⟩
  | .hbm, ⟨23, _⟩ => ⟨S4x132, .i32⟩
  | .hbm, ⟨24, _⟩ => ⟨S4x132, .i32⟩
  | .hbm, ⟨25, _⟩ => ⟨S_, .i32⟩
  | .hbm, ⟨26, _⟩ => ⟨S4x132, .i32⟩
  | .hbm, ⟨27, _⟩ => ⟨S4x132, .i32⟩
  | .hbm, ⟨28, _⟩ => ⟨S4x132, .f32⟩
  | .hbm, ⟨29, _⟩ => ⟨S_, .f32⟩
  | .hbm, ⟨30, _⟩ => ⟨S4x132, .f32⟩
  | .hbm, ⟨31, _⟩ => ⟨S4x132, .f32⟩
  | .hbm, ⟨32, _⟩ => ⟨S4x132, .f32⟩
  | .hbm, ⟨33, _⟩ => ⟨S_, .f32⟩
  | .hbm, ⟨34, _⟩ => ⟨S4x132, .f32⟩
  | .hbm, ⟨35, _⟩ => ⟨S4x132, .f32⟩
  | .hbm, ⟨36, _⟩ => ⟨S_, .f32⟩
  | .hbm, ⟨37, _⟩ => ⟨S4x132, .f32⟩
  | .hbm, ⟨38, _⟩ => ⟨S4x132, .f32⟩
  | .hbm, ⟨39, _⟩ => ⟨S4x132, .i32⟩
  | .hbm, ⟨40, _⟩ => ⟨S_, .i32⟩
  | .hbm, ⟨41, _⟩ => ⟨S4x132, .i32⟩
  | .hbm, ⟨42, _⟩ => ⟨S4x132, .i32⟩
  | .hbm, ⟨43, _⟩ => ⟨S_, .i32⟩
  | .hbm, ⟨44, _⟩ => ⟨S4x132, .i32⟩
  | .hbm, ⟨45, _⟩ => ⟨S4x132, .i1⟩
  | .hbm, ⟨46, _⟩ => ⟨S_, .i32⟩
  | .hbm, ⟨47, _⟩ => ⟨S4x132, .i32⟩
  | .hbm, ⟨48, _⟩ => ⟨S4x132, .i32⟩
  | .hbm, ⟨49, _⟩ => ⟨S4x132, .i32⟩
  | .hbm, ⟨50, _⟩ => ⟨S_, .i32⟩
  | .hbm, ⟨51, _⟩ => ⟨S4x132, .i32⟩
  | .hbm, ⟨52, _⟩ => ⟨S4x132, .i1⟩
  | .hbm, ⟨53, _⟩ => ⟨S_, .i32⟩
  | .hbm, ⟨54, _⟩ => ⟨S4x132, .i32⟩
  | .hbm, ⟨55, _⟩ => ⟨S4x132, .i32⟩
  | .hbm, ⟨56, _⟩ => ⟨S4x132, .i32⟩
  | .hbm, ⟨57, _⟩ => ⟨S4x132x1, .i32⟩
  | .hbm, ⟨58, _⟩ => ⟨S4x132x20, .f32⟩
  | .hbm, ⟨59, _⟩ => ⟨S20x4x132, .f32⟩
  | .hbm, ⟨60, _⟩ => ⟨S4x5x4x132, .f32⟩
  | .hbm, ⟨61, _⟩ => ⟨S1x4x5x4x132, .f32⟩
  | .hbm, ⟨62, _⟩ => ⟨S32x4x5x4x132, .f32⟩
  | .hbm, ⟨63, _⟩ => ⟨S32x4x5x4x132, .f32⟩
  | .hbm, ⟨64, _⟩ => ⟨S_, .f32⟩
  | .hbm, ⟨65, _⟩ => ⟨S_, .f32⟩
  | .hbm, ⟨66, _⟩ => ⟨S32x4x5x4x132, .i1⟩
  | .hbm, ⟨67, _⟩ => ⟨S32x4x5x4x132, .f32⟩
  | .hbm, ⟨68, _⟩ => ⟨S32x4x5x4x132, .f32⟩
  | .hbm, ⟨69, _⟩ => ⟨S4x5x1x1, .f32⟩
  | .hbm, ⟨70, _⟩ => ⟨S32x4x5x4x1, .f32⟩
  | .hbm, ⟨71, _⟩ => ⟨S32x4x5x4x133, .f32⟩
  | .hbm, ⟨72, _⟩ => ⟨S_, .f32⟩
  | .hbm, ⟨73, _⟩ => ⟨S32x4x5x4, .f32⟩
  | .hbm, ⟨74, _⟩ => ⟨S32x4x5x4x1, .f32⟩
  | .hbm, ⟨75, _⟩ => ⟨S32x4x5x4x133, .f32⟩
  | .hbm, ⟨76, _⟩ => ⟨S32x4x5x4x133, .f32⟩
  | .hbm, ⟨77, _⟩ => ⟨S32x4x5x4x133, .f32⟩
  | .hbm, ⟨78, _⟩ => ⟨S_, .f32⟩
  | .hbm, ⟨79, _⟩ => ⟨S32x4x5x4, .f32⟩
  | .hbm, ⟨80, _⟩ => ⟨S32x4x5x4x1, .f32⟩
  | .hbm, ⟨81, _⟩ => ⟨S32x4x5x4x1, .f32⟩
  | .hbm, ⟨82, _⟩ => ⟨S32x4x5x4x1, .f32⟩
  | .hbm, ⟨83, _⟩ => ⟨S32x4x5x4, .f32⟩
  | .hbm, ⟨84, _⟩ => ⟨S32x4x5x4x1, .f32⟩
  | .hbm, ⟨85, _⟩ => ⟨S32x4x5x4x133, .f32⟩
  | .hbm, ⟨86, _⟩ => ⟨S32x4x5x4x133, .f32⟩
  | .hbm, ⟨87, _⟩ => ⟨S32x4x5x4x133, .f32⟩
  | .hbm, ⟨88, _⟩ => ⟨S32x4x5x4x132, .f32⟩
  | .hbm, ⟨89, _⟩ => ⟨S32x4x128x5x4, .f32⟩
  | .hbm, ⟨90, _⟩ => ⟨S32x4x4x5x128, .f32⟩
  | .hbm, ⟨91, _⟩ => ⟨S32x4x2560, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.DilBucket.lean ====
module

public import Idealize.ShloMosaic.Lib.Pipeline.ValueKit

@[expose] public section

set_option maxRecDepth 16384

noncomputable section

open Idealize.ShloMosaic

/-! # The bucket of a distance

A distance below 16 is its own bucket; a longer one counts sixteenths of seven doublings of `n / 16`. The reference takes
that count by a logarithm, and here it is the number of thresholds that the sixteenth power of `n` has passed. -/

namespace Cert.Window

/-- How many thresholds a distance has passed. -/
def steps (n : ℕ) : ℕ := ((List.range 15).filter fun k => decide (16 ^ 16 * 2 ^ (7 * (k + 1)) ≤ n ^ 16)).length

/-- The bucket of a distance. -/
def bucket (n : ℕ) : ℕ := if n < 16 then n else 16 + steps n

theorem steps_spec : ∀ n : Fin 2049, 16 ≤ n.val → steps n.val ≤ 15
    ∧ (steps n.val = 0 ∨ 16 ^ 16 * 2 ^ (7 * steps n.val) * 1000000 ≤ n.val ^ 16 * 999999)
    ∧ (steps n.val = 15 ∨ n.val ^ 16 < 16 ^ 16 * 2 ^ (7 * (steps n.val + 1))) := by
  decide +kernel

theorem bucket_lt : ∀ n : Fin 2049, bucket n.val < 32 := by decide +kernel

theorem log_two_gt : (0.6931471803 : ℝ) < Real.log 2 := by
  rw [Real.lt_log_iff_exp_lt (by norm_num)]
  refine lt_of_le_of_lt (Real.exp_bound' (n := 14) (by norm_num) (by norm_num) (by norm_num)) ?_
  norm_num [Finset.sum_range_succ, Nat.factorial]

theorem log_two_lt : Real.log 2 < (0.6931471808 : ℝ) := by
  rw [Real.log_lt_iff_lt_exp (by norm_num)]
  refine lt_of_lt_of_le ?_ (Real.sum_le_exp_of_nonneg (by norm_num) 14)
  norm_num [Finset.sum_range_succ, Nat.factorial]

/-- The divisor of the logarithm: seven doublings, rounded. -/
def doublings : ℝ := 10175445 / 2097152

theorem doublings_bits : Ideal.ofBits .f32 1083917269#32 = ((doublings : ℝ) : EReal) := by
  unfold doublings
  simp [Ideal.ofBits, Ideal.ieee]
  norm_num
  rw [← EReal.coe_mul]
  norm_num

/-- The logarithmic count. -/
def level16 (n : ℕ) : ℝ := Real.log (n / 16) * (1 / doublings) * 16

theorem level16_bounds (n : ℕ) (h : 16 ≤ n) (h' : n ≤ 2048) :
    (⌊level16 n⌋ = steps n ∨ (steps n = 15 ∧ ⌊level16 n⌋ = 16)) ∧ 0 ≤ level16 n := by
  obtain ⟨hk, hlo, hhi⟩ := steps_spec ⟨n, by omega⟩ h
  simp only at hk hlo hhi
  generalize steps n = K at hk hlo hhi ⊢
  have l1 := log_two_gt
  have l2 := log_two_lt
  have hd : (0 : ℝ) < doublings := by unfold doublings; norm_num
  have hn : (16 : ℝ) ≤ n := by exact_mod_cast h
  have hn' : (n : ℝ) ≤ 2048 := by exact_mod_cast h'
  have hpos : (0 : ℝ) < (n : ℝ) / 16 := by positivity
  have e : level16 n = 16 * Real.log (n / 16) / doublings := by unfold level16; field_simp
  have e16 : 16 * Real.log (n / 16) = Real.log ((n : ℝ) ^ 16 / 16 ^ 16) := by
    rw [← div_pow, Real.log_pow]; norm_num
  have h0 : 0 ≤ Real.log ((n : ℝ) / 16) := Real.log_nonneg (by linarith)
  have lower : (K : ℝ) ≤ level16 n := by
    rw [e, le_div_iff₀ hd]
    rcases hlo with h0' | hlo
    · subst h0'; simp only [Nat.cast_zero, zero_mul]; positivity
    · have hr : (16 : ℝ) ^ 16 * 2 ^ (7 * K) * 1000000 ≤ (n : ℝ) ^ 16 * 999999 := by exact_mod_cast hlo
      have hA : (0 : ℝ) < 16 ^ 16 * 2 ^ (7 * K) := by positivity
      have hN : (0 : ℝ) < (n : ℝ) ^ 16 := by positivity
      have hx : (0 : ℝ) < (n : ℝ) ^ 16 / (16 ^ 16 * 2 ^ (7 * K)) := by positivity
      have s1 : Real.log ((n : ℝ) ^ 16 / 16 ^ 16) = Real.log ((n : ℝ) ^ 16 / (16 ^ 16 * 2 ^ (7 * K))) + (7 * K : ℝ) * Real.log 2 := by
        rw [show (7 * K : ℝ) * Real.log 2 = Real.log ((2 : ℝ) ^ (7 * K)) by rw [Real.log_pow]; push_cast; ring,
          ← Real.log_mul hx.ne' (by positivity)]
        congr 1
        field_simp
      have s2 := Real.one_sub_inv_le_log_of_pos hx
      have s3 : ((n : ℝ) ^ 16 / (16 ^ 16 * 2 ^ (7 * K)))⁻¹ ≤ 999999 / 1000000 := by
        rw [inv_div, div_le_div_iff₀ hN (by norm_num)]; linarith
      have hK : (K : ℝ) ≤ 15 := by exact_mod_cast hk
      have hK0 : (0 : ℝ) ≤ K := by positivity
      rw [e16, s1]
      have s4 : (K : ℝ) * doublings ≤ K * (7 * Real.log 2) + 1 / 1000000 := by
        unfold doublings
        have : (10175445 / 2097152 : ℝ) ≤ 7 * Real.log 2 + 1 / 20000000 := by linarith
        nlinarith
      linarith
  have top : level16 n ≤ 16 := by
    rw [e, div_le_iff₀ hd, e16]
    have : Real.log ((n : ℝ) ^ 16 / 16 ^ 16) ≤ Real.log ((2 : ℝ) ^ 112) := by
      refine Real.log_le_log (by positivity) ?_
      rw [div_le_iff₀ (by positivity)]
      calc (n : ℝ) ^ 16 ≤ 2048 ^ 16 := by gcongr
        _ = 2 ^ 112 * 16 ^ 16 := by norm_num
    rw [Real.log_pow] at this
    unfold doublings
    push_cast at this
    linarith
  refine ⟨?_, le_trans (by positivity) lower⟩
  have fl : (K : ℤ) ≤ ⌊level16 n⌋ := Int.le_floor.mpr (by exact_mod_cast lower)
  rcases hhi with h15 | hhi
  · subst h15
    have : ⌊level16 n⌋ ≤ 16 := by
      have := Int.floor_le_floor top
      simpa using this
    have hc : ⌊level16 n⌋ = 15 ∨ ⌊level16 n⌋ = 16 := by omega
    rcases hc with hc | hc
    · left; exact_mod_cast hc
    · right; exact ⟨rfl, hc⟩
  · left
    have : level16 n < (K : ℝ) + 1 := by
      rw [e, div_lt_iff₀ hd, e16]
      have hr : (n : ℝ) ^ 16 < 16 ^ 16 * 2 ^ (7 * (K + 1)) := by exact_mod_cast hhi
      have : Real.log ((n : ℝ) ^ 16 / 16 ^ 16) < Real.log ((2 : ℝ) ^ (7 * (K + 1))) := by
        refine Real.log_lt_log (by positivity) ?_
        rw [div_lt_iff₀ (by positivity)]; linarith
      rw [Real.log_pow] at this
      push_cast at this
      have hd7 : 7 * Real.log 2 ≤ doublings := by unfold doublings; linarith
      have hK0 : (0 : ℝ) ≤ (K : ℝ) + 1 := by positivity
      nlinarith
    have : ⌊level16 n⌋ < (K : ℤ) + 1 := Int.floor_lt.mpr (by exact_mod_cast this)
    omega

/-- THE REFERENCE'S BUCKET: its formula at a distance of at most 2048 is the bucket. -/
theorem bucket_word (n : ℕ) (h' : n ≤ 2048) :
    Scalar.select (IntOp.cmpi CmpIPredicate.slt (BitVec.ofNat 32 n) 16#32) (BitVec.ofNat 32 n)
      (IntOp.minsi (IntOp.addi 16#32 (Ideal.fptosi 32
        (Ideal.div (Ideal.log (Ideal.div (((BitVec.ofNat 32 (max n 1)).toInt : ℝ) : EReal) ((16 : ℝ) : EReal))) ((doublings : ℝ) : EReal) * ((16 : ℝ) : EReal)))) 31#32)
      = BitVec.ofNat 32 (bucket n) := by
  by_cases h : n < 16
  · have : ∀ n : Fin 16, ∀ x, Scalar.select (IntOp.cmpi CmpIPredicate.slt (BitVec.ofNat 32 n.val) 16#32) (BitVec.ofNat 32 n.val) x = BitVec.ofNat 32 (bucket n.val) := by
      intro n x
      have hs : IntOp.cmpi CmpIPredicate.slt (BitVec.ofNat 32 n.val) 16#32 = 1#1 := by revert n; decide
      have hb : bucket n.val = n.val := by revert n; decide
      rw [hs, hb]; rfl
    exact this ⟨n, h⟩ _
  · obtain ⟨hf, h0⟩ := level16_bounds n (by omega) h'
    have hs : ∀ n : Fin 2049, 16 ≤ n.val → IntOp.cmpi CmpIPredicate.slt (BitVec.ofNat 32 n.val) 16#32 = 0#1 := by decide +kernel
    have hi : ∀ n : Fin 2049, 16 ≤ n.val → (BitVec.ofNat 32 (max n.val 1)).toInt = n.val := by decide +kernel
    have hb : bucket n = 16 + steps n := by unfold bucket; rw [if_neg h]
    have hK : steps n ≤ 15 := (steps_spec ⟨n, by omega⟩ (by show 16 ≤ n; omega)).1
    have hd : (0 : ℝ) < doublings := by unfold doublings; norm_num
    have hn : (16 : ℝ) ≤ n := by exact_mod_cast (show 16 ≤ n by omega)
    rw [hs ⟨n, by omega⟩ (by show 16 ≤ n; omega), hi ⟨n, by omega⟩ (by show 16 ≤ n; omega)]
    show IntOp.minsi _ _ = _
    have el : Ideal.div (Ideal.log (Ideal.div ((((n : ℤ) : ℝ)) : EReal) ((16 : ℝ) : EReal))) ((doublings : ℝ) : EReal) * ((16 : ℝ) : EReal) = ((level16 n : ℝ) : EReal) := by
      rw [Ideal.div_coe (show (16 : ℝ) ≠ 0 by norm_num), ← EReal.coe_mul, Ideal.log_coe, if_neg (by push_cast; linarith), Ideal.div_coe hd.ne', ← EReal.coe_mul, ← EReal.coe_mul]
      unfold level16
      push_cast
      rw [mul_one_div]
    have ef : Ideal.fptosi 32 ((level16 n : ℝ) : EReal) = BitVec.ofInt 32 ⌊level16 n⌋ := by
      show BitVec.ofInt 32 (max _ (min _ (if 0 ≤ level16 n then ⌊level16 n⌋ else ⌈level16 n⌉))) = _
      rw [if_pos h0]
      congr 1
      have : ⌊level16 n⌋ ≤ 16 ∧ 0 ≤ ⌊level16 n⌋ := by rcases hf with hf | hf <;> omega
      rw [min_eq_right (by norm_num; omega), max_eq_right (by norm_num; omega)]
    rw [show (((⟨n, by omega⟩ : Fin 2049).val : ℤ) : ℝ) = ((n : ℤ) : ℝ) from rfl, el, ef, hb]
    generalize steps n = K at hK hf
    rcases hf with hf | ⟨rfl, hf⟩
    · rw [hf]
      interval_cases K <;> decide
    · rw [hf]; decide

end Cert.Window
-- ==== Proof.DilMath.lean ====
module

public import Idealize.ShloMosaic.Lib.Pipeline.ValueKit

@[expose] public section

noncomputable section

open Idealize.ShloMosaic

/-! # A softmax over a window that is laid into a longer row of lanes

The rows hold 129 real scores in some of their lanes and `⊥` in the others. Here: the weighted mean over the lanes, and
the logarithm of the weights' sum, are the ones over the 129 scores alone; and three such means are mixed by their sums. -/

namespace Cert.Window

/-- A nonnegative real goes through a finite sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The real sum, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih]; norm_cast

/-- The largest of finitely many reals is one of them. -/
theorem exists_max {k : ℕ} (R : Fin (k + 1) → EReal) (r : Fin (k + 1) → ℝ) (hR : ∀ j, R j = r j) :
    ∃ M : ℝ, Finset.fold max ⊥ R Finset.univ = (M : EReal) := by
  obtain ⟨j, -, hj⟩ := Finset.exists_mem_eq_sup (Finset.univ : Finset (Fin (k + 1))) ⟨0, Finset.mem_univ 0⟩ R
  exact ⟨r j, (show Finset.fold max ⊥ R Finset.univ = Finset.univ.sup R from rfl).trans (hj.trans (hR j))⟩

variable {n k : ℕ} (S : Fin n → EReal) (R : Fin (k + 1) → EReal) (r : Fin (k + 1) → ℝ) (pos : Fin (k + 1) → Fin n)

/-- The largest score of a row, as the reference takes it. -/
abbrev top : EReal := Finset.fold max ⊥ R Finset.univ
/-- The logarithm of the sum of the exponentials, as the reference takes it. -/
abbrev lse : EReal := top R + Ideal.log (∑ j, Ideal.exp (R j - top R))
/-- The largest score of a row of lanes, as the kernel takes it. -/
abbrev peak : EReal := max (Finset.fold max ⊥ S Finset.univ) ⊥
/-- The weights' sum over the lanes. -/
abbrev mass : EReal := (∑ i, Ideal.exp (S i - peak S)) + Ideal.exp (⊥ - peak S)
/-- Its logarithm, put back on the scores' scale. -/
abbrev level : EReal := peak S + Ideal.log (mass S)
/-- The weighted mean over the lanes. -/
abbrev mean (v : Fin n → EReal) : EReal := Ideal.div (∑ i, Ideal.exp (S i - peak S) * v i) (mass S)

theorem peak_eq (hR : ∀ j, R j = r j) (hS : ∀ j, S (pos j) = R j) (off : ∀ i, (∀ j, pos j ≠ i) → S i = ⊥) : peak S = top R := by
  show max (Finset.univ.sup S) ⊥ = Finset.univ.sup R
  rw [max_eq_left bot_le]
  refine le_antisymm (Finset.sup_le fun i _ => ?_) (Finset.sup_le fun j _ => ?_)
  · by_cases h : ∃ j, pos j = i
    · obtain ⟨j, rfl⟩ := h
      rw [hS]; exact Finset.le_sup (f := R) (Finset.mem_univ j)
    · rw [off i (fun j hj => h ⟨j, hj⟩)]; exact bot_le
  · rw [← hS]; exact Finset.le_sup (f := S) (Finset.mem_univ (pos j))

/-- A sum over the lanes whose terms vanish off the window is the sum over the window. -/
theorem sum_lanes (inj : Function.Injective pos) (f : Fin n → EReal) (off : ∀ i, (∀ j, pos j ≠ i) → f i = 0) :
    ∑ i, f i = ∑ j, f (pos j) :=
  (Fintype.sum_of_injective pos inj (fun j => f (pos j)) f (fun i hi => off i fun j hj => hi ⟨j, hj⟩) fun _ => rfl).symm

theorem mass_eq (hR : ∀ j, R j = r j) (hS : ∀ j, S (pos j) = R j) (off : ∀ i, (∀ j, pos j ≠ i) → S i = ⊥)
    (inj : Function.Injective pos) : mass S = ∑ j, Ideal.exp (R j - top R) := by
  obtain ⟨M, hM⟩ := exists_max R r hR
  unfold mass
  rw [peak_eq S R r pos hR hS off, show top R = (M : EReal) from hM,
    sum_lanes pos inj _ (fun i hi => by rw [off i hi]; rfl)]
  simp only [hS]
  rw [show (⊥ : EReal) - (M : EReal) = ⊥ from rfl, Ideal.exp_bot, add_zero]

/-- Over real scores the sum of the weights is a positive real. -/
theorem mass_real (hR : ∀ j, R j = r j) : ∃ M L : ℝ, 0 < L ∧ top R = M ∧ ∑ j, Ideal.exp (R j - top R) = L
    ∧ ∀ j, Ideal.exp (R j - top R) = (Real.exp (r j - M) : ℝ) := by
  obtain ⟨M, hM⟩ := exists_max R r hR
  have e : ∀ j, Ideal.exp (R j - top R) = (Real.exp (r j - M) : ℝ) := fun j => by
    rw [show top R = (M : EReal) from hM, hR j, ← EReal.coe_sub, Ideal.exp_coe]
  refine ⟨M, ∑ j, Real.exp (r j - M), ?_, hM, ?_, e⟩
  · exact Finset.sum_pos (fun j _ => Real.exp_pos _) ⟨0, Finset.mem_univ 0⟩
  · simp only [e]; exact coe_sum _ _

/-- The level over the lanes is the reference's. -/
theorem level_eq (hR : ∀ j, R j = r j) (hS : ∀ j, S (pos j) = R j) (off : ∀ i, (∀ j, pos j ≠ i) → S i = ⊥)
    (inj : Function.Injective pos) : level S = lse R := by
  unfold level lse
  rw [mass_eq S R r pos hR hS off inj, peak_eq S R r pos hR hS off]

/-- It is a real. -/
theorem lse_real (hR : ∀ j, R j = r j) : ∃ a : ℝ, lse R = a := by
  obtain ⟨M, L, hL, hM, hs, -⟩ := mass_real R r hR
  refine ⟨M + Real.log L, ?_⟩
  unfold lse
  rw [hs, hM, Ideal.log_coe, if_neg (not_le.mpr hL), EReal.coe_add]

/-- The mean over the lanes is the reference's: each value weighted by the exponential of its score less the level. -/
theorem mean_eq (hR : ∀ j, R j = r j) (hS : ∀ j, S (pos j) = R j) (off : ∀ i, (∀ j, pos j ≠ i) → S i = ⊥)
    (inj : Function.Injective pos) (v : Fin n → EReal) (u : Fin (k + 1) → EReal) (hv : ∀ j, v (pos j) = u j) :
    mean S v = ∑ j, Ideal.exp (R j - lse R) * u j := by
  obtain ⟨M, L, hL, hM, hs, he⟩ := mass_real R r hR
  have hl : lse R = ((M + Real.log L : ℝ) : EReal) := by
    unfold lse; rw [hs, hM, Ideal.log_coe, if_neg (not_le.mpr hL), EReal.coe_add]
  unfold mean
  rw [mass_eq S R r pos hR hS off inj, hs, peak_eq S R r pos hR hS off,
    sum_lanes pos inj _ (fun i hi => by rw [off i hi, hM]; show Ideal.exp ⊥ * _ = 0; rw [Ideal.exp_bot, zero_mul]),
    Ideal.div_coe hL.ne', mul_comm, mul_sum _ _ (by positivity)]
  refine Finset.sum_congr rfl fun j _ => ?_
  rw [hS, hv, he, hl, hR, ← EReal.coe_sub, Ideal.exp_coe, ← mul_assoc, ← EReal.coe_mul]
  congr 2
  rw [show r j - (M + Real.log L) = r j - M - Real.log L by ring, Real.exp_sub (r j - M), Real.exp_log hL]
  ring

/-- Three means mixed by their weights' sums: dividing the mixture by the total of the weights is mixing by the
    divided weights. -/
theorem mix_eq (a b c : EReal) (x y z : ℝ) (ha : a = x) (hb : b = y) (hc : c = z) (o p q : EReal) :
    Ideal.div (Ideal.exp (a - max (max a b) c) * o + Ideal.exp (b - max (max a b) c) * p + Ideal.exp (c - max (max a b) c) * q)
      (Ideal.exp (a - max (max a b) c) + Ideal.exp (b - max (max a b) c) + Ideal.exp (c - max (max a b) c))
    = Ideal.div (Ideal.exp (a - max (max a b) c)) (Ideal.exp (a - max (max a b) c) + Ideal.exp (b - max (max a b) c) + Ideal.exp (c - max (max a b) c)) * o
      + Ideal.div (Ideal.exp (b - max (max a b) c)) (Ideal.exp (a - max (max a b) c) + Ideal.exp (b - max (max a b) c) + Ideal.exp (c - max (max a b) c)) * p
      + Ideal.div (Ideal.exp (c - max (max a b) c)) (Ideal.exp (a - max (max a b) c) + Ideal.exp (b - max (max a b) c) + Ideal.exp (c - max (max a b) c)) * q := by
  subst ha hb hc
  have hm : max (max (x : EReal) y) z = ((max (max x y) z : ℝ) : EReal) := by
    rw [EReal.coe_strictMono.monotone.map_max, EReal.coe_strictMono.monotone.map_max]
  rw [hm]
  simp only [← EReal.coe_sub, Ideal.exp_coe, ← EReal.coe_add]
  have hL : 0 < Real.exp (x - max (max x y) z) + Real.exp (y - max (max x y) z) + Real.exp (z - max (max x y) z) := by positivity
  have hi : (0 : ℝ) ≤ 1 / (Real.exp (x - max (max x y) z) + Real.exp (y - max (max x y) z) + Real.exp (z - max (max x y) z)) := by positivity
  rw [Ideal.div_coe hL.ne', Ideal.div_coe hL.ne', Ideal.div_coe hL.ne', Ideal.div_coe hL.ne', mul_comm,
    EReal.left_distrib_of_nonneg_of_ne_top (by exact_mod_cast hi) (EReal.coe_ne_top _),
    EReal.left_distrib_of_nonneg_of_ne_top (by exact_mod_cast hi) (EReal.coe_ne_top _)]
  simp only [← mul_assoc, mul_comm (1 / _ : EReal), mul_comm ((1 / _ : ℝ) : EReal)]
  rw [mul_right_comm _ o, mul_right_comm _ p, mul_right_comm _ q]

end Cert.Window
-- ==== Proof.DilRef.lean ====
module

public import proofs.«01_k».proof.Proof.Gen.ReferenceIdeal.Run
public import proofs.«01_k».proof.Proof.DilBucket
public import proofs.«01_k».proof.Proof.DilMath
public import Idealize.ShloMosaic.Lib.Pipeline.ValueKit
public import Idealize.ShloMosaic.Lib.StableHlo.RunRead

@[expose] public section
set_option maxRecDepth 16384
noncomputable section
open Idealize.ShloMosaic Idealize.ShloMosaic.TcCoe Idealize.SL.Sem
namespace Cert.ReferenceIdeal.Dil
open Cert.ReferenceIdeal Cert.ReferenceIdeal.Gen Cert.ReferenceIdeal.Value Cert.Window

theorem ofBits_bot : Ideal.ofBits .f32 4286578688#32 = ⊥ := by simp [Ideal.ofBits, Ideal.ieee]
theorem ofBits_sixteen : Ideal.ofBits .f32 1098907648#32 = ((16 : ℝ) : EReal) := by
  simp [Ideal.ofBits, Ideal.ieee]
  norm_num
  rw [← EReal.coe_mul]
  norm_num

/-- The scale of the scores. -/
abbrev sc : EReal := Ideal.ofBits .f32 1035273459#32

theorem take_rows {α : Type} (x : S32x2052x12x128.Idx → α) (idx : IVec S4x129x1 32) (b : Fin 32) (s : Fin 4) (j : Fin 129) (h : Fin 12) (d : Fin 128)
    (r : Fin 2052) (hr : idx (ix3 s j 0) = BitVec.ofNat 32 r.val) :
    Host.gather gather_S32x2052x12x128_S4x129x1_S32x4x129x12x128_034_1_n_n_1_2_32112128 x idx (ix5 b s j h d) = x (ix4 b r h d) := by
  unfold Host.gather
  congr 1
  funext a
  refine Fin.ext ?_
  have hI : ∀ r : Fin 2052, min (BitVec.ofNat 32 r.val).toInt.toNat (2052 - 1) = r.val := by decide +kernel
  match a with
  | ⟨0, _⟩ =>
    show 0 + 0 + b.val = b.val
    omega
  | ⟨1, _⟩ =>
    refine Eq.trans ?_ (hI r)
    rw [← hr]
    show GatherDims.start gather_S32x2052x12x128_S4x129x1_S32x4x129x12x128_034_1_n_n_1_2_32112128 (ix5 b s j h d) idx 1 + GatherDims.batchCoord gather_S32x2052x12x128_S4x129x1_S32x4x129x12x128_034_1_n_n_1_2_32112128 (ix5 b s j h d) 1 + GatherDims.offCoord gather_S32x2052x12x128_S4x129x1_S32x4x129x12x128_034_1_n_n_1_2_32112128 (ix5 b s j h d) 1 = _
    have hsi : GatherDims.siIdx gather_S32x2052x12x128_S4x129x1_S32x4x129x12x128_034_1_n_n_1_2_32112128 (ix5 b s j h d) ⟨List.idxOf (1 : Fin 4) (GatherDims.startIndexMap gather_S32x2052x12x128_S4x129x1_S32x4x129x12x128_034_1_n_n_1_2_32112128),
        List.idxOf_lt_length_iff.2 (List.mem_singleton.mpr rfl)⟩ = ix3 s j 0 := by
      funext e
      refine Fin.ext ?_
      match e with
      | ⟨0, _⟩ => rfl
      | ⟨1, _⟩ => rfl
      | ⟨2, _⟩ => rfl
    unfold GatherDims.start
    rw [dif_pos (show (1 : Fin 4) ∈ GatherDims.startIndexMap gather_S32x2052x12x128_S4x129x1_S32x4x129x12x128_034_1_n_n_1_2_32112128 from List.mem_singleton.mpr rfl), hsi]
    rfl
  | ⟨2, _⟩ =>
    show 0 + 0 + h.val = h.val
    omega
  | ⟨3, _⟩ =>
    show 0 + 0 + d.val = d.val
    omega

theorem take_entry {α : Type} (x : S32x12.Idx → α) (idx : IVec S129x1 32) (j : Fin 129) (h : Fin 12)
    (r : Fin 32) (hr : idx (ix2 j 0) = BitVec.ofNat 32 r.val) :
    Host.gather gather_S32x12_S129x1_S129x12_1_0_n_n_0_1_112 x idx (ix2 j h) = x (ix2 r h) := by
  unfold Host.gather
  congr 1
  funext a
  refine Fin.ext ?_
  have hI : ∀ r : Fin 32, min (BitVec.ofNat 32 r.val).toInt.toNat (32 - 1) = r.val := by decide +kernel
  match a with
  | ⟨0, _⟩ =>
    refine Eq.trans ?_ (hI r)
    rw [← hr]
    show GatherDims.start gather_S32x12_S129x1_S129x12_1_0_n_n_0_1_112 (ix2 j h) idx 0 + GatherDims.batchCoord gather_S32x12_S129x1_S129x12_1_0_n_n_0_1_112 (ix2 j h) 0 + GatherDims.offCoord gather_S32x12_S129x1_S129x12_1_0_n_n_0_1_112 (ix2 j h) 0 = _
    have hsi : GatherDims.siIdx gather_S32x12_S129x1_S129x12_1_0_n_n_0_1_112 (ix2 j h) ⟨List.idxOf (0 : Fin 2) (GatherDims.startIndexMap gather_S32x12_S129x1_S129x12_1_0_n_n_0_1_112),
        List.idxOf_lt_length_iff.2 (List.mem_singleton.mpr rfl)⟩ = ix2 j 0 := by
      funext e
      refine Fin.ext ?_
      match e with
      | ⟨0, _⟩ => rfl
      | ⟨1, _⟩ => rfl
    unfold GatherDims.start
    rw [dif_pos (show (0 : Fin 2) ∈ GatherDims.startIndexMap gather_S32x12_S129x1_S129x12_1_0_n_n_0_1_112 from List.mem_singleton.mpr rfl), hsi]
    rfl
  | ⟨1, _⟩ =>
    show 0 + 0 + h.val = h.val
    omega

/-- The largest entry along the last axis, as a fold over that axis. -/
theorem fold_last (f : S32x12x4x129.Idx → EReal) (b : Fin 32) (h : Fin 12) (s : Fin 4) :
    Finset.fold max ⊥ f {i | reducesTo_S32x12x4x129_S32x12x4_d3.drop i = ix3 b h s}
      = Finset.fold max ⊥ (fun j : Fin (128 + 1) => f (ix4 b h s j)) Finset.univ := by
  show Finset.sup _ _ = Finset.sup _ _
  refine le_antisymm (Finset.sup_le fun i hi => ?_) (Finset.sup_le fun j _ => ?_)
  · have hi := (Finset.mem_filter.mp hi).2
    have h0 := congrArg (fun g => (g (0 : Fin 3)).val) hi
    have h1 := congrArg (fun g => (g (1 : Fin 3)).val) hi
    have h2 := congrArg (fun g => (g (2 : Fin 3)).val) hi
    have e : i = ix4 b h s (⟨(i (3 : Fin 4)).val, (i (3 : Fin 4)).isLt⟩ : Fin (128 + 1)) := by
      funext a
      refine Fin.ext ?_
      match a with
      | ⟨0, _⟩ => exact h0
      | ⟨1, _⟩ => exact h1
      | ⟨2, _⟩ => exact h2
      | ⟨3, _⟩ => rfl
    rw [e]
    exact Finset.le_sup (f := fun j : Fin (128 + 1) => f (ix4 b h s j)) (Finset.mem_univ _)
  · refine Finset.le_sup (f := f) (Finset.mem_filter.mpr ⟨Finset.mem_univ _, ?_⟩)
    funext a
    refine Fin.ext ?_
    match a with
    | ⟨0, _⟩ => rfl
    | ⟨1, _⟩ => rfl
    | ⟨2, _⟩ => rfl

/-- The largest of the three levels. -/
theorem fold_three (f : S3x32x4x12.Idx → EReal) (b : Fin 32) (h : Fin 12) (s : Fin 4) :
    Finset.fold max ⊥ f {i | reducesTo_S3x32x4x12_S32x4x12_d0.drop i = ix3 b s h}
      = max (max (f (ix4 0 b s h)) (f (ix4 1 b s h))) (f (ix4 2 b s h)) := by
  show Finset.sup _ _ = _
  have mem : ∀ k : Fin 3, (ix4 k b s h : S3x32x4x12.Idx) ∈ (Finset.univ.filter fun i => reducesTo_S3x32x4x12_S32x4x12_d0.drop i = ix3 b s h) := fun k => by
    refine Finset.mem_filter.mpr ⟨Finset.mem_univ _, ?_⟩
    funext a
    refine Fin.ext ?_
    match a with
    | ⟨0, _⟩ => rfl
    | ⟨1, _⟩ => rfl
    | ⟨2, _⟩ => rfl
  refine le_antisymm (Finset.sup_le fun i hi => ?_) (max_le (max_le ?_ ?_) ?_)
  · have hi := (Finset.mem_filter.mp hi).2
    have h0 := congrArg (fun g => (g (0 : Fin 3)).val) hi
    have h1 := congrArg (fun g => (g (1 : Fin 3)).val) hi
    have h2 := congrArg (fun g => (g (2 : Fin 3)).val) hi
    have e : i = ix4 (⟨(i (0 : Fin 4)).val, (i (0 : Fin 4)).isLt⟩ : Fin 3) b s h := by
      funext a
      refine Fin.ext ?_
      match a with
      | ⟨0, _⟩ => rfl
      | ⟨1, _⟩ => exact h0
      | ⟨2, _⟩ => exact h1
      | ⟨3, _⟩ => exact h2
    rw [e]
    generalize (⟨(i (0 : Fin 4)).val, (i (0 : Fin 4)).isLt⟩ : Fin 3) = k
    fin_cases k
    · exact le_max_of_le_left (le_max_left _ _)
    · exact le_max_of_le_left (le_max_right _ _)
    · exact le_max_right _ _
  · exact Finset.le_sup (f := f) (mem 0)
  · exact Finset.le_sup (f := f) (mem 1)
  · exact Finset.le_sup (f := f) (mem 2)

theorem nonneg_word : ∀ k : Fin 32, IntOp.cmpi CmpIPredicate.slt (BitVec.ofNat 32 k.val) 0#32 = 0#1 := by decide +kernel

variable (V0 : Valuation τ sig (Elt Ideal))

/-- The rows that a query sees: the cache, then the new ones. -/
abbrev keyRows : S32x2052x12x128.Idx → EReal := res_main_v8 V0
abbrev valRows : S32x2052x12x128.Idx → EReal := res_main_v9 V0
abbrev queries : S32x4x12x128.Idx → EReal := res_main_v2 V0
abbrev biases : S32x12.Idx → EReal := res_main_v7 V0

/-! ### The window at distances j.val -/

theorem reach_one : ∀ (s : Fin 4) (j : Fin (128 + 1)), lit0 (S4x129.rowMajor (ix2 s j)) = BitVec.ofNat 32 (2048 + s.val - j.val) := by decide +kernel

theorem dist_one : ∀ j : Fin (128 + 1), IntOp.maxsi (lit1 (S129.rowMajor (ix1 j))) 0#32 = BitVec.ofNat 32 (j.val)
    ∧ IntOp.maxsi (BitVec.ofNat 32 (j.val)) 1#32 = BitVec.ofNat 32 (max (j.val) 1) := by decide +kernel

theorem bucket_one (j : Fin (128 + 1)) : res_main_v42 V0 (ix1 j) = BitVec.ofNat 32 (bucket (j.val)) := by
  have hd : res_main_v24 V0 (ix1 j) = BitVec.ofNat 32 (j.val) := by
    pointwise [res_main_v24]
    exact (dist_one j).1
  show (show S129.Idx → BitVec 32 from res_main_v42 V0) (ix1 j) = _
  pointwise [res_main_v42]
  rw [hd, (dist_one j).2, ofBits_sixteen, doublings_bits]
  exact bucket_word (j.val) (by omega)

/-- The scores of the window. -/
abbrev scores_one (b : Fin 32) (h : Fin 12) (s : Fin 4) : Fin (128 + 1) → EReal := fun j =>
  (∑ x, queries V0 (ix4 b s h x) * keyRows V0 (ix4 b ⟨2048 + s.val - j.val, by omega⟩ h x)) * sc
    + biases V0 (ix2 ⟨bucket (j.val), bucket_lt ⟨j.val, by omega⟩⟩ h)

theorem scores_one_eq (b : Fin 32) (h : Fin 12) (s : Fin 4) (j : Fin (128 + 1)) :
    (res_main_v54 V0 : S32x12x4x129.Idx → EReal) (ix4 b h s j) = scores_one V0 b h s j := by
  pointwise [res_main_v54]
  refine congrArg₂ (fun y z : EReal => y + z) (congrArg (fun y : EReal => y * sc)
    (Finset.sum_congr rfl fun x _ => congrArg (fun y : EReal => queries V0 (ix4 b s h x) * y) ?_)) ?_
  · refine take_rows _ _ b s j h x ⟨2048 + s.val - j.val, by omega⟩ ?_
    pointwise [res_main_c]
    exact reach_one s j
  · refine take_entry _ _ j h ⟨bucket (j.val), bucket_lt ⟨j.val, by omega⟩⟩ ?_
    pointwise
    rw [bucket_one, nonneg_word ⟨bucket (j.val), bucket_lt ⟨j.val, by omega⟩⟩]
    rfl

theorem peak_one (b : Fin 32) (h : Fin 12) (s : Fin 4) : (res_main_v56 V0 : S32x12x4x1.Idx → EReal) (ix4 b h s 0) = top (scores_one V0 b h s) := by
  pointwise [res_main_v56]
  rw [ofBits_bot]
  refine (fold_last _ b h s).trans ?_
  simp only [scores_one_eq]

theorem lse_one (b : Fin 32) (h : Fin 12) (s : Fin 4) : (res_main_v64 V0 : S32x12x4.Idx → EReal) (ix3 b h s) = lse (scores_one V0 b h s) := by
  pointwise [res_main_v64]
  simp only [peak_one, scores_one_eq]

/-! ### The window at distances 4 * j.val -/

theorem reach_four : ∀ (s : Fin 4) (j : Fin (128 + 1)), lit2 (S4x129.rowMajor (ix2 s j)) = BitVec.ofNat 32 (2048 + s.val - 4 * j.val) := by decide +kernel

theorem dist_four : ∀ j : Fin (128 + 1), IntOp.maxsi (lit3 (S129.rowMajor (ix1 j))) 0#32 = BitVec.ofNat 32 (4 * j.val)
    ∧ IntOp.maxsi (BitVec.ofNat 32 (4 * j.val)) 1#32 = BitVec.ofNat 32 (max (4 * j.val) 1) := by decide +kernel

theorem bucket_four (j : Fin (128 + 1)) : res_main_v103 V0 (ix1 j) = BitVec.ofNat 32 (bucket (4 * j.val)) := by
  have hd : res_main_v85 V0 (ix1 j) = BitVec.ofNat 32 (4 * j.val) := by
    pointwise [res_main_v85]
    exact (dist_four j).1
  show (show S129.Idx → BitVec 32 from res_main_v103 V0) (ix1 j) = _
  pointwise [res_main_v103]
  rw [hd, (dist_four j).2, ofBits_sixteen, doublings_bits]
  exact bucket_word (4 * j.val) (by omega)

/-- The scores of the window. -/
abbrev scores_four (b : Fin 32) (h : Fin 12) (s : Fin 4) : Fin (128 + 1) → EReal := fun j =>
  (∑ x, queries V0 (ix4 b s h x) * keyRows V0 (ix4 b ⟨2048 + s.val - 4 * j.val, by omega⟩ h x)) * sc
    + biases V0 (ix2 ⟨bucket (4 * j.val), bucket_lt ⟨4 * j.val, by omega⟩⟩ h)

theorem scores_four_eq (b : Fin 32) (h : Fin 12) (s : Fin 4) (j : Fin (128 + 1)) :
    (res_main_v115 V0 : S32x12x4x129.Idx → EReal) (ix4 b h s j) = scores_four V0 b h s j := by
  pointwise [res_main_v115]
  refine congrArg₂ (fun y z : EReal => y + z) (congrArg (fun y : EReal => y * sc)
    (Finset.sum_congr rfl fun x _ => congrArg (fun y : EReal => queries V0 (ix4 b s h x) * y) ?_)) ?_
  · refine take_rows _ _ b s j h x ⟨2048 + s.val - 4 * j.val, by omega⟩ ?_
    pointwise [res_main_c_3]
    exact reach_four s j
  · refine take_entry _ _ j h ⟨bucket (4 * j.val), bucket_lt ⟨4 * j.val, by omega⟩⟩ ?_
    pointwise
    rw [bucket_four, nonneg_word ⟨bucket (4 * j.val), bucket_lt ⟨4 * j.val, by omega⟩⟩]
    rfl

theorem peak_four (b : Fin 32) (h : Fin 12) (s : Fin 4) : (res_main_v117 V0 : S32x12x4x1.Idx → EReal) (ix4 b h s 0) = top (scores_four V0 b h s) := by
  pointwise [res_main_v117]
  rw [ofBits_bot]
  refine (fold_last _ b h s).trans ?_
  simp only [scores_four_eq]

theorem lse_four (b : Fin 32) (h : Fin 12) (s : Fin 4) : (res_main_v125 V0 : S32x12x4.Idx → EReal) (ix3 b h s) = lse (scores_four V0 b h s) := by
  pointwise [res_main_v125]
  simp only [peak_four, scores_four_eq]

/-! ### The window at distances 16 * j.val -/

theorem reach_far : ∀ (s : Fin 4) (j : Fin (128 + 1)), lit4 (S4x129.rowMajor (ix2 s j)) = BitVec.ofNat 32 (2048 + s.val - 16 * j.val) := by decide +kernel

theorem dist_far : ∀ j : Fin (128 + 1), IntOp.maxsi (lit5 (S129.rowMajor (ix1 j))) 0#32 = BitVec.ofNat 32 (16 * j.val)
    ∧ IntOp.maxsi (BitVec.ofNat 32 (16 * j.val)) 1#32 = BitVec.ofNat 32 (max (16 * j.val) 1) := by decide +kernel

theorem bucket_far (j : Fin (128 + 1)) : res_main_v164 V0 (ix1 j) = BitVec.ofNat 32 (bucket (16 * j.val)) := by
  have hd : res_main_v146 V0 (ix1 j) = BitVec.ofNat 32 (16 * j.val) := by
    pointwise [res_main_v146]
    exact (dist_far j).1
  show (show S129.Idx → BitVec 32 from res_main_v164 V0) (ix1 j) = _
  pointwise [res_main_v164]
  rw [hd, (dist_far j).2, ofBits_sixteen, doublings_bits]
  exact bucket_word (16 * j.val) (by omega)

/-- The scores of the window. -/
abbrev scores_far (b : Fin 32) (h : Fin 12) (s : Fin 4) : Fin (128 + 1) → EReal := fun j =>
  (∑ x, queries V0 (ix4 b s h x) * keyRows V0 (ix4 b ⟨2048 + s.val - 16 * j.val, by omega⟩ h x)) * sc
    + biases V0 (ix2 ⟨bucket (16 * j.val), bucket_lt ⟨16 * j.val, by omega⟩⟩ h)

theorem scores_far_eq (b : Fin 32) (h : Fin 12) (s : Fin 4) (j : Fin (128 + 1)) :
    (res_main_v176 V0 : S32x12x4x129.Idx → EReal) (ix4 b h s j) = scores_far V0 b h s j := by
  pointwise [res_main_v176]
  refine congrArg₂ (fun y z : EReal => y + z) (congrArg (fun y : EReal => y * sc)
    (Finset.sum_congr rfl fun x _ => congrArg (fun y : EReal => queries V0 (ix4 b s h x) * y) ?_)) ?_
  · refine take_rows _ _ b s j h x ⟨2048 + s.val - 16 * j.val, by omega⟩ ?_
    pointwise [res_main_c_7]
    exact reach_far s j
  · refine take_entry _ _ j h ⟨bucket (16 * j.val), bucket_lt ⟨16 * j.val, by omega⟩⟩ ?_
    pointwise
    rw [bucket_far, nonneg_word ⟨bucket (16 * j.val), bucket_lt ⟨16 * j.val, by omega⟩⟩]
    rfl

theorem peak_far (b : Fin 32) (h : Fin 12) (s : Fin 4) : (res_main_v178 V0 : S32x12x4x1.Idx → EReal) (ix4 b h s 0) = top (scores_far V0 b h s) := by
  pointwise [res_main_v178]
  rw [ofBits_bot]
  refine (fold_last _ b h s).trans ?_
  simp only [scores_far_eq]

theorem lse_far (b : Fin 32) (h : Fin 12) (s : Fin 4) : (res_main_v186 V0 : S32x12x4.Idx → EReal) (ix3 b h s) = lse (scores_far V0 b h s) := by
  pointwise [res_main_v186]
  simp only [peak_far, scores_far_eq]

end Cert.ReferenceIdeal.Dil
-- ==== Proof.DilKernel.lean ====
module

public import proofs.«01_k».proof.Proof.Gen.KernelIdeal.Value
public import proofs.«01_k».proof.Proof.DilMath
public import Idealize.ShloMosaic.Lib.Pipeline.ValueKit
public import Idealize.ShloMosaic.Lib.Pipeline.ReadBack
public import Idealize.ShloMosaic.Lib.WholeRead
public import Idealize.ShloMosaic.Lib.StableHlo.RunRead

@[expose] public section

set_option maxRecDepth 16384

noncomputable section

open Idealize.ShloMosaic Idealize.ShloMosaic.TcCoe Idealize.SL.Sem

/-! # One block of the dilated sample attention, read at a query row and a lane

The block's output is the mixture of three window means. Here it is written with the sums over the three windows' 129
scores, for any stacks of keys, values and biases that hold the windows in their lanes. -/

namespace Cert.KernelIdeal.Dil

open Cert.KernelIdeal Cert.KernelIdeal.Gen Cert.Window

theorem ofBits_bot : Ideal.ofBits .f32 4286578688#32 = ⊥ := by simp [Ideal.ofBits, Ideal.ieee]

/-- The scale of the scores. -/
abbrev sc : EReal := Ideal.ofBits .f32 1035273459#32

theorem sc_real : ∃ r : ℝ, sc = r := by
  unfold sc
  simp [Ideal.ofBits, Ideal.ieee]
  exact ⟨_, rfl⟩

section Rows

variable (q : Vec Ideal S8x128 .f32) (s : Fin 8) (d : Fin 128)

/-- The row of scores against a stack of keys. -/
abbrev row {n : ℕ} (b : (⟨3, ![1, 8, n]⟩ : Shape).Idx → EReal) (k : (⟨2, ![n, 128]⟩ : Shape).Idx → EReal) : Fin n → EReal :=
  fun i => (∑ x, q (ix2 s x) * k (ix2 i x)) * sc + b (ix3 0 s i)

section One
variable (b : Vec Ideal S1x8x256 .f32) (k v : Vec Ideal S256x128 .f32)

theorem scores_one (i : Fin 256) : k0_pay18 b q k (ix2 s i) = row q s b k i := by pointwise [k0_pay18]
theorem peak_one : k0_pay19 b q k (ix2 s 0) = peak (row q s b k) := by
  pointwise [k0_pay19]
  simp only [scores_one, ofBits_bot]
theorem mass_one : k0_pay21 b q k (ix2 s 0) = mass (row q s b k) := by
  pointwise [k0_pay21, k0_pay20]
  simp only [scores_one, peak_one, ofBits_bot]
theorem mean_one : k0_pay22 b q k v (ix2 s d) = mean (row q s b k) (fun i => v (ix2 i d)) := by
  pointwise [k0_pay22, k0_pay20]
  simp only [scores_one, peak_one, mass_one]
theorem level_one : k0_pay23 (k0_pay19 b q k) (k0_pay21 b q k) (ix2 s 0) = level (row q s b k) := by
  pointwise [k0_pay23]
  simp only [peak_one, mass_one]
end One

section Four
variable (b : Vec Ideal S1x8x640 .f32) (k v : Vec Ideal S640x128 .f32)

theorem scores_four (i : Fin 640) : k0_pay32 b q k (ix2 s i) = row q s b k i := by pointwise [k0_pay32]
theorem peak_four : k0_pay33 b q k (ix2 s 0) = peak (row q s b k) := by
  pointwise [k0_pay33]
  simp only [scores_four, ofBits_bot]
theorem mass_four : k0_pay35 b q k (ix2 s 0) = mass (row q s b k) := by
  pointwise [k0_pay35, k0_pay34]
  simp only [scores_four, peak_four, ofBits_bot]
theorem mean_four : k0_pay36 b q k v (ix2 s d) = mean (row q s b k) (fun i => v (ix2 i d)) := by
  pointwise [k0_pay36, k0_pay34]
  simp only [scores_four, peak_four, mass_four]
theorem level_four : k0_pay37 b q k (ix2 s 0) = level (row q s b k) := by
  pointwise [k0_pay37]
  simp only [peak_four, mass_four]

theorem scores_far (i : Fin 640) : k0_pay46 b q k (ix2 s i) = row q s b k i := by pointwise [k0_pay46]
theorem peak_far : k0_pay47 b q k (ix2 s 0) = peak (row q s b k) := by
  pointwise [k0_pay47]
  simp only [scores_far, ofBits_bot]
theorem mass_far : k0_pay49 b q k (ix2 s 0) + k0_pay50 b q k (ix2 s 0) = mass (row q s b k) := by
  pointwise [k0_pay49, k0_pay48, k0_pay50]
  simp only [scores_far, peak_far, ofBits_bot]
theorem weight_far (i : Fin 640) : k0_pay48 b q k (ix2 s i) = Ideal.exp (row q s b k i - peak (row q s b k)) := by
  pointwise [k0_pay48]
  simp only [scores_far, peak_far]
end Four

end Rows

/-! ## The lanes of the windows -/

/-- The lane of window entry `j` in the window of neighbours. -/
def posOne (s : Fin 4) (j : Fin (128 + 1)) : Fin 256 := ⟨128 + s.val - j.val, by omega⟩
/-- … in the window at distances 4 j … -/
def posFour (s : Fin 4) (j : Fin (128 + 1)) : Fin 640 := ⟨512 + s.val - 4 * j.val, by omega⟩
/-- … and in the window at distances 16 j, whose lanes are grouped by query row. -/
def posFar (s : Fin 4) (j : Fin (128 + 1)) : Fin 640 := ⟨if j.val = 0 then 512 + s.val else 128 * s.val + (128 - j.val), by split <;> omega⟩

theorem posOne_inj (s : Fin 4) : Function.Injective (posOne s) := fun a b h => by
  have h := congrArg Fin.val h; simp only [posOne] at h; omega
theorem posFour_inj (s : Fin 4) : Function.Injective (posFour s) := fun a b h => by
  have h := congrArg Fin.val h; simp only [posFour] at h; omega
theorem posFar_inj (s : Fin 4) : Function.Injective (posFar s) := fun a b h => by
  have h := congrArg Fin.val h; simp only [posFar] at h; split at h <;> split at h <;> omega

/-- The scores of a window. -/
abbrev window (Q : Fin 128 → EReal) (K : Fin (128 + 1) → Fin 128 → EReal) (B : Fin (128 + 1) → EReal) : Fin (128 + 1) → EReal :=
  fun j => (∑ x, Q x * K j x) * sc + B j

/-- Over real entries the scores are real. -/
theorem window_real (Q : Fin 128 → EReal) (K : Fin (128 + 1) → Fin 128 → EReal) (B : Fin (128 + 1) → EReal)
    (hQ : ∀ x, ∃ r : ℝ, Q x = r) (hK : ∀ j x, ∃ r : ℝ, K j x = r) (hB : ∀ j, ∃ r : ℝ, B j = r) :
    ∃ r : Fin (128 + 1) → ℝ, ∀ j, window Q K B j = r j := by
  choose q hq using hQ
  choose k hk using hK
  choose b hb using hB
  obtain ⟨c, hc⟩ := sc_real
  refine ⟨fun j => (∑ x, q x * k j x) * c + b j, fun j => ?_⟩
  simp only [window, hq, hk, hb, hc, ← EReal.coe_mul, coe_sum, ← EReal.coe_add]

/-- The weighted mean of a window's values, by the exponentials of the scores less their level. -/
abbrev held (R V : Fin (128 + 1) → EReal) : EReal := ∑ j, Ideal.exp (R j - lse R) * V j

/-- Three means, each weighted by its share of the three windows' weight. -/
abbrev mixed (a b c o p q : EReal) : EReal :=
  Ideal.div (Ideal.exp (a - max (max a b) c)) (Ideal.exp (a - max (max a b) c) + Ideal.exp (b - max (max a b) c) + Ideal.exp (c - max (max a b) c)) * o
    + Ideal.div (Ideal.exp (b - max (max a b) c)) (Ideal.exp (a - max (max a b) c) + Ideal.exp (b - max (max a b) c) + Ideal.exp (c - max (max a b) c)) * p
    + Ideal.div (Ideal.exp (c - max (max a b) c)) (Ideal.exp (a - max (max a b) c) + Ideal.exp (b - max (max a b) c) + Ideal.exp (c - max (max a b) c)) * q

/-- THE BLOCK AT A QUERY ROW AND A LANE. -/
theorem block_eq (q : Vec Ideal S8x128 .f32) (b1 : Vec Ideal S1x8x256 .f32) (k1 v1 : Vec Ideal S256x128 .f32)
    (b4 b16 : Vec Ideal S1x8x640 .f32) (k4 v4 k16 v16 : Vec Ideal S640x128 .f32) (s : Fin 4) (d : Fin 128)
    (Q : Fin 128 → EReal) (K1 K4 K16 : Fin (128 + 1) → Fin 128 → EReal) (B1 B4 B16 V1 V4 V16 : Fin (128 + 1) → EReal)
    (hQ : ∀ x, ∃ r : ℝ, Q x = r)
    (hK1 : ∀ j x, ∃ r : ℝ, K1 j x = r) (hK4 : ∀ j x, ∃ r : ℝ, K4 j x = r) (hK16 : ∀ j x, ∃ r : ℝ, K16 j x = r)
    (hB1 : ∀ j, ∃ r : ℝ, B1 j = r) (hB4 : ∀ j, ∃ r : ℝ, B4 j = r) (hB16 : ∀ j, ∃ r : ℝ, B16 j = r)
    (hq : ∀ x, q (ix2 (s.castLE (by decide)) x) = Q x)
    (hk1 : ∀ j x, k1 (ix2 (posOne s j) x) = K1 j x) (hk4 : ∀ j x, k4 (ix2 (posFour s j) x) = K4 j x)
    (hk16 : ∀ j x, k16 (ix2 (posFar s j) x) = K16 j x)
    (hb1 : ∀ j, b1 (ix3 0 (s.castLE (by decide)) (posOne s j)) = B1 j) (hb4 : ∀ j, b4 (ix3 0 (s.castLE (by decide)) (posFour s j)) = B4 j)
    (hb16 : ∀ j, b16 (ix3 0 (s.castLE (by decide)) (posFar s j)) = B16 j)
    (o1 : ∀ i, (∀ j, posOne s j ≠ i) → b1 (ix3 0 (s.castLE (by decide)) i) = ⊥)
    (o4 : ∀ i, (∀ j, posFour s j ≠ i) → b4 (ix3 0 (s.castLE (by decide)) i) = ⊥)
    (o16 : ∀ i, (∀ j, posFar s j ≠ i) → b16 (ix3 0 (s.castLE (by decide)) i) = ⊥)
    (hv1 : ∀ j, v1 (ix2 (posOne s j) d) = V1 j) (hv4 : ∀ j, v4 (ix2 (posFour s j) d) = V4 j) (hv16 : ∀ j, v16 (ix2 (posFar s j) d) = V16 j) :
    k0_pay1 (k0_pay22 b1 q k1 v1) (k0_pay23 (k0_pay19 b1 q k1) (k0_pay21 b1 q k1)) (k0_pay36 b4 q k4 v4) (k0_pay37 b4 q k4)
        (k0_pay47 b16 q k16) (k0_pay48 b16 q k16) (k0_pay49 b16 q k16) (k0_pay50 b16 q k16) v16 (ix3 0 s d)
      = mixed (lse (window Q K1 B1)) (lse (window Q K4 B4)) (lse (window Q K16 B16))
          (held (window Q K1 B1) V1) (held (window Q K4 B4) V4) (held (window Q K16 B16) V16) := by
  obtain ⟨r1, hr1⟩ := window_real Q K1 B1 hQ hK1 hB1
  obtain ⟨r4, hr4⟩ := window_real Q K4 B4 hQ hK4 hB4
  obtain ⟨r16, hr16⟩ := window_real Q K16 B16 hQ hK16 hB16
  obtain ⟨x, hx⟩ := lse_real _ r1 hr1
  obtain ⟨y, hy⟩ := lse_real _ r4 hr4
  obtain ⟨z, hz⟩ := lse_real _ r16 hr16
  have on1 : ∀ j, row q (s.castLE (by decide)) b1 k1 (posOne s j) = window Q K1 B1 j := fun j => by simp only [row, window, hq, hk1, hb1]
  have on4 : ∀ j, row q (s.castLE (by decide)) b4 k4 (posFour s j) = window Q K4 B4 j := fun j => by simp only [row, window, hq, hk4, hb4]
  have on16 : ∀ j, row q (s.castLE (by decide)) b16 k16 (posFar s j) = window Q K16 B16 j := fun j => by simp only [row, window, hq, hk16, hb16]
  have off1 : ∀ i, (∀ j, posOne s j ≠ i) → row q (s.castLE (by decide)) b1 k1 i = ⊥ := fun i hi => by simp only [row, o1 i hi, EReal.add_bot]
  have off4 : ∀ i, (∀ j, posFour s j ≠ i) → row q (s.castLE (by decide)) b4 k4 i = ⊥ := fun i hi => by simp only [row, o4 i hi, EReal.add_bot]
  have off16 : ∀ i, (∀ j, posFar s j ≠ i) → row q (s.castLE (by decide)) b16 k16 i = ⊥ := fun i hi => by simp only [row, o16 i hi, EReal.add_bot]
  have l1 := level_eq _ _ r1 _ hr1 on1 off1 (posOne_inj s)
  have l4 := level_eq _ _ r4 _ hr4 on4 off4 (posFour_inj s)
  have l16 := level_eq _ _ r16 _ hr16 on16 off16 (posFar_inj s)
  have m1 := mean_eq _ _ r1 _ hr1 on1 off1 (posOne_inj s) (fun i => v1 (ix2 i d)) V1 hv1
  have m4 := mean_eq _ _ r4 _ hr4 on4 off4 (posFour_inj s) (fun i => v4 (ix2 i d)) V4 hv4
  have m16 := mean_eq _ _ r16 _ hr16 on16 off16 (posFar_inj s) (fun i => v16 (ix2 i d)) V16 hv16
  refine Eq.trans ?_ (mix_eq _ _ _ x y z hx hy hz _ _ _)
  rw [← l1, ← l4, ← l16]
  show _ = Ideal.div (_ * held (window Q K1 B1) V1 + _ * held (window Q K4 B4) V4 + _ * held (window Q K16 B16) V16) _
  rw [show held (window Q K1 B1) V1 = _ from m1.symm, show held (window Q K4 B4) V4 = _ from m4.symm, show held (window Q K16 B16) V16 = _ from m16.symm]
  pointwise [k0_pay1]
  simp only [Fin.castLE] at *
  simp only [mean_one, level_one, mean_four, level_four, peak_far, weight_far, mass_far]

end Cert.KernelIdeal.Dil
-- ==== Proof.DilMix.lean ====
module

public import proofs.«01_k».proof.Proof.DilRef
public import proofs.«01_k».proof.Proof.DilKernel

@[expose] public section

set_option maxRecDepth 16384

noncomputable section

open Idealize.ShloMosaic Idealize.ShloMosaic.TcCoe Idealize.SL.Sem

/-! # The reference's mixture of the three windows -/

namespace Cert.ReferenceIdeal.Dil

open Cert.ReferenceIdeal Cert.ReferenceIdeal.Gen Cert.ReferenceIdeal.Value Cert.Window
open Cert.KernelIdeal.Dil (held mixed)

variable (V0 : Valuation τ sig (Elt Ideal))

/-- A window's mean. -/
def held_one : FVec Ideal S32x4x12x128 .f32 :=
  Host.dotGeneral (φ₁ := .f32) (φ₂ := .f32) dot_S32x12x4x129_S32x4x129x12x128_S32x4x12x128_3_2_n_4_021_013 none (Host.exp (subf (res_main_v54 V0) (broadcastInDim S32x12x4x129 ![0, 1, 2, 3] bcast_S32x12x4x1_S32x12x4x129_0_1_2_3 (broadcastInDim S32x12x4x1 ![0, 1, 2] bcast_S32x12x4_S32x12x4x1_0_1_2 (res_main_v64 V0))))) (Host.gather gather_S32x2052x12x128_S4x129x1_S32x4x129x12x128_034_1_n_n_1_2_32112128 (res_main_v9 V0) (broadcastInDim S4x129x1 ![0, 1] bcast_S4x129_S4x129x1_0_1 (select (constantI S4x129 1 0#1) (addi (res_main_c V0) (broadcastInDim S4x129 ![] bcast_S_S4x129 (constantI S_ 32 2052#32))) (res_main_c V0))))

/-- A window's mean. -/
def held_four : FVec Ideal S32x4x12x128 .f32 :=
  Host.dotGeneral (φ₁ := .f32) (φ₂ := .f32) dot_S32x12x4x129_S32x4x129x12x128_S32x4x12x128_3_2_n_4_021_013 none (Host.exp (subf (res_main_v115 V0) (broadcastInDim S32x12x4x129 ![0, 1, 2, 3] bcast_S32x12x4x1_S32x12x4x129_0_1_2_3 (broadcastInDim S32x12x4x1 ![0, 1, 2] bcast_S32x12x4_S32x12x4x1_0_1_2 (res_main_v125 V0))))) (Host.gather gather_S32x2052x12x128_S4x129x1_S32x4x129x12x128_034_1_n_n_1_2_32112128 (res_main_v9 V0) (broadcastInDim S4x129x1 ![0, 1] bcast_S4x129_S4x129x1_0_1 (select (constantI S4x129 1 0#1) (addi (res_main_c_3 V0) (broadcastInDim S4x129 ![] bcast_S_S4x129 (constantI S_ 32 2052#32))) (res_main_c_3 V0))))

/-- A window's mean. -/
def held_far : FVec Ideal S32x4x12x128 .f32 :=
  Host.dotGeneral (φ₁ := .f32) (φ₂ := .f32) dot_S32x12x4x129_S32x4x129x12x128_S32x4x12x128_3_2_n_4_021_013 none (Host.exp (subf (res_main_v176 V0) (broadcastInDim S32x12x4x129 ![0, 1, 2, 3] bcast_S32x12x4x1_S32x12x4x129_0_1_2_3 (broadcastInDim S32x12x4x1 ![0, 1, 2] bcast_S32x12x4_S32x12x4x1_0_1_2 (res_main_v186 V0))))) (Host.gather gather_S32x2052x12x128_S4x129x1_S32x4x129x12x128_034_1_n_n_1_2_32112128 (res_main_v9 V0) (broadcastInDim S4x129x1 ![0, 1] bcast_S4x129_S4x129x1_0_1 (select (constantI S4x129 1 0#1) (addi (res_main_c_7 V0) (broadcastInDim S4x129 ![] bcast_S_S4x129 (constantI S_ 32 2052#32))) (res_main_c_7 V0))))

/-- The windows' shares of the weight. -/
def shares : FVec Ideal S3x32x4x12 .f32 :=
  Host.divf (res_main_v203 V0) (broadcastInDim S3x32x4x12 ![0, 1, 2, 3] bcast_S1x32x4x12_S3x32x4x12_0_1_2_3 (broadcastInDim S1x32x4x12 ![1, 2, 3] bcast_S32x4x12_S1x32x4x12_1_2_3 (Host.reduceAdd (res_main_v203 V0) (constant S_ .f32 0x00000000#32) reducesTo_S3x32x4x12_S32x4x12_d0 h_S_)))

/-- The mixture. -/
def mixture : FVec Ideal S32x4x12x128 .f32 :=
  Host.reduceAdd (mulf (broadcastInDim S3x32x4x12x128 ![0, 1, 2, 3, 4] bcast_S3x32x4x12x1_S3x32x4x12x128_0_1_2_3_4 (broadcastInDim S3x32x4x12x1 ![0, 1, 2, 3] bcast_S3x32x4x12_S3x32x4x12x1_0_1_2_3 (shares V0))) ((concatenate S3x32x4x12x128 0 [⟨S1x32x4x12x128, ((broadcastInDim S1x32x4x12x128 ![1, 2, 3, 4] bcast_S32x4x12x128_S1x32x4x12x128_1_2_3_4 (held_one V0)) : (⟨S1x32x4x12x128, .f32⟩ : BufTy).Contents (Elt Ideal))⟩, ⟨S1x32x4x12x128, ((broadcastInDim S1x32x4x12x128 ![1, 2, 3, 4] bcast_S32x4x12x128_S1x32x4x12x128_1_2_3_4 (held_four V0)) : (⟨S1x32x4x12x128, .f32⟩ : BufTy).Contents (Elt Ideal))⟩, ⟨S1x32x4x12x128, ((broadcastInDim S1x32x4x12x128 ![1, 2, 3, 4] bcast_S32x4x12x128_S1x32x4x12x128_1_2_3_4 (held_far V0)) : (⟨S1x32x4x12x128, .f32⟩ : BufTy).Contents (Elt Ideal))⟩] concatenates_S1x32x4x12x128_S1x32x4x12x128_S1x32x4x12x128_S3x32x4x12x128_d0 : (⟨S3x32x4x12x128, .f32⟩ : BufTy).Contents (Elt Ideal)))) (constant S_ .f32 0x00000000#32) reducesTo_S3x32x4x12x128_S32x4x12x128_d0 h_S_

/-- Its heads side by side. -/
def merged : FVec Ideal S32x4x1536 .f32 :=
  shapeCast _ (mixture V0) shapeCasts_S32x4x12x128_S32x4x1536

theorem held_one_eq (b : Fin 32) (h : Fin 12) (s : Fin 4) (d : Fin 128) :
    held_one V0 (ix4 b s h d) = held (scores_one V0 b h s) (fun j => valRows V0 (ix4 b ⟨2048 + s.val - j.val, by omega⟩ h d)) := by
  pointwise [held_one]
  simp only [scores_one_eq, lse_one]
  refine Finset.sum_congr rfl fun j _ => congrArg (fun y : EReal => Ideal.exp (scores_one V0 b h s j - lse (scores_one V0 b h s)) * y) ?_
  refine take_rows _ _ b s j h d ⟨2048 + s.val - j.val, by omega⟩ ?_
  pointwise [res_main_c]
  exact reach_one s j

theorem held_four_eq (b : Fin 32) (h : Fin 12) (s : Fin 4) (d : Fin 128) :
    held_four V0 (ix4 b s h d) = held (scores_four V0 b h s) (fun j => valRows V0 (ix4 b ⟨2048 + s.val - 4 * j.val, by omega⟩ h d)) := by
  pointwise [held_four]
  simp only [scores_four_eq, lse_four]
  refine Finset.sum_congr rfl fun j _ => congrArg (fun y : EReal => Ideal.exp (scores_four V0 b h s j - lse (scores_four V0 b h s)) * y) ?_
  refine take_rows _ _ b s j h d ⟨2048 + s.val - 4 * j.val, by omega⟩ ?_
  pointwise [res_main_c_3]
  exact reach_four s j

theorem held_far_eq (b : Fin 32) (h : Fin 12) (s : Fin 4) (d : Fin 128) :
    held_far V0 (ix4 b s h d) = held (scores_far V0 b h s) (fun j => valRows V0 (ix4 b ⟨2048 + s.val - 16 * j.val, by omega⟩ h d)) := by
  pointwise [held_far]
  simp only [scores_far_eq, lse_far]
  refine Finset.sum_congr rfl fun j _ => congrArg (fun y : EReal => Ideal.exp (scores_far V0 b h s j - lse (scores_far V0 b h s)) * y) ?_
  refine take_rows _ _ b s j h d ⟨2048 + s.val - 16 * j.val, by omega⟩ ?_
  pointwise [res_main_c_7]
  exact reach_far s j

abbrev levels : S3x32x4x12.Idx → EReal := res_main_v196 V0
abbrev weights : S3x32x4x12.Idx → EReal := res_main_v203 V0

theorem levels_eq (b : Fin 32) (h : Fin 12) (s : Fin 4) : levels V0 (ix4 0 b s h) = lse (scores_one V0 b h s)
    ∧ levels V0 (ix4 1 b s h) = lse (scores_four V0 b h s)
    ∧ levels V0 (ix4 2 b s h) = lse (scores_far V0 b h s) := by
  refine ⟨?_, ?_, ?_⟩
  · pointwise [levels, res_main_v196]
    exact lse_one V0 b h s
  · pointwise [levels, res_main_v196]
    exact lse_four V0 b h s
  · pointwise [levels, res_main_v196]
    exact lse_far V0 b h s

theorem weights_eq (b : Fin 32) (h : Fin 12) (s : Fin 4) (k : Fin 3) : weights V0 (ix4 k b s h)
    = Ideal.exp (levels V0 (ix4 k b s h) - max (max (lse (scores_one V0 b h s)) (lse (scores_four V0 b h s))) (lse (scores_far V0 b h s))) := by
  pointwise [weights, res_main_v203]
  rw [ofBits_bot, max_eq_right bot_le]
  refine congrArg (fun y : EReal => Ideal.exp (levels V0 (ix4 k b s h) - y)) ((fold_three (levels V0) b h s).trans ?_)
  rw [(levels_eq V0 b h s).1, (levels_eq V0 b h s).2.1, (levels_eq V0 b h s).2.2]

theorem mixture_eq (b : Fin 32) (h : Fin 12) (s : Fin 4) (d : Fin 128) : mixture V0 (ix4 b s h d)
    = mixed (lse (scores_one V0 b h s)) (lse (scores_four V0 b h s)) (lse (scores_far V0 b h s))
        (held_one V0 (ix4 b s h d)) (held_four V0 (ix4 b s h d)) (held_far V0 (ix4 b s h d)) := by
  pointwise [mixture, shares]
  simp only [Fin.sum_univ_three, weights_eq, (levels_eq V0 b h s).1, (levels_eq V0 b h s).2.1, (levels_eq V0 b h s).2.2]
  rfl

end Cert.ReferenceIdeal.Dil
-- ==== Proof.DilStack.lean ====
module

public import proofs.«01_k».proof.Proof.DilKernel

@[expose] public section

set_option maxRecDepth 16384

noncomputable section

open Idealize.ShloMosaic Idealize.ShloMosaic.TcCoe Idealize.SL.Sem

/-! # The stacks of keys and values that a block lays out

The kernel copies the rows that a window needs one after another into a scratch buffer. Here the buffer is read back at a
lane of each window: it holds the row of the cache, or of the new rows, at the window's distance. -/

namespace Cert.KernelIdeal.Dil

open Cert.KernelIdeal Cert.KernelIdeal.Gen Cert.Window

section Band
variable {N n o k : ℕ} (inb : ∀ a, (![o, 0] : Fin 2 → ℕ) a + (![k, n] : Fin 2 → ℕ) a ≤ (⟨2, ![N, n]⟩ : Shape).size a)
  (w : (⟨2, ![k, n]⟩ : Shape).Idx → EReal) (L : List (View.Piece (Elt Ideal) (⟨2, ![N, n]⟩ : Shape) .f32)) (i : Fin N) (d : Fin n)

/-- Under the newest band of rows the buffer holds that band, -/
theorem band_in (l : Fin k) (h : i.val = o + l.val) :
    View.canon (⟨Rect.unit (s := (⟨2, ![N, n]⟩ : Shape)) ![o, 0] ![k, n] inb, w⟩ :: L) (ix2 i d) = w (ix2 l d) := by
  have e : (ix2 i d : (⟨2, ![N, n]⟩ : Shape).Idx)
      = (Rect.unit (s := (⟨2, ![N, n]⟩ : Shape)) ![o, 0] ![k, n] inb).emb (ix2 l d) := by
    funext a
    refine Fin.ext ?_
    match a with
    | ⟨0, _⟩ => show i.val = o + 1 * l.val; omega
    | ⟨1, _⟩ => show d.val = 0 + 1 * d.val; omega
  rw [e]
  exact View.canon_cons_emb (Val := Elt Ideal) (e := .f32) (Rect.unit (s := (⟨2, ![N, n]⟩ : Shape)) ![o, 0] ![k, n] inb) w L _

/-- elsewhere what was there before. -/
theorem band_out (h : i.val < o ∨ o + k ≤ i.val) :
    View.canon (⟨Rect.unit (s := (⟨2, ![N, n]⟩ : Shape)) ![o, 0] ![k, n] inb, w⟩ :: L) (ix2 i d) = View.canon L (ix2 i d) := by
  refine View.canon_cons_of_not_mem _ _ ?_
  intro hm
  obtain ⟨l, hl, he⟩ := (LoadRect.mem_set _).mp hm (0 : Fin 2)
  have hl1 : l < k := hl
  have he' : i.val = o + 1 * l := he
  omega

end Band

/-- A whole row of 640 loaded back. -/
theorem load_all (L : List (View.Piece (Elt Ideal) S640x128 .f32)) (v : View sig .tc .vmem S640x128 .f32) (i : Fin 640) (d : Fin 128) :
    v.readCov L (Rect.unit (s := S640x128) ![0, 0] ![640, 128] inb_S640x128_S640x128_0_0).toLoadRect (ix2 i d) = View.canon L (ix2 i d) := by
  rw [View.readCov_eq_canon']
  refine congrArg (View.canon L) (funext fun a => Fin.ext ?_)
  match a with
  | ⟨0, _⟩ => show 0 + 1 * i.val = i.val; omega
  | ⟨1, _⟩ => show 0 + 1 * d.val = d.val; omega

/-- Its first 256 rows. -/
theorem load_near (L : List (View.Piece (Elt Ideal) S640x128 .f32)) (v : View sig .tc .vmem S640x128 .f32) (i : Fin 256) (d : Fin 128) :
    v.readCov L (Rect.unit (s := S640x128) ![0, 0] ![256, 128] inb_S640x128_S256x128_0_0).toLoadRect (ix2 i d)
      = View.canon L (ix2 (i.castLE (by decide) : Fin 640) d) := by
  rw [View.readCov_eq_canon']
  refine congrArg (View.canon L) (funext fun a => Fin.ext ?_)
  match a with
  | ⟨0, _⟩ => show 0 + 1 * i.val = i.val; omega
  | ⟨1, _⟩ => show 0 + 1 * d.val = d.val; omega

/-- The query rows loaded back: the four rows first. -/
theorem load_query (v : View sig .tc .vmem S8x128 .f32) (w : S4x128.Idx → EReal) (L : List (View.Piece (Elt Ideal) S8x128 .f32)) (s : Fin 4) (x : Fin 128) :
    v.readCov (⟨Rect.unit (s := S8x128) ![0, 0] ![4, 128] inb_S8x128_S4x128_0_0, w⟩ :: L)
        (Rect.unit (s := S8x128) ![0, 0] ![8, 128] inb_S8x128_S8x128_0_0).toLoadRect (ix2 (s.castLE (by decide)) x) = w (ix2 s x) := by
  rw [View.readCov_eq_canon']
  have e : (Rect.unit (s := S8x128) ![0, 0] ![8, 128] inb_S8x128_S8x128_0_0).toLoadRect.idx (ix2 (s.castLE (by decide) : Fin 8) x)
      = (Rect.unit (s := S8x128) ![0, 0] ![4, 128] inb_S8x128_S4x128_0_0).emb (ix2 s x) := by
    funext a
    refine Fin.ext ?_
    match a with
    | ⟨0, _⟩ => rfl
    | ⟨1, _⟩ => rfl
  show View.canon _ (LoadRect.idx _ _) = _
  rw [e]
  exact View.canon_cons_emb (Val := Elt Ideal) (e := .f32) (Rect.unit (s := S8x128) ![0, 0] ![4, 128] inb_S8x128_S4x128_0_0) w L _

section Stacks
variable (v : View sig .tc .vmem S640x128 .f32) (s : Fin 4) (j : Fin (128 + 1)) (x : Fin 128)
  (C : ℕ → EReal) (hC : ∀ i i', i = i' → C i = C i')
  (a1 z1 : S128x128.Idx → EReal) (w1 : S4x128.Idx → EReal) (L : List (View.Piece (Elt Ideal) S640x128 .f32))

include hC

/-- The window of neighbours: cache rows from 1920 on, then the new rows. -/
theorem stack_one (ha : ∀ i : Fin 128, a1 (ix2 i x) = C (1920 + i.val)) (hw : ∀ i : Fin 4, w1 (ix2 i x) = C (2048 + i.val)) :
    v.readCov (⟨Rect.unit (s := S640x128) ![128, 0] ![4, 128] inb_S640x128_S4x128_128_0, w1⟩
        :: ⟨Rect.unit (s := S640x128) ![128, 0] ![128, 128] inb_S640x128_S128x128_128_0, z1⟩
        :: ⟨Rect.unit (s := S640x128) ![0, 0] ![128, 128] inb_S640x128_S128x128_0_0, a1⟩ :: L)
        (Rect.unit (s := S640x128) ![0, 0] ![256, 128] inb_S640x128_S256x128_0_0).toLoadRect (ix2 (posOne s j) x)
      = C (2048 + s.val - j.val) := by
  have hs := s.isLt
  have hj := j.isLt
  rw [load_near]
  by_cases h : j.val ≤ s.val
  · rw [band_in _ _ _ _ _ (⟨s.val - j.val, by omega⟩ : Fin 4) (by show 128 + s.val - j.val = 128 + (s.val - j.val); omega), hw]
    exact hC _ _ (by show 2048 + (s.val - j.val) = _; omega)
  · rw [band_out _ _ _ _ _ (.inl (by show 128 + s.val - j.val < 128; omega)), band_out _ _ _ _ _ (.inl (by show 128 + s.val - j.val < 128; omega)),
      band_in _ _ _ _ _ (⟨128 + s.val - j.val, by omega⟩ : Fin 128) (by show 128 + s.val - j.val = 0 + (128 + s.val - j.val); omega), ha]
    exact hC _ _ (by show 1920 + (128 + s.val - j.val) = _; omega)

/-- The window at distances 4 j: cache rows from 1536 on, then the new rows. -/
theorem stack_four (a4 : S512x128.Idx → EReal) (ha : ∀ i : Fin 512, a4 (ix2 i x) = C (1536 + i.val))
    (hw : ∀ i : Fin 4, w1 (ix2 i x) = C (2048 + i.val)) :
    v.readCov (⟨Rect.unit (s := S640x128) ![512, 0] ![4, 128] inb_S640x128_S4x128_512_0, w1⟩
        :: ⟨Rect.unit (s := S640x128) ![512, 0] ![128, 128] inb_S640x128_S128x128_512_0, z1⟩
        :: ⟨Rect.unit (s := S640x128) ![0, 0] ![512, 128] inb_S640x128_S512x128_0_0, a4⟩ :: L)
        (Rect.unit (s := S640x128) ![0, 0] ![640, 128] inb_S640x128_S640x128_0_0).toLoadRect (ix2 (posFour s j) x)
      = C (2048 + s.val - 4 * j.val) := by
  have hs := s.isLt
  have hj := j.isLt
  rw [load_all]
  by_cases h : j.val = 0
  · rw [band_in _ _ _ _ _ s (by show 512 + s.val - 4 * j.val = 512 + s.val; omega), hw]
    exact hC _ _ (by omega)
  · rw [band_out _ _ _ _ _ (.inl (by show 512 + s.val - 4 * j.val < 512; omega)), band_out _ _ _ _ _ (.inl (by show 512 + s.val - 4 * j.val < 512; omega)),
      band_in _ _ _ _ _ (⟨512 + s.val - 4 * j.val, by omega⟩ : Fin 512) (by show 512 + s.val - 4 * j.val = 0 + (512 + s.val - 4 * j.val); omega), ha]
    exact hC _ _ (by show 1536 + (512 + s.val - 4 * j.val) = _; omega)

/-- The window at distances 16 j: for each query row its own 128 cache rows, then the new rows. -/
theorem stack_far (r0 r1 r2 r3 : S128x128.Idx → EReal) (h0 : ∀ i : Fin 128, r0 (ix2 i x) = C (16 * i.val))
    (h1 : ∀ i : Fin 128, r1 (ix2 i x) = C (1 + 16 * i.val)) (h2 : ∀ i : Fin 128, r2 (ix2 i x) = C (2 + 16 * i.val))
    (h3 : ∀ i : Fin 128, r3 (ix2 i x) = C (3 + 16 * i.val)) (hw : ∀ i : Fin 4, w1 (ix2 i x) = C (2048 + i.val)) :
    v.readCov (⟨Rect.unit (s := S640x128) ![384, 0] ![128, 128] inb_S640x128_S128x128_384_0, r3⟩
        :: ⟨Rect.unit (s := S640x128) ![256, 0] ![128, 128] inb_S640x128_S128x128_256_0, r2⟩
        :: ⟨Rect.unit (s := S640x128) ![128, 0] ![128, 128] inb_S640x128_S128x128_128_0, r1⟩
        :: ⟨Rect.unit (s := S640x128) ![0, 0] ![128, 128] inb_S640x128_S128x128_0_0, r0⟩
        :: ⟨Rect.unit (s := S640x128) ![512, 0] ![4, 128] inb_S640x128_S4x128_512_0, w1⟩ :: L)
        (Rect.unit (s := S640x128) ![0, 0] ![640, 128] inb_S640x128_S640x128_0_0).toLoadRect (ix2 (posFar s j) x)
      = C (2048 + s.val - 16 * j.val) := by
  have hs := s.isLt
  have hj := j.isLt
  rw [load_all]
  by_cases e : j.val = 0
  · have hp : (posFar s j).val = 512 + s.val := by simp only [posFar, if_pos e]
    rw [band_out _ _ _ _ _ (.inr (by omega)), band_out _ _ _ _ _ (.inr (by omega)), band_out _ _ _ _ _ (.inr (by omega)),
      band_out _ _ _ _ _ (.inr (by omega)), band_in _ _ _ _ _ s hp, hw]
    exact hC _ _ (by omega)
  · have hp : (posFar s j).val = 128 * s.val + (128 - j.val) := by simp only [posFar, if_neg e]
    have hs4 : s = 0 ∨ s = 1 ∨ s = 2 ∨ s = 3 := by omega
    rcases hs4 with rfl | rfl | rfl | rfl
    · have hp : (posFar 0 j).val = 128 - j.val := by rw [hp]; show 128 * 0 + _ = _; omega
      rw [band_out _ _ _ _ _ (.inl (by omega)), band_out _ _ _ _ _ (.inl (by omega)), band_out _ _ _ _ _ (.inl (by omega)),
        band_in _ _ _ _ _ (⟨128 - j.val, by omega⟩ : Fin 128) (by rw [hp]; show _ = 0 + (128 - j.val); omega), h0]
      exact hC _ _ (by show 16 * (128 - j.val) = 2048 + 0 - 16 * j.val; omega)
    · have hp : (posFar 1 j).val = 128 + (128 - j.val) := by rw [hp]; show 128 * 1 + _ = _; omega
      rw [band_out _ _ _ _ _ (.inl (by omega)), band_out _ _ _ _ _ (.inl (by omega)),
        band_in _ _ _ _ _ (⟨128 - j.val, by omega⟩ : Fin 128) hp, h1]
      exact hC _ _ (by show 1 + 16 * (128 - j.val) = 2048 + 1 - 16 * j.val; omega)
    · have hp : (posFar 2 j).val = 256 + (128 - j.val) := by rw [hp]; show 128 * 2 + _ = _; omega
      rw [band_out _ _ _ _ _ (.inl (by omega)),
        band_in _ _ _ _ _ (⟨128 - j.val, by omega⟩ : Fin 128) hp, h2]
      exact hC _ _ (by show 2 + 16 * (128 - j.val) = 2048 + 2 - 16 * j.val; omega)
    · have hp : (posFar 3 j).val = 384 + (128 - j.val) := by rw [hp]; show 128 * 3 + _ = _; omega
      rw [band_in _ _ _ _ _ (⟨128 - j.val, by omega⟩ : Fin 128) hp, h3]
      exact hC _ _ (by show 3 + 16 * (128 - j.val) = 2048 + 3 - 16 * j.val; omega)
end Stacks

end Cert.KernelIdeal.Dil
-- ==== Proof.DilBias.lean ====
module

public import proofs.«01_k».proof.Proof.DilKernel
public import proofs.«01_k».proof.Proof.DilBucket

@[expose] public section

set_option maxRecDepth 16384

noncomputable section

open Idealize.ShloMosaic Idealize.ShloMosaic.TcCoe Idealize.SL.Sem

/-! # The biases that the kernel adds to its lanes

For each window the host lays a table of buckets and a table of which lanes belong to the window. On the window the bias is
the table's entry at the distance's bucket; off it, it is `⊥`. -/

namespace Cert.KernelIdeal.Dil

open Cert.KernelIdeal Cert.KernelIdeal.Gen Cert.Window

variable (m : (ℓ : Loc nD τ sig) → Buf (Elt Ideal) ℓ)

/-- The bias table as launched. -/
abbrev table (c : Dev nD) : S32x32.Idx → EReal := m (c, Proc.tc.devRef main_arg3)

/-- A table's column summed against the indicator of a bucket. -/
abbrev pick (tab : S32x32.Idx → EReal) (h : Fin 12) (b : BitVec 32) : EReal :=
  ∑ n : Fin 32, tab (ix2 n ⟨20 + h.val, by omega⟩) * FloatOps.uitofp (F := Ideal) .f32 (IntOp.cmpi .eq b (BitVec.ofNat 32 n.val))

theorem eq_words : ∀ k n : Fin 32, IntOp.cmpi CmpIPredicate.eq (BitVec.ofNat 32 k.val) (BitVec.ofNat 32 n.val) = if n = k then 1#1 else 0#1 := by
  decide +kernel

/-- The indicator picks the bucket's entry. -/
theorem pick_eq (tab : S32x32.Idx → EReal) (h : Fin 12) (k : Fin 32) :
    pick tab h (BitVec.ofNat 32 k.val) = tab (ix2 k ⟨20 + h.val, by omega⟩) := by
  unfold pick
  rw [Finset.sum_eq_single k]
  · rw [eq_words, if_pos rfl]
    show _ * (((1#1).toNat : ℝ) : EReal) = _
    simp
  · intro n _ hn
    rw [eq_words, if_neg hn]
    show _ * (((0#1).toNat : ℝ) : EReal) = _
    simp
  · intro hk; exact absurd (Finset.mem_univ k) hk

/-- The bias entry of a distance. -/
abbrev entry (tab : S32x32.Idx → EReal) (h : Fin 12) (n : Fin 2049) : EReal := tab (ix2 ⟨bucket n.val, bucket_lt n⟩ ⟨20 + h.val, by omega⟩)

theorem bias_one (c : Dev nD) (h : Fin 12) (s : Fin 8) (i : Fin 256) : (V m c main_v21 : S12x8x256.Idx → EReal) (ix3 h s i)
    = Scalar.select (lit1 (S8x256.rowMajor (ix2 s i))) (pick (table m c) h (lit2 (S8x256.rowMajor (ix2 s i)))) ⊥ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show select (broadcastInDim S12x8x256 ![1, 2] bcast_S8x256_S12x8x256_1_2 fun i => lit1 (S8x256.rowMajor i))
    (Host.dotGeneral (F := Ideal) dot_S32x12_S8x256x32_S12x8x256_0_2_1_01_n_n (some ContractPrecision.fp32)
      (extractStridedSlice S32x12 ![0, 20] (table m c) slices_S32x32_S32x12_0_20)
      (uitofp FTy.f32
        (cmpi CmpIPredicate.eq
          (broadcastInDim S8x256x32 ![0, 1, 2] bcast_S8x256x1_S8x256x32_0_1_2
            (broadcastInDim S8x256x1 ![0, 1] bcast_S8x256_S8x256x1_0_1 fun i => lit2 (S8x256.rowMajor i)))
          (broadcastInDim S8x256x32 ![0, 1, 2] bcast_S1x1x32_S8x256x32_0_1_2
            (broadcastInDim S1x1x32 ![2] bcast_S32_S1x1x32_2 (iotaInDim S32 32 0))))))
    (broadcastInDim S12x8x256 ![] bcast_S_S12x8x256 (constant (F := Ideal) S_ FTy.f32 4286578688#32)) (ix3 h s i) = _
  pointwise
  rw [show (Ideal.ofBits .f32 4286578688#32 : EReal) = ⊥ from ofBits_bot]

theorem lanes_one : ∀ (s : Fin 4) (j : Fin (128 + 1)),
    lit1 (S8x256.rowMajor (ix2 (s.castLE (by decide)) (posOne s j))) = 1#1
      ∧ lit2 (S8x256.rowMajor (ix2 (s.castLE (by decide)) (posOne s j))) = BitVec.ofNat 32 (bucket (j.val)) := by
  decide +kernel

theorem off_one : ∀ (s : Fin 4) (i : Fin 256), lit1 (S8x256.rowMajor (ix2 (s.castLE (by decide)) i)) = 0#1 ∨ (s.val ≤ i.val ∧ i.val ≤ 128 + s.val) := by
  decide +kernel

/-- On the window the bias is the table's entry; -/
theorem bias_one_on (c : Dev nD) (h : Fin 12) (s : Fin 4) (j : Fin (128 + 1)) :
    (V m c main_v21 : S12x8x256.Idx → EReal) (ix3 h (s.castLE (by decide)) (posOne s j)) = entry (table m c) h ⟨j.val, by omega⟩ := by
  rw [bias_one, (lanes_one s j).1, (lanes_one s j).2]
  exact pick_eq (table m c) h ⟨bucket (j.val), bucket_lt ⟨j.val, by omega⟩⟩

/-- off it `⊥`. -/
theorem bias_one_off (c : Dev nD) (h : Fin 12) (s : Fin 4) (i : Fin 256) (hi : ∀ j, posOne s j ≠ i) :
    (V m c main_v21 : S12x8x256.Idx → EReal) (ix3 h (s.castLE (by decide)) i) = (⊥ : EReal) := by
  rw [bias_one]
  rcases off_one s i with e | e
  · rw [e]; rfl
  · exfalso
    exact hi ⟨128 + s.val - i.val, by omega⟩ (Fin.ext (by show 128 + s.val - (128 + s.val - i.val) = i.val; omega))

theorem bias_four (c : Dev nD) (h : Fin 12) (s : Fin 8) (i : Fin 640) : (V m c main_v30 : S12x8x640.Idx → EReal) (ix3 h s i)
    = Scalar.select (lit4 (S8x640.rowMajor (ix2 s i))) (pick (table m c) h (lit3 (S8x640.rowMajor (ix2 s i)))) ⊥ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show select (broadcastInDim S12x8x640 ![1, 2] bcast_S8x640_S12x8x640_1_2 fun i => lit4 (S8x640.rowMajor i))
    (Host.dotGeneral (F := Ideal) dot_S32x12_S8x640x32_S12x8x640_0_2_1_01_n_n (some ContractPrecision.fp32)
      (extractStridedSlice S32x12 ![0, 20] (table m c) slices_S32x32_S32x12_0_20)
      (uitofp FTy.f32
        (cmpi CmpIPredicate.eq
          (broadcastInDim S8x640x32 ![0, 1, 2] bcast_S8x640x1_S8x640x32_0_1_2
            (broadcastInDim S8x640x1 ![0, 1] bcast_S8x640_S8x640x1_0_1 fun i => lit3 (S8x640.rowMajor i)))
          (broadcastInDim S8x640x32 ![0, 1, 2] bcast_S1x1x32_S8x640x32_0_1_2
            (broadcastInDim S1x1x32 ![2] bcast_S32_S1x1x32_2 (iotaInDim S32 32 0))))))
    (broadcastInDim S12x8x640 ![] bcast_S_S12x8x640 (constant (F := Ideal) S_ FTy.f32 4286578688#32)) (ix3 h s i) = _
  pointwise
  rw [show (Ideal.ofBits .f32 4286578688#32 : EReal) = ⊥ from ofBits_bot]

theorem lanes_four : ∀ (s : Fin 4) (j : Fin (128 + 1)),
    lit4 (S8x640.rowMajor (ix2 (s.castLE (by decide)) (posFour s j))) = 1#1
      ∧ lit3 (S8x640.rowMajor (ix2 (s.castLE (by decide)) (posFour s j))) = BitVec.ofNat 32 (bucket (4 * j.val)) := by
  decide +kernel

theorem off_four : ∀ (s : Fin 4) (i : Fin 640), lit4 (S8x640.rowMajor (ix2 (s.castLE (by decide)) i)) = 0#1 ∨ (s.val ≤ i.val ∧ i.val ≤ 512 + s.val ∧ (512 + s.val - i.val) % 4 = 0) := by
  decide +kernel

/-- On the window the bias is the table's entry; -/
theorem bias_four_on (c : Dev nD) (h : Fin 12) (s : Fin 4) (j : Fin (128 + 1)) :
    (V m c main_v30 : S12x8x640.Idx → EReal) (ix3 h (s.castLE (by decide)) (posFour s j)) = entry (table m c) h ⟨4 * j.val, by omega⟩ := by
  rw [bias_four, (lanes_four s j).1, (lanes_four s j).2]
  exact pick_eq (table m c) h ⟨bucket (4 * j.val), bucket_lt ⟨4 * j.val, by omega⟩⟩

/-- off it `⊥`. -/
theorem bias_four_off (c : Dev nD) (h : Fin 12) (s : Fin 4) (i : Fin 640) (hi : ∀ j, posFour s j ≠ i) :
    (V m c main_v30 : S12x8x640.Idx → EReal) (ix3 h (s.castLE (by decide)) i) = (⊥ : EReal) := by
  rw [bias_four]
  rcases off_four s i with e | e
  · rw [e]; rfl
  · exfalso
    exact hi ⟨(512 + s.val - i.val) / 4, by omega⟩ (Fin.ext (by show 512 + s.val - 4 * ((512 + s.val - i.val) / 4) = i.val; omega))

theorem bias_far (c : Dev nD) (h : Fin 12) (s : Fin 8) (i : Fin 640) : (V m c main_v39 : S12x8x640.Idx → EReal) (ix3 h s i)
    = Scalar.select (lit6 (S8x640.rowMajor (ix2 s i))) (pick (table m c) h (lit5 (S8x640.rowMajor (ix2 s i)))) ⊥ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show select (broadcastInDim S12x8x640 ![1, 2] bcast_S8x640_S12x8x640_1_2 fun i => lit6 (S8x640.rowMajor i))
    (Host.dotGeneral (F := Ideal) dot_S32x12_S8x640x32_S12x8x640_0_2_1_01_n_n (some ContractPrecision.fp32)
      (extractStridedSlice S32x12 ![0, 20] (table m c) slices_S32x32_S32x12_0_20)
      (uitofp FTy.f32
        (cmpi CmpIPredicate.eq
          (broadcastInDim S8x640x32 ![0, 1, 2] bcast_S8x640x1_S8x640x32_0_1_2
            (broadcastInDim S8x640x1 ![0, 1] bcast_S8x640_S8x640x1_0_1 fun i => lit5 (S8x640.rowMajor i)))
          (broadcastInDim S8x640x32 ![0, 1, 2] bcast_S1x1x32_S8x640x32_0_1_2
            (broadcastInDim S1x1x32 ![2] bcast_S32_S1x1x32_2 (iotaInDim S32 32 0))))))
    (broadcastInDim S12x8x640 ![] bcast_S_S12x8x640 (constant (F := Ideal) S_ FTy.f32 4286578688#32)) (ix3 h s i) = _
  pointwise
  rw [show (Ideal.ofBits .f32 4286578688#32 : EReal) = ⊥ from ofBits_bot]

theorem lanes_far : ∀ (s : Fin 4) (j : Fin (128 + 1)),
    lit6 (S8x640.rowMajor (ix2 (s.castLE (by decide)) (posFar s j))) = 1#1
      ∧ lit5 (S8x640.rowMajor (ix2 (s.castLE (by decide)) (posFar s j))) = BitVec.ofNat 32 (bucket (16 * j.val)) := by
  decide +kernel

theorem off_far : ∀ (s : Fin 4) (i : Fin 640), lit6 (S8x640.rowMajor (ix2 (s.castLE (by decide)) i)) = 0#1 ∨ (i.val = 512 + s.val ∨ (128 * s.val ≤ i.val ∧ i.val < 128 * s.val + 128)) := by
  decide +kernel

/-- On the window the bias is the table's entry; -/
theorem bias_far_on (c : Dev nD) (h : Fin 12) (s : Fin 4) (j : Fin (128 + 1)) :
    (V m c main_v39 : S12x8x640.Idx → EReal) (ix3 h (s.castLE (by decide)) (posFar s j)) = entry (table m c) h ⟨16 * j.val, by omega⟩ := by
  rw [bias_far, (lanes_far s j).1, (lanes_far s j).2]
  exact pick_eq (table m c) h ⟨bucket (16 * j.val), bucket_lt ⟨16 * j.val, by omega⟩⟩

/-- off it `⊥`. -/
theorem bias_far_off (c : Dev nD) (h : Fin 12) (s : Fin 4) (i : Fin 640) (hi : ∀ j, posFar s j ≠ i) :
    (V m c main_v39 : S12x8x640.Idx → EReal) (ix3 h (s.castLE (by decide)) i) = (⊥ : EReal) := by
  rw [bias_far]
  rcases off_far s i with e | e
  · rw [e]; rfl
  · exfalso
    rcases e with e | e
    · have z : (posFar s 0).val = 512 + s.val := by unfold posFar; rfl
      exact hi 0 (Fin.ext (by omega))
    · exact hi ⟨128 * s.val + 128 - i.val, by omega⟩ (Fin.ext (by
        show (if 128 * s.val + 128 - i.val = 0 then _ else _) = i.val; rw [if_neg (by omega)]; show 128 * s.val + (128 - (128 * s.val + 128 - i.val)) = _; omega))

end Cert.KernelIdeal.Dil
-- ==== Proof.DilReads.lean ====
module

public import proofs.«01_k».proof.Proof.DilMix
public import proofs.«01_k».proof.Proof.DilStack
public import proofs.«01_k».proof.Proof.DilBias
public import proofs.«01_k».proof.Proof.Gen.KernelIdeal.Value
public import Idealize.ShloMosaic.Lib.Pipeline.ValueKit
public import Idealize.ShloMosaic.Lib.StableHlo.RunRead
public import Idealize.ShloMosaic.Lib.WholeRead

@[expose] public section

set_option maxRecDepth 16384

noncomputable section

open Idealize.ShloMosaic Idealize.ShloMosaic.TcCoe Idealize.SL.Sem

/-! # What the two programs read

The kernel's blocks and the reference's long rows, both entry by entry of the arguments. -/

namespace Cert.ReferenceIdeal.Dil

open Cert.ReferenceIdeal Cert.ReferenceIdeal.Gen Cert.ReferenceIdeal.Value

variable (V0 : Valuation τ sig (Elt Ideal))

/-- A table of two axes read at one place written two ways. -/
theorem at_two {n k : ℕ} (f : (⟨2, ![n, k]⟩ : Shape).Idx → EReal) {a a' b b' : ℕ} {ha : a < n} {ha' : a' < n} {hb : b < k} {hb' : b' < k}
    (h : a = a') (h' : b = b') : f (ix2 ⟨a, ha⟩ ⟨b, hb⟩) = f (ix2 ⟨a', ha'⟩ ⟨b', hb'⟩) := by
  subst h h'
  rfl

/-- The packed projections. -/
abbrev packed : S128x8192.Idx → EReal := V0 (Proc.devRef .tc main_arg0)
/-- The cached keys. -/
abbrev oldKeys : S32x2048x12x128.Idx → EReal := V0 (Proc.devRef .tc main_arg1)
/-- The cached values. -/
abbrev oldValues : S32x2048x12x128.Idx → EReal := V0 (Proc.devRef .tc main_arg2)
/-- The bias table. -/
abbrev biasTable : S32x32.Idx → EReal := V0 (Proc.devRef .tc main_arg3)

theorem queries_apply (b : Fin 32) (s : Fin 4) (h : Fin 12) (x : Fin 128) :
    (queries V0 : S32x4x12x128.Idx → EReal) (ix4 b s h x) = packed V0 (ix2 ⟨4 * b.val + s.val, by omega⟩ ⟨3584 + 128 * h.val + x.val, by omega⟩) := by
  pointwise [queries, res_main_v2, res_main_v0, packed]
  exact at_two _ (by omega) (by omega)

theorem biases_apply (n : Fin 32) (h : Fin 12) :
    (biases V0 : S32x12.Idx → EReal) (ix2 n h) = biasTable V0 (ix2 n ⟨20 + h.val, by omega⟩) := by
  pointwise [biases, res_main_v7, biasTable]

theorem keyRows_old (b : Fin 32) (r : Fin 2048) (h : Fin 12) (x : Fin 128) :
    (keyRows V0 : S32x2052x12x128.Idx → EReal) (ix4 b (r.castLE (by decide)) h x) = oldKeys V0 (ix4 b r h x) := by
  pointwise [keyRows, res_main_v8, oldKeys]
  exact dif_pos r.isLt

theorem keyRows_new (b : Fin 32) (s : Fin 4) (h : Fin 12) (x : Fin 128) :
    (keyRows V0 : S32x2052x12x128.Idx → EReal) (ix4 b ⟨2048 + s.val, by omega⟩ h x)
      = packed V0 (ix2 ⟨4 * b.val + s.val, by omega⟩ ⟨5120 + 128 * h.val + x.val, by omega⟩) := by
  pointwise [keyRows, res_main_v8, res_main_v0, packed]
  exact at_two _ (by omega) (by omega)

theorem valRows_old (b : Fin 32) (r : Fin 2048) (h : Fin 12) (x : Fin 128) :
    (valRows V0 : S32x2052x12x128.Idx → EReal) (ix4 b (r.castLE (by decide)) h x) = oldValues V0 (ix4 b r h x) := by
  pointwise [valRows, res_main_v9, oldValues]
  exact dif_pos r.isLt

theorem valRows_new (b : Fin 32) (s : Fin 4) (h : Fin 12) (x : Fin 128) :
    (valRows V0 : S32x2052x12x128.Idx → EReal) (ix4 b ⟨2048 + s.val, by omega⟩ h x)
      = packed V0 (ix2 ⟨4 * b.val + s.val, by omega⟩ ⟨6656 + 128 * h.val + x.val, by omega⟩) := by
  pointwise [valRows, res_main_v9, res_main_v0, packed]
  exact at_two _ (by omega) (by omega)

end Cert.ReferenceIdeal.Dil

namespace Cert.KernelIdeal.Dil

open Cert.KernelIdeal Cert.KernelIdeal.Gen

variable (m : (ℓ : Loc nD τ sig) → Buf (Elt Ideal) ℓ) (c : Dev nD)

abbrev inX : S128x8192.Idx → EReal := m (c, Proc.tc.devRef main_arg0)
abbrev inK : S32x2048x12x128.Idx → EReal := m (c, Proc.tc.devRef main_arg1)
abbrev inV : S32x2048x12x128.Idx → EReal := m (c, Proc.tc.devRef main_arg2)

theorem idx : ∀ t : Fin cfg0.N, win0_0.index t = ![t.val / 12, 0, 28 + t.val % 12]
    ∧ win0_1.index t = ![t.val / 12, 0, 40 + t.val % 12] ∧ win0_2.index t = ![t.val / 12, 0, 52 + t.val % 12]
    ∧ win0_3.index t = ![t.val / 12, t.val % 12, 0, 0] ∧ win0_4.index t = ![t.val / 12, t.val % 12, 0, 0]
    ∧ win0_5.index t = ![t.val % 12, 0, 0] ∧ win0_6.index t = ![t.val % 12, 0, 0] ∧ win0_7.index t = ![t.val % 12, 0, 0]
    ∧ win0_8.index t = ![t.val / 12, 0, t.val % 12]
    ∧ win0_9.index t = ![t.val / 12, t.val % 12, 0, 0] ∧ win0_10.index t = ![t.val / 12, t.val % 12, 0, 0] :=
  (by decide +kernel : ∀ t : Fin grid0.N, _)

/-- The batch row of a grid point, -/
abbrev rowOf (t : Fin cfg0.N) : Fin 32 := ⟨t.val / 12, by have : t.val < 384 := t.isLt; omega⟩
/-- and its head. -/
abbrev headOf (t : Fin cfg0.N) : Fin 12 := ⟨t.val % 12, Nat.mod_lt _ (by decide)⟩

theorem packed_rows (b : Fin 32) (s : Fin 4) (k : Fin 8192) :
    (V m c main_v40 : S32x4x8192.Idx → EReal) (ix3 b s k) = inX m c (ix2 ⟨4 * b.val + s.val, by omega⟩ k) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise []
  exact Cert.ReferenceIdeal.Dil.at_two _ (b := k.val) (b' := k.val) (by omega) rfl

theorem keys_moved (b : Fin 32) (h : Fin 12) (i : Fin 2048) (x : Fin 128) :
    (V m c main_v0 : S32x12x2048x128.Idx → EReal) (ix4 b h i x) = inK m c (ix4 b i h x) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise []

theorem values_moved (b : Fin 32) (h : Fin 12) (i : Fin 2048) (x : Fin 128) :
    (V m c main_v1 : S32x12x2048x128.Idx → EReal) (ix4 b h i x) = inV m c (ix4 b i h x) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_results_simp
  pointwise []

theorem blk0 (t : Fin cfg0.N) (s : Fin 4) (x : Fin 128) :
    (iblk m c 0 t : S1x4x128.Idx → EReal) (ix3 0 s x) = inX m c (ix2 ⟨4 * (rowOf t).val + s.val, by omega⟩ ⟨3584 + 128 * (headOf t).val + x.val, by omega⟩) := by
  have e : ((View.whole main_v40).slice (win0_0.rect t)).emb (ix3 0 s x)
      = (ix3 (rowOf t) s ⟨3584 + 128 * (headOf t).val + x.val, by omega⟩ : S32x4x8192.Idx) := by
    blk_ext [idx t]
  blk_simp [iblk]
  rw [e, packed_rows]

theorem blk1 (t : Fin cfg0.N) (s : Fin 4) (x : Fin 128) :
    (iblk m c 1 t : S1x4x128.Idx → EReal) (ix3 0 s x) = inX m c (ix2 ⟨4 * (rowOf t).val + s.val, by omega⟩ ⟨5120 + 128 * (headOf t).val + x.val, by omega⟩) := by
  have e : ((View.whole main_v40).slice (win0_1.rect t)).emb (ix3 0 s x)
      = (ix3 (rowOf t) s ⟨5120 + 128 * (headOf t).val + x.val, by omega⟩ : S32x4x8192.Idx) := by
    blk_ext [idx t]
  blk_simp [iblk]
  rw [e, packed_rows]

theorem blk2 (t : Fin cfg0.N) (s : Fin 4) (x : Fin 128) :
    (iblk m c 2 t : S1x4x128.Idx → EReal) (ix3 0 s x) = inX m c (ix2 ⟨4 * (rowOf t).val + s.val, by omega⟩ ⟨6656 + 128 * (headOf t).val + x.val, by omega⟩) := by
  have e : ((View.whole main_v40).slice (win0_2.rect t)).emb (ix3 0 s x)
      = (ix3 (rowOf t) s ⟨6656 + 128 * (headOf t).val + x.val, by omega⟩ : S32x4x8192.Idx) := by
    blk_ext [idx t]
  blk_simp [iblk]
  rw [e, packed_rows]

theorem blk3 (t : Fin cfg0.N) (i : Fin 2048) (x : Fin 128) :
    (iblk m c 3 t : S1x1x2048x128.Idx → EReal) (ix4 0 0 i x) = inK m c (ix4 (rowOf t) i (headOf t) x) := by
  have e : ((View.whole main_v0).slice (win0_3.rect t)).emb (ix4 0 0 i x) = (ix4 (rowOf t) (headOf t) i x : S32x12x2048x128.Idx) := by
    blk_ext [idx t]
  blk_simp [iblk]
  rw [e, keys_moved]

theorem blk4 (t : Fin cfg0.N) (i : Fin 2048) (x : Fin 128) :
    (iblk m c 4 t : S1x1x2048x128.Idx → EReal) (ix4 0 0 i x) = inV m c (ix4 (rowOf t) i (headOf t) x) := by
  have e : ((View.whole main_v1).slice (win0_4.rect t)).emb (ix4 0 0 i x) = (ix4 (rowOf t) (headOf t) i x : S32x12x2048x128.Idx) := by
    blk_ext [idx t]
  blk_simp [iblk]
  rw [e, values_moved]

theorem blk5 (t : Fin cfg0.N) (s : Fin 8) (i : Fin 256) :
    (iblk m c 5 t : S1x8x256.Idx → EReal) (ix3 0 s i) = (V m c main_v21 : S12x8x256.Idx → EReal) (ix3 (headOf t) s i) := by
  have e : ((View.whole main_v21).slice (win0_5.rect t)).emb (ix3 0 s i) = (ix3 (headOf t) s i : S12x8x256.Idx) := by
    blk_ext [idx t]
  blk_simp [iblk]
  rw [e]

theorem blk6 (t : Fin cfg0.N) (s : Fin 8) (i : Fin 640) :
    (iblk m c 6 t : S1x8x640.Idx → EReal) (ix3 0 s i) = (V m c main_v30 : S12x8x640.Idx → EReal) (ix3 (headOf t) s i) := by
  have e : ((View.whole main_v30).slice (win0_6.rect t)).emb (ix3 0 s i) = (ix3 (headOf t) s i : S12x8x640.Idx) := by
    blk_ext [idx t]
  blk_simp [iblk]
  rw [e]

theorem blk7 (t : Fin cfg0.N) (s : Fin 8) (i : Fin 640) :
    (iblk m c 7 t : S1x8x640.Idx → EReal) (ix3 0 s i) = (V m c main_v39 : S12x8x640.Idx → EReal) (ix3 (headOf t) s i) := by
  have e : ((View.whole main_v39).slice (win0_7.rect t)).emb (ix3 0 s i) = (ix3 (headOf t) s i : S12x8x640.Idx) := by
    blk_ext [idx t]
  blk_simp [iblk]
  rw [e]

end Cert.KernelIdeal.Dil
-- ==== Proof.DilPre.lean ====
module

public import proofs.«01_k».proof.Defs
public import proofs.«01_k».proof.Proof.DilReads
public import Idealize.ShloMosaic.Lib.ReduceAll

@[expose] public section

set_option maxRecDepth 16384

noncomputable section

open Idealize.ShloMosaic Idealize.ShloMosaic.TcCoe Idealize.SL.Sem

/-! # What the precondition says

Read back over the reals: the queries, the keys and the biases are real numbers. -/

namespace Cert.Pre_finite_scores.Gen

/-- The shape relations that the precondition states. -/
instance facts : Cert.Pre_finite_scores.Facts where
  slices_S128x8192_S128x3072_0_3584 := by decide
  bcast_S_S128x3072 := by decide
  reducesTo_S128x3072_S_d0_1 := by decide
  h_S_ := by decide
  bcast_S_S32x2048x12x128 := by decide
  reducesTo_S32x2048x12x128_S_d0_1_2_3 := by decide
  slices_S32x32_S32x12_0_20 := by decide
  bcast_S_S32x12 := by decide
  reducesTo_S32x12_S_d0_1 := by decide

end Cert.Pre_finite_scores.Gen

namespace Cert.Window

/-- What is smaller in size than `⊤` is a real number. -/
theorem real_of_abs_lt {x : EReal} (h : max x (-x) < ⊤) : ∃ r : ℝ, x = r := by
  induction x using EReal.rec with
  | bot => exact absurd h (by simp)
  | top => exact absurd h (by simp)
  | coe r => exact ⟨r, rfl⟩

theorem ofBits_top : Ideal.ofBits .f32 2139095040#32 = ⊤ := by simp [Ideal.ofBits, Ideal.ieee]

/-- The comparison that the precondition makes. -/
theorem real_of_cmp {x : EReal} (h : Ideal.cmp .olt (max x (-x)) (Ideal.ofBits .f32 2139095040#32) = 1#1) : ∃ r : ℝ, x = r := by
  rw [ofBits_top] at h
  refine real_of_abs_lt ?_
  by_contra hn
  rw [Ideal.cmp, show decide (max x (-x) < ⊤) = false from decide_eq_false hn] at h
  exact absurd h (by decide)

end Cert.Window

namespace Cert.KernelIdeal.Dil

open Cert.KernelIdeal Cert.KernelIdeal.Gen Cert.Window

theorem finite_all (x : S128x8192.Idx → EReal) (k v : S32x2048x12x128.Idx → EReal) (b : S32x32.Idx → EReal)
    (h : Cert.Pre_finite_scores.fn (F := Ideal) x k v b = fun _ => 1#1) :
    (∀ (r : Fin 128) (j : Fin 3072), ∃ y : ℝ, x (ix2 r ⟨3584 + j.val, by omega⟩) = y) ∧ (∀ i, ∃ y : ℝ, k i = y)
      ∧ ∀ (n : Fin 32) (h : Fin 12), ∃ y : ℝ, b (ix2 n ⟨20 + h.val, by omega⟩) = y := by
  have h0 := congrFun h (fun a => a.elim0)
  unfold Cert.Pre_finite_scores.fn at h0
  obtain ⟨h1, h2⟩ := IntOp.andi_eq_one.1 h0
  obtain ⟨h3, h4⟩ := IntOp.andi_eq_one.1 h1
  have hs : Subsingleton Cert.Pre_finite_scores.S_.Idx := ⟨fun a b => funext fun i => i.elim0⟩
  refine ⟨fun r j => ?_, fun i => ?_, fun n h => ?_⟩
  · have := Host.reduce_andi_all _ _ _ _ _ h3 (ix2 r j)
    obtain ⟨y, hy⟩ := real_of_cmp this
    refine ⟨y, Eq.trans ?_ hy⟩
    pointwise []
  · exact real_of_cmp (Host.reduce_andi_all _ _ _ _ _ h4 i)
  · have := Host.reduce_andi_all _ _ _ _ _ h2 (ix2 n h)
    obtain ⟨y, hy⟩ := real_of_cmp this
    refine ⟨y, Eq.trans ?_ hy⟩
    pointwise []

end Cert.KernelIdeal.Dil
-- ==== Proof.DilLoads.lean ====
module

public import proofs.«01_k».proof.Proof.DilReads

@[expose] public section

set_option maxRecDepth 16384

noncomputable section

open Idealize.ShloMosaic Idealize.ShloMosaic.TcCoe Idealize.SL.Sem

/-! # The rows that the kernel stacks

Every load of a cached or of a new row, as a row of the reference's long cache. -/

namespace Cert.KernelIdeal.Dil

open Cert.KernelIdeal Cert.KernelIdeal.Gen Cert.ReferenceIdeal.Dil

variable (m : (ℓ : Loc nD τ sig) → Buf (Elt Ideal) ℓ) (c : Dev nD)
  (W : Valuation Cert.ReferenceIdeal.τ Cert.ReferenceIdeal.sig (Elt Ideal))

/-- The reference is given the kernel's arguments. -/
structure Agree : Prop where
  x : packed W = inX m c
  k : oldKeys W = inK m c
  v : oldValues W = inV m c
  b : biasTable W = table m c

/-- One head's column of a long cache of rows, by the row's number. -/
def column (f : Cert.ReferenceIdeal.S32x2052x12x128.Idx → EReal) (b : Fin 32) (h : Fin 12) (x : Fin 128) (i : ℕ) : EReal :=
  if hi : i < 2052 then f (ix4 b ⟨i, hi⟩ h x) else 0

theorem column_at (f : Cert.ReferenceIdeal.S32x2052x12x128.Idx → EReal) (b : Fin 32) (h : Fin 12) (x : Fin 128) {i : ℕ} (hi : i < 2052) :
    column f b h x i = f (ix4 b ⟨i, hi⟩ h x) := dif_pos hi

variable {m c W} (A : Agree m c W) (t : Fin cfg0.N)
include A

theorem query_load (s : Fin 4) (x : Fin 128) :
    k0_pay8 (F := Ideal) (iblk m c 0 t) (ix2 s x) = queries W (ix4 (rowOf t) s (headOf t) x) := by
  rw [queries_apply, A.x, ← blk0 m c t s x]
  pointwise [k0_pay8]

theorem key_new (s : Fin 4) (x : Fin 128) :
    k0_pay16 (F := Ideal) (k0_pay11 (iblk m c 1 t)) (ix2 s x) = column (keyRows W) (rowOf t) (headOf t) x (2048 + s.val) := by
  rw [column_at _ _ _ _ (by omega), keyRows_new, A.x, ← blk1 m c t s x]
  pointwise [k0_pay16, k0_pay11]

theorem key_new' (s : Fin 4) (x : Fin 128) :
    k0_pay30 (F := Ideal) (iblk m c 1 t) (ix2 s x) = column (keyRows W) (rowOf t) (headOf t) x (2048 + s.val) := by
  rw [column_at _ _ _ _ (by omega), keyRows_new, A.x, ← blk1 m c t s x]
  pointwise [k0_pay30]

theorem value_new (s : Fin 4) (x : Fin 128) :
    k0_pay17 (F := Ideal) (k0_pay12 (iblk m c 2 t)) (ix2 s x) = column (valRows W) (rowOf t) (headOf t) x (2048 + s.val) := by
  rw [column_at _ _ _ _ (by omega), valRows_new, A.x, ← blk2 m c t s x]
  pointwise [k0_pay17, k0_pay12]

theorem value_new' (s : Fin 4) (x : Fin 128) :
    k0_pay31 (F := Ideal) (k0_pay26 (iblk m c 2 t)) (ix2 s x) = column (valRows W) (rowOf t) (headOf t) x (2048 + s.val) := by
  rw [column_at _ _ _ _ (by omega), valRows_new, A.x, ← blk2 m c t s x]
  pointwise [k0_pay31, k0_pay26]

/-- A cached key, by the row's number. -/
theorem key_old (i : Fin 2048) (x : Fin 128) :
    (iblk m c 3 t : S1x1x2048x128.Idx → EReal) (ix4 0 0 i x) = column (keyRows W) (rowOf t) (headOf t) x i.val := by
  have hi : i.val < 2052 := by omega
  rw [column_at _ _ _ _ hi, show (⟨i.val, hi⟩ : Fin 2052) = i.castLE (by decide) from rfl, keyRows_old, A.k, blk3]

/-- A cached value, by the row's number. -/
theorem value_old (i : Fin 2048) (x : Fin 128) :
    (iblk m c 4 t : S1x1x2048x128.Idx → EReal) (ix4 0 0 i x) = column (valRows W) (rowOf t) (headOf t) x i.val := by
  have hi : i.val < 2052 := by omega
  rw [column_at _ _ _ _ hi, show (⟨i.val, hi⟩ : Fin 2052) = i.castLE (by decide) from rfl, valRows_old, A.v, blk4]

theorem key_near (inb) (i x : Fin 128) :
    k0_pay9 (F := Ideal) (View.ld (iblk m c 3 t) (Rect.unit (s := S1x1x2048x128) ![0, 0, 1920, 0] ![1, 1, 128, 128] inb)) (ix2 i x)
      = column (keyRows W) (rowOf t) (headOf t) x (1920 + i.val) := by
  rw [← key_old A t ⟨1920 + i.val, by omega⟩ x]
  pointwise [k0_pay9]

theorem value_near (inb) (i x : Fin 128) :
    k0_pay10 (F := Ideal) (View.ld (iblk m c 4 t) (Rect.unit (s := S1x1x2048x128) ![0, 0, 1920, 0] ![1, 1, 128, 128] inb)) (ix2 i x)
      = column (valRows W) (rowOf t) (headOf t) x (1920 + i.val) := by
  rw [← value_old A t ⟨1920 + i.val, by omega⟩ x]
  pointwise [k0_pay10]

theorem key_mid (inb) (i : Fin 512) (x : Fin 128) :
    k0_pay24 (F := Ideal) (View.ld (iblk m c 3 t) (Rect.unit (s := S1x1x2048x128) ![0, 0, 1536, 0] ![1, 1, 512, 128] inb)) (ix2 i x)
      = column (keyRows W) (rowOf t) (headOf t) x (1536 + i.val) := by
  rw [← key_old A t ⟨1536 + i.val, by omega⟩ x]
  pointwise [k0_pay24]

theorem value_mid (inb) (i : Fin 512) (x : Fin 128) :
    k0_pay25 (F := Ideal) (View.ld (iblk m c 4 t) (Rect.unit (s := S1x1x2048x128) ![0, 0, 1536, 0] ![1, 1, 512, 128] inb)) (ix2 i x)
      = column (valRows W) (rowOf t) (headOf t) x (1536 + i.val) := by
  rw [← value_old A t ⟨1536 + i.val, by omega⟩ x]
  pointwise [k0_pay25]

omit A in
/-- A load of every sixteenth row from the `o`-th on. -/
theorem every_sixteenth (mr : Memref sig .tc .vmem S1x1x2048x128 .f32) (hw : mr.IsWhole) (X : S1x1x2048x128.Idx → EReal) (o : ℕ) (ho : o < 16) (inb)
    (i x : Fin 128) :
    mr.view.readAt (Elt Ideal) { off := ![0, 0, o, 0], size := ![1, 1, 128, 128], stride := ![1, 1, 16, 1], inb := inb } (hw.unread X)
      (ix4 0 0 i x) = X (ix4 0 0 ⟨o + 16 * i.val, by omega⟩ x) := by
  rw [Memref.IsWhole.readAt_unread]
  refine congrArg X (funext fun a => Fin.ext ?_)
  match a with
  | ⟨0, _⟩ => rfl
  | ⟨1, _⟩ => rfl
  | ⟨2, _⟩ => rfl
  | ⟨3, _⟩ => show 0 + 1 * x.val = x.val; omega

theorem key_far0 (mr : Memref sig .tc .vmem S1x1x2048x128 .f32) (hw : mr.IsWhole) (inb) (i x : Fin 128) :
    k0_pay38 (F := Ideal) (mr.view.readAt (Elt Ideal) { off := ![0, 0, 0, 0], size := ![1, 1, 128, 128], stride := ![1, 1, 16, 1], inb := inb }
      (hw.unread (iblk m c 3 t))) (ix2 i x) = column (keyRows W) (rowOf t) (headOf t) x (16 * i.val) := by
  rw [show 16 * i.val = (⟨0 + 16 * i.val, by omega⟩ : Fin 2048).val from by show 16 * i.val = 0 + 16 * i.val; omega, ← key_old A t,
    ← every_sixteenth mr hw (iblk m c 3 t) 0 (by omega) inb i x]
  pointwise [k0_pay38]

theorem key_far1 (mr : Memref sig .tc .vmem S1x1x2048x128 .f32) (hw : mr.IsWhole) (inb) (i x : Fin 128) :
    k0_pay40 (F := Ideal) (mr.view.readAt (Elt Ideal) { off := ![0, 0, 1, 0], size := ![1, 1, 128, 128], stride := ![1, 1, 16, 1], inb := inb }
      (hw.unread (iblk m c 3 t))) (ix2 i x) = column (keyRows W) (rowOf t) (headOf t) x (1 + 16 * i.val) := by
  rw [show 1 + 16 * i.val = (⟨1 + 16 * i.val, by omega⟩ : Fin 2048).val from by show 1 + 16 * i.val = 1 + 16 * i.val; omega, ← key_old A t,
    ← every_sixteenth mr hw (iblk m c 3 t) 1 (by omega) inb i x]
  pointwise [k0_pay40]

theorem key_far2 (mr : Memref sig .tc .vmem S1x1x2048x128 .f32) (hw : mr.IsWhole) (inb) (i x : Fin 128) :
    k0_pay42 (F := Ideal) (mr.view.readAt (Elt Ideal) { off := ![0, 0, 2, 0], size := ![1, 1, 128, 128], stride := ![1, 1, 16, 1], inb := inb }
      (hw.unread (iblk m c 3 t))) (ix2 i x) = column (keyRows W) (rowOf t) (headOf t) x (2 + 16 * i.val) := by
  rw [show 2 + 16 * i.val = (⟨2 + 16 * i.val, by omega⟩ : Fin 2048).val from by show 2 + 16 * i.val = 2 + 16 * i.val; omega, ← key_old A t,
    ← every_sixteenth mr hw (iblk m c 3 t) 2 (by omega) inb i x]
  pointwise [k0_pay42]

theorem key_far3 (mr : Memref sig .tc .vmem S1x1x2048x128 .f32) (hw : mr.IsWhole) (inb) (i x : Fin 128) :
    k0_pay44 (F := Ideal) (mr.view.readAt (Elt Ideal) { off := ![0, 0, 3, 0], size := ![1, 1, 128, 128], stride := ![1, 1, 16, 1], inb := inb }
      (hw.unread (iblk m c 3 t))) (ix2 i x) = column (keyRows W) (rowOf t) (headOf t) x (3 + 16 * i.val) := by
  rw [show 3 + 16 * i.val = (⟨3 + 16 * i.val, by omega⟩ : Fin 2048).val from by show 3 + 16 * i.val = 3 + 16 * i.val; omega, ← key_old A t,
    ← every_sixteenth mr hw (iblk m c 3 t) 3 (by omega) inb i x]
  pointwise [k0_pay44]

theorem value_far0 (mr : Memref sig .tc .vmem S1x1x2048x128 .f32) (hw : mr.IsWhole) (inb) (i x : Fin 128) :
    k0_pay39 (F := Ideal) (mr.view.readAt (Elt Ideal) { off := ![0, 0, 0, 0], size := ![1, 1, 128, 128], stride := ![1, 1, 16, 1], inb := inb }
      (hw.unread (iblk m c 4 t))) (ix2 i x) = column (valRows W) (rowOf t) (headOf t) x (16 * i.val) := by
  rw [show 16 * i.val = (⟨0 + 16 * i.val, by omega⟩ : Fin 2048).val from by show 16 * i.val = 0 + 16 * i.val; omega, ← value_old A t,
    ← every_sixteenth mr hw (iblk m c 4 t) 0 (by omega) inb i x]
  pointwise [k0_pay39]

theorem value_far1 (mr : Memref sig .tc .vmem S1x1x2048x128 .f32) (hw : mr.IsWhole) (inb) (i x : Fin 128) :
    k0_pay41 (F := Ideal) (mr.view.readAt (Elt Ideal) { off := ![0, 0, 1, 0], size := ![1, 1, 128, 128], stride := ![1, 1, 16, 1], inb := inb }
      (hw.unread (iblk m c 4 t))) (ix2 i x) = column (valRows W) (rowOf t) (headOf t) x (1 + 16 * i.val) := by
  rw [show 1 + 16 * i.val = (⟨1 + 16 * i.val, by omega⟩ : Fin 2048).val from by show 1 + 16 * i.val = 1 + 16 * i.val; omega, ← value_old A t,
    ← every_sixteenth mr hw (iblk m c 4 t) 1 (by omega) inb i x]
  pointwise [k0_pay41]

theorem value_far2 (mr : Memref sig .tc .vmem S1x1x2048x128 .f32) (hw : mr.IsWhole) (inb) (i x : Fin 128) :
    k0_pay43 (F := Ideal) (mr.view.readAt (Elt Ideal) { off := ![0, 0, 2, 0], size := ![1, 1, 128, 128], stride := ![1, 1, 16, 1], inb := inb }
      (hw.unread (iblk m c 4 t))) (ix2 i x) = column (valRows W) (rowOf t) (headOf t) x (2 + 16 * i.val) := by
  rw [show 2 + 16 * i.val = (⟨2 + 16 * i.val, by omega⟩ : Fin 2048).val from by show 2 + 16 * i.val = 2 + 16 * i.val; omega, ← value_old A t,
    ← every_sixteenth mr hw (iblk m c 4 t) 2 (by omega) inb i x]
  pointwise [k0_pay43]

theorem value_far3 (mr : Memref sig .tc .vmem S1x1x2048x128 .f32) (hw : mr.IsWhole) (inb) (i x : Fin 128) :
    k0_pay45 (F := Ideal) (mr.view.readAt (Elt Ideal) { off := ![0, 0, 3, 0], size := ![1, 1, 128, 128], stride := ![1, 1, 16, 1], inb := inb }
      (hw.unread (iblk m c 4 t))) (ix2 i x) = column (valRows W) (rowOf t) (headOf t) x (3 + 16 * i.val) := by
  rw [show 3 + 16 * i.val = (⟨3 + 16 * i.val, by omega⟩ : Fin 2048).val from by show 3 + 16 * i.val = 3 + 16 * i.val; omega, ← value_old A t,
    ← every_sixteenth mr hw (iblk m c 4 t) 3 (by omega) inb i x]
  pointwise [k0_pay45]

end Cert.KernelIdeal.Dil
-- ==== Proof.DilWindows.lean ====
module

public import proofs.«01_k».proof.Proof.DilLoads

@[expose] public section

set_option maxRecDepth 16384

noncomputable section

open Idealize.ShloMosaic Idealize.ShloMosaic.TcCoe Idealize.SL.Sem

/-! # The shifted caches

What each grid point writes of the two caches is the last 2048 rows of the reference's long ones, head by head. -/

namespace Cert.ReferenceIdeal.Dil

open Cert.ReferenceIdeal Cert.ReferenceIdeal.Gen Cert.ReferenceIdeal.Value

variable (V0 : Valuation τ sig (Elt Ideal))

/-- The mixed heads, side by side. -/
theorem merged_apply (b : Fin 32) (s : Fin 4) (h : Fin 12) (d : Fin 128) :
    merged V0 (ix3 b s ⟨128 * h.val + d.val, by omega⟩) = mixture V0 (ix4 b s h d) := by
  have e : (⟨128 * h.val + d.val, by omega⟩ : Fin 1536) = ⟨h.val * 128 + d.val, by omega⟩ := Fin.ext (by show 128 * h.val + d.val = h.val * 128 + d.val; omega)
  rw [e]
  pointwise [merged]

/-- The last 2048 rows of a long cache, head by head. -/
abbrev shifted (f : S32x2052x12x128.Idx → EReal) : S32x12x2048x128.Idx → EReal :=
  transpose S32x12x2048x128 [0, 2, 1, 3] (extractStridedSlice S32x2048x12x128 ![0, 4, 0, 0] f slices_S32x2052x12x128_S32x2048x12x128_0_4_0_0)
    transposes_S32x2048x12x128_S32x12x2048x128_0_2_1_3

theorem shifted_apply (f : S32x2052x12x128.Idx → EReal) (b : Fin 32) (h : Fin 12) (i : Fin 2048) (x : Fin 128) :
    shifted f (ix4 b h i x) = f (ix4 b ⟨4 + i.val, by omega⟩ h x) := by
  pointwise [shifted]

end Cert.ReferenceIdeal.Dil

namespace Cert.KernelIdeal.Dil

open Cert.KernelIdeal Cert.KernelIdeal.Gen Cert.ReferenceIdeal.Dil

variable {m : (ℓ : Loc nD τ sig) → Buf (Elt Ideal) ℓ} {c : Dev nD}
  {W : Valuation Cert.ReferenceIdeal.τ Cert.ReferenceIdeal.sig (Elt Ideal)}

/-- A block written in two bands of rows: old rows below, four new ones on top. -/
theorem two_bands (i1 i2) (new : S1x1x4x128.Idx → EReal) (old : S1x1x2044x128.Idx → EReal) (C : ℕ → EReal) (i : Fin 2048) (x : Fin 128)
    (hn : ∀ s : Fin 4, new (ix4 0 0 s x) = C (2048 + s.val)) (ho : ∀ r : Fin 2044, old (ix4 0 0 r x) = C (4 + r.val)) :
    View.canon [(⟨Rect.unit (s := S1x1x2048x128) ![0, 0, 2044, 0] ![1, 1, 4, 128] i1, new⟩ : View.Piece (Elt Ideal) S1x1x2048x128 .f32),
      ⟨Rect.unit (s := S1x1x2048x128) ![0, 0, 0, 0] ![1, 1, 2044, 128] i2, old⟩] (ix4 0 0 i x) = C (4 + i.val) := by
  by_cases h : i.val < 2044
  · rw [View.canon_cons_of_not_mem]
    · have e : (ix4 0 0 i x : S1x1x2048x128.Idx) = (Rect.unit (s := S1x1x2048x128) ![0, 0, 0, 0] ![1, 1, 2044, 128] i2).emb (ix4 0 0 (⟨i.val, h⟩ : Fin 2044) x) := by
        funext a
        refine Fin.ext ?_
        match a with
        | ⟨0, _⟩ => rfl
        | ⟨1, _⟩ => rfl
        | ⟨2, _⟩ => show i.val = 0 + 1 * i.val; omega
        | ⟨3, _⟩ => show x.val = 0 + 1 * x.val; omega
      rw [e, View.canon_cons_emb, ho]
    · intro hm
      obtain ⟨l, hl, he⟩ := (LoadRect.mem_set _).mp hm (2 : Fin 4)
      have he' : i.val = 2044 + 1 * l := he
      omega
  · have e : (ix4 0 0 i x : S1x1x2048x128.Idx) = (Rect.unit (s := S1x1x2048x128) ![0, 0, 2044, 0] ![1, 1, 4, 128] i1).emb (ix4 0 0 (⟨i.val - 2044, by omega⟩ : Fin 4) x) := by
      funext a
      refine Fin.ext ?_
      match a with
      | ⟨0, _⟩ => rfl
      | ⟨1, _⟩ => rfl
      | ⟨2, _⟩ => show i.val = 2044 + 1 * (i.val - 2044); omega
      | ⟨3, _⟩ => show x.val = 0 + 1 * x.val; omega
    rw [e, View.canon_cons_emb, hn]
    exact congrArg C (by show 2048 + (i.val - 2044) = 4 + i.val; omega)

theorem block_place (y : S1x1x2048x128.Idx) : ∃ (i : Fin 2048) (x : Fin 128), y = ix4 0 0 i x := ⟨y 2, y 3, by
  funext a
  match a with
  | ⟨0, _⟩ => exact Subsingleton.elim (α := Fin 1) _ _
  | ⟨1, _⟩ => exact Subsingleton.elim (α := Fin 1) _ _
  | ⟨2, _⟩ => rfl
  | ⟨3, _⟩ => rfl⟩

theorem key_kept (A : Agree m c W) (t : Fin cfg0.N) (inb) (r : Fin 2044) (x : Fin 128) :
    k0_pay2 (F := Ideal) (View.ld (iblk m c 3 t) (Rect.unit (s := S1x1x2048x128) ![0, 0, 4, 0] ![1, 1, 2044, 128] inb)) (ix4 0 0 r x)
      = column (keyRows W) (rowOf t) (headOf t) x (4 + r.val) := by
  rw [← key_old A t ⟨4 + r.val, by omega⟩ x]
  pointwise [k0_pay2]

theorem value_kept (A : Agree m c W) (t : Fin cfg0.N) (inb) (r : Fin 2044) (x : Fin 128) :
    k0_pay3 (F := Ideal) (View.ld (iblk m c 4 t) (Rect.unit (s := S1x1x2048x128) ![0, 0, 4, 0] ![1, 1, 2044, 128] inb)) (ix4 0 0 r x)
      = column (valRows W) (rowOf t) (headOf t) x (4 + r.val) := by
  rw [← value_old A t ⟨4 + r.val, by omega⟩ x]
  pointwise [k0_pay3]

theorem key_joined (A : Agree m c W) (t : Fin cfg0.N) (s : Fin 4) (x : Fin 128) :
    k0_pay4 (F := Ideal) (iblk m c 1 t) (ix4 0 0 s x) = column (keyRows W) (rowOf t) (headOf t) x (2048 + s.val) := by
  rw [← key_new' A t s x]
  pointwise [k0_pay4, k0_pay30]

theorem value_joined (A : Agree m c W) (t : Fin cfg0.N) (s : Fin 4) (x : Fin 128) :
    k0_pay5 (F := Ideal) (iblk m c 2 t) (ix4 0 0 s x) = column (valRows W) (rowOf t) (headOf t) x (2048 + s.val) := by
  rw [← value_new' A t s x]
  pointwise [k0_pay5, k0_pay31, k0_pay26]

/-- Window 9: the keys. -/
theorem final9 (A : Agree m c W) : ((dats m 0 c).arrAt 9 cfg0.N : S32x12x2048x128.Idx → EReal) = shifted (keyRows W) := by
  refine (dats m 0 c).arrAt_eq_of_covers 9 _ (by decide +kernel) fun t _ y => ?_
  blk_simp
  rw [after0_9]
  frame_out
  obtain ⟨i, x, rfl⟩ := block_place y
  have e : ((View.whole main_v41_1).slice (win0_9.rect t)).emb (ix4 0 0 i x) = (ix4 (rowOf t) (headOf t) i x : S32x12x2048x128.Idx) := by
    blk_ext [idx t]
  rw [e, shifted_apply]
  exact (two_bands _ _ _ _ (column (keyRows W) (rowOf t) (headOf t) x) i x (fun s => key_joined A t s x) (fun r => key_kept A t _ r x)).trans
    (column_at _ _ _ _ (by omega))

/-- Window 10: the values. -/
theorem final10 (A : Agree m c W) : ((dats m 0 c).arrAt 10 cfg0.N : S32x12x2048x128.Idx → EReal) = shifted (valRows W) := by
  refine (dats m 0 c).arrAt_eq_of_covers 10 _ (by decide +kernel) fun t _ y => ?_
  blk_simp
  rw [after0_10]
  frame_out
  obtain ⟨i, x, rfl⟩ := block_place y
  have e : ((View.whole main_v41_2).slice (win0_10.rect t)).emb (ix4 0 0 i x) = (ix4 (rowOf t) (headOf t) i x : S32x12x2048x128.Idx) := by
    blk_ext [idx t]
  rw [e, shifted_apply]
  exact (two_bands _ _ _ _ (column (valRows W) (rowOf t) (headOf t) x) i x (fun s => value_joined A t s x) (fun r => value_kept A t _ r x)).trans
    (column_at _ _ _ _ (by omega))

end Cert.KernelIdeal.Dil
-- ==== Proof.DilFinal.lean ====
module

public import proofs.«01_k».proof.Proof.DilWindows

@[expose] public section

set_option maxRecDepth 16384

noncomputable section

open Idealize.ShloMosaic Idealize.ShloMosaic.TcCoe Idealize.SL.Sem

/-! # The kernel's mixed heads

What each grid point writes of the mixed heads is the reference's mixture of its batch row and head. -/

namespace Cert.KernelIdeal.Dil

open Cert.KernelIdeal Cert.KernelIdeal.Gen Cert.ReferenceIdeal.Dil Cert.Window

variable {m : (ℓ : Loc nD τ sig) → Buf (Elt Ideal) ℓ} {c : Dev nD}
  {W : Valuation Cert.ReferenceIdeal.τ Cert.ReferenceIdeal.sig (Elt Ideal)}

theorem column_congr (f : Cert.ReferenceIdeal.S32x2052x12x128.Idx → EReal) (b : Fin 32) (h : Fin 12) (x : Fin 128) (i i' : ℕ) (e : i = i') :
    column f b h x i = column f b h x i' := by rw [e]

theorem entry_bias (A : Agree m c W) (h : Fin 12) (n : ℕ) (hn : n < 2049) :
    entry (table m c) h ⟨n, hn⟩ = (biases W : Cert.ReferenceIdeal.S32x12.Idx → EReal) (ix2 ⟨bucket n, bucket_lt ⟨n, hn⟩⟩ h) := by
  rw [biases_apply, A.b]

/-- The queries, the keys and the biases that reach a score are real. -/
structure RealScores (W : Valuation Cert.ReferenceIdeal.τ Cert.ReferenceIdeal.sig (Elt Ideal)) : Prop where
  q : ∀ i, ∃ r : ℝ, (queries W : Cert.ReferenceIdeal.S32x4x12x128.Idx → EReal) i = r
  k : ∀ i, ∃ r : ℝ, (keyRows W : Cert.ReferenceIdeal.S32x2052x12x128.Idx → EReal) i = r
  b : ∀ i, ∃ r : ℝ, (biases W : Cert.ReferenceIdeal.S32x12.Idx → EReal) i = r

/-- Window 8: the mixed heads. -/
theorem final8 (A : Agree m c W) (H : RealScores W) : ((dats m 0 c).arrAt 8 cfg0.N : S32x4x1536.Idx → EReal) = merged W := by
  refine (dats m 0 c).arrAt_eq_of_covers 8 _ (by decide +kernel) fun t _ y => ?_
  blk_simp
  rw [after0_8]
  unfold outsAt0
  dsimp only
  frame_open
  simp (disch := decide) only [↓ View.readCov_skip, ↓ View.readCov_cons_toLoadRect, ↓ View.readCov_fill]
  frame_out
  obtain ⟨s, d, rfl⟩ : ∃ (s : Fin 4) (d : Fin 128), y = ix3 0 s d := ⟨y 1, y 2, by
    funext a
    match a with
    | ⟨0, _⟩ => exact Subsingleton.elim (α := Fin 1) _ _
    | ⟨1, _⟩ => rfl
    | ⟨2, _⟩ => rfl⟩
  have e : ((View.whole main_v41_0).slice (win0_8.rect t)).emb (ix3 0 s d)
      = (ix3 (rowOf t) s ⟨128 * (headOf t).val + d.val, by omega⟩ : S32x4x1536.Idx) := by
    blk_ext [idx t]
  rw [e]
  have g : merged W (ix3 (rowOf t) s ⟨128 * (headOf t).val + d.val, by omega⟩) = mixture W (ix4 (rowOf t) s (headOf t) d) := by
    exact merged_apply W _ _ _ _
  rw [g, mixture_eq]
  refine (block_eq _ _ _ _ _ _ _ _ _ _ s d
    (fun x => queries W (ix4 (rowOf t) s (headOf t) x))
    (fun j x => keyRows W (ix4 (rowOf t) ⟨2048 + s.val - j.val, by omega⟩ (headOf t) x))
    (fun j x => keyRows W (ix4 (rowOf t) ⟨2048 + s.val - 4 * j.val, by omega⟩ (headOf t) x))
    (fun j x => keyRows W (ix4 (rowOf t) ⟨2048 + s.val - 16 * j.val, by omega⟩ (headOf t) x))
    (fun j => biases W (ix2 ⟨bucket j.val, bucket_lt ⟨j.val, by omega⟩⟩ (headOf t)))
    (fun j => biases W (ix2 ⟨bucket (4 * j.val), bucket_lt ⟨4 * j.val, by omega⟩⟩ (headOf t)))
    (fun j => biases W (ix2 ⟨bucket (16 * j.val), bucket_lt ⟨16 * j.val, by omega⟩⟩ (headOf t)))
    (fun j => valRows W (ix4 (rowOf t) ⟨2048 + s.val - j.val, by omega⟩ (headOf t) d))
    (fun j => valRows W (ix4 (rowOf t) ⟨2048 + s.val - 4 * j.val, by omega⟩ (headOf t) d))
    (fun j => valRows W (ix4 (rowOf t) ⟨2048 + s.val - 16 * j.val, by omega⟩ (headOf t) d))
    (fun _ => H.q _) (fun _ _ => H.k _) (fun _ _ => H.k _) (fun _ _ => H.k _) (fun _ => H.b _) (fun _ => H.b _) (fun _ => H.b _)
    ?hq ?hk1 ?hk4 ?hk16 ?hb1 ?hb4 ?hb16 ?o1 ?o4 ?o16 ?hv1 ?hv4 ?hv16).trans ?fin
  case fin =>
    rw [held_one_eq, held_four_eq, held_far_eq]
  case hq =>
    intro x
    exact (load_query _ _ _ s x).trans (query_load A t s x)
  case hk1 =>
    intro j x
    refine (stack_one _ s j x _ (column_congr (keyRows W) (rowOf t) (headOf t) x) _ _ _ _ (fun i => key_near A t _ i x) (fun i => key_new A t i x)).trans ?_
    exact column_at _ _ _ _ (by omega)
  case hk4 =>
    intro j x
    refine (stack_four _ s j x _ (column_congr (keyRows W) (rowOf t) (headOf t) x) _ _ _ _ (fun i => key_mid A t _ i x) (fun i => key_new' A t i x)).trans ?_
    exact column_at _ _ _ _ (by omega)
  case hk16 =>
    intro j x
    refine (stack_far _ s j x _ (column_congr (keyRows W) (rowOf t) (headOf t) x) _ _ _ _ _ _ (fun i => key_far0 A t _ _ _ i x)
      (fun i => key_far1 A t _ _ _ i x) (fun i => key_far2 A t _ _ _ i x) (fun i => key_far3 A t _ _ _ i x) (fun i => key_new' A t i x)).trans ?_
    exact column_at _ _ _ _ (by omega)
  case hv1 =>
    intro j
    refine (stack_one _ s j d _ (column_congr (valRows W) (rowOf t) (headOf t) d) _ _ _ _ (fun i => value_near A t _ i d) (fun i => value_new A t i d)).trans ?_
    exact column_at _ _ _ _ (by omega)
  case hv4 =>
    intro j
    refine (stack_four _ s j d _ (column_congr (valRows W) (rowOf t) (headOf t) d) _ _ _ _ (fun i => value_mid A t _ i d) (fun i => value_new' A t i d)).trans ?_
    exact column_at _ _ _ _ (by omega)
  case hv16 =>
    intro j
    refine (stack_far _ s j d _ (column_congr (valRows W) (rowOf t) (headOf t) d) _ _ _ _ _ _ (fun i => value_far0 A t _ _ _ i d)
      (fun i => value_far1 A t _ _ _ i d) (fun i => value_far2 A t _ _ _ i d) (fun i => value_far3 A t _ _ _ i d) (fun i => value_new' A t i d)).trans ?_
    exact column_at _ _ _ _ (by omega)
  case hb1 =>
    intro j
    exact (blk5 m c t _ _).trans ((bias_one_on m c _ s j).trans (entry_bias A _ _ _))
  case hb4 =>
    intro j
    exact (blk6 m c t _ _).trans ((bias_four_on m c _ s j).trans (entry_bias A _ _ _))
  case hb16 =>
    intro j
    exact (blk7 m c t _ _).trans ((bias_far_on m c _ s j).trans (entry_bias A _ _ _))
  case o1 =>
    intro i hi
    exact (blk5 m c t _ _).trans (bias_one_off m c _ s i hi)
  case o4 =>
    intro i hi
    exact (blk6 m c t _ _).trans (bias_four_off m c _ s i hi)
  case o16 =>
    intro i hi
    exact (blk7 m c t _ _).trans (bias_far_off m c _ s i hi)

end Cert.KernelIdeal.Dil
-- ==== Proof.DilatedValue.lean ====
module

public import proofs.«01_k».proof.Proof.Gen.Kernel.Frame
public import proofs.«01_k».proof.Proof.Gen.KernelIdeal.Value
public import proofs.«01_k».proof.Proof.Gen.ReferenceIdeal.Run
public import proofs.«01_k».proof.Defs
public import proofs.«01_k».proof.Proof.DilFinal
public import proofs.«01_k».proof.Proof.DilPre

@[expose] public section

set_option maxRecDepth 16384

noncomputable section

open Idealize.ShloMosaic Idealize.ShloMosaic.TcCoe Idealize.SL.Sem

namespace Cert.DilatedProof

theorem kernel_frame : Cert.quiescent_Kernel := fun m ρ _ => Cert.Kernel.Gen.frame m ρ
theorem ideal_frame : Cert.quiescent_KernelIdeal := fun m ρ _ => Cert.KernelIdeal.Gen.frame m ρ
theorem reference_frame : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem ideal_frame_pre : Cert.quiescent_KernelIdeal_pre_finite_scores := fun m ρ _ => ideal_frame m ρ trivial
theorem reference_frame_pre : Cert.quiescent_ReferenceIdeal_pre_finite_scores := fun m ρ _ => reference_frame m ρ trivial

theorem same_program : Cert.preserves_Kernel_KernelIdeal := trivial

open Cert.KernelIdeal.Dil Cert.ReferenceIdeal.Dil Idealize.ShloMosaic.StableHlo

/-- What the precondition makes real, as the reference lays it out. -/
theorem real_of_pre (W : Valuation Cert.ReferenceIdeal.τ Cert.ReferenceIdeal.sig (Elt Ideal))
    (v : Cert.ReferenceIdeal.S32x2048x12x128.Idx → EReal)
    (h : Cert.Pre_finite_scores.fn (F := Ideal) (packed W) (oldKeys W) v (biasTable W) = fun _ => 1#1) : RealScores W := by
  obtain ⟨hx, hk, hb⟩ := finite_all (packed W) (oldKeys W) v (biasTable W) h
  refine ⟨fun i => ?_, fun i => ?_, fun i => ?_⟩
  · obtain ⟨b, s, h, x, rfl⟩ : ∃ (b : Fin 32) (s : Fin 4) (h : Fin 12) (x : Fin 128), i = ix4 b s h x := ⟨i 0, i 1, i 2, i 3, by
      funext a
      match a with
      | ⟨0, _⟩ => rfl
      | ⟨1, _⟩ => rfl
      | ⟨2, _⟩ => rfl
      | ⟨3, _⟩ => rfl⟩
    obtain ⟨y, hy⟩ := hx ⟨4 * b.val + s.val, by omega⟩ ⟨128 * h.val + x.val, by omega⟩
    exact ⟨y, (queries_apply W b s h x).trans ((at_two _ rfl (by show 3584 + 128 * h.val + x.val = 3584 + (128 * h.val + x.val); omega)).trans hy)⟩
  · obtain ⟨b, r, h, x, rfl⟩ : ∃ (b : Fin 32) (r : Fin 2052) (h : Fin 12) (x : Fin 128), i = ix4 b r h x := ⟨i 0, i 1, i 2, i 3, by
      funext a
      match a with
      | ⟨0, _⟩ => rfl
      | ⟨1, _⟩ => rfl
      | ⟨2, _⟩ => rfl
      | ⟨3, _⟩ => rfl⟩
    by_cases hr : r.val < 2048
    · obtain ⟨y, hy⟩ := hk (ix4 b ⟨r.val, hr⟩ h x)
      exact ⟨y, (keyRows_old W b ⟨r.val, hr⟩ h x).trans hy⟩
    · obtain ⟨y, hy⟩ := hx ⟨4 * b.val + (r.val - 2048), by omega⟩ ⟨1536 + 128 * h.val + x.val, by omega⟩
      refine ⟨y, Eq.trans ?_ ((keyRows_new W b ⟨r.val - 2048, by omega⟩ h x).trans ((at_two _ rfl (by show 5120 + 128 * h.val + x.val = 3584 + (1536 + 128 * h.val + x.val); omega)).trans hy))⟩
      rw [show (⟨2048 + (r.val - 2048), by omega⟩ : Fin 2052) = r from Fin.ext (by show 2048 + (r.val - 2048) = r.val; omega)]
  · obtain ⟨n, h, rfl⟩ : ∃ (n : Fin 32) (h : Fin 12), i = ix2 n h := ⟨i 0, i 1, by
      funext a
      match a with
      | ⟨0, _⟩ => rfl
      | ⟨1, _⟩ => rfl⟩
    obtain ⟨y, hy⟩ := hb n h
    exact ⟨y, (biases_apply W n h).trans hy⟩

/-- Over the reals the kernel's mixed heads and its two shifted caches are the reference's. -/
theorem values_agree : Cert.algebraic_KernelIdeal_ReferenceIdeal_pre_finite_scores := by
  intro m ρ m' ρ' hpre hagree
  have A : ∀ c, Agree m c (launchContents m' c) := fun c => ⟨(hagree c).1, (hagree c).2.1, (hagree c).2.2.1, (hagree c).2.2.2⟩
  have H : ∀ c, RealScores (launchContents m' c) := fun c => real_of_pre _ (inV m c) (by
    rw [(A c).x, (A c).k, (A c).b]
    exact hpre c)
  refine ⟨fun c => merged (launchContents m' c), fun c => shifted (keyRows (launchContents m' c)),
    fun c => shifted (valRows (launchContents m' c)), ?_, ?_⟩
  · exact (θ_run Cert.KernelIdeal.defs _ _).mono (fun r h c => ⟨(h c).1.trans (final8 (A c) (H c)), (h c).2.1.trans (final9 (A c)),
      (h c).2.2.1.trans (final10 (A c)), (h c).2.2.2⟩) (Cert.KernelIdeal.Value.run_blocks m ρ)
  · exact (θ_run Cert.ReferenceIdeal.defs _ _).mono (fun r h c => h c) (Cert.ReferenceIdeal.Value.run (F := Ideal) m' ρ')

end Cert.DilatedProof
-- ==== Proof.QkvPromptValue.lean ====
module

public import proofs.«01_k».proof.Proof.Gen.QkvPrompt.Frame
public import proofs.«01_k».proof.Proof.Gen.QkvPromptIdeal.Frame
public import proofs.«01_k».proof.Proof.Gen.QkvPromptRefIdeal.Run
public import proofs.«01_k».proof.Defs
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

/-! # The first product of the prompt's attention layer, and the window of keys and values cut from it

The kernel lays the sequences under one another, takes the product block by block, and lays the rows
apart again; the last 128 positions of two column ranges are the new key and value window. -/

namespace Cert.QkvPromptRefIdeal.Product

open Cert.QkvPromptRefIdeal Cert.QkvPromptRefIdeal.Gen

variable (x : FVec Ideal S4x2048x4096 .f32) (w : FVec Ideal S4096x8192 .f32)

/-- The product the reference takes, sequence by sequence. -/
abbrev product : FVec Ideal S4x2048x8192 .f32 :=
  Host.dotGeneral dot_S4x2048x4096_S4096x8192_S4x2048x8192_2_0_01_1_n_n none x w

/-- The keys of the last 128 positions. -/
abbrev lastKeys : FVec Ideal S4x128x4x128 .f32 :=
  extractStridedSlice S4x128x4x128 ![0, 1920, 0, 0] (shapeCast _ (extractStridedSlice S4x2048x512 ![0, 0, 2560] (product x w) slices_S4x2048x8192_S4x2048x512_0_0_2560) shapeCasts_S4x2048x512_S4x2048x4x128) slices_S4x2048x4x128_S4x128x4x128_0_1920_0_0

/-- The values of the last 128 positions. -/
abbrev lastValues : FVec Ideal S4x128x4x128 .f32 :=
  extractStridedSlice S4x128x4x128 ![0, 1920, 0, 0] (shapeCast _ (extractStridedSlice S4x2048x512 ![0, 0, 3072] (product x w) slices_S4x2048x8192_S4x2048x512_0_0_3072) shapeCasts_S4x2048x512_S4x2048x4x128) slices_S4x2048x4x128_S4x128x4x128_0_1920_0_0

end Cert.QkvPromptRefIdeal.Product

namespace Cert.QkvPromptIdeal.Product

open Cert.QkvPromptIdeal Cert.QkvPromptIdeal.Gen Cert.QkvPromptRefIdeal.Product

variable (m : (ℓ : Loc nD τ sig) → Buf (Elt Ideal) ℓ)

/-- The arguments on a device. -/
abbrev inX (c : Dev nD) : FVec Ideal S4x2048x4096 .f32 := m ((c : Thread nD τ).loc main_arg0)
abbrev inW (c : Dev nD) : FVec Ideal S4096x8192 .f32 := m ((c : Thread nD τ).loc main_arg1)

theorem flatten_fact : S4x2048x8192.ShapeCasts S8192x8192 := by decide

/-- The product with the sequences laid under one another. -/
abbrev flat (c : Dev nD) : FVec Ideal S8192x8192 .f32 := shapeCast S8192x8192 (product (inX m c) (inW m c)) flatten_fact

/-- Which block of each array a grid point reads or writes. -/
theorem idx : ∀ t : Fin cfg0.N, win0_0.index t = ![t.val / 16, 0]
    ∧ win0_1.index t = ![0, t.val % 16]
    ∧ win0_2.index t = ![t.val / 16, t.val % 16] :=
  (by decide +kernel : ∀ t : Fin grid0.N, _)

/-- The call's first operand is the sequences laid under one another. -/
theorem operand (c : Dev nD) (i : S8192x4096.Idx) : V0 m c (Proc.devRef .tc main_v1) i
    = shapeCast S8192x4096 (inX m c) shapeCasts_S4x2048x4096_S8192x4096 i := by
  unfold V0
  simp only [hostOps0, List.flatten_cons, List.flatten_nil, List.append_nil]
  after_results_simp; rfl

theorem operand_at (c : Dev nD) (i : S8192x4096.Idx) : V0 m c (Proc.devRef .tc main_v1) i
    = inX m c (ix3 ⟨(i 0).val / 2048, by have := (i 0).isLt; change _ < 8192 at this; omega⟩ ⟨(i 0).val % 2048, by omega⟩ (i 1)) := by
  rw [operand]
  pointwise

/-- Each entry of the block a grid point writes is the entry of the whole product at that place. -/
theorem point (c : Dev nD) (t : Fin cfg0.N) (y) :
    k0_pay1 (iblk m c 0 t) (iblk m c 1 t) y = flat m c (((cfg0.win 2).blk t).view.emb y) := by
  pointwise [k0_pay1, flat, product]; blk_simp [iblk, V, idx t]
  refine Finset.sum_congr rfl fun x _ => ?_
  refine congrArg₂ (· * ·) ((operand_at m c _).trans (congrArg (inX m c) ?_)) (congrArg (inW m c) ?_)
  · blk_ext [idx t]
  · blk_ext [idx t]

/-- The array the kernel call returns is the whole product. -/
theorem final (c : Dev nD) : (dats m 0 c).arrAt 2 cfg0.N = flat m c := by
  refine (dats m 0 c).arrAt_eq_of_covers 2 _ (by decide +kernel) fun t _ y => ?_
  blk_simp; rw [after0_2]; frame_out
  exact point m c t y

/-- The array the call returns, as the operations after it find it. -/
theorem found (c : Dev nD) : Pipeline.withArrays (cfgs 0).spec c (V0 m c) (fun w => (dats m 0 c).arrAt w (cfgs 0).N)
    (Proc.devRef .tc main_v2) = flat m c :=
  (Pipeline.withArrays_arr spec0 launch0.win.arr_inj c _ _ 2).trans (final m c)

/-- The product, laid apart again. -/
theorem tail_product (c : Dev nD) : Pipeline.afterTail₀ cfgs (dats m) 0 (V0 m) [hostOps1] c main_v3 = product (inX m c) (inW m c) := by
  unfold Pipeline.afterTail₀
  simp only [hostOps1, List.flatten_cons, List.flatten_nil, List.append_nil]; after_results_simp
  rw [found]
  funext i
  pointwise [flat]

/-- The window of keys cut from it. -/
theorem tail_keys (c : Dev nD) : Pipeline.afterTail₀ cfgs (dats m) 0 (V0 m) [hostOps1] c main_v6 = lastKeys (inX m c) (inW m c) := by
  unfold Pipeline.afterTail₀
  simp only [hostOps1, List.flatten_cons, List.flatten_nil, List.append_nil]; after_results_simp
  rw [found]
  funext i
  pointwise [flat, lastKeys]

/-- The window of values cut from it. -/
theorem tail_values (c : Dev nD) : Pipeline.afterTail₀ cfgs (dats m) 0 (V0 m) [hostOps1] c main_v9 = lastValues (inX m c) (inW m c) := by
  unfold Pipeline.afterTail₀
  simp only [hostOps1, List.flatten_cons, List.flatten_nil, List.append_nil]; after_results_simp
  rw [found]
  funext i
  pointwise [flat, lastValues]

end Cert.QkvPromptIdeal.Product

namespace Cert.QkvPromptIdeal.Product

open Cert.QkvPromptIdeal Cert.QkvPromptIdeal.Gen Cert.QkvPromptRefIdeal.Product

/-- The run, its three results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = product (inX m c) (inW m c)
      ∧ r.2.mem ((c.tc : Thread nD τ).loc main_v6) = lastKeys (inX m c) (inW m c)
      ∧ r.2.mem ((c.tc : Thread nD τ).loc main_v9) = lastValues (inX m c) (inW m c) :=
  (θ_run defs _ _).mono (fun r h c =>
        ⟨((h c).2 main_v3 (Pipeline.mem_restRefs_of main_v3 (by decide) (by decide))).trans (tail_product m c),
         ((h c).2 main_v6 (Pipeline.mem_restRefs_of main_v6 (by decide) (by decide))).trans (tail_keys m c),
         ((h c).2 main_v9 (Pipeline.mem_restRefs_of main_v9 (by decide) (by decide))).trans (tail_values m c)⟩) (run_main m ρ)

/-- The same, with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = product (inX m c) (inW m c)
      ∧ r.2.mem ((c.tc : Thread nD τ).loc main_v6) = lastKeys (inX m c) (inW m c)
      ∧ r.2.mem ((c.tc : Thread nD τ).loc main_v9) = lastValues (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1, (h.1 c).2.1, (h.1 c).2.2, h.2 c⟩)
    (θ_run_and (run_results m ρ) (unchanged m ρ))

end Cert.QkvPromptIdeal.Product

namespace Cert.QkvPromptProof

theorem kernel_frame : Cert.quiescent_QkvPrompt := fun m ρ _ => Cert.QkvPrompt.Gen.frame m ρ
theorem ideal_frame : Cert.quiescent_QkvPromptIdeal := fun m ρ _ => Cert.QkvPromptIdeal.Gen.frame m ρ
theorem reference_frame : Cert.quiescent_QkvPromptRefIdeal := fun m ρ _ =>
  (θ_run Cert.QkvPromptRefIdeal.defs _ _).mono (fun r h => ⟨fun c => (h c).2.2.2, Idealize.ShloMosaic.sem_eq_zero_of_no_sems (by decide) r.2⟩)
    (Cert.QkvPromptRefIdeal.Value.run (F := Ideal) m ρ)

theorem same_program : Cert.preserves_QkvPrompt_QkvPromptIdeal := trivial

/-- Over the reals the kernel's results and the reference's are the same arrays. -/
theorem values_agree : Cert.algebraic_QkvPromptIdeal_QkvPromptRefIdeal := by
  intro m ρ m' ρ' _ hagree
  refine ⟨fun c => Cert.QkvPromptRefIdeal.Product.product (Cert.QkvPromptIdeal.Product.inX m c) (Cert.QkvPromptIdeal.Product.inW m c),
    fun c => Cert.QkvPromptRefIdeal.Product.lastKeys (Cert.QkvPromptIdeal.Product.inX m c) (Cert.QkvPromptIdeal.Product.inW m c),
    fun c => Cert.QkvPromptRefIdeal.Product.lastValues (Cert.QkvPromptIdeal.Product.inX m c) (Cert.QkvPromptIdeal.Product.inW m c), ?_, ?_⟩
  · exact Cert.QkvPromptIdeal.Product.run m ρ
  · refine (θ_run Cert.QkvPromptRefIdeal.defs _ _).mono (fun r h c => ⟨(h c).1.trans ?_, (h c).2.1.trans ?_, (h c).2.2.1.trans ?_, (h c).2.2.2⟩)
      (Cert.QkvPromptRefIdeal.Value.run (F := Ideal) m' ρ')
    all_goals rw [(hagree c).1, (hagree c).2]

end Cert.QkvPromptProof
-- ==== Proof.QkvSampleValue.lean ====
module

public import proofs.«01_k».proof.Proof.Gen.QkvSample.Frame
public import proofs.«01_k».proof.Proof.Gen.QkvSampleIdeal.Frame
public import proofs.«01_k».proof.Proof.Gen.QkvSampleRefIdeal.Run
public import proofs.«01_k».proof.Defs
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

/-! # The first product of the sample group's attention layer, and the window of keys and values cut from it

The kernel lays the sequences under one another, takes the product block by block, and lays the rows
apart again; two column ranges are appended to the key and value windows, the oldest positions dropped. -/

namespace Cert.QkvSampleRefIdeal.Product

open Cert.QkvSampleRefIdeal Cert.QkvSampleRefIdeal.Gen

variable (x : FVec Ideal S32x4x4096 .f32) (w : FVec Ideal S4096x8192 .f32)

/-- The product the reference takes, sequence by sequence. -/
abbrev product : FVec Ideal S32x4x8192 .f32 :=
  Host.dotGeneral dot_S32x4x4096_S4096x8192_S32x4x8192_2_0_01_1_n_n none x w

/-- The window of keys, moved on by the new positions. -/
abbrev lastKeys (a : FVec Ideal S32x128x4x128 .f32) : FVec Ideal S32x128x4x128 .f32 :=
  extractStridedSlice S32x128x4x128 ![0, 4, 0, 0] (concatenate S32x132x4x128 1 [⟨S32x128x4x128, a⟩, ⟨S32x4x4x128, (shapeCast _ (extractStridedSlice S32x4x512 ![0, 0, 2560] (product x w) slices_S32x4x8192_S32x4x512_0_0_2560) shapeCasts_S32x4x512_S32x4x4x128)⟩] concatenates_S32x128x4x128_S32x4x4x128_S32x132x4x128_d1) slices_S32x132x4x128_S32x128x4x128_0_4_0_0

/-- The window of values, moved on by the new positions. -/
abbrev lastValues (a : FVec Ideal S32x128x4x128 .f32) : FVec Ideal S32x128x4x128 .f32 :=
  extractStridedSlice S32x128x4x128 ![0, 4, 0, 0] (concatenate S32x132x4x128 1 [⟨S32x128x4x128, a⟩, ⟨S32x4x4x128, (shapeCast _ (extractStridedSlice S32x4x512 ![0, 0, 3072] (product x w) slices_S32x4x8192_S32x4x512_0_0_3072) shapeCasts_S32x4x512_S32x4x4x128)⟩] concatenates_S32x128x4x128_S32x4x4x128_S32x132x4x128_d1) slices_S32x132x4x128_S32x128x4x128_0_4_0_0

end Cert.QkvSampleRefIdeal.Product

namespace Cert.QkvSampleIdeal.Product

open Cert.QkvSampleIdeal Cert.QkvSampleIdeal.Gen Cert.QkvSampleRefIdeal.Product

variable (m : (ℓ : Loc nD τ sig) → Buf (Elt Ideal) ℓ)

/-- The arguments on a device. -/
abbrev inX (c : Dev nD) : FVec Ideal S32x4x4096 .f32 := m ((c : Thread nD τ).loc main_arg0)
abbrev inW (c : Dev nD) : FVec Ideal S4096x8192 .f32 := m ((c : Thread nD τ).loc main_arg1)
abbrev inK (c : Dev nD) : FVec Ideal S32x128x4x128 .f32 := m ((c : Thread nD τ).loc main_arg2)
abbrev inV (c : Dev nD) : FVec Ideal S32x128x4x128 .f32 := m ((c : Thread nD τ).loc main_arg3)

theorem flatten_fact : S32x4x8192.ShapeCasts S128x8192 := by decide

/-- The product with the sequences laid under one another. -/
abbrev flat (c : Dev nD) : FVec Ideal S128x8192 .f32 := shapeCast S128x8192 (product (inX m c) (inW m c)) flatten_fact

/-- Which block of each array a grid point reads or writes. -/
theorem idx : ∀ t : Fin cfg0.N, win0_0.index t = ![0, 0]
    ∧ win0_1.index t = ![0, t.val]
    ∧ win0_2.index t = ![0, t.val] :=
  (by decide +kernel : ∀ t : Fin grid0.N, _)

/-- The call's first operand is the sequences laid under one another. -/
theorem operand (c : Dev nD) (i : S128x4096.Idx) : V0 m c (Proc.devRef .tc main_v1) i
    = shapeCast S128x4096 (inX m c) shapeCasts_S32x4x4096_S128x4096 i := by
  unfold V0
  simp only [hostOps0, List.flatten_cons, List.flatten_nil, List.append_nil]
  after_results_simp; rfl

theorem operand_at (c : Dev nD) (i : S128x4096.Idx) : V0 m c (Proc.devRef .tc main_v1) i
    = inX m c (ix3 ⟨(i 0).val / 4, by have := (i 0).isLt; change _ < 128 at this; omega⟩ ⟨(i 0).val % 4, by omega⟩ (i 1)) := by
  rw [operand]
  pointwise

/-- Each entry of the block a grid point writes is the entry of the whole product at that place. -/
theorem point (c : Dev nD) (t : Fin cfg0.N) (y) :
    k0_pay1 (iblk m c 0 t) (iblk m c 1 t) y = flat m c (((cfg0.win 2).blk t).view.emb y) := by
  pointwise [k0_pay1, flat, product]; blk_simp [iblk, V, idx t]
  refine Finset.sum_congr rfl fun x _ => ?_
  refine congrArg₂ (· * ·) ((operand_at m c _).trans (congrArg (inX m c) ?_)) (congrArg (inW m c) ?_)
  · blk_ext [idx t]
  · blk_ext [idx t]

/-- The array the kernel call returns is the whole product. -/
theorem final (c : Dev nD) : (dats m 0 c).arrAt 2 cfg0.N = flat m c := by
  refine (dats m 0 c).arrAt_eq_of_covers 2 _ (by decide +kernel) fun t _ y => ?_
  blk_simp; rw [after0_2]; frame_out
  exact point m c t y

/-- The array the call returns, as the operations after it find it. -/
theorem found (c : Dev nD) : Pipeline.withArrays (cfgs 0).spec c (V0 m c) (fun w => (dats m 0 c).arrAt w (cfgs 0).N)
    (Proc.devRef .tc main_v2) = flat m c :=
  (Pipeline.withArrays_arr spec0 launch0.win.arr_inj c _ _ 2).trans (final m c)

/-- The windows of keys and values, which the call leaves alone. -/
theorem found_keys (c : Dev nD) : Pipeline.withArrays (cfgs 0).spec c (V0 m c) (fun w => (dats m 0 c).arrAt w (cfgs 0).N)
    (Proc.devRef .tc main_arg2) = inK m c :=
  (Pipeline.withArrays_of_ne _ c (V0 m c) _ main_arg2 (by exact (by decide : ∀ w, Pipeline.arrRef spec0 w ≠ main_arg2))).trans (V_main_arg2 m c)
theorem found_values (c : Dev nD) : Pipeline.withArrays (cfgs 0).spec c (V0 m c) (fun w => (dats m 0 c).arrAt w (cfgs 0).N)
    (Proc.devRef .tc main_arg3) = inV m c :=
  (Pipeline.withArrays_of_ne _ c (V0 m c) _ main_arg3 (by exact (by decide : ∀ w, Pipeline.arrRef spec0 w ≠ main_arg3))).trans (V_main_arg3 m c)

/-- The product, laid apart again. -/
theorem tail_product (c : Dev nD) : Pipeline.afterTail₀ cfgs (dats m) 0 (V0 m) [hostOps1] c main_v3 = product (inX m c) (inW m c) := by
  unfold Pipeline.afterTail₀
  simp only [hostOps1, List.flatten_cons, List.flatten_nil, List.append_nil]; after_results_simp
  rw [found]
  funext i
  pointwise [flat]

/-- The window of keys cut from it. -/
theorem tail_keys (c : Dev nD) : Pipeline.afterTail₀ cfgs (dats m) 0 (V0 m) [hostOps1] c main_v7 = lastKeys (inX m c) (inW m c) (inK m c) := by
  unfold Pipeline.afterTail₀
  simp only [hostOps1, List.flatten_cons, List.flatten_nil, List.append_nil]; after_results
  rw [found, found_keys]
  funext i
  pointwise [flat, lastKeys]
  refine dite_congr (propext ⟨fun h => by omega, fun h => by omega⟩) (fun _ => rfl) fun _ => Finset.sum_congr rfl fun x _ => ?_
  exact congrArg (fun z => inX m c (ix3 (i 0) z x) * _) (Fin.ext (show (i 1).val - 124 = 4 + (i 1).val - 128 by omega))

/-- The window of values cut from it. -/
theorem tail_values (c : Dev nD) : Pipeline.afterTail₀ cfgs (dats m) 0 (V0 m) [hostOps1] c main_v11 = lastValues (inX m c) (inW m c) (inV m c) := by
  unfold Pipeline.afterTail₀
  simp only [hostOps1, List.flatten_cons, List.flatten_nil, List.append_nil]; after_results
  rw [found, found_values]
  funext i
  pointwise [flat, lastValues]
  refine dite_congr (propext ⟨fun h => by omega, fun h => by omega⟩) (fun _ => rfl) fun _ => Finset.sum_congr rfl fun x _ => ?_
  exact congrArg (fun z => inX m c (ix3 (i 0) z x) * _) (Fin.ext (show (i 1).val - 124 = 4 + (i 1).val - 128 by omega))

end Cert.QkvSampleIdeal.Product

namespace Cert.QkvSampleIdeal.Product

open Cert.QkvSampleIdeal Cert.QkvSampleIdeal.Gen Cert.QkvSampleRefIdeal.Product

/-- The run, its three results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = product (inX m c) (inW m c)
      ∧ r.2.mem ((c.tc : Thread nD τ).loc main_v7) = lastKeys (inX m c) (inW m c) (inK m c)
      ∧ r.2.mem ((c.tc : Thread nD τ).loc main_v11) = lastValues (inX m c) (inW m c) (inV m c) :=
  (θ_run defs _ _).mono (fun r h c =>
        ⟨((h c).2 main_v3 (Pipeline.mem_restRefs_of main_v3 (by decide) (by decide))).trans (tail_product m c),
         ((h c).2 main_v7 (Pipeline.mem_restRefs_of main_v7 (by decide) (by decide))).trans (tail_keys m c),
         ((h c).2 main_v11 (Pipeline.mem_restRefs_of main_v11 (by decide) (by decide))).trans (tail_values m c)⟩) (run_main m ρ)

/-- The same, with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = product (inX m c) (inW m c)
      ∧ r.2.mem ((c.tc : Thread nD τ).loc main_v7) = lastKeys (inX m c) (inW m c) (inK m c)
      ∧ r.2.mem ((c.tc : Thread nD τ).loc main_v11) = lastValues (inX m c) (inW m c) (inV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1, (h.1 c).2.1, (h.1 c).2.2, h.2 c⟩)
    (θ_run_and (run_results m ρ) (unchanged m ρ))

end Cert.QkvSampleIdeal.Product

namespace Cert.QkvSampleProof

theorem kernel_frame : Cert.quiescent_QkvSample := fun m ρ _ => Cert.QkvSample.Gen.frame m ρ
theorem ideal_frame : Cert.quiescent_QkvSampleIdeal := fun m ρ _ => Cert.QkvSampleIdeal.Gen.frame m ρ
theorem reference_frame : Cert.quiescent_QkvSampleRefIdeal := fun m ρ _ =>
  (θ_run Cert.QkvSampleRefIdeal.defs _ _).mono (fun r h => ⟨fun c => (h c).2.2.2, Idealize.ShloMosaic.sem_eq_zero_of_no_sems (by decide) r.2⟩)
    (Cert.QkvSampleRefIdeal.Value.run (F := Ideal) m ρ)

theorem same_program : Cert.preserves_QkvSample_QkvSampleIdeal := trivial

/-- Over the reals the kernel's results and the reference's are the same arrays. -/
theorem values_agree : Cert.algebraic_QkvSampleIdeal_QkvSampleRefIdeal := by
  intro m ρ m' ρ' _ hagree
  refine ⟨fun c => Cert.QkvSampleRefIdeal.Product.product (Cert.QkvSampleIdeal.Product.inX m c) (Cert.QkvSampleIdeal.Product.inW m c),
    fun c => Cert.QkvSampleRefIdeal.Product.lastKeys (Cert.QkvSampleIdeal.Product.inX m c) (Cert.QkvSampleIdeal.Product.inW m c) (Cert.QkvSampleIdeal.Product.inK m c),
    fun c => Cert.QkvSampleRefIdeal.Product.lastValues (Cert.QkvSampleIdeal.Product.inX m c) (Cert.QkvSampleIdeal.Product.inW m c) (Cert.QkvSampleIdeal.Product.inV m c), ?_, ?_⟩
  · exact Cert.QkvSampleIdeal.Product.run m ρ
  · refine (θ_run Cert.QkvSampleRefIdeal.defs _ _).mono (fun r h c => ⟨(h c).1.trans ?_, (h c).2.1.trans ?_, (h c).2.2.1.trans ?_, (h c).2.2.2⟩)
      (Cert.QkvSampleRefIdeal.Value.run (F := Ideal) m' ρ')
    · rw [(hagree c).1, (hagree c).2.1]
    · rw [(hagree c).1, (hagree c).2.1, (hagree c).2.2.1]
    · rw [(hagree c).1, (hagree c).2.1, (hagree c).2.2.2]

end Cert.QkvSampleProof
-- ==== Proof.AttOutValue.lean ====
module

public import proofs.«01_k».proof.Proof.Gen.AttOut.Frame
public import proofs.«01_k».proof.Proof.Gen.AttOutIdeal.Value
public import proofs.«01_k».proof.Proof.Gen.AttOutRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The output product of the attention layer

The kernel walks the output in blocks of 1024 rows by 512 columns; each block is the product of a
block of rows and a block of columns, over the whole inner dimension. -/

namespace Cert.AttOutRefIdeal.Product

open Cert.AttOutRefIdeal Cert.AttOutRefIdeal.Gen

/-- The product the reference takes. -/
abbrev product (x : FVec Ideal S8192x4096 .bf16) (w : FVec Ideal S4096x4096 .f32) : FVec Ideal S8192x4096 .f32 :=
  Host.dotGeneral dot_S8192x4096_S4096x4096_S8192x4096_1_0_0_1_n_n none (extf .f32 x bitsLt_bf16_f32) w

end Cert.AttOutRefIdeal.Product

namespace Cert.AttOutIdeal.Product

open Cert.AttOutIdeal Cert.AttOutIdeal.Gen Cert.AttOutRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.AttOutIdeal.Product

namespace Cert.AttOutProof

theorem kernel_frame : Cert.quiescent_AttOut := fun m ρ _ => Cert.AttOut.Gen.frame m ρ
theorem ideal_frame : Cert.quiescent_AttOutIdeal := fun m ρ _ => Cert.AttOutIdeal.Gen.frame m ρ
theorem reference_frame : Cert.quiescent_AttOutRefIdeal := fun m ρ _ =>
  (θ_run Cert.AttOutRefIdeal.defs _ _).mono (fun r h => ⟨fun c => (h c).2, Idealize.ShloMosaic.sem_eq_zero_of_no_sems (by decide) r.2⟩)
    (Cert.AttOutRefIdeal.Value.run (F := Ideal) m ρ)

theorem same_program : Cert.preserves_AttOut_AttOutIdeal := trivial

/-- Over the reals the kernel's result and the reference's are one array. -/
theorem values_agree : Cert.algebraic_AttOutIdeal_AttOutRefIdeal := by
  intro m ρ m' ρ' _ hagree
  refine ⟨fun c => Cert.AttOutRefIdeal.Product.product (m ((c.tc : Thread Cert.AttOutIdeal.nD Cert.AttOutIdeal.τ).loc Cert.AttOutIdeal.main_arg0))
    (m ((c.tc : Thread Cert.AttOutIdeal.nD Cert.AttOutIdeal.τ).loc Cert.AttOutIdeal.main_arg1)), ?_, ?_⟩
  · exact (θ_run Cert.AttOutIdeal.defs _ _).mono
      (fun r h c => ⟨(h c).1.trans (Cert.AttOutIdeal.Product.final m c), (h c).2⟩) (Cert.AttOutIdeal.Value.run_blocks m ρ)
  · refine (θ_run Cert.AttOutRefIdeal.defs _ _).mono (fun r h c => ⟨(h c).1.trans ?_, (h c).2⟩) (Cert.AttOutRefIdeal.Value.run (F := Ideal) m' ρ')
    rw [(hagree c).1, (hagree c).2]

end Cert.AttOutProof
-- ==== Proof.RkvRValue.lean ====
module

public import proofs.«01_k».proof.Proof.Gen.RkvR.Frame
public import proofs.«01_k».proof.Proof.Gen.RkvRIdeal.Value
public import proofs.«01_k».proof.Proof.Gen.RkvRRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The receptance product of the time-mixing layer

The kernel walks the output in blocks of 1024 rows by 512 columns; each block is the product of a
block of rows and a block of columns, over the whole inner dimension. -/

namespace Cert.RkvRRefIdeal.Product

open Cert.RkvRRefIdeal Cert.RkvRRefIdeal.Gen

/-- The product the reference takes. -/
abbrev product (x : FVec Ideal S8192x4096 .bf16) (w : FVec Ideal S3x4096x4096 .f32) : FVec Ideal S8192x4096 .f32 :=
  Host.dotGeneral dot_S8192x4096_S4096x4096_S8192x4096_1_0_0_1_n_n none (extf .f32 x bitsLt_bf16_f32) (shapeCast _ (extractStridedSlice S1x4096x4096 ![0, 0, 0] w slices_S3x4096x4096_S1x4096x4096_0_0_0) shapeCasts_S1x4096x4096_S4096x4096)

end Cert.RkvRRefIdeal.Product

namespace Cert.RkvRIdeal.Product

open Cert.RkvRIdeal Cert.RkvRIdeal.Gen Cert.RkvRRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![0, 0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.RkvRIdeal.Product

namespace Cert.RkvRProof

theorem kernel_frame : Cert.quiescent_RkvR := fun m ρ _ => Cert.RkvR.Gen.frame m ρ
theorem ideal_frame : Cert.quiescent_RkvRIdeal := fun m ρ _ => Cert.RkvRIdeal.Gen.frame m ρ
theorem reference_frame : Cert.quiescent_RkvRRefIdeal := fun m ρ _ =>
  (θ_run Cert.RkvRRefIdeal.defs _ _).mono (fun r h => ⟨fun c => (h c).2, Idealize.ShloMosaic.sem_eq_zero_of_no_sems (by decide) r.2⟩)
    (Cert.RkvRRefIdeal.Value.run (F := Ideal) m ρ)

theorem same_program : Cert.preserves_RkvR_RkvRIdeal := trivial

/-- Over the reals the kernel's result and the reference's are one array. -/
theorem values_agree : Cert.algebraic_RkvRIdeal_RkvRRefIdeal := by
  intro m ρ m' ρ' _ hagree
  refine ⟨fun c => Cert.RkvRRefIdeal.Product.product (m ((c.tc : Thread Cert.RkvRIdeal.nD Cert.RkvRIdeal.τ).loc Cert.RkvRIdeal.main_arg0))
    (m ((c.tc : Thread Cert.RkvRIdeal.nD Cert.RkvRIdeal.τ).loc Cert.RkvRIdeal.main_arg1)), ?_, ?_⟩
  · exact (θ_run Cert.RkvRIdeal.defs _ _).mono
      (fun r h c => ⟨(h c).1.trans (Cert.RkvRIdeal.Product.final m c), (h c).2⟩) (Cert.RkvRIdeal.Value.run_blocks m ρ)
  · refine (θ_run Cert.RkvRRefIdeal.defs _ _).mono (fun r h c => ⟨(h c).1.trans ?_, (h c).2⟩) (Cert.RkvRRefIdeal.Value.run (F := Ideal) m' ρ')
    rw [(hagree c).1, (hagree c).2]

end Cert.RkvRProof
-- ==== Proof.RkvKValue.lean ====
module

public import proofs.«01_k».proof.Proof.Gen.RkvK.Frame
public import proofs.«01_k».proof.Proof.Gen.RkvKIdeal.Value
public import proofs.«01_k».proof.Proof.Gen.RkvKRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The key product of the time-mixing layer

The kernel walks the output in blocks of 1024 rows by 512 columns; each block is the product of a
block of rows and a block of columns, over the whole inner dimension. -/

namespace Cert.RkvKRefIdeal.Product

open Cert.RkvKRefIdeal Cert.RkvKRefIdeal.Gen

/-- The product the reference takes. -/
abbrev product (x : FVec Ideal S8192x4096 .bf16) (w : FVec Ideal S3x4096x4096 .f32) : FVec Ideal S8192x4096 .f32 :=
  Host.dotGeneral dot_S8192x4096_S4096x4096_S8192x4096_1_0_0_1_n_n none (extf .f32 x bitsLt_bf16_f32) (shapeCast _ (extractStridedSlice S1x4096x4096 ![1, 0, 0] w slices_S3x4096x4096_S1x4096x4096_1_0_0) shapeCasts_S1x4096x4096_S4096x4096)

end Cert.RkvKRefIdeal.Product

namespace Cert.RkvKIdeal.Product

open Cert.RkvKIdeal Cert.RkvKIdeal.Gen Cert.RkvKRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![1, 0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.RkvKIdeal.Product

namespace Cert.RkvKProof

theorem kernel_frame : Cert.quiescent_RkvK := fun m ρ _ => Cert.RkvK.Gen.frame m ρ
theorem ideal_frame : Cert.quiescent_RkvKIdeal := fun m ρ _ => Cert.RkvKIdeal.Gen.frame m ρ
theorem reference_frame : Cert.quiescent_RkvKRefIdeal := fun m ρ _ =>
  (θ_run Cert.RkvKRefIdeal.defs _ _).mono (fun r h => ⟨fun c => (h c).2, Idealize.ShloMosaic.sem_eq_zero_of_no_sems (by decide) r.2⟩)
    (Cert.RkvKRefIdeal.Value.run (F := Ideal) m ρ)

theorem same_program : Cert.preserves_RkvK_RkvKIdeal := trivial

/-- Over the reals the kernel's result and the reference's are one array. -/
theorem values_agree : Cert.algebraic_RkvKIdeal_RkvKRefIdeal := by
  intro m ρ m' ρ' _ hagree
  refine ⟨fun c => Cert.RkvKRefIdeal.Product.product (m ((c.tc : Thread Cert.RkvKIdeal.nD Cert.RkvKIdeal.τ).loc Cert.RkvKIdeal.main_arg0))
    (m ((c.tc : Thread Cert.RkvKIdeal.nD Cert.RkvKIdeal.τ).loc Cert.RkvKIdeal.main_arg1)), ?_, ?_⟩
  · exact (θ_run Cert.RkvKIdeal.defs _ _).mono
      (fun r h c => ⟨(h c).1.trans (Cert.RkvKIdeal.Product.final m c), (h c).2⟩) (Cert.RkvKIdeal.Value.run_blocks m ρ)
  · refine (θ_run Cert.RkvKRefIdeal.defs _ _).mono (fun r h c => ⟨(h c).1.trans ?_, (h c).2⟩) (Cert.RkvKRefIdeal.Value.run (F := Ideal) m' ρ')
    rw [(hagree c).1, (hagree c).2]

end Cert.RkvKProof
-- ==== Proof.RkvVValue.lean ====
module

public import proofs.«01_k».proof.Proof.Gen.RkvV.Frame
public import proofs.«01_k».proof.Proof.Gen.RkvVIdeal.Value
public import proofs.«01_k».proof.Proof.Gen.RkvVRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The value product of the time-mixing layer

The kernel walks the output in blocks of 1024 rows by 512 columns; each block is the product of a
block of rows and a block of columns, over the whole inner dimension. -/

namespace Cert.RkvVRefIdeal.Product

open Cert.RkvVRefIdeal Cert.RkvVRefIdeal.Gen

/-- The product the reference takes. -/
abbrev product (x : FVec Ideal S8192x4096 .bf16) (w : FVec Ideal S3x4096x4096 .f32) : FVec Ideal S8192x4096 .f32 :=
  Host.dotGeneral dot_S8192x4096_S4096x4096_S8192x4096_1_0_0_1_n_n none (extf .f32 x bitsLt_bf16_f32) (shapeCast _ (extractStridedSlice S1x4096x4096 ![2, 0, 0] w slices_S3x4096x4096_S1x4096x4096_2_0_0) shapeCasts_S1x4096x4096_S4096x4096)

end Cert.RkvVRefIdeal.Product

namespace Cert.RkvVIdeal.Product

open Cert.RkvVIdeal Cert.RkvVIdeal.Gen Cert.RkvVRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![2, 0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.RkvVIdeal.Product

namespace Cert.RkvVProof

theorem kernel_frame : Cert.quiescent_RkvV := fun m ρ _ => Cert.RkvV.Gen.frame m ρ
theorem ideal_frame : Cert.quiescent_RkvVIdeal := fun m ρ _ => Cert.RkvVIdeal.Gen.frame m ρ
theorem reference_frame : Cert.quiescent_RkvVRefIdeal := fun m ρ _ =>
  (θ_run Cert.RkvVRefIdeal.defs _ _).mono (fun r h => ⟨fun c => (h c).2, Idealize.ShloMosaic.sem_eq_zero_of_no_sems (by decide) r.2⟩)
    (Cert.RkvVRefIdeal.Value.run (F := Ideal) m ρ)

theorem same_program : Cert.preserves_RkvV_RkvVIdeal := trivial

/-- Over the reals the kernel's result and the reference's are one array. -/
theorem values_agree : Cert.algebraic_RkvVIdeal_RkvVRefIdeal := by
  intro m ρ m' ρ' _ hagree
  refine ⟨fun c => Cert.RkvVRefIdeal.Product.product (m ((c.tc : Thread Cert.RkvVIdeal.nD Cert.RkvVIdeal.τ).loc Cert.RkvVIdeal.main_arg0))
    (m ((c.tc : Thread Cert.RkvVIdeal.nD Cert.RkvVIdeal.τ).loc Cert.RkvVIdeal.main_arg1)), ?_, ?_⟩
  · exact (θ_run Cert.RkvVIdeal.defs _ _).mono
      (fun r h c => ⟨(h c).1.trans (Cert.RkvVIdeal.Product.final m c), (h c).2⟩) (Cert.RkvVIdeal.Value.run_blocks m ρ)
  · refine (θ_run Cert.RkvVRefIdeal.defs _ _).mono (fun r h c => ⟨(h c).1.trans ?_, (h c).2⟩) (Cert.RkvVRefIdeal.Value.run (F := Ideal) m' ρ')
    rw [(hagree c).1, (hagree c).2]

end Cert.RkvVProof
-- ==== Proof.TimeOutValue.lean ====
module

public import proofs.«01_k».proof.Proof.Gen.TimeOut.Frame
public import proofs.«01_k».proof.Proof.Gen.TimeOutIdeal.Value
public import proofs.«01_k».proof.Proof.Gen.TimeOutRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The output product of the time-mixing layer

The kernel walks the output in blocks of 1024 rows by 512 columns; each block is the product of a
block of rows and a block of columns, over the whole inner dimension. -/

namespace Cert.TimeOutRefIdeal.Product

open Cert.TimeOutRefIdeal Cert.TimeOutRefIdeal.Gen

/-- The product the reference takes. -/
abbrev product (x : FVec Ideal S8192x4096 .f32) (w : FVec Ideal S4096x4096 .f32) : FVec Ideal S8192x4096 .f32 :=
  Host.dotGeneral dot_S8192x4096_S4096x4096_S8192x4096_1_0_0_1_n_n none x w

end Cert.TimeOutRefIdeal.Product

namespace Cert.TimeOutIdeal.Product

open Cert.TimeOutIdeal Cert.TimeOutIdeal.Gen Cert.TimeOutRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.TimeOutIdeal.Product

namespace Cert.TimeOutProof

theorem kernel_frame : Cert.quiescent_TimeOut := fun m ρ _ => Cert.TimeOut.Gen.frame m ρ
theorem ideal_frame : Cert.quiescent_TimeOutIdeal := fun m ρ _ => Cert.TimeOutIdeal.Gen.frame m ρ
theorem reference_frame : Cert.quiescent_TimeOutRefIdeal := fun m ρ _ =>
  (θ_run Cert.TimeOutRefIdeal.defs _ _).mono (fun r h => ⟨fun c => (h c).2, Idealize.ShloMosaic.sem_eq_zero_of_no_sems (by decide) r.2⟩)
    (Cert.TimeOutRefIdeal.Value.run (F := Ideal) m ρ)

theorem same_program : Cert.preserves_TimeOut_TimeOutIdeal := trivial

/-- Over the reals the kernel's result and the reference's are one array. -/
theorem values_agree : Cert.algebraic_TimeOutIdeal_TimeOutRefIdeal := by
  intro m ρ m' ρ' _ hagree
  refine ⟨fun c => Cert.TimeOutRefIdeal.Product.product (m ((c.tc : Thread Cert.TimeOutIdeal.nD Cert.TimeOutIdeal.τ).loc Cert.TimeOutIdeal.main_arg0))
    (m ((c.tc : Thread Cert.TimeOutIdeal.nD Cert.TimeOutIdeal.τ).loc Cert.TimeOutIdeal.main_arg1)), ?_, ?_⟩
  · exact (θ_run Cert.TimeOutIdeal.defs _ _).mono
      (fun r h c => ⟨(h c).1.trans (Cert.TimeOutIdeal.Product.final m c), (h c).2⟩) (Cert.TimeOutIdeal.Value.run_blocks m ρ)
  · refine (θ_run Cert.TimeOutRefIdeal.defs _ _).mono (fun r h c => ⟨(h c).1.trans ?_, (h c).2⟩) (Cert.TimeOutRefIdeal.Value.run (F := Ideal) m' ρ')
    rw [(hagree c).1, (hagree c).2]

end Cert.TimeOutProof
-- ==== Proof.PeerQ0Value.lean ====
module

public import proofs.«01_k».proof.Proof.Gen.PeerQ0.Frame
public import proofs.«01_k».proof.Proof.Gen.PeerQ0Ideal.Value
public import proofs.«01_k».proof.Proof.Gen.PeerQ0RefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The first query product of the expert layer

The kernel walks the output in blocks of 1024 rows by 512 columns; each block is the product of a
block of rows and a block of columns, over the whole inner dimension. -/

namespace Cert.PeerQ0RefIdeal.Product

open Cert.PeerQ0RefIdeal Cert.PeerQ0RefIdeal.Gen

/-- The product the reference takes. -/
abbrev product (x : FVec Ideal S8192x4096 .bf16) (w : FVec Ideal S2x4096x2048 .f32) : FVec Ideal S8192x2048 .f32 :=
  Host.dotGeneral dot_S8192x4096_S4096x2048_S8192x2048_1_0_0_1_n_n none (extf .f32 x bitsLt_bf16_f32) (shapeCast _ (extractStridedSlice S1x4096x2048 ![0, 0, 0] w slices_S2x4096x2048_S1x4096x2048_0_0_0) shapeCasts_S1x4096x2048_S4096x2048)

end Cert.PeerQ0RefIdeal.Product

namespace Cert.PeerQ0Ideal.Product

open Cert.PeerQ0Ideal Cert.PeerQ0Ideal.Gen Cert.PeerQ0RefIdeal.Product

variable (m : (ℓ : Loc nD τ sig) → Buf (Elt Ideal) ℓ)

/-- Which block of each array a grid point reads or writes. -/
theorem idx : ∀ t : Fin cfg0.N, win0_0.index t = ![t.val / 4, 0]
    ∧ win0_1.index t = ![0, 0, t.val % 4]
    ∧ win0_2.index t = ![t.val / 4, t.val % 4] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.PeerQ0Ideal.Product

namespace Cert.PeerQ0Proof

theorem kernel_frame : Cert.quiescent_PeerQ0 := fun m ρ _ => Cert.PeerQ0.Gen.frame m ρ
theorem ideal_frame : Cert.quiescent_PeerQ0Ideal := fun m ρ _ => Cert.PeerQ0Ideal.Gen.frame m ρ
theorem reference_frame : Cert.quiescent_PeerQ0RefIdeal := fun m ρ _ =>
  (θ_run Cert.PeerQ0RefIdeal.defs _ _).mono (fun r h => ⟨fun c => (h c).2, Idealize.ShloMosaic.sem_eq_zero_of_no_sems (by decide) r.2⟩)
    (Cert.PeerQ0RefIdeal.Value.run (F := Ideal) m ρ)

theorem same_program : Cert.preserves_PeerQ0_PeerQ0Ideal := trivial

/-- Over the reals the kernel's result and the reference's are one array. -/
theorem values_agree : Cert.algebraic_PeerQ0Ideal_PeerQ0RefIdeal := by
  intro m ρ m' ρ' _ hagree
  refine ⟨fun c => Cert.PeerQ0RefIdeal.Product.product (m ((c.tc : Thread Cert.PeerQ0Ideal.nD Cert.PeerQ0Ideal.τ).loc Cert.PeerQ0Ideal.main_arg0))
    (m ((c.tc : Thread Cert.PeerQ0Ideal.nD Cert.PeerQ0Ideal.τ).loc Cert.PeerQ0Ideal.main_arg1)), ?_, ?_⟩
  · exact (θ_run Cert.PeerQ0Ideal.defs _ _).mono
      (fun r h c => ⟨(h c).1.trans (Cert.PeerQ0Ideal.Product.final m c), (h c).2⟩) (Cert.PeerQ0Ideal.Value.run_blocks m ρ)
  · refine (θ_run Cert.PeerQ0RefIdeal.defs _ _).mono (fun r h c => ⟨(h c).1.trans ?_, (h c).2⟩) (Cert.PeerQ0RefIdeal.Value.run (F := Ideal) m' ρ')
    rw [(hagree c).1, (hagree c).2]

end Cert.PeerQ0Proof
-- ==== Proof.PeerQ1Value.lean ====
module

public import proofs.«01_k».proof.Proof.Gen.PeerQ1.Frame
public import proofs.«01_k».proof.Proof.Gen.PeerQ1Ideal.Value
public import proofs.«01_k».proof.Proof.Gen.PeerQ1RefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The second query product of the expert layer

The kernel walks the output in blocks of 1024 rows by 512 columns; each block is the product of a
block of rows and a block of columns, over the whole inner dimension. -/

namespace Cert.PeerQ1RefIdeal.Product

open Cert.PeerQ1RefIdeal Cert.PeerQ1RefIdeal.Gen

/-- The product the reference takes. -/
abbrev product (x : FVec Ideal S8192x4096 .bf16) (w : FVec Ideal S2x4096x2048 .f32) : FVec Ideal S8192x2048 .f32 :=
  Host.dotGeneral dot_S8192x4096_S4096x2048_S8192x2048_1_0_0_1_n_n none (extf .f32 x bitsLt_bf16_f32) (shapeCast _ (extractStridedSlice S1x4096x2048 ![1, 0, 0] w slices_S2x4096x2048_S1x4096x2048_1_0_0) shapeCasts_S1x4096x2048_S4096x2048)

end Cert.PeerQ1RefIdeal.Product

namespace Cert.PeerQ1Ideal.Product

open Cert.PeerQ1Ideal Cert.PeerQ1Ideal.Gen Cert.PeerQ1RefIdeal.Product

variable (m : (ℓ : Loc nD τ sig) → Buf (Elt Ideal) ℓ)

/-- Which block of each array a grid point reads or writes. -/
theorem idx : ∀ t : Fin cfg0.N, win0_0.index t = ![t.val / 4, 0]
    ∧ win0_1.index t = ![1, 0, t.val % 4]
    ∧ win0_2.index t = ![t.val / 4, t.val % 4] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.PeerQ1Ideal.Product

namespace Cert.PeerQ1Proof

theorem kernel_frame : Cert.quiescent_PeerQ1 := fun m ρ _ => Cert.PeerQ1.Gen.frame m ρ
theorem ideal_frame : Cert.quiescent_PeerQ1Ideal := fun m ρ _ => Cert.PeerQ1Ideal.Gen.frame m ρ
theorem reference_frame : Cert.quiescent_PeerQ1RefIdeal := fun m ρ _ =>
  (θ_run Cert.PeerQ1RefIdeal.defs _ _).mono (fun r h => ⟨fun c => (h c).2, Idealize.ShloMosaic.sem_eq_zero_of_no_sems (by decide) r.2⟩)
    (Cert.PeerQ1RefIdeal.Value.run (F := Ideal) m ρ)

theorem same_program : Cert.preserves_PeerQ1_PeerQ1Ideal := trivial

/-- Over the reals the kernel's result and the reference's are one array. -/
theorem values_agree : Cert.algebraic_PeerQ1Ideal_PeerQ1RefIdeal := by
  intro m ρ m' ρ' _ hagree
  refine ⟨fun c => Cert.PeerQ1RefIdeal.Product.product (m ((c.tc : Thread Cert.PeerQ1Ideal.nD Cert.PeerQ1Ideal.τ).loc Cert.PeerQ1Ideal.main_arg0))
    (m ((c.tc : Thread Cert.PeerQ1Ideal.nD Cert.PeerQ1Ideal.τ).loc Cert.PeerQ1Ideal.main_arg1)), ?_, ?_⟩
  · exact (θ_run Cert.PeerQ1Ideal.defs _ _).mono
      (fun r h c => ⟨(h c).1.trans (Cert.PeerQ1Ideal.Product.final m c), (h c).2⟩) (Cert.PeerQ1Ideal.Value.run_blocks m ρ)
  · refine (θ_run Cert.PeerQ1RefIdeal.defs _ _).mono (fun r h c => ⟨(h c).1.trans ?_, (h c).2⟩) (Cert.PeerQ1RefIdeal.Value.run (F := Ideal) m' ρ')
    rw [(hagree c).1, (hagree c).2]

end Cert.PeerQ1Proof
-- ==== Proof.LnPromptValue.lean ====
module

public import proofs.«01_k».proof.Proof.Gen.LnPrompt.Frame
public import proofs.«01_k».proof.Proof.Gen.LnPromptIdeal.Value
public import proofs.«01_k».proof.Proof.Gen.LnPromptRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The residual sum and layer norm of the prompt rows

A row of the sum `α x + y` is brought to mean zero and variance one, then scaled and shifted. The
kernel holds whole rows in a block, so each entry of a block is the entry of the whole array. -/

namespace Cert.LnPromptRefIdeal.Norm

open Cert.LnPromptRefIdeal Cert.LnPromptRefIdeal.Gen

variable (x y : FVec Ideal S8192x4096 .f32) (g b : FVec Ideal S4096 .f32)

/-- The residual sum. -/
abbrev mixed : FVec Ideal S8192x4096 .f32 :=
  addf (mulf (broadcastInDim S8192x4096 ![] bcast_S_S8192x4096 (constant S_ .f32 0x3FB504F3#32)) x) y

/-- The mean of each row. -/
abbrev rowMean (z : FVec Ideal S8192x4096 .f32) : FVec Ideal S8192x1 .f32 :=
  Host.divf (broadcastInDim S8192x1 ![0] bcast_S8192_S8192x1_0 (Host.reduceAdd z (constant S_ .f32 0x00000000#32) reducesTo_S8192x4096_S8192_d1 h_S_))
    (broadcastInDim S8192x1 ![] bcast_S_S8192x1 (constant S_ .f32 0x45800000#32))

/-- Each entry less its row's mean. -/
abbrev centred : FVec Ideal S8192x4096 .f32 :=
  subf (mixed x y) (broadcastInDim S8192x4096 ![0, 1] bcast_S8192x1_S8192x4096_0_1 (rowMean (mixed x y)))

/-- The normalised rows, scaled by `g` and shifted by `b`. -/
abbrev normed : FVec Ideal S8192x4096 .f32 :=
  addf (mulf (mulf (centred x y) (broadcastInDim S8192x4096 ![0, 1] bcast_S8192x1_S8192x4096_0_1
      (Host.rsqrt (addf (rowMean (mulf (centred x y) (centred x y))) (broadcastInDim S8192x1 ![] bcast_S_S8192x1 (constant S_ .f32 0x3727C5AC#32))))))
      (broadcastInDim S8192x4096 ![0, 1] bcast_S1x4096_S8192x4096_0_1 (broadcastInDim S1x4096 ![1] bcast_S4096_S1x4096_1 g)))
    (broadcastInDim S8192x4096 ![0, 1] bcast_S1x4096_S8192x4096_0_1 (broadcastInDim S1x4096 ![1] bcast_S4096_S1x4096_1 b))

end Cert.LnPromptRefIdeal.Norm

namespace Cert.LnPromptIdeal.Norm

open Cert.LnPromptIdeal Cert.LnPromptIdeal.Gen Cert.LnPromptRefIdeal.Norm

variable (m : (ℓ : Loc nD τ sig) → Buf (Elt Ideal) ℓ)

/-- Which block of each array a grid point reads or writes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Each entry of the block a grid point writes is the entry of the whole normalised array at that place. -/
theorem point (c : Dev nD) (t : Fin cfg0.N) (z) :
    k0_pay1 (iblk m c 0 t) (iblk m c 1 t) (iblk m c 2 t) (iblk m c 3 t) z
      = normed (m ((c : Thread nD τ).loc main_arg0)) (m ((c : Thread nD τ).loc main_arg1)) (m ((c : Thread nD τ).loc main_arg2))
          (m ((c : Thread nD τ).loc main_arg3)) (((cfg0.win 4).blk t).view.emb z) := by
  pointwise [k0_pay1, normed, mixed, rowMean, centred]; blk_point [iblk, V, idx t]

/-- The first output array after the run is the whole normalised array. -/
theorem final (c : Dev nD) : (dats m 0 c).arrAt 4 cfg0.N
    = normed (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp; rw [after0_4]; frame_out
  exact point m c t y

end Cert.LnPromptIdeal.Norm

namespace Cert.LnPromptProof

theorem kernel_frame : Cert.quiescent_LnPrompt := fun m ρ _ => Cert.LnPrompt.Gen.frame m ρ
theorem ideal_frame : Cert.quiescent_LnPromptIdeal := fun m ρ _ => Cert.LnPromptIdeal.Gen.frame m ρ
theorem reference_frame : Cert.quiescent_LnPromptRefIdeal := fun m ρ _ =>
  (θ_run Cert.LnPromptRefIdeal.defs _ _).mono (fun r h => ⟨fun c => (h c).2, Idealize.ShloMosaic.sem_eq_zero_of_no_sems (by decide) r.2⟩)
    (Cert.LnPromptRefIdeal.Value.run (F := Ideal) m ρ)

theorem same_program : Cert.preserves_LnPrompt_LnPromptIdeal := trivial

/-- Over the reals the kernel's result and the reference's are one array. -/
theorem values_agree : Cert.algebraic_LnPromptIdeal_LnPromptRefIdeal := by
  intro m ρ m' ρ' _ hagree
  refine ⟨fun c => Cert.LnPromptRefIdeal.Norm.normed (m ((c.tc : Thread Cert.LnPromptIdeal.nD Cert.LnPromptIdeal.τ).loc Cert.LnPromptIdeal.main_arg0))
    (m ((c.tc : Thread Cert.LnPromptIdeal.nD Cert.LnPromptIdeal.τ).loc Cert.LnPromptIdeal.main_arg1))
    (m ((c.tc : Thread Cert.LnPromptIdeal.nD Cert.LnPromptIdeal.τ).loc Cert.LnPromptIdeal.main_arg2))
    (m ((c.tc : Thread Cert.LnPromptIdeal.nD Cert.LnPromptIdeal.τ).loc Cert.LnPromptIdeal.main_arg3)), ?_, ?_⟩
  · exact (θ_run Cert.LnPromptIdeal.defs _ _).mono
      (fun r h c => ⟨(h c).1.trans (Cert.LnPromptIdeal.Norm.final m c), (h c).2.2⟩) (Cert.LnPromptIdeal.Value.run_blocks m ρ)
  · refine (θ_run Cert.LnPromptRefIdeal.defs _ _).mono (fun r h c => ⟨(h c).1.trans ?_, (h c).2⟩) (Cert.LnPromptRefIdeal.Value.run (F := Ideal) m' ρ')
    rw [(hagree c).1, (hagree c).2.1, (hagree c).2.2.1, (hagree c).2.2.2]

end Cert.LnPromptProof
-- ==== Proof.LnSampleValue.lean ====
module

public import proofs.«01_k».proof.Proof.Gen.LnSample.Frame
public import proofs.«01_k».proof.Proof.Gen.LnSampleIdeal.Value
public import proofs.«01_k».proof.Proof.Gen.LnSampleRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The residual sum and layer norm of the sample rows

A row of the sum `α x + y` is brought to mean zero and variance one, then scaled and shifted. The
kernel holds whole rows in a block, so each entry of a block is the entry of the whole array. -/

namespace Cert.LnSampleRefIdeal.Norm

open Cert.LnSampleRefIdeal Cert.LnSampleRefIdeal.Gen

variable (x y : FVec Ideal S128x4096 .f32) (g b : FVec Ideal S4096 .f32)

/-- The residual sum. -/
abbrev mixed : FVec Ideal S128x4096 .f32 :=
  addf (mulf (broadcastInDim S128x4096 ![] bcast_S_S128x4096 (constant S_ .f32 0x3FB504F3#32)) x) y

/-- The mean of each row. -/
abbrev rowMean (z : FVec Ideal S128x4096 .f32) : FVec Ideal S128x1 .f32 :=
  Host.divf (broadcastInDim S128x1 ![0] bcast_S128_S128x1_0 (Host.reduceAdd z (constant S_ .f32 0x00000000#32) reducesTo_S128x4096_S128_d1 h_S_))
    (broadcastInDim S128x1 ![] bcast_S_S128x1 (constant S_ .f32 0x45800000#32))

/-- Each entry less its row's mean. -/
abbrev centred : FVec Ideal S128x4096 .f32 :=
  subf (mixed x y) (broadcastInDim S128x4096 ![0, 1] bcast_S128x1_S128x4096_0_1 (rowMean (mixed x y)))

/-- The normalised rows, scaled by `g` and shifted by `b`. -/
abbrev normed : FVec Ideal S128x4096 .f32 :=
  addf (mulf (mulf (centred x y) (broadcastInDim S128x4096 ![0, 1] bcast_S128x1_S128x4096_0_1
      (Host.rsqrt (addf (rowMean (mulf (centred x y) (centred x y))) (broadcastInDim S128x1 ![] bcast_S_S128x1 (constant S_ .f32 0x3727C5AC#32))))))
      (broadcastInDim S128x4096 ![0, 1] bcast_S1x4096_S128x4096_0_1 (broadcastInDim S1x4096 ![1] bcast_S4096_S1x4096_1 g)))
    (broadcastInDim S128x4096 ![0, 1] bcast_S1x4096_S128x4096_0_1 (broadcastInDim S1x4096 ![1] bcast_S4096_S1x4096_1 b))

end Cert.LnSampleRefIdeal.Norm

namespace Cert.LnSampleIdeal.Norm

open Cert.LnSampleIdeal Cert.LnSampleIdeal.Gen Cert.LnSampleRefIdeal.Norm

variable (m : (ℓ : Loc nD τ sig) → Buf (Elt Ideal) ℓ)

/-- Which block of each array a grid point reads or writes. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- Each entry of the block a grid point writes is the entry of the whole normalised array at that place. -/
theorem point (c : Dev nD) (t : Fin cfg0.N) (z) :
    k0_pay1 (iblk m c 0 t) (iblk m c 1 t) (iblk m c 2 t) (iblk m c 3 t) z
      = normed (m ((c : Thread nD τ).loc main_arg0)) (m ((c : Thread nD τ).loc main_arg1)) (m ((c : Thread nD τ).loc main_arg2))
          (m ((c : Thread nD τ).loc main_arg3)) (((cfg0.win 4).blk t).view.emb z) := by
  pointwise [k0_pay1, normed, mixed, rowMean, centred]; blk_point [iblk, V, idx t]

/-- The first output array after the run is the whole normalised array. -/
theorem final (c : Dev nD) : (dats m 0 c).arrAt 4 cfg0.N
    = normed (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp; rw [after0_4]; frame_out
  exact point m c t y

end Cert.LnSampleIdeal.Norm

namespace Cert.LnSampleProof

theorem kernel_frame : Cert.quiescent_LnSample := fun m ρ _ => Cert.LnSample.Gen.frame m ρ
theorem ideal_frame : Cert.quiescent_LnSampleIdeal := fun m ρ _ => Cert.LnSampleIdeal.Gen.frame m ρ
theorem reference_frame : Cert.quiescent_LnSampleRefIdeal := fun m ρ _ =>
  (θ_run Cert.LnSampleRefIdeal.defs _ _).mono (fun r h => ⟨fun c => (h c).2, Idealize.ShloMosaic.sem_eq_zero_of_no_sems (by decide) r.2⟩)
    (Cert.LnSampleRefIdeal.Value.run (F := Ideal) m ρ)

theorem same_program : Cert.preserves_LnSample_LnSampleIdeal := trivial

/-- Over the reals the kernel's result and the reference's are one array. -/
theorem values_agree : Cert.algebraic_LnSampleIdeal_LnSampleRefIdeal := by
  intro m ρ m' ρ' _ hagree
  refine ⟨fun c => Cert.LnSampleRefIdeal.Norm.normed (m ((c.tc : Thread Cert.LnSampleIdeal.nD Cert.LnSampleIdeal.τ).loc Cert.LnSampleIdeal.main_arg0))
    (m ((c.tc : Thread Cert.LnSampleIdeal.nD Cert.LnSampleIdeal.τ).loc Cert.LnSampleIdeal.main_arg1))
    (m ((c.tc : Thread Cert.LnSampleIdeal.nD Cert.LnSampleIdeal.τ).loc Cert.LnSampleIdeal.main_arg2))
    (m ((c.tc : Thread Cert.LnSampleIdeal.nD Cert.LnSampleIdeal.τ).loc Cert.LnSampleIdeal.main_arg3)), ?_, ?_⟩
  · exact (θ_run Cert.LnSampleIdeal.defs _ _).mono
      (fun r h c => ⟨(h c).1.trans (Cert.LnSampleIdeal.Norm.final m c), (h c).2.2⟩) (Cert.LnSampleIdeal.Value.run_blocks m ρ)
  · refine (θ_run Cert.LnSampleRefIdeal.defs _ _).mono (fun r h c => ⟨(h c).1.trans ?_, (h c).2⟩) (Cert.LnSampleRefIdeal.Value.run (F := Ideal) m' ρ')
    rw [(hagree c).1, (hagree c).2.1, (hagree c).2.2.1, (hagree c).2.2.2]

end Cert.LnSampleProof
-- ==== Proof.WkvReads.lean ====
module

public import proofs.«01_k».proof.Proof.Gen.WkvSampleIdeal.Value
public import Idealize.ShloMosaic.Lib.Pipeline.ValueKit
public import Idealize.ShloMosaic.Lib.StableHlo.RunRead
public import Idealize.ShloMosaic.Lib.WholeRead

@[expose] public section
set_option maxRecDepth 16384
noncomputable section
open Idealize.ShloMosaic Idealize.ShloMosaic.TcCoe Idealize.SL.Sem

/-! # What a grid point reads

A grid point has one sequence and eight heads; its blocks, entry by entry of the arguments. -/

namespace Cert.WkvSampleIdeal.Reads
open Cert.WkvSampleIdeal Cert.WkvSampleIdeal.Gen

variable (m : (ℓ : Loc nD τ sig) → Buf (Elt Ideal) ℓ) (c : Dev nD)

abbrev arg0 : S128x4096.Idx → EReal := m (c, Proc.tc.devRef main_arg0)
abbrev arg1 : S128x4096.Idx → EReal := m (c, Proc.tc.devRef main_arg1)
abbrev arg2 : S128x4096.Idx → EReal := m (c, Proc.tc.devRef main_arg2)
abbrev arg3 : S128x4096.Idx → EReal := m (c, Proc.tc.devRef main_arg3)
abbrev arg4 : S128x4096.Idx → EReal := m (c, Proc.tc.devRef main_arg4)
abbrev arg5 : S128x4096.Idx → EReal := m (c, Proc.tc.devRef main_arg5)
abbrev arg6 : S4096.Idx → EReal := m (c, Proc.tc.devRef main_arg6)
abbrev arg7 : S4096.Idx → EReal := m (c, Proc.tc.devRef main_arg7)
abbrev arg8 : S4096.Idx → EReal := m (c, Proc.tc.devRef main_arg8)
abbrev arg9 : S4096.Idx → EReal := m (c, Proc.tc.devRef main_arg9)
abbrev arg11 : S4096.Idx → EReal := m (c, Proc.tc.devRef main_arg11)
abbrev arg12 : S4096.Idx → EReal := m (c, Proc.tc.devRef main_arg12)
abbrev arg10 : S64x64.Idx → EReal := m (c, Proc.tc.devRef main_arg10)
abbrev arg13 : S32x64x64x64.Idx → EReal := m (c, Proc.tc.devRef main_arg13)

theorem at_two {n k : ℕ} (f : (⟨2, ![n, k]⟩ : Shape).Idx → EReal) {a a' b b' : ℕ} {ha : a < n} {ha' : a' < n} {hb : b < k} {hb' : b' < k}
    (h : a = a') (h' : b = b') : f (ix2 ⟨a, ha⟩ ⟨b, hb⟩) = f (ix2 ⟨a', ha'⟩ ⟨b', hb'⟩) := by
  subst h h'
  rfl

theorem idx : ∀ t : Fin cfg0.N, win0_0.index t = ![t.val / 8, 0, t.val % 8]
    ∧ win0_1.index t = ![t.val / 8, 0, t.val % 8]
    ∧ win0_2.index t = ![t.val / 8, 0, t.val % 8]
    ∧ win0_3.index t = ![t.val / 8, 0, t.val % 8]
    ∧ win0_4.index t = ![t.val / 8, 0, t.val % 8]
    ∧ win0_5.index t = ![t.val / 8, 0, t.val % 8]
    ∧ win0_8.index t = ![t.val / 8, 0, t.val % 8]
    ∧ win0_6.index t = ![0, t.val % 8]
    ∧ win0_7.index t = ![t.val / 8, t.val % 8, 0, 0]
    ∧ win0_9.index t = ![t.val / 8, t.val % 8, 0, 0] :=
  (by decide +kernel : ∀ t : Fin grid0.N, _)

/-- The sequence of a grid point, -/
abbrev seqOf (t : Fin cfg0.N) : Fin 32 := ⟨t.val / 8, by have : t.val < 256 := t.isLt; omega⟩
/-- and its eight heads' number. -/
abbrev octet (t : Fin cfg0.N) : Fin 8 := ⟨t.val % 8, Nat.mod_lt _ (by decide)⟩

theorem rows0 (b : Fin 32) (s : Fin 4) (x : Fin 4096) :
    (V m c main_v11 : S32x4x4096.Idx → EReal) (ix3 b s x) = arg0 m c (ix2 ⟨b.val * 4 + s.val, by omega⟩ x) := by
  unfold V
  simp only [hostOps0,  List.flatten_cons, List.flatten_nil, List.append_nil, List.cons_append, List.nil_append]
  after_results_simp
  pointwise []

theorem blk0 (t : Fin cfg0.N) (s : Fin 4) (x : Fin 512) : (iblk m c 0 t : S1x4x512.Idx → EReal) (ix3 0 s x)
    = arg0 m c (ix2 ⟨(seqOf t).val * 4 + s.val, by omega⟩ ⟨(octet t).val * 512 + x.val, by omega⟩) := by
  have e : ((View.whole main_v11).slice (win0_0.rect t)).emb (ix3 0 s x) = (ix3 (seqOf t) s ⟨(octet t).val * 512 + x.val, by omega⟩ : S32x4x4096.Idx) := by
    blk_ext [idx t]
  blk_simp [iblk]
  rw [e]
  exact rows0 m c _ s _

theorem rows1 (b : Fin 32) (s : Fin 4) (x : Fin 4096) :
    (V m c main_v12 : S32x4x4096.Idx → EReal) (ix3 b s x) = arg1 m c (ix2 ⟨b.val * 4 + s.val, by omega⟩ x) := by
  unfold V
  simp only [hostOps0,  List.flatten_cons, List.flatten_nil, List.append_nil, List.cons_append, List.nil_append]
  after_results_simp
  pointwise []

theorem blk1 (t : Fin cfg0.N) (s : Fin 4) (x : Fin 512) : (iblk m c 1 t : S1x4x512.Idx → EReal) (ix3 0 s x)
    = arg1 m c (ix2 ⟨(seqOf t).val * 4 + s.val, by omega⟩ ⟨(octet t).val * 512 + x.val, by omega⟩) := by
  have e : ((View.whole main_v12).slice (win0_1.rect t)).emb (ix3 0 s x) = (ix3 (seqOf t) s ⟨(octet t).val * 512 + x.val, by omega⟩ : S32x4x4096.Idx) := by
    blk_ext [idx t]
  blk_simp [iblk]
  rw [e]
  exact rows1 m c _ s _

theorem rows2 (b : Fin 32) (s : Fin 4) (x : Fin 4096) :
    (V m c main_v13 : S32x4x4096.Idx → EReal) (ix3 b s x) = arg2 m c (ix2 ⟨b.val * 4 + s.val, by omega⟩ x) := by
  unfold V
  simp only [hostOps0,  List.flatten_cons, List.flatten_nil, List.append_nil, List.cons_append, List.nil_append]
  after_results_simp
  pointwise []

theorem blk2 (t : Fin cfg0.N) (s : Fin 4) (x : Fin 512) : (iblk m c 2 t : S1x4x512.Idx → EReal) (ix3 0 s x)
    = arg2 m c (ix2 ⟨(seqOf t).val * 4 + s.val, by omega⟩ ⟨(octet t).val * 512 + x.val, by omega⟩) := by
  have e : ((View.whole main_v13).slice (win0_2.rect t)).emb (ix3 0 s x) = (ix3 (seqOf t) s ⟨(octet t).val * 512 + x.val, by omega⟩ : S32x4x4096.Idx) := by
    blk_ext [idx t]
  blk_simp [iblk]
  rw [e]
  exact rows2 m c _ s _

theorem rows3 (b : Fin 32) (s : Fin 4) (x : Fin 4096) :
    (V m c main_v14 : S32x4x4096.Idx → EReal) (ix3 b s x) = arg3 m c (ix2 ⟨b.val * 4 + s.val, by omega⟩ x) := by
  unfold V
  simp only [hostOps0,  List.flatten_cons, List.flatten_nil, List.append_nil, List.cons_append, List.nil_append]
  after_results_simp
  pointwise []

theorem blk3 (t : Fin cfg0.N) (s : Fin 4) (x : Fin 512) : (iblk m c 3 t : S1x4x512.Idx → EReal) (ix3 0 s x)
    = arg3 m c (ix2 ⟨(seqOf t).val * 4 + s.val, by omega⟩ ⟨(octet t).val * 512 + x.val, by omega⟩) := by
  have e : ((View.whole main_v14).slice (win0_3.rect t)).emb (ix3 0 s x) = (ix3 (seqOf t) s ⟨(octet t).val * 512 + x.val, by omega⟩ : S32x4x4096.Idx) := by
    blk_ext [idx t]
  blk_simp [iblk]
  rw [e]
  exact rows3 m c _ s _

theorem rows4 (b : Fin 32) (s : Fin 4) (x : Fin 4096) :
    (V m c main_v15 : S32x4x4096.Idx → EReal) (ix3 b s x) = arg4 m c (ix2 ⟨b.val * 4 + s.val, by omega⟩ x) := by
  unfold V
  simp only [hostOps0,  List.flatten_cons, List.flatten_nil, List.append_nil, List.cons_append, List.nil_append]
  after_results_simp
  pointwise []

theorem blk4 (t : Fin cfg0.N) (s : Fin 4) (x : Fin 512) : (iblk m c 4 t : S1x4x512.Idx → EReal) (ix3 0 s x)
    = arg4 m c (ix2 ⟨(seqOf t).val * 4 + s.val, by omega⟩ ⟨(octet t).val * 512 + x.val, by omega⟩) := by
  have e : ((View.whole main_v15).slice (win0_4.rect t)).emb (ix3 0 s x) = (ix3 (seqOf t) s ⟨(octet t).val * 512 + x.val, by omega⟩ : S32x4x4096.Idx) := by
    blk_ext [idx t]
  blk_simp [iblk]
  rw [e]
  exact rows4 m c _ s _

theorem rows5 (b : Fin 32) (s : Fin 4) (x : Fin 4096) :
    (V m c main_v16 : S32x4x4096.Idx → EReal) (ix3 b s x) = arg5 m c (ix2 ⟨b.val * 4 + s.val, by omega⟩ x) := by
  unfold V
  simp only [hostOps0,  List.flatten_cons, List.flatten_nil, List.append_nil, List.cons_append, List.nil_append]
  after_results_simp
  pointwise []

theorem blk5 (t : Fin cfg0.N) (s : Fin 4) (x : Fin 512) : (iblk m c 5 t : S1x4x512.Idx → EReal) (ix3 0 s x)
    = arg5 m c (ix2 ⟨(seqOf t).val * 4 + s.val, by omega⟩ ⟨(octet t).val * 512 + x.val, by omega⟩) := by
  have e : ((View.whole main_v16).slice (win0_5.rect t)).emb (ix3 0 s x) = (ix3 (seqOf t) s ⟨(octet t).val * 512 + x.val, by omega⟩ : S32x4x4096.Idx) := by
    blk_ext [idx t]
  blk_simp [iblk]
  rw [e]
  exact rows5 m c _ s _

theorem blk6 (t : Fin cfg0.N) (r : Fin 8) (x : Fin 512) : (iblk m c 6 t : S8x512.Idx → EReal) (ix2 r x)
    = (V m c main_v10 : S8x4096.Idx → EReal) (ix2 r ⟨(octet t).val * 512 + x.val, by omega⟩) := by
  have e : ((View.whole main_v10).slice (win0_6.rect t)).emb (ix2 r x) = (ix2 r ⟨(octet t).val * 512 + x.val, by omega⟩ : S8x4096.Idx) := by
    blk_ext [idx t]
  blk_simp [iblk]
  rw [e]

theorem param0 (x : Fin 4096) : (V m c main_v10 : S8x4096.Idx → EReal) (ix2 0 x) = arg6 m c (ix1 x) := by
  unfold V
  simp only [hostOps0,  List.flatten_cons, List.flatten_nil, List.append_nil, List.cons_append, List.nil_append]
  after_results_simp
  pointwise []
  after_results_simp
  pointwise []

theorem param1 (x : Fin 4096) : (V m c main_v10 : S8x4096.Idx → EReal) (ix2 1 x) = arg7 m c (ix1 x) := by
  unfold V
  simp only [hostOps0,  List.flatten_cons, List.flatten_nil, List.append_nil, List.cons_append, List.nil_append]
  after_results_simp
  pointwise []
  after_results_simp
  pointwise []

theorem param2 (x : Fin 4096) : (V m c main_v10 : S8x4096.Idx → EReal) (ix2 2 x) = arg8 m c (ix1 x) := by
  unfold V
  simp only [hostOps0,  List.flatten_cons, List.flatten_nil, List.append_nil, List.cons_append, List.nil_append]
  after_results_simp
  pointwise []
  after_results_simp
  pointwise []

theorem param3 (x : Fin 4096) : (V m c main_v10 : S8x4096.Idx → EReal) (ix2 3 x) = arg9 m c (ix1 x) := by
  unfold V
  simp only [hostOps0,  List.flatten_cons, List.flatten_nil, List.append_nil, List.cons_append, List.nil_append]
  after_results_simp
  pointwise []
  after_results_simp
  pointwise []

theorem param4 (x : Fin 4096) : (V m c main_v10 : S8x4096.Idx → EReal) (ix2 4 x) = arg10 m c (ix2 ⟨x.val / 64, by omega⟩ ⟨x.val % 64, by omega⟩) := by
  unfold V
  simp only [hostOps0,  List.flatten_cons, List.flatten_nil, List.append_nil, List.cons_append, List.nil_append]
  after_results_simp
  pointwise []
  after_results_simp
  pointwise []

theorem param5 (x : Fin 4096) : (V m c main_v10 : S8x4096.Idx → EReal) (ix2 5 x) = arg11 m c (ix1 x) := by
  unfold V
  simp only [hostOps0,  List.flatten_cons, List.flatten_nil, List.append_nil, List.cons_append, List.nil_append]
  after_results_simp
  pointwise []
  after_results_simp
  pointwise []

theorem param6 (x : Fin 4096) : (V m c main_v10 : S8x4096.Idx → EReal) (ix2 6 x) = arg12 m c (ix1 x) := by
  unfold V
  simp only [hostOps0,  List.flatten_cons, List.flatten_nil, List.append_nil, List.cons_append, List.nil_append]
  after_results_simp
  pointwise []
  after_results_simp
  pointwise []

theorem blk7 (t : Fin cfg0.N) (n : Fin 8) (i j : Fin 64) : (iblk m c 7 t : S1x8x64x64.Idx → EReal) (ix4 0 n i j)
    = arg13 m c (ix4 (seqOf t) ⟨(octet t).val * 8 + n.val, by omega⟩ i j) := by
  have e : ((View.whole main_arg13).slice (win0_7.rect t)).emb (ix4 0 n i j) = (ix4 (seqOf t) ⟨(octet t).val * 8 + n.val, by omega⟩ i j : S32x64x64x64.Idx) := by
    blk_ext [idx t]
  blk_simp [iblk]
  rw [e]
  exact congrFun (V_main_arg13 m c) _

end Cert.WkvSampleIdeal.Reads
-- ==== Proof.WkvPair.lean ====
module

public import proofs.«01_k».proof.Proof.Gen.WkvSampleIdeal.Frame
public import Idealize.ShloMosaic.Lib.Pipeline.ValueKit

@[expose] public section
set_option maxRecDepth 16384
noncomputable section
open Idealize.ShloMosaic Idealize.ShloMosaic.TcCoe Idealize.SL.Sem

/-! # One pair of heads, as the kernel computes it

The kernel lays two heads side by side in 128 lanes, and their two states block-diagonally in a
128 by 128 matrix. Here are its steps for one pair, as functions of that pair's rows. -/

namespace Cert.WkvSampleIdeal.Pair
open Cert.WkvSampleIdeal Cert.WkvSampleIdeal.Gen

abbrev Rows := FVec Ideal S4x128 .f32
abbrev Row := FVec Ideal S1x128 .f32
abbrev Mat := FVec Ideal S128x128 .f32

/-- A lane belongs to the pair's first head. -/
def lo : IVec S4x128 1 :=
  cmpi .slt (iota .tc S4x128 32 [1] iota_S4x128_d1_w32) (broadcast S4x128 64#32)

/-- Two lanes belong to one head. -/
def same : IVec S128x128 1 :=
  xori (xori (cmpi .slt (iota .tc S128x128 32 [0] iota_S128x128_d0_w32) (broadcast S128x128 64#32))
    (cmpi .slt (iota .tc S128x128 32 [1] iota_S128x128_d1_w32) (broadcast S128x128 64#32)))
    (constantI S128x128 1 1#1)

/-- The diagonal. -/
def eye : IVec S128x128 1 :=
  cmpi .eq (iota .tc S128x128 32 [0] iota_S128x128_d0_w32) (iota .tc S128x128 32 [1] iota_S128x128_d1_w32)

def zeros : Rows := broadcast S4x128 (Scalar.ofBits .f32 0x00000000#32)
def zerosM : Mat := broadcast S128x128 (Scalar.ofBits .f32 0x00000000#32)

/-- Every lane gets the sum of its head's lanes. -/
def headSum (x : Rows) : Rows :=
  select lo
    (broadcastTo S4x128 (shapeCast S4x1 (shapeCast S4x1 (multiReduction .add [1] S4 (select lo x zeros) 0x00000000#32
      reduces_S4x128_S4 (.inl rfl) rfl) shapeCasts_S4_S4x1) shapeCasts_S4x1_S4x1) broadcasts_S4x1_S4x128)
    (broadcastTo S4x128 (shapeCast S4x1 (shapeCast S4x1 (multiReduction .add [1] S4 (select lo zeros x) 0x00000000#32
      reduces_S4x128_S4 (.inl rfl) rfl) shapeCasts_S4_S4x1) shapeCasts_S4x1_S4x1) broadcasts_S4x1_S4x128)

/-- The exponential's argument of the decay. -/
def logDecay (w0 : Row) (wl : Rows) : Rows :=
  let z : Rows := subf zeros (addf (broadcastTo S4x128 w0 broadcasts_S1x128_S4x128) wl)
  subf zeros (exp (subf (subf zeros (addf (maximumf z zeros)
    (log (addf (broadcast S4x128 (Scalar.ofBits .f32 0x3F800000#32)) (exp (subf zeros (absf z)))))))
    (broadcast S4x128 (Scalar.ofBits .f32 0x3F000000#32))))

/-- The decay of each lane. -/
def decay (w0 : Row) (wl : Rows) : Rows := exp (logDecay w0 wl)

/-- The rate at which each lane of the state is corrected. -/
def rate (a0 : Row) (al : Rows) : Rows := logistic (addf (broadcastTo S4x128 a0 broadcasts_S1x128_S4x128) al)

/-- The key, scaled and of length one in each head. -/
def unit (kk : Row) (k : Rows) : Rows :=
  let x : Rows := mulf k (broadcastTo S4x128 kk broadcasts_S1x128_S4x128)
  divf x (maximumf (sqrt (headSum (mulf x x))) (broadcast S4x128 (Scalar.ofBits .f32 0x2B8CBCCC#32)))

/-- The key that is written. -/
def written (ka : Row) (k a : Rows) : Rows :=
  mulf k (addf (broadcast S4x128 (Scalar.ofBits .f32 0x3F800000#32))
    (mulf (subf a (broadcast S4x128 (Scalar.ofBits .f32 0x3F800000#32))) (broadcastTo S4x128 ka broadcasts_S1x128_S4x128)))

/-- The two states, block-diagonally. -/
def stack (s0 s1 : FVec Ideal S64x64 .f32) : Mat :=
  let z : FVec Ideal S64x64 .f32 := broadcast S64x64 (Scalar.ofBits .f32 0x00000000#32)
  concatenate S128x128 0 [⟨S64x128, concatenate S64x128 1 [⟨S64x64, s0⟩, ⟨S64x64, z⟩] concatenates_S64x64_S64x64_S64x128_d1⟩,
    ⟨S64x128, concatenate S64x128 1 [⟨S64x64, z⟩, ⟨S64x64, s1⟩] concatenates_S64x64_S64x64_S64x128_d1⟩]
    concatenates_S64x128_S64x128_S128x128_d0

/-- A row, turned into a column. -/
def column (v : Row) : FVec Ideal S128x1 .f32 :=
  shapeCast S128x1 (multiReduction .add [1] S128 (select eye
    (broadcastTo S128x128 (shapeCast S1x128 v shapeCasts_S1x128_S1x128) broadcasts_S1x128_S128x128) zerosM) 0x00000000#32
    reduces_S128x128_S128 (.inl rfl) rfl) shapeCasts_S128_S128x1

/-- A matrix times a row, as a column. -/
def apply (s : Mat) (a : Row) : FVec Ideal S128x1 .f32 :=
  shapeCast S128x1 (multiReduction .add [1] S128 (mulf s (broadcastTo S128x128 a broadcasts_S1x128_S128x128)) 0x00000000#32
    reduces_S128x128_S128 (.inl rfl) rfl) shapeCasts_S128_S128x1

/-- One token's update of the state. -/
def step (s : Mat) (w a b v k : Row) : Mat :=
  addf (mulf s (broadcastTo S128x128 w broadcasts_S1x128_S128x128)) (select same
    (addf (mulf (broadcastTo S128x128 (apply s a) broadcasts_S128x1_S128x128) (broadcastTo S128x128 b broadcasts_S1x128_S128x128))
      (mulf (broadcastTo S128x128 (column v) broadcasts_S128x1_S128x128) (broadcastTo S128x128 k broadcasts_S1x128_S128x128)))
    zerosM)

/-- What one token reads from the state. -/
def readout (s : Mat) (r : Row) : Row :=
  shapeCast S1x128 (multiReduction .add [0] S128 (select eye (broadcastTo S128x128 (shapeCast S128x1 (apply s r) shapeCasts_S128x1_S128x1)
    broadcasts_S128x1_S128x128) zerosM) 0x00000000#32 reduces_S128x128_S128_2 (.inl rfl) rfl) shapeCasts_S128_S1x128

/-- Group norm, the direct term and the gate. -/
def finish (y r k v g : Rows) (rk gg gb : Row) : Rows :=
  let s : Rows := broadcast S4x128 (Scalar.ofBits .f32 0x3C800000#32)
  let yc : Rows := subf y (mulf (headSum y) s)
  mulf (addf (addf (mulf (mulf yc (rsqrt (addf (mulf (headSum (mulf yc yc)) s) (broadcast S4x128 (Scalar.ofBits .f32 0x3A27C5AC#32)))))
    (broadcastTo S4x128 gg broadcasts_S1x128_S4x128)) (broadcastTo S4x128 gb broadcasts_S1x128_S4x128))
    (mulf (headSum (mulf (mulf r k) (broadcastTo S4x128 rk broadcasts_S1x128_S4x128))) v)) g

def row0 (x : Rows) : Row := extractStridedSlice S1x128 ![0, 0] x slices_S4x128_o0_0_S1x128
def row1 (x : Rows) : Row := extractStridedSlice S1x128 ![1, 0] x slices_S4x128_o1_0_S1x128
def row2 (x : Rows) : Row := extractStridedSlice S1x128 ![2, 0] x slices_S4x128_o2_0_S1x128
def row3 (x : Rows) : Row := extractStridedSlice S1x128 ![3, 0] x slices_S4x128_o3_0_S1x128

/-- The state after each token. -/
def st1 (s : Mat) (w a b v k : Rows) : Mat := step s (row0 w) (row0 a) (row0 b) (row0 v) (row0 k)
def st2 (s : Mat) (w a b v k : Rows) : Mat := step (st1 s w a b v k) (row1 w) (row1 a) (row1 b) (row1 v) (row1 k)
def st3 (s : Mat) (w a b v k : Rows) : Mat := step (st2 s w a b v k) (row2 w) (row2 a) (row2 b) (row2 v) (row2 k)
def st4 (s : Mat) (w a b v k : Rows) : Mat := step (st3 s w a b v k) (row3 w) (row3 a) (row3 b) (row3 v) (row3 k)

/-- What the four tokens read. -/
def reads (s : Mat) (w a b v k r : Rows) : Rows :=
  concatenate S4x128 0 [⟨S1x128, readout (st1 s w a b v k) (row0 r)⟩, ⟨S1x128, readout (st2 s w a b v k) (row1 r)⟩,
    ⟨S1x128, readout (st3 s w a b v k) (row2 r)⟩, ⟨S1x128, readout (st4 s w a b v k) (row3 r)⟩]
    concatenates_S1x128_S1x128_S1x128_S1x128_S4x128_d0

/-- What one pair of heads is given: the rows of its 128 lanes and its two states. -/
structure In where
  (r k v g wl al : Rows)
  (w0 a0 kk ka rk gg gb : Row)
  (s0 s1 : FVec Ideal S64x64 .f32)

namespace In
variable (i : In)
def w : Rows := decay i.w0 i.wl
def rate : Rows := Pair.rate i.a0 i.al
def u : Rows := unit i.kk i.k
def a : Rows := subf zeros i.u
def b : Rows := mulf i.u i.rate
def kf : Rows := written i.ka i.k i.rate
def s : Mat := stack i.s0 i.s1
/-- The state after the four tokens. -/
def state : Mat := st4 i.s i.w i.a i.b i.v i.kf
/-- The four rows that are written. -/
def out : Rows := finish (reads i.s i.w i.a i.b i.v i.kf i.r) i.r i.kf i.v i.g i.rk i.gg i.gb
end In

end Cert.WkvSampleIdeal.Pair
-- ==== Proof.WkvCuts.lean ====
module

public import proofs.«01_k».proof.Proof.WkvPair

@[expose] public section
set_option maxRecDepth 16384
noncomputable section
open Idealize.ShloMosaic Idealize.ShloMosaic.TcCoe Idealize.SL.Sem

/-! # The four pairs of a grid point

A grid point holds four pairs; the buffers it leaves are, pair by pair, the functions of one pair at
that pair's lanes of the blocks it was given. -/

namespace Cert.WkvSampleIdeal.Pair
open Cert.WkvSampleIdeal Cert.WkvSampleIdeal.Gen

/-- Rows, a row or a state of a block, as a pair is given it. -/
abbrev rows (x : Vec Ideal S1x4x128 .f32) : Rows := shapeCast S4x128 x shapeCasts_S1x4x128_S4x128
abbrev row (x : Vec Ideal S1x128 .f32) : Row := shapeCast S1x128 x shapeCasts_S1x128_S1x128
abbrev state1 (x : Vec Ideal S1x1x64x64 .f32) : FVec Ideal S64x64 .f32 := shapeCast S64x64 x shapeCasts_S1x1x64x64_S64x64

variable (x0 x1 x2 x3 x4 x5 : Vec Ideal S1x4x512 .f32) (x6 : Vec Ideal S8x512 .f32) (x7 : Vec Ideal S1x8x64x64 .f32)

/-- What pair 0 is given. -/
def in0 : In where
  r := rows (View.ld x0 r0_7)
  k := rows (View.ld x1 r0_7)
  v := rows (View.ld x2 r0_7)
  g := rows (View.ld x3 r0_7)
  wl := rows (View.ld x4 r0_7)
  al := rows (View.ld x5 r0_7)
  w0 := row (View.ld x6 r0_0)
  a0 := row (View.ld x6 r0_1)
  kk := row (View.ld x6 r0_2)
  ka := row (View.ld x6 r0_3)
  rk := row (View.ld x6 r0_4)
  gg := row (View.ld x6 r0_5)
  gb := row (View.ld x6 r0_6)
  s0 := state1 (View.ld x7 r0_8)
  s1 := state1 (View.ld x7 r0_9)

theorem state_0 : k0_pay284 (F := Ideal) x0 x1 x2 x3 x4 x5 x6 x7 = (in0 x0 x1 x2 x3 x4 x5 x6 x7).state := rfl

/-- What pair 1 is given. -/
def in1 : In where
  r := rows (View.ld x0 r0_17)
  k := rows (View.ld x1 r0_17)
  v := rows (View.ld x2 r0_17)
  g := rows (View.ld x3 r0_17)
  wl := rows (View.ld x4 r0_17)
  al := rows (View.ld x5 r0_17)
  w0 := row (View.ld x6 r0_10)
  a0 := row (View.ld x6 r0_11)
  kk := row (View.ld x6 r0_12)
  ka := row (View.ld x6 r0_13)
  rk := row (View.ld x6 r0_14)
  gg := row (View.ld x6 r0_15)
  gb := row (View.ld x6 r0_16)
  s0 := state1 (View.ld x7 r0_18)
  s1 := state1 (View.ld x7 r0_19)

theorem state_1 : k0_pay288 (F := Ideal) x0 x1 x2 x3 x4 x5 x6 x7 = (in1 x0 x1 x2 x3 x4 x5 x6 x7).state := rfl

/-- What pair 2 is given. -/
def in2 : In where
  r := rows (View.ld x0 r0_27)
  k := rows (View.ld x1 r0_27)
  v := rows (View.ld x2 r0_27)
  g := rows (View.ld x3 r0_27)
  wl := rows (View.ld x4 r0_27)
  al := rows (View.ld x5 r0_27)
  w0 := row (View.ld x6 r0_20)
  a0 := row (View.ld x6 r0_21)
  kk := row (View.ld x6 r0_22)
  ka := row (View.ld x6 r0_23)
  rk := row (View.ld x6 r0_24)
  gg := row (View.ld x6 r0_25)
  gb := row (View.ld x6 r0_26)
  s0 := state1 (View.ld x7 r0_28)
  s1 := state1 (View.ld x7 r0_29)

theorem state_2 : k0_pay293 (F := Ideal) x0 x1 x2 x3 x4 x5 x6 x7 = (in2 x0 x1 x2 x3 x4 x5 x6 x7).state := rfl

/-- What pair 3 is given. -/
def in3 : In where
  r := rows (View.ld x0 r0_37)
  k := rows (View.ld x1 r0_37)
  v := rows (View.ld x2 r0_37)
  g := rows (View.ld x3 r0_37)
  wl := rows (View.ld x4 r0_37)
  al := rows (View.ld x5 r0_37)
  w0 := row (View.ld x6 r0_30)
  a0 := row (View.ld x6 r0_31)
  kk := row (View.ld x6 r0_32)
  ka := row (View.ld x6 r0_33)
  rk := row (View.ld x6 r0_34)
  gg := row (View.ld x6 r0_35)
  gb := row (View.ld x6 r0_36)
  s0 := state1 (View.ld x7 r0_38)
  s1 := state1 (View.ld x7 r0_39)

theorem state_3 : k0_pay295 (F := Ideal) x0 x1 x2 x3 x4 x5 x6 x7 = (in3 x0 x1 x2 x3 x4 x5 x6 x7).state := rfl

/-- A pair's rows and states, in the shape of the block they are stored to. -/
abbrev put (x : Rows) : Vec Ideal S1x4x128 .f32 := shapeCast S1x4x128 x shapeCasts_S4x128_S1x4x128
abbrev first (x : Mat) : Vec Ideal S1x1x64x64 .f32 :=
  shapeCast S1x1x64x64 (extractStridedSlice S64x64 ![0, 0] x slices_S128x128_o0_0_S64x64) shapeCasts_S64x64_S1x1x64x64
abbrev second (x : Mat) : Vec Ideal S1x1x64x64 .f32 :=
  shapeCast S1x1x64x64 (extractStridedSlice S64x64 ![64, 64] x slices_S128x128_o64_64_S64x64) shapeCasts_S64x64_S1x1x64x64

theorem out8 : out0_8 (F := Ideal) x0 x1 x2 x3 x4 x5 x6 x7 = View.canon [⟨r0_37, put (in3 x0 x1 x2 x3 x4 x5 x6 x7).out⟩, ⟨r0_27, put (in2 x0 x1 x2 x3 x4 x5 x6 x7).out⟩,
    ⟨r0_17, put (in1 x0 x1 x2 x3 x4 x5 x6 x7).out⟩, ⟨r0_7, put (in0 x0 x1 x2 x3 x4 x5 x6 x7).out⟩] := rfl

theorem out9 : out0_9 (F := Ideal) x0 x1 x2 x3 x4 x5 x6 x7 = View.canon [⟨r0_39, second (in3 x0 x1 x2 x3 x4 x5 x6 x7).state⟩, ⟨r0_38, first (in3 x0 x1 x2 x3 x4 x5 x6 x7).state⟩,
    ⟨r0_29, second (in2 x0 x1 x2 x3 x4 x5 x6 x7).state⟩, ⟨r0_28, first (in2 x0 x1 x2 x3 x4 x5 x6 x7).state⟩,
    ⟨r0_19, second (in1 x0 x1 x2 x3 x4 x5 x6 x7).state⟩, ⟨r0_18, first (in1 x0 x1 x2 x3 x4 x5 x6 x7).state⟩,
    ⟨r0_9, second (in0 x0 x1 x2 x3 x4 x5 x6 x7).state⟩, ⟨r0_8, first (in0 x0 x1 x2 x3 x4 x5 x6 x7).state⟩] := rfl

end Cert.WkvSampleIdeal.Pair
-- ==== Proof.WkvHead.lean ====
module

public import Idealize.ShloMosaic.Lib.Pipeline.ValueKit

@[expose] public section
noncomputable section
open Idealize.ShloMosaic

/-! # The recurrence of one head

One head's state is a 64 by 64 matrix. Each of the four tokens decays its columns, corrects it along
the normalised key and writes the token's value; the token then reads from it. -/

namespace Cert.Wkv

/-- One token's update. -/
def next (s : Fin 64 → Fin 64 → EReal) (w a b v k : Fin 64 → EReal) : Fin 64 → Fin 64 → EReal :=
  fun i j => s i j * w j + (∑ c, s i c * a c) * b j + v i * k j

/-- What a token reads. -/
def read (s : Fin 64 → Fin 64 → EReal) (r : Fin 64 → EReal) : Fin 64 → EReal := fun i => ∑ j, s i j * r j

/-- The decay belonging to a raw score. -/
def decayOf (x : EReal) : EReal :=
  Ideal.exp (-Ideal.exp (-(max (-x) 0 + Ideal.log (1 + Ideal.exp (-max (-x) (- -x)))) - Ideal.ofBits .f32 1056964608#32))

/-- What one head is given: its rows for four tokens, its parameters, its state. -/
@[ext] structure Head where
  (r k v g wl al : Fin 4 → Fin 64 → EReal)
  (w0 a0 kk ka rk gg gb : Fin 64 → EReal)
  (s : Fin 64 → Fin 64 → EReal)

namespace Head
variable (h : Head)

def w (t : Fin 4) (j : Fin 64) : EReal := decayOf (h.w0 j + h.wl t j)
def rate (t : Fin 4) (j : Fin 64) : EReal := Ideal.logistic (h.a0 j + h.al t j)
def x (t : Fin 4) (j : Fin 64) : EReal := h.k t j * h.kk j
/-- The normalised key. -/
def u (t : Fin 4) (j : Fin 64) : EReal :=
  Ideal.div (h.x t j) (max (Ideal.sqrt (∑ c, h.x t c * h.x t c)) (Ideal.ofBits .f32 730643660#32))
def a (t : Fin 4) (j : Fin 64) : EReal := -h.u t j
def b (t : Fin 4) (j : Fin 64) : EReal := h.u t j * h.rate t j
/-- The key that is written. -/
def kf (t : Fin 4) (j : Fin 64) : EReal := h.k t j * (1 + (h.rate t j - 1) * h.ka j)

def step (s : Fin 64 → Fin 64 → EReal) (t : Fin 4) : Fin 64 → Fin 64 → EReal :=
  next s (h.w t) (h.a t) (h.b t) (h.v t) (h.kf t)
def st1 := h.step h.s 0
def st2 := h.step h.st1 1
def st3 := h.step h.st2 2
def st4 := h.step h.st3 3

/-- What the four tokens read. -/
def y (t : Fin 4) : Fin 64 → EReal := read (![h.st1, h.st2, h.st3, h.st4] t) (h.r t)
def mean (t : Fin 4) : EReal := Ideal.div (∑ c, h.y t c) ((64 : ℝ) : EReal)
def var (t : Fin 4) : EReal := Ideal.div (∑ c, (h.y t c - h.mean t) * (h.y t c - h.mean t)) ((64 : ℝ) : EReal)

/-- The head's output: group norm, the direct term, the gate. -/
def out (t : Fin 4) (j : Fin 64) : EReal :=
  ((h.y t j - h.mean t) * Ideal.rsqrt (h.var t + Ideal.ofBits .f32 975685036#32) * h.gg j + h.gb j
    + (∑ c, h.r t c * h.kf t c * h.rk c) * h.v t j) * h.g t j

end Head

end Cert.Wkv
-- ==== Proof.WkvLanes.lean ====
module

public import proofs.«01_k».proof.Proof.WkvCuts
public import proofs.«01_k».proof.Proof.WkvHead

@[expose] public section
set_option maxRecDepth 16384
noncomputable section
open Idealize.ShloMosaic Idealize.ShloMosaic.TcCoe Idealize.SL.Sem

/-! # A pair of heads is two heads

The lanes of a pair are the two heads' lanes one after the other; the block-diagonal matrix keeps its
zeros, as zero times anything is zero over the extended reals, so each block moves as one head. -/

namespace Cert.WkvSampleIdeal.Pair
open Cert.WkvSampleIdeal Cert.WkvSampleIdeal.Gen Cert.Wkv

/-- Lane `j` of the pair's head `p`. -/
def lane (p : Fin 2) (j : Fin 64) : Fin 128 := ⟨64 * p.val + j.val, by omega⟩

theorem sum_lanes (f : Fin 128 → EReal) : ∑ x, f x = (∑ j, f (lane 0 j)) + ∑ j, f (lane 1 j) := by
  refine (Fin.sum_univ_add (a := 64) (b := 64) f).trans (congrArg₂ (· + ·) ?_ ?_)
  · exact Finset.sum_congr rfl fun j _ => congrArg f (Fin.ext (by simp [lane]; try omega))
  · exact Finset.sum_congr rfl fun j _ => congrArg f (Fin.ext (by simp [lane]; try omega))

theorem lo_first (t : Fin 4) (j : Fin 64) : lo (ix2 t (lane 0 j)) = 1#1 := by
  pointwise [lo]; revert j; decide +kernel
theorem lo_second (t : Fin 4) (j : Fin 64) : lo (ix2 t (lane 1 j)) = 0#1 := by
  pointwise [lo]; revert j; decide +kernel
theorem same_lane (p q : Fin 2) (i j : Fin 64) : same (ix2 (lane p i) (lane q j)) = if p = q then 1#1 else 0#1 := by
  pointwise [same]; revert p q i j; decide +kernel
theorem eye_lane (p q : Fin 2) (i j : Fin 64) : eye (ix2 (lane p i) (lane q j)) = if p = q ∧ i = j then 1#1 else 0#1 := by
  pointwise [eye]; revert p q i j; decide +kernel

theorem select_one {α : Type} (x y : α) : Scalar.select 1#1 x y = x := rfl
theorem select_zero {α : Type} (x y : α) : Scalar.select 0#1 x y = y := rfl
theorem select_ite {α : Type} (c : Prop) [Decidable c] (x y : α) : Scalar.select (if c then 1#1 else 0#1) x y = if c then x else y := by
  split <;> rfl

theorem headSum_at (x : Rows) (t : Fin 4) (p : Fin 2) (j : Fin 64) :
    headSum x (ix2 t (lane p j)) = ∑ c, x (ix2 t (lane p c)) := by
  have e : ∀ l, headSum x (ix2 t l) = Scalar.select (lo (ix2 t l)) (∑ y, Scalar.select (lo (ix2 t y)) (x (ix2 t y)) 0)
      (∑ y, Scalar.select (lo (ix2 t y)) 0 (x (ix2 t y))) := fun l => by pointwise [headSum, zeros]
  rw [e, sum_lanes, sum_lanes]
  simp only [lo_first, lo_second, select_one, select_zero, Finset.sum_const_zero, add_zero, zero_add]
  match p with
  | 0 => rw [lo_first]; rfl
  | 1 => rw [lo_second]; rfl

/-- The lanes of a row, head by head. -/
def part (w : Row) (p : Fin 2) (j : Fin 64) : EReal := w (ix2 0 (lane p j))

/-- A matrix is the two states, block-diagonally. -/
def Blocks (m : Mat) (s : Fin 2 → Fin 64 → Fin 64 → EReal) : Prop :=
  ∀ p q i j, m (ix2 (lane p i) (lane q j)) = if p = q then s p i j else 0

theorem stack_blocks (s0 s1 : FVec Ideal S64x64 .f32) :
    Blocks (stack s0 s1) fun p i j => (if p = 0 then s0 else s1) (ix2 i j) := by
  intro p q i j
  have e : ∀ i j : Fin 128, stack s0 s1 (ix2 i j) = (if h : i.val < 64 then if h1 : j.val < 64 then s0 (ix2 ⟨i.val, h⟩ ⟨j.val, h1⟩) else 0
    else if h1 : j.val < 64 then 0 else s1 (ix2 ⟨i.val - 64, by omega⟩ ⟨j.val - 64, by omega⟩)) := fun i j => by pointwise [stack]
  rw [e]
  match p, q with
  | 0, 0 => simp [lane]
  | 0, 1 => simp [lane]
  | 1, 0 => simp [lane]
  | 1, 1 => simp [lane]

theorem apply_row {m : Mat} {s : Fin 2 → Fin 64 → Fin 64 → EReal} (hm : Blocks m s) (a : Row) (p : Fin 2) (i : Fin 64) :
    ∑ x, m (ix2 (lane p i) x) * a (ix2 0 x) = ∑ c, s p i c * part a p c := by
  rw [sum_lanes]
  simp only [hm p]
  match p with
  | 0 => simp [part]
  | 1 => simp [part]

theorem diagonal (f : Fin 128 → EReal) (p : Fin 2) (i : Fin 64) :
    ∑ x, Scalar.select (eye (ix2 (lane p i) x)) (f x) 0 = f (lane p i) := by
  rw [sum_lanes]
  simp only [eye_lane, select_ite]
  match p with
  | 0 => simp
  | 1 => simp

theorem diagonal' (f : Fin 128 → EReal) (p : Fin 2) (i : Fin 64) :
    ∑ x, Scalar.select (eye (ix2 x (lane p i))) (f x) 0 = f (lane p i) := by
  rw [sum_lanes]
  simp only [eye_lane, select_ite]
  match p with
  | 0 => simp
  | 1 => simp

theorem step_blocks {m : Mat} {s : Fin 2 → Fin 64 → Fin 64 → EReal} (hm : Blocks m s) (w a b v k : Row) :
    Blocks (step m w a b v k) fun p => next (s p) (part w p) (part a p) (part b p) (part v p) (part k p) := by
  intro p q i j
  have e : ∀ i j : Fin 128, step m w a b v k (ix2 i j) = m (ix2 i j) * w (ix2 0 j) + Scalar.select (same (ix2 i j))
      ((∑ x, m (ix2 i x) * a (ix2 0 x)) * b (ix2 0 j)
        + (∑ x, Scalar.select (eye (ix2 i x)) (v (ix2 0 x)) 0) * k (ix2 0 j)) 0 := fun i j => by
    pointwise [step, apply, column, zerosM]
  rw [e, apply_row hm, diagonal (fun x => v (ix2 0 x)), same_lane, select_ite, hm]
  by_cases h : p = q
  · subst h
    simp only [if_true, next]
    rw [add_assoc]; rfl
  · simp [h]

theorem readout_at {m : Mat} {s : Fin 2 → Fin 64 → Fin 64 → EReal} (hm : Blocks m s) (r : Row) (p : Fin 2) (i : Fin 64) :
    readout m r (ix2 0 (lane p i)) = read (s p) (part r p) i := by
  have e : ∀ j : Fin 128, readout m r (ix2 0 j)
      = ∑ x, Scalar.select (eye (ix2 x j)) (∑ y, m (ix2 x y) * r (ix2 0 y)) 0 := fun j => by
    pointwise [readout, apply, zerosM]
  rw [e, diagonal' (fun x => ∑ y, m (ix2 x y) * r (ix2 0 y)), apply_row hm]
  rfl

end Cert.WkvSampleIdeal.Pair
-- ==== Proof.WkvTwo.lean ====
module

public import proofs.«01_k».proof.Proof.WkvLanes

@[expose] public section
set_option maxRecDepth 16384
noncomputable section
open Idealize.ShloMosaic Idealize.ShloMosaic.TcCoe Idealize.SL.Sem

/-! # What a pair computes, as two heads -/

namespace Cert.WkvSampleIdeal.Pair
open Cert.WkvSampleIdeal Cert.WkvSampleIdeal.Gen Cert.Wkv

/-- Rows, head by head. -/
def parts (x : Rows) (p : Fin 2) (t : Fin 4) (j : Fin 64) : EReal := x (ix2 t (lane p j))

/-- Head `p` of a pair. -/
def In.head (i : In) (p : Fin 2) : Head where
  r := parts i.r p
  k := parts i.k p
  v := parts i.v p
  g := parts i.g p
  wl := parts i.wl p
  al := parts i.al p
  w0 := part i.w0 p
  a0 := part i.a0 p
  kk := part i.kk p
  ka := part i.ka p
  rk := part i.rk p
  gg := part i.gg p
  gb := part i.gb p
  s := fun a b => (if p = 0 then i.s0 else i.s1) (ix2 a b)

variable (i : In) (p : Fin 2)

theorem w_at : parts i.w p = (i.head p).w := by
  funext t j
  have e : ∀ l, i.w (ix2 t l) = decayOf (i.w0 (ix2 0 l) + i.wl (ix2 t l)) := fun l => by
    pointwise [In.w, decay, logDecay, zeros]
    simp only [zero_sub, decayOf]
    rfl
  exact e _

theorem rate_at : parts i.rate p = (i.head p).rate := by
  funext t j
  have e : ∀ l, i.rate (ix2 t l) = Ideal.logistic (i.a0 (ix2 0 l) + i.al (ix2 t l)) := fun l => by
    pointwise [In.rate, rate]
  exact e _

theorem u_at : parts i.u p = (i.head p).u := by
  funext t j
  have e : ∀ l, i.u (ix2 t l) = Ideal.div (i.k (ix2 t l) * i.kk (ix2 0 l))
      (max (Ideal.sqrt (headSum (mulf (mulf i.k (broadcastTo S4x128 i.kk broadcasts_S1x128_S4x128))
        (mulf i.k (broadcastTo S4x128 i.kk broadcasts_S1x128_S4x128))) (ix2 t l))) (Ideal.ofBits .f32 730643660#32)) := fun l => by
    pointwise [In.u, unit]
  have e' : ∀ l, mulf (F := Ideal) (mulf i.k (broadcastTo S4x128 i.kk broadcasts_S1x128_S4x128))
      (mulf i.k (broadcastTo S4x128 i.kk broadcasts_S1x128_S4x128)) (ix2 t l)
      = (i.k (ix2 t l) * i.kk (ix2 0 l)) * (i.k (ix2 t l) * i.kk (ix2 0 l)) := fun l => by pointwise []
  refine (e _).trans ?_
  rw [headSum_at]
  simp only [e']
  rfl

theorem a_at : parts i.a p = (i.head p).a := by
  funext t j
  have e : ∀ l, i.a (ix2 t l) = 0 - i.u (ix2 t l) := fun l => by pointwise [In.a, zeros]
  exact (e _).trans ((zero_sub _).trans (congrArg (fun z : EReal => -z) (congrFun (congrFun (u_at i p) t) j)))

theorem b_at : parts i.b p = (i.head p).b := by
  funext t j
  have e : ∀ l, i.b (ix2 t l) = i.u (ix2 t l) * i.rate (ix2 t l) := fun l => by pointwise [In.b]
  exact (e _).trans (congrArg₂ (· * ·) (congrFun (congrFun (u_at i p) t) j) (congrFun (congrFun (rate_at i p) t) j))

theorem kf_at : parts i.kf p = (i.head p).kf := by
  funext t j
  have e : ∀ l, i.kf (ix2 t l) = i.k (ix2 t l) * (1 + (i.rate (ix2 t l) - 1) * i.ka (ix2 0 l)) := fun l => by
    pointwise [In.kf, written]
  refine (e _).trans ?_
  have h : i.rate (ix2 t (lane p j)) = (i.head p).rate t j := congrFun (congrFun (rate_at i p) t) j
  rw [h]
  rfl

theorem row0_at (x : Rows) : part (row0 x) p = parts x p 0 := by
  funext j
  have e : ∀ l, row0 x (ix2 0 l) = x (ix2 0 l) := fun l => by pointwise [row0]
  exact e _
theorem row1_at (x : Rows) : part (row1 x) p = parts x p 1 := by
  funext j
  have e : ∀ l, row1 x (ix2 0 l) = x (ix2 1 l) := fun l => by pointwise [row1]
  exact e _
theorem row2_at (x : Rows) : part (row2 x) p = parts x p 2 := by
  funext j
  have e : ∀ l, row2 x (ix2 0 l) = x (ix2 2 l) := fun l => by pointwise [row2]
  exact e _
theorem row3_at (x : Rows) : part (row3 x) p = parts x p 3 := by
  funext j
  have e : ∀ l, row3 x (ix2 0 l) = x (ix2 3 l) := fun l => by pointwise [row3]
  exact e _

theorem s1_blocks : Blocks (st1 i.s i.w i.a i.b i.v i.kf) fun p => (i.head p).st1 := by
  have h := step_blocks (stack_blocks i.s0 i.s1) (row0 i.w) (row0 i.a) (row0 i.b) (row0 i.v) (row0 i.kf)
  simp only [row0_at, w_at, a_at, b_at, kf_at] at h
  exact h
theorem s2_blocks : Blocks (st2 i.s i.w i.a i.b i.v i.kf) fun p => (i.head p).st2 := by
  have h := step_blocks (s1_blocks i) (row1 i.w) (row1 i.a) (row1 i.b) (row1 i.v) (row1 i.kf)
  simp only [row1_at, w_at, a_at, b_at, kf_at] at h
  exact h
theorem s3_blocks : Blocks (st3 i.s i.w i.a i.b i.v i.kf) fun p => (i.head p).st3 := by
  have h := step_blocks (s2_blocks i) (row2 i.w) (row2 i.a) (row2 i.b) (row2 i.v) (row2 i.kf)
  simp only [row2_at, w_at, a_at, b_at, kf_at] at h
  exact h
/-- The pair's final state is the two heads' final states. -/
theorem state_blocks : Blocks i.state fun p => (i.head p).st4 := by
  have h := step_blocks (s3_blocks i) (row3 i.w) (row3 i.a) (row3 i.b) (row3 i.v) (row3 i.kf)
  simp only [row3_at, w_at, a_at, b_at, kf_at] at h
  exact h

theorem reads_at (t : Fin 4) (j : Fin 64) :
    reads i.s i.w i.a i.b i.v i.kf i.r (ix2 t (lane p j)) = (i.head p).y t j := by
  have e : ∀ l, reads i.s i.w i.a i.b i.v i.kf i.r (ix2 t l)
      = (![readout (st1 i.s i.w i.a i.b i.v i.kf) (row0 i.r), readout (st2 i.s i.w i.a i.b i.v i.kf) (row1 i.r),
        readout (st3 i.s i.w i.a i.b i.v i.kf) (row2 i.r), readout (st4 i.s i.w i.a i.b i.v i.kf) (row3 i.r)] t) (ix2 0 l) := fun l => by
    match t with
    | 0 => pointwise [reads]
    | 1 => pointwise [reads]
    | 2 => pointwise [reads]
    | 3 => pointwise [reads]
  rw [e]
  match t with
  | 0 => exact (readout_at (s1_blocks i) (row0 i.r) p j).trans (by rw [row0_at]; rfl)
  | 1 => exact (readout_at (s2_blocks i) (row1 i.r) p j).trans (by rw [row1_at]; rfl)
  | 2 => exact (readout_at (s3_blocks i) (row2 i.r) p j).trans (by rw [row2_at]; rfl)
  | 3 => exact (readout_at (state_blocks i) (row3 i.r) p j).trans (by rw [row3_at]; rfl)

theorem sixtyfourth (x : EReal) : x * Ideal.ofBits .f32 1015021568#32 = Ideal.div x ((64 : ℝ) : EReal) := by
  have e : Ideal.ofBits .f32 1015021568#32 = ((1 / 64 : ℝ) : EReal) := by
    simp [Ideal.ofBits, Ideal.ieee]
    rw [← EReal.coe_mul]
    norm_num
  rw [e, Ideal.div_coe (by norm_num)]

/-- The rows a pair writes are the two heads' rows. -/
theorem out_at (t : Fin 4) (j : Fin 64) : i.out (ix2 t (lane p j)) = (i.head p).out t j := by
  obtain ⟨y, hy⟩ : ∃ y, y = reads i.s i.w i.a i.b i.v i.kf i.r := ⟨_, rfl⟩
  have hy' : ∀ c, y (ix2 t (lane p c)) = (i.head p).y t c := fun c => by rw [hy]; exact reads_at i p t c
  have hk : ∀ c, i.kf (ix2 t (lane p c)) = (i.head p).kf t c := fun c => congrFun (congrFun (kf_at i p) t) c
  obtain ⟨yc, hc⟩ : ∃ yc : Rows, yc = subf y (mulf (headSum y) (broadcast S4x128 (Scalar.ofBits .f32 0x3C800000#32))) := ⟨_, rfl⟩
  obtain ⟨d, hd⟩ : ∃ d : Rows, d = mulf (mulf i.r i.kf) (broadcastTo S4x128 i.rk broadcasts_S1x128_S4x128) := ⟨_, rfl⟩
  obtain ⟨q, hq⟩ : ∃ q : Rows, q = mulf yc yc := ⟨_, rfl⟩
  have e : ∀ l, i.out (ix2 t l) = (yc (ix2 t l) * Ideal.rsqrt (headSum q (ix2 t l) * Ideal.ofBits .f32 1015021568#32 + Ideal.ofBits .f32 975685036#32)
      * i.gg (ix2 0 l) + i.gb (ix2 0 l) + headSum d (ix2 t l) * i.v (ix2 t l)) * i.g (ix2 t l) := fun l => by
    rw [hq, hc, hd, hy]
    pointwise [In.out, finish]
  have ec : ∀ c, yc (ix2 t (lane p c)) = (i.head p).y t c - (i.head p).mean t := fun c => by
    have e : ∀ l, yc (ix2 t l) = y (ix2 t l) - headSum y (ix2 t l) * Ideal.ofBits .f32 1015021568#32 := fun l => by
      rw [hc]; rfl
    rw [e, headSum_at, sixtyfourth, hy']
    simp only [hy']
    rfl
  have eq : ∀ c, q (ix2 t (lane p c)) = yc (ix2 t (lane p c)) * yc (ix2 t (lane p c)) := fun c => by rw [hq]; rfl
  have ed : ∀ c, d (ix2 t (lane p c)) = i.r (ix2 t (lane p c)) * i.kf (ix2 t (lane p c)) * i.rk (ix2 0 (lane p c)) := fun c => by
    have e : ∀ l, d (ix2 t l) = i.r (ix2 t l) * i.kf (ix2 t l) * i.rk (ix2 0 l) := fun l => by rw [hd]; pointwise []
    exact e _
  rw [e, headSum_at, headSum_at, sixtyfourth]
  simp only [eq, ed, ec, hk]
  rfl

end Cert.WkvSampleIdeal.Pair
-- ==== Proof.WkvRef.lean ====
module

public import proofs.«01_k».proof.Proof.Gen.WkvSampleRefIdeal.Run
public import proofs.«01_k».proof.Proof.WkvHead
public import Idealize.ShloMosaic.Lib.Pipeline.ValueKit

@[expose] public section
set_option maxRecDepth 16384
noncomputable section
open Idealize.ShloMosaic Idealize.ShloMosaic.TcCoe Idealize.SL.Sem Idealize.ShloMosaic.StableHlo

/-! # The reference, head by head -/

namespace Cert.WkvSampleRefIdeal.Heads
open Cert.WkvSampleRefIdeal Cert.WkvSampleRefIdeal.Gen Cert.WkvSampleRefIdeal.Value Cert.Wkv

/-- The row of token `t` of sequence `b`. -/
def tok (b : Fin 32) (t : Fin 4) : Fin 128 := ⟨b.val * 4 + t.val, by omega⟩
/-- The column of entry `j` of head `h`. -/
def col (h j : Fin 64) : Fin 4096 := ⟨h.val * 64 + j.val, by omega⟩

variable (V : Valuation τ sig (Elt Ideal))

/-- Head `h` of sequence `b`. -/
def head (b : Fin 32) (h : Fin 64) : Head where
  r t j := (V (Proc.devRef .tc main_arg0) : FVec Ideal S128x4096 .f32) (ix2 (tok b t) (col h j))
  k t j := (V (Proc.devRef .tc main_arg1) : FVec Ideal S128x4096 .f32) (ix2 (tok b t) (col h j))
  v t j := (V (Proc.devRef .tc main_arg2) : FVec Ideal S128x4096 .f32) (ix2 (tok b t) (col h j))
  g t j := (V (Proc.devRef .tc main_arg3) : FVec Ideal S128x4096 .f32) (ix2 (tok b t) (col h j))
  wl t j := (V (Proc.devRef .tc main_arg4) : FVec Ideal S128x4096 .f32) (ix2 (tok b t) (col h j))
  al t j := (V (Proc.devRef .tc main_arg5) : FVec Ideal S128x4096 .f32) (ix2 (tok b t) (col h j))
  w0 j := (V (Proc.devRef .tc main_arg6) : FVec Ideal S4096 .f32) (ix1 (col h j))
  a0 j := (V (Proc.devRef .tc main_arg7) : FVec Ideal S4096 .f32) (ix1 (col h j))
  kk j := (V (Proc.devRef .tc main_arg8) : FVec Ideal S4096 .f32) (ix1 (col h j))
  ka j := (V (Proc.devRef .tc main_arg9) : FVec Ideal S4096 .f32) (ix1 (col h j))
  rk j := (V (Proc.devRef .tc main_arg10) : FVec Ideal S64x64 .f32) (ix2 h j)
  gg j := (V (Proc.devRef .tc main_arg11) : FVec Ideal S4096 .f32) (ix1 (col h j))
  gb j := (V (Proc.devRef .tc main_arg12) : FVec Ideal S4096 .f32) (ix1 (col h j))
  s i j := (V (Proc.devRef .tc main_arg13) : FVec Ideal S32x64x64x64 .f32) (ix4 b h i j)

variable (b : Fin 32) (t : Fin 4) (h i j : Fin 64)

theorem w_at : res_main_v11 V (ix4 b t h j) = (head V b h).w t j := by
  pointwise [res_main_v11, res_main_call0_v3, res_main_call0_cst, res_main_v3]
  simp only [ne_eq, not_true_eq_false, if_false, Ideal.log1p]
  rfl

theorem rate_at : res_main_v20 V (ix2 (tok b t) (col h j)) = (head V b h).rate t j := by
  pointwise [res_main_v20]
  rfl

theorem x_at : res_main_v24 V (ix4 b t h j) = (head V b h).x t j := by
  pointwise [res_main_v24]
  rfl

theorem u_at : res_main_v32 V (ix4 b t h j) = (head V b h).u t j := by
  pointwise [res_main_v32]
  simp only [x_at]
  rfl

theorem kf_at : res_main_v41 V (ix4 b t h j) = (head V b h).kf t j := by
  pointwise [res_main_v41]
  have e := rate_at V b t h j
  unfold tok col at e
  rw [e]
  rfl

theorem r_at : res_main_v42 V (ix4 b t h j) = (head V b h).r t j := by
  pointwise [res_main_v42]
  rfl

theorem v_at : res_main_v43 V (ix4 b t h j) = (head V b h).v t j := by
  pointwise [res_main_v43]
  rfl

theorem a_at : res_main_v44 V (ix4 b t h j) = (head V b h).a t j := by
  pointwise [res_main_v44]
  rw [u_at]
  rfl

theorem b_at : res_main_v46 V (ix4 b t h j) = (head V b h).b t j := by
  pointwise [res_main_v46]
  have e := rate_at V b t h j
  unfold tok col at e
  rw [e, u_at]
  rfl

theorem st1_at : res_main_v72 V (ix4 b h i j) = (head V b h).st1 i j := by
  pointwise [res_main_v72]
  simp only [w_at, a_at, b_at, v_at, kf_at]
  rfl

theorem st2_at : res_main_v101 V (ix4 b h i j) = (head V b h).st2 i j := by
  pointwise [res_main_v101]
  simp only [st1_at, w_at, a_at, b_at, v_at, kf_at]
  rfl

theorem st3_at : res_main_v130 V (ix4 b h i j) = (head V b h).st3 i j := by
  pointwise [res_main_v130]
  simp only [st2_at, w_at, a_at, b_at, v_at, kf_at]
  rfl

theorem y_at : res_main_v167 V (ix4 b t h j) = (head V b h).y t j := by
  match t with
  | 0 => pointwise [res_main_v167]; simp only [st1_at, st2_at, r_at]; rfl
  | 1 => pointwise [res_main_v167]; simp only [st2_at, st3_at, r_at]; rfl
  | 2 => pointwise [res_main_v167]; simp only [st3_at, r_at]; rfl
  | 3 => pointwise [res_main_v167]; simp only [st3_at, w_at, a_at, b_at, v_at, kf_at, r_at]; rfl

theorem sixty_four : Ideal.ofBits .f32 0x42800000#32 = ((64 : ℝ) : EReal) := by
  simp [Ideal.ofBits, Ideal.ieee]
  rw [← EReal.coe_mul]
  norm_num

theorem mean_at : res_main_v171 V (ix4 b t h 0) = (head V b h).mean t := by
  pointwise [res_main_v171]
  simp only [y_at]
  exact congrArg (Ideal.div _) sixty_four

theorem centred_at : res_main_v173 V (ix4 b t h j) = (head V b h).y t j - (head V b h).mean t := by
  pointwise [res_main_v173]
  rw [y_at, mean_at]

/-- The reference's first result. -/
def rows : FVec Ideal S32x4x4096 .f32 := fun i =>
  (head V (i 0) ⟨(i 2).val / 64, by have : (i 2).val < 4096 := (i 2).isLt; omega⟩).out (i 1) ⟨(i 2).val % 64, by omega⟩

/-- The reference's second result: the final states. -/
def states : FVec Ideal S32x64x64x64 .f32 := fun i => (head V (i 0) (i 1)).st4 (i 2) (i 3)

/-- The reference leaves those, and its arguments. -/
theorem leaves (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v205) = rows (launchContents m c)
      ∧ r.2.mem ((c.tc : Thread nD τ).loc main_v159) = states (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ⟨(h c).1.trans ?_, (h c).2.1.trans ?_, (h c).2.2⟩) (run m ρ)
  · generalize launchContents m c = V
    funext x
    obtain ⟨b, t, l, rfl⟩ : ∃ b t l, x = ix3 b t l := ⟨x 0, x 1, x 2, funext fun k => by fin_cases k <;> rfl⟩
    pointwise []
    have hl : l.val < 4096 := l.isLt
    have e : col ⟨l.val / 64, by omega⟩ ⟨l.val % 64, by omega⟩ = l :=
      Fin.ext (show l.val / 64 * 64 + l.val % 64 = l.val by omega)
    simp only [y_at, mean_at, centred_at, r_at, kf_at, v_at]
    exact congrArg₂ (· * ·) (congrArg₂ (· + ·) (congrArg₂ (· + ·) (congrArg₂ (· * ·) (congrArg₂ (· * ·) rfl
        (congrArg (fun z : EReal => Ideal.rsqrt (Ideal.div _ z + _)) sixty_four))
        (congrArg (fun l => (V (Proc.devRef .tc main_arg11) : FVec Ideal S4096 .f32) (ix1 l)) e.symm))
        (congrArg (fun l => (V (Proc.devRef .tc main_arg12) : FVec Ideal S4096 .f32) (ix1 l)) e.symm)) rfl)
        (congrArg (fun l => (V (Proc.devRef .tc main_arg3) : FVec Ideal S128x4096 .f32) (ix2 (tok b t) l)) e.symm)
  · generalize launchContents m c = V
    funext x
    obtain ⟨b, t, l, o, rfl⟩ : ∃ b t l o, x = ix4 b t l o := ⟨x 0, x 1, x 2, x 3, funext fun k => by fin_cases k <;> rfl⟩
    pointwise []
    simp only [st3_at, w_at, a_at, b_at, v_at, kf_at]
    rfl

end Cert.WkvSampleRefIdeal.Heads
-- ==== Proof.WkvGiven.lean ====
module

public import proofs.«01_k».proof.Proof.WkvReads
public import proofs.«01_k».proof.Proof.WkvTwo
public import proofs.«01_k».proof.Proof.WkvRef

@[expose] public section
set_option maxRecDepth 16384
noncomputable section
open Idealize.ShloMosaic Idealize.ShloMosaic.TcCoe Idealize.SL.Sem

/-! # The heads of a grid point are the reference's -/

namespace Cert.WkvSampleIdeal.Given
open Cert.WkvSampleIdeal Cert.WkvSampleIdeal.Gen Cert.WkvSampleIdeal.Pair Cert.WkvSampleIdeal.Reads Cert.Wkv
open Cert.WkvSampleRefIdeal.Heads (head tok col)

theorem rows_0 (x : Vec Ideal S1x4x512 .f32) (s : Fin 4) (l : Fin 128) :
    rows (View.ld x r0_7) (ix2 s l) = x (ix3 0 s ⟨0 + l.val, by omega⟩) := by
  pointwise [rows]

theorem row_0_0 (x : Vec Ideal S8x512 .f32) (l : Fin 128) :
    row (View.ld x r0_0) (ix2 0 l) = x (ix2 0 ⟨0 + l.val, by omega⟩) := by
  pointwise [row]

theorem row_0_1 (x : Vec Ideal S8x512 .f32) (l : Fin 128) :
    row (View.ld x r0_1) (ix2 0 l) = x (ix2 1 ⟨0 + l.val, by omega⟩) := by
  pointwise [row]

theorem row_0_2 (x : Vec Ideal S8x512 .f32) (l : Fin 128) :
    row (View.ld x r0_2) (ix2 0 l) = x (ix2 2 ⟨0 + l.val, by omega⟩) := by
  pointwise [row]

theorem row_0_3 (x : Vec Ideal S8x512 .f32) (l : Fin 128) :
    row (View.ld x r0_3) (ix2 0 l) = x (ix2 3 ⟨0 + l.val, by omega⟩) := by
  pointwise [row]

theorem row_0_4 (x : Vec Ideal S8x512 .f32) (l : Fin 128) :
    row (View.ld x r0_4) (ix2 0 l) = x (ix2 4 ⟨0 + l.val, by omega⟩) := by
  pointwise [row]

theorem row_0_5 (x : Vec Ideal S8x512 .f32) (l : Fin 128) :
    row (View.ld x r0_5) (ix2 0 l) = x (ix2 5 ⟨0 + l.val, by omega⟩) := by
  pointwise [row]

theorem row_0_6 (x : Vec Ideal S8x512 .f32) (l : Fin 128) :
    row (View.ld x r0_6) (ix2 0 l) = x (ix2 6 ⟨0 + l.val, by omega⟩) := by
  pointwise [row]

theorem state_0_0 (x : Vec Ideal S1x8x64x64 .f32) (i j : Fin 64) :
    state1 (View.ld x r0_8) (ix2 i j) = x (ix4 0 0 i j) := by
  pointwise [state1]

theorem state_0_1 (x : Vec Ideal S1x8x64x64 .f32) (i j : Fin 64) :
    state1 (View.ld x r0_9) (ix2 i j) = x (ix4 0 1 i j) := by
  pointwise [state1]

theorem rows_1 (x : Vec Ideal S1x4x512 .f32) (s : Fin 4) (l : Fin 128) :
    rows (View.ld x r0_17) (ix2 s l) = x (ix3 0 s ⟨128 + l.val, by omega⟩) := by
  pointwise [rows]

theorem row_1_0 (x : Vec Ideal S8x512 .f32) (l : Fin 128) :
    row (View.ld x r0_10) (ix2 0 l) = x (ix2 0 ⟨128 + l.val, by omega⟩) := by
  pointwise [row]

theorem row_1_1 (x : Vec Ideal S8x512 .f32) (l : Fin 128) :
    row (View.ld x r0_11) (ix2 0 l) = x (ix2 1 ⟨128 + l.val, by omega⟩) := by
  pointwise [row]

theorem row_1_2 (x : Vec Ideal S8x512 .f32) (l : Fin 128) :
    row (View.ld x r0_12) (ix2 0 l) = x (ix2 2 ⟨128 + l.val, by omega⟩) := by
  pointwise [row]

theorem row_1_3 (x : Vec Ideal S8x512 .f32) (l : Fin 128) :
    row (View.ld x r0_13) (ix2 0 l) = x (ix2 3 ⟨128 + l.val, by omega⟩) := by
  pointwise [row]

theorem row_1_4 (x : Vec Ideal S8x512 .f32) (l : Fin 128) :
    row (View.ld x r0_14) (ix2 0 l) = x (ix2 4 ⟨128 + l.val, by omega⟩) := by
  pointwise [row]

theorem row_1_5 (x : Vec Ideal S8x512 .f32) (l : Fin 128) :
    row (View.ld x r0_15) (ix2 0 l) = x (ix2 5 ⟨128 + l.val, by omega⟩) := by
  pointwise [row]

theorem row_1_6 (x : Vec Ideal S8x512 .f32) (l : Fin 128) :
    row (View.ld x r0_16) (ix2 0 l) = x (ix2 6 ⟨128 + l.val, by omega⟩) := by
  pointwise [row]

theorem state_1_0 (x : Vec Ideal S1x8x64x64 .f32) (i j : Fin 64) :
    state1 (View.ld x r0_18) (ix2 i j) = x (ix4 0 2 i j) := by
  pointwise [state1]

theorem state_1_1 (x : Vec Ideal S1x8x64x64 .f32) (i j : Fin 64) :
    state1 (View.ld x r0_19) (ix2 i j) = x (ix4 0 3 i j) := by
  pointwise [state1]

theorem rows_2 (x : Vec Ideal S1x4x512 .f32) (s : Fin 4) (l : Fin 128) :
    rows (View.ld x r0_27) (ix2 s l) = x (ix3 0 s ⟨256 + l.val, by omega⟩) := by
  pointwise [rows]

theorem row_2_0 (x : Vec Ideal S8x512 .f32) (l : Fin 128) :
    row (View.ld x r0_20) (ix2 0 l) = x (ix2 0 ⟨256 + l.val, by omega⟩) := by
  pointwise [row]

theorem row_2_1 (x : Vec Ideal S8x512 .f32) (l : Fin 128) :
    row (View.ld x r0_21) (ix2 0 l) = x (ix2 1 ⟨256 + l.val, by omega⟩) := by
  pointwise [row]

theorem row_2_2 (x : Vec Ideal S8x512 .f32) (l : Fin 128) :
    row (View.ld x r0_22) (ix2 0 l) = x (ix2 2 ⟨256 + l.val, by omega⟩) := by
  pointwise [row]

theorem row_2_3 (x : Vec Ideal S8x512 .f32) (l : Fin 128) :
    row (View.ld x r0_23) (ix2 0 l) = x (ix2 3 ⟨256 + l.val, by omega⟩) := by
  pointwise [row]

theorem row_2_4 (x : Vec Ideal S8x512 .f32) (l : Fin 128) :
    row (View.ld x r0_24) (ix2 0 l) = x (ix2 4 ⟨256 + l.val, by omega⟩) := by
  pointwise [row]

theorem row_2_5 (x : Vec Ideal S8x512 .f32) (l : Fin 128) :
    row (View.ld x r0_25) (ix2 0 l) = x (ix2 5 ⟨256 + l.val, by omega⟩) := by
  pointwise [row]

theorem row_2_6 (x : Vec Ideal S8x512 .f32) (l : Fin 128) :
    row (View.ld x r0_26) (ix2 0 l) = x (ix2 6 ⟨256 + l.val, by omega⟩) := by
  pointwise [row]

theorem state_2_0 (x : Vec Ideal S1x8x64x64 .f32) (i j : Fin 64) :
    state1 (View.ld x r0_28) (ix2 i j) = x (ix4 0 4 i j) := by
  pointwise [state1]

theorem state_2_1 (x : Vec Ideal S1x8x64x64 .f32) (i j : Fin 64) :
    state1 (View.ld x r0_29) (ix2 i j) = x (ix4 0 5 i j) := by
  pointwise [state1]

theorem rows_3 (x : Vec Ideal S1x4x512 .f32) (s : Fin 4) (l : Fin 128) :
    rows (View.ld x r0_37) (ix2 s l) = x (ix3 0 s ⟨384 + l.val, by omega⟩) := by
  pointwise [rows]

theorem row_3_0 (x : Vec Ideal S8x512 .f32) (l : Fin 128) :
    row (View.ld x r0_30) (ix2 0 l) = x (ix2 0 ⟨384 + l.val, by omega⟩) := by
  pointwise [row]

theorem row_3_1 (x : Vec Ideal S8x512 .f32) (l : Fin 128) :
    row (View.ld x r0_31) (ix2 0 l) = x (ix2 1 ⟨384 + l.val, by omega⟩) := by
  pointwise [row]

theorem row_3_2 (x : Vec Ideal S8x512 .f32) (l : Fin 128) :
    row (View.ld x r0_32) (ix2 0 l) = x (ix2 2 ⟨384 + l.val, by omega⟩) := by
  pointwise [row]

theorem row_3_3 (x : Vec Ideal S8x512 .f32) (l : Fin 128) :
    row (View.ld x r0_33) (ix2 0 l) = x (ix2 3 ⟨384 + l.val, by omega⟩) := by
  pointwise [row]

theorem row_3_4 (x : Vec Ideal S8x512 .f32) (l : Fin 128) :
    row (View.ld x r0_34) (ix2 0 l) = x (ix2 4 ⟨384 + l.val, by omega⟩) := by
  pointwise [row]

theorem row_3_5 (x : Vec Ideal S8x512 .f32) (l : Fin 128) :
    row (View.ld x r0_35) (ix2 0 l) = x (ix2 5 ⟨384 + l.val, by omega⟩) := by
  pointwise [row]

theorem row_3_6 (x : Vec Ideal S8x512 .f32) (l : Fin 128) :
    row (View.ld x r0_36) (ix2 0 l) = x (ix2 6 ⟨384 + l.val, by omega⟩) := by
  pointwise [row]

theorem state_3_0 (x : Vec Ideal S1x8x64x64 .f32) (i j : Fin 64) :
    state1 (View.ld x r0_38) (ix2 i j) = x (ix4 0 6 i j) := by
  pointwise [state1]

theorem state_3_1 (x : Vec Ideal S1x8x64x64 .f32) (i j : Fin 64) :
    state1 (View.ld x r0_39) (ix2 i j) = x (ix4 0 7 i j) := by
  pointwise [state1]

variable (m : (ℓ : Loc nD τ sig) → Buf (Elt Ideal) ℓ) (c : Dev nD)
  (W : Valuation Cert.WkvSampleRefIdeal.τ Cert.WkvSampleRefIdeal.sig (Elt Ideal))

/-- The reference was given the same arrays. -/
structure Agree : Prop where
  a0 : (W (Proc.devRef .tc Cert.WkvSampleRefIdeal.main_arg0) : S128x4096.Idx → EReal) = arg0 m c
  a1 : (W (Proc.devRef .tc Cert.WkvSampleRefIdeal.main_arg1) : S128x4096.Idx → EReal) = arg1 m c
  a2 : (W (Proc.devRef .tc Cert.WkvSampleRefIdeal.main_arg2) : S128x4096.Idx → EReal) = arg2 m c
  a3 : (W (Proc.devRef .tc Cert.WkvSampleRefIdeal.main_arg3) : S128x4096.Idx → EReal) = arg3 m c
  a4 : (W (Proc.devRef .tc Cert.WkvSampleRefIdeal.main_arg4) : S128x4096.Idx → EReal) = arg4 m c
  a5 : (W (Proc.devRef .tc Cert.WkvSampleRefIdeal.main_arg5) : S128x4096.Idx → EReal) = arg5 m c
  a6 : (W (Proc.devRef .tc Cert.WkvSampleRefIdeal.main_arg6) : S4096.Idx → EReal) = arg6 m c
  a7 : (W (Proc.devRef .tc Cert.WkvSampleRefIdeal.main_arg7) : S4096.Idx → EReal) = arg7 m c
  a8 : (W (Proc.devRef .tc Cert.WkvSampleRefIdeal.main_arg8) : S4096.Idx → EReal) = arg8 m c
  a9 : (W (Proc.devRef .tc Cert.WkvSampleRefIdeal.main_arg9) : S4096.Idx → EReal) = arg9 m c
  a10 : (W (Proc.devRef .tc Cert.WkvSampleRefIdeal.main_arg10) : S64x64.Idx → EReal) = arg10 m c
  a11 : (W (Proc.devRef .tc Cert.WkvSampleRefIdeal.main_arg11) : S4096.Idx → EReal) = arg11 m c
  a12 : (W (Proc.devRef .tc Cert.WkvSampleRefIdeal.main_arg12) : S4096.Idx → EReal) = arg12 m c
  a13 : (W (Proc.devRef .tc Cert.WkvSampleRefIdeal.main_arg13) : S32x64x64x64.Idx → EReal) = arg13 m c

/-- The reference's number of a grid point's head. -/
abbrev headOf (t : Fin cfg0.N) (n : Fin 8) : Fin 64 := ⟨(octet t).val * 8 + n.val, by omega⟩

theorem at_one {n : ℕ} (f : (⟨1, ![n]⟩ : Shape).Idx → EReal) {a a' : ℕ} {ha : a < n} {ha' : a' < n} (h : a = a') :
    f (ix1 ⟨a, ha⟩) = f (ix1 ⟨a', ha'⟩) := by
  subst h
  rfl

variable {m c W}

theorem r0 (A : Agree m c W) (t : Fin cfg0.N) (q : Fin 2) (s : Fin 4) (j : Fin 64) :
    rows (View.ld (iblk m c 0 t) r0_7) (ix2 s (lane q j)) = (head W (seqOf t) (headOf t ⟨0 + q.val, by omega⟩)).r s j := by
  have hq : q.val < 2 := q.isLt
  rw [rows_0, blk0 m c t s _, ← A.a0]
  exact at_two _ rfl (show (octet t).val * 512 + (0 + (64 * q.val + j.val)) = ((octet t).val * 8 + (0 + q.val)) * 64 + j.val by omega)

theorem k0 (A : Agree m c W) (t : Fin cfg0.N) (q : Fin 2) (s : Fin 4) (j : Fin 64) :
    rows (View.ld (iblk m c 1 t) r0_7) (ix2 s (lane q j)) = (head W (seqOf t) (headOf t ⟨0 + q.val, by omega⟩)).k s j := by
  have hq : q.val < 2 := q.isLt
  rw [rows_0, blk1 m c t s _, ← A.a1]
  exact at_two _ rfl (show (octet t).val * 512 + (0 + (64 * q.val + j.val)) = ((octet t).val * 8 + (0 + q.val)) * 64 + j.val by omega)

theorem v0 (A : Agree m c W) (t : Fin cfg0.N) (q : Fin 2) (s : Fin 4) (j : Fin 64) :
    rows (View.ld (iblk m c 2 t) r0_7) (ix2 s (lane q j)) = (head W (seqOf t) (headOf t ⟨0 + q.val, by omega⟩)).v s j := by
  have hq : q.val < 2 := q.isLt
  rw [rows_0, blk2 m c t s _, ← A.a2]
  exact at_two _ rfl (show (octet t).val * 512 + (0 + (64 * q.val + j.val)) = ((octet t).val * 8 + (0 + q.val)) * 64 + j.val by omega)

theorem g0 (A : Agree m c W) (t : Fin cfg0.N) (q : Fin 2) (s : Fin 4) (j : Fin 64) :
    rows (View.ld (iblk m c 3 t) r0_7) (ix2 s (lane q j)) = (head W (seqOf t) (headOf t ⟨0 + q.val, by omega⟩)).g s j := by
  have hq : q.val < 2 := q.isLt
  rw [rows_0, blk3 m c t s _, ← A.a3]
  exact at_two _ rfl (show (octet t).val * 512 + (0 + (64 * q.val + j.val)) = ((octet t).val * 8 + (0 + q.val)) * 64 + j.val by omega)

theorem wl0 (A : Agree m c W) (t : Fin cfg0.N) (q : Fin 2) (s : Fin 4) (j : Fin 64) :
    rows (View.ld (iblk m c 4 t) r0_7) (ix2 s (lane q j)) = (head W (seqOf t) (headOf t ⟨0 + q.val, by omega⟩)).wl s j := by
  have hq : q.val < 2 := q.isLt
  rw [rows_0, blk4 m c t s _, ← A.a4]
  exact at_two _ rfl (show (octet t).val * 512 + (0 + (64 * q.val + j.val)) = ((octet t).val * 8 + (0 + q.val)) * 64 + j.val by omega)

theorem al0 (A : Agree m c W) (t : Fin cfg0.N) (q : Fin 2) (s : Fin 4) (j : Fin 64) :
    rows (View.ld (iblk m c 5 t) r0_7) (ix2 s (lane q j)) = (head W (seqOf t) (headOf t ⟨0 + q.val, by omega⟩)).al s j := by
  have hq : q.val < 2 := q.isLt
  rw [rows_0, blk5 m c t s _, ← A.a5]
  exact at_two _ rfl (show (octet t).val * 512 + (0 + (64 * q.val + j.val)) = ((octet t).val * 8 + (0 + q.val)) * 64 + j.val by omega)

theorem w00 (A : Agree m c W) (t : Fin cfg0.N) (q : Fin 2) (j : Fin 64) :
    row (View.ld (iblk m c 6 t) r0_0) (ix2 0 (lane q j)) = (head W (seqOf t) (headOf t ⟨0 + q.val, by omega⟩)).w0 j := by
  have hq : q.val < 2 := q.isLt
  rw [row_0_0, blk6 m c t _ _, param0 m c _, ← A.a6]
  exact at_one _ (show (octet t).val * 512 + (0 + (64 * q.val + j.val)) = ((octet t).val * 8 + (0 + q.val)) * 64 + j.val by omega)

theorem a00 (A : Agree m c W) (t : Fin cfg0.N) (q : Fin 2) (j : Fin 64) :
    row (View.ld (iblk m c 6 t) r0_1) (ix2 0 (lane q j)) = (head W (seqOf t) (headOf t ⟨0 + q.val, by omega⟩)).a0 j := by
  have hq : q.val < 2 := q.isLt
  rw [row_0_1, blk6 m c t _ _, param1 m c _, ← A.a7]
  exact at_one _ (show (octet t).val * 512 + (0 + (64 * q.val + j.val)) = ((octet t).val * 8 + (0 + q.val)) * 64 + j.val by omega)

theorem kk0 (A : Agree m c W) (t : Fin cfg0.N) (q : Fin 2) (j : Fin 64) :
    row (View.ld (iblk m c 6 t) r0_2) (ix2 0 (lane q j)) = (head W (seqOf t) (headOf t ⟨0 + q.val, by omega⟩)).kk j := by
  have hq : q.val < 2 := q.isLt
  rw [row_0_2, blk6 m c t _ _, param2 m c _, ← A.a8]
  exact at_one _ (show (octet t).val * 512 + (0 + (64 * q.val + j.val)) = ((octet t).val * 8 + (0 + q.val)) * 64 + j.val by omega)

theorem ka0 (A : Agree m c W) (t : Fin cfg0.N) (q : Fin 2) (j : Fin 64) :
    row (View.ld (iblk m c 6 t) r0_3) (ix2 0 (lane q j)) = (head W (seqOf t) (headOf t ⟨0 + q.val, by omega⟩)).ka j := by
  have hq : q.val < 2 := q.isLt
  rw [row_0_3, blk6 m c t _ _, param3 m c _, ← A.a9]
  exact at_one _ (show (octet t).val * 512 + (0 + (64 * q.val + j.val)) = ((octet t).val * 8 + (0 + q.val)) * 64 + j.val by omega)

theorem rk0 (A : Agree m c W) (t : Fin cfg0.N) (q : Fin 2) (j : Fin 64) :
    row (View.ld (iblk m c 6 t) r0_4) (ix2 0 (lane q j)) = (head W (seqOf t) (headOf t ⟨0 + q.val, by omega⟩)).rk j := by
  have hq : q.val < 2 := q.isLt
  rw [row_0_4, blk6 m c t _ _, param4 m c _, ← A.a10]
  exact at_two _ (show ((octet t).val * 512 + (0 + (64 * q.val + j.val))) / 64 = (octet t).val * 8 + (0 + q.val) by omega)
    (show ((octet t).val * 512 + (0 + (64 * q.val + j.val))) % 64 = j.val by omega)

theorem gg0 (A : Agree m c W) (t : Fin cfg0.N) (q : Fin 2) (j : Fin 64) :
    row (View.ld (iblk m c 6 t) r0_5) (ix2 0 (lane q j)) = (head W (seqOf t) (headOf t ⟨0 + q.val, by omega⟩)).gg j := by
  have hq : q.val < 2 := q.isLt
  rw [row_0_5, blk6 m c t _ _, param5 m c _, ← A.a11]
  exact at_one _ (show (octet t).val * 512 + (0 + (64 * q.val + j.val)) = ((octet t).val * 8 + (0 + q.val)) * 64 + j.val by omega)

theorem gb0 (A : Agree m c W) (t : Fin cfg0.N) (q : Fin 2) (j : Fin 64) :
    row (View.ld (iblk m c 6 t) r0_6) (ix2 0 (lane q j)) = (head W (seqOf t) (headOf t ⟨0 + q.val, by omega⟩)).gb j := by
  have hq : q.val < 2 := q.isLt
  rw [row_0_6, blk6 m c t _ _, param6 m c _, ← A.a12]
  exact at_one _ (show (octet t).val * 512 + (0 + (64 * q.val + j.val)) = ((octet t).val * 8 + (0 + q.val)) * 64 + j.val by omega)

theorem s0 (A : Agree m c W) (t : Fin cfg0.N) (q : Fin 2) (i j : Fin 64) :
    (if q = 0 then state1 (View.ld (iblk m c 7 t) r0_8) else state1 (View.ld (iblk m c 7 t) r0_9)) (ix2 i j) = (head W (seqOf t) (headOf t ⟨0 + q.val, by omega⟩)).s i j := by
  match q with
  | 0 =>
    rw [if_pos rfl, state_0_0, blk7 m c t _ _ _, ← A.a13]
    rfl
  | 1 =>
    rw [if_neg (by decide), state_0_1, blk7 m c t _ _ _, ← A.a13]
    rfl

theorem given0 (A : Agree m c W) (t : Fin cfg0.N) (q : Fin 2) :
    (in0 (iblk m c 0 t) (iblk m c 1 t) (iblk m c 2 t) (iblk m c 3 t) (iblk m c 4 t) (iblk m c 5 t) (iblk m c 6 t) (iblk m c 7 t)).head q
      = (head W (seqOf t) (headOf t ⟨0 + q.val, by omega⟩)) := by
  refine Head.ext ?_ ?_ ?_ ?_ ?_ ?_ ?_ ?_ ?_ ?_ ?_ ?_ ?_ ?_
  · funext s j; dsimp only [In.head, in0, parts, part]; exact r0 A t q s j
  · funext s j; dsimp only [In.head, in0, parts, part]; exact k0 A t q s j
  · funext s j; dsimp only [In.head, in0, parts, part]; exact v0 A t q s j
  · funext s j; dsimp only [In.head, in0, parts, part]; exact g0 A t q s j
  · funext s j; dsimp only [In.head, in0, parts, part]; exact wl0 A t q s j
  · funext s j; dsimp only [In.head, in0, parts, part]; exact al0 A t q s j
  · funext j; dsimp only [In.head, in0, parts, part]; exact w00 A t q j
  · funext j; dsimp only [In.head, in0, parts, part]; exact a00 A t q j
  · funext j; dsimp only [In.head, in0, parts, part]; exact kk0 A t q j
  · funext j; dsimp only [In.head, in0, parts, part]; exact ka0 A t q j
  · funext j; dsimp only [In.head, in0, parts, part]; exact rk0 A t q j
  · funext j; dsimp only [In.head, in0, parts, part]; exact gg0 A t q j
  · funext j; dsimp only [In.head, in0, parts, part]; exact gb0 A t q j
  · funext i j; dsimp only [In.head, in0, parts, part]; exact s0 A t q i j

theorem r1 (A : Agree m c W) (t : Fin cfg0.N) (q : Fin 2) (s : Fin 4) (j : Fin 64) :
    rows (View.ld (iblk m c 0 t) r0_17) (ix2 s (lane q j)) = (head W (seqOf t) (headOf t ⟨2 + q.val, by omega⟩)).r s j := by
  have hq : q.val < 2 := q.isLt
  rw [rows_1, blk0 m c t s _, ← A.a0]
  exact at_two _ rfl (show (octet t).val * 512 + (128 + (64 * q.val + j.val)) = ((octet t).val * 8 + (2 + q.val)) * 64 + j.val by omega)

theorem k1 (A : Agree m c W) (t : Fin cfg0.N) (q : Fin 2) (s : Fin 4) (j : Fin 64) :
    rows (View.ld (iblk m c 1 t) r0_17) (ix2 s (lane q j)) = (head W (seqOf t) (headOf t ⟨2 + q.val, by omega⟩)).k s j := by
  have hq : q.val < 2 := q.isLt
  rw [rows_1, blk1 m c t s _, ← A.a1]
  exact at_two _ rfl (show (octet t).val * 512 + (128 + (64 * q.val + j.val)) = ((octet t).val * 8 + (2 + q.val)) * 64 + j.val by omega)

theorem v1 (A : Agree m c W) (t : Fin cfg0.N) (q : Fin 2) (s : Fin 4) (j : Fin 64) :
    rows (View.ld (iblk m c 2 t) r0_17) (ix2 s (lane q j)) = (head W (seqOf t) (headOf t ⟨2 + q.val, by omega⟩)).v s j := by
  have hq : q.val < 2 := q.isLt
  rw [rows_1, blk2 m c t s _, ← A.a2]
  exact at_two _ rfl (show (octet t).val * 512 + (128 + (64 * q.val + j.val)) = ((octet t).val * 8 + (2 + q.val)) * 64 + j.val by omega)

theorem g1 (A : Agree m c W) (t : Fin cfg0.N) (q : Fin 2) (s : Fin 4) (j : Fin 64) :
    rows (View.ld (iblk m c 3 t) r0_17) (ix2 s (lane q j)) = (head W (seqOf t) (headOf t ⟨2 + q.val, by omega⟩)).g s j := by
  have hq : q.val < 2 := q.isLt
  rw [rows_1, blk3 m c t s _, ← A.a3]
  exact at_two _ rfl (show (octet t).val * 512 + (128 + (64 * q.val + j.val)) = ((octet t).val * 8 + (2 + q.val)) * 64 + j.val by omega)

theorem wl1 (A : Agree m c W) (t : Fin cfg0.N) (q : Fin 2) (s : Fin 4) (j : Fin 64) :
    rows (View.ld (iblk m c 4 t) r0_17) (ix2 s (lane q j)) = (head W (seqOf t) (headOf t ⟨2 + q.val, by omega⟩)).wl s j := by
  have hq : q.val < 2 := q.isLt
  rw [rows_1, blk4 m c t s _, ← A.a4]
  exact at_two _ rfl (show (octet t).val * 512 + (128 + (64 * q.val + j.val)) = ((octet t).val * 8 + (2 + q.val)) * 64 + j.val by omega)

theorem al1 (A : Agree m c W) (t : Fin cfg0.N) (q : Fin 2) (s : Fin 4) (j : Fin 64) :
    rows (View.ld (iblk m c 5 t) r0_17) (ix2 s (lane q j)) = (head W (seqOf t) (headOf t ⟨2 + q.val, by omega⟩)).al s j := by
  have hq : q.val < 2 := q.isLt
  rw [rows_1, blk5 m c t s _, ← A.a5]
  exact at_two _ rfl (show (octet t).val * 512 + (128 + (64 * q.val + j.val)) = ((octet t).val * 8 + (2 + q.val)) * 64 + j.val by omega)

theorem w01 (A : Agree m c W) (t : Fin cfg0.N) (q : Fin 2) (j : Fin 64) :
    row (View.ld (iblk m c 6 t) r0_10) (ix2 0 (lane q j)) = (head W (seqOf t) (headOf t ⟨2 + q.val, by omega⟩)).w0 j := by
  have hq : q.val < 2 := q.isLt
  rw [row_1_0, blk6 m c t _ _, param0 m c _, ← A.a6]
  exact at_one _ (show (octet t).val * 512 + (128 + (64 * q.val + j.val)) = ((octet t).val * 8 + (2 + q.val)) * 64 + j.val by omega)

theorem a01 (A : Agree m c W) (t : Fin cfg0.N) (q : Fin 2) (j : Fin 64) :
    row (View.ld (iblk m c 6 t) r0_11) (ix2 0 (lane q j)) = (head W (seqOf t) (headOf t ⟨2 + q.val, by omega⟩)).a0 j := by
  have hq : q.val < 2 := q.isLt
  rw [row_1_1, blk6 m c t _ _, param1 m c _, ← A.a7]
  exact at_one _ (show (octet t).val * 512 + (128 + (64 * q.val + j.val)) = ((octet t).val * 8 + (2 + q.val)) * 64 + j.val by omega)

theorem kk1 (A : Agree m c W) (t : Fin cfg0.N) (q : Fin 2) (j : Fin 64) :
    row (View.ld (iblk m c 6 t) r0_12) (ix2 0 (lane q j)) = (head W (seqOf t) (headOf t ⟨2 + q.val, by omega⟩)).kk j := by
  have hq : q.val < 2 := q.isLt
  rw [row_1_2, blk6 m c t _ _, param2 m c _, ← A.a8]
  exact at_one _ (show (octet t).val * 512 + (128 + (64 * q.val + j.val)) = ((octet t).val * 8 + (2 + q.val)) * 64 + j.val by omega)

theorem ka1 (A : Agree m c W) (t : Fin cfg0.N) (q : Fin 2) (j : Fin 64) :
    row (View.ld (iblk m c 6 t) r0_13) (ix2 0 (lane q j)) = (head W (seqOf t) (headOf t ⟨2 + q.val, by omega⟩)).ka j := by
  have hq : q.val < 2 := q.isLt
  rw [row_1_3, blk6 m c t _ _, param3 m c _, ← A.a9]
  exact at_one _ (show (octet t).val * 512 + (128 + (64 * q.val + j.val)) = ((octet t).val * 8 + (2 + q.val)) * 64 + j.val by omega)

theorem rk1 (A : Agree m c W) (t : Fin cfg0.N) (q : Fin 2) (j : Fin 64) :
    row (View.ld (iblk m c 6 t) r0_14) (ix2 0 (lane q j)) = (head W (seqOf t) (headOf t ⟨2 + q.val, by omega⟩)).rk j := by
  have hq : q.val < 2 := q.isLt
  rw [row_1_4, blk6 m c t _ _, param4 m c _, ← A.a10]
  exact at_two _ (show ((octet t).val * 512 + (128 + (64 * q.val + j.val))) / 64 = (octet t).val * 8 + (2 + q.val) by omega)
    (show ((octet t).val * 512 + (128 + (64 * q.val + j.val))) % 64 = j.val by omega)

theorem gg1 (A : Agree m c W) (t : Fin cfg0.N) (q : Fin 2) (j : Fin 64) :
    row (View.ld (iblk m c 6 t) r0_15) (ix2 0 (lane q j)) = (head W (seqOf t) (headOf t ⟨2 + q.val, by omega⟩)).gg j := by
  have hq : q.val < 2 := q.isLt
  rw [row_1_5, blk6 m c t _ _, param5 m c _, ← A.a11]
  exact at_one _ (show (octet t).val * 512 + (128 + (64 * q.val + j.val)) = ((octet t).val * 8 + (2 + q.val)) * 64 + j.val by omega)

theorem gb1 (A : Agree m c W) (t : Fin cfg0.N) (q : Fin 2) (j : Fin 64) :
    row (View.ld (iblk m c 6 t) r0_16) (ix2 0 (lane q j)) = (head W (seqOf t) (headOf t ⟨2 + q.val, by omega⟩)).gb j := by
  have hq : q.val < 2 := q.isLt
  rw [row_1_6, blk6 m c t _ _, param6 m c _, ← A.a12]
  exact at_one _ (show (octet t).val * 512 + (128 + (64 * q.val + j.val)) = ((octet t).val * 8 + (2 + q.val)) * 64 + j.val by omega)

theorem s1 (A : Agree m c W) (t : Fin cfg0.N) (q : Fin 2) (i j : Fin 64) :
    (if q = 0 then state1 (View.ld (iblk m c 7 t) r0_18) else state1 (View.ld (iblk m c 7 t) r0_19)) (ix2 i j) = (head W (seqOf t) (headOf t ⟨2 + q.val, by omega⟩)).s i j := by
  match q with
  | 0 =>
    rw [if_pos rfl, state_1_0, blk7 m c t _ _ _, ← A.a13]
    rfl
  | 1 =>
    rw [if_neg (by decide), state_1_1, blk7 m c t _ _ _, ← A.a13]
    rfl

theorem given1 (A : Agree m c W) (t : Fin cfg0.N) (q : Fin 2) :
    (in1 (iblk m c 0 t) (iblk m c 1 t) (iblk m c 2 t) (iblk m c 3 t) (iblk m c 4 t) (iblk m c 5 t) (iblk m c 6 t) (iblk m c 7 t)).head q
      = (head W (seqOf t) (headOf t ⟨2 + q.val, by omega⟩)) := by
  refine Head.ext ?_ ?_ ?_ ?_ ?_ ?_ ?_ ?_ ?_ ?_ ?_ ?_ ?_ ?_
  · funext s j; dsimp only [In.head, in1, parts, part]; exact r1 A t q s j
  · funext s j; dsimp only [In.head, in1, parts, part]; exact k1 A t q s j
  · funext s j; dsimp only [In.head, in1, parts, part]; exact v1 A t q s j
  · funext s j; dsimp only [In.head, in1, parts, part]; exact g1 A t q s j
  · funext s j; dsimp only [In.head, in1, parts, part]; exact wl1 A t q s j
  · funext s j; dsimp only [In.head, in1, parts, part]; exact al1 A t q s j
  · funext j; dsimp only [In.head, in1, parts, part]; exact w01 A t q j
  · funext j; dsimp only [In.head, in1, parts, part]; exact a01 A t q j
  · funext j; dsimp only [In.head, in1, parts, part]; exact kk1 A t q j
  · funext j; dsimp only [In.head, in1, parts, part]; exact ka1 A t q j
  · funext j; dsimp only [In.head, in1, parts, part]; exact rk1 A t q j
  · funext j; dsimp only [In.head, in1, parts, part]; exact gg1 A t q j
  · funext j; dsimp only [In.head, in1, parts, part]; exact gb1 A t q j
  · funext i j; dsimp only [In.head, in1, parts, part]; exact s1 A t q i j

theorem r2 (A : Agree m c W) (t : Fin cfg0.N) (q : Fin 2) (s : Fin 4) (j : Fin 64) :
    rows (View.ld (iblk m c 0 t) r0_27) (ix2 s (lane q j)) = (head W (seqOf t) (headOf t ⟨4 + q.val, by omega⟩)).r s j := by
  have hq : q.val < 2 := q.isLt
  rw [rows_2, blk0 m c t s _, ← A.a0]
  exact at_two _ rfl (show (octet t).val * 512 + (256 + (64 * q.val + j.val)) = ((octet t).val * 8 + (4 + q.val)) * 64 + j.val by omega)

theorem k2 (A : Agree m c W) (t : Fin cfg0.N) (q : Fin 2) (s : Fin 4) (j : Fin 64) :
    rows (View.ld (iblk m c 1 t) r0_27) (ix2 s (lane q j)) = (head W (seqOf t) (headOf t ⟨4 + q.val, by omega⟩)).k s j := by
  have hq : q.val < 2 := q.isLt
  rw [rows_2, blk1 m c t s _, ← A.a1]
  exact at_two _ rfl (show (octet t).val * 512 + (256 + (64 * q.val + j.val)) = ((octet t).val * 8 + (4 + q.val)) * 64 + j.val by omega)

theorem v2 (A : Agree m c W) (t : Fin cfg0.N) (q : Fin 2) (s : Fin 4) (j : Fin 64) :
    rows (View.ld (iblk m c 2 t) r0_27) (ix2 s (lane q j)) = (head W (seqOf t) (headOf t ⟨4 + q.val, by omega⟩)).v s j := by
  have hq : q.val < 2 := q.isLt
  rw [rows_2, blk2 m c t s _, ← A.a2]
  exact at_two _ rfl (show (octet t).val * 512 + (256 + (64 * q.val + j.val)) = ((octet t).val * 8 + (4 + q.val)) * 64 + j.val by omega)

theorem g2 (A : Agree m c W) (t : Fin cfg0.N) (q : Fin 2) (s : Fin 4) (j : Fin 64) :
    rows (View.ld (iblk m c 3 t) r0_27) (ix2 s (lane q j)) = (head W (seqOf t) (headOf t ⟨4 + q.val, by omega⟩)).g s j := by
  have hq : q.val < 2 := q.isLt
  rw [rows_2, blk3 m c t s _, ← A.a3]
  exact at_two _ rfl (show (octet t).val * 512 + (256 + (64 * q.val + j.val)) = ((octet t).val * 8 + (4 + q.val)) * 64 + j.val by omega)

theorem wl2 (A : Agree m c W) (t : Fin cfg0.N) (q : Fin 2) (s : Fin 4) (j : Fin 64) :
    rows (View.ld (iblk m c 4 t) r0_27) (ix2 s (lane q j)) = (head W (seqOf t) (headOf t ⟨4 + q.val, by omega⟩)).wl s j := by
  have hq : q.val < 2 := q.isLt
  rw [rows_2, blk4 m c t s _, ← A.a4]
  exact at_two _ rfl (show (octet t).val * 512 + (256 + (64 * q.val + j.val)) = ((octet t).val * 8 + (4 + q.val)) * 64 + j.val by omega)

theorem al2 (A : Agree m c W) (t : Fin cfg0.N) (q : Fin 2) (s : Fin 4) (j : Fin 64) :
    rows (View.ld (iblk m c 5 t) r0_27) (ix2 s (lane q j)) = (head W (seqOf t) (headOf t ⟨4 + q.val, by omega⟩)).al s j := by
  have hq : q.val < 2 := q.isLt
  rw [rows_2, blk5 m c t s _, ← A.a5]
  exact at_two _ rfl (show (octet t).val * 512 + (256 + (64 * q.val + j.val)) = ((octet t).val * 8 + (4 + q.val)) * 64 + j.val by omega)

theorem w02 (A : Agree m c W) (t : Fin cfg0.N) (q : Fin 2) (j : Fin 64) :
    row (View.ld (iblk m c 6 t) r0_20) (ix2 0 (lane q j)) = (head W (seqOf t) (headOf t ⟨4 + q.val, by omega⟩)).w0 j := by
  have hq : q.val < 2 := q.isLt
  rw [row_2_0, blk6 m c t _ _, param0 m c _, ← A.a6]
  exact at_one _ (show (octet t).val * 512 + (256 + (64 * q.val + j.val)) = ((octet t).val * 8 + (4 + q.val)) * 64 + j.val by omega)

theorem a02 (A : Agree m c W) (t : Fin cfg0.N) (q : Fin 2) (j : Fin 64) :
    row (View.ld (iblk m c 6 t) r0_21) (ix2 0 (lane q j)) = (head W (seqOf t) (headOf t ⟨4 + q.val, by omega⟩)).a0 j := by
  have hq : q.val < 2 := q.isLt
  rw [row_2_1, blk6 m c t _ _, param1 m c _, ← A.a7]
  exact at_one _ (show (octet t).val * 512 + (256 + (64 * q.val + j.val)) = ((octet t).val * 8 + (4 + q.val)) * 64 + j.val by omega)

theorem kk2 (A : Agree m c W) (t : Fin cfg0.N) (q : Fin 2) (j : Fin 64) :
    row (View.ld (iblk m c 6 t) r0_22) (ix2 0 (lane q j)) = (head W (seqOf t) (headOf t ⟨4 + q.val, by omega⟩)).kk j := by
  have hq : q.val < 2 := q.isLt
  rw [row_2_2, blk6 m c t _ _, param2 m c _, ← A.a8]
  exact at_one _ (show (octet t).val * 512 + (256 + (64 * q.val + j.val)) = ((octet t).val * 8 + (4 + q.val)) * 64 + j.val by omega)

theorem ka2 (A : Agree m c W) (t : Fin cfg0.N) (q : Fin 2) (j : Fin 64) :
    row (View.ld (iblk m c 6 t) r0_23) (ix2 0 (lane q j)) = (head W (seqOf t) (headOf t ⟨4 + q.val, by omega⟩)).ka j := by
  have hq : q.val < 2 := q.isLt
  rw [row_2_3, blk6 m c t _ _, param3 m c _, ← A.a9]
  exact at_one _ (show (octet t).val * 512 + (256 + (64 * q.val + j.val)) = ((octet t).val * 8 + (4 + q.val)) * 64 + j.val by omega)

theorem rk2 (A : Agree m c W) (t : Fin cfg0.N) (q : Fin 2) (j : Fin 64) :
    row (View.ld (iblk m c 6 t) r0_24) (ix2 0 (lane q j)) = (head W (seqOf t) (headOf t ⟨4 + q.val, by omega⟩)).rk j := by
  have hq : q.val < 2 := q.isLt
  rw [row_2_4, blk6 m c t _ _, param4 m c _, ← A.a10]
  exact at_two _ (show ((octet t).val * 512 + (256 + (64 * q.val + j.val))) / 64 = (octet t).val * 8 + (4 + q.val) by omega)
    (show ((octet t).val * 512 + (256 + (64 * q.val + j.val))) % 64 = j.val by omega)

theorem gg2 (A : Agree m c W) (t : Fin cfg0.N) (q : Fin 2) (j : Fin 64) :
    row (View.ld (iblk m c 6 t) r0_25) (ix2 0 (lane q j)) = (head W (seqOf t) (headOf t ⟨4 + q.val, by omega⟩)).gg j := by
  have hq : q.val < 2 := q.isLt
  rw [row_2_5, blk6 m c t _ _, param5 m c _, ← A.a11]
  exact at_one _ (show (octet t).val * 512 + (256 + (64 * q.val + j.val)) = ((octet t).val * 8 + (4 + q.val)) * 64 + j.val by omega)

theorem gb2 (A : Agree m c W) (t : Fin cfg0.N) (q : Fin 2) (j : Fin 64) :
    row (View.ld (iblk m c 6 t) r0_26) (ix2 0 (lane q j)) = (head W (seqOf t) (headOf t ⟨4 + q.val, by omega⟩)).gb j := by
  have hq : q.val < 2 := q.isLt
  rw [row_2_6, blk6 m c t _ _, param6 m c _, ← A.a12]
  exact at_one _ (show (octet t).val * 512 + (256 + (64 * q.val + j.val)) = ((octet t).val * 8 + (4 + q.val)) * 64 + j.val by omega)

theorem s2 (A : Agree m c W) (t : Fin cfg0.N) (q : Fin 2) (i j : Fin 64) :
    (if q = 0 then state1 (View.ld (iblk m c 7 t) r0_28) else state1 (View.ld (iblk m c 7 t) r0_29)) (ix2 i j) = (head W (seqOf t) (headOf t ⟨4 + q.val, by omega⟩)).s i j := by
  match q with
  | 0 =>
    rw [if_pos rfl, state_2_0, blk7 m c t _ _ _, ← A.a13]
    rfl
  | 1 =>
    rw [if_neg (by decide), state_2_1, blk7 m c t _ _ _, ← A.a13]
    rfl

theorem given2 (A : Agree m c W) (t : Fin cfg0.N) (q : Fin 2) :
    (in2 (iblk m c 0 t) (iblk m c 1 t) (iblk m c 2 t) (iblk m c 3 t) (iblk m c 4 t) (iblk m c 5 t) (iblk m c 6 t) (iblk m c 7 t)).head q
      = (head W (seqOf t) (headOf t ⟨4 + q.val, by omega⟩)) := by
  refine Head.ext ?_ ?_ ?_ ?_ ?_ ?_ ?_ ?_ ?_ ?_ ?_ ?_ ?_ ?_
  · funext s j; dsimp only [In.head, in2, parts, part]; exact r2 A t q s j
  · funext s j; dsimp only [In.head, in2, parts, part]; exact k2 A t q s j
  · funext s j; dsimp only [In.head, in2, parts, part]; exact v2 A t q s j
  · funext s j; dsimp only [In.head, in2, parts, part]; exact g2 A t q s j
  · funext s j; dsimp only [In.head, in2, parts, part]; exact wl2 A t q s j
  · funext s j; dsimp only [In.head, in2, parts, part]; exact al2 A t q s j
  · funext j; dsimp only [In.head, in2, parts, part]; exact w02 A t q j
  · funext j; dsimp only [In.head, in2, parts, part]; exact a02 A t q j
  · funext j; dsimp only [In.head, in2, parts, part]; exact kk2 A t q j
  · funext j; dsimp only [In.head, in2, parts, part]; exact ka2 A t q j
  · funext j; dsimp only [In.head, in2, parts, part]; exact rk2 A t q j
  · funext j; dsimp only [In.head, in2, parts, part]; exact gg2 A t q j
  · funext j; dsimp only [In.head, in2, parts, part]; exact gb2 A t q j
  · funext i j; dsimp only [In.head, in2, parts, part]; exact s2 A t q i j

theorem r3 (A : Agree m c W) (t : Fin cfg0.N) (q : Fin 2) (s : Fin 4) (j : Fin 64) :
    rows (View.ld (iblk m c 0 t) r0_37) (ix2 s (lane q j)) = (head W (seqOf t) (headOf t ⟨6 + q.val, by omega⟩)).r s j := by
  have hq : q.val < 2 := q.isLt
  rw [rows_3, blk0 m c t s _, ← A.a0]
  exact at_two _ rfl (show (octet t).val * 512 + (384 + (64 * q.val + j.val)) = ((octet t).val * 8 + (6 + q.val)) * 64 + j.val by omega)

theorem k3 (A : Agree m c W) (t : Fin cfg0.N) (q : Fin 2) (s : Fin 4) (j : Fin 64) :
    rows (View.ld (iblk m c 1 t) r0_37) (ix2 s (lane q j)) = (head W (seqOf t) (headOf t ⟨6 + q.val, by omega⟩)).k s j := by
  have hq : q.val < 2 := q.isLt
  rw [rows_3, blk1 m c t s _, ← A.a1]
  exact at_two _ rfl (show (octet t).val * 512 + (384 + (64 * q.val + j.val)) = ((octet t).val * 8 + (6 + q.val)) * 64 + j.val by omega)

theorem v3 (A : Agree m c W) (t : Fin cfg0.N) (q : Fin 2) (s : Fin 4) (j : Fin 64) :
    rows (View.ld (iblk m c 2 t) r0_37) (ix2 s (lane q j)) = (head W (seqOf t) (headOf t ⟨6 + q.val, by omega⟩)).v s j := by
  have hq : q.val < 2 := q.isLt
  rw [rows_3, blk2 m c t s _, ← A.a2]
  exact at_two _ rfl (show (octet t).val * 512 + (384 + (64 * q.val + j.val)) = ((octet t).val * 8 + (6 + q.val)) * 64 + j.val by omega)

theorem g3 (A : Agree m c W) (t : Fin cfg0.N) (q : Fin 2) (s : Fin 4) (j : Fin 64) :
    rows (View.ld (iblk m c 3 t) r0_37) (ix2 s (lane q j)) = (head W (seqOf t) (headOf t ⟨6 + q.val, by omega⟩)).g s j := by
  have hq : q.val < 2 := q.isLt
  rw [rows_3, blk3 m c t s _, ← A.a3]
  exact at_two _ rfl (show (octet t).val * 512 + (384 + (64 * q.val + j.val)) = ((octet t).val * 8 + (6 + q.val)) * 64 + j.val by omega)

theorem wl3 (A : Agree m c W) (t : Fin cfg0.N) (q : Fin 2) (s : Fin 4) (j : Fin 64) :
    rows (View.ld (iblk m c 4 t) r0_37) (ix2 s (lane q j)) = (head W (seqOf t) (headOf t ⟨6 + q.val, by omega⟩)).wl s j := by
  have hq : q.val < 2 := q.isLt
  rw [rows_3, blk4 m c t s _, ← A.a4]
  exact at_two _ rfl (show (octet t).val * 512 + (384 + (64 * q.val + j.val)) = ((octet t).val * 8 + (6 + q.val)) * 64 + j.val by omega)

theorem al3 (A : Agree m c W) (t : Fin cfg0.N) (q : Fin 2) (s : Fin 4) (j : Fin 64) :
    rows (View.ld (iblk m c 5 t) r0_37) (ix2 s (lane q j)) = (head W (seqOf t) (headOf t ⟨6 + q.val, by omega⟩)).al s j := by
  have hq : q.val < 2 := q.isLt
  rw [rows_3, blk5 m c t s _, ← A.a5]
  exact at_two _ rfl (show (octet t).val * 512 + (384 + (64 * q.val + j.val)) = ((octet t).val * 8 + (6 + q.val)) * 64 + j.val by omega)

theorem w03 (A : Agree m c W) (t : Fin cfg0.N) (q : Fin 2) (j : Fin 64) :
    row (View.ld (iblk m c 6 t) r0_30) (ix2 0 (lane q j)) = (head W (seqOf t) (headOf t ⟨6 + q.val, by omega⟩)).w0 j := by
  have hq : q.val < 2 := q.isLt
  rw [row_3_0, blk6 m c t _ _, param0 m c _, ← A.a6]
  exact at_one _ (show (octet t).val * 512 + (384 + (64 * q.val + j.val)) = ((octet t).val * 8 + (6 + q.val)) * 64 + j.val by omega)

theorem a03 (A : Agree m c W) (t : Fin cfg0.N) (q : Fin 2) (j : Fin 64) :
    row (View.ld (iblk m c 6 t) r0_31) (ix2 0 (lane q j)) = (head W (seqOf t) (headOf t ⟨6 + q.val, by omega⟩)).a0 j := by
  have hq : q.val < 2 := q.isLt
  rw [row_3_1, blk6 m c t _ _, param1 m c _, ← A.a7]
  exact at_one _ (show (octet t).val * 512 + (384 + (64 * q.val + j.val)) = ((octet t).val * 8 + (6 + q.val)) * 64 + j.val by omega)

theorem kk3 (A : Agree m c W) (t : Fin cfg0.N) (q : Fin 2) (j : Fin 64) :
    row (View.ld (iblk m c 6 t) r0_32) (ix2 0 (lane q j)) = (head W (seqOf t) (headOf t ⟨6 + q.val, by omega⟩)).kk j := by
  have hq : q.val < 2 := q.isLt
  rw [row_3_2, blk6 m c t _ _, param2 m c _, ← A.a8]
  exact at_one _ (show (octet t).val * 512 + (384 + (64 * q.val + j.val)) = ((octet t).val * 8 + (6 + q.val)) * 64 + j.val by omega)

theorem ka3 (A : Agree m c W) (t : Fin cfg0.N) (q : Fin 2) (j : Fin 64) :
    row (View.ld (iblk m c 6 t) r0_33) (ix2 0 (lane q j)) = (head W (seqOf t) (headOf t ⟨6 + q.val, by omega⟩)).ka j := by
  have hq : q.val < 2 := q.isLt
  rw [row_3_3, blk6 m c t _ _, param3 m c _, ← A.a9]
  exact at_one _ (show (octet t).val * 512 + (384 + (64 * q.val + j.val)) = ((octet t).val * 8 + (6 + q.val)) * 64 + j.val by omega)

theorem rk3 (A : Agree m c W) (t : Fin cfg0.N) (q : Fin 2) (j : Fin 64) :
    row (View.ld (iblk m c 6 t) r0_34) (ix2 0 (lane q j)) = (head W (seqOf t) (headOf t ⟨6 + q.val, by omega⟩)).rk j := by
  have hq : q.val < 2 := q.isLt
  rw [row_3_4, blk6 m c t _ _, param4 m c _, ← A.a10]
  exact at_two _ (show ((octet t).val * 512 + (384 + (64 * q.val + j.val))) / 64 = (octet t).val * 8 + (6 + q.val) by omega)
    (show ((octet t).val * 512 + (384 + (64 * q.val + j.val))) % 64 = j.val by omega)

theorem gg3 (A : Agree m c W) (t : Fin cfg0.N) (q : Fin 2) (j : Fin 64) :
    row (View.ld (iblk m c 6 t) r0_35) (ix2 0 (lane q j)) = (head W (seqOf t) (headOf t ⟨6 + q.val, by omega⟩)).gg j := by
  have hq : q.val < 2 := q.isLt
  rw [row_3_5, blk6 m c t _ _, param5 m c _, ← A.a11]
  exact at_one _ (show (octet t).val * 512 + (384 + (64 * q.val + j.val)) = ((octet t).val * 8 + (6 + q.val)) * 64 + j.val by omega)

theorem gb3 (A : Agree m c W) (t : Fin cfg0.N) (q : Fin 2) (j : Fin 64) :
    row (View.ld (iblk m c 6 t) r0_36) (ix2 0 (lane q j)) = (head W (seqOf t) (headOf t ⟨6 + q.val, by omega⟩)).gb j := by
  have hq : q.val < 2 := q.isLt
  rw [row_3_6, blk6 m c t _ _, param6 m c _, ← A.a12]
  exact at_one _ (show (octet t).val * 512 + (384 + (64 * q.val + j.val)) = ((octet t).val * 8 + (6 + q.val)) * 64 + j.val by omega)

theorem s3 (A : Agree m c W) (t : Fin cfg0.N) (q : Fin 2) (i j : Fin 64) :
    (if q = 0 then state1 (View.ld (iblk m c 7 t) r0_38) else state1 (View.ld (iblk m c 7 t) r0_39)) (ix2 i j) = (head W (seqOf t) (headOf t ⟨6 + q.val, by omega⟩)).s i j := by
  match q with
  | 0 =>
    rw [if_pos rfl, state_3_0, blk7 m c t _ _ _, ← A.a13]
    rfl
  | 1 =>
    rw [if_neg (by decide), state_3_1, blk7 m c t _ _ _, ← A.a13]
    rfl

theorem given3 (A : Agree m c W) (t : Fin cfg0.N) (q : Fin 2) :
    (in3 (iblk m c 0 t) (iblk m c 1 t) (iblk m c 2 t) (iblk m c 3 t) (iblk m c 4 t) (iblk m c 5 t) (iblk m c 6 t) (iblk m c 7 t)).head q
      = (head W (seqOf t) (headOf t ⟨6 + q.val, by omega⟩)) := by
  refine Head.ext ?_ ?_ ?_ ?_ ?_ ?_ ?_ ?_ ?_ ?_ ?_ ?_ ?_ ?_
  · funext s j; dsimp only [In.head, in3, parts, part]; exact r3 A t q s j
  · funext s j; dsimp only [In.head, in3, parts, part]; exact k3 A t q s j
  · funext s j; dsimp only [In.head, in3, parts, part]; exact v3 A t q s j
  · funext s j; dsimp only [In.head, in3, parts, part]; exact g3 A t q s j
  · funext s j; dsimp only [In.head, in3, parts, part]; exact wl3 A t q s j
  · funext s j; dsimp only [In.head, in3, parts, part]; exact al3 A t q s j
  · funext j; dsimp only [In.head, in3, parts, part]; exact w03 A t q j
  · funext j; dsimp only [In.head, in3, parts, part]; exact a03 A t q j
  · funext j; dsimp only [In.head, in3, parts, part]; exact kk3 A t q j
  · funext j; dsimp only [In.head, in3, parts, part]; exact ka3 A t q j
  · funext j; dsimp only [In.head, in3, parts, part]; exact rk3 A t q j
  · funext j; dsimp only [In.head, in3, parts, part]; exact gg3 A t q j
  · funext j; dsimp only [In.head, in3, parts, part]; exact gb3 A t q j
  · funext i j; dsimp only [In.head, in3, parts, part]; exact s3 A t q i j

end Cert.WkvSampleIdeal.Given
-- ==== Proof.WkvFinal.lean ====
module

public import proofs.«01_k».proof.Proof.WkvGiven

@[expose] public section
set_option maxRecDepth 16384
noncomputable section
open Idealize.ShloMosaic Idealize.ShloMosaic.TcCoe Idealize.SL.Sem

/-! # The two arrays after the run -/

namespace Cert.WkvSampleIdeal.Given
open Cert.WkvSampleIdeal Cert.WkvSampleIdeal.Gen Cert.WkvSampleIdeal.Pair Cert.WkvSampleIdeal.Reads Cert.Wkv
open Cert.WkvSampleRefIdeal.Heads (head)

/-- A lane outside a band of 128. -/
theorem skip_band (o : ℕ) (inb) (f : S1x4x128.Idx → EReal) (ps) (s : Fin 4) (x : Fin 512) (h : x.val < o ∨ o + 128 ≤ x.val) :
    View.canon ((⟨Rect.unit (s := S1x4x512) ![0, 0, o] S1x4x128.size inb, f⟩ : View.Piece (Elt Ideal) S1x4x512 .f32) :: ps) (ix3 0 s x)
      = View.canon ps (ix3 0 s x) := by
  refine View.canon_cons_of_not_mem _ _ ?_
  intro hm
  obtain ⟨l, hl, he⟩ := (LoadRect.mem_set _).mp hm (2 : Fin 3)
  have he' : x.val = o + 1 * l := he
  have hl' : l < 128 := hl
  omega

/-- A lane inside it. -/
theorem take_band (o : ℕ) (inb) (f : S1x4x128.Idx → EReal) (ps) (s : Fin 4) (l : Fin 128) (x : Fin 512) (h : x.val = o + l.val) :
    View.canon ((⟨Rect.unit (s := S1x4x512) ![0, 0, o] S1x4x128.size inb, f⟩ : View.Piece (Elt Ideal) S1x4x512 .f32) :: ps) (ix3 0 s x)
      = f (ix3 0 s l) := by
  have e : (ix3 0 s x : S1x4x512.Idx) = (Rect.unit (s := S1x4x512) ![0, 0, o] S1x4x128.size inb).emb (ix3 0 s l : S1x4x128.Idx) := by
    funext a
    refine Fin.ext ?_
    match a with
    | ⟨0, _⟩ => rfl
    | ⟨1, _⟩ => show s.val = 0 + 1 * s.val; omega
    | ⟨2, _⟩ => show x.val = o + 1 * l.val; omega
  rw [e, View.canon_cons_emb]

/-- Another head's state. -/
theorem skip_state (o : ℕ) (inb) (f : S1x1x64x64.Idx → EReal) (ps) (n : Fin 8) (i j : Fin 64) (h : n.val ≠ o) :
    View.canon ((⟨Rect.unit (s := S1x8x64x64) ![0, o, 0, 0] S1x1x64x64.size inb, f⟩ : View.Piece (Elt Ideal) S1x8x64x64 .f32) :: ps) (ix4 0 n i j)
      = View.canon ps (ix4 0 n i j) := by
  refine View.canon_cons_of_not_mem _ _ ?_
  intro hm
  obtain ⟨l, hl, he⟩ := (LoadRect.mem_set _).mp hm (1 : Fin 4)
  have he' : n.val = o + 1 * l := he
  have hl' : l < 1 := hl
  omega

/-- The head's own. -/
theorem take_state (o : ℕ) (inb) (f : S1x1x64x64.Idx → EReal) (ps) (n : Fin 8) (i j : Fin 64) (h : n.val = o) :
    View.canon ((⟨Rect.unit (s := S1x8x64x64) ![0, o, 0, 0] S1x1x64x64.size inb, f⟩ : View.Piece (Elt Ideal) S1x8x64x64 .f32) :: ps) (ix4 0 n i j)
      = f (ix4 0 0 i j) := by
  have e : (ix4 0 n i j : S1x8x64x64.Idx) = (Rect.unit (s := S1x8x64x64) ![0, o, 0, 0] S1x1x64x64.size inb).emb (ix4 0 0 i j : S1x1x64x64.Idx) := by
    funext a
    refine Fin.ext ?_
    match a with
    | ⟨0, _⟩ => rfl
    | ⟨1, _⟩ => show n.val = o + 1 * 0; omega
    | ⟨2, _⟩ => show i.val = 0 + 1 * i.val; omega
    | ⟨3, _⟩ => show j.val = 0 + 1 * j.val; omega
  rw [e, View.canon_cons_emb]

theorem put_at (o : Rows) (s : Fin 4) (l : Fin 128) : put o (ix3 0 s l) = o (ix2 s l) := by pointwise [put]
theorem first_at (o : Mat) (i j : Fin 64) : first o (ix4 0 0 i j) = o (ix2 (lane 0 i) (lane 0 j)) := by
  pointwise [first]
  exact at_two _ (by simp) (by simp)
theorem second_at (o : Mat) (i j : Fin 64) : second o (ix4 0 0 i j) = o (ix2 (lane 1 i) (lane 1 j)) := by
  pointwise [second]
  exact at_two _ (by simp) (by simp)

variable {m : (ℓ : Loc nD τ sig) → Buf (Elt Ideal) ℓ} {c : Dev nD}
  {W : Valuation Cert.WkvSampleRefIdeal.τ Cert.WkvSampleRefIdeal.sig (Elt Ideal)}

/-- The reference's rows, head by head. -/
theorem rows_apply (b : Fin 32) (s : Fin 4) (n j : Fin 64) (x : Fin 4096) (h : x.val = n.val * 64 + j.val) :
    Cert.WkvSampleRefIdeal.Heads.rows W (ix3 b s x) = (head W b n).out s j := by
  have hj : j.val < 64 := j.isLt
  have e : n = ⟨x.val / 64, by omega⟩ := Fin.ext (show n.val = x.val / 64 by omega)
  have e' : j = ⟨x.val % 64, by omega⟩ := Fin.ext (show j.val = x.val % 64 by omega)
  exact congrArg₂ (fun n j => (head W b n).out s j) e.symm e'.symm

theorem lane_split (l : Fin 128) : ∃ (q : Fin 2) (j : Fin 64), l = lane q j :=
  ⟨⟨l.val / 64, by omega⟩, ⟨l.val % 64, by omega⟩, Fin.ext (show l.val = 64 * (l.val / 64) + l.val % 64 by omega)⟩

theorem band0 (A : Agree m c W) (t : Fin cfg0.N) (s : Fin 4) (l : Fin 128) (x : Fin 512) (h : x.val = 0 + l.val) :
    put (in0 (iblk m c 0 t) (iblk m c 1 t) (iblk m c 2 t) (iblk m c 3 t) (iblk m c 4 t) (iblk m c 5 t) (iblk m c 6 t) (iblk m c 7 t)).out (ix3 0 s l)
      = Cert.WkvSampleRefIdeal.Heads.rows W (ix3 (seqOf t) s ⟨(octet t).val * 512 + x.val, by omega⟩) := by
  obtain ⟨q, j, rfl⟩ := lane_split l
  have hq : q.val < 2 := q.isLt
  have hx : x.val = 0 + (64 * q.val + j.val) := h
  rw [put_at, out_at, given0 A]
  exact (rows_apply _ _ _ _ _ (show (octet t).val * 512 + x.val = ((octet t).val * 8 + (0 + q.val)) * 64 + j.val by omega)).symm

theorem first0 (A : Agree m c W) (t : Fin cfg0.N) (n : Fin 8) (h : n.val = 0) (i j : Fin 64) :
    first (in0 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [first_at, state_blocks, if_pos rfl]
  refine (congrArg (fun h : Head => h.st4 i j) (given0 A t 0)).trans ?_
  obtain rfl : n = 0 := Fin.ext h
  rfl

theorem second0 (A : Agree m c W) (t : Fin cfg0.N) (n : Fin 8) (h : n.val = 1) (i j : Fin 64) :
    second (in0 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [second_at, state_blocks, if_pos rfl]
  refine (congrArg (fun h : Head => h.st4 i j) (given0 A t 1)).trans ?_
  obtain rfl : n = 1 := Fin.ext h
  rfl

theorem band1 (A : Agree m c W) (t : Fin cfg0.N) (s : Fin 4) (l : Fin 128) (x : Fin 512) (h : x.val = 128 + l.val) :
    put (in1 (iblk m c 0 t) (iblk m c 1 t) (iblk m c 2 t) (iblk m c 3 t) (iblk m c 4 t) (iblk m c 5 t) (iblk m c 6 t) (iblk m c 7 t)).out (ix3 0 s l)
      = Cert.WkvSampleRefIdeal.Heads.rows W (ix3 (seqOf t) s ⟨(octet t).val * 512 + x.val, by omega⟩) := by
  obtain ⟨q, j, rfl⟩ := lane_split l
  have hq : q.val < 2 := q.isLt
  have hx : x.val = 128 + (64 * q.val + j.val) := h
  rw [put_at, out_at, given1 A]
  exact (rows_apply _ _ _ _ _ (show (octet t).val * 512 + x.val = ((octet t).val * 8 + (2 + q.val)) * 64 + j.val by omega)).symm

theorem first1 (A : Agree m c W) (t : Fin cfg0.N) (n : Fin 8) (h : n.val = 2) (i j : Fin 64) :
    first (in1 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [first_at, state_blocks, if_pos rfl]
  refine (congrArg (fun h : Head => h.st4 i j) (given1 A t 0)).trans ?_
  obtain rfl : n = 2 := Fin.ext h
  rfl

theorem second1 (A : Agree m c W) (t : Fin cfg0.N) (n : Fin 8) (h : n.val = 3) (i j : Fin 64) :
    second (in1 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [second_at, state_blocks, if_pos rfl]
  refine (congrArg (fun h : Head => h.st4 i j) (given1 A t 1)).trans ?_
  obtain rfl : n = 3 := Fin.ext h
  rfl

theorem band2 (A : Agree m c W) (t : Fin cfg0.N) (s : Fin 4) (l : Fin 128) (x : Fin 512) (h : x.val = 256 + l.val) :
    put (in2 (iblk m c 0 t) (iblk m c 1 t) (iblk m c 2 t) (iblk m c 3 t) (iblk m c 4 t) (iblk m c 5 t) (iblk m c 6 t) (iblk m c 7 t)).out (ix3 0 s l)
      = Cert.WkvSampleRefIdeal.Heads.rows W (ix3 (seqOf t) s ⟨(octet t).val * 512 + x.val, by omega⟩) := by
  obtain ⟨q, j, rfl⟩ := lane_split l
  have hq : q.val < 2 := q.isLt
  have hx : x.val = 256 + (64 * q.val + j.val) := h
  rw [put_at, out_at, given2 A]
  exact (rows_apply _ _ _ _ _ (show (octet t).val * 512 + x.val = ((octet t).val * 8 + (4 + q.val)) * 64 + j.val by omega)).symm

theorem first2 (A : Agree m c W) (t : Fin cfg0.N) (n : Fin 8) (h : n.val = 4) (i j : Fin 64) :
    first (in2 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [first_at, state_blocks, if_pos rfl]
  refine (congrArg (fun h : Head => h.st4 i j) (given2 A t 0)).trans ?_
  obtain rfl : n = 4 := Fin.ext h
  rfl

theorem second2 (A : Agree m c W) (t : Fin cfg0.N) (n : Fin 8) (h : n.val = 5) (i j : Fin 64) :
    second (in2 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [second_at, state_blocks, if_pos rfl]
  refine (congrArg (fun h : Head => h.st4 i j) (given2 A t 1)).trans ?_
  obtain rfl : n = 5 := Fin.ext h
  rfl

theorem band3 (A : Agree m c W) (t : Fin cfg0.N) (s : Fin 4) (l : Fin 128) (x : Fin 512) (h : x.val = 384 + l.val) :
    put (in3 (iblk m c 0 t) (iblk m c 1 t) (iblk m c 2 t) (iblk m c 3 t) (iblk m c 4 t) (iblk m c 5 t) (iblk m c 6 t) (iblk m c 7 t)).out (ix3 0 s l)
      = Cert.WkvSampleRefIdeal.Heads.rows W (ix3 (seqOf t) s ⟨(octet t).val * 512 + x.val, by omega⟩) := by
  obtain ⟨q, j, rfl⟩ := lane_split l
  have hq : q.val < 2 := q.isLt
  have hx : x.val = 384 + (64 * q.val + j.val) := h
  rw [put_at, out_at, given3 A]
  exact (rows_apply _ _ _ _ _ (show (octet t).val * 512 + x.val = ((octet t).val * 8 + (6 + q.val)) * 64 + j.val by omega)).symm

theorem first3 (A : Agree m c W) (t : Fin cfg0.N) (n : Fin 8) (h : n.val = 6) (i j : Fin 64) :
    first (in3 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [first_at, state_blocks, if_pos rfl]
  refine (congrArg (fun h : Head => h.st4 i j) (given3 A t 0)).trans ?_
  obtain rfl : n = 6 := Fin.ext h
  rfl

theorem second3 (A : Agree m c W) (t : Fin cfg0.N) (n : Fin 8) (h : n.val = 7) (i j : Fin 64) :
    second (in3 (iblk m c 0 t) (iblk m c 1 t) (iblk m c 2 t) (iblk m c 3 t) (iblk m c 4 t) (iblk m c 5 t) (iblk m c 6 t) (iblk m c 7 t)).state (ix4 0 0 i j)
      = Cert.WkvSampleRefIdeal.Heads.states W (ix4 (seqOf t) ⟨(octet t).val * 8 + n.val, by omega⟩ i j) := by
  rw [second_at, state_blocks, if_pos rfl]
  refine (congrArg (fun h : Head => h.st4 i j) (given3 A t 1)).trans ?_
  obtain rfl : n = 7 := Fin.ext h
  rfl

/-- Window 8: the rows. -/
theorem final8 (A : Agree m c W) : ((dats m 0 c).arrAt 8 cfg0.N : S32x4x4096.Idx → EReal) = Cert.WkvSampleRefIdeal.Heads.rows W := by
  refine (dats m 0 c).arrAt_eq_of_covers 8 _ (by decide +kernel) fun t _ y => ?_
  blk_simp
  rw [after0_8, out8]
  obtain ⟨s, x, rfl⟩ : ∃ (s : Fin 4) (x : Fin 512), y = ix3 0 s x := ⟨y 1, y 2, by
    funext a
    match a with
    | ⟨0, _⟩ => exact Subsingleton.elim (α := Fin 1) _ _
    | ⟨1, _⟩ => rfl
    | ⟨2, _⟩ => rfl⟩
  have e : ((View.whole main_v17_0).slice (win0_8.rect t)).emb (ix3 0 s x) = (ix3 (seqOf t) s ⟨(octet t).val * 512 + x.val, by omega⟩ : S32x4x4096.Idx) := by
    blk_ext [idx t]
  rw [e]
  have hx : x.val < 512 := x.isLt
  by_cases h3 : 384 ≤ x.val
  · exact (take_band 384 _ _ _ s ⟨x.val - 384, by omega⟩ x (show x.val = 384 + (x.val - 384) by omega)).trans
      (band3 A t s _ x (show x.val = 384 + (x.val - 384) by omega))
  refine (skip_band 384 _ _ _ s x (by omega)).trans ?_
  by_cases h2 : 256 ≤ x.val
  · exact (take_band 256 _ _ _ s ⟨x.val - 256, by omega⟩ x (show x.val = 256 + (x.val - 256) by omega)).trans
      (band2 A t s _ x (show x.val = 256 + (x.val - 256) by omega))
  refine (skip_band 256 _ _ _ s x (by omega)).trans ?_
  by_cases h1 : 128 ≤ x.val
  · exact (take_band 128 _ _ _ s ⟨x.val - 128, by omega⟩ x (show x.val = 128 + (x.val - 128) by omega)).trans
      (band1 A t s _ x (show x.val = 128 + (x.val - 128) by omega))
  refine (skip_band 128 _ _ _ s x (by omega)).trans ?_
  exact (take_band 0 _ _ _ s ⟨x.val, by omega⟩ x (show x.val = 0 + x.val by omega)).trans
    (band0 A t s _ x (show x.val = 0 + x.val by omega))

/-- Window 9: the states. -/
theorem final9 (A : Agree m c W) : ((dats m 0 c).arrAt 9 cfg0.N : S32x64x64x64.Idx → EReal) = Cert.WkvSampleRefIdeal.Heads.states W := by
  refine (dats m 0 c).arrAt_eq_of_covers 9 _ (by decide +kernel) fun t _ y => ?_
  blk_simp
  rw [after0_9, out9]
  obtain ⟨n, i, j, rfl⟩ : ∃ (n : Fin 8) (i j : Fin 64), y = ix4 0 n i j := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  have e : ((View.whole main_v17_1).slice (win0_9.rect t)).emb (ix4 0 n i j) = (ix4 (seqOf t) ⟨(octet t).val * 8 + n.val, by omega⟩ i j : S32x64x64x64.Idx) := by
    blk_ext [idx t]
  rw [e]
  have hn : n.val < 8 := n.isLt
  by_cases h7 : n.val = 7
  · exact (take_state 7 _ _ _ n i j h7).trans (second3 A t n h7 i j)
  refine (skip_state 7 _ _ _ n i j h7).trans ?_
  by_cases h6 : n.val = 6
  · exact (take_state 6 _ _ _ n i j h6).trans (first3 A t n h6 i j)
  refine (skip_state 6 _ _ _ n i j h6).trans ?_
  by_cases h5 : n.val = 5
  · exact (take_state 5 _ _ _ n i j h5).trans (second2 A t n h5 i j)
  refine (skip_state 5 _ _ _ n i j h5).trans ?_
  by_cases h4 : n.val = 4
  · exact (take_state 4 _ _ _ n i j h4).trans (first2 A t n h4 i j)
  refine (skip_state 4 _ _ _ n i j h4).trans ?_
  by_cases h3 : n.val = 3
  · exact (take_state 3 _ _ _ n i j h3).trans (second1 A t n h3 i j)
  refine (skip_state 3 _ _ _ n i j h3).trans ?_
  by_cases h2 : n.val = 2
  · exact (take_state 2 _ _ _ n i j h2).trans (first1 A t n h2 i j)
  refine (skip_state 2 _ _ _ n i j h2).trans ?_
  by_cases h1 : n.val = 1
  · exact (take_state 1 _ _ _ n i j h1).trans (second0 A t n h1 i j)
  refine (skip_state 1 _ _ _ n i j h1).trans ?_
  have h0 : n.val = 0 := by omega
  exact (take_state 0 _ _ _ n i j h0).trans (first0 A t n h0 i j)

end Cert.WkvSampleIdeal.Given
-- ==== Proof.WkvSampleValue.lean ====
module

public import proofs.«01_k».proof.Proof.Gen.WkvSample.Frame
public import proofs.«01_k».proof.Proof.WkvFinal
public import proofs.«01_k».proof.Defs

@[expose] public section
set_option maxRecDepth 16384
noncomputable section
open Idealize.ShloMosaic Idealize.ShloMosaic.TcCoe Idealize.SL.Sem Idealize.ShloMosaic.StableHlo

/-! # The recurrence of the generated tokens

Four tokens of each sequence pass through the heads' states; the rows written and the states left are the
reference's. -/

namespace Cert.WkvSampleProof

theorem kernel_frame : Cert.quiescent_WkvSample := fun m ρ _ => Cert.WkvSample.Gen.frame m ρ
theorem ideal_frame : Cert.quiescent_WkvSampleIdeal := fun m ρ _ => Cert.WkvSampleIdeal.Gen.frame m ρ
theorem reference_frame : Cert.quiescent_WkvSampleRefIdeal := fun m ρ _ =>
  (θ_run Cert.WkvSampleRefIdeal.defs _ _).mono (fun r h => ⟨fun c => (h c).2.2, Idealize.ShloMosaic.sem_eq_zero_of_no_sems (by decide) r.2⟩)
    (Cert.WkvSampleRefIdeal.Heads.leaves m ρ)

theorem same_program : Cert.preserves_WkvSample_WkvSampleIdeal := trivial

/-- Over the reals the kernel's rows and states are the reference's. -/
theorem values_agree : Cert.algebraic_WkvSampleIdeal_WkvSampleRefIdeal := by
  intro m ρ m' ρ' _ hagree
  have A : ∀ c, Cert.WkvSampleIdeal.Given.Agree m c (launchContents m' c) := fun c => ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2⟩
  refine ⟨fun c => Cert.WkvSampleRefIdeal.Heads.rows (launchContents m' c), fun c => Cert.WkvSampleRefIdeal.Heads.states (launchContents m' c), ?_, ?_⟩
  · exact (θ_run Cert.WkvSampleIdeal.defs _ _).mono
      (fun r h c => ⟨(h c).1.trans (Cert.WkvSampleIdeal.Given.final8 (A c)), (h c).2.1.trans (Cert.WkvSampleIdeal.Given.final9 (A c)), (h c).2.2⟩)
      (Cert.WkvSampleIdeal.Value.run_blocks m ρ)
  · exact Cert.WkvSampleRefIdeal.Heads.leaves m' ρ'

end Cert.WkvSampleProof
-- ==== Proof.DecayInValue.lean ====
module

public import proofs.«01_k».proof.Proof.Gen.DecayIn.Frame
public import proofs.«01_k».proof.Proof.Gen.DecayInIdeal.Value
public import proofs.«01_k».proof.Proof.Gen.DecayInRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The first decay product, through a hyperbolic tangent

The kernel walks the output in blocks of 1024 whole rows, each taken over the whole inner dimension. -/

namespace Cert.DecayInRefIdeal.Product

open Cert.DecayInRefIdeal Cert.DecayInRefIdeal.Gen

/-- The product the reference takes. -/
abbrev product (x : FVec Ideal S8192x4096 .bf16) (w : FVec Ideal S4096x128 .f32) : FVec Ideal S8192x128 .f32 :=
  Host.tanh (Host.dotGeneral dot_S8192x4096_S4096x128_S8192x128_1_0_0_1_n_n none (extf .f32 x bitsLt_bf16_f32) w)

end Cert.DecayInRefIdeal.Product

namespace Cert.DecayInIdeal.Product

open Cert.DecayInIdeal Cert.DecayInIdeal.Gen Cert.DecayInRefIdeal.Product

variable (m : (ℓ : Loc nD τ sig) → Buf (Elt Ideal) ℓ)

/-- Which block of each array a grid point reads or writes. -/
theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.DecayInIdeal.Product

namespace Cert.DecayInProof

theorem kernel_frame : Cert.quiescent_DecayIn := fun m ρ _ => Cert.DecayIn.Gen.frame m ρ
theorem ideal_frame : Cert.quiescent_DecayInIdeal := fun m ρ _ => Cert.DecayInIdeal.Gen.frame m ρ
theorem reference_frame : Cert.quiescent_DecayInRefIdeal := fun m ρ _ =>
  (θ_run Cert.DecayInRefIdeal.defs _ _).mono (fun r h => ⟨fun c => (h c).2, Idealize.ShloMosaic.sem_eq_zero_of_no_sems (by decide) r.2⟩)
    (Cert.DecayInRefIdeal.Value.run (F := Ideal) m ρ)

theorem same_program : Cert.preserves_DecayIn_DecayInIdeal := trivial

/-- Over the reals the kernel's result and the reference's are one array. -/
theorem values_agree : Cert.algebraic_DecayInIdeal_DecayInRefIdeal := by
  intro m ρ m' ρ' _ hagree
  refine ⟨fun c => Cert.DecayInRefIdeal.Product.product (m ((c.tc : Thread Cert.DecayInIdeal.nD Cert.DecayInIdeal.τ).loc Cert.DecayInIdeal.main_arg0))
    (m ((c.tc : Thread Cert.DecayInIdeal.nD Cert.DecayInIdeal.τ).loc Cert.DecayInIdeal.main_arg1)), ?_, ?_⟩
  · exact (θ_run Cert.DecayInIdeal.defs _ _).mono
      (fun r h c => ⟨(h c).1.trans (Cert.DecayInIdeal.Product.final m c), (h c).2⟩) (Cert.DecayInIdeal.Value.run_blocks m ρ)
  · refine (θ_run Cert.DecayInRefIdeal.defs _ _).mono (fun r h c => ⟨(h c).1.trans ?_, (h c).2⟩) (Cert.DecayInRefIdeal.Value.run (F := Ideal) m' ρ')
    rw [(hagree c).1, (hagree c).2]

end Cert.DecayInProof
-- ==== Proof.CorrInValue.lean ====
module

public import proofs.«01_k».proof.Proof.Gen.CorrIn.Frame
public import proofs.«01_k».proof.Proof.Gen.CorrInIdeal.Value
public import proofs.«01_k».proof.Proof.Gen.CorrInRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The first correction product

The kernel walks the output in blocks of 1024 whole rows, each taken over the whole inner dimension. -/

namespace Cert.CorrInRefIdeal.Product

open Cert.CorrInRefIdeal Cert.CorrInRefIdeal.Gen

/-- The product the reference takes. -/
abbrev product (x : FVec Ideal S8192x4096 .bf16) (w : FVec Ideal S4096x128 .f32) : FVec Ideal S8192x128 .f32 :=
  Host.dotGeneral dot_S8192x4096_S4096x128_S8192x128_1_0_0_1_n_n none (extf .f32 x bitsLt_bf16_f32) w

end Cert.CorrInRefIdeal.Product

namespace Cert.CorrInIdeal.Product

open Cert.CorrInIdeal Cert.CorrInIdeal.Gen Cert.CorrInRefIdeal.Product

variable (m : (ℓ : Loc nD τ sig) → Buf (Elt Ideal) ℓ)

/-- Which block of each array a grid point reads or writes. -/
theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.CorrInIdeal.Product

namespace Cert.CorrInProof

theorem kernel_frame : Cert.quiescent_CorrIn := fun m ρ _ => Cert.CorrIn.Gen.frame m ρ
theorem ideal_frame : Cert.quiescent_CorrInIdeal := fun m ρ _ => Cert.CorrInIdeal.Gen.frame m ρ
theorem reference_frame : Cert.quiescent_CorrInRefIdeal := fun m ρ _ =>
  (θ_run Cert.CorrInRefIdeal.defs _ _).mono (fun r h => ⟨fun c => (h c).2, Idealize.ShloMosaic.sem_eq_zero_of_no_sems (by decide) r.2⟩)
    (Cert.CorrInRefIdeal.Value.run (F := Ideal) m ρ)

theorem same_program : Cert.preserves_CorrIn_CorrInIdeal := trivial

/-- Over the reals the kernel's result and the reference's are one array. -/
theorem values_agree : Cert.algebraic_CorrInIdeal_CorrInRefIdeal := by
  intro m ρ m' ρ' _ hagree
  refine ⟨fun c => Cert.CorrInRefIdeal.Product.product (m ((c.tc : Thread Cert.CorrInIdeal.nD Cert.CorrInIdeal.τ).loc Cert.CorrInIdeal.main_arg0))
    (m ((c.tc : Thread Cert.CorrInIdeal.nD Cert.CorrInIdeal.τ).loc Cert.CorrInIdeal.main_arg1)), ?_, ?_⟩
  · exact (θ_run Cert.CorrInIdeal.defs _ _).mono
      (fun r h c => ⟨(h c).1.trans (Cert.CorrInIdeal.Product.final m c), (h c).2⟩) (Cert.CorrInIdeal.Value.run_blocks m ρ)
  · refine (θ_run Cert.CorrInRefIdeal.defs _ _).mono (fun r h c => ⟨(h c).1.trans ?_, (h c).2⟩) (Cert.CorrInRefIdeal.Value.run (F := Ideal) m' ρ')
    rw [(hagree c).1, (hagree c).2]

end Cert.CorrInProof
-- ==== Proof.GateInValue.lean ====
module

public import proofs.«01_k».proof.Proof.Gen.GateIn.Frame
public import proofs.«01_k».proof.Proof.Gen.GateInIdeal.Value
public import proofs.«01_k».proof.Proof.Gen.GateInRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The first gate product, through a logistic function

The kernel walks the output in blocks of 1024 whole rows, each taken over the whole inner dimension. -/

namespace Cert.GateInRefIdeal.Product

open Cert.GateInRefIdeal Cert.GateInRefIdeal.Gen

/-- The product the reference takes. -/
abbrev product (x : FVec Ideal S8192x4096 .bf16) (w : FVec Ideal S4096x480 .f32) : FVec Ideal S8192x480 .f32 :=
  Host.divf (broadcastInDim S8192x480 ![] bcast_S_S8192x480 (constant S_ .f32 0x3F800000#32)) (addf (broadcastInDim S8192x480 ![] bcast_S_S8192x480 (constant S_ .f32 0x3F800000#32)) (Host.exp (Host.negf (Host.dotGeneral dot_S8192x4096_S4096x480_S8192x480_1_0_0_1_n_n none (extf .f32 x bitsLt_bf16_f32) w))))

end Cert.GateInRefIdeal.Product

namespace Cert.GateInIdeal.Product

open Cert.GateInIdeal Cert.GateInIdeal.Gen Cert.GateInRefIdeal.Product

variable (m : (ℓ : Loc nD τ sig) → Buf (Elt Ideal) ℓ)

/-- Which block of each array a grid point reads or writes. -/
theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  refine congrArg Ideal.logistic (?_ : _ = (_ : EReal)); blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.GateInIdeal.Product

namespace Cert.GateInProof

theorem kernel_frame : Cert.quiescent_GateIn := fun m ρ _ => Cert.GateIn.Gen.frame m ρ
theorem ideal_frame : Cert.quiescent_GateInIdeal := fun m ρ _ => Cert.GateInIdeal.Gen.frame m ρ
theorem reference_frame : Cert.quiescent_GateInRefIdeal := fun m ρ _ =>
  (θ_run Cert.GateInRefIdeal.defs _ _).mono (fun r h => ⟨fun c => (h c).2, Idealize.ShloMosaic.sem_eq_zero_of_no_sems (by decide) r.2⟩)
    (Cert.GateInRefIdeal.Value.run (F := Ideal) m ρ)

theorem same_program : Cert.preserves_GateIn_GateInIdeal := trivial

/-- Over the reals the kernel's result and the reference's are one array. -/
theorem values_agree : Cert.algebraic_GateInIdeal_GateInRefIdeal := by
  intro m ρ m' ρ' _ hagree
  refine ⟨fun c => Cert.GateInRefIdeal.Product.product (m ((c.tc : Thread Cert.GateInIdeal.nD Cert.GateInIdeal.τ).loc Cert.GateInIdeal.main_arg0))
    (m ((c.tc : Thread Cert.GateInIdeal.nD Cert.GateInIdeal.τ).loc Cert.GateInIdeal.main_arg1)), ?_, ?_⟩
  · exact (θ_run Cert.GateInIdeal.defs _ _).mono
      (fun r h c => ⟨(h c).1.trans (Cert.GateInIdeal.Product.final m c), (h c).2⟩) (Cert.GateInIdeal.Value.run_blocks m ρ)
  · refine (θ_run Cert.GateInRefIdeal.defs _ _).mono (fun r h c => ⟨(h c).1.trans ?_, (h c).2⟩) (Cert.GateInRefIdeal.Value.run (F := Ideal) m' ρ')
    rw [(hagree c).1, (hagree c).2]

end Cert.GateInProof
-- ==== Proof.LowOutValue.lean ====
module

public import proofs.«01_k».proof.Proof.Gen.LowOut.Frame
public import proofs.«01_k».proof.Proof.Gen.LowOutIdeal.Value
public import proofs.«01_k».proof.Proof.Gen.LowOutRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The second product of the decay and of the correction

The kernel walks the output in blocks of 1024 rows by 512 columns; each block is the product of a
block of rows and a block of columns, over the whole inner dimension. -/

namespace Cert.LowOutRefIdeal.Product

open Cert.LowOutRefIdeal Cert.LowOutRefIdeal.Gen

/-- The product the reference takes. -/
abbrev product (x : FVec Ideal S8192x128 .f32) (w : FVec Ideal S128x4096 .f32) : FVec Ideal S8192x4096 .f32 :=
  Host.dotGeneral dot_S8192x128_S128x4096_S8192x4096_1_0_0_1_n_n none x w

end Cert.LowOutRefIdeal.Product

namespace Cert.LowOutIdeal.Product

open Cert.LowOutIdeal Cert.LowOutIdeal.Gen Cert.LowOutRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.LowOutIdeal.Product

namespace Cert.LowOutProof

theorem kernel_frame : Cert.quiescent_LowOut := fun m ρ _ => Cert.LowOut.Gen.frame m ρ
theorem ideal_frame : Cert.quiescent_LowOutIdeal := fun m ρ _ => Cert.LowOutIdeal.Gen.frame m ρ
theorem reference_frame : Cert.quiescent_LowOutRefIdeal := fun m ρ _ =>
  (θ_run Cert.LowOutRefIdeal.defs _ _).mono (fun r h => ⟨fun c => (h c).2, Idealize.ShloMosaic.sem_eq_zero_of_no_sems (by decide) r.2⟩)
    (Cert.LowOutRefIdeal.Value.run (F := Ideal) m ρ)

theorem same_program : Cert.preserves_LowOut_LowOutIdeal := trivial

/-- Over the reals the kernel's result and the reference's are one array. -/
theorem values_agree : Cert.algebraic_LowOutIdeal_LowOutRefIdeal := by
  intro m ρ m' ρ' _ hagree
  refine ⟨fun c => Cert.LowOutRefIdeal.Product.product (m ((c.tc : Thread Cert.LowOutIdeal.nD Cert.LowOutIdeal.τ).loc Cert.LowOutIdeal.main_arg0))
    (m ((c.tc : Thread Cert.LowOutIdeal.nD Cert.LowOutIdeal.τ).loc Cert.LowOutIdeal.main_arg1)), ?_, ?_⟩
  · exact (θ_run Cert.LowOutIdeal.defs _ _).mono
      (fun r h c => ⟨(h c).1.trans (Cert.LowOutIdeal.Product.final m c), (h c).2⟩) (Cert.LowOutIdeal.Value.run_blocks m ρ)
  · refine (θ_run Cert.LowOutRefIdeal.defs _ _).mono (fun r h c => ⟨(h c).1.trans ?_, (h c).2⟩) (Cert.LowOutRefIdeal.Value.run (F := Ideal) m' ρ')
    rw [(hagree c).1, (hagree c).2]

end Cert.LowOutProof
-- ==== Proof.GateOutValue.lean ====
module

public import proofs.«01_k».proof.Proof.Gen.GateOut.Frame
public import proofs.«01_k».proof.Proof.Gen.GateOutIdeal.Value
public import proofs.«01_k».proof.Proof.Gen.GateOutRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The second product of the gate

The kernel walks the output in blocks of 1024 rows by 512 columns; each block is the product of a
block of rows and a block of columns, over the whole inner dimension. -/

namespace Cert.GateOutRefIdeal.Product

open Cert.GateOutRefIdeal Cert.GateOutRefIdeal.Gen

/-- The product the reference takes. -/
abbrev product (x : FVec Ideal S8192x480 .f32) (w : FVec Ideal S480x4096 .f32) : FVec Ideal S8192x4096 .f32 :=
  Host.dotGeneral dot_S8192x480_S480x4096_S8192x4096_1_0_0_1_n_n none x w

end Cert.GateOutRefIdeal.Product

namespace Cert.GateOutIdeal.Product

open Cert.GateOutIdeal Cert.GateOutIdeal.Gen Cert.GateOutRefIdeal.Product

variable (m : (ℓ : Loc nD τ sig) → Buf (Elt Ideal) ℓ)

/-- Which block of each array a grid point reads or writes. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- Each entry of the block a grid point writes is the entry of the whole product at that place. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]; blk_point [iblk, V, idx t]

/-- The output array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.GateOutIdeal.Product

namespace Cert.GateOutProof

theorem kernel_frame : Cert.quiescent_GateOut := fun m ρ _ => Cert.GateOut.Gen.frame m ρ
theorem ideal_frame : Cert.quiescent_GateOutIdeal := fun m ρ _ => Cert.GateOutIdeal.Gen.frame m ρ
theorem reference_frame : Cert.quiescent_GateOutRefIdeal := fun m ρ _ =>
  (θ_run Cert.GateOutRefIdeal.defs _ _).mono (fun r h => ⟨fun c => (h c).2, Idealize.ShloMosaic.sem_eq_zero_of_no_sems (by decide) r.2⟩)
    (Cert.GateOutRefIdeal.Value.run (F := Ideal) m ρ)

theorem same_program : Cert.preserves_GateOut_GateOutIdeal := trivial

/-- Over the reals the kernel's result and the reference's are one array. -/
theorem values_agree : Cert.algebraic_GateOutIdeal_GateOutRefIdeal := by
  intro m ρ m' ρ' _ hagree
  refine ⟨fun c => Cert.GateOutRefIdeal.Product.product (m ((c.tc : Thread Cert.GateOutIdeal.nD Cert.GateOutIdeal.τ).loc Cert.GateOutIdeal.main_arg0))
    (m ((c.tc : Thread Cert.GateOutIdeal.nD Cert.GateOutIdeal.τ).loc Cert.GateOutIdeal.main_arg1)), ?_, ?_⟩
  · exact (θ_run Cert.GateOutIdeal.defs _ _).mono
      (fun r h c => ⟨(h c).1.trans (Cert.GateOutIdeal.Product.final m c), (h c).2⟩) (Cert.GateOutIdeal.Value.run_blocks m ρ)
  · refine (θ_run Cert.GateOutRefIdeal.defs _ _).mono (fun r h c => ⟨(h c).1.trans ?_, (h c).2⟩) (Cert.GateOutRefIdeal.Value.run (F := Ideal) m' ρ')
    rw [(hagree c).1, (hagree c).2]

end Cert.GateOutProof
-- ==== Proof.MixPromptValue.lean ====
module

public import proofs.«01_k».proof.Proof.Gen.MixPrompt.Frame
public import proofs.«01_k».proof.Proof.Gen.MixPromptIdeal.Value
public import proofs.«01_k».proof.Proof.Gen.MixPromptRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The token mix of the prompt rows

Each row moves towards the row before it in its sequence, the first towards zeros, by six rows of weights. The kernel
adds to a block of rows the difference times a weight row; the rows before are laid out by the host as the reference has
them. -/

namespace Cert.MixPromptRefIdeal.Mix

open Cert.MixPromptRefIdeal Cert.MixPromptRefIdeal.Gen

variable (x : FVec Ideal S8192x4096 .f32) (w : FVec Ideal S1x4096 .f32)

/-- The rows of each sequence. -/
abbrev rows : FVec Ideal S4x2048x4096 .f32 := shapeCast S4x2048x4096 x shapeCasts_S8192x4096_S4x2048x4096

/-- The row before each row. -/
def before : FVec Ideal S4x2048x4096 .f32 :=
  concatenate S4x2048x4096 1 [⟨S4x1x4096, broadcastInDim S4x1x4096 ![0, 2] bcast_S4x4096_S4x1x4096_0_2 (broadcastInDim S4x4096 ![] bcast_S_S4x4096 (constant S_ .f32 0x00000000#32))⟩,
    ⟨S4x2047x4096, extractStridedSlice S4x2047x4096 ![0, 0, 0] (rows x) slices_S4x2048x4096_S4x2047x4096_0_0_0⟩] concatenates_S4x1x4096_S4x2047x4096_S4x2048x4096_d1

/-- The rows moved towards the rows before them by the weights `w`. -/
abbrev mixed : FVec Ideal S8192x4096 .bf16 :=
  truncf .bf16 (shapeCast S8192x4096 (addf (rows x) (mulf (subf (before x) (rows x))
    (broadcastInDim S4x2048x4096 ![0, 1, 2] bcast_S1x1x4096_S4x2048x4096_0_1_2 (broadcastInDim S1x1x4096 ![2] bcast_S4096_S1x1x4096_2
      (shapeCast S4096 w shapeCasts_S1x4096_S4096))))) shapeCasts_S4x2048x4096_S8192x4096) bitsLt_bf16_f32

/-- One row of the table of weights. -/
abbrev weights (mu : FVec Ideal S6x4096 .f32) (i : Fin 6) : FVec Ideal S1x4096 .f32 := fun z => mu (ix2 i (z 1))

theorem weights_eq (mu : FVec Ideal S6x4096 .f32) : extractStridedSlice S1x4096 ![0, 0] mu slices_S6x4096_S1x4096_0_0 = weights mu 0
    ∧ extractStridedSlice S1x4096 ![1, 0] mu slices_S6x4096_S1x4096_1_0 = weights mu 1
    ∧ extractStridedSlice S1x4096 ![2, 0] mu slices_S6x4096_S1x4096_2_0 = weights mu 2
    ∧ extractStridedSlice S1x4096 ![3, 0] mu slices_S6x4096_S1x4096_3_0 = weights mu 3
    ∧ extractStridedSlice S1x4096 ![4, 0] mu slices_S6x4096_S1x4096_4_0 = weights mu 4
    ∧ extractStridedSlice S1x4096 ![5, 0] mu slices_S6x4096_S1x4096_5_0 = weights mu 5 := by
  refine ⟨?_, ?_, ?_, ?_, ?_, ?_⟩ <;> (funext z; obtain ⟨a, k, rfl⟩ : ∃ (a : Fin 1) (k : Fin 4096), z = ix2 a k := ⟨z 0, z 1, by funext d; fin_cases d <;> rfl⟩; obtain rfl : a = 0 := Subsingleton.elim _ _; pointwise [weights])

/-- An entry of a sum that is formed before its axes are joined. -/
theorem joined (p q z : FVec Ideal S4x2048x4096 .f32) (r : Fin 8192) (k : Fin 4096) :
    (truncf .bf16 (shapeCast S8192x4096 (addf p (mulf (subf q p) z)) shapeCasts_S4x2048x4096_S8192x4096) bitsLt_bf16_f32 : S8192x4096.Idx → EReal) (ix2 r k)
      = shapeCast S8192x4096 p shapeCasts_S4x2048x4096_S8192x4096 (ix2 r k) + (shapeCast S8192x4096 q shapeCasts_S4x2048x4096_S8192x4096 (ix2 r k)
          - shapeCast S8192x4096 p shapeCasts_S4x2048x4096_S8192x4096 (ix2 r k)) * shapeCast S8192x4096 z shapeCasts_S4x2048x4096_S8192x4096 (ix2 r k) := rfl

/-- The weights spread over the rows. -/
theorem spread (r : Fin 8192) (k : Fin 4096) :
    (shapeCast S8192x4096 (broadcastInDim S4x2048x4096 ![0, 1, 2] bcast_S1x1x4096_S4x2048x4096_0_1_2 (broadcastInDim S1x1x4096 ![2] bcast_S4096_S1x1x4096_2
      (shapeCast S4096 w shapeCasts_S1x4096_S4096))) shapeCasts_S4x2048x4096_S8192x4096 : S8192x4096.Idx → EReal) (ix2 r k) = w (ix2 0 k) := by
  pointwise []

/-- An entry of the moved rows. -/
theorem mixed_apply (r : Fin 8192) (k : Fin 4096) : (mixed x w : S8192x4096.Idx → EReal) (ix2 r k)
    = x (ix2 r k) + (shapeCast S8192x4096 (before x) shapeCasts_S4x2048x4096_S8192x4096 (ix2 r k) - x (ix2 r k)) * w (ix2 0 k) := by
  refine (joined (rows x) (before x) _ r k).trans ?_
  rw [spread, show shapeCast S8192x4096 (rows x) shapeCasts_S4x2048x4096_S8192x4096 = x from shapeCast_shapeCast x _ _]

end Cert.MixPromptRefIdeal.Mix

namespace Cert.MixPromptIdeal.Mix

open Cert.MixPromptIdeal Cert.MixPromptIdeal.Gen Cert.MixPromptRefIdeal.Mix

variable (m : (ℓ : Loc nD τ sig) → Buf (Elt Ideal) ℓ)

/-- Which block of each array a grid point reads or writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

theorem blocks (t : Fin cfg0.N) : t.val < 32 := lt_of_lt_of_eq t.isLt (by decide +kernel)

/-- What the host lays out as the rows before. -/
theorem laid (c : Dev nD) : (V m c main_v4 : S8192x4096.Idx → EReal)
    = shapeCast S8192x4096 (before (m ((c : Thread nD τ).loc main_arg0))) Cert.MixPromptRefIdeal.Gen.shapeCasts_S4x2048x4096_S8192x4096 := by
  unfold V
  simp only [hostOps0, List.flatten_cons, List.flatten_nil, List.append_nil, List.cons_append, List.nil_append]
  after_results_simp
  rfl

/-- An entry of the block of rows of a grid point. -/
theorem read_rows (c : Dev nD) (t : Fin cfg0.N) (a : Fin 256) (k : Fin 4096) :
    (iblk m c 0 t : S256x4096.Idx → EReal) (ix2 a k) = (m ((c : Thread nD τ).loc main_arg0)) (ix2 ⟨t.val * 256 + a.val, by have := blocks t; omega⟩ k) := by
  have e : ((View.whole main_arg0).slice (win0_0.rect t)).emb (ix2 a k) = (ix2 ⟨t.val * 256 + a.val, by have := blocks t; omega⟩ k : S8192x4096.Idx) := by
    blk_ext [idx t]
  blk_simp [iblk]
  rw [e]
  simp only [V]
  after_results_simp

/-- An entry of its block of rows before. -/
theorem read_before (c : Dev nD) (t : Fin cfg0.N) (a : Fin 256) (k : Fin 4096) :
    (iblk m c 1 t : S256x4096.Idx → EReal) (ix2 a k) = shapeCast S8192x4096 (before (m ((c : Thread nD τ).loc main_arg0))) Cert.MixPromptRefIdeal.Gen.shapeCasts_S4x2048x4096_S8192x4096 (ix2 ⟨t.val * 256 + a.val, by have := blocks t; omega⟩ k) := by
  have e : ((View.whole main_v4).slice (win0_1.rect t)).emb (ix2 a k) = (ix2 ⟨t.val * 256 + a.val, by have := blocks t; omega⟩ k : S8192x4096.Idx) := by
    blk_ext [idx t]
  rw [← laid]
  blk_simp [iblk]
  rw [e]

/-- An entry of the weights. -/
theorem read_weights (c : Dev nD) (t : Fin cfg0.N) (i : Fin 6) (k : Fin 4096) :
    (iblk m c 2 t : S6x4096.Idx → EReal) (ix2 i k) = (m ((c : Thread nD τ).loc main_arg1)) (ix2 i k) := by
  have e : ((View.whole main_arg1).slice (win0_2.rect t)).emb (ix2 i k) = (ix2 i k : S6x4096.Idx) := by
    blk_ext [idx t]
  blk_simp [iblk]
  rw [e]
  simp only [V]
  after_results_simp

/-- Result 1. -/
theorem final3 (c : Dev nD) : (dats m 0 c).arrAt 3 cfg0.N = mixed (m ((c : Thread nD τ).loc main_arg0)) (weights (m ((c : Thread nD τ).loc main_arg1)) 0) := by
  refine (dats m 0 c).arrAt_eq_of_covers 3 _ (by decide +kernel) fun t _ y => ?_
  blk_simp; rw [after0_3]; frame_out
  obtain ⟨a, k, rfl⟩ : ∃ (a : Fin 256) (k : Fin 4096), y = ix2 a k := ⟨y 0, y 1, by funext d; fin_cases d <;> rfl⟩
  have e : ((View.whole main_v5_0).slice (win0_3.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 0)) e).symm
  rw [mixed_apply, ← read_rows m c t a k, ← read_before m c t a k]
  show _ = _ + _ * (m ((c : Thread nD τ).loc main_arg1)) (ix2 0 k)
  rw [← read_weights m c t 0 k]
  pointwise [k0_pay3, k0_pay2]

/-- Result 2. -/
theorem final4 (c : Dev nD) : (dats m 0 c).arrAt 4 cfg0.N = mixed (m ((c : Thread nD τ).loc main_arg0)) (weights (m ((c : Thread nD τ).loc main_arg1)) 1) := by
  refine (dats m 0 c).arrAt_eq_of_covers 4 _ (by decide +kernel) fun t _ y => ?_
  blk_simp; rw [after0_4]; frame_out
  obtain ⟨a, k, rfl⟩ : ∃ (a : Fin 256) (k : Fin 4096), y = ix2 a k := ⟨y 0, y 1, by funext d; fin_cases d <;> rfl⟩
  have e : ((View.whole main_v5_1).slice (win0_4.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 1)) e).symm
  rw [mixed_apply, ← read_rows m c t a k, ← read_before m c t a k]
  show _ = _ + _ * (m ((c : Thread nD τ).loc main_arg1)) (ix2 1 k)
  rw [← read_weights m c t 1 k]
  pointwise [k0_pay4, k0_pay2]

/-- Result 3. -/
theorem final5 (c : Dev nD) : (dats m 0 c).arrAt 5 cfg0.N = mixed (m ((c : Thread nD τ).loc main_arg0)) (weights (m ((c : Thread nD τ).loc main_arg1)) 2) := by
  refine (dats m 0 c).arrAt_eq_of_covers 5 _ (by decide +kernel) fun t _ y => ?_
  blk_simp; rw [after0_5]; frame_out
  obtain ⟨a, k, rfl⟩ : ∃ (a : Fin 256) (k : Fin 4096), y = ix2 a k := ⟨y 0, y 1, by funext d; fin_cases d <;> rfl⟩
  have e : ((View.whole main_v5_2).slice (win0_5.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 2)) e).symm
  rw [mixed_apply, ← read_rows m c t a k, ← read_before m c t a k]
  show _ = _ + _ * (m ((c : Thread nD τ).loc main_arg1)) (ix2 2 k)
  rw [← read_weights m c t 2 k]
  pointwise [k0_pay5, k0_pay2]

/-- Result 4. -/
theorem final6 (c : Dev nD) : (dats m 0 c).arrAt 6 cfg0.N = mixed (m ((c : Thread nD τ).loc main_arg0)) (weights (m ((c : Thread nD τ).loc main_arg1)) 3) := by
  refine (dats m 0 c).arrAt_eq_of_covers 6 _ (by decide +kernel) fun t _ y => ?_
  blk_simp; rw [after0_6]; frame_out
  obtain ⟨a, k, rfl⟩ : ∃ (a : Fin 256) (k : Fin 4096), y = ix2 a k := ⟨y 0, y 1, by funext d; fin_cases d <;> rfl⟩
  have e : ((View.whole main_v5_3).slice (win0_6.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 3)) e).symm
  rw [mixed_apply, ← read_rows m c t a k, ← read_before m c t a k]
  show _ = _ + _ * (m ((c : Thread nD τ).loc main_arg1)) (ix2 3 k)
  rw [← read_weights m c t 3 k]
  pointwise [k0_pay6, k0_pay2]

/-- Result 5. -/
theorem final7 (c : Dev nD) : (dats m 0 c).arrAt 7 cfg0.N = mixed (m ((c : Thread nD τ).loc main_arg0)) (weights (m ((c : Thread nD τ).loc main_arg1)) 4) := by
  refine (dats m 0 c).arrAt_eq_of_covers 7 _ (by decide +kernel) fun t _ y => ?_
  blk_simp; rw [after0_7]; frame_out
  obtain ⟨a, k, rfl⟩ : ∃ (a : Fin 256) (k : Fin 4096), y = ix2 a k := ⟨y 0, y 1, by funext d; fin_cases d <;> rfl⟩
  have e : ((View.whole main_v5_4).slice (win0_7.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 4)) e).symm
  rw [mixed_apply, ← read_rows m c t a k, ← read_before m c t a k]
  show _ = _ + _ * (m ((c : Thread nD τ).loc main_arg1)) (ix2 4 k)
  rw [← read_weights m c t 4 k]
  pointwise [k0_pay7, k0_pay2]

/-- Result 6. -/
theorem final8 (c : Dev nD) : (dats m 0 c).arrAt 8 cfg0.N = mixed (m ((c : Thread nD τ).loc main_arg0)) (weights (m ((c : Thread nD τ).loc main_arg1)) 5) := by
  refine (dats m 0 c).arrAt_eq_of_covers 8 _ (by decide +kernel) fun t _ y => ?_
  blk_simp; rw [after0_8]; frame_out
  obtain ⟨a, k, rfl⟩ : ∃ (a : Fin 256) (k : Fin 4096), y = ix2 a k := ⟨y 0, y 1, by funext d; fin_cases d <;> rfl⟩
  have e : ((View.whole main_v5_5).slice (win0_8.rect t)).emb (ix2 a k) = (ix2 ⟨t.val * 256 + a.val, by have := blocks t; omega⟩ k : S8192x4096.Idx) := by
    blk_ext [idx t]
  refine Eq.trans ?_ (congrArg (mixed (m ((c : Thread nD τ).loc main_arg0)) (weights (m ((c : Thread nD τ).loc main_arg1)) 5)) e).symm
  rw [mixed_apply, ← read_rows m c t a k, ← read_before m c t a k]
  show _ = _ + _ * (m ((c : Thread nD τ).loc main_arg1)) (ix2 5 k)
  rw [← read_weights m c t 5 k]
  pointwise [k0_pay1, k0_pay2]

end Cert.MixPromptIdeal.Mix

namespace Cert.MixPromptProof

theorem kernel_frame : Cert.quiescent_MixPrompt := fun m ρ _ => Cert.MixPrompt.Gen.frame m ρ
theorem ideal_frame : Cert.quiescent_MixPromptIdeal := fun m ρ _ => Cert.MixPromptIdeal.Gen.frame m ρ
theorem reference_frame : Cert.quiescent_MixPromptRefIdeal := fun m ρ _ =>
  (θ_run Cert.MixPromptRefIdeal.defs _ _).mono (fun r h => ⟨fun c => (h c).2.2.2.2.2.2, Idealize.ShloMosaic.sem_eq_zero_of_no_sems (by decide) r.2⟩)
    (Cert.MixPromptRefIdeal.Value.run (F := Ideal) m ρ)

theorem same_program : Cert.preserves_MixPrompt_MixPromptIdeal := trivial

/-- Over the reals the kernel's six results are the reference's. -/
theorem values_agree : Cert.algebraic_MixPromptIdeal_MixPromptRefIdeal := by
  intro m ρ m' ρ' _ hagree
  refine ⟨fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 0),
    fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 1),
    fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 2),
    fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 3),
    fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 4),
    fun c => Cert.MixPromptRefIdeal.Mix.mixed (m ((c.tc : Thread Cert.MixPromptIdeal.nD Cert.MixPromptIdeal.τ).loc Cert.MixPromptIdeal.main_arg0)) (Cert.MixPromptRefIdeal.Mix.weights (m ((c.tc : Thread Cert.MixPromptIdeal.nD Cert.MixPromptIdeal.τ).loc Cert.MixPromptIdeal.main_arg1)) 5), ?_, ?_⟩
  · exact (θ_run Cert.MixPromptIdeal.defs _ _).mono
      (fun r h c => ⟨((h c).1).trans (Cert.MixPromptIdeal.Mix.final3 m c),
        ((h c).2.1).trans (Cert.MixPromptIdeal.Mix.final4 m c),
        ((h c).2.2.1).trans (Cert.MixPromptIdeal.Mix.final5 m c),
        ((h c).2.2.2.1).trans (Cert.MixPromptIdeal.Mix.final6 m c),
        ((h c).2.2.2.2.1).trans (Cert.MixPromptIdeal.Mix.final7 m c),
        ((h c).2.2.2.2.2.1).trans (Cert.MixPromptIdeal.Mix.final8 m c), (h c).2.2.2.2.2.2⟩) (Cert.MixPromptIdeal.Value.run_blocks m ρ)
  · exact (θ_run Cert.MixPromptRefIdeal.defs _ _).mono
      (fun r h c => ⟨((h c).1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).1),
        ((h c).2.1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).2.1),
        ((h c).2.2.1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).2.2.1),
        ((h c).2.2.2.1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).2.2.2.1),
        ((h c).2.2.2.2.1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).2.2.2.2.1),
        ((h c).2.2.2.2.2.1).trans (by rw [(hagree c).1, (hagree c).2]; exact congrArg (Cert.MixPromptRefIdeal.Mix.mixed (m ((c.tc : Thread Cert.MixPromptIdeal.nD Cert.MixPromptIdeal.τ).loc Cert.MixPromptIdeal.main_arg0))) (Cert.MixPromptRefIdeal.Mix.weights_eq _).2.2.2.2.2), (h c).2.2.2.2.2.2⟩) (Cert.MixPromptRefIdeal.Value.run (F := Ideal) m' ρ')

end Cert.MixPromptProof
-- ==== Proof.MixSampleValue.lean ====
module

public import proofs.«01_k».proof.Proof.Gen.MixSample.Frame
public import proofs.«01_k».proof.Proof.Gen.MixSampleIdeal.Value
public import proofs.«01_k».proof.Proof.Gen.MixSampleRefIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem

/-! # The token mix of the sample rows

Each row moves towards the row before it in its sequence, the first towards the row kept from the step before, by six rows of weights. The kernel
adds to a block of rows the difference times a weight row; the rows before are laid out by the host as the reference has
them. -/

namespace Cert.MixSampleRefIdeal.Mix

open Cert.MixSampleRefIdeal Cert.MixSampleRefIdeal.Gen

variable (x : FVec Ideal S128x4096 .f32) (e : FVec Ideal S32x4096 .f32) (w : FVec Ideal S1x4096 .f32)

/-- The rows of each sequence. -/
abbrev rows : FVec Ideal S32x4x4096 .f32 := shapeCast S32x4x4096 x shapeCasts_S128x4096_S32x4x4096

/-- The row before each row. -/
def before : FVec Ideal S32x4x4096 .f32 :=
  concatenate S32x4x4096 1 [⟨S32x1x4096, broadcastInDim S32x1x4096 ![0, 2] bcast_S32x4096_S32x1x4096_0_2 e⟩,
    ⟨S32x3x4096, extractStridedSlice S32x3x4096 ![0, 0, 0] (rows x) slices_S32x4x4096_S32x3x4096_0_0_0⟩] concatenates_S32x1x4096_S32x3x4096_S32x4x4096_d1

/-- The rows moved towards the rows before them by the weights `w`. -/
abbrev mixed : FVec Ideal S128x4096 .bf16 :=
  truncf .bf16 (shapeCast S128x4096 (addf (rows x) (mulf (subf (before x e) (rows x))
    (broadcastInDim S32x4x4096 ![0, 1, 2] bcast_S1x1x4096_S32x4x4096_0_1_2 (broadcastInDim S1x1x4096 ![2] bcast_S4096_S1x1x4096_2
      (shapeCast S4096 w shapeCasts_S1x4096_S4096))))) shapeCasts_S32x4x4096_S128x4096) bitsLt_bf16_f32

/-- One row of the table of weights. -/
abbrev weights (mu : FVec Ideal S6x4096 .f32) (i : Fin 6) : FVec Ideal S1x4096 .f32 := fun z => mu (ix2 i (z 1))

theorem weights_eq (mu : FVec Ideal S6x4096 .f32) : extractStridedSlice S1x4096 ![0, 0] mu slices_S6x4096_S1x4096_0_0 = weights mu 0
    ∧ extractStridedSlice S1x4096 ![1, 0] mu slices_S6x4096_S1x4096_1_0 = weights mu 1
    ∧ extractStridedSlice S1x4096 ![2, 0] mu slices_S6x4096_S1x4096_2_0 = weights mu 2
    ∧ extractStridedSlice S1x4096 ![3, 0] mu slices_S6x4096_S1x4096_3_0 = weights mu 3
    ∧ extractStridedSlice S1x4096 ![4, 0] mu slices_S6x4096_S1x4096_4_0 = weights mu 4
    ∧ extractStridedSlice S1x4096 ![5, 0] mu slices_S6x4096_S1x4096_5_0 = weights mu 5 := by
  refine ⟨?_, ?_, ?_, ?_, ?_, ?_⟩ <;> (funext z; obtain ⟨a, k, rfl⟩ : ∃ (a : Fin 1) (k : Fin 4096), z = ix2 a k := ⟨z 0, z 1, by funext d; fin_cases d <;> rfl⟩; obtain rfl : a = 0 := Subsingleton.elim _ _; pointwise [weights])

/-- An entry of a sum that is formed before its axes are joined. -/
theorem joined (p q z : FVec Ideal S32x4x4096 .f32) (r : Fin 128) (k : Fin 4096) :
    (truncf .bf16 (shapeCast S128x4096 (addf p (mulf (subf q p) z)) shapeCasts_S32x4x4096_S128x4096) bitsLt_bf16_f32 : S128x4096.Idx → EReal) (ix2 r k)
      = shapeCast S128x4096 p shapeCasts_S32x4x4096_S128x4096 (ix2 r k) + (shapeCast S128x4096 q shapeCasts_S32x4x4096_S128x4096 (ix2 r k)
          - shapeCast S128x4096 p shapeCasts_S32x4x4096_S128x4096 (ix2 r k)) * shapeCast S128x4096 z shapeCasts_S32x4x4096_S128x4096 (ix2 r k) := rfl

/-- The weights spread over the rows. -/
theorem spread (r : Fin 128) (k : Fin 4096) :
    (shapeCast S128x4096 (broadcastInDim S32x4x4096 ![0, 1, 2] bcast_S1x1x4096_S32x4x4096_0_1_2 (broadcastInDim S1x1x4096 ![2] bcast_S4096_S1x1x4096_2
      (shapeCast S4096 w shapeCasts_S1x4096_S4096))) shapeCasts_S32x4x4096_S128x4096 : S128x4096.Idx → EReal) (ix2 r k) = w (ix2 0 k) := by
  pointwise []

/-- An entry of the moved rows. -/
theorem mixed_apply (r : Fin 128) (k : Fin 4096) : (mixed x e w : S128x4096.Idx → EReal) (ix2 r k)
    = x (ix2 r k) + (shapeCast S128x4096 (before x e) shapeCasts_S32x4x4096_S128x4096 (ix2 r k) - x (ix2 r k)) * w (ix2 0 k) := by
  refine (joined (rows x) (before x e) _ r k).trans ?_
  rw [spread, show shapeCast S128x4096 (rows x) shapeCasts_S32x4x4096_S128x4096 = x from shapeCast_shapeCast x _ _]

end Cert.MixSampleRefIdeal.Mix

namespace Cert.MixSampleIdeal.Mix

open Cert.MixSampleIdeal Cert.MixSampleIdeal.Gen Cert.MixSampleRefIdeal.Mix

variable (m : (ℓ : Loc nD τ sig) → Buf (Elt Ideal) ℓ)

/-- Which block of each array a grid point reads or writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- A table read at one place written two ways. -/
theorem at_two {n k : ℕ} (f : (⟨2, ![n, k]⟩ : Shape).Idx → EReal) {a a' : ℕ} {ha : a < n} {ha' : a' < n} (b : Fin k)
    (h : a = a') : f (ix2 ⟨a, ha⟩ b) = f (ix2 ⟨a', ha'⟩ b) := by
  subst h
  rfl

theorem blocks (t : Fin cfg0.N) : t.val < 1 := lt_of_lt_of_eq t.isLt (by decide +kernel)

/-- What the host lays out as the rows before. -/
theorem laid (c : Dev nD) : (V m c main_v4 : S128x4096.Idx → EReal)
    = shapeCast S128x4096 (before (m ((c : Thread nD τ).loc main_arg0)) (m ((c : Thread nD τ).loc main_arg1))) Cert.MixSampleRefIdeal.Gen.shapeCasts_S32x4x4096_S128x4096 := by
  unfold V
  simp only [hostOps0, List.flatten_cons, List.flatten_nil, List.append_nil, List.cons_append, List.nil_append]
  after_results_simp
  rfl

/-- An entry of the block of rows of a grid point. -/
theorem read_rows (c : Dev nD) (t : Fin cfg0.N) (a : Fin 128) (k : Fin 4096) :
    (iblk m c 0 t : S128x4096.Idx → EReal) (ix2 a k) = (m ((c : Thread nD τ).loc main_arg0)) (ix2 ⟨t.val * 128 + a.val, by have := blocks t; omega⟩ k) := by
  have e : ((View.whole main_arg0).slice (win0_0.rect t)).emb (ix2 a k) = (ix2 ⟨t.val * 128 + a.val, by have := blocks t; omega⟩ k : S128x4096.Idx) := by
    blk_ext [idx t]
  blk_simp [iblk]
  rw [e]
  simp only [V]
  after_results_simp
  exact at_two _ _ (by have := blocks t; omega)

/-- An entry of its block of rows before. -/
theorem read_before (c : Dev nD) (t : Fin cfg0.N) (a : Fin 128) (k : Fin 4096) :
    (iblk m c 1 t : S128x4096.Idx → EReal) (ix2 a k) = shapeCast S128x4096 (before (m ((c : Thread nD τ).loc main_arg0)) (m ((c : Thread nD τ).loc main_arg1))) Cert.MixSampleRefIdeal.Gen.shapeCasts_S32x4x4096_S128x4096 (ix2 ⟨t.val * 128 + a.val, by have := blocks t; omega⟩ k) := by
  have e : ((View.whole main_v4).slice (win0_1.rect t)).emb (ix2 a k) = (ix2 ⟨t.val * 128 + a.val, by have := blocks t; omega⟩ k : S128x4096.Idx) := by
    blk_ext [idx t]
  rw [← laid]
  blk_simp [iblk]
  rw [e]
  exact at_two _ _ (by have := blocks t; omega)

/-- An entry of the weights. -/
theorem read_weights (c : Dev nD) (t : Fin cfg0.N) (i : Fin 6) (k : Fin 4096) :
    (iblk m c 2 t : S6x4096.Idx → EReal) (ix2 i k) = (m ((c : Thread nD τ).loc main_arg2)) (ix2 i k) := by
  have e : ((View.whole main_arg2).slice (win0_2.rect t)).emb (ix2 i k) = (ix2 i k : S6x4096.Idx) := by
    blk_ext [idx t]
  blk_simp [iblk]
  rw [e]
  simp only [V]
  after_results_simp

/-- Result 1. -/
theorem final3 (c : Dev nD) : (dats m 0 c).arrAt 3 cfg0.N = mixed (m ((c : Thread nD τ).loc main_arg0)) (m ((c : Thread nD τ).loc main_arg1)) (weights (m ((c : Thread nD τ).loc main_arg2)) 0) := by
  refine (dats m 0 c).arrAt_eq_of_covers 3 _ (by decide +kernel) fun t _ y => ?_
  blk_simp; rw [after0_3]; frame_out
  obtain ⟨a, k, rfl⟩ : ∃ (a : Fin 128) (k : Fin 4096), y = ix2 a k := ⟨y 0, y 1, by funext d; fin_cases d <;> rfl⟩
  have e : ((View.whole main_v5_0).slice (win0_3.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 0)) e).symm
  rw [mixed_apply, ← read_rows m c t a k, ← read_before m c t a k]
  show _ = _ + _ * (m ((c : Thread nD τ).loc main_arg2)) (ix2 0 k)
  rw [← read_weights m c t 0 k]
  pointwise [k0_pay3, k0_pay2]

/-- Result 2. -/
theorem final4 (c : Dev nD) : (dats m 0 c).arrAt 4 cfg0.N = mixed (m ((c : Thread nD τ).loc main_arg0)) (m ((c : Thread nD τ).loc main_arg1)) (weights (m ((c : Thread nD τ).loc main_arg2)) 1) := by
  refine (dats m 0 c).arrAt_eq_of_covers 4 _ (by decide +kernel) fun t _ y => ?_
  blk_simp; rw [after0_4]; frame_out
  obtain ⟨a, k, rfl⟩ : ∃ (a : Fin 128) (k : Fin 4096), y = ix2 a k := ⟨y 0, y 1, by funext d; fin_cases d <;> rfl⟩
  have e : ((View.whole main_v5_1).slice (win0_4.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 1)) e).symm
  rw [mixed_apply, ← read_rows m c t a k, ← read_before m c t a k]
  show _ = _ + _ * (m ((c : Thread nD τ).loc main_arg2)) (ix2 1 k)
  rw [← read_weights m c t 1 k]
  pointwise [k0_pay4, k0_pay2]

/-- Result 3. -/
theorem final5 (c : Dev nD) : (dats m 0 c).arrAt 5 cfg0.N = mixed (m ((c : Thread nD τ).loc main_arg0)) (m ((c : Thread nD τ).loc main_arg1)) (weights (m ((c : Thread nD τ).loc main_arg2)) 2) := by
  refine (dats m 0 c).arrAt_eq_of_covers 5 _ (by decide +kernel) fun t _ y => ?_
  blk_simp; rw [after0_5]; frame_out
  obtain ⟨a, k, rfl⟩ : ∃ (a : Fin 128) (k : Fin 4096), y = ix2 a k := ⟨y 0, y 1, by funext d; fin_cases d <;> rfl⟩
  have e : ((View.whole main_v5_2).slice (win0_5.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 2)) e).symm
  rw [mixed_apply, ← read_rows m c t a k, ← read_before m c t a k]
  show _ = _ + _ * (m ((c : Thread nD τ).loc main_arg2)) (ix2 2 k)
  rw [← read_weights m c t 2 k]
  pointwise [k0_pay5, k0_pay2]

/-- Result 4. -/
theorem final6 (c : Dev nD) : (dats m 0 c).arrAt 6 cfg0.N = mixed (m ((c : Thread nD τ).loc main_arg0)) (m ((c : Thread nD τ).loc main_arg1)) (weights (m ((c : Thread nD τ).loc main_arg2)) 3) := by
  refine (dats m 0 c).arrAt_eq_of_covers 6 _ (by decide +kernel) fun t _ y => ?_
  blk_simp; rw [after0_6]; frame_out
  obtain ⟨a, k, rfl⟩ : ∃ (a : Fin 128) (k : Fin 4096), y = ix2 a k := ⟨y 0, y 1, by funext d; fin_cases d <;> rfl⟩
  have e : ((View.whole main_v5_3).slice (win0_6.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 3)) e).symm
  rw [mixed_apply, ← read_rows m c t a k, ← read_before m c t a k]
  show _ = _ + _ * (m ((c : Thread nD τ).loc main_arg2)) (ix2 3 k)
  rw [← read_weights m c t 3 k]
  pointwise [k0_pay6, k0_pay2]

/-- Result 5. -/
theorem final7 (c : Dev nD) : (dats m 0 c).arrAt 7 cfg0.N = mixed (m ((c : Thread nD τ).loc main_arg0)) (m ((c : Thread nD τ).loc main_arg1)) (weights (m ((c : Thread nD τ).loc main_arg2)) 4) := by
  refine (dats m 0 c).arrAt_eq_of_covers 7 _ (by decide +kernel) fun t _ y => ?_
  blk_simp; rw [after0_7]; frame_out
  obtain ⟨a, k, rfl⟩ : ∃ (a : Fin 128) (k : Fin 4096), y = ix2 a k := ⟨y 0, y 1, by funext d; fin_cases d <;> rfl⟩
  have e : ((View.whole main_v5_4).slice (win0_7.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 4)) e).symm
  rw [mixed_apply, ← read_rows m c t a k, ← read_before m c t a k]
  show _ = _ + _ * (m ((c : Thread nD τ).loc main_arg2)) (ix2 4 k)
  rw [← read_weights m c t 4 k]
  pointwise [k0_pay7, k0_pay2]

/-- Result 6. -/
theorem final8 (c : Dev nD) : (dats m 0 c).arrAt 8 cfg0.N = mixed (m ((c : Thread nD τ).loc main_arg0)) (m ((c : Thread nD τ).loc main_arg1)) (weights (m ((c : Thread nD τ).loc main_arg2)) 5) := by
  refine (dats m 0 c).arrAt_eq_of_covers 8 _ (by decide +kernel) fun t _ y => ?_
  blk_simp; rw [after0_8]; frame_out
  obtain ⟨a, k, rfl⟩ : ∃ (a : Fin 128) (k : Fin 4096), y = ix2 a k := ⟨y 0, y 1, by funext d; fin_cases d <;> rfl⟩
  have e : ((View.whole main_v5_5).slice (win0_8.rect t)).emb (ix2 a k) = (ix2 ⟨t.val * 128 + a.val, by have := blocks t; omega⟩ k : S128x4096.Idx) := by
    blk_ext [idx t]
  refine Eq.trans ?_ (congrArg (mixed (m ((c : Thread nD τ).loc main_arg0)) (m ((c : Thread nD τ).loc main_arg1)) (weights (m ((c : Thread nD τ).loc main_arg2)) 5)) e).symm
  rw [mixed_apply, ← read_rows m c t a k, ← read_before m c t a k]
  show _ = _ + _ * (m ((c : Thread nD τ).loc main_arg2)) (ix2 5 k)
  rw [← read_weights m c t 5 k]
  pointwise [k0_pay1, k0_pay2]

end Cert.MixSampleIdeal.Mix

namespace Cert.MixSampleProof

theorem kernel_frame : Cert.quiescent_MixSample := fun m ρ _ => Cert.MixSample.Gen.frame m ρ
theorem ideal_frame : Cert.quiescent_MixSampleIdeal := fun m ρ _ => Cert.MixSampleIdeal.Gen.frame m ρ
theorem reference_frame : Cert.quiescent_MixSampleRefIdeal := fun m ρ _ =>
  (θ_run Cert.MixSampleRefIdeal.defs _ _).mono (fun r h => ⟨fun c => (h c).2.2.2.2.2.2, Idealize.ShloMosaic.sem_eq_zero_of_no_sems (by decide) r.2⟩)
    (Cert.MixSampleRefIdeal.Value.run (F := Ideal) m ρ)

theorem same_program : Cert.preserves_MixSample_MixSampleIdeal := trivial

/-- Over the reals the kernel's six results are the reference's. -/
theorem values_agree : Cert.algebraic_MixSampleIdeal_MixSampleRefIdeal := by
  intro m ρ m' ρ' _ hagree
  refine ⟨fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 0),
    fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 1),
    fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 2),
    fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 3),
    fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 4),
    fun c => Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1)) (Cert.MixSampleRefIdeal.Mix.weights (m ((c.tc : Thread Cert.MixSampleIdeal.nD Cert.MixSampleIdeal.τ).loc Cert.MixSampleIdeal.main_arg2)) 5), ?_, ?_⟩
  · exact (θ_run Cert.MixSampleIdeal.defs _ _).mono
      (fun r h c => ⟨((h c).1).trans (Cert.MixSampleIdeal.Mix.final3 m c),
        ((h c).2.1).trans (Cert.MixSampleIdeal.Mix.final4 m c),
        ((h c).2.2.1).trans (Cert.MixSampleIdeal.Mix.final5 m c),
        ((h c).2.2.2.1).trans (Cert.MixSampleIdeal.Mix.final6 m c),
        ((h c).2.2.2.2.1).trans (Cert.MixSampleIdeal.Mix.final7 m c),
        ((h c).2.2.2.2.2.1).trans (Cert.MixSampleIdeal.Mix.final8 m c), (h c).2.2.2.2.2.2⟩) (Cert.MixSampleIdeal.Value.run_blocks m ρ)
  · exact (θ_run Cert.MixSampleRefIdeal.defs _ _).mono
      (fun r h c => ⟨((h c).1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).1),
        ((h c).2.1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).2.1),
        ((h c).2.2.1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).2.2.1),
        ((h c).2.2.2.1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).2.2.2.1),
        ((h c).2.2.2.2.1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).2.2.2.2.1),
        ((h c).2.2.2.2.2.1).trans (by rw [(hagree c).1, (hagree c).2.1, (hagree c).2.2]; exact congrArg (Cert.MixSampleRefIdeal.Mix.mixed (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))) (Cert.MixSampleRefIdeal.Mix.weights_eq _).2.2.2.2.2), (h c).2.2.2.2.2.2⟩) (Cert.MixSampleRefIdeal.Value.run (F := Ideal) m' ρ')

end Cert.MixSampleProof
-- ==== Proof.SharedMath.lean ====
module

public import proofs.«01_k».proof.Proof.DilMath

@[expose] public section

noncomputable section

open Idealize.ShloMosaic

/-! # A softmax with a sink

A sink is one more score, whose weight counts in the sum and whose value is nothing. A row of scores with its sink is a row
that is longer by one, so what is known of such rows (over lanes of which a window holds reals) carries over. -/

namespace Cert.Window

/-- A row with one more entry. -/
abbrev more {n : ℕ} (S : Fin n → EReal) (a : EReal) : Fin (n + 1) → EReal := Fin.snoc (α := fun _ => EReal) S a

/-- The largest entry of the longer row. -/
theorem fold_more {n : ℕ} (S : Fin n → EReal) (a : EReal) :
    Finset.fold max ⊥ (more S a) Finset.univ = max (Finset.fold max ⊥ S Finset.univ) a := by
  show Finset.univ.sup (more S a) = max (Finset.univ.sup S) a
  refine le_antisymm (Finset.sup_le fun i _ => ?_) (max_le (Finset.sup_le fun i _ => ?_) ?_)
  · refine Fin.lastCases ?_ (fun j => ?_) i
    · rw [more, Fin.snoc_last]; exact le_max_right _ _
    · rw [more, Fin.snoc_castSucc]; exact le_max_of_le_left (Finset.le_sup (f := S) (Finset.mem_univ j))
  · have h := Finset.le_sup (f := more S a) (Finset.mem_univ i.castSucc)
    rwa [more, Fin.snoc_castSucc] at h
  · have h := Finset.le_sup (f := more S a) (Finset.mem_univ (Fin.last n))
    rwa [more, Fin.snoc_last] at h

/-- Where a longer window lies in longer lanes. -/
abbrev farther {n k : ℕ} (pos : Fin k → Fin n) : Fin (k + 1) → Fin (n + 1) :=
  Fin.lastCases (motive := fun _ => Fin (n + 1)) (Fin.last n) (fun j => (pos j).castSucc)

theorem farther_inj {n k : ℕ} (pos : Fin k → Fin n) (inj : Function.Injective pos) : Function.Injective (farther pos) := by
  intro a b
  refine Fin.lastCases ?_ (fun i => ?_) a <;> refine Fin.lastCases ?_ (fun j => ?_) b
  · intro _; rfl
  · intro h; rw [farther, Fin.lastCases_last, Fin.lastCases_castSucc] at h; exact absurd h.symm (Fin.castSucc_lt_last _).ne
  · intro h; rw [farther, Fin.lastCases_last, Fin.lastCases_castSucc] at h; exact absurd h (Fin.castSucc_lt_last _).ne
  · intro h
    rw [farther, Fin.lastCases_castSucc, Fin.lastCases_castSucc] at h
    rw [inj (Fin.castSucc_injective _ h)]

theorem farther_at {n k : ℕ} (pos : Fin k → Fin n) (S : Fin n → EReal) (R : Fin k → EReal) (a : EReal)
    (h : ∀ j, S (pos j) = R j) (j : Fin (k + 1)) : more S a (farther pos j) = more R a j := by
  refine Fin.lastCases ?_ (fun i => ?_) j
  · rw [farther, Fin.lastCases_last, more, Fin.snoc_last, more, Fin.snoc_last]
  · rw [farther, Fin.lastCases_castSucc, more, Fin.snoc_castSucc, more, Fin.snoc_castSucc, h]

theorem farther_off {n k : ℕ} (pos : Fin k → Fin n) (S : Fin n → EReal) (a : EReal)
    (off : ∀ i, (∀ j, pos j ≠ i) → S i = ⊥) (i : Fin (n + 1)) (hi : ∀ j, farther pos j ≠ i) : more S a i = ⊥ := by
  revert hi
  refine Fin.lastCases ?_ (fun l => ?_) i
  · intro hi
    exact absurd (by rw [farther, Fin.lastCases_last]) (hi (Fin.last k))
  · intro hi
    rw [more, Fin.snoc_castSucc]
    refine off l fun j hj => hi j.castSucc ?_
    rw [farther, Fin.lastCases_castSucc, hj]

/-- The logarithm of the weights' sum does not see lanes that hold `⊥`. -/
theorem lse_level {n : ℕ} (X : Fin (n + 1) → EReal) : lse X = level X := by
  unfold lse level mass peak top
  rw [max_eq_left bot_le, EReal.bot_sub, Ideal.exp_bot, add_zero]

/-- THE MEAN WITH A SINK: over the kernel's lanes, and as the reference takes it over its own. -/
theorem sink_eq {n n' k : ℕ} (S v : Fin n → EReal) (X v' : Fin n' → EReal) (R u : Fin (k + 1) → EReal) (r : Fin (k + 1) → ℝ)
    (a : EReal) (w : ℝ) (ha : a = w) (hR : ∀ j, R j = r j)
    (pos : Fin (k + 1) → Fin n) (inj : Function.Injective pos) (hS : ∀ j, S (pos j) = R j)
    (off : ∀ i, (∀ j, pos j ≠ i) → S i = ⊥) (hv : ∀ j, v (pos j) = u j)
    (pos' : Fin (k + 1) → Fin n') (inj' : Function.Injective pos') (hX : ∀ j, X (pos' j) = R j)
    (off' : ∀ i, (∀ j, pos' j ≠ i) → X i = ⊥) (hv' : ∀ j, v' (pos' j) = u j) :
    Ideal.div (∑ i, Ideal.exp (S i - max (Finset.fold max ⊥ S Finset.univ) a) * v i)
        ((∑ i, Ideal.exp (S i - max (Finset.fold max ⊥ S Finset.univ) a)) + Ideal.exp (a - max (Finset.fold max ⊥ S Finset.univ) a))
      = ∑ i, Ideal.exp (X i - lse (more X a)) * v' i := by
  have hR' : ∀ j, more R a j = ((Fin.snoc (α := fun _ => ℝ) r w : Fin (k + 1 + 1) → ℝ) j : EReal) := fun j => by
    refine Fin.lastCases ?_ (fun i => ?_) j
    · rw [more, Fin.snoc_last, Fin.snoc_last, ha]
    · rw [more, Fin.snoc_castSucc, Fin.snoc_castSucc, hR]
  have hl : lse (more X a) = lse (more R a) := (lse_level _).trans
    (level_eq _ _ _ _ hR' (farther_at pos' X R a hX) (farther_off pos' X a off') (farther_inj pos' inj'))
  obtain ⟨L, hL⟩ := lse_real _ _ hR'
  have hm := mean_eq _ _ _ _ hR' (farther_at pos S R a hS) (farther_off pos S a off) (farther_inj pos inj)
    (more v 0) (more u 0) (farther_at pos v u 0 hv)
  have hp : peak (more S a) = max (Finset.fold max ⊥ S Finset.univ) a := by
    unfold peak; rw [max_eq_left bot_le, fold_more]
  have hk : mean (more S a) (more v 0) = Ideal.div (∑ i, Ideal.exp (S i - max (Finset.fold max ⊥ S Finset.univ) a) * v i)
        ((∑ i, Ideal.exp (S i - max (Finset.fold max ⊥ S Finset.univ) a)) + Ideal.exp (a - max (Finset.fold max ⊥ S Finset.univ) a)) := by
    unfold mean mass
    rw [hp, EReal.bot_sub, Ideal.exp_bot, add_zero, Fin.sum_univ_castSucc, Fin.sum_univ_castSucc]
    simp only [more, Fin.snoc_castSucc, Fin.snoc_last, mul_zero, add_zero]
  rw [← hk, hm, hl, Fin.sum_univ_castSucc, hL,
    sum_lanes pos' inj' (fun i => Ideal.exp (X i - (L : EReal)) * v' i) (fun i hi => by
      show Ideal.exp (X i - (L : EReal)) * v' i = 0
      rw [off' i hi, EReal.bot_sub, Ideal.exp_bot, zero_mul])]
  simp only [more, Fin.snoc_castSucc, Fin.snoc_last, mul_zero, add_zero, hX, hv']

end Cert.Window
-- ==== Proof.SharedRef.lean ====
module

public import proofs.«01_k».proof.Proof.Gen.SharedSampleRefIdeal.Run
public import proofs.«01_k».proof.Proof.DilBucket
public import proofs.«01_k».proof.Proof.SharedMath
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

/-! # The reference's attention with shared keys, read entry by entry -/

namespace Cert.SharedSampleRefIdeal.Att

open Cert.SharedSampleRefIdeal Cert.SharedSampleRefIdeal.Gen Cert.SharedSampleRefIdeal.Value Cert.Window

/-- How far a key lies behind a query; no key counts as ahead. -/
def near : IVec S4x132 32 :=
  maxsi ((fun i => lit0 (S4x132.rowMajor i))) (broadcastInDim S4x132 ![] bcast_S_S4x132 (constantI S_ 32 0#32))

/-- Its bucket, by the reference's formula. -/
def words : IVec S4x132 32 :=
  select (cmpi .slt near (broadcastInDim S4x132 ![] bcast_S_S4x132 (constantI S_ 32 16#32))) near (minsi (addi (broadcastInDim S4x132 ![] bcast_S_S4x132 (constantI S_ 32 16#32)) (fptosi 32 (mulf (Host.divf (Host.log (Host.divf (sitofp .f32 (maxsi near (broadcastInDim S4x132 ![] bcast_S_S4x132 (constantI S_ 32 1#32)))) (broadcastInDim S4x132 ![] bcast_S_S4x132 (constant (F := Ideal) S_ .f32 0x41800000#32)))) (broadcastInDim S4x132 ![] bcast_S_S4x132 (constant (F := Ideal) S_ .f32 0x409B43D5#32))) (broadcastInDim S4x132 ![] bcast_S_S4x132 (constant (F := Ideal) S_ .f32 0x41800000#32)) : (⟨S4x132, .f32⟩ : BufTy).Contents (Elt Ideal)))) (broadcastInDim S4x132 ![] bcast_S_S4x132 (constantI S_ 32 31#32)))

/-- The rows of values that a query may see: the cache, then the new ones. -/
def valRows (x : FVec Ideal S128x8192 .f32) (v : FVec Ideal S32x128x4x128 .f32) : FVec Ideal S32x132x4x128 .f32 :=
  concatenate S32x132x4x128 1 [⟨S32x128x4x128, v⟩, ⟨S32x4x4x128, (shapeCast _ (extractStridedSlice S32x4x512 ![0, 0, 3072] (shapeCast _ x shapeCasts_S128x8192_S32x4x8192) slices_S32x4x8192_S32x4x512_0_0_3072) shapeCasts_S32x4x512_S32x4x4x128)⟩] concatenates_S32x128x4x128_S32x4x4x128_S32x132x4x128_d1

/-- The rows of keys. -/
def keyRows (x : FVec Ideal S128x8192 .f32) (k : FVec Ideal S32x128x4x128 .f32) : FVec Ideal S32x132x4x128 .f32 :=
  concatenate S32x132x4x128 1 [⟨S32x128x4x128, k⟩, ⟨S32x4x4x128, (shapeCast _ (extractStridedSlice S32x4x512 ![0, 0, 2560] (shapeCast _ x shapeCasts_S128x8192_S32x4x8192) slices_S32x4x8192_S32x4x512_0_0_2560) shapeCasts_S32x4x512_S32x4x4x128)⟩] concatenates_S32x128x4x128_S32x4x4x128_S32x132x4x128_d1

/-- The queries, five heads to a group. -/
def queries (x : FVec Ideal S128x8192 .f32) : FVec Ideal S32x4x4x5x128 .f32 :=
  shapeCast _ (extractStridedSlice S32x4x2560 ![0, 0, 0] (shapeCast _ x shapeCasts_S128x8192_S32x4x8192) slices_S32x4x8192_S32x4x2560_0_0_0) shapeCasts_S32x4x2560_S32x4x4x5x128

/-- The bias of a query, a key and a head. -/
def biases (b : FVec Ideal S32x32 .f32) : FVec Ideal S4x5x4x132 .f32 :=
  shapeCast _ (transpose S20x4x132 [2, 0, 1] (Host.gather gather_S32x20_S4x132x1_S4x132x20_2_0_n_n_0_2_120 (extractStridedSlice S32x20 ![0, 0] b slices_S32x32_S32x20_0_0) (broadcastInDim S4x132x1 ![0, 1] bcast_S4x132_S4x132x1_0_1 (select (cmpi .slt words (broadcastInDim S4x132 ![] bcast_S_S4x132 (constantI S_ 32 0#32))) (addi words (broadcastInDim S4x132 ![] bcast_S_S4x132 (constantI S_ 32 32#32))) words))) transposes_S4x132x20_S20x4x132_2_0_1) shapeCasts_S20x4x132_S4x5x4x132

/-- The scores, `⊥` outside the window. -/
def scores (x : FVec Ideal S128x8192 .f32) (k : FVec Ideal S32x128x4x128 .f32) (b : FVec Ideal S32x32 .f32) : FVec Ideal S32x4x5x4x132 .f32 :=
  select (broadcastInDim S32x4x5x4x132 ![3, 4] bcast_S4x132_S32x4x5x4x132_3_4 ((fun i => lit1 (S4x132.rowMajor i)))) (addf (mulf (transpose S32x4x5x4x132 [0, 1, 4, 3, 2] (Host.dotGeneral (φ₁ := .f32) (φ₂ := .f32) dot_S32x132x4x128_S32x4x4x5x128_S32x4x132x4x5_3_4_1_13_02_02 none (keyRows x k) (queries x)) transposes_S32x4x132x4x5_S32x4x5x4x132_0_1_4_3_2) (broadcastInDim S32x4x5x4x132 ![] bcast_S_S32x4x5x4x132 (constant (F := Ideal) S_ .f32 0x3DB504F3#32))) (broadcastInDim S32x4x5x4x132 ![0, 1, 2, 3, 4] bcast_S1x4x5x4x132_S32x4x5x4x132_0_1_2_3_4 (broadcastInDim S1x4x5x4x132 ![1, 2, 3, 4] bcast_S4x5x4x132_S1x4x5x4x132_1_2_3_4 (biases b)))) (broadcastInDim S32x4x5x4x132 ![] bcast_S_S32x4x5x4x132 (id (constant (F := Ideal) S_ .f32 0xFF800000#32)))

/-- The scores and, last, the sink. -/
def withSink (x : FVec Ideal S128x8192 .f32) (k : FVec Ideal S32x128x4x128 .f32) (b : FVec Ideal S32x32 .f32) (σ : FVec Ideal S20 .f32) : FVec Ideal S32x4x5x4x133 .f32 :=
  concatenate S32x4x5x4x133 4 [⟨S32x4x5x4x132, (scores x k b)⟩, ⟨S32x4x5x4x1, (broadcastInDim S32x4x5x4x1 ![1, 2, 3, 4] bcast_S4x5x1x1_S32x4x5x4x1_1_2_3_4 (shapeCast _ σ shapeCasts_S20_S4x5x1x1))⟩] concatenates_S32x4x5x4x132_S32x4x5x4x1_S32x4x5x4x133_d4

/-- The largest of them. -/
def peakOf (x : FVec Ideal S128x8192 .f32) (k : FVec Ideal S32x128x4x128 .f32) (b : FVec Ideal S32x32 .f32) (σ : FVec Ideal S20 .f32) : FVec Ideal S32x4x5x4x1 .f32 :=
  broadcastInDim S32x4x5x4x1 ![0, 1, 2, 3] bcast_S32x4x5x4_S32x4x5x4x1_0_1_2_3 (Host.reduce FloatOps.maximumf (withSink x k b σ) (constant (F := Ideal) S_ .f32 0xFF800000#32) reducesTo_S32x4x5x4x133_S32x4x5x4_d4 h_S_)

/-- The logarithm of the sum of their exponentials. -/
def lseOf (x : FVec Ideal S128x8192 .f32) (k : FVec Ideal S32x128x4x128 .f32) (b : FVec Ideal S32x32 .f32) (σ : FVec Ideal S20 .f32) : FVec Ideal S32x4x5x4 .f32 :=
  shapeCast _ (addf (peakOf x k b σ) (Host.log (broadcastInDim S32x4x5x4x1 ![0, 1, 2, 3] bcast_S32x4x5x4_S32x4x5x4x1_0_1_2_3 (Host.reduceAdd (Host.exp (subf (withSink x k b σ) (broadcastInDim S32x4x5x4x133 ![0, 1, 2, 3, 4] bcast_S32x4x5x4x1_S32x4x5x4x133_0_1_2_3_4 (peakOf x k b σ)))) (constant (F := Ideal) S_ .f32 0x00000000#32) reducesTo_S32x4x5x4x133_S32x4x5x4_d4 h_S_)))) shapeCasts_S32x4x5x4x1_S32x4x5x4

/-- The weighted means of the values. -/
def means (x : FVec Ideal S128x8192 .f32) (k : FVec Ideal S32x128x4x128 .f32) (v : FVec Ideal S32x128x4x128 .f32) (b : FVec Ideal S32x32 .f32) (σ : FVec Ideal S20 .f32) : FVec Ideal S32x4x128x5x4 .f32 :=
  Host.dotGeneral (φ₁ := .f32) (φ₂ := .f32) dot_S32x132x4x128_S32x4x5x4x132_S32x4x128x5x4_1_4_3_23_02_01 none (valRows x v) (extractStridedSlice S32x4x5x4x132 ![0, 0, 0, 0, 0] (Host.exp (subf (withSink x k b σ) (broadcastInDim S32x4x5x4x133 ![0, 1, 2, 3, 4] bcast_S32x4x5x4x1_S32x4x5x4x133_0_1_2_3_4 (broadcastInDim S32x4x5x4x1 ![0, 1, 2, 3] bcast_S32x4x5x4_S32x4x5x4x1_0_1_2_3 (lseOf x k b σ))))) slices_S32x4x5x4x133_S32x4x5x4x132_0_0_0_0_0)

/-- The heads' means, side by side. -/
def heads (x : FVec Ideal S128x8192 .f32) (k : FVec Ideal S32x128x4x128 .f32) (v : FVec Ideal S32x128x4x128 .f32) (b : FVec Ideal S32x32 .f32) (σ : FVec Ideal S20 .f32) : FVec Ideal S32x4x2560 .f32 :=
  shapeCast _ (transpose S32x4x4x5x128 [0, 4, 1, 3, 2] (means x k v b σ) transposes_S32x4x128x5x4_S32x4x4x5x128_0_4_1_3_2) shapeCasts_S32x4x4x5x128_S32x4x2560

/-- What the reference returns is that. -/
theorem result_eq (m : (ℓ : Loc nD τ sig) → Buf (Elt Ideal) ℓ) (c : Dev nD) :
    res_main_v67 m c = heads (m (c, Proc.tc.devRef main_arg0)) (m (c, Proc.tc.devRef main_arg1)) (m (c, Proc.tc.devRef main_arg2))
      (m (c, Proc.tc.devRef main_arg3)) (m (c, Proc.tc.devRef main_arg4)) := by
  unfold res_main_v67
  rfl

theorem ofBits_bot : Ideal.ofBits .f32 4286578688#32 = ⊥ := by simp [Ideal.ofBits, Ideal.ieee]
theorem ofBits_sixteen : Ideal.ofBits .f32 1098907648#32 = ((16 : ℝ) : EReal) := by
  simp [Ideal.ofBits, Ideal.ieee]
  norm_num
  rw [← EReal.coe_mul]
  norm_num

/-- The scale of the scores. -/
abbrev sc : EReal := Ideal.ofBits .f32 1035273459#32

/-- A table of two axes read at one place written two ways. -/
theorem at_two {n k : ℕ} (f : (⟨2, ![n, k]⟩ : Shape).Idx → EReal) {a a' b b' : ℕ} {ha : a < n} {ha' : a' < n} {hb : b < k} {hb' : b' < k}
    (h : a = a') (h' : b = b') : f (ix2 ⟨a, ha⟩ ⟨b, hb⟩) = f (ix2 ⟨a', ha'⟩ ⟨b', hb'⟩) := by
  subst h h'
  rfl

section Buckets

theorem near_word : ∀ (s : Fin 4) (j : Fin (128 + 1)),
    IntOp.maxsi (lit0 (S4x132.rowMajor (ix2 s (⟨128 + s.val - j.val, by omega⟩ : Fin 132)))) 0#32 = BitVec.ofNat 32 j.val
      ∧ IntOp.maxsi (BitVec.ofNat 32 j.val) 1#32 = BitVec.ofNat 32 (max j.val 1)
      ∧ lit1 (S4x132.rowMajor (ix2 s (⟨128 + s.val - j.val, by omega⟩ : Fin 132))) = 1#1 := by
  decide +kernel

theorem off_word : ∀ (s : Fin 4) (i : Fin 132), lit1 (S4x132.rowMajor (ix2 s i)) = 0#1 ∨ (s.val ≤ i.val ∧ i.val ≤ 128 + s.val) := by
  decide +kernel

theorem words_eq (s : Fin 4) (j : Fin (128 + 1)) :
    words (ix2 s (⟨128 + s.val - j.val, by omega⟩ : Fin 132)) = BitVec.ofNat 32 (bucket j.val) := by
  have hd : near (ix2 s (⟨128 + s.val - j.val, by omega⟩ : Fin 132)) = BitVec.ofNat 32 j.val := by
    pointwise [near]
    exact (near_word s j).1
  pointwise [words]
  rw [hd, (near_word s j).2.1, ofBits_sixteen, doublings_bits]
  exact bucket_word j.val (by omega)

theorem nonneg_word : ∀ k : Fin 32, IntOp.cmpi CmpIPredicate.slt (BitVec.ofNat 32 k.val) 0#32 = 0#1 := by decide +kernel

theorem take_entry {α : Type} (x : S32x20.Idx → α) (idx : IVec S4x132x1 32) (s : Fin 4) (j : Fin 132) (h : Fin 20)
    (r : Fin 32) (hr : idx (ix3 s j 0) = BitVec.ofNat 32 r.val) :
    Host.gather gather_S32x20_S4x132x1_S4x132x20_2_0_n_n_0_2_120 x idx (ix3 s j h) = x (ix2 r h) := by
  unfold Host.gather
  congr 1
  funext a
  refine Fin.ext ?_
  have hI : ∀ r : Fin 32, min (BitVec.ofNat 32 r.val).toInt.toNat (32 - 1) = r.val := by decide +kernel
  match a with
  | ⟨0, _⟩ =>
    refine Eq.trans ?_ (hI r)
    rw [← hr]
    show GatherDims.start gather_S32x20_S4x132x1_S4x132x20_2_0_n_n_0_2_120 (ix3 s j h) idx 0 + GatherDims.batchCoord gather_S32x20_S4x132x1_S4x132x20_2_0_n_n_0_2_120 (ix3 s j h) 0 + GatherDims.offCoord gather_S32x20_S4x132x1_S4x132x20_2_0_n_n_0_2_120 (ix3 s j h) 0 = _
    have hsi : GatherDims.siIdx gather_S32x20_S4x132x1_S4x132x20_2_0_n_n_0_2_120 (ix3 s j h) ⟨List.idxOf (0 : Fin 2) (GatherDims.startIndexMap gather_S32x20_S4x132x1_S4x132x20_2_0_n_n_0_2_120),
        List.idxOf_lt_length_iff.2 (List.mem_singleton.mpr rfl)⟩ = ix3 s j 0 := by
      funext e
      refine Fin.ext ?_
      match e with
      | ⟨0, _⟩ => rfl
      | ⟨1, _⟩ => rfl
      | ⟨2, _⟩ => rfl
    unfold GatherDims.start
    rw [dif_pos (show (0 : Fin 2) ∈ GatherDims.startIndexMap gather_S32x20_S4x132x1_S4x132x20_2_0_n_n_0_2_120 from List.mem_singleton.mpr rfl), hsi]
    rfl
  | ⟨1, _⟩ =>
    show 0 + 0 + h.val = h.val
    omega

theorem biases_eq (b : FVec Ideal S32x32 .f32) (g : Fin 4) (r : Fin 5) (s : Fin 4) (j : Fin (128 + 1)) :
    biases b (ix4 g r s (⟨128 + s.val - j.val, by omega⟩ : Fin 132)) = b (ix2 ⟨bucket j.val, bucket_lt ⟨j.val, by omega⟩⟩ ⟨5 * g.val + r.val, by omega⟩) := by
  pointwise [biases]
  refine (take_entry _ _ s _ (⟨g.val * 5 + r.val, by omega⟩ : Fin 20) ⟨bucket j.val, bucket_lt ⟨j.val, by omega⟩⟩ ?_).trans ?_
  · pointwise
    rw [words_eq, nonneg_word ⟨bucket j.val, bucket_lt ⟨j.val, by omega⟩⟩]
    rfl
  · pointwise
    exact at_two _ rfl (by omega)

end Buckets

section Rows
variable (x : FVec Ideal S128x8192 .f32) (k v : FVec Ideal S32x128x4x128 .f32) (tab : FVec Ideal S32x32 .f32) (σ : FVec Ideal S20 .f32)

theorem queries_apply (b : Fin 32) (s : Fin 4) (g : Fin 4) (r : Fin 5) (d : Fin 128) :
    queries x (ix5 b s g r d) = x (ix2 ⟨4 * b.val + s.val, by omega⟩ ⟨128 * (5 * g.val + r.val) + d.val, by omega⟩) := by
  pointwise [queries]
  exact at_two _ (by omega) (by omega)

theorem keyRows_old (b : Fin 32) (i : Fin 128) (g : Fin 4) (d : Fin 128) :
    keyRows x k (ix4 b (i.castLE (by decide)) g d) = k (ix4 b i g d) := by
  pointwise [keyRows]
  exact dif_pos i.isLt

theorem keyRows_new (b : Fin 32) (s : Fin 4) (g : Fin 4) (d : Fin 128) :
    keyRows x k (ix4 b ⟨128 + s.val, by omega⟩ g d) = x (ix2 ⟨4 * b.val + s.val, by omega⟩ ⟨2560 + 128 * g.val + d.val, by omega⟩) := by
  pointwise [keyRows]
  exact at_two _ (by omega) (by omega)

theorem valRows_old (b : Fin 32) (i : Fin 128) (g : Fin 4) (d : Fin 128) :
    valRows x v (ix4 b (i.castLE (by decide)) g d) = v (ix4 b i g d) := by
  pointwise [valRows]
  exact dif_pos i.isLt

theorem valRows_new (b : Fin 32) (s : Fin 4) (g : Fin 4) (d : Fin 128) :
    valRows x v (ix4 b ⟨128 + s.val, by omega⟩ g d) = x (ix2 ⟨4 * b.val + s.val, by omega⟩ ⟨3072 + 128 * g.val + d.val, by omega⟩) := by
  pointwise [valRows]
  exact at_two _ (by omega) (by omega)

/-- A score inside the window, -/
theorem scores_on (b : Fin 32) (g : Fin 4) (r : Fin 5) (s : Fin 4) (j : Fin (128 + 1)) :
    scores x k tab (ix5 b g r s (⟨128 + s.val - j.val, by omega⟩ : Fin 132))
      = (∑ d, queries x (ix5 b s g r d) * keyRows x k (ix4 b ⟨128 + s.val - j.val, by omega⟩ g d)) * sc
        + tab (ix2 ⟨bucket j.val, bucket_lt ⟨j.val, by omega⟩⟩ ⟨5 * g.val + r.val, by omega⟩) := by
  pointwise [scores]
  rw [(near_word s j).2.2, biases_eq]
  simp only [mul_comm (keyRows x k _)]
  rfl

/-- and outside. -/
theorem scores_off (b : Fin 32) (g : Fin 4) (r : Fin 5) (s : Fin 4) (i : Fin 132) (hi : ∀ j : Fin (128 + 1), (⟨128 + s.val - j.val, by omega⟩ : Fin 132) ≠ i) :
    scores x k tab (ix5 b g r s i) = ⊥ := by
  pointwise [scores]
  rcases off_word s i with e | e
  · rw [e]; exact ofBits_bot
  · exact absurd (Fin.ext (by show 128 + s.val - (128 + s.val - i.val) = i.val; omega)) (hi ⟨128 + s.val - i.val, by omega⟩)

/-- A row of scores. -/
abbrev lanes (b : Fin 32) (g : Fin 4) (r : Fin 5) (s : Fin 4) : Fin 132 → EReal := fun i => scores x k tab (ix5 b g r s i)

theorem withSink_at (b : Fin 32) (g : Fin 4) (r : Fin 5) (s : Fin 4) (i : Fin 133) :
    withSink x k tab σ (ix5 b g r s i) = if h : i.val < 132 then lanes x k tab b g r s ⟨i.val, h⟩ else σ (ix1 ⟨g.val * 5 + r.val, by omega⟩) := by
  pointwise [withSink]

theorem withSink_eq (b : Fin 32) (g : Fin 4) (r : Fin 5) (s : Fin 4) (i : Fin (132 + 1)) :
    withSink x k tab σ (ix5 b g r s i) = more (lanes x k tab b g r s) (σ (ix1 ⟨5 * g.val + r.val, by omega⟩)) i := by
  rw [withSink_at]
  refine Fin.lastCases ?_ (fun l => ?_) i
  · rw [more, Fin.snoc_last]
    refine (dif_neg (Nat.lt_irrefl 132)).trans (congrArg (fun z : Fin 20 => σ (ix1 z)) (Fin.ext ?_))
    show g.val * 5 + r.val = 5 * g.val + r.val
    omega
  · rw [more, Fin.snoc_castSucc]
    exact dif_pos l.isLt

theorem peakOf_eq (b : Fin 32) (g : Fin 4) (r : Fin 5) (s : Fin 4) :
    peakOf x k tab σ (ix5 b g r s 0) = top (more (lanes x k tab b g r s) (σ (ix1 ⟨5 * g.val + r.val, by omega⟩))) := by
  pointwise [peakOf]
  simp only [withSink_eq, ofBits_bot]

theorem lseOf_eq (b : Fin 32) (g : Fin 4) (r : Fin 5) (s : Fin 4) :
    lseOf x k tab σ (ix4 b g r s) = lse (more (lanes x k tab b g r s) (σ (ix1 ⟨5 * g.val + r.val, by omega⟩))) := by
  pointwise [lseOf]
  simp only [peakOf_eq, withSink_eq]

/-- THE REFERENCE'S HEAD at a query and a lane. -/
theorem heads_eq (b : Fin 32) (g : Fin 4) (r : Fin 5) (s : Fin 4) (d : Fin 128) :
    heads x k v tab σ (ix3 b s ⟨128 * (5 * g.val + r.val) + d.val, by omega⟩)
      = ∑ i : Fin 132, Ideal.exp (lanes x k tab b g r s i - lse (more (lanes x k tab b g r s) (σ (ix1 ⟨5 * g.val + r.val, by omega⟩)))) * valRows x v (ix4 b i g d) := by
  have e : (⟨128 * (5 * g.val + r.val) + d.val, by omega⟩ : Fin 2560) = ⟨(g.val * 5 + r.val) * 128 + d.val, by omega⟩ := Fin.ext (by show 128 * (5 * g.val + r.val) + d.val = (g.val * 5 + r.val) * 128 + d.val; omega)
  have hm : heads x k v tab σ (ix3 b s ⟨128 * (5 * g.val + r.val) + d.val, by omega⟩) = means x k v tab σ (ix5 b g d r s) := by
    rw [e]
    pointwise [heads]
  rw [hm]
  pointwise [means]
  refine Finset.sum_congr rfl fun i _ => ?_
  have hw := withSink_eq x k tab σ b g r s i.castSucc
  rw [more, Fin.snoc_castSucc] at hw
  rw [mul_comm, lseOf_eq]
  exact congrArg (fun y : EReal => Ideal.exp (y - lse (more (lanes x k tab b g r s) (σ (ix1 ⟨5 * g.val + r.val, by omega⟩)))) * valRows x v (ix4 b i g d)) hw

end Rows

end Cert.SharedSampleRefIdeal.Att
-- ==== Proof.SharedHead.lean ====
module

public import proofs.«01_k».proof.Proof.Gen.SharedSampleIdeal.Value
public import proofs.«01_k».proof.Proof.SharedRef
public import proofs.«01_k».proof.Proof.DilStack
public import proofs.«01_k».proof.Proof.DilBias
public import Idealize.ShloMosaic.Lib.Pipeline.ValueKit
public import Idealize.ShloMosaic.Lib.Pipeline.ReadBack
public import Idealize.ShloMosaic.Lib.WholeRead
public import Idealize.ShloMosaic.Lib.StableHlo.RunRead

@[expose] public section

set_option maxRecDepth 16384

noncomputable section

open Idealize.ShloMosaic Idealize.ShloMosaic.TcCoe Idealize.SL.Sem

/-! # What the kernel reads for a head: its rows, its biases and its sink -/

namespace Cert.SharedSampleIdeal.Att

open Cert.SharedSampleIdeal Cert.SharedSampleIdeal.Gen Cert.Window
open Cert.KernelIdeal.Dil (posOne posOne_inj band_in band_out)
open Cert.SharedSampleRefIdeal.Att (at_two)

theorem ofBits_bot : Ideal.ofBits .f32 4286578688#32 = ⊥ := by simp [Ideal.ofBits, Ideal.ieee]

/-- The scale of the scores. -/
abbrev sc : EReal := Ideal.ofBits .f32 1035273459#32

/-- The row of scores against a stack of keys. -/
abbrev row (b : Vec Ideal S1x8x256 .f32) (q : Vec Ideal S8x128 .f32) (k : Vec Ideal S256x128 .f32) (s : Fin 4) : Fin 256 → EReal :=
  fun i => (∑ x, q (ix2 (s.castLE (by decide)) x) * k (ix2 i x)) * sc + b (ix3 0 (s.castLE (by decide)) i)

/-- One head of a block, at a query row and a lane. -/
theorem head_apply (b : Vec Ideal S1x8x256 .f32) (a : EReal) (q : Vec Ideal S8x128 .f32) (k v : Vec Ideal S256x128 .f32) (s : Fin 4) (d : Fin 128) :
    k0_pay80 (F := Ideal) b a q k v (ix3 0 s d)
      = Ideal.div (∑ i, Ideal.exp (row b q k s i - max (Finset.fold max ⊥ (row b q k s) Finset.univ) a) * v (ix2 i d))
          ((∑ i, Ideal.exp (row b q k s i - max (Finset.fold max ⊥ (row b q k s) Finset.univ) a))
            + Ideal.exp (a - max (Finset.fold max ⊥ (row b q k s) Finset.univ) a)) := by
  pointwise [k0_pay80]
  simp only [ofBits_bot]
  rfl

section Stack
variable (v : View sig .tc .vmem S640x128 .f32) (s : Fin 4) (j : Fin (128 + 1)) (x : Fin 128)
  (C : Fin 132 → EReal) (a1 z1 : S128x128.Idx → EReal) (w1 : S4x128.Idx → EReal) (L : List (View.Piece (Elt Ideal) S640x128 .f32))

/-- The stack of rows loaded back at a lane of the window: cache rows, then the new ones. -/
theorem stack (ha : ∀ i : Fin 128, a1 (ix2 i x) = C (i.castLE (by decide))) (hw : ∀ i : Fin 4, w1 (ix2 i x) = C ⟨128 + i.val, by omega⟩) :
    v.readCov (⟨Rect.unit (s := S640x128) ![128, 0] ![4, 128] inb_S640x128_S4x128_128_0, w1⟩
        :: ⟨Rect.unit (s := S640x128) ![128, 0] ![128, 128] inb_S640x128_S128x128_128_0, z1⟩
        :: ⟨Rect.unit (s := S640x128) ![0, 0] ![128, 128] inb_S640x128_S128x128_0_0, a1⟩ :: L)
        (Rect.unit (s := S640x128) ![0, 0] ![256, 128] inb_S640x128_S256x128_0_0).toLoadRect (ix2 (posOne s j) x)
      = C ⟨128 + s.val - j.val, by omega⟩ := by
  have hs := s.isLt
  have hj := j.isLt
  have load : ∀ (L : List (View.Piece (Elt Ideal) S640x128 .f32)) (i : Fin 256),
      v.readCov L (Rect.unit (s := S640x128) ![0, 0] ![256, 128] inb_S640x128_S256x128_0_0).toLoadRect (ix2 i x)
        = View.canon L (ix2 (i.castLE (by decide) : Fin 640) x) := fun L i => by
    rw [View.readCov_eq_canon']
    refine congrArg (View.canon L) (funext fun a => Fin.ext ?_)
    match a with
    | ⟨0, _⟩ => show 0 + 1 * i.val = i.val; omega
    | ⟨1, _⟩ => show 0 + 1 * x.val = x.val; omega
  rw [load]
  by_cases h : j.val ≤ s.val
  · rw [band_in _ _ _ _ _ (⟨s.val - j.val, by omega⟩ : Fin 4) (by show 128 + s.val - j.val = 128 + (s.val - j.val); omega), hw]
    exact congrArg C (Fin.ext (by show 128 + (s.val - j.val) = 128 + s.val - j.val; omega))
  · rw [band_out _ _ _ _ _ (.inl (by show 128 + s.val - j.val < 128; omega)), band_out _ _ _ _ _ (.inl (by show 128 + s.val - j.val < 128; omega)),
      band_in _ _ _ _ _ (⟨128 + s.val - j.val, by omega⟩ : Fin 128) (by show 128 + s.val - j.val = 0 + (128 + s.val - j.val); omega), ha]
    rfl
end Stack

/-- The query rows loaded back: the four rows first. -/
theorem load_query (v : View sig .tc .vmem S8x128 .f32) (w : S4x128.Idx → EReal) (L : List (View.Piece (Elt Ideal) S8x128 .f32)) (s : Fin 4) (x : Fin 128) :
    v.readCov (⟨Rect.unit (s := S8x128) ![0, 0] ![4, 128] inb_S8x128_S4x128_0_0, w⟩ :: L)
        (Rect.unit (s := S8x128) ![0, 0] ![8, 128] inb_S8x128_S8x128_0_0).toLoadRect (ix2 (s.castLE (by decide)) x) = w (ix2 s x) := by
  rw [View.readCov_eq_canon']
  have e : (Rect.unit (s := S8x128) ![0, 0] ![8, 128] inb_S8x128_S8x128_0_0).toLoadRect.idx (ix2 (s.castLE (by decide) : Fin 8) x)
      = (Rect.unit (s := S8x128) ![0, 0] ![4, 128] inb_S8x128_S4x128_0_0).emb (ix2 s x) := by
    funext a
    refine Fin.ext ?_
    match a with
    | ⟨0, _⟩ => rfl
    | ⟨1, _⟩ => rfl
  show View.canon _ (LoadRect.idx _ _) = _
  rw [e]
  exact View.canon_cons_emb (Val := Elt Ideal) (e := .f32) (Rect.unit (s := S8x128) ![0, 0] ![4, 128] inb_S8x128_S4x128_0_0) w L _

variable (m : (ℓ : Loc nD τ sig) → Buf (Elt Ideal) ℓ) (c : Dev nD)

/-- The packed projections as launched, -/
abbrev inX : S128x8192.Idx → EReal := m (c, Proc.tc.devRef main_arg0)
/-- the cached keys, -/
abbrev inK : S32x128x4x128.Idx → EReal := m (c, Proc.tc.devRef main_arg1)
/-- the cached values, -/
abbrev inV : S32x128x4x128.Idx → EReal := m (c, Proc.tc.devRef main_arg2)
/-- the bias table -/
abbrev inB : S32x32.Idx → EReal := m (c, Proc.tc.devRef main_arg3)
/-- and the sinks. -/
abbrev inS : S20.Idx → EReal := m (c, Proc.tc.devRef main_arg4)

/-! ## The biases -/

/-- A table's column summed against the indicator of a bucket. -/
abbrev pick (tab : S32x32.Idx → EReal) (h : Fin 20) (b : BitVec 32) : EReal :=
  ∑ n : Fin 32, tab (ix2 n ⟨h.val, by omega⟩) * FloatOps.uitofp (F := Ideal) .f32 (IntOp.cmpi .eq b (BitVec.ofNat 32 n.val))

/-- The indicator picks the bucket's entry. -/
theorem pick_eq (tab : S32x32.Idx → EReal) (h : Fin 20) (k : Fin 32) :
    pick tab h (BitVec.ofNat 32 k.val) = tab (ix2 k ⟨h.val, by omega⟩) := by
  unfold pick
  rw [Finset.sum_eq_single k]
  · rw [Cert.KernelIdeal.Dil.eq_words, if_pos rfl]
    show _ * (((1#1).toNat : ℝ) : EReal) = _
    simp
  · intro n _ hn
    rw [Cert.KernelIdeal.Dil.eq_words, if_neg hn]
    show _ * (((0#1).toNat : ℝ) : EReal) = _
    simp
  · intro hk; exact absurd (Finset.mem_univ k) hk

theorem bias_at (h : Fin 20) (s : Fin 8) (i : Fin 256) : (V m c main_v12 : S20x8x256.Idx → EReal) (ix3 h s i)
    = Scalar.select (lit1 (S8x256.rowMajor (ix2 s i))) (pick (inB m c) h (lit0 (S8x256.rowMajor (ix2 s i)))) ⊥ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show select (broadcastInDim S20x8x256 ![1, 2] bcast_S8x256_S20x8x256_1_2 fun i => lit1 (S8x256.rowMajor i))
    (Host.dotGeneral (F := Ideal) dot_S32x20_S8x256x32_S20x8x256_0_2_1_01_n_n (some ContractPrecision.fp32)
      (extractStridedSlice S32x20 ![0, 0] (inB m c) slices_S32x32_S32x20_0_0)
      (uitofp FTy.f32
        (cmpi CmpIPredicate.eq
          (broadcastInDim S8x256x32 ![0, 1, 2] bcast_S8x256x1_S8x256x32_0_1_2
            (broadcastInDim S8x256x1 ![0, 1] bcast_S8x256_S8x256x1_0_1 fun i => lit0 (S8x256.rowMajor i)))
          (broadcastInDim S8x256x32 ![0, 1, 2] bcast_S1x1x32_S8x256x32_0_1_2
            (broadcastInDim S1x1x32 ![2] bcast_S32_S1x1x32_2 (iotaInDim S32 32 0))))))
    (broadcastInDim S20x8x256 ![] bcast_S_S20x8x256 (constant (F := Ideal) S_ FTy.f32 4286578688#32)) (ix3 h s i) = _
  pointwise
  rw [show (Ideal.ofBits .f32 4286578688#32 : EReal) = ⊥ from ofBits_bot]

theorem lanes_one : ∀ (s : Fin 4) (j : Fin (128 + 1)),
    lit1 (S8x256.rowMajor (ix2 (s.castLE (by decide)) (posOne s j))) = 1#1
      ∧ lit0 (S8x256.rowMajor (ix2 (s.castLE (by decide)) (posOne s j))) = BitVec.ofNat 32 (bucket (j.val)) := by
  decide +kernel

theorem off_one : ∀ (s : Fin 4) (i : Fin 256), lit1 (S8x256.rowMajor (ix2 (s.castLE (by decide)) i)) = 0#1 ∨ (s.val ≤ i.val ∧ i.val ≤ 128 + s.val) := by
  decide +kernel

/-- On the window the bias is the table's entry; -/
theorem bias_on (h : Fin 20) (s : Fin 4) (j : Fin (128 + 1)) :
    (V m c main_v12 : S20x8x256.Idx → EReal) (ix3 h (s.castLE (by decide)) (posOne s j))
      = inB m c (ix2 ⟨bucket j.val, bucket_lt ⟨j.val, by omega⟩⟩ ⟨h.val, by omega⟩) := by
  rw [bias_at, (lanes_one s j).1, (lanes_one s j).2]
  exact pick_eq (inB m c) h ⟨bucket (j.val), bucket_lt ⟨j.val, by omega⟩⟩

/-- off it `⊥`. -/
theorem bias_off (h : Fin 20) (s : Fin 4) (i : Fin 256) (hi : ∀ j, posOne s j ≠ i) :
    (V m c main_v12 : S20x8x256.Idx → EReal) (ix3 h (s.castLE (by decide)) i) = (⊥ : EReal) := by
  rw [bias_at]
  rcases off_one s i with e | e
  · rw [e]; rfl
  · exfalso
    exact hi ⟨128 + s.val - i.val, by omega⟩ (Fin.ext (by show 128 + s.val - (128 + s.val - i.val) = i.val; omega))

/-! ## The blocks -/

theorem idx : ∀ t : Fin cfg0.N, win0_0.index t = ![0] ∧ win0_1.index t = ![t.val, 0, 0] ∧ win0_2.index t = ![t.val, 0, 0]
    ∧ win0_3.index t = ![t.val, 0, 0] ∧ win0_4.index t = ![0, 0, 0] ∧ win0_5.index t = ![t.val, 0, 0] :=
  (by decide +kernel : ∀ t : Fin grid0.N, _)

/-- The batch row of a grid point. -/
abbrev rowOf (t : Fin cfg0.N) : Fin 32 := ⟨t.val, t.isLt⟩

theorem sinks_all (i : Fin 32) : (V m c main_v1 : S32.Idx → EReal) (ix1 i) = if h : i.val < 20 then inS m c (ix1 ⟨i.val, h⟩) else ⊥ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise []
  simp only [ofBits_bot]

theorem packed_rows (b : Fin 32) (s : Fin 4) (k : Fin 8192) :
    (V m c main_v40 : S32x4x8192.Idx → EReal) (ix3 b s k) = inX m c (ix2 ⟨4 * b.val + s.val, by omega⟩ k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise []
  exact at_two _ (b := k.val) (b' := k.val) (by omega) rfl

theorem keys_flat (b : Fin 32) (i : Fin 128) (g : Fin 4) (x : Fin 128) :
    (V m c main_v41 : S32x128x512.Idx → EReal) (ix3 b i ⟨128 * g.val + x.val, by omega⟩) = inK m c (ix4 b i g x) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rw [show (⟨128 * g.val + x.val, by omega⟩ : Fin 512) = ⟨g.val * 128 + x.val, by omega⟩ from Fin.ext (by show 128 * g.val + x.val = g.val * 128 + x.val; omega)]
  pointwise []

theorem values_flat (b : Fin 32) (i : Fin 128) (g : Fin 4) (x : Fin 128) :
    (V m c main_v42 : S32x128x512.Idx → EReal) (ix3 b i ⟨128 * g.val + x.val, by omega⟩) = inV m c (ix4 b i g x) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rw [show (⟨128 * g.val + x.val, by omega⟩ : Fin 512) = ⟨g.val * 128 + x.val, by omega⟩ from Fin.ext (by show 128 * g.val + x.val = g.val * 128 + x.val; omega)]
  pointwise []

theorem blk0 (t : Fin cfg0.N) (i : Fin 32) : (iblk m c 0 t : S32.Idx → EReal) (ix1 i) = (V m c main_v1 : S32.Idx → EReal) (ix1 i) := by
  have e : ((View.whole main_v1).slice (win0_0.rect t)).emb (ix1 i) = (ix1 i : S32.Idx) := by
    blk_ext [idx t]
  blk_simp [iblk]
  rw [e]

theorem blk1 (t : Fin cfg0.N) (s : Fin 4) (k : Fin 8192) :
    (iblk m c 1 t : S1x4x8192.Idx → EReal) (ix3 0 s k) = inX m c (ix2 ⟨4 * (rowOf t).val + s.val, by omega⟩ k) := by
  have e : ((View.whole main_v40).slice (win0_1.rect t)).emb (ix3 0 s k) = (ix3 (rowOf t) s k : S32x4x8192.Idx) := by
    blk_ext [idx t]
  blk_simp [iblk]
  rw [e, packed_rows]

theorem blk2 (t : Fin cfg0.N) (i : Fin 128) (g : Fin 4) (x : Fin 128) :
    (iblk m c 2 t : S1x128x512.Idx → EReal) (ix3 0 i ⟨128 * g.val + x.val, by omega⟩) = inK m c (ix4 (rowOf t) i g x) := by
  have e : ((View.whole main_v41).slice (win0_2.rect t)).emb (ix3 0 i ⟨128 * g.val + x.val, by omega⟩)
      = (ix3 (rowOf t) i ⟨128 * g.val + x.val, by omega⟩ : S32x128x512.Idx) := by
    blk_ext [idx t]
  blk_simp [iblk]
  rw [e, keys_flat]

theorem blk3 (t : Fin cfg0.N) (i : Fin 128) (g : Fin 4) (x : Fin 128) :
    (iblk m c 3 t : S1x128x512.Idx → EReal) (ix3 0 i ⟨128 * g.val + x.val, by omega⟩) = inV m c (ix4 (rowOf t) i g x) := by
  have e : ((View.whole main_v42).slice (win0_3.rect t)).emb (ix3 0 i ⟨128 * g.val + x.val, by omega⟩)
      = (ix3 (rowOf t) i ⟨128 * g.val + x.val, by omega⟩ : S32x128x512.Idx) := by
    blk_ext [idx t]
  blk_simp [iblk]
  rw [e, values_flat]

theorem blk4 (t : Fin cfg0.N) (h : Fin 20) (s : Fin 8) (i : Fin 256) :
    (iblk m c 4 t : S20x8x256.Idx → EReal) (ix3 h s i) = (V m c main_v12 : S20x8x256.Idx → EReal) (ix3 h s i) := by
  have e : ((View.whole main_v12).slice (win0_4.rect t)).emb (ix3 h s i) = (ix3 h s i : S20x8x256.Idx) := by
    blk_ext [idx t]
  blk_simp [iblk]
  rw [e]

end Cert.SharedSampleIdeal.Att
-- ==== Proof.SharedPieces.lean ====
module

public import proofs.«01_k».proof.Proof.SharedHead

@[expose] public section

set_option maxRecDepth 16384

noncomputable section

open Idealize.ShloMosaic Idealize.ShloMosaic.TcCoe Idealize.SL.Sem

/-! # One head of the kernel is the reference's

A head's scores differ from the reference's only by lanes at `⊥` on either side, so the two softmaxes with a sink agree. -/

namespace Cert.SharedSampleIdeal.Att

open Cert.SharedSampleIdeal Cert.SharedSampleIdeal.Gen Cert.Window
open Cert.KernelIdeal.Dil (posOne posOne_inj band_in band_out window window_real)
open Cert.SharedSampleRefIdeal.Att (at_two heads heads_eq keyRows valRows queries queries_apply keyRows_old keyRows_new valRows_old valRows_new
  lanes scores_on scores_off)

/-- What is asked to be real. -/
structure Reals (x : S128x8192.Idx → EReal) (k : S32x128x4x128.Idx → EReal) (b : S32x32.Idx → EReal) (σ : S20.Idx → EReal) : Prop where
  x : ∀ (r : Fin 128) (j : Fin 3072), ∃ y : ℝ, x (ix2 r ⟨j.val, by omega⟩) = y
  k : ∀ i, ∃ y : ℝ, k i = y
  b : ∀ (n : Fin 32) (h : Fin 20), ∃ y : ℝ, b (ix2 n ⟨h.val, by omega⟩) = y
  s : ∀ h, ∃ y : ℝ, σ h = y

theorem key_real {x : S128x8192.Idx → EReal} {k : S32x128x4x128.Idx → EReal} {tab : S32x32.Idx → EReal} {σ : S20.Idx → EReal}
    (H : Reals x k tab σ) (b : Fin 32) (i : Fin 132) (g : Fin 4) (d : Fin 128) : ∃ y : ℝ, keyRows x k (ix4 b i g d) = y := by
  by_cases hi : i.val < 128
  · obtain ⟨y, hy⟩ := H.k (ix4 b ⟨i.val, hi⟩ g d)
    exact ⟨y, (keyRows_old x k b ⟨i.val, hi⟩ g d).trans hy⟩
  · obtain ⟨y, hy⟩ := H.x ⟨4 * b.val + (i.val - 128), by omega⟩ ⟨2560 + 128 * g.val + d.val, by omega⟩
    refine ⟨y, Eq.trans ?_ ((keyRows_new x k b ⟨i.val - 128, by omega⟩ g d).trans hy)⟩
    rw [show (⟨128 + (i.val - 128), by omega⟩ : Fin 132) = i from Fin.ext (by show 128 + (i.val - 128) = i.val; omega)]

variable (m : (ℓ : Loc nD τ sig) → Buf (Elt Ideal) ℓ) (c : Dev nD)

theorem head_value (H : Reals (inX m c) (inK m c) (inB m c) (inS m c)) (t : Fin 32) (g : Fin 4) (r : Fin 5) (s : Fin 4) (d : Fin 128)
    (B : Vec Ideal S1x8x256 .f32) (a : EReal) (q : Vec Ideal S8x128 .f32) (k v : Vec Ideal S256x128 .f32)
    (hB : ∀ s i, B (ix3 0 s i) = (V m c main_v12 : S20x8x256.Idx → EReal) (ix3 ⟨5 * g.val + r.val, by omega⟩ s i))
    (ha : a = inS m c (ix1 ⟨5 * g.val + r.val, by omega⟩))
    (hq : ∀ x : Fin 128, q (ix2 (s.castLE (by decide)) x) = queries (inX m c) (ix5 t s g r x))
    (hk : ∀ (j : Fin (128 + 1)) (x : Fin 128), k (ix2 (posOne s j) x) = keyRows (inX m c) (inK m c) (ix4 t ⟨128 + s.val - j.val, by omega⟩ g x))
    (hv : ∀ (j : Fin (128 + 1)), v (ix2 (posOne s j) d) = valRows (inX m c) (inV m c) (ix4 t ⟨128 + s.val - j.val, by omega⟩ g d)) :
    k0_pay80 (F := Ideal) B a q k v (ix3 0 s d)
      = heads (inX m c) (inK m c) (inV m c) (inB m c) (inS m c) (ix3 t s ⟨128 * (5 * g.val + r.val) + d.val, by omega⟩) := by
  obtain ⟨w, hw⟩ := H.s (ix1 ⟨5 * g.val + r.val, by omega⟩)
  obtain ⟨R, hR⟩ := window_real (fun x => queries (inX m c) (ix5 t s g r x))
    (fun j x => keyRows (inX m c) (inK m c) (ix4 t ⟨128 + s.val - j.val, by omega⟩ g x))
    (fun j => inB m c (ix2 ⟨bucket j.val, bucket_lt ⟨j.val, by omega⟩⟩ ⟨5 * g.val + r.val, by omega⟩))
    (fun x => by
      obtain ⟨y, hy⟩ := H.x ⟨4 * t.val + s.val, by omega⟩ ⟨128 * (5 * g.val + r.val) + x.val, by omega⟩
      exact ⟨y, (queries_apply (inX m c) t s g r x).trans hy⟩)
    (fun j x => key_real H _ _ _ _) (fun j => H.b _ ⟨5 * g.val + r.val, by omega⟩)
  rw [head_apply, heads_eq, ha]
  refine sink_eq _ _ _ _ _ _ R _ w hw hR (posOne s) (posOne_inj s) (fun j => ?_) (fun i hi => ?_) hv
    (fun j => (⟨128 + s.val - j.val, by omega⟩ : Fin 132)) (fun i j h => ?_) (fun j => ?_) (fun i hi => ?_) (fun j => rfl)
  · simp only [row, window]
    rw [hB, bias_on]
    simp only [hq, hk]
  · simp only [row]
    rw [hB, bias_off m c _ s i hi, EReal.add_bot]
  · have := congrArg Fin.val h
    have h1 := i.isLt
    have h2 := j.isLt
    refine Fin.ext ?_
    simp only at this
    omega
  · exact scores_on _ _ _ t g r s j
  · exact scores_off _ _ _ t g r s i hi

/-! ## What the loads of a block hold -/

section Loads
variable (t : Fin cfg0.N) (g : Fin 4)

theorem lane_one (s : Fin 4) (x : Fin 128) (o : ℕ) (k : Fin 8192) (inb : ∀ a, (![0, 0, o] : Fin 3 → ℕ) a + (![1, 4, 128] : Fin 3 → ℕ) a ≤ S1x4x8192.size a)
    (hk : k.val = o + x.val) : View.ld (iblk m c 1 t) (Rect.unit (s := S1x4x8192) ![0, 0, o] ![1, 4, 128] inb) (ix3 0 s x)
      = inX m c (ix2 ⟨4 * (rowOf t).val + s.val, by omega⟩ k) := by
  have e : (Rect.unit (s := S1x4x8192) ![0, 0, o] ![1, 4, 128] inb).emb (ix3 0 s x) = ix3 0 s k := by
    funext a
    refine Fin.ext ?_
    match a with
    | ⟨0, _⟩ => rfl
    | ⟨1, _⟩ => show 0 + 1 * s.val = s.val; omega
    | ⟨2, _⟩ => show o + 1 * x.val = k.val; omega
  exact (congrArg (iblk m c 1 t : S1x4x8192.Idx → EReal) e).trans (blk1 m c t s k)

theorem cache_lane (i x : Fin 128) (o : ℕ) (X : S1x128x512.Idx → EReal) (inb : ∀ a, (![0, 0, o] : Fin 3 → ℕ) a + (![1, 128, 128] : Fin 3 → ℕ) a ≤ S1x128x512.size a)
    (ho : o = 128 * g.val) : View.ld (Val := Elt Ideal) (e' := .f32) X (Rect.unit (s := S1x128x512) ![0, 0, o] ![1, 128, 128] inb) (ix3 0 i x) = X (ix3 0 i ⟨128 * g.val + x.val, by omega⟩) := by
  refine congrArg X (funext fun a => Fin.ext ?_)
  match a with
  | ⟨0, _⟩ => rfl
  | ⟨1, _⟩ => show 0 + 1 * i.val = i.val; omega
  | ⟨2, _⟩ => show o + 1 * x.val = 128 * g.val + x.val; omega

end Loads

section Piece
variable (t : Fin cfg0.N) (g : Fin 4) (r : Fin 5) (h o og ok ov : ℕ)

/-- A head's piece of the block is the reference's head. -/
theorem piece (H : Reals (inX m c) (inK m c) (inB m c) (inS m c)) (hh : h = 5 * g.val + r.val) (ho : o = 128 * h)
    (hg : og = 128 * g.val) (hok : ok = 2560 + 128 * g.val) (hov : ov = 3072 + 128 * g.val)
    (ib : ∀ a, (![h, 0, 0] : Fin 3 → ℕ) a + (![1, 8, 256] : Fin 3 → ℕ) a ≤ S20x8x256.size a)
    (is : ∀ a, (![h] : Fin 1 → ℕ) a + (![1] : Fin 1 → ℕ) a ≤ S32.size a) (p : 0 < (Rect.unit (s := S32) ![h] ![1] is).shape.numel)
    (iq : ∀ a, (![0, 0, o] : Fin 3 → ℕ) a + (![1, 4, 128] : Fin 3 → ℕ) a ≤ S1x4x8192.size a)
    (ik : ∀ a, (![0, 0, ok] : Fin 3 → ℕ) a + (![1, 4, 128] : Fin 3 → ℕ) a ≤ S1x4x8192.size a)
    (iv : ∀ a, (![0, 0, ov] : Fin 3 → ℕ) a + (![1, 4, 128] : Fin 3 → ℕ) a ≤ S1x4x8192.size a)
    (ig : ∀ a, (![0, 0, og] : Fin 3 → ℕ) a + (![1, 128, 128] : Fin 3 → ℕ) a ≤ S1x128x512.size a)
    (io : ∀ a, (![0, 0, o] : Fin 3 → ℕ) a + (![1, 4, 128] : Fin 3 → ℕ) a ≤ S1x4x2560.size a)
    (u0 : View sig .tc .vmem S8x128 .f32) (u1 u2 : View sig .tc .vmem S640x128 .f32)
    (L0 : List (View.Piece (Elt Ideal) S8x128 .f32)) (z1 z2 : S128x128.Idx → EReal) (L1 L2 : List (View.Piece (Elt Ideal) S640x128 .f32))
    (i : S1x4x128.Idx) :
    k0_pay80 (F := Ideal) (View.ld (iblk m c 4 t) (Rect.unit (s := S20x8x256) ![h, 0, 0] ![1, 8, 256] ib))
        (View.ld (iblk m c 0 t) (Rect.unit (s := S32) ![h] ![1] is) (Shape.Idx.first p))
        (u0.readCov (⟨Rect.unit (s := S8x128) ![0, 0] ![4, 128] inb_S8x128_S4x128_0_0,
            k0_pay11 (View.ld (iblk m c 1 t) (Rect.unit (s := S1x4x8192) ![0, 0, o] ![1, 4, 128] iq))⟩ :: L0)
          (Rect.unit (s := S8x128) ![0, 0] ![8, 128] inb_S8x128_S8x128_0_0).toLoadRect)
        (u1.readCov (⟨Rect.unit (s := S640x128) ![128, 0] ![4, 128] inb_S640x128_S4x128_128_0,
            k0_pay9 (View.ld (iblk m c 1 t) (Rect.unit (s := S1x4x8192) ![0, 0, ok] ![1, 4, 128] ik))⟩
          :: ⟨Rect.unit (s := S640x128) ![128, 0] ![128, 128] inb_S640x128_S128x128_128_0, z1⟩
          :: ⟨Rect.unit (s := S640x128) ![0, 0] ![128, 128] inb_S640x128_S128x128_0_0,
            k0_pay3 (View.ld (iblk m c 2 t) (Rect.unit (s := S1x128x512) ![0, 0, og] ![1, 128, 128] ig))⟩ :: L1)
          (Rect.unit (s := S640x128) ![0, 0] ![256, 128] inb_S640x128_S256x128_0_0).toLoadRect)
        (u2.readCov (⟨Rect.unit (s := S640x128) ![128, 0] ![4, 128] inb_S640x128_S4x128_128_0,
            k0_pay9 (View.ld (iblk m c 1 t) (Rect.unit (s := S1x4x8192) ![0, 0, ov] ![1, 4, 128] iv))⟩
          :: ⟨Rect.unit (s := S640x128) ![128, 0] ![128, 128] inb_S640x128_S128x128_128_0, z2⟩
          :: ⟨Rect.unit (s := S640x128) ![0, 0] ![128, 128] inb_S640x128_S128x128_0_0,
            k0_pay3 (View.ld (iblk m c 3 t) (Rect.unit (s := S1x128x512) ![0, 0, og] ![1, 128, 128] ig))⟩ :: L2)
          (Rect.unit (s := S640x128) ![0, 0] ![256, 128] inb_S640x128_S256x128_0_0).toLoadRect) i
      = heads (inX m c) (inK m c) (inV m c) (inB m c) (inS m c)
          (((View.whole main_v43).slice (win0_5.rect t)).emb ((Rect.unit (s := S1x4x2560) ![0, 0, o] ![1, 4, 128] io).emb i)) := by
  obtain ⟨s, d, rfl⟩ : ∃ (s : Fin 4) (d : Fin 128), i = ix3 0 s d := ⟨i 1, i 2, by
    funext a
    match a with
    | ⟨0, _⟩ => exact Subsingleton.elim (α := Fin 1) _ _
    | ⟨1, _⟩ => rfl
    | ⟨2, _⟩ => rfl⟩
  have e1 : (Rect.unit (s := S1x4x2560) ![0, 0, o] ![1, 4, 128] io).emb (ix3 0 s d) = ix3 0 s ⟨128 * (5 * g.val + r.val) + d.val, by omega⟩ := by
    funext a
    refine Fin.ext ?_
    match a with
    | ⟨0, _⟩ => rfl
    | ⟨1, _⟩ => show 0 + 1 * s.val = s.val; omega
    | ⟨2, _⟩ => show o + 1 * d.val = 128 * (5 * g.val + r.val) + d.val; omega
  have e2 : ((View.whole main_v43).slice (win0_5.rect t)).emb (ix3 0 s ⟨128 * (5 * g.val + r.val) + d.val, by omega⟩)
      = (ix3 (rowOf t) s ⟨128 * (5 * g.val + r.val) + d.val, by omega⟩ : S32x4x2560.Idx) := by
    blk_ext [idx t]
  rw [e1, e2]
  refine head_value m c H (rowOf t) g r s d _ _ _ _ _ (fun s i => ?_) ?_ (fun x => ?_) (fun j x => ?_) (fun j => ?_)
  · refine Eq.trans ?_ (blk4 m c t _ s i)
    refine congrArg (iblk m c 4 t : S20x8x256.Idx → EReal) (funext fun a => Fin.ext ?_)
    match a with
    | ⟨0, _⟩ => show h + 1 * 0 = 5 * g.val + r.val; omega
    | ⟨1, _⟩ => show 0 + 1 * s.val = s.val; omega
    | ⟨2, _⟩ => show 0 + 1 * i.val = i.val; omega
  · refine Eq.trans ?_ ((blk0 m c t ⟨h, by omega⟩).trans ((sinks_all m c _).trans ((dif_pos (by show h < 20; omega)).trans ?_)))
    · refine congrArg (iblk m c 0 t : S32.Idx → EReal) (funext fun a => Fin.ext ?_)
      match a with
      | ⟨0, _⟩ => show h + 1 * 0 = h; omega
    · exact congrArg (inS m c) (congrArg ix1 (Fin.ext hh))
  · refine (load_query _ _ _ s x).trans ?_
    rw [queries_apply]
    have z : ∀ W : Vec Ideal S1x4x128 .f32, k0_pay11 (F := Ideal) W (ix2 s x) = W (ix3 0 s x) := fun W => by pointwise [k0_pay11]
    rw [z]
    exact lane_one m c t s x _ _ _ (by show 128 * (5 * g.val + r.val) + x.val = o + x.val; omega)
  · have z : ∀ (W : Vec Ideal S1x4x128 .f32) (s : Fin 4), k0_pay9 (F := Ideal) W (ix2 s x) = W (ix3 0 s x) := fun W s => by pointwise [k0_pay9]
    have z' : ∀ (W : Vec Ideal S1x128x128 .f32) (s : Fin 128), k0_pay3 (F := Ideal) W (ix2 s x) = W (ix3 0 s x) := fun W s => by pointwise [k0_pay3]
    refine stack _ s j x (fun i => keyRows (inX m c) (inK m c) (ix4 (rowOf t) i g x)) _ _ _ _ (fun i => ?_) (fun i => ?_)
    · rw [z', cache_lane g i x og _ ig hg, blk2]
      exact (keyRows_old _ _ _ _ _ _).symm
    · rw [z]
      refine (lane_one m c t i x _ ⟨2560 + 128 * g.val + x.val, by omega⟩ _ (by show 2560 + 128 * g.val + x.val = ok + x.val; omega)).trans ?_
      exact (keyRows_new _ _ _ _ _ _).symm
  · have z : ∀ (W : Vec Ideal S1x4x128 .f32) (s : Fin 4), k0_pay9 (F := Ideal) W (ix2 s d) = W (ix3 0 s d) := fun W s => by pointwise [k0_pay9]
    have z' : ∀ (W : Vec Ideal S1x128x128 .f32) (s : Fin 128), k0_pay3 (F := Ideal) W (ix2 s d) = W (ix3 0 s d) := fun W s => by pointwise [k0_pay3]
    refine stack _ s j d (fun i => valRows (inX m c) (inV m c) (ix4 (rowOf t) i g d)) _ _ _ _ (fun i => ?_) (fun i => ?_)
    · rw [z', cache_lane g i d og _ ig hg, blk3]
      exact (valRows_old _ _ _ _ _ _).symm
    · rw [z]
      refine (lane_one m c t i d _ ⟨3072 + 128 * g.val + d.val, by omega⟩ _ (by show 3072 + 128 * g.val + d.val = ov + d.val; omega)).trans ?_
      exact (valRows_new _ _ _ _ _ _).symm
end Piece

end Cert.SharedSampleIdeal.Att
-- ==== Proof.SharedFinal.lean ====
module

public import proofs.«01_k».proof.Proof.SharedPieces

@[expose] public section

set_option maxRecDepth 16384

noncomputable section

open Idealize.ShloMosaic Idealize.ShloMosaic.TcCoe Idealize.SL.Sem

/-! # The kernel's result is the reference's heads -/

namespace Cert.SharedSampleIdeal.Att

open Cert.SharedSampleIdeal Cert.SharedSampleIdeal.Gen Cert.Window
open Cert.SharedSampleRefIdeal.Att (heads)

variable (m : (ℓ : Loc nD τ sig) → Buf (Elt Ideal) ℓ) (c : Dev nD)

/-- An index whose lane is among a head's is in the head's rectangle. -/
theorem mem_head (y : S1x4x2560.Idx) (o : ℕ) (inb : ∀ a, (![0, 0, o] : Fin 3 → ℕ) a + (![1, 4, 128] : Fin 3 → ℕ) a ≤ S1x4x2560.size a)
    (lo : o ≤ (y 2).val) (hi : (y 2).val < o + 128) : y ∈ (Rect.unit (s := S1x4x2560) ![0, 0, o] ![1, 4, 128] inb).set := by
  have e : y = (Rect.unit (s := S1x4x2560) ![0, 0, o] ![1, 4, 128] inb).emb (ix3 0 (y 1) ⟨(y 2).val - o, by omega⟩) := by
    funext a
    refine Fin.ext ?_
    match a with
    | ⟨0, _⟩ =>
      have h0 : (y 0).val < 1 := (y 0).isLt
      show (y 0).val = 0 + 1 * 0
      omega
    | ⟨1, _⟩ => show (y 1).val = 0 + 1 * (y 1).val; omega
    | ⟨2, _⟩ => show (y 2).val = o + 1 * ((y 2).val - o); omega
  rw [← Rect.map_emb_univ, Finset.mem_map]
  exact ⟨_, Finset.mem_univ _, e.symm⟩

/-- Heads stored from the last to the first: a lane is in this head's piece or in an earlier head's. -/
theorem in_heads (y : S1x4x2560.Idx) (o : ℕ) (inb : ∀ a, (![0, 0, o] : Fin 3 → ℕ) a + (![1, 4, 128] : Fin 3 → ℕ) a ≤ S1x4x2560.size a)
    (w : (Rect.unit (s := S1x4x2560) ![0, 0, o] ![1, 4, 128] inb).shape.Idx → EReal) (L : List (View.Piece (Elt Ideal) S1x4x2560 .f32))
    (h : (y 2).val < o → ∃ p ∈ L, y ∈ p.1.set) (hi : (y 2).val < o + 128) :
    ∃ p ∈ (⟨Rect.unit (s := S1x4x2560) ![0, 0, o] ![1, 4, 128] inb, w⟩ :: L : List (View.Piece (Elt Ideal) S1x4x2560 .f32)), y ∈ p.1.set := by
  by_cases lo : o ≤ (y 2).val
  · exact ⟨_, List.mem_cons_self, mem_head y o inb lo hi⟩
  · obtain ⟨p, hp, hy⟩ := h (by omega)
    exact ⟨p, List.mem_cons_of_mem _ hp, hy⟩

theorem final5 (H : Reals (inX m c) (inK m c) (inB m c) (inS m c)) :
    ((dats m 0 c).arrAt 5 cfg0.N : S32x4x2560.Idx → EReal) = heads (inX m c) (inK m c) (inV m c) (inB m c) (inS m c) := by
  refine (dats m 0 c).arrAt_eq_of_covers 5 _ (by decide +kernel) fun t _ y => ?_
  blk_simp
  rw [after0_5]
  unfold outsAt0
  unfold out0_A_5
  dsimp only
  frame_open
  simp (disch := decide) only [↓ View.readCov_skip, ↓ View.readCov_cons_toLoadRect, ↓ View.readCov_fill]
  frame_out
  set G : S1x4x2560.Idx → Elt Ideal .f32 := fun j => heads (inX m c) (inK m c) (inV m c) (inB m c) (inS m c)
    (((View.whole main_v43).slice (win0_5.rect t)).emb j) with hG
  refine View.canon_apply_of_pieces (Val := Elt Ideal) (e := .f32) G _
    (fun p hp => View.PiecesOf.mem (Val := Elt Ideal) (e := .f32) (G := G) ?_ p hp) y ?_
  · refine ⟨fun i => piece m c t 3 4 19 2432 384 2944 3456 H rfl rfl rfl rfl rfl _ _ _ _ _ _ _ inb_S1x4x2560_S1x4x128_0_0_2432 _ _ _ _ _ _ _ _ i,
      fun i => piece m c t 3 3 18 2304 384 2944 3456 H rfl rfl rfl rfl rfl _ _ _ _ _ _ _ inb_S1x4x2560_S1x4x128_0_0_2304 _ _ _ _ _ _ _ _ i,
      fun i => piece m c t 3 2 17 2176 384 2944 3456 H rfl rfl rfl rfl rfl _ _ _ _ _ _ _ inb_S1x4x2560_S1x4x128_0_0_2176 _ _ _ _ _ _ _ _ i,
      fun i => piece m c t 3 1 16 2048 384 2944 3456 H rfl rfl rfl rfl rfl _ _ _ _ _ _ _ inb_S1x4x2560_S1x4x128_0_0_2048 _ _ _ _ _ _ _ _ i,
      fun i => piece m c t 3 0 15 1920 384 2944 3456 H rfl rfl rfl rfl rfl _ _ _ _ _ _ _ inb_S1x4x2560_S1x4x128_0_0_1920 _ _ _ _ _ _ _ _ i,
      fun i => piece m c t 2 4 14 1792 256 2816 3328 H rfl rfl rfl rfl rfl _ _ _ _ _ _ _ inb_S1x4x2560_S1x4x128_0_0_1792 _ _ _ _ _ _ _ _ i,
      fun i => piece m c t 2 3 13 1664 256 2816 3328 H rfl rfl rfl rfl rfl _ _ _ _ _ _ _ inb_S1x4x2560_S1x4x128_0_0_1664 _ _ _ _ _ _ _ _ i,
      fun i => piece m c t 2 2 12 1536 256 2816 3328 H rfl rfl rfl rfl rfl _ _ _ _ _ _ _ inb_S1x4x2560_S1x4x128_0_0_1536 _ _ _ _ _ _ _ _ i,
      fun i => piece m c t 2 1 11 1408 256 2816 3328 H rfl rfl rfl rfl rfl _ _ _ _ _ _ _ inb_S1x4x2560_S1x4x128_0_0_1408 _ _ _ _ _ _ _ _ i,
      fun i => piece m c t 2 0 10 1280 256 2816 3328 H rfl rfl rfl rfl rfl _ _ _ _ _ _ _ inb_S1x4x2560_S1x4x128_0_0_1280 _ _ _ _ _ _ _ _ i,
      fun i => piece m c t 1 4 9 1152 128 2688 3200 H rfl rfl rfl rfl rfl _ _ _ _ _ _ _ inb_S1x4x2560_S1x4x128_0_0_1152 _ _ _ _ _ _ _ _ i,
      fun i => piece m c t 1 3 8 1024 128 2688 3200 H rfl rfl rfl rfl rfl _ _ _ _ _ _ _ inb_S1x4x2560_S1x4x128_0_0_1024 _ _ _ _ _ _ _ _ i,
      fun i => piece m c t 1 2 7 896 128 2688 3200 H rfl rfl rfl rfl rfl _ _ _ _ _ _ _ inb_S1x4x2560_S1x4x128_0_0_896 _ _ _ _ _ _ _ _ i,
      fun i => piece m c t 1 1 6 768 128 2688 3200 H rfl rfl rfl rfl rfl _ _ _ _ _ _ _ inb_S1x4x2560_S1x4x128_0_0_768 _ _ _ _ _ _ _ _ i,
      fun i => piece m c t 1 0 5 640 128 2688 3200 H rfl rfl rfl rfl rfl _ _ _ _ _ _ _ inb_S1x4x2560_S1x4x128_0_0_640 _ _ _ _ _ _ _ _ i,
      fun i => piece m c t 0 4 4 512 0 2560 3072 H rfl rfl rfl rfl rfl _ _ _ _ _ _ _ inb_S1x4x2560_S1x4x128_0_0_512 _ _ _ _ _ _ _ _ i,
      fun i => piece m c t 0 3 3 384 0 2560 3072 H rfl rfl rfl rfl rfl _ _ _ _ _ _ _ inb_S1x4x2560_S1x4x128_0_0_384 _ _ _ _ _ _ _ _ i,
      fun i => piece m c t 0 2 2 256 0 2560 3072 H rfl rfl rfl rfl rfl _ _ _ _ _ _ _ inb_S1x4x2560_S1x4x128_0_0_256 _ _ _ _ _ _ _ _ i,
      fun i => piece m c t 0 1 1 128 0 2560 3072 H rfl rfl rfl rfl rfl _ _ _ _ _ _ _ inb_S1x4x2560_S1x4x128_0_0_128 _ _ _ _ _ _ _ _ i,
      fun i => piece m c t 0 0 0 0 0 2560 3072 H rfl rfl rfl rfl rfl _ _ _ _ _ _ _ inb_S1x4x2560_S1x4x128_0_0_0 _ _ _ _ _ _ _ _ i,
      trivial⟩
  · refine in_heads y 2432 _ _ _ (in_heads y 2304 _ _ _ (in_heads y 2176 _ _ _ (in_heads y 2048 _ _ _ (in_heads y 1920 _ _ _ (in_heads y 1792 _ _ _ (in_heads y 1664 _ _ _ (in_heads y 1536 _ _ _ (in_heads y 1408 _ _ _ (in_heads y 1280 _ _ _ (in_heads y 1152 _ _ _ (in_heads y 1024 _ _ _ (in_heads y 896 _ _ _ (in_heads y 768 _ _ _ (in_heads y 640 _ _ _ (in_heads y 512 _ _ _ (in_heads y 384 _ _ _ (in_heads y 256 _ _ _ (in_heads y 128 _ _ _ (in_heads y 0 _ _ _ (fun h => absurd h (Nat.not_lt_zero _))))))))))))))))))))) (y 2).isLt

end Cert.SharedSampleIdeal.Att
-- ==== Proof.SharedPre.lean ====
module

public import proofs.«01_k».proof.Defs
public import proofs.«01_k».proof.Proof.SharedPieces
public import proofs.«01_k».proof.Proof.DilPre
public import Idealize.ShloMosaic.Lib.ReduceAll

@[expose] public section

set_option maxRecDepth 16384

noncomputable section

open Idealize.ShloMosaic Idealize.ShloMosaic.TcCoe Idealize.SL.Sem

/-! # What the precondition of the shared-key attention says

Read back over the reals: the queries, the keys, the biases and the sinks are real numbers. -/

namespace Cert.Pre_finite_shared.Gen

/-- The shape relations that the precondition states. -/
instance facts : Cert.Pre_finite_shared.Facts where
  slices_S128x8192_S128x3072_0_0 := by decide
  bcast_S_S128x3072 := by decide
  reducesTo_S128x3072_S_d0_1 := by decide
  h_S_ := by decide
  bcast_S_S32x128x4x128 := by decide
  reducesTo_S32x128x4x128_S_d0_1_2_3 := by decide
  slices_S32x32_S32x20_0_0 := by decide
  bcast_S_S32x20 := by decide
  reducesTo_S32x20_S_d0_1 := by decide
  bcast_S_S20 := by decide
  reducesTo_S20_S_d0 := by decide

end Cert.Pre_finite_shared.Gen

namespace Cert.SharedSampleIdeal.Att

open Cert.SharedSampleIdeal Cert.SharedSampleIdeal.Gen Cert.Window

theorem reals_of_pre (x : S128x8192.Idx → EReal) (k v : S32x128x4x128.Idx → EReal) (b : S32x32.Idx → EReal) (σ : S20.Idx → EReal)
    (h : Cert.Pre_finite_shared.fn (F := Ideal) x k v b σ = fun _ => 1#1) : Reals x k b σ := by
  have h0 := congrFun h (fun a => a.elim0)
  unfold Cert.Pre_finite_shared.fn Cert.Pre_finite_shared.fn_part1 at h0
  obtain ⟨h1, h2⟩ := IntOp.andi_eq_one.1 h0
  obtain ⟨h3, h4⟩ := IntOp.andi_eq_one.1 h1
  obtain ⟨h5, h6⟩ := IntOp.andi_eq_one.1 h3
  have hs : Subsingleton Cert.Pre_finite_shared.S_.Idx := ⟨fun a b => funext fun i => i.elim0⟩
  refine ⟨fun r j => ?_, fun i => ?_, fun n h => ?_, fun i => ?_⟩
  · have := Host.reduce_andi_all _ _ _ _ _ h5 (ix2 r j)
    obtain ⟨y, hy⟩ := real_of_cmp this
    refine ⟨y, Eq.trans ?_ hy⟩
    pointwise []
  · exact real_of_cmp (Host.reduce_andi_all _ _ _ _ _ h6 i)
  · have := Host.reduce_andi_all _ _ _ _ _ h4 (ix2 n h)
    obtain ⟨y, hy⟩ := real_of_cmp this
    refine ⟨y, Eq.trans ?_ hy⟩
    pointwise []
  · exact real_of_cmp (Host.reduce_andi_all _ _ _ _ _ h2 i)

end Cert.SharedSampleIdeal.Att
-- ==== Proof.SharedSampleValue.lean ====
module

public import proofs.«01_k».proof.Proof.Gen.SharedSample.Frame
public import proofs.«01_k».proof.Proof.Gen.SharedSampleIdeal.Value
public import proofs.«01_k».proof.Proof.Gen.SharedSampleRefIdeal.Run
public import proofs.«01_k».proof.Defs
public import proofs.«01_k».proof.Proof.SharedFinal
public import proofs.«01_k».proof.Proof.SharedPre

@[expose] public section

set_option maxRecDepth 16384

noncomputable section

open Idealize.ShloMosaic Idealize.ShloMosaic.TcCoe Idealize.SL.Sem

/-! # The shared-key attention of the sample group: its claims -/

namespace Cert.SharedSampleProof

theorem kernel_frame : Cert.quiescent_SharedSample := fun m ρ _ => Cert.SharedSample.Gen.frame m ρ
theorem ideal_frame : Cert.quiescent_SharedSampleIdeal := fun m ρ _ => Cert.SharedSampleIdeal.Gen.frame m ρ
theorem reference_frame : Cert.quiescent_SharedSampleRefIdeal := fun m ρ _ =>
  (θ_run Cert.SharedSampleRefIdeal.defs _ _).mono (fun r h => ⟨fun c => (h c).2, Idealize.ShloMosaic.sem_eq_zero_of_no_sems (by decide) r.2⟩)
    (Cert.SharedSampleRefIdeal.Value.run (F := Ideal) m ρ)

theorem ideal_frame_pre : Cert.quiescent_SharedSampleIdeal_pre_finite_shared := fun m ρ _ => ideal_frame m ρ trivial
theorem reference_frame_pre : Cert.quiescent_SharedSampleRefIdeal_pre_finite_shared := fun m ρ _ => reference_frame m ρ trivial

theorem same_program : Cert.preserves_SharedSample_SharedSampleIdeal := trivial

open Cert.SharedSampleIdeal.Att Cert.SharedSampleRefIdeal.Att

/-- Over the reals the kernel's heads are the reference's. -/
theorem values_agree : Cert.algebraic_SharedSampleIdeal_SharedSampleRefIdeal_pre_finite_shared := by
  intro m ρ m' ρ' hpre hagree
  have H : ∀ c, Reals (inX m c) (inK m c) (inB m c) (inS m c) := fun c => reals_of_pre _ _ (inV m c) _ _ (hpre c)
  refine ⟨fun c => heads (inX m c) (inK m c) (inV m c) (inB m c) (inS m c), ?_, ?_⟩
  · exact (θ_run Cert.SharedSampleIdeal.defs _ _).mono (fun r h c => ⟨(h c).1.trans (final5 m c (H c)), (h c).2⟩)
      (Cert.SharedSampleIdeal.Value.run_blocks m ρ)
  · refine (θ_run Cert.SharedSampleRefIdeal.defs _ _).mono (fun r h c => ⟨(h c).1.trans ((result_eq m' c).trans ?_), (h c).2⟩)
      (Cert.SharedSampleRefIdeal.Value.run (F := Ideal) m' ρ')
    obtain ⟨a0, a1, a2, a3, a4⟩ := hagree c
    exact congr (congr (congr (congr (congrArg heads a0) a1) a2) a3) a4

end Cert.SharedSampleProof
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.QkvPrompt
public import proofs.«01_k».proof.Proof.Gen.QkvPrompt.Frame
public import proofs.«01_k».proof.Proof.Gen.QkvPromptIdeal
public import proofs.«01_k».proof.Proof.Gen.QkvPromptIdeal.Frame
public import proofs.«01_k».proof.Proof.Gen.QkvPromptRefIdeal.Run
public import proofs.«01_k».proof.Proof.Gen.QkvSample
public import proofs.«01_k».proof.Proof.Gen.QkvSample.Frame
public import proofs.«01_k».proof.Proof.Gen.QkvSampleIdeal
public import proofs.«01_k».proof.Proof.Gen.QkvSampleIdeal.Frame
public import proofs.«01_k».proof.Proof.Gen.QkvSampleRefIdeal.Run
public import proofs.«01_k».proof.Proof.Gen.AttOut
public import proofs.«01_k».proof.Proof.Gen.AttOut.Frame
public import proofs.«01_k».proof.Proof.Gen.AttOutIdeal
public import proofs.«01_k».proof.Proof.Gen.AttOutIdeal.Frame
public import proofs.«01_k».proof.Proof.Gen.AttOutIdeal.Value
public import proofs.«01_k».proof.Proof.Gen.AttOutRefIdeal.Run
public import proofs.«01_k».proof.Proof.Gen.RkvR
public import proofs.«01_k».proof.Proof.Gen.RkvR.Frame
public import proofs.«01_k».proof.Proof.Gen.RkvRIdeal
public import proofs.«01_k».proof.Proof.Gen.RkvRIdeal.Frame
public import proofs.«01_k».proof.Proof.Gen.RkvRIdeal.Value
public import proofs.«01_k».proof.Proof.Gen.RkvRRefIdeal.Run
public import proofs.«01_k».proof.Proof.Gen.RkvK
public import proofs.«01_k».proof.Proof.Gen.RkvK.Frame
public import proofs.«01_k».proof.Proof.Gen.RkvKIdeal
public import proofs.«01_k».proof.Proof.Gen.RkvKIdeal.Frame
public import proofs.«01_k».proof.Proof.Gen.RkvKIdeal.Value
public import proofs.«01_k».proof.Proof.Gen.RkvKRefIdeal.Run
public import proofs.«01_k».proof.Proof.Gen.RkvV
public import proofs.«01_k».proof.Proof.Gen.RkvV.Frame
public import proofs.«01_k».proof.Proof.Gen.RkvVIdeal
public import proofs.«01_k».proof.Proof.Gen.RkvVIdeal.Frame
public import proofs.«01_k».proof.Proof.Gen.RkvVIdeal.Value
public import proofs.«01_k».proof.Proof.Gen.RkvVRefIdeal.Run
public import proofs.«01_k».proof.Proof.Gen.TimeOut
public import proofs.«01_k».proof.Proof.Gen.TimeOut.Frame
public import proofs.«01_k».proof.Proof.Gen.TimeOutIdeal
public import proofs.«01_k».proof.Proof.Gen.TimeOutIdeal.Frame
public import proofs.«01_k».proof.Proof.Gen.TimeOutIdeal.Value
public import proofs.«01_k».proof.Proof.Gen.TimeOutRefIdeal.Run
public import proofs.«01_k».proof.Proof.Gen.PeerQ0
public import proofs.«01_k».proof.Proof.Gen.PeerQ0.Frame
public import proofs.«01_k».proof.Proof.Gen.PeerQ0Ideal
public import proofs.«01_k».proof.Proof.Gen.PeerQ0Ideal.Frame
public import proofs.«01_k».proof.Proof.Gen.PeerQ0Ideal.Value
public import proofs.«01_k».proof.Proof.Gen.PeerQ0RefIdeal.Run
public import proofs.«01_k».proof.Proof.Gen.PeerQ1
public import proofs.«01_k».proof.Proof.Gen.PeerQ1.Frame
public import proofs.«01_k».proof.Proof.Gen.PeerQ1Ideal
public import proofs.«01_k».proof.Proof.Gen.PeerQ1Ideal.Frame
public import proofs.«01_k».proof.Proof.Gen.PeerQ1Ideal.Value
public import proofs.«01_k».proof.Proof.Gen.PeerQ1RefIdeal.Run
public import proofs.«01_k».proof.Proof.Gen.LnPrompt
public import proofs.«01_k».proof.Proof.Gen.LnPrompt.Frame
public import proofs.«01_k».proof.Proof.Gen.LnPromptIdeal
public import proofs.«01_k».proof.Proof.Gen.LnPromptIdeal.Frame
public import proofs.«01_k».proof.Proof.Gen.LnPromptIdeal.Value
public import proofs.«01_k».proof.Proof.Gen.LnPromptRefIdeal.Run
public import proofs.«01_k».proof.Proof.Gen.LnSample
public import proofs.«01_k».proof.Proof.Gen.LnSample.Frame
public import proofs.«01_k».proof.Proof.Gen.LnSampleIdeal
public import proofs.«01_k».proof.Proof.Gen.LnSampleIdeal.Frame
public import proofs.«01_k».proof.Proof.Gen.LnSampleIdeal.Value
public import proofs.«01_k».proof.Proof.Gen.LnSampleRefIdeal.Run
public import proofs.«01_k».proof.Proof.Gen.WkvSample
public import proofs.«01_k».proof.Proof.Gen.WkvSample.Frame
public import proofs.«01_k».proof.Proof.Gen.WkvSampleIdeal
public import proofs.«01_k».proof.Proof.Gen.WkvSampleIdeal.Frame
public import proofs.«01_k».proof.Proof.Gen.WkvSampleIdeal.Value
public import proofs.«01_k».proof.Proof.Gen.WkvSampleRefIdeal.Run
public import proofs.«01_k».proof.Proof.Gen.DecayIn
public import proofs.«01_k».proof.Proof.Gen.DecayIn.Frame
public import proofs.«01_k».proof.Proof.Gen.DecayInIdeal
public import proofs.«01_k».proof.Proof.Gen.DecayInIdeal.Frame
public import proofs.«01_k».proof.Proof.Gen.DecayInIdeal.Value
public import proofs.«01_k».proof.Proof.Gen.DecayInRefIdeal.Run
public import proofs.«01_k».proof.Proof.Gen.CorrIn
public import proofs.«01_k».proof.Proof.Gen.CorrIn.Frame
public import proofs.«01_k».proof.Proof.Gen.CorrInIdeal
public import proofs.«01_k».proof.Proof.Gen.CorrInIdeal.Frame
public import proofs.«01_k».proof.Proof.Gen.CorrInIdeal.Value
public import proofs.«01_k».proof.Proof.Gen.CorrInRefIdeal.Run
public import proofs.«01_k».proof.Proof.Gen.GateIn
public import proofs.«01_k».proof.Proof.Gen.GateIn.Frame
public import proofs.«01_k».proof.Proof.Gen.GateInIdeal
public import proofs.«01_k».proof.Proof.Gen.GateInIdeal.Frame
public import proofs.«01_k».proof.Proof.Gen.GateInIdeal.Value
public import proofs.«01_k».proof.Proof.Gen.GateInRefIdeal.Run
public import proofs.«01_k».proof.Proof.Gen.LowOut
public import proofs.«01_k».proof.Proof.Gen.LowOut.Frame
public import proofs.«01_k».proof.Proof.Gen.LowOutIdeal
public import proofs.«01_k».proof.Proof.Gen.LowOutIdeal.Frame
public import proofs.«01_k».proof.Proof.Gen.LowOutIdeal.Value
public import proofs.«01_k».proof.Proof.Gen.LowOutRefIdeal.Run
public import proofs.«01_k».proof.Proof.Gen.GateOut
public import proofs.«01_k».proof.Proof.Gen.GateOut.Frame
public import proofs.«01_k».proof.Proof.Gen.GateOutIdeal
public import proofs.«01_k».proof.Proof.Gen.GateOutIdeal.Frame
public import proofs.«01_k».proof.Proof.Gen.GateOutIdeal.Value
public import proofs.«01_k».proof.Proof.Gen.GateOutRefIdeal.Run
public import proofs.«01_k».proof.Proof.Gen.MixPrompt
public import proofs.«01_k».proof.Proof.Gen.MixPrompt.Frame
public import proofs.«01_k».proof.Proof.Gen.MixPromptIdeal
public import proofs.«01_k».proof.Proof.Gen.MixPromptIdeal.Frame
public import proofs.«01_k».proof.Proof.Gen.MixPromptIdeal.Value
public import proofs.«01_k».proof.Proof.Gen.MixPromptRefIdeal.Run
public import proofs.«01_k».proof.Proof.Gen.MixSample
public import proofs.«01_k».proof.Proof.Gen.MixSample.Frame
public import proofs.«01_k».proof.Proof.Gen.MixSampleIdeal
public import proofs.«01_k».proof.Proof.Gen.MixSampleIdeal.Frame
public import proofs.«01_k».proof.Proof.Gen.MixSampleIdeal.Value
public import proofs.«01_k».proof.Proof.Gen.MixSampleRefIdeal.Run
public import proofs.«01_k».proof.Proof.Gen.SharedSample
public import proofs.«01_k».proof.Proof.Gen.SharedSample.Frame
public import proofs.«01_k».proof.Proof.Gen.SharedSampleIdeal
public import proofs.«01_k».proof.Proof.Gen.SharedSampleIdeal.Frame
public import proofs.«01_k».proof.Proof.Gen.SharedSampleIdeal.Value
public import proofs.«01_k».proof.Proof.Gen.SharedSampleRefIdeal.Run
public import proofs.«01_k».proof.Proof.DilPre
public import proofs.«01_k».proof.Proof.DilatedValue
public import proofs.«01_k».proof.Proof.QkvPromptValue
public import proofs.«01_k».proof.Proof.QkvSampleValue
public import proofs.«01_k».proof.Proof.AttOutValue
public import proofs.«01_k».proof.Proof.RkvRValue
public import proofs.«01_k».proof.Proof.RkvKValue
public import proofs.«01_k».proof.Proof.RkvVValue
public import proofs.«01_k».proof.Proof.TimeOutValue
public import proofs.«01_k».proof.Proof.PeerQ0Value
public import proofs.«01_k».proof.Proof.PeerQ1Value
public import proofs.«01_k».proof.Proof.LnPromptValue
public import proofs.«01_k».proof.Proof.LnSampleValue
public import proofs.«01_k».proof.Proof.WkvSampleValue
public import proofs.«01_k».proof.Proof.DecayInValue
public import proofs.«01_k».proof.Proof.CorrInValue
public import proofs.«01_k».proof.Proof.GateInValue
public import proofs.«01_k».proof.Proof.LowOutValue
public import proofs.«01_k».proof.Proof.GateOutValue
public import proofs.«01_k».proof.Proof.MixPromptValue
public import proofs.«01_k».proof.Proof.MixSampleValue
public import proofs.«01_k».proof.Proof.SharedSampleValue

@[expose] public section

noncomputable section

namespace Cert.Proof

/-- Everything the certificate claims, program by program. -/
theorem claim : Cert.Claim :=
  ⟨Cert.Kernel.Gen.facts,
   Cert.KernelIdeal.Gen.facts,
   Cert.ReferenceIdeal.Gen.facts,
   Cert.QkvPrompt.Gen.facts,
   Cert.QkvPromptIdeal.Gen.facts,
   Cert.QkvPromptRefIdeal.Gen.facts,
   Cert.QkvSample.Gen.facts,
   Cert.QkvSampleIdeal.Gen.facts,
   Cert.QkvSampleRefIdeal.Gen.facts,
   Cert.AttOut.Gen.facts,
   Cert.AttOutIdeal.Gen.facts,
   Cert.AttOutRefIdeal.Gen.facts,
   Cert.RkvR.Gen.facts,
   Cert.RkvRIdeal.Gen.facts,
   Cert.RkvRRefIdeal.Gen.facts,
   Cert.RkvK.Gen.facts,
   Cert.RkvKIdeal.Gen.facts,
   Cert.RkvKRefIdeal.Gen.facts,
   Cert.RkvV.Gen.facts,
   Cert.RkvVIdeal.Gen.facts,
   Cert.RkvVRefIdeal.Gen.facts,
   Cert.TimeOut.Gen.facts,
   Cert.TimeOutIdeal.Gen.facts,
   Cert.TimeOutRefIdeal.Gen.facts,
   Cert.PeerQ0.Gen.facts,
   Cert.PeerQ0Ideal.Gen.facts,
   Cert.PeerQ0RefIdeal.Gen.facts,
   Cert.PeerQ1.Gen.facts,
   Cert.PeerQ1Ideal.Gen.facts,
   Cert.PeerQ1RefIdeal.Gen.facts,
   Cert.LnPrompt.Gen.facts,
   Cert.LnPromptIdeal.Gen.facts,
   Cert.LnPromptRefIdeal.Gen.facts,
   Cert.LnSample.Gen.facts,
   Cert.LnSampleIdeal.Gen.facts,
   Cert.LnSampleRefIdeal.Gen.facts,
   Cert.WkvSample.Gen.facts,
   Cert.WkvSampleIdeal.Gen.facts,
   Cert.WkvSampleRefIdeal.Gen.facts,
   Cert.DecayIn.Gen.facts,
   Cert.DecayInIdeal.Gen.facts,
   Cert.DecayInRefIdeal.Gen.facts,
   Cert.CorrIn.Gen.facts,
   Cert.CorrInIdeal.Gen.facts,
   Cert.CorrInRefIdeal.Gen.facts,
   Cert.GateIn.Gen.facts,
   Cert.GateInIdeal.Gen.facts,
   Cert.GateInRefIdeal.Gen.facts,
   Cert.LowOut.Gen.facts,
   Cert.LowOutIdeal.Gen.facts,
   Cert.LowOutRefIdeal.Gen.facts,
   Cert.GateOut.Gen.facts,
   Cert.GateOutIdeal.Gen.facts,
   Cert.GateOutRefIdeal.Gen.facts,
   Cert.MixPrompt.Gen.facts,
   Cert.MixPromptIdeal.Gen.facts,
   Cert.MixPromptRefIdeal.Gen.facts,
   Cert.MixSample.Gen.facts,
   Cert.MixSampleIdeal.Gen.facts,
   Cert.MixSampleRefIdeal.Gen.facts,
   Cert.SharedSample.Gen.facts,
   Cert.SharedSampleIdeal.Gen.facts,
   Cert.SharedSampleRefIdeal.Gen.facts,
   Cert.Pre_finite_scores.Gen.facts,
   Cert.Pre_finite_shared.Gen.facts,
   Cert.DilatedProof.kernel_frame,
   Cert.DilatedProof.ideal_frame,
   Cert.DilatedProof.ideal_frame_pre,
   Cert.DilatedProof.reference_frame,
   Cert.DilatedProof.reference_frame_pre,
   Cert.QkvPromptProof.kernel_frame,
   Cert.QkvPromptProof.ideal_frame,
   Cert.QkvPromptProof.reference_frame,
   Cert.QkvSampleProof.kernel_frame,
   Cert.QkvSampleProof.ideal_frame,
   Cert.QkvSampleProof.reference_frame,
   Cert.AttOutProof.kernel_frame,
   Cert.AttOutProof.ideal_frame,
   Cert.AttOutProof.reference_frame,
   Cert.RkvRProof.kernel_frame,
   Cert.RkvRProof.ideal_frame,
   Cert.RkvRProof.reference_frame,
   Cert.RkvKProof.kernel_frame,
   Cert.RkvKProof.ideal_frame,
   Cert.RkvKProof.reference_frame,
   Cert.RkvVProof.kernel_frame,
   Cert.RkvVProof.ideal_frame,
   Cert.RkvVProof.reference_frame,
   Cert.TimeOutProof.kernel_frame,
   Cert.TimeOutProof.ideal_frame,
   Cert.TimeOutProof.reference_frame,
   Cert.PeerQ0Proof.kernel_frame,
   Cert.PeerQ0Proof.ideal_frame,
   Cert.PeerQ0Proof.reference_frame,
   Cert.PeerQ1Proof.kernel_frame,
   Cert.PeerQ1Proof.ideal_frame,
   Cert.PeerQ1Proof.reference_frame,
   Cert.LnPromptProof.kernel_frame,
   Cert.LnPromptProof.ideal_frame,
   Cert.LnPromptProof.reference_frame,
   Cert.LnSampleProof.kernel_frame,
   Cert.LnSampleProof.ideal_frame,
   Cert.LnSampleProof.reference_frame,
   Cert.WkvSampleProof.kernel_frame,
   Cert.WkvSampleProof.ideal_frame,
   Cert.WkvSampleProof.reference_frame,
   Cert.DecayInProof.kernel_frame,
   Cert.DecayInProof.ideal_frame,
   Cert.DecayInProof.reference_frame,
   Cert.CorrInProof.kernel_frame,
   Cert.CorrInProof.ideal_frame,
   Cert.CorrInProof.reference_frame,
   Cert.GateInProof.kernel_frame,
   Cert.GateInProof.ideal_frame,
   Cert.GateInProof.reference_frame,
   Cert.LowOutProof.kernel_frame,
   Cert.LowOutProof.ideal_frame,
   Cert.LowOutProof.reference_frame,
   Cert.GateOutProof.kernel_frame,
   Cert.GateOutProof.ideal_frame,
   Cert.GateOutProof.reference_frame,
   Cert.MixPromptProof.kernel_frame,
   Cert.MixPromptProof.ideal_frame,
   Cert.MixPromptProof.reference_frame,
   Cert.MixSampleProof.kernel_frame,
   Cert.MixSampleProof.ideal_frame,
   Cert.MixSampleProof.reference_frame,
   Cert.SharedSampleProof.kernel_frame,
   Cert.SharedSampleProof.ideal_frame,
   Cert.SharedSampleProof.ideal_frame_pre,
   Cert.SharedSampleProof.reference_frame,
   Cert.SharedSampleProof.reference_frame_pre,
   Cert.DilatedProof.same_program,
   Cert.DilatedProof.values_agree,
   Cert.QkvPromptProof.same_program,
   Cert.QkvPromptProof.values_agree,
   Cert.QkvSampleProof.same_program,
   Cert.QkvSampleProof.values_agree,
   Cert.AttOutProof.same_program,
   Cert.AttOutProof.values_agree,
   Cert.RkvRProof.same_program,
   Cert.RkvRProof.values_agree,
   Cert.RkvKProof.same_program,
   Cert.RkvKProof.values_agree,
   Cert.RkvVProof.same_program,
   Cert.RkvVProof.values_agree,
   Cert.TimeOutProof.same_program,
   Cert.TimeOutProof.values_agree,
   Cert.PeerQ0Proof.same_program,
   Cert.PeerQ0Proof.values_agree,
   Cert.PeerQ1Proof.same_program,
   Cert.PeerQ1Proof.values_agree,
   Cert.LnPromptProof.same_program,
   Cert.LnPromptProof.values_agree,
   Cert.LnSampleProof.same_program,
   Cert.LnSampleProof.values_agree,
   Cert.WkvSampleProof.same_program,
   Cert.WkvSampleProof.values_agree,
   Cert.DecayInProof.same_program,
   Cert.DecayInProof.values_agree,
   Cert.CorrInProof.same_program,
   Cert.CorrInProof.values_agree,
   Cert.GateInProof.same_program,
   Cert.GateInProof.values_agree,
   Cert.LowOutProof.same_program,
   Cert.LowOutProof.values_agree,
   Cert.GateOutProof.same_program,
   Cert.GateOutProof.values_agree,
   Cert.MixPromptProof.same_program,
   Cert.MixPromptProof.values_agree,
   Cert.MixSampleProof.same_program,
   Cert.MixSampleProof.values_agree,
   Cert.SharedSampleProof.same_program,
   Cert.SharedSampleProof.values_agree⟩

end Cert.Proof

end
